-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S256x3072 : Shape := ⟨2, ![256, 3072]⟩
abbrev S1024 : Shape := ⟨1, ![1024]⟩
abbrev S7 : Shape := ⟨1, ![7]⟩
abbrev S6x3072x3072 : Shape := ⟨3, ![6, 3072, 3072]⟩
abbrev S6 : Shape := ⟨1, ![6]⟩
abbrev S_ : Shape := ⟨0, ![]⟩

class Facts : Prop where
  bcast_S_S256x3072 : S_.BroadcastsInDim S256x3072 (![] : Fin 0 → Fin S256x3072.rank)
  transposes_S6x3072x3072_S6x3072x3072_0_2_1 : S6x3072x3072.Transposes [0, 2, 1] S6x3072x3072

variable [Facts]

def fn {F : FTy → Type} [FloatOps F] (main_arg0 : FVec F S256x3072 .bf16) (main_arg1 : IVec S1024 32) (main_arg2 : IVec S7 32) (main_arg3 : FVec F S6x3072x3072 .f32) (main_arg4 : IVec S6 32) : IVec S256x3072 1 × IVec S6x3072x3072 1 :=
  let main_v0 : FVec F S256x3072 .bf16 := Host.absf main_arg0
  let main_cst : FVec F S_ .bf16 := constant S_ .bf16 0x7F7F#16
  let main_v1 : FVec F S256x3072 .bf16 := broadcastInDim S256x3072 ![] bcast_S_S256x3072 main_cst
  let main_v2 : IVec S256x3072 1 := cmpf .ole main_v0 main_v1
  let main_v3 : FVec F S6x3072x3072 .f32 := (transpose S6x3072x3072 [0, 2, 1] · transposes_S6x3072x3072_S6x3072x3072_0_2_1) main_arg3
  let main_v4 : IVec S6x3072x3072 1 := cmpf .oeq main_arg3 main_v3
  (main_v2, main_v4)
-- ==== Kernel.lean ====
abbrev S256x3072 : Shape := ⟨2, ![256, 3072]⟩
abbrev S1024 : Shape := ⟨1, ![1024]⟩
abbrev S7 : Shape := ⟨1, ![7]⟩
abbrev S6x3072x3072 : Shape := ⟨3, ![6, 3072, 3072]⟩
abbrev S6 : Shape := ⟨1, ![6]⟩
abbrev S8x128 : Shape := ⟨2, ![8, 128]⟩
abbrev S1x256 : Shape := ⟨2, ![1, 256]⟩
abbrev S256x128 : Shape := ⟨2, ![256, 128]⟩
abbrev S3072x256 : Shape := ⟨2, ![3072, 256]⟩
abbrev S2x512 : Shape := ⟨2, ![2, 512]⟩
abbrev S24x512x512 : Shape := ⟨3, ![24, 512, 512]⟩
abbrev S12x512x512 : Shape := ⟨3, ![12, 512, 512]⟩
abbrev S4 : Shape := ⟨1, ![4]⟩
abbrev S24 : Shape := ⟨1, ![24]⟩
abbrev S12 : Shape := ⟨1, ![12]⟩
abbrev S3 : Shape := ⟨1, ![3]⟩
abbrev S1 : Shape := ⟨1, ![1]⟩
abbrev S_ : Shape := ⟨0, ![]⟩
abbrev S1x128x512 : Shape := ⟨3, ![1, 128, 512]⟩
abbrev S128x512 : Shape := ⟨2, ![128, 512]⟩
abbrev S1x128x384 : Shape := ⟨3, ![1, 128, 384]⟩
abbrev S128x384 : Shape := ⟨2, ![128, 384]⟩
abbrev S1x128x256 : Shape := ⟨3, ![1, 128, 256]⟩
abbrev S128x256 : Shape := ⟨2, ![128, 256]⟩
abbrev S1x128x128 : Shape := ⟨3, ![1, 128, 128]⟩
abbrev S128x128 : Shape := ⟨2, ![128, 128]⟩
abbrev S1x512x512 : Shape := ⟨3, ![1, 512, 512]⟩
abbrev S512x512 : Shape := ⟨2, ![512, 512]⟩
abbrev S32x3072 : Shape := ⟨2, ![32, 3072]⟩
abbrev S32 : Shape := ⟨1, ![32]⟩
abbrev S32x1 : Shape := ⟨2, ![32, 1]⟩
abbrev S32x256 : Shape := ⟨2, ![32, 256]⟩
abbrev S32x128 : Shape := ⟨2, ![32, 128]⟩
abbrev S1x128 : Shape := ⟨2, ![1, 128]⟩
abbrev S512x128 : Shape := ⟨2, ![512, 128]⟩
abbrev S256 : Shape := ⟨1, ![256]⟩
abbrev S256x1 : Shape := ⟨2, ![256, 1]⟩
abbrev S1x512 : Shape := ⟨2, ![1, 512]⟩
abbrev S256x512 : Shape := ⟨2, ![256, 512]⟩
abbrev S384x128 : Shape := ⟨2, ![384, 128]⟩
abbrev S1x384x128 : Shape := ⟨3, ![1, 384, 128]⟩
abbrev S256x384 : Shape := ⟨2, ![256, 384]⟩
abbrev S1x384 : Shape := ⟨2, ![1, 384]⟩
abbrev S1x256x128 : Shape := ⟨3, ![1, 256, 128]⟩
abbrev S256x256 : Shape := ⟨2, ![256, 256]⟩
abbrev S1x512x128 : Shape := ⟨3, ![1, 512, 128]⟩

abbrev nBuf : Space → Nat
  | .hbm => 10
  | .vmem => 11
  | .smem => 3
  | _ => 0

abbrev bufTy : (tb : Table) → Fin (tcTables nBuf tb) → BufTy
  | .hbm, ⟨0, _⟩ => ⟨S256x3072, .bf16⟩
  | .hbm, ⟨1, _⟩ => ⟨S1024, .i32⟩
  | .hbm, ⟨2, _⟩ => ⟨S7, .i32⟩
  | .hbm, ⟨3, _⟩ => ⟨S6x3072x3072, .f32⟩
  | .hbm, ⟨4, _⟩ => ⟨S6, .i32⟩
  | .hbm, ⟨5, _⟩ => ⟨S8x128, .i32⟩
  | .hbm, ⟨6, _⟩ => ⟨S6x3072x3072, .f32⟩
  | .hbm, ⟨7, _⟩ => ⟨S6, .i32⟩
  | .hbm, ⟨8, _⟩ => ⟨S256x3072, .fp8e4m3⟩
  | .hbm, ⟨9, _⟩ => ⟨S1x256, .f32⟩
  | .local _ .vmem, ⟨0, _⟩ => ⟨S256x3072, .bf16⟩
  | .local _ .vmem, ⟨1, _⟩ => ⟨S8x128, .i32⟩
  | .local _ .vmem, ⟨2, _⟩ => ⟨S256x3072, .fp8e4m3⟩
  | .local _ .vmem, ⟨3, _⟩ => ⟨S256x128, .f32⟩
  | .local _ .vmem, ⟨4, _⟩ => ⟨S1x256, .f32⟩
  | .local _ .vmem, ⟨5, _⟩ => ⟨S256x3072, .bf16⟩
  | .local _ .vmem, ⟨6, _⟩ => ⟨S3072x256, .bf16⟩
  | .local _ .vmem, ⟨7, _⟩ => ⟨S256x3072, .bf16⟩
  | .local _ .vmem, ⟨8, _⟩ => ⟨S2x512, .f32⟩
  | .local _ .vmem, ⟨9, _⟩ => ⟨S24x512x512, .f32⟩
  | .local _ .vmem, ⟨10, _⟩ => ⟨S12x512x512, .f32⟩
  | .local _ .smem, ⟨0, _⟩ => ⟨S7, .i32⟩
  | .local _ .smem, ⟨1, _⟩ => ⟨S6, .i32⟩
  | .local _ .smem, ⟨2, _⟩ => ⟨S6, .i32⟩
  | _, _ => ⟨S256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_scratch0 : Ref sig .tc := ⟨.vmem, 0, rfl⟩
abbrev cc0_scratch1 : Ref sig .tc := ⟨.vmem, 1, rfl⟩
abbrev cc0_scratch5 : Ref sig .tc := ⟨.vmem, 2, rfl⟩
abbrev cc0_scratch6 : Ref sig .tc := ⟨.vmem, 3, rfl⟩
abbrev cc0_scratch7 : Ref sig .tc := ⟨.vmem, 4, rfl⟩
abbrev cc0_scratch8 : Ref sig .tc := ⟨.vmem, 5, rfl⟩
abbrev cc0_scratch9 : Ref sig .tc := ⟨.vmem, 6, rfl⟩
abbrev cc0_scratch10 : Ref sig .tc := ⟨.vmem, 7, rfl⟩
abbrev cc0_scratch11 : Ref sig .tc := ⟨.vmem, 8, rfl⟩
abbrev cc0_scratch12 : Ref sig .tc := ⟨.vmem, 9, rfl⟩
abbrev cc0_scratch13 : Ref sig .tc := ⟨.vmem, 10, rfl⟩
abbrev cc0_scratch2 : Ref sig .tc := ⟨.smem, 0, rfl⟩
abbrev cc0_scratch3 : Ref sig .tc := ⟨.smem, 1, rfl⟩
abbrev cc0_scratch4 : Ref sig .tc := ⟨.smem, 2, rfl⟩

abbrev nD : Nat := 1
abbrev τ : Topo := Topo.v7x

variable {F : FTy → Type} [FloatOps F]

abbrev grid0 : Pipeline.Grid := .none

def k0_cond1 : BitVec 1 :=
  let c0_i32_0 : BitVec 32 := 0#32
  let c21_i32 : BitVec 32 := 21#32
  let v8 : BitVec 32 := Scalar.remsi c0_i32_0 c21_i32
  let c6_i32 : BitVec 32 := 6#32
  let v9 : BitVec 32 := Scalar.divsi v8 c6_i32
  let c0_i32_1 : BitVec 32 := 0#32
  let v10 : BitVec 1 := Scalar.cmpi .eq v9 c0_i32_1
  let v11 : BitVec 32 := Scalar.extui v10
  let c0_i32_3 : BitVec 32 := 0#32
  let v12 : BitVec 1 := Scalar.cmpi .ne v11 c0_i32_3
  v12

def k0_mult1 : BitVec 32 :=
  let c0_i32_2 : BitVec 32 := 0#32
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  v1294
def k0_mult2 : BitVec 32 :=
  let c0_i32_2 : BitVec 32 := 0#32
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  v1296
def k0_mult3 : BitVec 32 :=
  let c0_i32_2 : BitVec 32 := 0#32
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  v1298
def k0_mult4 : BitVec 32 :=
  let c0_i32_2 : BitVec 32 := 0#32
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  v1300
def k0_mult5 : BitVec 32 :=
  let c0_i32_2 : BitVec 32 := 0#32
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  v1322
def k0_mult6 : BitVec 32 :=
  let c0_i32_2 : BitVec 32 := 0#32
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  v1324
def k0_mult7 : BitVec 32 :=
  let c0_i32_2 : BitVec 32 := 0#32
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  v1326
def k0_mult8 : BitVec 32 :=
  let c0_i32_2 : BitVec 32 := 0#32
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  v1328
def k0_mult9 : BitVec 32 :=
  let c0_i32_2 : BitVec 32 := 0#32
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  v1350
def k0_mult10 : BitVec 32 :=
  let c0_i32_2 : BitVec 32 := 0#32
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  v1352
def k0_mult11 : BitVec 32 :=
  let c0_i32_2 : BitVec 32 := 0#32
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  v1354
def k0_mult12 : BitVec 32 :=
  let c0_i32_2 : BitVec 32 := 0#32
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  v1356
def k0_mult13 : BitVec 32 :=
  let c0_i32_2 : BitVec 32 := 0#32
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  v1378
def k0_mult14 : BitVec 32 :=
  let c0_i32_2 : BitVec 32 := 0#32
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  v1380
def k0_mult15 : BitVec 32 :=
  let c0_i32_2 : BitVec 32 := 0#32
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  v1382
def k0_mult16 : BitVec 32 :=
  let c0_i32_2 : BitVec 32 := 0#32
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  v1384
def k0_off1 : Fin 1 → Nat :=
  let c0_i32_2 : BitVec 32 := 0#32
  let c24_i32_791 : BitVec 32 := 24#32
  let c0_i32_792 : BitVec 32 := 0#32
  let v1312 : BitVec 1 := Scalar.cmpi .eq c24_i32_791 c0_i32_792
  let c1_i32_793 : BitVec 32 := 1#32
  let v1313 : BitVec 32 := Scalar.select v1312 c1_i32_793 c24_i32_791
  let v1314 : BitVec 32 := Scalar.remsi c0_i32_2 v1313
  let c0_i32_795 : BitVec 32 := 0#32
  let v1316 : BitVec 1 := Scalar.cmpi .slt v1314 c0_i32_795
  let c0_i32_796 : BitVec 32 := 0#32
  let v1317 : BitVec 1 := Scalar.cmpi .slt v1313 c0_i32_796
  let v1318 : BitVec 1 := Scalar.xori v1316 v1317
  let c0_i32_794 : BitVec 32 := 0#32
  let v1315 : BitVec 1 := Scalar.cmpi .ne v1314 c0_i32_794
  let v1319 : BitVec 1 := Scalar.andi v1318 v1315
  let v1320 : BitVec 32 := Scalar.addi v1314 v1313
  let v1321 : BitVec 32 := Scalar.select v1319 v1320 v1314
  ![v1321.toNat]
def k0_off2 : Fin 3 → Nat :=
  let c0_i32_2 : BitVec 32 := 0#32
  let c24_i32_785 : BitVec 32 := 24#32
  let c0_i32_786 : BitVec 32 := 0#32
  let v1302 : BitVec 1 := Scalar.cmpi .eq c24_i32_785 c0_i32_786
  let c1_i32_787 : BitVec 32 := 1#32
  let v1303 : BitVec 32 := Scalar.select v1302 c1_i32_787 c24_i32_785
  let v1304 : BitVec 32 := Scalar.remsi c0_i32_2 v1303
  let c0_i32_789 : BitVec 32 := 0#32
  let v1306 : BitVec 1 := Scalar.cmpi .slt v1304 c0_i32_789
  let c0_i32_790 : BitVec 32 := 0#32
  let v1307 : BitVec 1 := Scalar.cmpi .slt v1303 c0_i32_790
  let v1308 : BitVec 1 := Scalar.xori v1306 v1307
  let c0_i32_788 : BitVec 32 := 0#32
  let v1305 : BitVec 1 := Scalar.cmpi .ne v1304 c0_i32_788
  let v1309 : BitVec 1 := Scalar.andi v1308 v1305
  let v1310 : BitVec 32 := Scalar.addi v1304 v1303
  let v1311 : BitVec 32 := Scalar.select v1309 v1310 v1304
  let c0_i32_842 : BitVec 32 := 0#32
  let c0_i32_843 : BitVec 32 := 0#32
  ![v1311.toNat, 0, 0]
def k0_off3 : Fin 3 → Nat :=
  let c0_i32_2 : BitVec 32 := 0#32
  let c21_i32_778 : BitVec 32 := 21#32
  let v1291 : BitVec 32 := Scalar.divsi c0_i32_2 c21_i32_778
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  let v1297 : BitVec 32 := v1296
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  let v1301 : BitVec 32 := v1300
  ![v1291.toNat, v1297.toNat, v1301.toNat]
def k0_off4 : Fin 3 → Nat :=
  let c0_i32_2 : BitVec 32 := 0#32
  let c24_i32_800 : BitVec 32 := 24#32
  let c0_i32_801 : BitVec 32 := 0#32
  let v1330 : BitVec 1 := Scalar.cmpi .eq c24_i32_800 c0_i32_801
  let c1_i32_802 : BitVec 32 := 1#32
  let v1331 : BitVec 32 := Scalar.select v1330 c1_i32_802 c24_i32_800
  let v1332 : BitVec 32 := Scalar.remsi c0_i32_2 v1331
  let c0_i32_804 : BitVec 32 := 0#32
  let v1334 : BitVec 1 := Scalar.cmpi .slt v1332 c0_i32_804
  let c0_i32_805 : BitVec 32 := 0#32
  let v1335 : BitVec 1 := Scalar.cmpi .slt v1331 c0_i32_805
  let v1336 : BitVec 1 := Scalar.xori v1334 v1335
  let c0_i32_803 : BitVec 32 := 0#32
  let v1333 : BitVec 1 := Scalar.cmpi .ne v1332 c0_i32_803
  let v1337 : BitVec 1 := Scalar.andi v1336 v1333
  let v1338 : BitVec 32 := Scalar.addi v1332 v1331
  let v1339 : BitVec 32 := Scalar.select v1337 v1338 v1332
  let c128_i32_844 : BitVec 32 := 128#32
  let c128_i32_845 : BitVec 32 := 128#32
  ![v1339.toNat, 128, 128]
def k0_off5 : Fin 3 → Nat :=
  let c0_i32_2 : BitVec 32 := 0#32
  let c21_i32_778 : BitVec 32 := 21#32
  let v1291 : BitVec 32 := Scalar.divsi c0_i32_2 c21_i32_778
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  let v1325 : BitVec 32 := v1324
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  let v1329 : BitVec 32 := v1328
  ![v1291.toNat, v1325.toNat, v1329.toNat]
def k0_off6 : Fin 3 → Nat :=
  let c0_i32_2 : BitVec 32 := 0#32
  let c24_i32_815 : BitVec 32 := 24#32
  let c0_i32_816 : BitVec 32 := 0#32
  let v1358 : BitVec 1 := Scalar.cmpi .eq c24_i32_815 c0_i32_816
  let c1_i32_817 : BitVec 32 := 1#32
  let v1359 : BitVec 32 := Scalar.select v1358 c1_i32_817 c24_i32_815
  let v1360 : BitVec 32 := Scalar.remsi c0_i32_2 v1359
  let c0_i32_819 : BitVec 32 := 0#32
  let v1362 : BitVec 1 := Scalar.cmpi .slt v1360 c0_i32_819
  let c0_i32_820 : BitVec 32 := 0#32
  let v1363 : BitVec 1 := Scalar.cmpi .slt v1359 c0_i32_820
  let v1364 : BitVec 1 := Scalar.xori v1362 v1363
  let c0_i32_818 : BitVec 32 := 0#32
  let v1361 : BitVec 1 := Scalar.cmpi .ne v1360 c0_i32_818
  let v1365 : BitVec 1 := Scalar.andi v1364 v1361
  let v1366 : BitVec 32 := Scalar.addi v1360 v1359
  let v1367 : BitVec 32 := Scalar.select v1365 v1366 v1360
  let c256_i32_846 : BitVec 32 := 256#32
  let c256_i32_847 : BitVec 32 := 256#32
  ![v1367.toNat, 256, 256]
def k0_off7 : Fin 3 → Nat :=
  let c0_i32_2 : BitVec 32 := 0#32
  let c21_i32_778 : BitVec 32 := 21#32
  let v1291 : BitVec 32 := Scalar.divsi c0_i32_2 c21_i32_778
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  let v1353 : BitVec 32 := v1352
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  let v1357 : BitVec 32 := v1356
  ![v1291.toNat, v1353.toNat, v1357.toNat]
def k0_off8 : Fin 3 → Nat :=
  let c0_i32_2 : BitVec 32 := 0#32
  let c24_i32_830 : BitVec 32 := 24#32
  let c0_i32_831 : BitVec 32 := 0#32
  let v1386 : BitVec 1 := Scalar.cmpi .eq c24_i32_830 c0_i32_831
  let c1_i32_832 : BitVec 32 := 1#32
  let v1387 : BitVec 32 := Scalar.select v1386 c1_i32_832 c24_i32_830
  let v1388 : BitVec 32 := Scalar.remsi c0_i32_2 v1387
  let c0_i32_834 : BitVec 32 := 0#32
  let v1390 : BitVec 1 := Scalar.cmpi .slt v1388 c0_i32_834
  let c0_i32_835 : BitVec 32 := 0#32
  let v1391 : BitVec 1 := Scalar.cmpi .slt v1387 c0_i32_835
  let v1392 : BitVec 1 := Scalar.xori v1390 v1391
  let c0_i32_833 : BitVec 32 := 0#32
  let v1389 : BitVec 1 := Scalar.cmpi .ne v1388 c0_i32_833
  let v1393 : BitVec 1 := Scalar.andi v1392 v1389
  let v1394 : BitVec 32 := Scalar.addi v1388 v1387
  let v1395 : BitVec 32 := Scalar.select v1393 v1394 v1388
  let c384_i32_848 : BitVec 32 := 384#32
  let c384_i32_849 : BitVec 32 := 384#32
  ![v1395.toNat, 384, 384]
def k0_off9 : Fin 3 → Nat :=
  let c0_i32_2 : BitVec 32 := 0#32
  let c21_i32_778 : BitVec 32 := 21#32
  let v1291 : BitVec 32 := Scalar.divsi c0_i32_2 c21_i32_778
  let c21_i32_779 : BitVec 32 := 21#32
  let v1292 : BitVec 32 := Scalar.remsi c0_i32_2 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  let v1381 : BitVec 32 := v1380
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  let v1385 : BitVec 32 := v1384
  ![v1291.toNat, v1381.toNat, v1385.toNat]
def k0_cond2 : BitVec 1 :=
  let c0_i32_0 : BitVec 32 := 0#32
  let c21_i32 : BitVec 32 := 21#32
  let v8 : BitVec 32 := Scalar.remsi c0_i32_0 c21_i32
  let c6_i32 : BitVec 32 := 6#32
  let v9 : BitVec 32 := Scalar.divsi v8 c6_i32
  let c0_i32_1 : BitVec 32 := 0#32
  let v10 : BitVec 1 := Scalar.cmpi .eq v9 c0_i32_1
  let v_true : BitVec 1 := 1#1
  let v13 : BitVec 1 := Scalar.xori v10 v_true
  let v14 : BitVec 32 := Scalar.extui v13
  let c0_i32_5 : BitVec 32 := 0#32
  let v15 : BitVec 1 := Scalar.cmpi .ne v14 c0_i32_5
  v15

def k0_mult17 : BitVec 32 :=
  let c0_i32_4 : BitVec 32 := 0#32
  let c21_i32_779 : BitVec 32 := 21#32
  let v1292 : BitVec 32 := Scalar.remsi c0_i32_4 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  v1297
def k0_mult18 : BitVec 32 :=
  let c0_i32_4 : BitVec 32 := 0#32
  let c21_i32_779 : BitVec 32 := 21#32
  let v1292 : BitVec 32 := Scalar.remsi c0_i32_4 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  v1299
def k0_off10 : Fin 1 → Nat :=
  let c0_i32_4 : BitVec 32 := 0#32
  let c24_i32_791 : BitVec 32 := 24#32
  let c0_i32_792 : BitVec 32 := 0#32
  let v1311 : BitVec 1 := Scalar.cmpi .eq c24_i32_791 c0_i32_792
  let c1_i32_793 : BitVec 32 := 1#32
  let v1312 : BitVec 32 := Scalar.select v1311 c1_i32_793 c24_i32_791
  let v1313 : BitVec 32 := Scalar.remsi c0_i32_4 v1312
  let c0_i32_795 : BitVec 32 := 0#32
  let v1315 : BitVec 1 := Scalar.cmpi .slt v1313 c0_i32_795
  let c0_i32_796 : BitVec 32 := 0#32
  let v1316 : BitVec 1 := Scalar.cmpi .slt v1312 c0_i32_796
  let v1317 : BitVec 1 := Scalar.xori v1315 v1316
  let c0_i32_794 : BitVec 32 := 0#32
  let v1314 : BitVec 1 := Scalar.cmpi .ne v1313 c0_i32_794
  let v1318 : BitVec 1 := Scalar.andi v1317 v1314
  let v1319 : BitVec 32 := Scalar.addi v1313 v1312
  let v1320 : BitVec 32 := Scalar.select v1318 v1319 v1313
  ![v1320.toNat]
def k0_off11 : Fin 3 → Nat :=
  let c0_i32_4 : BitVec 32 := 0#32
  let c24_i32_785 : BitVec 32 := 24#32
  let c0_i32_786 : BitVec 32 := 0#32
  let v1301 : BitVec 1 := Scalar.cmpi .eq c24_i32_785 c0_i32_786
  let c1_i32_787 : BitVec 32 := 1#32
  let v1302 : BitVec 32 := Scalar.select v1301 c1_i32_787 c24_i32_785
  let v1303 : BitVec 32 := Scalar.remsi c0_i32_4 v1302
  let c0_i32_789 : BitVec 32 := 0#32
  let v1305 : BitVec 1 := Scalar.cmpi .slt v1303 c0_i32_789
  let c0_i32_790 : BitVec 32 := 0#32
  let v1306 : BitVec 1 := Scalar.cmpi .slt v1302 c0_i32_790
  let v1307 : BitVec 1 := Scalar.xori v1305 v1306
  let c0_i32_788 : BitVec 32 := 0#32
  let v1304 : BitVec 1 := Scalar.cmpi .ne v1303 c0_i32_788
  let v1308 : BitVec 1 := Scalar.andi v1307 v1304
  let v1309 : BitVec 32 := Scalar.addi v1303 v1302
  let v1310 : BitVec 32 := Scalar.select v1308 v1309 v1303
  let c0_i32_797 : BitVec 32 := 0#32
  let c0_i32_798 : BitVec 32 := 0#32
  ![v1310.toNat, 0, 0]
def k0_off12 : Fin 3 → Nat :=
  let c0_i32_4 : BitVec 32 := 0#32
  let c21_i32_778 : BitVec 32 := 21#32
  let v1291 : BitVec 32 := Scalar.divsi c0_i32_4 c21_i32_778
  let c21_i32_779 : BitVec 32 := 21#32
  let v1292 : BitVec 32 := Scalar.remsi c0_i32_4 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  let v1298 : BitVec 32 := v1297
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  let v1300 : BitVec 32 := v1299
  ![v1291.toNat, v1298.toNat, v1300.toNat]
def k0_cond3 : BitVec 1 :=
  let c1_i32_6 : BitVec 32 := 1#32
  let c21_i32_7 : BitVec 32 := 21#32
  let v16 : BitVec 32 := Scalar.remsi c1_i32_6 c21_i32_7
  let c6_i32_8 : BitVec 32 := 6#32
  let v17 : BitVec 32 := Scalar.divsi v16 c6_i32_8
  let c0_i32_9 : BitVec 32 := 0#32
  let v18 : BitVec 1 := Scalar.cmpi .eq v17 c0_i32_9
  let v19 : BitVec 32 := Scalar.extui v18
  let c0_i32_11 : BitVec 32 := 0#32
  let v20 : BitVec 1 := Scalar.cmpi .ne v19 c0_i32_11
  v20

def k0_mult19 : BitVec 32 :=
  let c1_i32_10 : BitVec 32 := 1#32
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  v1294
def k0_mult20 : BitVec 32 :=
  let c1_i32_10 : BitVec 32 := 1#32
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  v1296
def k0_mult21 : BitVec 32 :=
  let c1_i32_10 : BitVec 32 := 1#32
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  v1298
def k0_mult22 : BitVec 32 :=
  let c1_i32_10 : BitVec 32 := 1#32
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  v1300
def k0_mult23 : BitVec 32 :=
  let c1_i32_10 : BitVec 32 := 1#32
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  v1322
def k0_mult24 : BitVec 32 :=
  let c1_i32_10 : BitVec 32 := 1#32
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  v1324
def k0_mult25 : BitVec 32 :=
  let c1_i32_10 : BitVec 32 := 1#32
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  v1326
def k0_mult26 : BitVec 32 :=
  let c1_i32_10 : BitVec 32 := 1#32
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  v1328
def k0_mult27 : BitVec 32 :=
  let c1_i32_10 : BitVec 32 := 1#32
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  v1350
def k0_mult28 : BitVec 32 :=
  let c1_i32_10 : BitVec 32 := 1#32
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  v1352
def k0_mult29 : BitVec 32 :=
  let c1_i32_10 : BitVec 32 := 1#32
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  v1354
def k0_mult30 : BitVec 32 :=
  let c1_i32_10 : BitVec 32 := 1#32
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  v1356
def k0_mult31 : BitVec 32 :=
  let c1_i32_10 : BitVec 32 := 1#32
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  v1378
def k0_mult32 : BitVec 32 :=
  let c1_i32_10 : BitVec 32 := 1#32
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  v1380
def k0_mult33 : BitVec 32 :=
  let c1_i32_10 : BitVec 32 := 1#32
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  v1382
def k0_mult34 : BitVec 32 :=
  let c1_i32_10 : BitVec 32 := 1#32
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  v1384
def k0_off13 : Fin 1 → Nat :=
  let c1_i32_10 : BitVec 32 := 1#32
  let c24_i32_791 : BitVec 32 := 24#32
  let c0_i32_792 : BitVec 32 := 0#32
  let v1312 : BitVec 1 := Scalar.cmpi .eq c24_i32_791 c0_i32_792
  let c1_i32_793 : BitVec 32 := 1#32
  let v1313 : BitVec 32 := Scalar.select v1312 c1_i32_793 c24_i32_791
  let v1314 : BitVec 32 := Scalar.remsi c1_i32_10 v1313
  let c0_i32_795 : BitVec 32 := 0#32
  let v1316 : BitVec 1 := Scalar.cmpi .slt v1314 c0_i32_795
  let c0_i32_796 : BitVec 32 := 0#32
  let v1317 : BitVec 1 := Scalar.cmpi .slt v1313 c0_i32_796
  let v1318 : BitVec 1 := Scalar.xori v1316 v1317
  let c0_i32_794 : BitVec 32 := 0#32
  let v1315 : BitVec 1 := Scalar.cmpi .ne v1314 c0_i32_794
  let v1319 : BitVec 1 := Scalar.andi v1318 v1315
  let v1320 : BitVec 32 := Scalar.addi v1314 v1313
  let v1321 : BitVec 32 := Scalar.select v1319 v1320 v1314
  ![v1321.toNat]
def k0_off14 : Fin 3 → Nat :=
  let c1_i32_10 : BitVec 32 := 1#32
  let c24_i32_785 : BitVec 32 := 24#32
  let c0_i32_786 : BitVec 32 := 0#32
  let v1302 : BitVec 1 := Scalar.cmpi .eq c24_i32_785 c0_i32_786
  let c1_i32_787 : BitVec 32 := 1#32
  let v1303 : BitVec 32 := Scalar.select v1302 c1_i32_787 c24_i32_785
  let v1304 : BitVec 32 := Scalar.remsi c1_i32_10 v1303
  let c0_i32_789 : BitVec 32 := 0#32
  let v1306 : BitVec 1 := Scalar.cmpi .slt v1304 c0_i32_789
  let c0_i32_790 : BitVec 32 := 0#32
  let v1307 : BitVec 1 := Scalar.cmpi .slt v1303 c0_i32_790
  let v1308 : BitVec 1 := Scalar.xori v1306 v1307
  let c0_i32_788 : BitVec 32 := 0#32
  let v1305 : BitVec 1 := Scalar.cmpi .ne v1304 c0_i32_788
  let v1309 : BitVec 1 := Scalar.andi v1308 v1305
  let v1310 : BitVec 32 := Scalar.addi v1304 v1303
  let v1311 : BitVec 32 := Scalar.select v1309 v1310 v1304
  let c0_i32_842 : BitVec 32 := 0#32
  let c0_i32_843 : BitVec 32 := 0#32
  ![v1311.toNat, 0, 0]
def k0_off15 : Fin 3 → Nat :=
  let c1_i32_10 : BitVec 32 := 1#32
  let c21_i32_778 : BitVec 32 := 21#32
  let v1291 : BitVec 32 := Scalar.divsi c1_i32_10 c21_i32_778
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  let v1297 : BitVec 32 := v1296
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  let v1301 : BitVec 32 := v1300
  ![v1291.toNat, v1297.toNat, v1301.toNat]
def k0_off16 : Fin 3 → Nat :=
  let c1_i32_10 : BitVec 32 := 1#32
  let c24_i32_800 : BitVec 32 := 24#32
  let c0_i32_801 : BitVec 32 := 0#32
  let v1330 : BitVec 1 := Scalar.cmpi .eq c24_i32_800 c0_i32_801
  let c1_i32_802 : BitVec 32 := 1#32
  let v1331 : BitVec 32 := Scalar.select v1330 c1_i32_802 c24_i32_800
  let v1332 : BitVec 32 := Scalar.remsi c1_i32_10 v1331
  let c0_i32_804 : BitVec 32 := 0#32
  let v1334 : BitVec 1 := Scalar.cmpi .slt v1332 c0_i32_804
  let c0_i32_805 : BitVec 32 := 0#32
  let v1335 : BitVec 1 := Scalar.cmpi .slt v1331 c0_i32_805
  let v1336 : BitVec 1 := Scalar.xori v1334 v1335
  let c0_i32_803 : BitVec 32 := 0#32
  let v1333 : BitVec 1 := Scalar.cmpi .ne v1332 c0_i32_803
  let v1337 : BitVec 1 := Scalar.andi v1336 v1333
  let v1338 : BitVec 32 := Scalar.addi v1332 v1331
  let v1339 : BitVec 32 := Scalar.select v1337 v1338 v1332
  let c128_i32_844 : BitVec 32 := 128#32
  let c128_i32_845 : BitVec 32 := 128#32
  ![v1339.toNat, 128, 128]
def k0_off17 : Fin 3 → Nat :=
  let c1_i32_10 : BitVec 32 := 1#32
  let c21_i32_778 : BitVec 32 := 21#32
  let v1291 : BitVec 32 := Scalar.divsi c1_i32_10 c21_i32_778
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  let v1325 : BitVec 32 := v1324
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  let v1329 : BitVec 32 := v1328
  ![v1291.toNat, v1325.toNat, v1329.toNat]
def k0_off18 : Fin 3 → Nat :=
  let c1_i32_10 : BitVec 32 := 1#32
  let c24_i32_815 : BitVec 32 := 24#32
  let c0_i32_816 : BitVec 32 := 0#32
  let v1358 : BitVec 1 := Scalar.cmpi .eq c24_i32_815 c0_i32_816
  let c1_i32_817 : BitVec 32 := 1#32
  let v1359 : BitVec 32 := Scalar.select v1358 c1_i32_817 c24_i32_815
  let v1360 : BitVec 32 := Scalar.remsi c1_i32_10 v1359
  let c0_i32_819 : BitVec 32 := 0#32
  let v1362 : BitVec 1 := Scalar.cmpi .slt v1360 c0_i32_819
  let c0_i32_820 : BitVec 32 := 0#32
  let v1363 : BitVec 1 := Scalar.cmpi .slt v1359 c0_i32_820
  let v1364 : BitVec 1 := Scalar.xori v1362 v1363
  let c0_i32_818 : BitVec 32 := 0#32
  let v1361 : BitVec 1 := Scalar.cmpi .ne v1360 c0_i32_818
  let v1365 : BitVec 1 := Scalar.andi v1364 v1361
  let v1366 : BitVec 32 := Scalar.addi v1360 v1359
  let v1367 : BitVec 32 := Scalar.select v1365 v1366 v1360
  let c256_i32_846 : BitVec 32 := 256#32
  let c256_i32_847 : BitVec 32 := 256#32
  ![v1367.toNat, 256, 256]
def k0_off19 : Fin 3 → Nat :=
  let c1_i32_10 : BitVec 32 := 1#32
  let c21_i32_778 : BitVec 32 := 21#32
  let v1291 : BitVec 32 := Scalar.divsi c1_i32_10 c21_i32_778
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  let v1353 : BitVec 32 := v1352
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  let v1357 : BitVec 32 := v1356
  ![v1291.toNat, v1353.toNat, v1357.toNat]
def k0_off20 : Fin 3 → Nat :=
  let c1_i32_10 : BitVec 32 := 1#32
  let c24_i32_830 : BitVec 32 := 24#32
  let c0_i32_831 : BitVec 32 := 0#32
  let v1386 : BitVec 1 := Scalar.cmpi .eq c24_i32_830 c0_i32_831
  let c1_i32_832 : BitVec 32 := 1#32
  let v1387 : BitVec 32 := Scalar.select v1386 c1_i32_832 c24_i32_830
  let v1388 : BitVec 32 := Scalar.remsi c1_i32_10 v1387
  let c0_i32_834 : BitVec 32 := 0#32
  let v1390 : BitVec 1 := Scalar.cmpi .slt v1388 c0_i32_834
  let c0_i32_835 : BitVec 32 := 0#32
  let v1391 : BitVec 1 := Scalar.cmpi .slt v1387 c0_i32_835
  let v1392 : BitVec 1 := Scalar.xori v1390 v1391
  let c0_i32_833 : BitVec 32 := 0#32
  let v1389 : BitVec 1 := Scalar.cmpi .ne v1388 c0_i32_833
  let v1393 : BitVec 1 := Scalar.andi v1392 v1389
  let v1394 : BitVec 32 := Scalar.addi v1388 v1387
  let v1395 : BitVec 32 := Scalar.select v1393 v1394 v1388
  let c384_i32_848 : BitVec 32 := 384#32
  let c384_i32_849 : BitVec 32 := 384#32
  ![v1395.toNat, 384, 384]
def k0_off21 : Fin 3 → Nat :=
  let c1_i32_10 : BitVec 32 := 1#32
  let c21_i32_778 : BitVec 32 := 21#32
  let v1291 : BitVec 32 := Scalar.divsi c1_i32_10 c21_i32_778
  let c21_i32_779 : BitVec 32 := 21#32
  let v1292 : BitVec 32 := Scalar.remsi c1_i32_10 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  let v1381 : BitVec 32 := v1380
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  let v1385 : BitVec 32 := v1384
  ![v1291.toNat, v1381.toNat, v1385.toNat]
def k0_cond4 : BitVec 1 :=
  let c1_i32_6 : BitVec 32 := 1#32
  let c21_i32_7 : BitVec 32 := 21#32
  let v16 : BitVec 32 := Scalar.remsi c1_i32_6 c21_i32_7
  let c6_i32_8 : BitVec 32 := 6#32
  let v17 : BitVec 32 := Scalar.divsi v16 c6_i32_8
  let c0_i32_9 : BitVec 32 := 0#32
  let v18 : BitVec 1 := Scalar.cmpi .eq v17 c0_i32_9
  let true_12 : BitVec 1 := 1#1
  let v21 : BitVec 1 := Scalar.xori v18 true_12
  let v22 : BitVec 32 := Scalar.extui v21
  let c0_i32_14 : BitVec 32 := 0#32
  let v23 : BitVec 1 := Scalar.cmpi .ne v22 c0_i32_14
  v23

def k0_mult35 : BitVec 32 :=
  let c1_i32_13 : BitVec 32 := 1#32
  let c21_i32_779 : BitVec 32 := 21#32
  let v1292 : BitVec 32 := Scalar.remsi c1_i32_13 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  v1297
def k0_mult36 : BitVec 32 :=
  let c1_i32_13 : BitVec 32 := 1#32
  let c21_i32_779 : BitVec 32 := 21#32
  let v1292 : BitVec 32 := Scalar.remsi c1_i32_13 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  v1299
def k0_off22 : Fin 1 → Nat :=
  let c1_i32_13 : BitVec 32 := 1#32
  let c24_i32_791 : BitVec 32 := 24#32
  let c0_i32_792 : BitVec 32 := 0#32
  let v1311 : BitVec 1 := Scalar.cmpi .eq c24_i32_791 c0_i32_792
  let c1_i32_793 : BitVec 32 := 1#32
  let v1312 : BitVec 32 := Scalar.select v1311 c1_i32_793 c24_i32_791
  let v1313 : BitVec 32 := Scalar.remsi c1_i32_13 v1312
  let c0_i32_795 : BitVec 32 := 0#32
  let v1315 : BitVec 1 := Scalar.cmpi .slt v1313 c0_i32_795
  let c0_i32_796 : BitVec 32 := 0#32
  let v1316 : BitVec 1 := Scalar.cmpi .slt v1312 c0_i32_796
  let v1317 : BitVec 1 := Scalar.xori v1315 v1316
  let c0_i32_794 : BitVec 32 := 0#32
  let v1314 : BitVec 1 := Scalar.cmpi .ne v1313 c0_i32_794
  let v1318 : BitVec 1 := Scalar.andi v1317 v1314
  let v1319 : BitVec 32 := Scalar.addi v1313 v1312
  let v1320 : BitVec 32 := Scalar.select v1318 v1319 v1313
  ![v1320.toNat]
def k0_off23 : Fin 3 → Nat :=
  let c1_i32_13 : BitVec 32 := 1#32
  let c24_i32_785 : BitVec 32 := 24#32
  let c0_i32_786 : BitVec 32 := 0#32
  let v1301 : BitVec 1 := Scalar.cmpi .eq c24_i32_785 c0_i32_786
  let c1_i32_787 : BitVec 32 := 1#32
  let v1302 : BitVec 32 := Scalar.select v1301 c1_i32_787 c24_i32_785
  let v1303 : BitVec 32 := Scalar.remsi c1_i32_13 v1302
  let c0_i32_789 : BitVec 32 := 0#32
  let v1305 : BitVec 1 := Scalar.cmpi .slt v1303 c0_i32_789
  let c0_i32_790 : BitVec 32 := 0#32
  let v1306 : BitVec 1 := Scalar.cmpi .slt v1302 c0_i32_790
  let v1307 : BitVec 1 := Scalar.xori v1305 v1306
  let c0_i32_788 : BitVec 32 := 0#32
  let v1304 : BitVec 1 := Scalar.cmpi .ne v1303 c0_i32_788
  let v1308 : BitVec 1 := Scalar.andi v1307 v1304
  let v1309 : BitVec 32 := Scalar.addi v1303 v1302
  let v1310 : BitVec 32 := Scalar.select v1308 v1309 v1303
  let c0_i32_797 : BitVec 32 := 0#32
  let c0_i32_798 : BitVec 32 := 0#32
  ![v1310.toNat, 0, 0]
def k0_off24 : Fin 3 → Nat :=
  let c1_i32_13 : BitVec 32 := 1#32
  let c21_i32_778 : BitVec 32 := 21#32
  let v1291 : BitVec 32 := Scalar.divsi c1_i32_13 c21_i32_778
  let c21_i32_779 : BitVec 32 := 21#32
  let v1292 : BitVec 32 := Scalar.remsi c1_i32_13 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  let v1298 : BitVec 32 := v1297
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  let v1300 : BitVec 32 := v1299
  ![v1291.toNat, v1298.toNat, v1300.toNat]
def k0_cond5 : BitVec 1 :=
  let c2_i32_15 : BitVec 32 := 2#32
  let c21_i32_16 : BitVec 32 := 21#32
  let v24 : BitVec 32 := Scalar.remsi c2_i32_15 c21_i32_16
  let c6_i32_17 : BitVec 32 := 6#32
  let v25 : BitVec 32 := Scalar.divsi v24 c6_i32_17
  let c0_i32_18 : BitVec 32 := 0#32
  let v26 : BitVec 1 := Scalar.cmpi .eq v25 c0_i32_18
  let v27 : BitVec 32 := Scalar.extui v26
  let c0_i32_20 : BitVec 32 := 0#32
  let v28 : BitVec 1 := Scalar.cmpi .ne v27 c0_i32_20
  v28

def k0_mult37 : BitVec 32 :=
  let c2_i32_19 : BitVec 32 := 2#32
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  v1294
def k0_mult38 : BitVec 32 :=
  let c2_i32_19 : BitVec 32 := 2#32
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  v1296
def k0_mult39 : BitVec 32 :=
  let c2_i32_19 : BitVec 32 := 2#32
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  v1298
def k0_mult40 : BitVec 32 :=
  let c2_i32_19 : BitVec 32 := 2#32
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  v1300
def k0_mult41 : BitVec 32 :=
  let c2_i32_19 : BitVec 32 := 2#32
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  v1322
def k0_mult42 : BitVec 32 :=
  let c2_i32_19 : BitVec 32 := 2#32
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  v1324
def k0_mult43 : BitVec 32 :=
  let c2_i32_19 : BitVec 32 := 2#32
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  v1326
def k0_mult44 : BitVec 32 :=
  let c2_i32_19 : BitVec 32 := 2#32
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  v1328
def k0_mult45 : BitVec 32 :=
  let c2_i32_19 : BitVec 32 := 2#32
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  v1350
def k0_mult46 : BitVec 32 :=
  let c2_i32_19 : BitVec 32 := 2#32
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  v1352
def k0_mult47 : BitVec 32 :=
  let c2_i32_19 : BitVec 32 := 2#32
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  v1354
def k0_mult48 : BitVec 32 :=
  let c2_i32_19 : BitVec 32 := 2#32
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  v1356
def k0_mult49 : BitVec 32 :=
  let c2_i32_19 : BitVec 32 := 2#32
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  v1378
def k0_mult50 : BitVec 32 :=
  let c2_i32_19 : BitVec 32 := 2#32
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  v1380
def k0_mult51 : BitVec 32 :=
  let c2_i32_19 : BitVec 32 := 2#32
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  v1382
def k0_mult52 : BitVec 32 :=
  let c2_i32_19 : BitVec 32 := 2#32
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  v1384
def k0_off25 : Fin 1 → Nat :=
  let c2_i32_19 : BitVec 32 := 2#32
  let c24_i32_791 : BitVec 32 := 24#32
  let c0_i32_792 : BitVec 32 := 0#32
  let v1312 : BitVec 1 := Scalar.cmpi .eq c24_i32_791 c0_i32_792
  let c1_i32_793 : BitVec 32 := 1#32
  let v1313 : BitVec 32 := Scalar.select v1312 c1_i32_793 c24_i32_791
  let v1314 : BitVec 32 := Scalar.remsi c2_i32_19 v1313
  let c0_i32_795 : BitVec 32 := 0#32
  let v1316 : BitVec 1 := Scalar.cmpi .slt v1314 c0_i32_795
  let c0_i32_796 : BitVec 32 := 0#32
  let v1317 : BitVec 1 := Scalar.cmpi .slt v1313 c0_i32_796
  let v1318 : BitVec 1 := Scalar.xori v1316 v1317
  let c0_i32_794 : BitVec 32 := 0#32
  let v1315 : BitVec 1 := Scalar.cmpi .ne v1314 c0_i32_794
  let v1319 : BitVec 1 := Scalar.andi v1318 v1315
  let v1320 : BitVec 32 := Scalar.addi v1314 v1313
  let v1321 : BitVec 32 := Scalar.select v1319 v1320 v1314
  ![v1321.toNat]
def k0_off26 : Fin 3 → Nat :=
  let c2_i32_19 : BitVec 32 := 2#32
  let c24_i32_785 : BitVec 32 := 24#32
  let c0_i32_786 : BitVec 32 := 0#32
  let v1302 : BitVec 1 := Scalar.cmpi .eq c24_i32_785 c0_i32_786
  let c1_i32_787 : BitVec 32 := 1#32
  let v1303 : BitVec 32 := Scalar.select v1302 c1_i32_787 c24_i32_785
  let v1304 : BitVec 32 := Scalar.remsi c2_i32_19 v1303
  let c0_i32_789 : BitVec 32 := 0#32
  let v1306 : BitVec 1 := Scalar.cmpi .slt v1304 c0_i32_789
  let c0_i32_790 : BitVec 32 := 0#32
  let v1307 : BitVec 1 := Scalar.cmpi .slt v1303 c0_i32_790
  let v1308 : BitVec 1 := Scalar.xori v1306 v1307
  let c0_i32_788 : BitVec 32 := 0#32
  let v1305 : BitVec 1 := Scalar.cmpi .ne v1304 c0_i32_788
  let v1309 : BitVec 1 := Scalar.andi v1308 v1305
  let v1310 : BitVec 32 := Scalar.addi v1304 v1303
  let v1311 : BitVec 32 := Scalar.select v1309 v1310 v1304
  let c0_i32_842 : BitVec 32 := 0#32
  let c0_i32_843 : BitVec 32 := 0#32
  ![v1311.toNat, 0, 0]
def k0_off27 : Fin 3 → Nat :=
  let c2_i32_19 : BitVec 32 := 2#32
  let c21_i32_778 : BitVec 32 := 21#32
  let v1291 : BitVec 32 := Scalar.divsi c2_i32_19 c21_i32_778
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  let v1297 : BitVec 32 := v1296
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  let v1301 : BitVec 32 := v1300
  ![v1291.toNat, v1297.toNat, v1301.toNat]
def k0_off28 : Fin 3 → Nat :=
  let c2_i32_19 : BitVec 32 := 2#32
  let c24_i32_800 : BitVec 32 := 24#32
  let c0_i32_801 : BitVec 32 := 0#32
  let v1330 : BitVec 1 := Scalar.cmpi .eq c24_i32_800 c0_i32_801
  let c1_i32_802 : BitVec 32 := 1#32
  let v1331 : BitVec 32 := Scalar.select v1330 c1_i32_802 c24_i32_800
  let v1332 : BitVec 32 := Scalar.remsi c2_i32_19 v1331
  let c0_i32_804 : BitVec 32 := 0#32
  let v1334 : BitVec 1 := Scalar.cmpi .slt v1332 c0_i32_804
  let c0_i32_805 : BitVec 32 := 0#32
  let v1335 : BitVec 1 := Scalar.cmpi .slt v1331 c0_i32_805
  let v1336 : BitVec 1 := Scalar.xori v1334 v1335
  let c0_i32_803 : BitVec 32 := 0#32
  let v1333 : BitVec 1 := Scalar.cmpi .ne v1332 c0_i32_803
  let v1337 : BitVec 1 := Scalar.andi v1336 v1333
  let v1338 : BitVec 32 := Scalar.addi v1332 v1331
  let v1339 : BitVec 32 := Scalar.select v1337 v1338 v1332
  let c128_i32_844 : BitVec 32 := 128#32
  let c128_i32_845 : BitVec 32 := 128#32
  ![v1339.toNat, 128, 128]
def k0_off29 : Fin 3 → Nat :=
  let c2_i32_19 : BitVec 32 := 2#32
  let c21_i32_778 : BitVec 32 := 21#32
  let v1291 : BitVec 32 := Scalar.divsi c2_i32_19 c21_i32_778
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  let v1325 : BitVec 32 := v1324
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  let v1329 : BitVec 32 := v1328
  ![v1291.toNat, v1325.toNat, v1329.toNat]
def k0_off30 : Fin 3 → Nat :=
  let c2_i32_19 : BitVec 32 := 2#32
  let c24_i32_815 : BitVec 32 := 24#32
  let c0_i32_816 : BitVec 32 := 0#32
  let v1358 : BitVec 1 := Scalar.cmpi .eq c24_i32_815 c0_i32_816
  let c1_i32_817 : BitVec 32 := 1#32
  let v1359 : BitVec 32 := Scalar.select v1358 c1_i32_817 c24_i32_815
  let v1360 : BitVec 32 := Scalar.remsi c2_i32_19 v1359
  let c0_i32_819 : BitVec 32 := 0#32
  let v1362 : BitVec 1 := Scalar.cmpi .slt v1360 c0_i32_819
  let c0_i32_820 : BitVec 32 := 0#32
  let v1363 : BitVec 1 := Scalar.cmpi .slt v1359 c0_i32_820
  let v1364 : BitVec 1 := Scalar.xori v1362 v1363
  let c0_i32_818 : BitVec 32 := 0#32
  let v1361 : BitVec 1 := Scalar.cmpi .ne v1360 c0_i32_818
  let v1365 : BitVec 1 := Scalar.andi v1364 v1361
  let v1366 : BitVec 32 := Scalar.addi v1360 v1359
  let v1367 : BitVec 32 := Scalar.select v1365 v1366 v1360
  let c256_i32_846 : BitVec 32 := 256#32
  let c256_i32_847 : BitVec 32 := 256#32
  ![v1367.toNat, 256, 256]
def k0_off31 : Fin 3 → Nat :=
  let c2_i32_19 : BitVec 32 := 2#32
  let c21_i32_778 : BitVec 32 := 21#32
  let v1291 : BitVec 32 := Scalar.divsi c2_i32_19 c21_i32_778
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  let v1353 : BitVec 32 := v1352
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  let v1357 : BitVec 32 := v1356
  ![v1291.toNat, v1353.toNat, v1357.toNat]
def k0_off32 : Fin 3 → Nat :=
  let c2_i32_19 : BitVec 32 := 2#32
  let c24_i32_830 : BitVec 32 := 24#32
  let c0_i32_831 : BitVec 32 := 0#32
  let v1386 : BitVec 1 := Scalar.cmpi .eq c24_i32_830 c0_i32_831
  let c1_i32_832 : BitVec 32 := 1#32
  let v1387 : BitVec 32 := Scalar.select v1386 c1_i32_832 c24_i32_830
  let v1388 : BitVec 32 := Scalar.remsi c2_i32_19 v1387
  let c0_i32_834 : BitVec 32 := 0#32
  let v1390 : BitVec 1 := Scalar.cmpi .slt v1388 c0_i32_834
  let c0_i32_835 : BitVec 32 := 0#32
  let v1391 : BitVec 1 := Scalar.cmpi .slt v1387 c0_i32_835
  let v1392 : BitVec 1 := Scalar.xori v1390 v1391
  let c0_i32_833 : BitVec 32 := 0#32
  let v1389 : BitVec 1 := Scalar.cmpi .ne v1388 c0_i32_833
  let v1393 : BitVec 1 := Scalar.andi v1392 v1389
  let v1394 : BitVec 32 := Scalar.addi v1388 v1387
  let v1395 : BitVec 32 := Scalar.select v1393 v1394 v1388
  let c384_i32_848 : BitVec 32 := 384#32
  let c384_i32_849 : BitVec 32 := 384#32
  ![v1395.toNat, 384, 384]
def k0_off33 : Fin 3 → Nat :=
  let c2_i32_19 : BitVec 32 := 2#32
  let c21_i32_778 : BitVec 32 := 21#32
  let v1291 : BitVec 32 := Scalar.divsi c2_i32_19 c21_i32_778
  let c21_i32_779 : BitVec 32 := 21#32
  let v1292 : BitVec 32 := Scalar.remsi c2_i32_19 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  let v1381 : BitVec 32 := v1380
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  let v1385 : BitVec 32 := v1384
  ![v1291.toNat, v1381.toNat, v1385.toNat]
def k0_cond6 : BitVec 1 :=
  let c2_i32_15 : BitVec 32 := 2#32
  let c21_i32_16 : BitVec 32 := 21#32
  let v24 : BitVec 32 := Scalar.remsi c2_i32_15 c21_i32_16
  let c6_i32_17 : BitVec 32 := 6#32
  let v25 : BitVec 32 := Scalar.divsi v24 c6_i32_17
  let c0_i32_18 : BitVec 32 := 0#32
  let v26 : BitVec 1 := Scalar.cmpi .eq v25 c0_i32_18
  let true_21 : BitVec 1 := 1#1
  let v29 : BitVec 1 := Scalar.xori v26 true_21
  let v30 : BitVec 32 := Scalar.extui v29
  let c0_i32_23 : BitVec 32 := 0#32
  let v31 : BitVec 1 := Scalar.cmpi .ne v30 c0_i32_23
  v31

def k0_mult53 : BitVec 32 :=
  let c2_i32_22 : BitVec 32 := 2#32
  let c21_i32_779 : BitVec 32 := 21#32
  let v1292 : BitVec 32 := Scalar.remsi c2_i32_22 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  v1297
def k0_mult54 : BitVec 32 :=
  let c2_i32_22 : BitVec 32 := 2#32
  let c21_i32_779 : BitVec 32 := 21#32
  let v1292 : BitVec 32 := Scalar.remsi c2_i32_22 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  v1299
def k0_off34 : Fin 1 → Nat :=
  let c2_i32_22 : BitVec 32 := 2#32
  let c24_i32_791 : BitVec 32 := 24#32
  let c0_i32_792 : BitVec 32 := 0#32
  let v1311 : BitVec 1 := Scalar.cmpi .eq c24_i32_791 c0_i32_792
  let c1_i32_793 : BitVec 32 := 1#32
  let v1312 : BitVec 32 := Scalar.select v1311 c1_i32_793 c24_i32_791
  let v1313 : BitVec 32 := Scalar.remsi c2_i32_22 v1312
  let c0_i32_795 : BitVec 32 := 0#32
  let v1315 : BitVec 1 := Scalar.cmpi .slt v1313 c0_i32_795
  let c0_i32_796 : BitVec 32 := 0#32
  let v1316 : BitVec 1 := Scalar.cmpi .slt v1312 c0_i32_796
  let v1317 : BitVec 1 := Scalar.xori v1315 v1316
  let c0_i32_794 : BitVec 32 := 0#32
  let v1314 : BitVec 1 := Scalar.cmpi .ne v1313 c0_i32_794
  let v1318 : BitVec 1 := Scalar.andi v1317 v1314
  let v1319 : BitVec 32 := Scalar.addi v1313 v1312
  let v1320 : BitVec 32 := Scalar.select v1318 v1319 v1313
  ![v1320.toNat]
def k0_off35 : Fin 3 → Nat :=
  let c2_i32_22 : BitVec 32 := 2#32
  let c24_i32_785 : BitVec 32 := 24#32
  let c0_i32_786 : BitVec 32 := 0#32
  let v1301 : BitVec 1 := Scalar.cmpi .eq c24_i32_785 c0_i32_786
  let c1_i32_787 : BitVec 32 := 1#32
  let v1302 : BitVec 32 := Scalar.select v1301 c1_i32_787 c24_i32_785
  let v1303 : BitVec 32 := Scalar.remsi c2_i32_22 v1302
  let c0_i32_789 : BitVec 32 := 0#32
  let v1305 : BitVec 1 := Scalar.cmpi .slt v1303 c0_i32_789
  let c0_i32_790 : BitVec 32 := 0#32
  let v1306 : BitVec 1 := Scalar.cmpi .slt v1302 c0_i32_790
  let v1307 : BitVec 1 := Scalar.xori v1305 v1306
  let c0_i32_788 : BitVec 32 := 0#32
  let v1304 : BitVec 1 := Scalar.cmpi .ne v1303 c0_i32_788
  let v1308 : BitVec 1 := Scalar.andi v1307 v1304
  let v1309 : BitVec 32 := Scalar.addi v1303 v1302
  let v1310 : BitVec 32 := Scalar.select v1308 v1309 v1303
  let c0_i32_797 : BitVec 32 := 0#32
  let c0_i32_798 : BitVec 32 := 0#32
  ![v1310.toNat, 0, 0]
def k0_off36 : Fin 3 → Nat :=
  let c2_i32_22 : BitVec 32 := 2#32
  let c21_i32_778 : BitVec 32 := 21#32
  let v1291 : BitVec 32 := Scalar.divsi c2_i32_22 c21_i32_778
  let c21_i32_779 : BitVec 32 := 21#32
  let v1292 : BitVec 32 := Scalar.remsi c2_i32_22 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  let v1298 : BitVec 32 := v1297
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  let v1300 : BitVec 32 := v1299
  ![v1291.toNat, v1298.toNat, v1300.toNat]
def k0_cond7 : BitVec 1 :=
  let c3_i32_24 : BitVec 32 := 3#32
  let c21_i32_25 : BitVec 32 := 21#32
  let v32 : BitVec 32 := Scalar.remsi c3_i32_24 c21_i32_25
  let c6_i32_26 : BitVec 32 := 6#32
  let v33 : BitVec 32 := Scalar.divsi v32 c6_i32_26
  let c0_i32_27 : BitVec 32 := 0#32
  let v34 : BitVec 1 := Scalar.cmpi .eq v33 c0_i32_27
  let v35 : BitVec 32 := Scalar.extui v34
  let c0_i32_29 : BitVec 32 := 0#32
  let v36 : BitVec 1 := Scalar.cmpi .ne v35 c0_i32_29
  v36

def k0_mult55 : BitVec 32 :=
  let c3_i32_28 : BitVec 32 := 3#32
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  v1294
def k0_mult56 : BitVec 32 :=
  let c3_i32_28 : BitVec 32 := 3#32
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  v1296
def k0_mult57 : BitVec 32 :=
  let c3_i32_28 : BitVec 32 := 3#32
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  v1298
def k0_mult58 : BitVec 32 :=
  let c3_i32_28 : BitVec 32 := 3#32
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  v1300
def k0_mult59 : BitVec 32 :=
  let c3_i32_28 : BitVec 32 := 3#32
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  v1322
def k0_mult60 : BitVec 32 :=
  let c3_i32_28 : BitVec 32 := 3#32
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  v1324
def k0_mult61 : BitVec 32 :=
  let c3_i32_28 : BitVec 32 := 3#32
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  v1326
def k0_mult62 : BitVec 32 :=
  let c3_i32_28 : BitVec 32 := 3#32
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  v1328
def k0_mult63 : BitVec 32 :=
  let c3_i32_28 : BitVec 32 := 3#32
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  v1350
def k0_mult64 : BitVec 32 :=
  let c3_i32_28 : BitVec 32 := 3#32
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  v1352
def k0_mult65 : BitVec 32 :=
  let c3_i32_28 : BitVec 32 := 3#32
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  v1354
def k0_mult66 : BitVec 32 :=
  let c3_i32_28 : BitVec 32 := 3#32
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  v1356
def k0_mult67 : BitVec 32 :=
  let c3_i32_28 : BitVec 32 := 3#32
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  v1378
def k0_mult68 : BitVec 32 :=
  let c3_i32_28 : BitVec 32 := 3#32
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  v1380
def k0_mult69 : BitVec 32 :=
  let c3_i32_28 : BitVec 32 := 3#32
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  v1382
def k0_mult70 : BitVec 32 :=
  let c3_i32_28 : BitVec 32 := 3#32
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  v1384
def k0_off37 : Fin 1 → Nat :=
  let c3_i32_28 : BitVec 32 := 3#32
  let c24_i32_791 : BitVec 32 := 24#32
  let c0_i32_792 : BitVec 32 := 0#32
  let v1312 : BitVec 1 := Scalar.cmpi .eq c24_i32_791 c0_i32_792
  let c1_i32_793 : BitVec 32 := 1#32
  let v1313 : BitVec 32 := Scalar.select v1312 c1_i32_793 c24_i32_791
  let v1314 : BitVec 32 := Scalar.remsi c3_i32_28 v1313
  let c0_i32_795 : BitVec 32 := 0#32
  let v1316 : BitVec 1 := Scalar.cmpi .slt v1314 c0_i32_795
  let c0_i32_796 : BitVec 32 := 0#32
  let v1317 : BitVec 1 := Scalar.cmpi .slt v1313 c0_i32_796
  let v1318 : BitVec 1 := Scalar.xori v1316 v1317
  let c0_i32_794 : BitVec 32 := 0#32
  let v1315 : BitVec 1 := Scalar.cmpi .ne v1314 c0_i32_794
  let v1319 : BitVec 1 := Scalar.andi v1318 v1315
  let v1320 : BitVec 32 := Scalar.addi v1314 v1313
  let v1321 : BitVec 32 := Scalar.select v1319 v1320 v1314
  ![v1321.toNat]
def k0_off38 : Fin 3 → Nat :=
  let c3_i32_28 : BitVec 32 := 3#32
  let c24_i32_785 : BitVec 32 := 24#32
  let c0_i32_786 : BitVec 32 := 0#32
  let v1302 : BitVec 1 := Scalar.cmpi .eq c24_i32_785 c0_i32_786
  let c1_i32_787 : BitVec 32 := 1#32
  let v1303 : BitVec 32 := Scalar.select v1302 c1_i32_787 c24_i32_785
  let v1304 : BitVec 32 := Scalar.remsi c3_i32_28 v1303
  let c0_i32_789 : BitVec 32 := 0#32
  let v1306 : BitVec 1 := Scalar.cmpi .slt v1304 c0_i32_789
  let c0_i32_790 : BitVec 32 := 0#32
  let v1307 : BitVec 1 := Scalar.cmpi .slt v1303 c0_i32_790
  let v1308 : BitVec 1 := Scalar.xori v1306 v1307
  let c0_i32_788 : BitVec 32 := 0#32
  let v1305 : BitVec 1 := Scalar.cmpi .ne v1304 c0_i32_788
  let v1309 : BitVec 1 := Scalar.andi v1308 v1305
  let v1310 : BitVec 32 := Scalar.addi v1304 v1303
  let v1311 : BitVec 32 := Scalar.select v1309 v1310 v1304
  let c0_i32_842 : BitVec 32 := 0#32
  let c0_i32_843 : BitVec 32 := 0#32
  ![v1311.toNat, 0, 0]
def k0_off39 : Fin 3 → Nat :=
  let c3_i32_28 : BitVec 32 := 3#32
  let c21_i32_778 : BitVec 32 := 21#32
  let v1291 : BitVec 32 := Scalar.divsi c3_i32_28 c21_i32_778
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  let v1297 : BitVec 32 := v1296
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  let v1301 : BitVec 32 := v1300
  ![v1291.toNat, v1297.toNat, v1301.toNat]
def k0_off40 : Fin 3 → Nat :=
  let c3_i32_28 : BitVec 32 := 3#32
  let c24_i32_800 : BitVec 32 := 24#32
  let c0_i32_801 : BitVec 32 := 0#32
  let v1330 : BitVec 1 := Scalar.cmpi .eq c24_i32_800 c0_i32_801
  let c1_i32_802 : BitVec 32 := 1#32
  let v1331 : BitVec 32 := Scalar.select v1330 c1_i32_802 c24_i32_800
  let v1332 : BitVec 32 := Scalar.remsi c3_i32_28 v1331
  let c0_i32_804 : BitVec 32 := 0#32
  let v1334 : BitVec 1 := Scalar.cmpi .slt v1332 c0_i32_804
  let c0_i32_805 : BitVec 32 := 0#32
  let v1335 : BitVec 1 := Scalar.cmpi .slt v1331 c0_i32_805
  let v1336 : BitVec 1 := Scalar.xori v1334 v1335
  let c0_i32_803 : BitVec 32 := 0#32
  let v1333 : BitVec 1 := Scalar.cmpi .ne v1332 c0_i32_803
  let v1337 : BitVec 1 := Scalar.andi v1336 v1333
  let v1338 : BitVec 32 := Scalar.addi v1332 v1331
  let v1339 : BitVec 32 := Scalar.select v1337 v1338 v1332
  let c128_i32_844 : BitVec 32 := 128#32
  let c128_i32_845 : BitVec 32 := 128#32
  ![v1339.toNat, 128, 128]
def k0_off41 : Fin 3 → Nat :=
  let c3_i32_28 : BitVec 32 := 3#32
  let c21_i32_778 : BitVec 32 := 21#32
  let v1291 : BitVec 32 := Scalar.divsi c3_i32_28 c21_i32_778
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  let v1325 : BitVec 32 := v1324
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  let v1329 : BitVec 32 := v1328
  ![v1291.toNat, v1325.toNat, v1329.toNat]
def k0_off42 : Fin 3 → Nat :=
  let c3_i32_28 : BitVec 32 := 3#32
  let c24_i32_815 : BitVec 32 := 24#32
  let c0_i32_816 : BitVec 32 := 0#32
  let v1358 : BitVec 1 := Scalar.cmpi .eq c24_i32_815 c0_i32_816
  let c1_i32_817 : BitVec 32 := 1#32
  let v1359 : BitVec 32 := Scalar.select v1358 c1_i32_817 c24_i32_815
  let v1360 : BitVec 32 := Scalar.remsi c3_i32_28 v1359
  let c0_i32_819 : BitVec 32 := 0#32
  let v1362 : BitVec 1 := Scalar.cmpi .slt v1360 c0_i32_819
  let c0_i32_820 : BitVec 32 := 0#32
  let v1363 : BitVec 1 := Scalar.cmpi .slt v1359 c0_i32_820
  let v1364 : BitVec 1 := Scalar.xori v1362 v1363
  let c0_i32_818 : BitVec 32 := 0#32
  let v1361 : BitVec 1 := Scalar.cmpi .ne v1360 c0_i32_818
  let v1365 : BitVec 1 := Scalar.andi v1364 v1361
  let v1366 : BitVec 32 := Scalar.addi v1360 v1359
  let v1367 : BitVec 32 := Scalar.select v1365 v1366 v1360
  let c256_i32_846 : BitVec 32 := 256#32
  let c256_i32_847 : BitVec 32 := 256#32
  ![v1367.toNat, 256, 256]
def k0_off43 : Fin 3 → Nat :=
  let c3_i32_28 : BitVec 32 := 3#32
  let c21_i32_778 : BitVec 32 := 21#32
  let v1291 : BitVec 32 := Scalar.divsi c3_i32_28 c21_i32_778
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  let v1353 : BitVec 32 := v1352
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  let v1357 : BitVec 32 := v1356
  ![v1291.toNat, v1353.toNat, v1357.toNat]
def k0_off44 : Fin 3 → Nat :=
  let c3_i32_28 : BitVec 32 := 3#32
  let c24_i32_830 : BitVec 32 := 24#32
  let c0_i32_831 : BitVec 32 := 0#32
  let v1386 : BitVec 1 := Scalar.cmpi .eq c24_i32_830 c0_i32_831
  let c1_i32_832 : BitVec 32 := 1#32
  let v1387 : BitVec 32 := Scalar.select v1386 c1_i32_832 c24_i32_830
  let v1388 : BitVec 32 := Scalar.remsi c3_i32_28 v1387
  let c0_i32_834 : BitVec 32 := 0#32
  let v1390 : BitVec 1 := Scalar.cmpi .slt v1388 c0_i32_834
  let c0_i32_835 : BitVec 32 := 0#32
  let v1391 : BitVec 1 := Scalar.cmpi .slt v1387 c0_i32_835
  let v1392 : BitVec 1 := Scalar.xori v1390 v1391
  let c0_i32_833 : BitVec 32 := 0#32
  let v1389 : BitVec 1 := Scalar.cmpi .ne v1388 c0_i32_833
  let v1393 : BitVec 1 := Scalar.andi v1392 v1389
  let v1394 : BitVec 32 := Scalar.addi v1388 v1387
  let v1395 : BitVec 32 := Scalar.select v1393 v1394 v1388
  let c384_i32_848 : BitVec 32 := 384#32
  let c384_i32_849 : BitVec 32 := 384#32
  ![v1395.toNat, 384, 384]
def k0_off45 : Fin 3 → Nat :=
  let c3_i32_28 : BitVec 32 := 3#32
  let c21_i32_778 : BitVec 32 := 21#32
  let v1291 : BitVec 32 := Scalar.divsi c3_i32_28 c21_i32_778
  let c21_i32_779 : BitVec 32 := 21#32
  let v1292 : BitVec 32 := Scalar.remsi c3_i32_28 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  let v1381 : BitVec 32 := v1380
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  let v1385 : BitVec 32 := v1384
  ![v1291.toNat, v1381.toNat, v1385.toNat]
def k0_cond8 : BitVec 1 :=
  let c3_i32_24 : BitVec 32 := 3#32
  let c21_i32_25 : BitVec 32 := 21#32
  let v32 : BitVec 32 := Scalar.remsi c3_i32_24 c21_i32_25
  let c6_i32_26 : BitVec 32 := 6#32
  let v33 : BitVec 32 := Scalar.divsi v32 c6_i32_26
  let c0_i32_27 : BitVec 32 := 0#32
  let v34 : BitVec 1 := Scalar.cmpi .eq v33 c0_i32_27
  let true_30 : BitVec 1 := 1#1
  let v37 : BitVec 1 := Scalar.xori v34 true_30
  let v38 : BitVec 32 := Scalar.extui v37
  let c0_i32_32 : BitVec 32 := 0#32
  let v39 : BitVec 1 := Scalar.cmpi .ne v38 c0_i32_32
  v39

def k0_mult71 : BitVec 32 :=
  let c3_i32_31 : BitVec 32 := 3#32
  let c21_i32_779 : BitVec 32 := 21#32
  let v1292 : BitVec 32 := Scalar.remsi c3_i32_31 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  v1297
def k0_mult72 : BitVec 32 :=
  let c3_i32_31 : BitVec 32 := 3#32
  let c21_i32_779 : BitVec 32 := 21#32
  let v1292 : BitVec 32 := Scalar.remsi c3_i32_31 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  v1299
def k0_off46 : Fin 1 → Nat :=
  let c3_i32_31 : BitVec 32 := 3#32
  let c24_i32_791 : BitVec 32 := 24#32
  let c0_i32_792 : BitVec 32 := 0#32
  let v1311 : BitVec 1 := Scalar.cmpi .eq c24_i32_791 c0_i32_792
  let c1_i32_793 : BitVec 32 := 1#32
  let v1312 : BitVec 32 := Scalar.select v1311 c1_i32_793 c24_i32_791
  let v1313 : BitVec 32 := Scalar.remsi c3_i32_31 v1312
  let c0_i32_795 : BitVec 32 := 0#32
  let v1315 : BitVec 1 := Scalar.cmpi .slt v1313 c0_i32_795
  let c0_i32_796 : BitVec 32 := 0#32
  let v1316 : BitVec 1 := Scalar.cmpi .slt v1312 c0_i32_796
  let v1317 : BitVec 1 := Scalar.xori v1315 v1316
  let c0_i32_794 : BitVec 32 := 0#32
  let v1314 : BitVec 1 := Scalar.cmpi .ne v1313 c0_i32_794
  let v1318 : BitVec 1 := Scalar.andi v1317 v1314
  let v1319 : BitVec 32 := Scalar.addi v1313 v1312
  let v1320 : BitVec 32 := Scalar.select v1318 v1319 v1313
  ![v1320.toNat]
def k0_off47 : Fin 3 → Nat :=
  let c3_i32_31 : BitVec 32 := 3#32
  let c24_i32_785 : BitVec 32 := 24#32
  let c0_i32_786 : BitVec 32 := 0#32
  let v1301 : BitVec 1 := Scalar.cmpi .eq c24_i32_785 c0_i32_786
  let c1_i32_787 : BitVec 32 := 1#32
  let v1302 : BitVec 32 := Scalar.select v1301 c1_i32_787 c24_i32_785
  let v1303 : BitVec 32 := Scalar.remsi c3_i32_31 v1302
  let c0_i32_789 : BitVec 32 := 0#32
  let v1305 : BitVec 1 := Scalar.cmpi .slt v1303 c0_i32_789
  let c0_i32_790 : BitVec 32 := 0#32
  let v1306 : BitVec 1 := Scalar.cmpi .slt v1302 c0_i32_790
  let v1307 : BitVec 1 := Scalar.xori v1305 v1306
  let c0_i32_788 : BitVec 32 := 0#32
  let v1304 : BitVec 1 := Scalar.cmpi .ne v1303 c0_i32_788
  let v1308 : BitVec 1 := Scalar.andi v1307 v1304
  let v1309 : BitVec 32 := Scalar.addi v1303 v1302
  let v1310 : BitVec 32 := Scalar.select v1308 v1309 v1303
  let c0_i32_797 : BitVec 32 := 0#32
  let c0_i32_798 : BitVec 32 := 0#32
  ![v1310.toNat, 0, 0]
def k0_off48 : Fin 3 → Nat :=
  let c3_i32_31 : BitVec 32 := 3#32
  let c21_i32_778 : BitVec 32 := 21#32
  let v1291 : BitVec 32 := Scalar.divsi c3_i32_31 c21_i32_778
  let c21_i32_779 : BitVec 32 := 21#32
  let v1292 : BitVec 32 := Scalar.remsi c3_i32_31 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  let v1298 : BitVec 32 := v1297
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  let v1300 : BitVec 32 := v1299
  ![v1291.toNat, v1298.toNat, v1300.toNat]
def k0_cond9 : BitVec 1 :=
  let c4_i32 : BitVec 32 := 4#32
  let c21_i32_33 : BitVec 32 := 21#32
  let v40 : BitVec 32 := Scalar.remsi c4_i32 c21_i32_33
  let c6_i32_34 : BitVec 32 := 6#32
  let v41 : BitVec 32 := Scalar.divsi v40 c6_i32_34
  let c0_i32_35 : BitVec 32 := 0#32
  let v42 : BitVec 1 := Scalar.cmpi .eq v41 c0_i32_35
  let v43 : BitVec 32 := Scalar.extui v42
  let c0_i32_37 : BitVec 32 := 0#32
  let v44 : BitVec 1 := Scalar.cmpi .ne v43 c0_i32_37
  v44

def k0_mult73 : BitVec 32 :=
  let c4_i32_36 : BitVec 32 := 4#32
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  v1294
def k0_mult74 : BitVec 32 :=
  let c4_i32_36 : BitVec 32 := 4#32
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  v1296
def k0_mult75 : BitVec 32 :=
  let c4_i32_36 : BitVec 32 := 4#32
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  v1298
def k0_mult76 : BitVec 32 :=
  let c4_i32_36 : BitVec 32 := 4#32
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  v1300
def k0_mult77 : BitVec 32 :=
  let c4_i32_36 : BitVec 32 := 4#32
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  v1322
def k0_mult78 : BitVec 32 :=
  let c4_i32_36 : BitVec 32 := 4#32
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  v1324
def k0_mult79 : BitVec 32 :=
  let c4_i32_36 : BitVec 32 := 4#32
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  v1326
def k0_mult80 : BitVec 32 :=
  let c4_i32_36 : BitVec 32 := 4#32
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  v1328
def k0_mult81 : BitVec 32 :=
  let c4_i32_36 : BitVec 32 := 4#32
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  v1350
def k0_mult82 : BitVec 32 :=
  let c4_i32_36 : BitVec 32 := 4#32
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  v1352
def k0_mult83 : BitVec 32 :=
  let c4_i32_36 : BitVec 32 := 4#32
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  v1354
def k0_mult84 : BitVec 32 :=
  let c4_i32_36 : BitVec 32 := 4#32
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  v1356
def k0_mult85 : BitVec 32 :=
  let c4_i32_36 : BitVec 32 := 4#32
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  v1378
def k0_mult86 : BitVec 32 :=
  let c4_i32_36 : BitVec 32 := 4#32
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  v1380
def k0_mult87 : BitVec 32 :=
  let c4_i32_36 : BitVec 32 := 4#32
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  v1382
def k0_mult88 : BitVec 32 :=
  let c4_i32_36 : BitVec 32 := 4#32
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  v1384
def k0_off49 : Fin 1 → Nat :=
  let c4_i32_36 : BitVec 32 := 4#32
  let c24_i32_791 : BitVec 32 := 24#32
  let c0_i32_792 : BitVec 32 := 0#32
  let v1312 : BitVec 1 := Scalar.cmpi .eq c24_i32_791 c0_i32_792
  let c1_i32_793 : BitVec 32 := 1#32
  let v1313 : BitVec 32 := Scalar.select v1312 c1_i32_793 c24_i32_791
  let v1314 : BitVec 32 := Scalar.remsi c4_i32_36 v1313
  let c0_i32_795 : BitVec 32 := 0#32
  let v1316 : BitVec 1 := Scalar.cmpi .slt v1314 c0_i32_795
  let c0_i32_796 : BitVec 32 := 0#32
  let v1317 : BitVec 1 := Scalar.cmpi .slt v1313 c0_i32_796
  let v1318 : BitVec 1 := Scalar.xori v1316 v1317
  let c0_i32_794 : BitVec 32 := 0#32
  let v1315 : BitVec 1 := Scalar.cmpi .ne v1314 c0_i32_794
  let v1319 : BitVec 1 := Scalar.andi v1318 v1315
  let v1320 : BitVec 32 := Scalar.addi v1314 v1313
  let v1321 : BitVec 32 := Scalar.select v1319 v1320 v1314
  ![v1321.toNat]
def k0_off50 : Fin 3 → Nat :=
  let c4_i32_36 : BitVec 32 := 4#32
  let c24_i32_785 : BitVec 32 := 24#32
  let c0_i32_786 : BitVec 32 := 0#32
  let v1302 : BitVec 1 := Scalar.cmpi .eq c24_i32_785 c0_i32_786
  let c1_i32_787 : BitVec 32 := 1#32
  let v1303 : BitVec 32 := Scalar.select v1302 c1_i32_787 c24_i32_785
  let v1304 : BitVec 32 := Scalar.remsi c4_i32_36 v1303
  let c0_i32_789 : BitVec 32 := 0#32
  let v1306 : BitVec 1 := Scalar.cmpi .slt v1304 c0_i32_789
  let c0_i32_790 : BitVec 32 := 0#32
  let v1307 : BitVec 1 := Scalar.cmpi .slt v1303 c0_i32_790
  let v1308 : BitVec 1 := Scalar.xori v1306 v1307
  let c0_i32_788 : BitVec 32 := 0#32
  let v1305 : BitVec 1 := Scalar.cmpi .ne v1304 c0_i32_788
  let v1309 : BitVec 1 := Scalar.andi v1308 v1305
  let v1310 : BitVec 32 := Scalar.addi v1304 v1303
  let v1311 : BitVec 32 := Scalar.select v1309 v1310 v1304
  let c0_i32_842 : BitVec 32 := 0#32
  let c0_i32_843 : BitVec 32 := 0#32
  ![v1311.toNat, 0, 0]
def k0_off51 : Fin 3 → Nat :=
  let c4_i32_36 : BitVec 32 := 4#32
  let c21_i32_778 : BitVec 32 := 21#32
  let v1291 : BitVec 32 := Scalar.divsi c4_i32_36 c21_i32_778
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  let v1297 : BitVec 32 := v1296
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  let v1301 : BitVec 32 := v1300
  ![v1291.toNat, v1297.toNat, v1301.toNat]
def k0_off52 : Fin 3 → Nat :=
  let c4_i32_36 : BitVec 32 := 4#32
  let c24_i32_800 : BitVec 32 := 24#32
  let c0_i32_801 : BitVec 32 := 0#32
  let v1330 : BitVec 1 := Scalar.cmpi .eq c24_i32_800 c0_i32_801
  let c1_i32_802 : BitVec 32 := 1#32
  let v1331 : BitVec 32 := Scalar.select v1330 c1_i32_802 c24_i32_800
  let v1332 : BitVec 32 := Scalar.remsi c4_i32_36 v1331
  let c0_i32_804 : BitVec 32 := 0#32
  let v1334 : BitVec 1 := Scalar.cmpi .slt v1332 c0_i32_804
  let c0_i32_805 : BitVec 32 := 0#32
  let v1335 : BitVec 1 := Scalar.cmpi .slt v1331 c0_i32_805
  let v1336 : BitVec 1 := Scalar.xori v1334 v1335
  let c0_i32_803 : BitVec 32 := 0#32
  let v1333 : BitVec 1 := Scalar.cmpi .ne v1332 c0_i32_803
  let v1337 : BitVec 1 := Scalar.andi v1336 v1333
  let v1338 : BitVec 32 := Scalar.addi v1332 v1331
  let v1339 : BitVec 32 := Scalar.select v1337 v1338 v1332
  let c128_i32_844 : BitVec 32 := 128#32
  let c128_i32_845 : BitVec 32 := 128#32
  ![v1339.toNat, 128, 128]
def k0_off53 : Fin 3 → Nat :=
  let c4_i32_36 : BitVec 32 := 4#32
  let c21_i32_778 : BitVec 32 := 21#32
  let v1291 : BitVec 32 := Scalar.divsi c4_i32_36 c21_i32_778
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  let v1325 : BitVec 32 := v1324
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  let v1329 : BitVec 32 := v1328
  ![v1291.toNat, v1325.toNat, v1329.toNat]
def k0_off54 : Fin 3 → Nat :=
  let c4_i32_36 : BitVec 32 := 4#32
  let c24_i32_815 : BitVec 32 := 24#32
  let c0_i32_816 : BitVec 32 := 0#32
  let v1358 : BitVec 1 := Scalar.cmpi .eq c24_i32_815 c0_i32_816
  let c1_i32_817 : BitVec 32 := 1#32
  let v1359 : BitVec 32 := Scalar.select v1358 c1_i32_817 c24_i32_815
  let v1360 : BitVec 32 := Scalar.remsi c4_i32_36 v1359
  let c0_i32_819 : BitVec 32 := 0#32
  let v1362 : BitVec 1 := Scalar.cmpi .slt v1360 c0_i32_819
  let c0_i32_820 : BitVec 32 := 0#32
  let v1363 : BitVec 1 := Scalar.cmpi .slt v1359 c0_i32_820
  let v1364 : BitVec 1 := Scalar.xori v1362 v1363
  let c0_i32_818 : BitVec 32 := 0#32
  let v1361 : BitVec 1 := Scalar.cmpi .ne v1360 c0_i32_818
  let v1365 : BitVec 1 := Scalar.andi v1364 v1361
  let v1366 : BitVec 32 := Scalar.addi v1360 v1359
  let v1367 : BitVec 32 := Scalar.select v1365 v1366 v1360
  let c256_i32_846 : BitVec 32 := 256#32
  let c256_i32_847 : BitVec 32 := 256#32
  ![v1367.toNat, 256, 256]
def k0_off55 : Fin 3 → Nat :=
  let c4_i32_36 : BitVec 32 := 4#32
  let c21_i32_778 : BitVec 32 := 21#32
  let v1291 : BitVec 32 := Scalar.divsi c4_i32_36 c21_i32_778
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  let v1353 : BitVec 32 := v1352
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  let v1357 : BitVec 32 := v1356
  ![v1291.toNat, v1353.toNat, v1357.toNat]
def k0_off56 : Fin 3 → Nat :=
  let c4_i32_36 : BitVec 32 := 4#32
  let c24_i32_830 : BitVec 32 := 24#32
  let c0_i32_831 : BitVec 32 := 0#32
  let v1386 : BitVec 1 := Scalar.cmpi .eq c24_i32_830 c0_i32_831
  let c1_i32_832 : BitVec 32 := 1#32
  let v1387 : BitVec 32 := Scalar.select v1386 c1_i32_832 c24_i32_830
  let v1388 : BitVec 32 := Scalar.remsi c4_i32_36 v1387
  let c0_i32_834 : BitVec 32 := 0#32
  let v1390 : BitVec 1 := Scalar.cmpi .slt v1388 c0_i32_834
  let c0_i32_835 : BitVec 32 := 0#32
  let v1391 : BitVec 1 := Scalar.cmpi .slt v1387 c0_i32_835
  let v1392 : BitVec 1 := Scalar.xori v1390 v1391
  let c0_i32_833 : BitVec 32 := 0#32
  let v1389 : BitVec 1 := Scalar.cmpi .ne v1388 c0_i32_833
  let v1393 : BitVec 1 := Scalar.andi v1392 v1389
  let v1394 : BitVec 32 := Scalar.addi v1388 v1387
  let v1395 : BitVec 32 := Scalar.select v1393 v1394 v1388
  let c384_i32_848 : BitVec 32 := 384#32
  let c384_i32_849 : BitVec 32 := 384#32
  ![v1395.toNat, 384, 384]
def k0_off57 : Fin 3 → Nat :=
  let c4_i32_36 : BitVec 32 := 4#32
  let c21_i32_778 : BitVec 32 := 21#32
  let v1291 : BitVec 32 := Scalar.divsi c4_i32_36 c21_i32_778
  let c21_i32_779 : BitVec 32 := 21#32
  let v1292 : BitVec 32 := Scalar.remsi c4_i32_36 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  let v1381 : BitVec 32 := v1380
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  let v1385 : BitVec 32 := v1384
  ![v1291.toNat, v1381.toNat, v1385.toNat]
def k0_cond10 : BitVec 1 :=
  let c4_i32 : BitVec 32 := 4#32
  let c21_i32_33 : BitVec 32 := 21#32
  let v40 : BitVec 32 := Scalar.remsi c4_i32 c21_i32_33
  let c6_i32_34 : BitVec 32 := 6#32
  let v41 : BitVec 32 := Scalar.divsi v40 c6_i32_34
  let c0_i32_35 : BitVec 32 := 0#32
  let v42 : BitVec 1 := Scalar.cmpi .eq v41 c0_i32_35
  let true_38 : BitVec 1 := 1#1
  let v45 : BitVec 1 := Scalar.xori v42 true_38
  let v46 : BitVec 32 := Scalar.extui v45
  let c0_i32_40 : BitVec 32 := 0#32
  let v47 : BitVec 1 := Scalar.cmpi .ne v46 c0_i32_40
  v47

def k0_mult89 : BitVec 32 :=
  let c4_i32_39 : BitVec 32 := 4#32
  let c21_i32_779 : BitVec 32 := 21#32
  let v1292 : BitVec 32 := Scalar.remsi c4_i32_39 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  v1297
def k0_mult90 : BitVec 32 :=
  let c4_i32_39 : BitVec 32 := 4#32
  let c21_i32_779 : BitVec 32 := 21#32
  let v1292 : BitVec 32 := Scalar.remsi c4_i32_39 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  v1299
def k0_off58 : Fin 1 → Nat :=
  let c4_i32_39 : BitVec 32 := 4#32
  let c24_i32_791 : BitVec 32 := 24#32
  let c0_i32_792 : BitVec 32 := 0#32
  let v1311 : BitVec 1 := Scalar.cmpi .eq c24_i32_791 c0_i32_792
  let c1_i32_793 : BitVec 32 := 1#32
  let v1312 : BitVec 32 := Scalar.select v1311 c1_i32_793 c24_i32_791
  let v1313 : BitVec 32 := Scalar.remsi c4_i32_39 v1312
  let c0_i32_795 : BitVec 32 := 0#32
  let v1315 : BitVec 1 := Scalar.cmpi .slt v1313 c0_i32_795
  let c0_i32_796 : BitVec 32 := 0#32
  let v1316 : BitVec 1 := Scalar.cmpi .slt v1312 c0_i32_796
  let v1317 : BitVec 1 := Scalar.xori v1315 v1316
  let c0_i32_794 : BitVec 32 := 0#32
  let v1314 : BitVec 1 := Scalar.cmpi .ne v1313 c0_i32_794
  let v1318 : BitVec 1 := Scalar.andi v1317 v1314
  let v1319 : BitVec 32 := Scalar.addi v1313 v1312
  let v1320 : BitVec 32 := Scalar.select v1318 v1319 v1313
  ![v1320.toNat]
def k0_off59 : Fin 3 → Nat :=
  let c4_i32_39 : BitVec 32 := 4#32
  let c24_i32_785 : BitVec 32 := 24#32
  let c0_i32_786 : BitVec 32 := 0#32
  let v1301 : BitVec 1 := Scalar.cmpi .eq c24_i32_785 c0_i32_786
  let c1_i32_787 : BitVec 32 := 1#32
  let v1302 : BitVec 32 := Scalar.select v1301 c1_i32_787 c24_i32_785
  let v1303 : BitVec 32 := Scalar.remsi c4_i32_39 v1302
  let c0_i32_789 : BitVec 32 := 0#32
  let v1305 : BitVec 1 := Scalar.cmpi .slt v1303 c0_i32_789
  let c0_i32_790 : BitVec 32 := 0#32
  let v1306 : BitVec 1 := Scalar.cmpi .slt v1302 c0_i32_790
  let v1307 : BitVec 1 := Scalar.xori v1305 v1306
  let c0_i32_788 : BitVec 32 := 0#32
  let v1304 : BitVec 1 := Scalar.cmpi .ne v1303 c0_i32_788
  let v1308 : BitVec 1 := Scalar.andi v1307 v1304
  let v1309 : BitVec 32 := Scalar.addi v1303 v1302
  let v1310 : BitVec 32 := Scalar.select v1308 v1309 v1303
  let c0_i32_797 : BitVec 32 := 0#32
  let c0_i32_798 : BitVec 32 := 0#32
  ![v1310.toNat, 0, 0]
def k0_off60 : Fin 3 → Nat :=
  let c4_i32_39 : BitVec 32 := 4#32
  let c21_i32_778 : BitVec 32 := 21#32
  let v1291 : BitVec 32 := Scalar.divsi c4_i32_39 c21_i32_778
  let c21_i32_779 : BitVec 32 := 21#32
  let v1292 : BitVec 32 := Scalar.remsi c4_i32_39 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  let v1298 : BitVec 32 := v1297
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  let v1300 : BitVec 32 := v1299
  ![v1291.toNat, v1298.toNat, v1300.toNat]
def k0_cond11 : BitVec 1 :=
  let c5_i32 : BitVec 32 := 5#32
  let c21_i32_41 : BitVec 32 := 21#32
  let v48 : BitVec 32 := Scalar.remsi c5_i32 c21_i32_41
  let c6_i32_42 : BitVec 32 := 6#32
  let v49 : BitVec 32 := Scalar.divsi v48 c6_i32_42
  let c0_i32_43 : BitVec 32 := 0#32
  let v50 : BitVec 1 := Scalar.cmpi .eq v49 c0_i32_43
  let v51 : BitVec 32 := Scalar.extui v50
  let c0_i32_45 : BitVec 32 := 0#32
  let v52 : BitVec 1 := Scalar.cmpi .ne v51 c0_i32_45
  v52

def k0_mult91 : BitVec 32 :=
  let c5_i32_44 : BitVec 32 := 5#32
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  v1294
def k0_mult92 : BitVec 32 :=
  let c5_i32_44 : BitVec 32 := 5#32
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  v1296
def k0_mult93 : BitVec 32 :=
  let c5_i32_44 : BitVec 32 := 5#32
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  v1298
def k0_mult94 : BitVec 32 :=
  let c5_i32_44 : BitVec 32 := 5#32
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  v1300
def k0_mult95 : BitVec 32 :=
  let c5_i32_44 : BitVec 32 := 5#32
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  v1322
def k0_mult96 : BitVec 32 :=
  let c5_i32_44 : BitVec 32 := 5#32
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  v1324
def k0_mult97 : BitVec 32 :=
  let c5_i32_44 : BitVec 32 := 5#32
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  v1326
def k0_mult98 : BitVec 32 :=
  let c5_i32_44 : BitVec 32 := 5#32
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  v1328
def k0_mult99 : BitVec 32 :=
  let c5_i32_44 : BitVec 32 := 5#32
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  v1350
def k0_mult100 : BitVec 32 :=
  let c5_i32_44 : BitVec 32 := 5#32
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  v1352
def k0_mult101 : BitVec 32 :=
  let c5_i32_44 : BitVec 32 := 5#32
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  v1354
def k0_mult102 : BitVec 32 :=
  let c5_i32_44 : BitVec 32 := 5#32
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  v1356
def k0_mult103 : BitVec 32 :=
  let c5_i32_44 : BitVec 32 := 5#32
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  v1378
def k0_mult104 : BitVec 32 :=
  let c5_i32_44 : BitVec 32 := 5#32
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  v1380
def k0_mult105 : BitVec 32 :=
  let c5_i32_44 : BitVec 32 := 5#32
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  v1382
def k0_mult106 : BitVec 32 :=
  let c5_i32_44 : BitVec 32 := 5#32
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  v1384
def k0_off61 : Fin 1 → Nat :=
  let c5_i32_44 : BitVec 32 := 5#32
  let c24_i32_791 : BitVec 32 := 24#32
  let c0_i32_792 : BitVec 32 := 0#32
  let v1312 : BitVec 1 := Scalar.cmpi .eq c24_i32_791 c0_i32_792
  let c1_i32_793 : BitVec 32 := 1#32
  let v1313 : BitVec 32 := Scalar.select v1312 c1_i32_793 c24_i32_791
  let v1314 : BitVec 32 := Scalar.remsi c5_i32_44 v1313
  let c0_i32_795 : BitVec 32 := 0#32
  let v1316 : BitVec 1 := Scalar.cmpi .slt v1314 c0_i32_795
  let c0_i32_796 : BitVec 32 := 0#32
  let v1317 : BitVec 1 := Scalar.cmpi .slt v1313 c0_i32_796
  let v1318 : BitVec 1 := Scalar.xori v1316 v1317
  let c0_i32_794 : BitVec 32 := 0#32
  let v1315 : BitVec 1 := Scalar.cmpi .ne v1314 c0_i32_794
  let v1319 : BitVec 1 := Scalar.andi v1318 v1315
  let v1320 : BitVec 32 := Scalar.addi v1314 v1313
  let v1321 : BitVec 32 := Scalar.select v1319 v1320 v1314
  ![v1321.toNat]
def k0_off62 : Fin 3 → Nat :=
  let c5_i32_44 : BitVec 32 := 5#32
  let c24_i32_785 : BitVec 32 := 24#32
  let c0_i32_786 : BitVec 32 := 0#32
  let v1302 : BitVec 1 := Scalar.cmpi .eq c24_i32_785 c0_i32_786
  let c1_i32_787 : BitVec 32 := 1#32
  let v1303 : BitVec 32 := Scalar.select v1302 c1_i32_787 c24_i32_785
  let v1304 : BitVec 32 := Scalar.remsi c5_i32_44 v1303
  let c0_i32_789 : BitVec 32 := 0#32
  let v1306 : BitVec 1 := Scalar.cmpi .slt v1304 c0_i32_789
  let c0_i32_790 : BitVec 32 := 0#32
  let v1307 : BitVec 1 := Scalar.cmpi .slt v1303 c0_i32_790
  let v1308 : BitVec 1 := Scalar.xori v1306 v1307
  let c0_i32_788 : BitVec 32 := 0#32
  let v1305 : BitVec 1 := Scalar.cmpi .ne v1304 c0_i32_788
  let v1309 : BitVec 1 := Scalar.andi v1308 v1305
  let v1310 : BitVec 32 := Scalar.addi v1304 v1303
  let v1311 : BitVec 32 := Scalar.select v1309 v1310 v1304
  let c0_i32_842 : BitVec 32 := 0#32
  let c0_i32_843 : BitVec 32 := 0#32
  ![v1311.toNat, 0, 0]
def k0_off63 : Fin 3 → Nat :=
  let c5_i32_44 : BitVec 32 := 5#32
  let c21_i32_778 : BitVec 32 := 21#32
  let v1291 : BitVec 32 := Scalar.divsi c5_i32_44 c21_i32_778
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  let v1297 : BitVec 32 := v1296
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  let v1301 : BitVec 32 := v1300
  ![v1291.toNat, v1297.toNat, v1301.toNat]
def k0_off64 : Fin 3 → Nat :=
  let c5_i32_44 : BitVec 32 := 5#32
  let c24_i32_800 : BitVec 32 := 24#32
  let c0_i32_801 : BitVec 32 := 0#32
  let v1330 : BitVec 1 := Scalar.cmpi .eq c24_i32_800 c0_i32_801
  let c1_i32_802 : BitVec 32 := 1#32
  let v1331 : BitVec 32 := Scalar.select v1330 c1_i32_802 c24_i32_800
  let v1332 : BitVec 32 := Scalar.remsi c5_i32_44 v1331
  let c0_i32_804 : BitVec 32 := 0#32
  let v1334 : BitVec 1 := Scalar.cmpi .slt v1332 c0_i32_804
  let c0_i32_805 : BitVec 32 := 0#32
  let v1335 : BitVec 1 := Scalar.cmpi .slt v1331 c0_i32_805
  let v1336 : BitVec 1 := Scalar.xori v1334 v1335
  let c0_i32_803 : BitVec 32 := 0#32
  let v1333 : BitVec 1 := Scalar.cmpi .ne v1332 c0_i32_803
  let v1337 : BitVec 1 := Scalar.andi v1336 v1333
  let v1338 : BitVec 32 := Scalar.addi v1332 v1331
  let v1339 : BitVec 32 := Scalar.select v1337 v1338 v1332
  let c128_i32_844 : BitVec 32 := 128#32
  let c128_i32_845 : BitVec 32 := 128#32
  ![v1339.toNat, 128, 128]
def k0_off65 : Fin 3 → Nat :=
  let c5_i32_44 : BitVec 32 := 5#32
  let c21_i32_778 : BitVec 32 := 21#32
  let v1291 : BitVec 32 := Scalar.divsi c5_i32_44 c21_i32_778
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  let v1325 : BitVec 32 := v1324
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  let v1329 : BitVec 32 := v1328
  ![v1291.toNat, v1325.toNat, v1329.toNat]
def k0_off66 : Fin 3 → Nat :=
  let c5_i32_44 : BitVec 32 := 5#32
  let c24_i32_815 : BitVec 32 := 24#32
  let c0_i32_816 : BitVec 32 := 0#32
  let v1358 : BitVec 1 := Scalar.cmpi .eq c24_i32_815 c0_i32_816
  let c1_i32_817 : BitVec 32 := 1#32
  let v1359 : BitVec 32 := Scalar.select v1358 c1_i32_817 c24_i32_815
  let v1360 : BitVec 32 := Scalar.remsi c5_i32_44 v1359
  let c0_i32_819 : BitVec 32 := 0#32
  let v1362 : BitVec 1 := Scalar.cmpi .slt v1360 c0_i32_819
  let c0_i32_820 : BitVec 32 := 0#32
  let v1363 : BitVec 1 := Scalar.cmpi .slt v1359 c0_i32_820
  let v1364 : BitVec 1 := Scalar.xori v1362 v1363
  let c0_i32_818 : BitVec 32 := 0#32
  let v1361 : BitVec 1 := Scalar.cmpi .ne v1360 c0_i32_818
  let v1365 : BitVec 1 := Scalar.andi v1364 v1361
  let v1366 : BitVec 32 := Scalar.addi v1360 v1359
  let v1367 : BitVec 32 := Scalar.select v1365 v1366 v1360
  let c256_i32_846 : BitVec 32 := 256#32
  let c256_i32_847 : BitVec 32 := 256#32
  ![v1367.toNat, 256, 256]
def k0_off67 : Fin 3 → Nat :=
  let c5_i32_44 : BitVec 32 := 5#32
  let c21_i32_778 : BitVec 32 := 21#32
  let v1291 : BitVec 32 := Scalar.divsi c5_i32_44 c21_i32_778
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  let v1353 : BitVec 32 := v1352
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  let v1357 : BitVec 32 := v1356
  ![v1291.toNat, v1353.toNat, v1357.toNat]
def k0_off68 : Fin 3 → Nat :=
  let c5_i32_44 : BitVec 32 := 5#32
  let c24_i32_830 : BitVec 32 := 24#32
  let c0_i32_831 : BitVec 32 := 0#32
  let v1386 : BitVec 1 := Scalar.cmpi .eq c24_i32_830 c0_i32_831
  let c1_i32_832 : BitVec 32 := 1#32
  let v1387 : BitVec 32 := Scalar.select v1386 c1_i32_832 c24_i32_830
  let v1388 : BitVec 32 := Scalar.remsi c5_i32_44 v1387
  let c0_i32_834 : BitVec 32 := 0#32
  let v1390 : BitVec 1 := Scalar.cmpi .slt v1388 c0_i32_834
  let c0_i32_835 : BitVec 32 := 0#32
  let v1391 : BitVec 1 := Scalar.cmpi .slt v1387 c0_i32_835
  let v1392 : BitVec 1 := Scalar.xori v1390 v1391
  let c0_i32_833 : BitVec 32 := 0#32
  let v1389 : BitVec 1 := Scalar.cmpi .ne v1388 c0_i32_833
  let v1393 : BitVec 1 := Scalar.andi v1392 v1389
  let v1394 : BitVec 32 := Scalar.addi v1388 v1387
  let v1395 : BitVec 32 := Scalar.select v1393 v1394 v1388
  let c384_i32_848 : BitVec 32 := 384#32
  let c384_i32_849 : BitVec 32 := 384#32
  ![v1395.toNat, 384, 384]
def k0_off69 : Fin 3 → Nat :=
  let c5_i32_44 : BitVec 32 := 5#32
  let c21_i32_778 : BitVec 32 := 21#32
  let v1291 : BitVec 32 := Scalar.divsi c5_i32_44 c21_i32_778
  let c21_i32_779 : BitVec 32 := 21#32
  let v1292 : BitVec 32 := Scalar.remsi c5_i32_44 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  let v1381 : BitVec 32 := v1380
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  let v1385 : BitVec 32 := v1384
  ![v1291.toNat, v1381.toNat, v1385.toNat]
def k0_cond12 : BitVec 1 :=
  let c5_i32 : BitVec 32 := 5#32
  let c21_i32_41 : BitVec 32 := 21#32
  let v48 : BitVec 32 := Scalar.remsi c5_i32 c21_i32_41
  let c6_i32_42 : BitVec 32 := 6#32
  let v49 : BitVec 32 := Scalar.divsi v48 c6_i32_42
  let c0_i32_43 : BitVec 32 := 0#32
  let v50 : BitVec 1 := Scalar.cmpi .eq v49 c0_i32_43
  let true_46 : BitVec 1 := 1#1
  let v53 : BitVec 1 := Scalar.xori v50 true_46
  let v54 : BitVec 32 := Scalar.extui v53
  let c0_i32_48 : BitVec 32 := 0#32
  let v55 : BitVec 1 := Scalar.cmpi .ne v54 c0_i32_48
  v55

def k0_mult107 : BitVec 32 :=
  let c5_i32_47 : BitVec 32 := 5#32
  let c21_i32_779 : BitVec 32 := 21#32
  let v1292 : BitVec 32 := Scalar.remsi c5_i32_47 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  v1297
def k0_mult108 : BitVec 32 :=
  let c5_i32_47 : BitVec 32 := 5#32
  let c21_i32_779 : BitVec 32 := 21#32
  let v1292 : BitVec 32 := Scalar.remsi c5_i32_47 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  v1299
def k0_off70 : Fin 1 → Nat :=
  let c5_i32_47 : BitVec 32 := 5#32
  let c24_i32_791 : BitVec 32 := 24#32
  let c0_i32_792 : BitVec 32 := 0#32
  let v1311 : BitVec 1 := Scalar.cmpi .eq c24_i32_791 c0_i32_792
  let c1_i32_793 : BitVec 32 := 1#32
  let v1312 : BitVec 32 := Scalar.select v1311 c1_i32_793 c24_i32_791
  let v1313 : BitVec 32 := Scalar.remsi c5_i32_47 v1312
  let c0_i32_795 : BitVec 32 := 0#32
  let v1315 : BitVec 1 := Scalar.cmpi .slt v1313 c0_i32_795
  let c0_i32_796 : BitVec 32 := 0#32
  let v1316 : BitVec 1 := Scalar.cmpi .slt v1312 c0_i32_796
  let v1317 : BitVec 1 := Scalar.xori v1315 v1316
  let c0_i32_794 : BitVec 32 := 0#32
  let v1314 : BitVec 1 := Scalar.cmpi .ne v1313 c0_i32_794
  let v1318 : BitVec 1 := Scalar.andi v1317 v1314
  let v1319 : BitVec 32 := Scalar.addi v1313 v1312
  let v1320 : BitVec 32 := Scalar.select v1318 v1319 v1313
  ![v1320.toNat]
def k0_off71 : Fin 3 → Nat :=
  let c5_i32_47 : BitVec 32 := 5#32
  let c24_i32_785 : BitVec 32 := 24#32
  let c0_i32_786 : BitVec 32 := 0#32
  let v1301 : BitVec 1 := Scalar.cmpi .eq c24_i32_785 c0_i32_786
  let c1_i32_787 : BitVec 32 := 1#32
  let v1302 : BitVec 32 := Scalar.select v1301 c1_i32_787 c24_i32_785
  let v1303 : BitVec 32 := Scalar.remsi c5_i32_47 v1302
  let c0_i32_789 : BitVec 32 := 0#32
  let v1305 : BitVec 1 := Scalar.cmpi .slt v1303 c0_i32_789
  let c0_i32_790 : BitVec 32 := 0#32
  let v1306 : BitVec 1 := Scalar.cmpi .slt v1302 c0_i32_790
  let v1307 : BitVec 1 := Scalar.xori v1305 v1306
  let c0_i32_788 : BitVec 32 := 0#32
  let v1304 : BitVec 1 := Scalar.cmpi .ne v1303 c0_i32_788
  let v1308 : BitVec 1 := Scalar.andi v1307 v1304
  let v1309 : BitVec 32 := Scalar.addi v1303 v1302
  let v1310 : BitVec 32 := Scalar.select v1308 v1309 v1303
  let c0_i32_797 : BitVec 32 := 0#32
  let c0_i32_798 : BitVec 32 := 0#32
  ![v1310.toNat, 0, 0]
def k0_off72 : Fin 3 → Nat :=
  let c5_i32_47 : BitVec 32 := 5#32
  let c21_i32_778 : BitVec 32 := 21#32
  let v1291 : BitVec 32 := Scalar.divsi c5_i32_47 c21_i32_778
  let c21_i32_779 : BitVec 32 := 21#32
  let v1292 : BitVec 32 := Scalar.remsi c5_i32_47 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  let v1298 : BitVec 32 := v1297
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  let v1300 : BitVec 32 := v1299
  ![v1291.toNat, v1298.toNat, v1300.toNat]
def k0_cond13 : BitVec 1 :=
  let c6_i32_49 : BitVec 32 := 6#32
  let c21_i32_50 : BitVec 32 := 21#32
  let v56 : BitVec 32 := Scalar.remsi c6_i32_49 c21_i32_50
  let c6_i32_51 : BitVec 32 := 6#32
  let v57 : BitVec 32 := Scalar.divsi v56 c6_i32_51
  let c0_i32_52 : BitVec 32 := 0#32
  let v58 : BitVec 1 := Scalar.cmpi .eq v57 c0_i32_52
  let v59 : BitVec 32 := Scalar.extui v58
  let c0_i32_54 : BitVec 32 := 0#32
  let v60 : BitVec 1 := Scalar.cmpi .ne v59 c0_i32_54
  v60

def k0_mult109 : BitVec 32 :=
  let c6_i32_53 : BitVec 32 := 6#32
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  v1294
def k0_mult110 : BitVec 32 :=
  let c6_i32_53 : BitVec 32 := 6#32
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  v1296
def k0_mult111 : BitVec 32 :=
  let c6_i32_53 : BitVec 32 := 6#32
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  v1298
def k0_mult112 : BitVec 32 :=
  let c6_i32_53 : BitVec 32 := 6#32
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  v1300
def k0_mult113 : BitVec 32 :=
  let c6_i32_53 : BitVec 32 := 6#32
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  v1322
def k0_mult114 : BitVec 32 :=
  let c6_i32_53 : BitVec 32 := 6#32
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  v1324
def k0_mult115 : BitVec 32 :=
  let c6_i32_53 : BitVec 32 := 6#32
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  v1326
def k0_mult116 : BitVec 32 :=
  let c6_i32_53 : BitVec 32 := 6#32
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  v1328
def k0_mult117 : BitVec 32 :=
  let c6_i32_53 : BitVec 32 := 6#32
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  v1350
def k0_mult118 : BitVec 32 :=
  let c6_i32_53 : BitVec 32 := 6#32
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  v1352
def k0_mult119 : BitVec 32 :=
  let c6_i32_53 : BitVec 32 := 6#32
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  v1354
def k0_mult120 : BitVec 32 :=
  let c6_i32_53 : BitVec 32 := 6#32
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  v1356
def k0_mult121 : BitVec 32 :=
  let c6_i32_53 : BitVec 32 := 6#32
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  v1378
def k0_mult122 : BitVec 32 :=
  let c6_i32_53 : BitVec 32 := 6#32
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  v1380
def k0_mult123 : BitVec 32 :=
  let c6_i32_53 : BitVec 32 := 6#32
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  v1382
def k0_mult124 : BitVec 32 :=
  let c6_i32_53 : BitVec 32 := 6#32
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  v1384
def k0_off73 : Fin 1 → Nat :=
  let c6_i32_53 : BitVec 32 := 6#32
  let c24_i32_791 : BitVec 32 := 24#32
  let c0_i32_792 : BitVec 32 := 0#32
  let v1312 : BitVec 1 := Scalar.cmpi .eq c24_i32_791 c0_i32_792
  let c1_i32_793 : BitVec 32 := 1#32
  let v1313 : BitVec 32 := Scalar.select v1312 c1_i32_793 c24_i32_791
  let v1314 : BitVec 32 := Scalar.remsi c6_i32_53 v1313
  let c0_i32_795 : BitVec 32 := 0#32
  let v1316 : BitVec 1 := Scalar.cmpi .slt v1314 c0_i32_795
  let c0_i32_796 : BitVec 32 := 0#32
  let v1317 : BitVec 1 := Scalar.cmpi .slt v1313 c0_i32_796
  let v1318 : BitVec 1 := Scalar.xori v1316 v1317
  let c0_i32_794 : BitVec 32 := 0#32
  let v1315 : BitVec 1 := Scalar.cmpi .ne v1314 c0_i32_794
  let v1319 : BitVec 1 := Scalar.andi v1318 v1315
  let v1320 : BitVec 32 := Scalar.addi v1314 v1313
  let v1321 : BitVec 32 := Scalar.select v1319 v1320 v1314
  ![v1321.toNat]
def k0_off74 : Fin 3 → Nat :=
  let c6_i32_53 : BitVec 32 := 6#32
  let c24_i32_785 : BitVec 32 := 24#32
  let c0_i32_786 : BitVec 32 := 0#32
  let v1302 : BitVec 1 := Scalar.cmpi .eq c24_i32_785 c0_i32_786
  let c1_i32_787 : BitVec 32 := 1#32
  let v1303 : BitVec 32 := Scalar.select v1302 c1_i32_787 c24_i32_785
  let v1304 : BitVec 32 := Scalar.remsi c6_i32_53 v1303
  let c0_i32_789 : BitVec 32 := 0#32
  let v1306 : BitVec 1 := Scalar.cmpi .slt v1304 c0_i32_789
  let c0_i32_790 : BitVec 32 := 0#32
  let v1307 : BitVec 1 := Scalar.cmpi .slt v1303 c0_i32_790
  let v1308 : BitVec 1 := Scalar.xori v1306 v1307
  let c0_i32_788 : BitVec 32 := 0#32
  let v1305 : BitVec 1 := Scalar.cmpi .ne v1304 c0_i32_788
  let v1309 : BitVec 1 := Scalar.andi v1308 v1305
  let v1310 : BitVec 32 := Scalar.addi v1304 v1303
  let v1311 : BitVec 32 := Scalar.select v1309 v1310 v1304
  let c0_i32_842 : BitVec 32 := 0#32
  let c0_i32_843 : BitVec 32 := 0#32
  ![v1311.toNat, 0, 0]
def k0_off75 : Fin 3 → Nat :=
  let c6_i32_53 : BitVec 32 := 6#32
  let c21_i32_778 : BitVec 32 := 21#32
  let v1291 : BitVec 32 := Scalar.divsi c6_i32_53 c21_i32_778
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  let v1297 : BitVec 32 := v1296
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  let v1301 : BitVec 32 := v1300
  ![v1291.toNat, v1297.toNat, v1301.toNat]
def k0_off76 : Fin 3 → Nat :=
  let c6_i32_53 : BitVec 32 := 6#32
  let c24_i32_800 : BitVec 32 := 24#32
  let c0_i32_801 : BitVec 32 := 0#32
  let v1330 : BitVec 1 := Scalar.cmpi .eq c24_i32_800 c0_i32_801
  let c1_i32_802 : BitVec 32 := 1#32
  let v1331 : BitVec 32 := Scalar.select v1330 c1_i32_802 c24_i32_800
  let v1332 : BitVec 32 := Scalar.remsi c6_i32_53 v1331
  let c0_i32_804 : BitVec 32 := 0#32
  let v1334 : BitVec 1 := Scalar.cmpi .slt v1332 c0_i32_804
  let c0_i32_805 : BitVec 32 := 0#32
  let v1335 : BitVec 1 := Scalar.cmpi .slt v1331 c0_i32_805
  let v1336 : BitVec 1 := Scalar.xori v1334 v1335
  let c0_i32_803 : BitVec 32 := 0#32
  let v1333 : BitVec 1 := Scalar.cmpi .ne v1332 c0_i32_803
  let v1337 : BitVec 1 := Scalar.andi v1336 v1333
  let v1338 : BitVec 32 := Scalar.addi v1332 v1331
  let v1339 : BitVec 32 := Scalar.select v1337 v1338 v1332
  let c128_i32_844 : BitVec 32 := 128#32
  let c128_i32_845 : BitVec 32 := 128#32
  ![v1339.toNat, 128, 128]
def k0_off77 : Fin 3 → Nat :=
  let c6_i32_53 : BitVec 32 := 6#32
  let c21_i32_778 : BitVec 32 := 21#32
  let v1291 : BitVec 32 := Scalar.divsi c6_i32_53 c21_i32_778
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  let v1325 : BitVec 32 := v1324
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  let v1329 : BitVec 32 := v1328
  ![v1291.toNat, v1325.toNat, v1329.toNat]
def k0_off78 : Fin 3 → Nat :=
  let c6_i32_53 : BitVec 32 := 6#32
  let c24_i32_815 : BitVec 32 := 24#32
  let c0_i32_816 : BitVec 32 := 0#32
  let v1358 : BitVec 1 := Scalar.cmpi .eq c24_i32_815 c0_i32_816
  let c1_i32_817 : BitVec 32 := 1#32
  let v1359 : BitVec 32 := Scalar.select v1358 c1_i32_817 c24_i32_815
  let v1360 : BitVec 32 := Scalar.remsi c6_i32_53 v1359
  let c0_i32_819 : BitVec 32 := 0#32
  let v1362 : BitVec 1 := Scalar.cmpi .slt v1360 c0_i32_819
  let c0_i32_820 : BitVec 32 := 0#32
  let v1363 : BitVec 1 := Scalar.cmpi .slt v1359 c0_i32_820
  let v1364 : BitVec 1 := Scalar.xori v1362 v1363
  let c0_i32_818 : BitVec 32 := 0#32
  let v1361 : BitVec 1 := Scalar.cmpi .ne v1360 c0_i32_818
  let v1365 : BitVec 1 := Scalar.andi v1364 v1361
  let v1366 : BitVec 32 := Scalar.addi v1360 v1359
  let v1367 : BitVec 32 := Scalar.select v1365 v1366 v1360
  let c256_i32_846 : BitVec 32 := 256#32
  let c256_i32_847 : BitVec 32 := 256#32
  ![v1367.toNat, 256, 256]
def k0_off79 : Fin 3 → Nat :=
  let c6_i32_53 : BitVec 32 := 6#32
  let c21_i32_778 : BitVec 32 := 21#32
  let v1291 : BitVec 32 := Scalar.divsi c6_i32_53 c21_i32_778
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  let v1353 : BitVec 32 := v1352
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  let v1357 : BitVec 32 := v1356
  ![v1291.toNat, v1353.toNat, v1357.toNat]
def k0_off80 : Fin 3 → Nat :=
  let c6_i32_53 : BitVec 32 := 6#32
  let c24_i32_830 : BitVec 32 := 24#32
  let c0_i32_831 : BitVec 32 := 0#32
  let v1386 : BitVec 1 := Scalar.cmpi .eq c24_i32_830 c0_i32_831
  let c1_i32_832 : BitVec 32 := 1#32
  let v1387 : BitVec 32 := Scalar.select v1386 c1_i32_832 c24_i32_830
  let v1388 : BitVec 32 := Scalar.remsi c6_i32_53 v1387
  let c0_i32_834 : BitVec 32 := 0#32
  let v1390 : BitVec 1 := Scalar.cmpi .slt v1388 c0_i32_834
  let c0_i32_835 : BitVec 32 := 0#32
  let v1391 : BitVec 1 := Scalar.cmpi .slt v1387 c0_i32_835
  let v1392 : BitVec 1 := Scalar.xori v1390 v1391
  let c0_i32_833 : BitVec 32 := 0#32
  let v1389 : BitVec 1 := Scalar.cmpi .ne v1388 c0_i32_833
  let v1393 : BitVec 1 := Scalar.andi v1392 v1389
  let v1394 : BitVec 32 := Scalar.addi v1388 v1387
  let v1395 : BitVec 32 := Scalar.select v1393 v1394 v1388
  let c384_i32_848 : BitVec 32 := 384#32
  let c384_i32_849 : BitVec 32 := 384#32
  ![v1395.toNat, 384, 384]
def k0_off81 : Fin 3 → Nat :=
  let c6_i32_53 : BitVec 32 := 6#32
  let c21_i32_778 : BitVec 32 := 21#32
  let v1291 : BitVec 32 := Scalar.divsi c6_i32_53 c21_i32_778
  let c21_i32_779 : BitVec 32 := 21#32
  let v1292 : BitVec 32 := Scalar.remsi c6_i32_53 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  let v1381 : BitVec 32 := v1380
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  let v1385 : BitVec 32 := v1384
  ![v1291.toNat, v1381.toNat, v1385.toNat]
def k0_cond14 : BitVec 1 :=
  let c6_i32_49 : BitVec 32 := 6#32
  let c21_i32_50 : BitVec 32 := 21#32
  let v56 : BitVec 32 := Scalar.remsi c6_i32_49 c21_i32_50
  let c6_i32_51 : BitVec 32 := 6#32
  let v57 : BitVec 32 := Scalar.divsi v56 c6_i32_51
  let c0_i32_52 : BitVec 32 := 0#32
  let v58 : BitVec 1 := Scalar.cmpi .eq v57 c0_i32_52
  let true_55 : BitVec 1 := 1#1
  let v61 : BitVec 1 := Scalar.xori v58 true_55
  let v62 : BitVec 32 := Scalar.extui v61
  let c0_i32_57 : BitVec 32 := 0#32
  let v63 : BitVec 1 := Scalar.cmpi .ne v62 c0_i32_57
  v63

def k0_mult125 : BitVec 32 :=
  let c6_i32_56 : BitVec 32 := 6#32
  let c21_i32_779 : BitVec 32 := 21#32
  let v1292 : BitVec 32 := Scalar.remsi c6_i32_56 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  v1297
def k0_mult126 : BitVec 32 :=
  let c6_i32_56 : BitVec 32 := 6#32
  let c21_i32_779 : BitVec 32 := 21#32
  let v1292 : BitVec 32 := Scalar.remsi c6_i32_56 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  v1299
def k0_off82 : Fin 1 → Nat :=
  let c6_i32_56 : BitVec 32 := 6#32
  let c24_i32_791 : BitVec 32 := 24#32
  let c0_i32_792 : BitVec 32 := 0#32
  let v1311 : BitVec 1 := Scalar.cmpi .eq c24_i32_791 c0_i32_792
  let c1_i32_793 : BitVec 32 := 1#32
  let v1312 : BitVec 32 := Scalar.select v1311 c1_i32_793 c24_i32_791
  let v1313 : BitVec 32 := Scalar.remsi c6_i32_56 v1312
  let c0_i32_795 : BitVec 32 := 0#32
  let v1315 : BitVec 1 := Scalar.cmpi .slt v1313 c0_i32_795
  let c0_i32_796 : BitVec 32 := 0#32
  let v1316 : BitVec 1 := Scalar.cmpi .slt v1312 c0_i32_796
  let v1317 : BitVec 1 := Scalar.xori v1315 v1316
  let c0_i32_794 : BitVec 32 := 0#32
  let v1314 : BitVec 1 := Scalar.cmpi .ne v1313 c0_i32_794
  let v1318 : BitVec 1 := Scalar.andi v1317 v1314
  let v1319 : BitVec 32 := Scalar.addi v1313 v1312
  let v1320 : BitVec 32 := Scalar.select v1318 v1319 v1313
  ![v1320.toNat]
def k0_off83 : Fin 3 → Nat :=
  let c6_i32_56 : BitVec 32 := 6#32
  let c24_i32_785 : BitVec 32 := 24#32
  let c0_i32_786 : BitVec 32 := 0#32
  let v1301 : BitVec 1 := Scalar.cmpi .eq c24_i32_785 c0_i32_786
  let c1_i32_787 : BitVec 32 := 1#32
  let v1302 : BitVec 32 := Scalar.select v1301 c1_i32_787 c24_i32_785
  let v1303 : BitVec 32 := Scalar.remsi c6_i32_56 v1302
  let c0_i32_789 : BitVec 32 := 0#32
  let v1305 : BitVec 1 := Scalar.cmpi .slt v1303 c0_i32_789
  let c0_i32_790 : BitVec 32 := 0#32
  let v1306 : BitVec 1 := Scalar.cmpi .slt v1302 c0_i32_790
  let v1307 : BitVec 1 := Scalar.xori v1305 v1306
  let c0_i32_788 : BitVec 32 := 0#32
  let v1304 : BitVec 1 := Scalar.cmpi .ne v1303 c0_i32_788
  let v1308 : BitVec 1 := Scalar.andi v1307 v1304
  let v1309 : BitVec 32 := Scalar.addi v1303 v1302
  let v1310 : BitVec 32 := Scalar.select v1308 v1309 v1303
  let c0_i32_797 : BitVec 32 := 0#32
  let c0_i32_798 : BitVec 32 := 0#32
  ![v1310.toNat, 0, 0]
def k0_off84 : Fin 3 → Nat :=
  let c6_i32_56 : BitVec 32 := 6#32
  let c21_i32_778 : BitVec 32 := 21#32
  let v1291 : BitVec 32 := Scalar.divsi c6_i32_56 c21_i32_778
  let c21_i32_779 : BitVec 32 := 21#32
  let v1292 : BitVec 32 := Scalar.remsi c6_i32_56 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  let v1298 : BitVec 32 := v1297
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  let v1300 : BitVec 32 := v1299
  ![v1291.toNat, v1298.toNat, v1300.toNat]
def k0_cond15 : BitVec 1 :=
  let c7_i32 : BitVec 32 := 7#32
  let c21_i32_58 : BitVec 32 := 21#32
  let v64 : BitVec 32 := Scalar.remsi c7_i32 c21_i32_58
  let c6_i32_59 : BitVec 32 := 6#32
  let v65 : BitVec 32 := Scalar.divsi v64 c6_i32_59
  let c0_i32_60 : BitVec 32 := 0#32
  let v66 : BitVec 1 := Scalar.cmpi .eq v65 c0_i32_60
  let v67 : BitVec 32 := Scalar.extui v66
  let c0_i32_62 : BitVec 32 := 0#32
  let v68 : BitVec 1 := Scalar.cmpi .ne v67 c0_i32_62
  v68

def k0_mult127 : BitVec 32 :=
  let c7_i32_61 : BitVec 32 := 7#32
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  v1294
def k0_mult128 : BitVec 32 :=
  let c7_i32_61 : BitVec 32 := 7#32
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  v1296
def k0_mult129 : BitVec 32 :=
  let c7_i32_61 : BitVec 32 := 7#32
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  v1298
def k0_mult130 : BitVec 32 :=
  let c7_i32_61 : BitVec 32 := 7#32
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  v1300
def k0_mult131 : BitVec 32 :=
  let c7_i32_61 : BitVec 32 := 7#32
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  v1322
def k0_mult132 : BitVec 32 :=
  let c7_i32_61 : BitVec 32 := 7#32
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  v1324
def k0_mult133 : BitVec 32 :=
  let c7_i32_61 : BitVec 32 := 7#32
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  v1326
def k0_mult134 : BitVec 32 :=
  let c7_i32_61 : BitVec 32 := 7#32
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  v1328
def k0_mult135 : BitVec 32 :=
  let c7_i32_61 : BitVec 32 := 7#32
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  v1350
def k0_mult136 : BitVec 32 :=
  let c7_i32_61 : BitVec 32 := 7#32
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  v1352
def k0_mult137 : BitVec 32 :=
  let c7_i32_61 : BitVec 32 := 7#32
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  v1354
def k0_mult138 : BitVec 32 :=
  let c7_i32_61 : BitVec 32 := 7#32
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  v1356
def k0_mult139 : BitVec 32 :=
  let c7_i32_61 : BitVec 32 := 7#32
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  v1378
def k0_mult140 : BitVec 32 :=
  let c7_i32_61 : BitVec 32 := 7#32
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  v1380
def k0_mult141 : BitVec 32 :=
  let c7_i32_61 : BitVec 32 := 7#32
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  v1382
def k0_mult142 : BitVec 32 :=
  let c7_i32_61 : BitVec 32 := 7#32
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  v1384
def k0_off85 : Fin 1 → Nat :=
  let c7_i32_61 : BitVec 32 := 7#32
  let c24_i32_791 : BitVec 32 := 24#32
  let c0_i32_792 : BitVec 32 := 0#32
  let v1312 : BitVec 1 := Scalar.cmpi .eq c24_i32_791 c0_i32_792
  let c1_i32_793 : BitVec 32 := 1#32
  let v1313 : BitVec 32 := Scalar.select v1312 c1_i32_793 c24_i32_791
  let v1314 : BitVec 32 := Scalar.remsi c7_i32_61 v1313
  let c0_i32_795 : BitVec 32 := 0#32
  let v1316 : BitVec 1 := Scalar.cmpi .slt v1314 c0_i32_795
  let c0_i32_796 : BitVec 32 := 0#32
  let v1317 : BitVec 1 := Scalar.cmpi .slt v1313 c0_i32_796
  let v1318 : BitVec 1 := Scalar.xori v1316 v1317
  let c0_i32_794 : BitVec 32 := 0#32
  let v1315 : BitVec 1 := Scalar.cmpi .ne v1314 c0_i32_794
  let v1319 : BitVec 1 := Scalar.andi v1318 v1315
  let v1320 : BitVec 32 := Scalar.addi v1314 v1313
  let v1321 : BitVec 32 := Scalar.select v1319 v1320 v1314
  ![v1321.toNat]
def k0_off86 : Fin 3 → Nat :=
  let c7_i32_61 : BitVec 32 := 7#32
  let c24_i32_785 : BitVec 32 := 24#32
  let c0_i32_786 : BitVec 32 := 0#32
  let v1302 : BitVec 1 := Scalar.cmpi .eq c24_i32_785 c0_i32_786
  let c1_i32_787 : BitVec 32 := 1#32
  let v1303 : BitVec 32 := Scalar.select v1302 c1_i32_787 c24_i32_785
  let v1304 : BitVec 32 := Scalar.remsi c7_i32_61 v1303
  let c0_i32_789 : BitVec 32 := 0#32
  let v1306 : BitVec 1 := Scalar.cmpi .slt v1304 c0_i32_789
  let c0_i32_790 : BitVec 32 := 0#32
  let v1307 : BitVec 1 := Scalar.cmpi .slt v1303 c0_i32_790
  let v1308 : BitVec 1 := Scalar.xori v1306 v1307
  let c0_i32_788 : BitVec 32 := 0#32
  let v1305 : BitVec 1 := Scalar.cmpi .ne v1304 c0_i32_788
  let v1309 : BitVec 1 := Scalar.andi v1308 v1305
  let v1310 : BitVec 32 := Scalar.addi v1304 v1303
  let v1311 : BitVec 32 := Scalar.select v1309 v1310 v1304
  let c0_i32_842 : BitVec 32 := 0#32
  let c0_i32_843 : BitVec 32 := 0#32
  ![v1311.toNat, 0, 0]
def k0_off87 : Fin 3 → Nat :=
  let c7_i32_61 : BitVec 32 := 7#32
  let c21_i32_778 : BitVec 32 := 21#32
  let v1291 : BitVec 32 := Scalar.divsi c7_i32_61 c21_i32_778
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  let v1297 : BitVec 32 := v1296
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  let v1301 : BitVec 32 := v1300
  ![v1291.toNat, v1297.toNat, v1301.toNat]
def k0_off88 : Fin 3 → Nat :=
  let c7_i32_61 : BitVec 32 := 7#32
  let c24_i32_800 : BitVec 32 := 24#32
  let c0_i32_801 : BitVec 32 := 0#32
  let v1330 : BitVec 1 := Scalar.cmpi .eq c24_i32_800 c0_i32_801
  let c1_i32_802 : BitVec 32 := 1#32
  let v1331 : BitVec 32 := Scalar.select v1330 c1_i32_802 c24_i32_800
  let v1332 : BitVec 32 := Scalar.remsi c7_i32_61 v1331
  let c0_i32_804 : BitVec 32 := 0#32
  let v1334 : BitVec 1 := Scalar.cmpi .slt v1332 c0_i32_804
  let c0_i32_805 : BitVec 32 := 0#32
  let v1335 : BitVec 1 := Scalar.cmpi .slt v1331 c0_i32_805
  let v1336 : BitVec 1 := Scalar.xori v1334 v1335
  let c0_i32_803 : BitVec 32 := 0#32
  let v1333 : BitVec 1 := Scalar.cmpi .ne v1332 c0_i32_803
  let v1337 : BitVec 1 := Scalar.andi v1336 v1333
  let v1338 : BitVec 32 := Scalar.addi v1332 v1331
  let v1339 : BitVec 32 := Scalar.select v1337 v1338 v1332
  let c128_i32_844 : BitVec 32 := 128#32
  let c128_i32_845 : BitVec 32 := 128#32
  ![v1339.toNat, 128, 128]
def k0_off89 : Fin 3 → Nat :=
  let c7_i32_61 : BitVec 32 := 7#32
  let c21_i32_778 : BitVec 32 := 21#32
  let v1291 : BitVec 32 := Scalar.divsi c7_i32_61 c21_i32_778
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  let v1325 : BitVec 32 := v1324
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  let v1329 : BitVec 32 := v1328
  ![v1291.toNat, v1325.toNat, v1329.toNat]
def k0_off90 : Fin 3 → Nat :=
  let c7_i32_61 : BitVec 32 := 7#32
  let c24_i32_815 : BitVec 32 := 24#32
  let c0_i32_816 : BitVec 32 := 0#32
  let v1358 : BitVec 1 := Scalar.cmpi .eq c24_i32_815 c0_i32_816
  let c1_i32_817 : BitVec 32 := 1#32
  let v1359 : BitVec 32 := Scalar.select v1358 c1_i32_817 c24_i32_815
  let v1360 : BitVec 32 := Scalar.remsi c7_i32_61 v1359
  let c0_i32_819 : BitVec 32 := 0#32
  let v1362 : BitVec 1 := Scalar.cmpi .slt v1360 c0_i32_819
  let c0_i32_820 : BitVec 32 := 0#32
  let v1363 : BitVec 1 := Scalar.cmpi .slt v1359 c0_i32_820
  let v1364 : BitVec 1 := Scalar.xori v1362 v1363
  let c0_i32_818 : BitVec 32 := 0#32
  let v1361 : BitVec 1 := Scalar.cmpi .ne v1360 c0_i32_818
  let v1365 : BitVec 1 := Scalar.andi v1364 v1361
  let v1366 : BitVec 32 := Scalar.addi v1360 v1359
  let v1367 : BitVec 32 := Scalar.select v1365 v1366 v1360
  let c256_i32_846 : BitVec 32 := 256#32
  let c256_i32_847 : BitVec 32 := 256#32
  ![v1367.toNat, 256, 256]
def k0_off91 : Fin 3 → Nat :=
  let c7_i32_61 : BitVec 32 := 7#32
  let c21_i32_778 : BitVec 32 := 21#32
  let v1291 : BitVec 32 := Scalar.divsi c7_i32_61 c21_i32_778
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  let v1353 : BitVec 32 := v1352
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  let v1357 : BitVec 32 := v1356
  ![v1291.toNat, v1353.toNat, v1357.toNat]
def k0_off92 : Fin 3 → Nat :=
  let c7_i32_61 : BitVec 32 := 7#32
  let c24_i32_830 : BitVec 32 := 24#32
  let c0_i32_831 : BitVec 32 := 0#32
  let v1386 : BitVec 1 := Scalar.cmpi .eq c24_i32_830 c0_i32_831
  let c1_i32_832 : BitVec 32 := 1#32
  let v1387 : BitVec 32 := Scalar.select v1386 c1_i32_832 c24_i32_830
  let v1388 : BitVec 32 := Scalar.remsi c7_i32_61 v1387
  let c0_i32_834 : BitVec 32 := 0#32
  let v1390 : BitVec 1 := Scalar.cmpi .slt v1388 c0_i32_834
  let c0_i32_835 : BitVec 32 := 0#32
  let v1391 : BitVec 1 := Scalar.cmpi .slt v1387 c0_i32_835
  let v1392 : BitVec 1 := Scalar.xori v1390 v1391
  let c0_i32_833 : BitVec 32 := 0#32
  let v1389 : BitVec 1 := Scalar.cmpi .ne v1388 c0_i32_833
  let v1393 : BitVec 1 := Scalar.andi v1392 v1389
  let v1394 : BitVec 32 := Scalar.addi v1388 v1387
  let v1395 : BitVec 32 := Scalar.select v1393 v1394 v1388
  let c384_i32_848 : BitVec 32 := 384#32
  let c384_i32_849 : BitVec 32 := 384#32
  ![v1395.toNat, 384, 384]
def k0_off93 : Fin 3 → Nat :=
  let c7_i32_61 : BitVec 32 := 7#32
  let c21_i32_778 : BitVec 32 := 21#32
  let v1291 : BitVec 32 := Scalar.divsi c7_i32_61 c21_i32_778
  let c21_i32_779 : BitVec 32 := 21#32
  let v1292 : BitVec 32 := Scalar.remsi c7_i32_61 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  let v1381 : BitVec 32 := v1380
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  let v1385 : BitVec 32 := v1384
  ![v1291.toNat, v1381.toNat, v1385.toNat]
def k0_cond16 : BitVec 1 :=
  let c7_i32 : BitVec 32 := 7#32
  let c21_i32_58 : BitVec 32 := 21#32
  let v64 : BitVec 32 := Scalar.remsi c7_i32 c21_i32_58
  let c6_i32_59 : BitVec 32 := 6#32
  let v65 : BitVec 32 := Scalar.divsi v64 c6_i32_59
  let c0_i32_60 : BitVec 32 := 0#32
  let v66 : BitVec 1 := Scalar.cmpi .eq v65 c0_i32_60
  let true_63 : BitVec 1 := 1#1
  let v69 : BitVec 1 := Scalar.xori v66 true_63
  let v70 : BitVec 32 := Scalar.extui v69
  let c0_i32_65 : BitVec 32 := 0#32
  let v71 : BitVec 1 := Scalar.cmpi .ne v70 c0_i32_65
  v71

def k0_mult143 : BitVec 32 :=
  let c7_i32_64 : BitVec 32 := 7#32
  let c21_i32_779 : BitVec 32 := 21#32
  let v1292 : BitVec 32 := Scalar.remsi c7_i32_64 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  v1297
def k0_mult144 : BitVec 32 :=
  let c7_i32_64 : BitVec 32 := 7#32
  let c21_i32_779 : BitVec 32 := 21#32
  let v1292 : BitVec 32 := Scalar.remsi c7_i32_64 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  v1299
def k0_off94 : Fin 1 → Nat :=
  let c7_i32_64 : BitVec 32 := 7#32
  let c24_i32_791 : BitVec 32 := 24#32
  let c0_i32_792 : BitVec 32 := 0#32
  let v1311 : BitVec 1 := Scalar.cmpi .eq c24_i32_791 c0_i32_792
  let c1_i32_793 : BitVec 32 := 1#32
  let v1312 : BitVec 32 := Scalar.select v1311 c1_i32_793 c24_i32_791
  let v1313 : BitVec 32 := Scalar.remsi c7_i32_64 v1312
  let c0_i32_795 : BitVec 32 := 0#32
  let v1315 : BitVec 1 := Scalar.cmpi .slt v1313 c0_i32_795
  let c0_i32_796 : BitVec 32 := 0#32
  let v1316 : BitVec 1 := Scalar.cmpi .slt v1312 c0_i32_796
  let v1317 : BitVec 1 := Scalar.xori v1315 v1316
  let c0_i32_794 : BitVec 32 := 0#32
  let v1314 : BitVec 1 := Scalar.cmpi .ne v1313 c0_i32_794
  let v1318 : BitVec 1 := Scalar.andi v1317 v1314
  let v1319 : BitVec 32 := Scalar.addi v1313 v1312
  let v1320 : BitVec 32 := Scalar.select v1318 v1319 v1313
  ![v1320.toNat]
def k0_off95 : Fin 3 → Nat :=
  let c7_i32_64 : BitVec 32 := 7#32
  let c24_i32_785 : BitVec 32 := 24#32
  let c0_i32_786 : BitVec 32 := 0#32
  let v1301 : BitVec 1 := Scalar.cmpi .eq c24_i32_785 c0_i32_786
  let c1_i32_787 : BitVec 32 := 1#32
  let v1302 : BitVec 32 := Scalar.select v1301 c1_i32_787 c24_i32_785
  let v1303 : BitVec 32 := Scalar.remsi c7_i32_64 v1302
  let c0_i32_789 : BitVec 32 := 0#32
  let v1305 : BitVec 1 := Scalar.cmpi .slt v1303 c0_i32_789
  let c0_i32_790 : BitVec 32 := 0#32
  let v1306 : BitVec 1 := Scalar.cmpi .slt v1302 c0_i32_790
  let v1307 : BitVec 1 := Scalar.xori v1305 v1306
  let c0_i32_788 : BitVec 32 := 0#32
  let v1304 : BitVec 1 := Scalar.cmpi .ne v1303 c0_i32_788
  let v1308 : BitVec 1 := Scalar.andi v1307 v1304
  let v1309 : BitVec 32 := Scalar.addi v1303 v1302
  let v1310 : BitVec 32 := Scalar.select v1308 v1309 v1303
  let c0_i32_797 : BitVec 32 := 0#32
  let c0_i32_798 : BitVec 32 := 0#32
  ![v1310.toNat, 0, 0]
def k0_off96 : Fin 3 → Nat :=
  let c7_i32_64 : BitVec 32 := 7#32
  let c21_i32_778 : BitVec 32 := 21#32
  let v1291 : BitVec 32 := Scalar.divsi c7_i32_64 c21_i32_778
  let c21_i32_779 : BitVec 32 := 21#32
  let v1292 : BitVec 32 := Scalar.remsi c7_i32_64 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  let v1298 : BitVec 32 := v1297
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  let v1300 : BitVec 32 := v1299
  ![v1291.toNat, v1298.toNat, v1300.toNat]
def k0_cond17 : BitVec 1 :=
  let c8_i32 : BitVec 32 := 8#32
  let c21_i32_66 : BitVec 32 := 21#32
  let v72 : BitVec 32 := Scalar.remsi c8_i32 c21_i32_66
  let c6_i32_67 : BitVec 32 := 6#32
  let v73 : BitVec 32 := Scalar.divsi v72 c6_i32_67
  let c0_i32_68 : BitVec 32 := 0#32
  let v74 : BitVec 1 := Scalar.cmpi .eq v73 c0_i32_68
  let v75 : BitVec 32 := Scalar.extui v74
  let c0_i32_70 : BitVec 32 := 0#32
  let v76 : BitVec 1 := Scalar.cmpi .ne v75 c0_i32_70
  v76

def k0_mult145 : BitVec 32 :=
  let c8_i32_69 : BitVec 32 := 8#32
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  v1294
def k0_mult146 : BitVec 32 :=
  let c8_i32_69 : BitVec 32 := 8#32
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  v1296
def k0_mult147 : BitVec 32 :=
  let c8_i32_69 : BitVec 32 := 8#32
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  v1298
def k0_mult148 : BitVec 32 :=
  let c8_i32_69 : BitVec 32 := 8#32
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  v1300
def k0_mult149 : BitVec 32 :=
  let c8_i32_69 : BitVec 32 := 8#32
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  v1322
def k0_mult150 : BitVec 32 :=
  let c8_i32_69 : BitVec 32 := 8#32
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  v1324
def k0_mult151 : BitVec 32 :=
  let c8_i32_69 : BitVec 32 := 8#32
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  v1326
def k0_mult152 : BitVec 32 :=
  let c8_i32_69 : BitVec 32 := 8#32
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  v1328
def k0_mult153 : BitVec 32 :=
  let c8_i32_69 : BitVec 32 := 8#32
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  v1350
def k0_mult154 : BitVec 32 :=
  let c8_i32_69 : BitVec 32 := 8#32
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  v1352
def k0_mult155 : BitVec 32 :=
  let c8_i32_69 : BitVec 32 := 8#32
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  v1354
def k0_mult156 : BitVec 32 :=
  let c8_i32_69 : BitVec 32 := 8#32
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  v1356
def k0_mult157 : BitVec 32 :=
  let c8_i32_69 : BitVec 32 := 8#32
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  v1378
def k0_mult158 : BitVec 32 :=
  let c8_i32_69 : BitVec 32 := 8#32
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  v1380
def k0_mult159 : BitVec 32 :=
  let c8_i32_69 : BitVec 32 := 8#32
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  v1382
def k0_mult160 : BitVec 32 :=
  let c8_i32_69 : BitVec 32 := 8#32
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  v1384
def k0_off97 : Fin 1 → Nat :=
  let c8_i32_69 : BitVec 32 := 8#32
  let c24_i32_791 : BitVec 32 := 24#32
  let c0_i32_792 : BitVec 32 := 0#32
  let v1312 : BitVec 1 := Scalar.cmpi .eq c24_i32_791 c0_i32_792
  let c1_i32_793 : BitVec 32 := 1#32
  let v1313 : BitVec 32 := Scalar.select v1312 c1_i32_793 c24_i32_791
  let v1314 : BitVec 32 := Scalar.remsi c8_i32_69 v1313
  let c0_i32_795 : BitVec 32 := 0#32
  let v1316 : BitVec 1 := Scalar.cmpi .slt v1314 c0_i32_795
  let c0_i32_796 : BitVec 32 := 0#32
  let v1317 : BitVec 1 := Scalar.cmpi .slt v1313 c0_i32_796
  let v1318 : BitVec 1 := Scalar.xori v1316 v1317
  let c0_i32_794 : BitVec 32 := 0#32
  let v1315 : BitVec 1 := Scalar.cmpi .ne v1314 c0_i32_794
  let v1319 : BitVec 1 := Scalar.andi v1318 v1315
  let v1320 : BitVec 32 := Scalar.addi v1314 v1313
  let v1321 : BitVec 32 := Scalar.select v1319 v1320 v1314
  ![v1321.toNat]
def k0_off98 : Fin 3 → Nat :=
  let c8_i32_69 : BitVec 32 := 8#32
  let c24_i32_785 : BitVec 32 := 24#32
  let c0_i32_786 : BitVec 32 := 0#32
  let v1302 : BitVec 1 := Scalar.cmpi .eq c24_i32_785 c0_i32_786
  let c1_i32_787 : BitVec 32 := 1#32
  let v1303 : BitVec 32 := Scalar.select v1302 c1_i32_787 c24_i32_785
  let v1304 : BitVec 32 := Scalar.remsi c8_i32_69 v1303
  let c0_i32_789 : BitVec 32 := 0#32
  let v1306 : BitVec 1 := Scalar.cmpi .slt v1304 c0_i32_789
  let c0_i32_790 : BitVec 32 := 0#32
  let v1307 : BitVec 1 := Scalar.cmpi .slt v1303 c0_i32_790
  let v1308 : BitVec 1 := Scalar.xori v1306 v1307
  let c0_i32_788 : BitVec 32 := 0#32
  let v1305 : BitVec 1 := Scalar.cmpi .ne v1304 c0_i32_788
  let v1309 : BitVec 1 := Scalar.andi v1308 v1305
  let v1310 : BitVec 32 := Scalar.addi v1304 v1303
  let v1311 : BitVec 32 := Scalar.select v1309 v1310 v1304
  let c0_i32_842 : BitVec 32 := 0#32
  let c0_i32_843 : BitVec 32 := 0#32
  ![v1311.toNat, 0, 0]
def k0_off99 : Fin 3 → Nat :=
  let c8_i32_69 : BitVec 32 := 8#32
  let c21_i32_778 : BitVec 32 := 21#32
  let v1291 : BitVec 32 := Scalar.divsi c8_i32_69 c21_i32_778
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  let v1297 : BitVec 32 := v1296
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  let v1301 : BitVec 32 := v1300
  ![v1291.toNat, v1297.toNat, v1301.toNat]
def k0_off100 : Fin 3 → Nat :=
  let c8_i32_69 : BitVec 32 := 8#32
  let c24_i32_800 : BitVec 32 := 24#32
  let c0_i32_801 : BitVec 32 := 0#32
  let v1330 : BitVec 1 := Scalar.cmpi .eq c24_i32_800 c0_i32_801
  let c1_i32_802 : BitVec 32 := 1#32
  let v1331 : BitVec 32 := Scalar.select v1330 c1_i32_802 c24_i32_800
  let v1332 : BitVec 32 := Scalar.remsi c8_i32_69 v1331
  let c0_i32_804 : BitVec 32 := 0#32
  let v1334 : BitVec 1 := Scalar.cmpi .slt v1332 c0_i32_804
  let c0_i32_805 : BitVec 32 := 0#32
  let v1335 : BitVec 1 := Scalar.cmpi .slt v1331 c0_i32_805
  let v1336 : BitVec 1 := Scalar.xori v1334 v1335
  let c0_i32_803 : BitVec 32 := 0#32
  let v1333 : BitVec 1 := Scalar.cmpi .ne v1332 c0_i32_803
  let v1337 : BitVec 1 := Scalar.andi v1336 v1333
  let v1338 : BitVec 32 := Scalar.addi v1332 v1331
  let v1339 : BitVec 32 := Scalar.select v1337 v1338 v1332
  let c128_i32_844 : BitVec 32 := 128#32
  let c128_i32_845 : BitVec 32 := 128#32
  ![v1339.toNat, 128, 128]
def k0_off101 : Fin 3 → Nat :=
  let c8_i32_69 : BitVec 32 := 8#32
  let c21_i32_778 : BitVec 32 := 21#32
  let v1291 : BitVec 32 := Scalar.divsi c8_i32_69 c21_i32_778
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  let v1325 : BitVec 32 := v1324
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  let v1329 : BitVec 32 := v1328
  ![v1291.toNat, v1325.toNat, v1329.toNat]
def k0_off102 : Fin 3 → Nat :=
  let c8_i32_69 : BitVec 32 := 8#32
  let c24_i32_815 : BitVec 32 := 24#32
  let c0_i32_816 : BitVec 32 := 0#32
  let v1358 : BitVec 1 := Scalar.cmpi .eq c24_i32_815 c0_i32_816
  let c1_i32_817 : BitVec 32 := 1#32
  let v1359 : BitVec 32 := Scalar.select v1358 c1_i32_817 c24_i32_815
  let v1360 : BitVec 32 := Scalar.remsi c8_i32_69 v1359
  let c0_i32_819 : BitVec 32 := 0#32
  let v1362 : BitVec 1 := Scalar.cmpi .slt v1360 c0_i32_819
  let c0_i32_820 : BitVec 32 := 0#32
  let v1363 : BitVec 1 := Scalar.cmpi .slt v1359 c0_i32_820
  let v1364 : BitVec 1 := Scalar.xori v1362 v1363
  let c0_i32_818 : BitVec 32 := 0#32
  let v1361 : BitVec 1 := Scalar.cmpi .ne v1360 c0_i32_818
  let v1365 : BitVec 1 := Scalar.andi v1364 v1361
  let v1366 : BitVec 32 := Scalar.addi v1360 v1359
  let v1367 : BitVec 32 := Scalar.select v1365 v1366 v1360
  let c256_i32_846 : BitVec 32 := 256#32
  let c256_i32_847 : BitVec 32 := 256#32
  ![v1367.toNat, 256, 256]
def k0_off103 : Fin 3 → Nat :=
  let c8_i32_69 : BitVec 32 := 8#32
  let c21_i32_778 : BitVec 32 := 21#32
  let v1291 : BitVec 32 := Scalar.divsi c8_i32_69 c21_i32_778
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  let v1353 : BitVec 32 := v1352
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  let v1357 : BitVec 32 := v1356
  ![v1291.toNat, v1353.toNat, v1357.toNat]
def k0_off104 : Fin 3 → Nat :=
  let c8_i32_69 : BitVec 32 := 8#32
  let c24_i32_830 : BitVec 32 := 24#32
  let c0_i32_831 : BitVec 32 := 0#32
  let v1386 : BitVec 1 := Scalar.cmpi .eq c24_i32_830 c0_i32_831
  let c1_i32_832 : BitVec 32 := 1#32
  let v1387 : BitVec 32 := Scalar.select v1386 c1_i32_832 c24_i32_830
  let v1388 : BitVec 32 := Scalar.remsi c8_i32_69 v1387
  let c0_i32_834 : BitVec 32 := 0#32
  let v1390 : BitVec 1 := Scalar.cmpi .slt v1388 c0_i32_834
  let c0_i32_835 : BitVec 32 := 0#32
  let v1391 : BitVec 1 := Scalar.cmpi .slt v1387 c0_i32_835
  let v1392 : BitVec 1 := Scalar.xori v1390 v1391
  let c0_i32_833 : BitVec 32 := 0#32
  let v1389 : BitVec 1 := Scalar.cmpi .ne v1388 c0_i32_833
  let v1393 : BitVec 1 := Scalar.andi v1392 v1389
  let v1394 : BitVec 32 := Scalar.addi v1388 v1387
  let v1395 : BitVec 32 := Scalar.select v1393 v1394 v1388
  let c384_i32_848 : BitVec 32 := 384#32
  let c384_i32_849 : BitVec 32 := 384#32
  ![v1395.toNat, 384, 384]
def k0_off105 : Fin 3 → Nat :=
  let c8_i32_69 : BitVec 32 := 8#32
  let c21_i32_778 : BitVec 32 := 21#32
  let v1291 : BitVec 32 := Scalar.divsi c8_i32_69 c21_i32_778
  let c21_i32_779 : BitVec 32 := 21#32
  let v1292 : BitVec 32 := Scalar.remsi c8_i32_69 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  let v1381 : BitVec 32 := v1380
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  let v1385 : BitVec 32 := v1384
  ![v1291.toNat, v1381.toNat, v1385.toNat]
def k0_cond18 : BitVec 1 :=
  let c8_i32 : BitVec 32 := 8#32
  let c21_i32_66 : BitVec 32 := 21#32
  let v72 : BitVec 32 := Scalar.remsi c8_i32 c21_i32_66
  let c6_i32_67 : BitVec 32 := 6#32
  let v73 : BitVec 32 := Scalar.divsi v72 c6_i32_67
  let c0_i32_68 : BitVec 32 := 0#32
  let v74 : BitVec 1 := Scalar.cmpi .eq v73 c0_i32_68
  let true_71 : BitVec 1 := 1#1
  let v77 : BitVec 1 := Scalar.xori v74 true_71
  let v78 : BitVec 32 := Scalar.extui v77
  let c0_i32_73 : BitVec 32 := 0#32
  let v79 : BitVec 1 := Scalar.cmpi .ne v78 c0_i32_73
  v79

def k0_mult161 : BitVec 32 :=
  let c8_i32_72 : BitVec 32 := 8#32
  let c21_i32_779 : BitVec 32 := 21#32
  let v1292 : BitVec 32 := Scalar.remsi c8_i32_72 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  v1297
def k0_mult162 : BitVec 32 :=
  let c8_i32_72 : BitVec 32 := 8#32
  let c21_i32_779 : BitVec 32 := 21#32
  let v1292 : BitVec 32 := Scalar.remsi c8_i32_72 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  v1299
def k0_off106 : Fin 1 → Nat :=
  let c8_i32_72 : BitVec 32 := 8#32
  let c24_i32_791 : BitVec 32 := 24#32
  let c0_i32_792 : BitVec 32 := 0#32
  let v1311 : BitVec 1 := Scalar.cmpi .eq c24_i32_791 c0_i32_792
  let c1_i32_793 : BitVec 32 := 1#32
  let v1312 : BitVec 32 := Scalar.select v1311 c1_i32_793 c24_i32_791
  let v1313 : BitVec 32 := Scalar.remsi c8_i32_72 v1312
  let c0_i32_795 : BitVec 32 := 0#32
  let v1315 : BitVec 1 := Scalar.cmpi .slt v1313 c0_i32_795
  let c0_i32_796 : BitVec 32 := 0#32
  let v1316 : BitVec 1 := Scalar.cmpi .slt v1312 c0_i32_796
  let v1317 : BitVec 1 := Scalar.xori v1315 v1316
  let c0_i32_794 : BitVec 32 := 0#32
  let v1314 : BitVec 1 := Scalar.cmpi .ne v1313 c0_i32_794
  let v1318 : BitVec 1 := Scalar.andi v1317 v1314
  let v1319 : BitVec 32 := Scalar.addi v1313 v1312
  let v1320 : BitVec 32 := Scalar.select v1318 v1319 v1313
  ![v1320.toNat]
def k0_off107 : Fin 3 → Nat :=
  let c8_i32_72 : BitVec 32 := 8#32
  let c24_i32_785 : BitVec 32 := 24#32
  let c0_i32_786 : BitVec 32 := 0#32
  let v1301 : BitVec 1 := Scalar.cmpi .eq c24_i32_785 c0_i32_786
  let c1_i32_787 : BitVec 32 := 1#32
  let v1302 : BitVec 32 := Scalar.select v1301 c1_i32_787 c24_i32_785
  let v1303 : BitVec 32 := Scalar.remsi c8_i32_72 v1302
  let c0_i32_789 : BitVec 32 := 0#32
  let v1305 : BitVec 1 := Scalar.cmpi .slt v1303 c0_i32_789
  let c0_i32_790 : BitVec 32 := 0#32
  let v1306 : BitVec 1 := Scalar.cmpi .slt v1302 c0_i32_790
  let v1307 : BitVec 1 := Scalar.xori v1305 v1306
  let c0_i32_788 : BitVec 32 := 0#32
  let v1304 : BitVec 1 := Scalar.cmpi .ne v1303 c0_i32_788
  let v1308 : BitVec 1 := Scalar.andi v1307 v1304
  let v1309 : BitVec 32 := Scalar.addi v1303 v1302
  let v1310 : BitVec 32 := Scalar.select v1308 v1309 v1303
  let c0_i32_797 : BitVec 32 := 0#32
  let c0_i32_798 : BitVec 32 := 0#32
  ![v1310.toNat, 0, 0]
def k0_off108 : Fin 3 → Nat :=
  let c8_i32_72 : BitVec 32 := 8#32
  let c21_i32_778 : BitVec 32 := 21#32
  let v1291 : BitVec 32 := Scalar.divsi c8_i32_72 c21_i32_778
  let c21_i32_779 : BitVec 32 := 21#32
  let v1292 : BitVec 32 := Scalar.remsi c8_i32_72 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  let v1298 : BitVec 32 := v1297
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  let v1300 : BitVec 32 := v1299
  ![v1291.toNat, v1298.toNat, v1300.toNat]
def k0_cond19 : BitVec 1 :=
  let c9_i32 : BitVec 32 := 9#32
  let c21_i32_74 : BitVec 32 := 21#32
  let v80 : BitVec 32 := Scalar.remsi c9_i32 c21_i32_74
  let c6_i32_75 : BitVec 32 := 6#32
  let v81 : BitVec 32 := Scalar.divsi v80 c6_i32_75
  let c0_i32_76 : BitVec 32 := 0#32
  let v82 : BitVec 1 := Scalar.cmpi .eq v81 c0_i32_76
  let v83 : BitVec 32 := Scalar.extui v82
  let c0_i32_78 : BitVec 32 := 0#32
  let v84 : BitVec 1 := Scalar.cmpi .ne v83 c0_i32_78
  v84

def k0_mult163 : BitVec 32 :=
  let c9_i32_77 : BitVec 32 := 9#32
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  v1294
def k0_mult164 : BitVec 32 :=
  let c9_i32_77 : BitVec 32 := 9#32
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  v1296
def k0_mult165 : BitVec 32 :=
  let c9_i32_77 : BitVec 32 := 9#32
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  v1298
def k0_mult166 : BitVec 32 :=
  let c9_i32_77 : BitVec 32 := 9#32
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  v1300
def k0_mult167 : BitVec 32 :=
  let c9_i32_77 : BitVec 32 := 9#32
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  v1322
def k0_mult168 : BitVec 32 :=
  let c9_i32_77 : BitVec 32 := 9#32
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  v1324
def k0_mult169 : BitVec 32 :=
  let c9_i32_77 : BitVec 32 := 9#32
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  v1326
def k0_mult170 : BitVec 32 :=
  let c9_i32_77 : BitVec 32 := 9#32
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  v1328
def k0_mult171 : BitVec 32 :=
  let c9_i32_77 : BitVec 32 := 9#32
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  v1350
def k0_mult172 : BitVec 32 :=
  let c9_i32_77 : BitVec 32 := 9#32
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  v1352
def k0_mult173 : BitVec 32 :=
  let c9_i32_77 : BitVec 32 := 9#32
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  v1354
def k0_mult174 : BitVec 32 :=
  let c9_i32_77 : BitVec 32 := 9#32
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  v1356
def k0_mult175 : BitVec 32 :=
  let c9_i32_77 : BitVec 32 := 9#32
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  v1378
def k0_mult176 : BitVec 32 :=
  let c9_i32_77 : BitVec 32 := 9#32
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  v1380
def k0_mult177 : BitVec 32 :=
  let c9_i32_77 : BitVec 32 := 9#32
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  v1382
def k0_mult178 : BitVec 32 :=
  let c9_i32_77 : BitVec 32 := 9#32
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  v1384
def k0_off109 : Fin 1 → Nat :=
  let c9_i32_77 : BitVec 32 := 9#32
  let c24_i32_791 : BitVec 32 := 24#32
  let c0_i32_792 : BitVec 32 := 0#32
  let v1312 : BitVec 1 := Scalar.cmpi .eq c24_i32_791 c0_i32_792
  let c1_i32_793 : BitVec 32 := 1#32
  let v1313 : BitVec 32 := Scalar.select v1312 c1_i32_793 c24_i32_791
  let v1314 : BitVec 32 := Scalar.remsi c9_i32_77 v1313
  let c0_i32_795 : BitVec 32 := 0#32
  let v1316 : BitVec 1 := Scalar.cmpi .slt v1314 c0_i32_795
  let c0_i32_796 : BitVec 32 := 0#32
  let v1317 : BitVec 1 := Scalar.cmpi .slt v1313 c0_i32_796
  let v1318 : BitVec 1 := Scalar.xori v1316 v1317
  let c0_i32_794 : BitVec 32 := 0#32
  let v1315 : BitVec 1 := Scalar.cmpi .ne v1314 c0_i32_794
  let v1319 : BitVec 1 := Scalar.andi v1318 v1315
  let v1320 : BitVec 32 := Scalar.addi v1314 v1313
  let v1321 : BitVec 32 := Scalar.select v1319 v1320 v1314
  ![v1321.toNat]
def k0_off110 : Fin 3 → Nat :=
  let c9_i32_77 : BitVec 32 := 9#32
  let c24_i32_785 : BitVec 32 := 24#32
  let c0_i32_786 : BitVec 32 := 0#32
  let v1302 : BitVec 1 := Scalar.cmpi .eq c24_i32_785 c0_i32_786
  let c1_i32_787 : BitVec 32 := 1#32
  let v1303 : BitVec 32 := Scalar.select v1302 c1_i32_787 c24_i32_785
  let v1304 : BitVec 32 := Scalar.remsi c9_i32_77 v1303
  let c0_i32_789 : BitVec 32 := 0#32
  let v1306 : BitVec 1 := Scalar.cmpi .slt v1304 c0_i32_789
  let c0_i32_790 : BitVec 32 := 0#32
  let v1307 : BitVec 1 := Scalar.cmpi .slt v1303 c0_i32_790
  let v1308 : BitVec 1 := Scalar.xori v1306 v1307
  let c0_i32_788 : BitVec 32 := 0#32
  let v1305 : BitVec 1 := Scalar.cmpi .ne v1304 c0_i32_788
  let v1309 : BitVec 1 := Scalar.andi v1308 v1305
  let v1310 : BitVec 32 := Scalar.addi v1304 v1303
  let v1311 : BitVec 32 := Scalar.select v1309 v1310 v1304
  let c0_i32_842 : BitVec 32 := 0#32
  let c0_i32_843 : BitVec 32 := 0#32
  ![v1311.toNat, 0, 0]
def k0_off111 : Fin 3 → Nat :=
  let c9_i32_77 : BitVec 32 := 9#32
  let c21_i32_778 : BitVec 32 := 21#32
  let v1291 : BitVec 32 := Scalar.divsi c9_i32_77 c21_i32_778
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  let v1297 : BitVec 32 := v1296
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  let v1301 : BitVec 32 := v1300
  ![v1291.toNat, v1297.toNat, v1301.toNat]
def k0_off112 : Fin 3 → Nat :=
  let c9_i32_77 : BitVec 32 := 9#32
  let c24_i32_800 : BitVec 32 := 24#32
  let c0_i32_801 : BitVec 32 := 0#32
  let v1330 : BitVec 1 := Scalar.cmpi .eq c24_i32_800 c0_i32_801
  let c1_i32_802 : BitVec 32 := 1#32
  let v1331 : BitVec 32 := Scalar.select v1330 c1_i32_802 c24_i32_800
  let v1332 : BitVec 32 := Scalar.remsi c9_i32_77 v1331
  let c0_i32_804 : BitVec 32 := 0#32
  let v1334 : BitVec 1 := Scalar.cmpi .slt v1332 c0_i32_804
  let c0_i32_805 : BitVec 32 := 0#32
  let v1335 : BitVec 1 := Scalar.cmpi .slt v1331 c0_i32_805
  let v1336 : BitVec 1 := Scalar.xori v1334 v1335
  let c0_i32_803 : BitVec 32 := 0#32
  let v1333 : BitVec 1 := Scalar.cmpi .ne v1332 c0_i32_803
  let v1337 : BitVec 1 := Scalar.andi v1336 v1333
  let v1338 : BitVec 32 := Scalar.addi v1332 v1331
  let v1339 : BitVec 32 := Scalar.select v1337 v1338 v1332
  let c128_i32_844 : BitVec 32 := 128#32
  let c128_i32_845 : BitVec 32 := 128#32
  ![v1339.toNat, 128, 128]
def k0_off113 : Fin 3 → Nat :=
  let c9_i32_77 : BitVec 32 := 9#32
  let c21_i32_778 : BitVec 32 := 21#32
  let v1291 : BitVec 32 := Scalar.divsi c9_i32_77 c21_i32_778
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  let v1325 : BitVec 32 := v1324
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  let v1329 : BitVec 32 := v1328
  ![v1291.toNat, v1325.toNat, v1329.toNat]
def k0_off114 : Fin 3 → Nat :=
  let c9_i32_77 : BitVec 32 := 9#32
  let c24_i32_815 : BitVec 32 := 24#32
  let c0_i32_816 : BitVec 32 := 0#32
  let v1358 : BitVec 1 := Scalar.cmpi .eq c24_i32_815 c0_i32_816
  let c1_i32_817 : BitVec 32 := 1#32
  let v1359 : BitVec 32 := Scalar.select v1358 c1_i32_817 c24_i32_815
  let v1360 : BitVec 32 := Scalar.remsi c9_i32_77 v1359
  let c0_i32_819 : BitVec 32 := 0#32
  let v1362 : BitVec 1 := Scalar.cmpi .slt v1360 c0_i32_819
  let c0_i32_820 : BitVec 32 := 0#32
  let v1363 : BitVec 1 := Scalar.cmpi .slt v1359 c0_i32_820
  let v1364 : BitVec 1 := Scalar.xori v1362 v1363
  let c0_i32_818 : BitVec 32 := 0#32
  let v1361 : BitVec 1 := Scalar.cmpi .ne v1360 c0_i32_818
  let v1365 : BitVec 1 := Scalar.andi v1364 v1361
  let v1366 : BitVec 32 := Scalar.addi v1360 v1359
  let v1367 : BitVec 32 := Scalar.select v1365 v1366 v1360
  let c256_i32_846 : BitVec 32 := 256#32
  let c256_i32_847 : BitVec 32 := 256#32
  ![v1367.toNat, 256, 256]
def k0_off115 : Fin 3 → Nat :=
  let c9_i32_77 : BitVec 32 := 9#32
  let c21_i32_778 : BitVec 32 := 21#32
  let v1291 : BitVec 32 := Scalar.divsi c9_i32_77 c21_i32_778
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  let v1353 : BitVec 32 := v1352
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  let v1357 : BitVec 32 := v1356
  ![v1291.toNat, v1353.toNat, v1357.toNat]
def k0_off116 : Fin 3 → Nat :=
  let c9_i32_77 : BitVec 32 := 9#32
  let c24_i32_830 : BitVec 32 := 24#32
  let c0_i32_831 : BitVec 32 := 0#32
  let v1386 : BitVec 1 := Scalar.cmpi .eq c24_i32_830 c0_i32_831
  let c1_i32_832 : BitVec 32 := 1#32
  let v1387 : BitVec 32 := Scalar.select v1386 c1_i32_832 c24_i32_830
  let v1388 : BitVec 32 := Scalar.remsi c9_i32_77 v1387
  let c0_i32_834 : BitVec 32 := 0#32
  let v1390 : BitVec 1 := Scalar.cmpi .slt v1388 c0_i32_834
  let c0_i32_835 : BitVec 32 := 0#32
  let v1391 : BitVec 1 := Scalar.cmpi .slt v1387 c0_i32_835
  let v1392 : BitVec 1 := Scalar.xori v1390 v1391
  let c0_i32_833 : BitVec 32 := 0#32
  let v1389 : BitVec 1 := Scalar.cmpi .ne v1388 c0_i32_833
  let v1393 : BitVec 1 := Scalar.andi v1392 v1389
  let v1394 : BitVec 32 := Scalar.addi v1388 v1387
  let v1395 : BitVec 32 := Scalar.select v1393 v1394 v1388
  let c384_i32_848 : BitVec 32 := 384#32
  let c384_i32_849 : BitVec 32 := 384#32
  ![v1395.toNat, 384, 384]
def k0_off117 : Fin 3 → Nat :=
  let c9_i32_77 : BitVec 32 := 9#32
  let c21_i32_778 : BitVec 32 := 21#32
  let v1291 : BitVec 32 := Scalar.divsi c9_i32_77 c21_i32_778
  let c21_i32_779 : BitVec 32 := 21#32
  let v1292 : BitVec 32 := Scalar.remsi c9_i32_77 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  let v1381 : BitVec 32 := v1380
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  let v1385 : BitVec 32 := v1384
  ![v1291.toNat, v1381.toNat, v1385.toNat]
def k0_cond20 : BitVec 1 :=
  let c9_i32 : BitVec 32 := 9#32
  let c21_i32_74 : BitVec 32 := 21#32
  let v80 : BitVec 32 := Scalar.remsi c9_i32 c21_i32_74
  let c6_i32_75 : BitVec 32 := 6#32
  let v81 : BitVec 32 := Scalar.divsi v80 c6_i32_75
  let c0_i32_76 : BitVec 32 := 0#32
  let v82 : BitVec 1 := Scalar.cmpi .eq v81 c0_i32_76
  let true_79 : BitVec 1 := 1#1
  let v85 : BitVec 1 := Scalar.xori v82 true_79
  let v86 : BitVec 32 := Scalar.extui v85
  let c0_i32_81 : BitVec 32 := 0#32
  let v87 : BitVec 1 := Scalar.cmpi .ne v86 c0_i32_81
  v87

def k0_mult179 : BitVec 32 :=
  let c9_i32_80 : BitVec 32 := 9#32
  let c21_i32_779 : BitVec 32 := 21#32
  let v1292 : BitVec 32 := Scalar.remsi c9_i32_80 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  v1297
def k0_mult180 : BitVec 32 :=
  let c9_i32_80 : BitVec 32 := 9#32
  let c21_i32_779 : BitVec 32 := 21#32
  let v1292 : BitVec 32 := Scalar.remsi c9_i32_80 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  v1299
def k0_off118 : Fin 1 → Nat :=
  let c9_i32_80 : BitVec 32 := 9#32
  let c24_i32_791 : BitVec 32 := 24#32
  let c0_i32_792 : BitVec 32 := 0#32
  let v1311 : BitVec 1 := Scalar.cmpi .eq c24_i32_791 c0_i32_792
  let c1_i32_793 : BitVec 32 := 1#32
  let v1312 : BitVec 32 := Scalar.select v1311 c1_i32_793 c24_i32_791
  let v1313 : BitVec 32 := Scalar.remsi c9_i32_80 v1312
  let c0_i32_795 : BitVec 32 := 0#32
  let v1315 : BitVec 1 := Scalar.cmpi .slt v1313 c0_i32_795
  let c0_i32_796 : BitVec 32 := 0#32
  let v1316 : BitVec 1 := Scalar.cmpi .slt v1312 c0_i32_796
  let v1317 : BitVec 1 := Scalar.xori v1315 v1316
  let c0_i32_794 : BitVec 32 := 0#32
  let v1314 : BitVec 1 := Scalar.cmpi .ne v1313 c0_i32_794
  let v1318 : BitVec 1 := Scalar.andi v1317 v1314
  let v1319 : BitVec 32 := Scalar.addi v1313 v1312
  let v1320 : BitVec 32 := Scalar.select v1318 v1319 v1313
  ![v1320.toNat]
def k0_off119 : Fin 3 → Nat :=
  let c9_i32_80 : BitVec 32 := 9#32
  let c24_i32_785 : BitVec 32 := 24#32
  let c0_i32_786 : BitVec 32 := 0#32
  let v1301 : BitVec 1 := Scalar.cmpi .eq c24_i32_785 c0_i32_786
  let c1_i32_787 : BitVec 32 := 1#32
  let v1302 : BitVec 32 := Scalar.select v1301 c1_i32_787 c24_i32_785
  let v1303 : BitVec 32 := Scalar.remsi c9_i32_80 v1302
  let c0_i32_789 : BitVec 32 := 0#32
  let v1305 : BitVec 1 := Scalar.cmpi .slt v1303 c0_i32_789
  let c0_i32_790 : BitVec 32 := 0#32
  let v1306 : BitVec 1 := Scalar.cmpi .slt v1302 c0_i32_790
  let v1307 : BitVec 1 := Scalar.xori v1305 v1306
  let c0_i32_788 : BitVec 32 := 0#32
  let v1304 : BitVec 1 := Scalar.cmpi .ne v1303 c0_i32_788
  let v1308 : BitVec 1 := Scalar.andi v1307 v1304
  let v1309 : BitVec 32 := Scalar.addi v1303 v1302
  let v1310 : BitVec 32 := Scalar.select v1308 v1309 v1303
  let c0_i32_797 : BitVec 32 := 0#32
  let c0_i32_798 : BitVec 32 := 0#32
  ![v1310.toNat, 0, 0]
def k0_off120 : Fin 3 → Nat :=
  let c9_i32_80 : BitVec 32 := 9#32
  let c21_i32_778 : BitVec 32 := 21#32
  let v1291 : BitVec 32 := Scalar.divsi c9_i32_80 c21_i32_778
  let c21_i32_779 : BitVec 32 := 21#32
  let v1292 : BitVec 32 := Scalar.remsi c9_i32_80 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  let v1298 : BitVec 32 := v1297
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  let v1300 : BitVec 32 := v1299
  ![v1291.toNat, v1298.toNat, v1300.toNat]
def k0_cond21 : BitVec 1 :=
  let c10_i32 : BitVec 32 := 10#32
  let c21_i32_82 : BitVec 32 := 21#32
  let v88 : BitVec 32 := Scalar.remsi c10_i32 c21_i32_82
  let c6_i32_83 : BitVec 32 := 6#32
  let v89 : BitVec 32 := Scalar.divsi v88 c6_i32_83
  let c0_i32_84 : BitVec 32 := 0#32
  let v90 : BitVec 1 := Scalar.cmpi .eq v89 c0_i32_84
  let v91 : BitVec 32 := Scalar.extui v90
  let c0_i32_86 : BitVec 32 := 0#32
  let v92 : BitVec 1 := Scalar.cmpi .ne v91 c0_i32_86
  v92

def k0_mult181 : BitVec 32 :=
  let c10_i32_85 : BitVec 32 := 10#32
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  v1294
def k0_mult182 : BitVec 32 :=
  let c10_i32_85 : BitVec 32 := 10#32
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  v1296
def k0_mult183 : BitVec 32 :=
  let c10_i32_85 : BitVec 32 := 10#32
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  v1298
def k0_mult184 : BitVec 32 :=
  let c10_i32_85 : BitVec 32 := 10#32
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  v1300
def k0_mult185 : BitVec 32 :=
  let c10_i32_85 : BitVec 32 := 10#32
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  v1322
def k0_mult186 : BitVec 32 :=
  let c10_i32_85 : BitVec 32 := 10#32
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  v1324
def k0_mult187 : BitVec 32 :=
  let c10_i32_85 : BitVec 32 := 10#32
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  v1326
def k0_mult188 : BitVec 32 :=
  let c10_i32_85 : BitVec 32 := 10#32
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  v1328
def k0_mult189 : BitVec 32 :=
  let c10_i32_85 : BitVec 32 := 10#32
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  v1350
def k0_mult190 : BitVec 32 :=
  let c10_i32_85 : BitVec 32 := 10#32
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  v1352
def k0_mult191 : BitVec 32 :=
  let c10_i32_85 : BitVec 32 := 10#32
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  v1354
def k0_mult192 : BitVec 32 :=
  let c10_i32_85 : BitVec 32 := 10#32
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  v1356
def k0_mult193 : BitVec 32 :=
  let c10_i32_85 : BitVec 32 := 10#32
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  v1378
def k0_mult194 : BitVec 32 :=
  let c10_i32_85 : BitVec 32 := 10#32
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  v1380
def k0_mult195 : BitVec 32 :=
  let c10_i32_85 : BitVec 32 := 10#32
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  v1382
def k0_mult196 : BitVec 32 :=
  let c10_i32_85 : BitVec 32 := 10#32
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  v1384
def k0_off121 : Fin 1 → Nat :=
  let c10_i32_85 : BitVec 32 := 10#32
  let c24_i32_791 : BitVec 32 := 24#32
  let c0_i32_792 : BitVec 32 := 0#32
  let v1312 : BitVec 1 := Scalar.cmpi .eq c24_i32_791 c0_i32_792
  let c1_i32_793 : BitVec 32 := 1#32
  let v1313 : BitVec 32 := Scalar.select v1312 c1_i32_793 c24_i32_791
  let v1314 : BitVec 32 := Scalar.remsi c10_i32_85 v1313
  let c0_i32_795 : BitVec 32 := 0#32
  let v1316 : BitVec 1 := Scalar.cmpi .slt v1314 c0_i32_795
  let c0_i32_796 : BitVec 32 := 0#32
  let v1317 : BitVec 1 := Scalar.cmpi .slt v1313 c0_i32_796
  let v1318 : BitVec 1 := Scalar.xori v1316 v1317
  let c0_i32_794 : BitVec 32 := 0#32
  let v1315 : BitVec 1 := Scalar.cmpi .ne v1314 c0_i32_794
  let v1319 : BitVec 1 := Scalar.andi v1318 v1315
  let v1320 : BitVec 32 := Scalar.addi v1314 v1313
  let v1321 : BitVec 32 := Scalar.select v1319 v1320 v1314
  ![v1321.toNat]
def k0_off122 : Fin 3 → Nat :=
  let c10_i32_85 : BitVec 32 := 10#32
  let c24_i32_785 : BitVec 32 := 24#32
  let c0_i32_786 : BitVec 32 := 0#32
  let v1302 : BitVec 1 := Scalar.cmpi .eq c24_i32_785 c0_i32_786
  let c1_i32_787 : BitVec 32 := 1#32
  let v1303 : BitVec 32 := Scalar.select v1302 c1_i32_787 c24_i32_785
  let v1304 : BitVec 32 := Scalar.remsi c10_i32_85 v1303
  let c0_i32_789 : BitVec 32 := 0#32
  let v1306 : BitVec 1 := Scalar.cmpi .slt v1304 c0_i32_789
  let c0_i32_790 : BitVec 32 := 0#32
  let v1307 : BitVec 1 := Scalar.cmpi .slt v1303 c0_i32_790
  let v1308 : BitVec 1 := Scalar.xori v1306 v1307
  let c0_i32_788 : BitVec 32 := 0#32
  let v1305 : BitVec 1 := Scalar.cmpi .ne v1304 c0_i32_788
  let v1309 : BitVec 1 := Scalar.andi v1308 v1305
  let v1310 : BitVec 32 := Scalar.addi v1304 v1303
  let v1311 : BitVec 32 := Scalar.select v1309 v1310 v1304
  let c0_i32_842 : BitVec 32 := 0#32
  let c0_i32_843 : BitVec 32 := 0#32
  ![v1311.toNat, 0, 0]
def k0_off123 : Fin 3 → Nat :=
  let c10_i32_85 : BitVec 32 := 10#32
  let c21_i32_778 : BitVec 32 := 21#32
  let v1291 : BitVec 32 := Scalar.divsi c10_i32_85 c21_i32_778
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  let v1297 : BitVec 32 := v1296
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  let v1301 : BitVec 32 := v1300
  ![v1291.toNat, v1297.toNat, v1301.toNat]
def k0_off124 : Fin 3 → Nat :=
  let c10_i32_85 : BitVec 32 := 10#32
  let c24_i32_800 : BitVec 32 := 24#32
  let c0_i32_801 : BitVec 32 := 0#32
  let v1330 : BitVec 1 := Scalar.cmpi .eq c24_i32_800 c0_i32_801
  let c1_i32_802 : BitVec 32 := 1#32
  let v1331 : BitVec 32 := Scalar.select v1330 c1_i32_802 c24_i32_800
  let v1332 : BitVec 32 := Scalar.remsi c10_i32_85 v1331
  let c0_i32_804 : BitVec 32 := 0#32
  let v1334 : BitVec 1 := Scalar.cmpi .slt v1332 c0_i32_804
  let c0_i32_805 : BitVec 32 := 0#32
  let v1335 : BitVec 1 := Scalar.cmpi .slt v1331 c0_i32_805
  let v1336 : BitVec 1 := Scalar.xori v1334 v1335
  let c0_i32_803 : BitVec 32 := 0#32
  let v1333 : BitVec 1 := Scalar.cmpi .ne v1332 c0_i32_803
  let v1337 : BitVec 1 := Scalar.andi v1336 v1333
  let v1338 : BitVec 32 := Scalar.addi v1332 v1331
  let v1339 : BitVec 32 := Scalar.select v1337 v1338 v1332
  let c128_i32_844 : BitVec 32 := 128#32
  let c128_i32_845 : BitVec 32 := 128#32
  ![v1339.toNat, 128, 128]
def k0_off125 : Fin 3 → Nat :=
  let c10_i32_85 : BitVec 32 := 10#32
  let c21_i32_778 : BitVec 32 := 21#32
  let v1291 : BitVec 32 := Scalar.divsi c10_i32_85 c21_i32_778
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  let v1325 : BitVec 32 := v1324
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  let v1329 : BitVec 32 := v1328
  ![v1291.toNat, v1325.toNat, v1329.toNat]
def k0_off126 : Fin 3 → Nat :=
  let c10_i32_85 : BitVec 32 := 10#32
  let c24_i32_815 : BitVec 32 := 24#32
  let c0_i32_816 : BitVec 32 := 0#32
  let v1358 : BitVec 1 := Scalar.cmpi .eq c24_i32_815 c0_i32_816
  let c1_i32_817 : BitVec 32 := 1#32
  let v1359 : BitVec 32 := Scalar.select v1358 c1_i32_817 c24_i32_815
  let v1360 : BitVec 32 := Scalar.remsi c10_i32_85 v1359
  let c0_i32_819 : BitVec 32 := 0#32
  let v1362 : BitVec 1 := Scalar.cmpi .slt v1360 c0_i32_819
  let c0_i32_820 : BitVec 32 := 0#32
  let v1363 : BitVec 1 := Scalar.cmpi .slt v1359 c0_i32_820
  let v1364 : BitVec 1 := Scalar.xori v1362 v1363
  let c0_i32_818 : BitVec 32 := 0#32
  let v1361 : BitVec 1 := Scalar.cmpi .ne v1360 c0_i32_818
  let v1365 : BitVec 1 := Scalar.andi v1364 v1361
  let v1366 : BitVec 32 := Scalar.addi v1360 v1359
  let v1367 : BitVec 32 := Scalar.select v1365 v1366 v1360
  let c256_i32_846 : BitVec 32 := 256#32
  let c256_i32_847 : BitVec 32 := 256#32
  ![v1367.toNat, 256, 256]
def k0_off127 : Fin 3 → Nat :=
  let c10_i32_85 : BitVec 32 := 10#32
  let c21_i32_778 : BitVec 32 := 21#32
  let v1291 : BitVec 32 := Scalar.divsi c10_i32_85 c21_i32_778
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  let v1353 : BitVec 32 := v1352
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  let v1357 : BitVec 32 := v1356
  ![v1291.toNat, v1353.toNat, v1357.toNat]
def k0_off128 : Fin 3 → Nat :=
  let c10_i32_85 : BitVec 32 := 10#32
  let c24_i32_830 : BitVec 32 := 24#32
  let c0_i32_831 : BitVec 32 := 0#32
  let v1386 : BitVec 1 := Scalar.cmpi .eq c24_i32_830 c0_i32_831
  let c1_i32_832 : BitVec 32 := 1#32
  let v1387 : BitVec 32 := Scalar.select v1386 c1_i32_832 c24_i32_830
  let v1388 : BitVec 32 := Scalar.remsi c10_i32_85 v1387
  let c0_i32_834 : BitVec 32 := 0#32
  let v1390 : BitVec 1 := Scalar.cmpi .slt v1388 c0_i32_834
  let c0_i32_835 : BitVec 32 := 0#32
  let v1391 : BitVec 1 := Scalar.cmpi .slt v1387 c0_i32_835
  let v1392 : BitVec 1 := Scalar.xori v1390 v1391
  let c0_i32_833 : BitVec 32 := 0#32
  let v1389 : BitVec 1 := Scalar.cmpi .ne v1388 c0_i32_833
  let v1393 : BitVec 1 := Scalar.andi v1392 v1389
  let v1394 : BitVec 32 := Scalar.addi v1388 v1387
  let v1395 : BitVec 32 := Scalar.select v1393 v1394 v1388
  let c384_i32_848 : BitVec 32 := 384#32
  let c384_i32_849 : BitVec 32 := 384#32
  ![v1395.toNat, 384, 384]
def k0_off129 : Fin 3 → Nat :=
  let c10_i32_85 : BitVec 32 := 10#32
  let c21_i32_778 : BitVec 32 := 21#32
  let v1291 : BitVec 32 := Scalar.divsi c10_i32_85 c21_i32_778
  let c21_i32_779 : BitVec 32 := 21#32
  let v1292 : BitVec 32 := Scalar.remsi c10_i32_85 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  let v1381 : BitVec 32 := v1380
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  let v1385 : BitVec 32 := v1384
  ![v1291.toNat, v1381.toNat, v1385.toNat]
def k0_cond22 : BitVec 1 :=
  let c10_i32 : BitVec 32 := 10#32
  let c21_i32_82 : BitVec 32 := 21#32
  let v88 : BitVec 32 := Scalar.remsi c10_i32 c21_i32_82
  let c6_i32_83 : BitVec 32 := 6#32
  let v89 : BitVec 32 := Scalar.divsi v88 c6_i32_83
  let c0_i32_84 : BitVec 32 := 0#32
  let v90 : BitVec 1 := Scalar.cmpi .eq v89 c0_i32_84
  let true_87 : BitVec 1 := 1#1
  let v93 : BitVec 1 := Scalar.xori v90 true_87
  let v94 : BitVec 32 := Scalar.extui v93
  let c0_i32_89 : BitVec 32 := 0#32
  let v95 : BitVec 1 := Scalar.cmpi .ne v94 c0_i32_89
  v95

def k0_mult197 : BitVec 32 :=
  let c10_i32_88 : BitVec 32 := 10#32
  let c21_i32_779 : BitVec 32 := 21#32
  let v1292 : BitVec 32 := Scalar.remsi c10_i32_88 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  v1297
def k0_mult198 : BitVec 32 :=
  let c10_i32_88 : BitVec 32 := 10#32
  let c21_i32_779 : BitVec 32 := 21#32
  let v1292 : BitVec 32 := Scalar.remsi c10_i32_88 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  v1299
def k0_off130 : Fin 1 → Nat :=
  let c10_i32_88 : BitVec 32 := 10#32
  let c24_i32_791 : BitVec 32 := 24#32
  let c0_i32_792 : BitVec 32 := 0#32
  let v1311 : BitVec 1 := Scalar.cmpi .eq c24_i32_791 c0_i32_792
  let c1_i32_793 : BitVec 32 := 1#32
  let v1312 : BitVec 32 := Scalar.select v1311 c1_i32_793 c24_i32_791
  let v1313 : BitVec 32 := Scalar.remsi c10_i32_88 v1312
  let c0_i32_795 : BitVec 32 := 0#32
  let v1315 : BitVec 1 := Scalar.cmpi .slt v1313 c0_i32_795
  let c0_i32_796 : BitVec 32 := 0#32
  let v1316 : BitVec 1 := Scalar.cmpi .slt v1312 c0_i32_796
  let v1317 : BitVec 1 := Scalar.xori v1315 v1316
  let c0_i32_794 : BitVec 32 := 0#32
  let v1314 : BitVec 1 := Scalar.cmpi .ne v1313 c0_i32_794
  let v1318 : BitVec 1 := Scalar.andi v1317 v1314
  let v1319 : BitVec 32 := Scalar.addi v1313 v1312
  let v1320 : BitVec 32 := Scalar.select v1318 v1319 v1313
  ![v1320.toNat]
def k0_off131 : Fin 3 → Nat :=
  let c10_i32_88 : BitVec 32 := 10#32
  let c24_i32_785 : BitVec 32 := 24#32
  let c0_i32_786 : BitVec 32 := 0#32
  let v1301 : BitVec 1 := Scalar.cmpi .eq c24_i32_785 c0_i32_786
  let c1_i32_787 : BitVec 32 := 1#32
  let v1302 : BitVec 32 := Scalar.select v1301 c1_i32_787 c24_i32_785
  let v1303 : BitVec 32 := Scalar.remsi c10_i32_88 v1302
  let c0_i32_789 : BitVec 32 := 0#32
  let v1305 : BitVec 1 := Scalar.cmpi .slt v1303 c0_i32_789
  let c0_i32_790 : BitVec 32 := 0#32
  let v1306 : BitVec 1 := Scalar.cmpi .slt v1302 c0_i32_790
  let v1307 : BitVec 1 := Scalar.xori v1305 v1306
  let c0_i32_788 : BitVec 32 := 0#32
  let v1304 : BitVec 1 := Scalar.cmpi .ne v1303 c0_i32_788
  let v1308 : BitVec 1 := Scalar.andi v1307 v1304
  let v1309 : BitVec 32 := Scalar.addi v1303 v1302
  let v1310 : BitVec 32 := Scalar.select v1308 v1309 v1303
  let c0_i32_797 : BitVec 32 := 0#32
  let c0_i32_798 : BitVec 32 := 0#32
  ![v1310.toNat, 0, 0]
def k0_off132 : Fin 3 → Nat :=
  let c10_i32_88 : BitVec 32 := 10#32
  let c21_i32_778 : BitVec 32 := 21#32
  let v1291 : BitVec 32 := Scalar.divsi c10_i32_88 c21_i32_778
  let c21_i32_779 : BitVec 32 := 21#32
  let v1292 : BitVec 32 := Scalar.remsi c10_i32_88 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  let v1298 : BitVec 32 := v1297
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  let v1300 : BitVec 32 := v1299
  ![v1291.toNat, v1298.toNat, v1300.toNat]
def k0_cond23 : BitVec 1 :=
  let c11_i32 : BitVec 32 := 11#32
  let c21_i32_90 : BitVec 32 := 21#32
  let v96 : BitVec 32 := Scalar.remsi c11_i32 c21_i32_90
  let c6_i32_91 : BitVec 32 := 6#32
  let v97 : BitVec 32 := Scalar.divsi v96 c6_i32_91
  let c0_i32_92 : BitVec 32 := 0#32
  let v98 : BitVec 1 := Scalar.cmpi .eq v97 c0_i32_92
  let v99 : BitVec 32 := Scalar.extui v98
  let c0_i32_94 : BitVec 32 := 0#32
  let v100 : BitVec 1 := Scalar.cmpi .ne v99 c0_i32_94
  v100

def k0_mult199 : BitVec 32 :=
  let c11_i32_93 : BitVec 32 := 11#32
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  v1294
def k0_mult200 : BitVec 32 :=
  let c11_i32_93 : BitVec 32 := 11#32
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  v1296
def k0_mult201 : BitVec 32 :=
  let c11_i32_93 : BitVec 32 := 11#32
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  v1298
def k0_mult202 : BitVec 32 :=
  let c11_i32_93 : BitVec 32 := 11#32
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  v1300
def k0_mult203 : BitVec 32 :=
  let c11_i32_93 : BitVec 32 := 11#32
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  v1322
def k0_mult204 : BitVec 32 :=
  let c11_i32_93 : BitVec 32 := 11#32
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  v1324
def k0_mult205 : BitVec 32 :=
  let c11_i32_93 : BitVec 32 := 11#32
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  v1326
def k0_mult206 : BitVec 32 :=
  let c11_i32_93 : BitVec 32 := 11#32
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  v1328
def k0_mult207 : BitVec 32 :=
  let c11_i32_93 : BitVec 32 := 11#32
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  v1350
def k0_mult208 : BitVec 32 :=
  let c11_i32_93 : BitVec 32 := 11#32
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  v1352
def k0_mult209 : BitVec 32 :=
  let c11_i32_93 : BitVec 32 := 11#32
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  v1354
def k0_mult210 : BitVec 32 :=
  let c11_i32_93 : BitVec 32 := 11#32
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  v1356
def k0_mult211 : BitVec 32 :=
  let c11_i32_93 : BitVec 32 := 11#32
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  v1378
def k0_mult212 : BitVec 32 :=
  let c11_i32_93 : BitVec 32 := 11#32
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  v1380
def k0_mult213 : BitVec 32 :=
  let c11_i32_93 : BitVec 32 := 11#32
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  v1382
def k0_mult214 : BitVec 32 :=
  let c11_i32_93 : BitVec 32 := 11#32
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  v1384
def k0_off133 : Fin 1 → Nat :=
  let c11_i32_93 : BitVec 32 := 11#32
  let c24_i32_791 : BitVec 32 := 24#32
  let c0_i32_792 : BitVec 32 := 0#32
  let v1312 : BitVec 1 := Scalar.cmpi .eq c24_i32_791 c0_i32_792
  let c1_i32_793 : BitVec 32 := 1#32
  let v1313 : BitVec 32 := Scalar.select v1312 c1_i32_793 c24_i32_791
  let v1314 : BitVec 32 := Scalar.remsi c11_i32_93 v1313
  let c0_i32_795 : BitVec 32 := 0#32
  let v1316 : BitVec 1 := Scalar.cmpi .slt v1314 c0_i32_795
  let c0_i32_796 : BitVec 32 := 0#32
  let v1317 : BitVec 1 := Scalar.cmpi .slt v1313 c0_i32_796
  let v1318 : BitVec 1 := Scalar.xori v1316 v1317
  let c0_i32_794 : BitVec 32 := 0#32
  let v1315 : BitVec 1 := Scalar.cmpi .ne v1314 c0_i32_794
  let v1319 : BitVec 1 := Scalar.andi v1318 v1315
  let v1320 : BitVec 32 := Scalar.addi v1314 v1313
  let v1321 : BitVec 32 := Scalar.select v1319 v1320 v1314
  ![v1321.toNat]
def k0_off134 : Fin 3 → Nat :=
  let c11_i32_93 : BitVec 32 := 11#32
  let c24_i32_785 : BitVec 32 := 24#32
  let c0_i32_786 : BitVec 32 := 0#32
  let v1302 : BitVec 1 := Scalar.cmpi .eq c24_i32_785 c0_i32_786
  let c1_i32_787 : BitVec 32 := 1#32
  let v1303 : BitVec 32 := Scalar.select v1302 c1_i32_787 c24_i32_785
  let v1304 : BitVec 32 := Scalar.remsi c11_i32_93 v1303
  let c0_i32_789 : BitVec 32 := 0#32
  let v1306 : BitVec 1 := Scalar.cmpi .slt v1304 c0_i32_789
  let c0_i32_790 : BitVec 32 := 0#32
  let v1307 : BitVec 1 := Scalar.cmpi .slt v1303 c0_i32_790
  let v1308 : BitVec 1 := Scalar.xori v1306 v1307
  let c0_i32_788 : BitVec 32 := 0#32
  let v1305 : BitVec 1 := Scalar.cmpi .ne v1304 c0_i32_788
  let v1309 : BitVec 1 := Scalar.andi v1308 v1305
  let v1310 : BitVec 32 := Scalar.addi v1304 v1303
  let v1311 : BitVec 32 := Scalar.select v1309 v1310 v1304
  let c0_i32_842 : BitVec 32 := 0#32
  let c0_i32_843 : BitVec 32 := 0#32
  ![v1311.toNat, 0, 0]
def k0_off135 : Fin 3 → Nat :=
  let c11_i32_93 : BitVec 32 := 11#32
  let c21_i32_778 : BitVec 32 := 21#32
  let v1291 : BitVec 32 := Scalar.divsi c11_i32_93 c21_i32_778
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_781 : BitVec 32 := 512#32
  let v1294 : BitVec 32 := Scalar.muli v1293 c512_i32_781
  let v1295 : BitVec 32 := v1294
  let c0_i32_782 : BitVec 32 := 0#32
  let v1296 : BitVec 32 := Scalar.addi v1295 c0_i32_782
  let v1297 : BitVec 32 := v1296
  let c512_i32_783 : BitVec 32 := 512#32
  let v1298 : BitVec 32 := Scalar.muli v1293 c512_i32_783
  let v1299 : BitVec 32 := v1298
  let c0_i32_784 : BitVec 32 := 0#32
  let v1300 : BitVec 32 := Scalar.addi v1299 c0_i32_784
  let v1301 : BitVec 32 := v1300
  ![v1291.toNat, v1297.toNat, v1301.toNat]
def k0_off136 : Fin 3 → Nat :=
  let c11_i32_93 : BitVec 32 := 11#32
  let c24_i32_800 : BitVec 32 := 24#32
  let c0_i32_801 : BitVec 32 := 0#32
  let v1330 : BitVec 1 := Scalar.cmpi .eq c24_i32_800 c0_i32_801
  let c1_i32_802 : BitVec 32 := 1#32
  let v1331 : BitVec 32 := Scalar.select v1330 c1_i32_802 c24_i32_800
  let v1332 : BitVec 32 := Scalar.remsi c11_i32_93 v1331
  let c0_i32_804 : BitVec 32 := 0#32
  let v1334 : BitVec 1 := Scalar.cmpi .slt v1332 c0_i32_804
  let c0_i32_805 : BitVec 32 := 0#32
  let v1335 : BitVec 1 := Scalar.cmpi .slt v1331 c0_i32_805
  let v1336 : BitVec 1 := Scalar.xori v1334 v1335
  let c0_i32_803 : BitVec 32 := 0#32
  let v1333 : BitVec 1 := Scalar.cmpi .ne v1332 c0_i32_803
  let v1337 : BitVec 1 := Scalar.andi v1336 v1333
  let v1338 : BitVec 32 := Scalar.addi v1332 v1331
  let v1339 : BitVec 32 := Scalar.select v1337 v1338 v1332
  let c128_i32_844 : BitVec 32 := 128#32
  let c128_i32_845 : BitVec 32 := 128#32
  ![v1339.toNat, 128, 128]
def k0_off137 : Fin 3 → Nat :=
  let c11_i32_93 : BitVec 32 := 11#32
  let c21_i32_778 : BitVec 32 := 21#32
  let v1291 : BitVec 32 := Scalar.divsi c11_i32_93 c21_i32_778
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_797 : BitVec 32 := 512#32
  let v1322 : BitVec 32 := Scalar.muli v1293 c512_i32_797
  let v1323 : BitVec 32 := v1322
  let c128_i32 : BitVec 32 := 128#32
  let v1324 : BitVec 32 := Scalar.addi v1323 c128_i32
  let v1325 : BitVec 32 := v1324
  let c512_i32_798 : BitVec 32 := 512#32
  let v1326 : BitVec 32 := Scalar.muli v1293 c512_i32_798
  let v1327 : BitVec 32 := v1326
  let c128_i32_799 : BitVec 32 := 128#32
  let v1328 : BitVec 32 := Scalar.addi v1327 c128_i32_799
  let v1329 : BitVec 32 := v1328
  ![v1291.toNat, v1325.toNat, v1329.toNat]
def k0_off138 : Fin 3 → Nat :=
  let c11_i32_93 : BitVec 32 := 11#32
  let c24_i32_815 : BitVec 32 := 24#32
  let c0_i32_816 : BitVec 32 := 0#32
  let v1358 : BitVec 1 := Scalar.cmpi .eq c24_i32_815 c0_i32_816
  let c1_i32_817 : BitVec 32 := 1#32
  let v1359 : BitVec 32 := Scalar.select v1358 c1_i32_817 c24_i32_815
  let v1360 : BitVec 32 := Scalar.remsi c11_i32_93 v1359
  let c0_i32_819 : BitVec 32 := 0#32
  let v1362 : BitVec 1 := Scalar.cmpi .slt v1360 c0_i32_819
  let c0_i32_820 : BitVec 32 := 0#32
  let v1363 : BitVec 1 := Scalar.cmpi .slt v1359 c0_i32_820
  let v1364 : BitVec 1 := Scalar.xori v1362 v1363
  let c0_i32_818 : BitVec 32 := 0#32
  let v1361 : BitVec 1 := Scalar.cmpi .ne v1360 c0_i32_818
  let v1365 : BitVec 1 := Scalar.andi v1364 v1361
  let v1366 : BitVec 32 := Scalar.addi v1360 v1359
  let v1367 : BitVec 32 := Scalar.select v1365 v1366 v1360
  let c256_i32_846 : BitVec 32 := 256#32
  let c256_i32_847 : BitVec 32 := 256#32
  ![v1367.toNat, 256, 256]
def k0_off139 : Fin 3 → Nat :=
  let c11_i32_93 : BitVec 32 := 11#32
  let c21_i32_778 : BitVec 32 := 21#32
  let v1291 : BitVec 32 := Scalar.divsi c11_i32_93 c21_i32_778
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_812 : BitVec 32 := 512#32
  let v1350 : BitVec 32 := Scalar.muli v1293 c512_i32_812
  let v1351 : BitVec 32 := v1350
  let c256_i32 : BitVec 32 := 256#32
  let v1352 : BitVec 32 := Scalar.addi v1351 c256_i32
  let v1353 : BitVec 32 := v1352
  let c512_i32_813 : BitVec 32 := 512#32
  let v1354 : BitVec 32 := Scalar.muli v1293 c512_i32_813
  let v1355 : BitVec 32 := v1354
  let c256_i32_814 : BitVec 32 := 256#32
  let v1356 : BitVec 32 := Scalar.addi v1355 c256_i32_814
  let v1357 : BitVec 32 := v1356
  ![v1291.toNat, v1353.toNat, v1357.toNat]
def k0_off140 : Fin 3 → Nat :=
  let c11_i32_93 : BitVec 32 := 11#32
  let c24_i32_830 : BitVec 32 := 24#32
  let c0_i32_831 : BitVec 32 := 0#32
  let v1386 : BitVec 1 := Scalar.cmpi .eq c24_i32_830 c0_i32_831
  let c1_i32_832 : BitVec 32 := 1#32
  let v1387 : BitVec 32 := Scalar.select v1386 c1_i32_832 c24_i32_830
  let v1388 : BitVec 32 := Scalar.remsi c11_i32_93 v1387
  let c0_i32_834 : BitVec 32 := 0#32
  let v1390 : BitVec 1 := Scalar.cmpi .slt v1388 c0_i32_834
  let c0_i32_835 : BitVec 32 := 0#32
  let v1391 : BitVec 1 := Scalar.cmpi .slt v1387 c0_i32_835
  let v1392 : BitVec 1 := Scalar.xori v1390 v1391
  let c0_i32_833 : BitVec 32 := 0#32
  let v1389 : BitVec 1 := Scalar.cmpi .ne v1388 c0_i32_833
  let v1393 : BitVec 1 := Scalar.andi v1392 v1389
  let v1394 : BitVec 32 := Scalar.addi v1388 v1387
  let v1395 : BitVec 32 := Scalar.select v1393 v1394 v1388
  let c384_i32_848 : BitVec 32 := 384#32
  let c384_i32_849 : BitVec 32 := 384#32
  ![v1395.toNat, 384, 384]
def k0_off141 : Fin 3 → Nat :=
  let c11_i32_93 : BitVec 32 := 11#32
  let c21_i32_778 : BitVec 32 := 21#32
  let v1291 : BitVec 32 := Scalar.divsi c11_i32_93 c21_i32_778
  let c21_i32_779 : BitVec 32 := 21#32
  let v1292 : BitVec 32 := Scalar.remsi c11_i32_93 c21_i32_779
  let c6_i32_780 : BitVec 32 := 6#32
  let v1293 : BitVec 32 := Scalar.remsi v1292 c6_i32_780
  let c512_i32_827 : BitVec 32 := 512#32
  let v1378 : BitVec 32 := Scalar.muli v1293 c512_i32_827
  let v1379 : BitVec 32 := v1378
  let c384_i32 : BitVec 32 := 384#32
  let v1380 : BitVec 32 := Scalar.addi v1379 c384_i32
  let v1381 : BitVec 32 := v1380
  let c512_i32_828 : BitVec 32 := 512#32
  let v1382 : BitVec 32 := Scalar.muli v1293 c512_i32_828
  let v1383 : BitVec 32 := v1382
  let c384_i32_829 : BitVec 32 := 384#32
  let v1384 : BitVec 32 := Scalar.addi v1383 c384_i32_829
  let v1385 : BitVec 32 := v1384
  ![v1291.toNat, v1381.toNat, v1385.toNat]
def k0_cond24 : BitVec 1 :=
  let c11_i32 : BitVec 32 := 11#32
  let c21_i32_90 : BitVec 32 := 21#32
  let v96 : BitVec 32 := Scalar.remsi c11_i32 c21_i32_90
  let c6_i32_91 : BitVec 32 := 6#32
  let v97 : BitVec 32 := Scalar.divsi v96 c6_i32_91
  let c0_i32_92 : BitVec 32 := 0#32
  let v98 : BitVec 1 := Scalar.cmpi .eq v97 c0_i32_92
  let true_95 : BitVec 1 := 1#1
  let v101 : BitVec 1 := Scalar.xori v98 true_95
  let v102 : BitVec 32 := Scalar.extui v101
  let c0_i32_97 : BitVec 32 := 0#32
  let v103 : BitVec 1 := Scalar.cmpi .ne v102 c0_i32_97
  v103

def k0_mult215 : BitVec 32 :=
  let c11_i32_96 : BitVec 32 := 11#32
  let c21_i32_779 : BitVec 32 := 21#32
  let v1292 : BitVec 32 := Scalar.remsi c11_i32_96 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  v1297
def k0_mult216 : BitVec 32 :=
  let c11_i32_96 : BitVec 32 := 11#32
  let c21_i32_779 : BitVec 32 := 21#32
  let v1292 : BitVec 32 := Scalar.remsi c11_i32_96 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  v1299
def k0_off142 : Fin 1 → Nat :=
  let c11_i32_96 : BitVec 32 := 11#32
  let c24_i32_791 : BitVec 32 := 24#32
  let c0_i32_792 : BitVec 32 := 0#32
  let v1311 : BitVec 1 := Scalar.cmpi .eq c24_i32_791 c0_i32_792
  let c1_i32_793 : BitVec 32 := 1#32
  let v1312 : BitVec 32 := Scalar.select v1311 c1_i32_793 c24_i32_791
  let v1313 : BitVec 32 := Scalar.remsi c11_i32_96 v1312
  let c0_i32_795 : BitVec 32 := 0#32
  let v1315 : BitVec 1 := Scalar.cmpi .slt v1313 c0_i32_795
  let c0_i32_796 : BitVec 32 := 0#32
  let v1316 : BitVec 1 := Scalar.cmpi .slt v1312 c0_i32_796
  let v1317 : BitVec 1 := Scalar.xori v1315 v1316
  let c0_i32_794 : BitVec 32 := 0#32
  let v1314 : BitVec 1 := Scalar.cmpi .ne v1313 c0_i32_794
  let v1318 : BitVec 1 := Scalar.andi v1317 v1314
  let v1319 : BitVec 32 := Scalar.addi v1313 v1312
  let v1320 : BitVec 32 := Scalar.select v1318 v1319 v1313
  ![v1320.toNat]
def k0_off143 : Fin 3 → Nat :=
  let c11_i32_96 : BitVec 32 := 11#32
  let c24_i32_785 : BitVec 32 := 24#32
  let c0_i32_786 : BitVec 32 := 0#32
  let v1301 : BitVec 1 := Scalar.cmpi .eq c24_i32_785 c0_i32_786
  let c1_i32_787 : BitVec 32 := 1#32
  let v1302 : BitVec 32 := Scalar.select v1301 c1_i32_787 c24_i32_785
  let v1303 : BitVec 32 := Scalar.remsi c11_i32_96 v1302
  let c0_i32_789 : BitVec 32 := 0#32
  let v1305 : BitVec 1 := Scalar.cmpi .slt v1303 c0_i32_789
  let c0_i32_790 : BitVec 32 := 0#32
  let v1306 : BitVec 1 := Scalar.cmpi .slt v1302 c0_i32_790
  let v1307 : BitVec 1 := Scalar.xori v1305 v1306
  let c0_i32_788 : BitVec 32 := 0#32
  let v1304 : BitVec 1 := Scalar.cmpi .ne v1303 c0_i32_788
  let v1308 : BitVec 1 := Scalar.andi v1307 v1304
  let v1309 : BitVec 32 := Scalar.addi v1303 v1302
  let v1310 : BitVec 32 := Scalar.select v1308 v1309 v1303
  let c0_i32_797 : BitVec 32 := 0#32
  let c0_i32_798 : BitVec 32 := 0#32
  ![v1310.toNat, 0, 0]
def k0_off144 : Fin 3 → Nat :=
  let c11_i32_96 : BitVec 32 := 11#32
  let c21_i32_778 : BitVec 32 := 21#32
  let v1291 : BitVec 32 := Scalar.divsi c11_i32_96 c21_i32_778
  let c21_i32_779 : BitVec 32 := 21#32
  let v1292 : BitVec 32 := Scalar.remsi c11_i32_96 c21_i32_779
  let c6_i32_780 : BitVec 32 := 6#32
  let v1293 : BitVec 32 := Scalar.remsi v1292 c6_i32_780
  let c512_i32_783 : BitVec 32 := 512#32
  let v1297 : BitVec 32 := Scalar.muli v1293 c512_i32_783
  let v1298 : BitVec 32 := v1297
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_784 : BitVec 32 := 512#32
  let v1299 : BitVec 32 := Scalar.muli v1296 c512_i32_784
  let v1300 : BitVec 32 := v1299
  ![v1291.toNat, v1298.toNat, v1300.toNat]
@[reducible] def k0_t1_loop : Scf.Loop 32 :=
  let c0_i32_369 : BitVec 32 := 0#32
  let c126_i32_370 : BitVec 32 := 126#32
  let v738 : BitVec 32 := Scalar.addi c0_i32_369 c126_i32_370
  let c1_i32_371 : BitVec 32 := 1#32
  ⟨c0_i32_369, v738, c1_i32_371⟩
def k0_cond25 (k0_t1 : Fin k0_t1_loop.trips) : BitVec 1 :=
  let c0_i32_369 : BitVec 32 := 0#32
  let c1_i32_371 : BitVec 32 := 1#32
  let arg28 : BitVec 32 := Scf.iv c0_i32_369 c1_i32_371 k0_t1
  let c21_i32_784 : BitVec 32 := 21#32
  let c0_i32_785 : BitVec 32 := 0#32
  let v1298 : BitVec 1 := Scalar.cmpi .eq c21_i32_784 c0_i32_785
  let c1_i32_786 : BitVec 32 := 1#32
  let v1299 : BitVec 32 := Scalar.select v1298 c1_i32_786 c21_i32_784
  let v1300 : BitVec 32 := Scalar.remsi arg28 v1299
  let c0_i32_788 : BitVec 32 := 0#32
  let v1302 : BitVec 1 := Scalar.cmpi .slt v1300 c0_i32_788
  let c0_i32_789 : BitVec 32 := 0#32
  let v1303 : BitVec 1 := Scalar.cmpi .slt v1299 c0_i32_789
  let v1304 : BitVec 1 := Scalar.xori v1302 v1303
  let c0_i32_787 : BitVec 32 := 0#32
  let v1301 : BitVec 1 := Scalar.cmpi .ne v1300 c0_i32_787
  let v1305 : BitVec 1 := Scalar.andi v1304 v1301
  let v1306 : BitVec 32 := Scalar.addi v1300 v1299
  let v1307 : BitVec 32 := Scalar.select v1305 v1306 v1300
  let c0_i32_790 : BitVec 32 := 0#32
  let v1308 : BitVec 1 := Scalar.cmpi .eq v1307 c0_i32_790
  let v1309 : BitVec 32 := Scalar.extui v1308
  let c0_i32_791 : BitVec 32 := 0#32
  let v1310 : BitVec 1 := Scalar.cmpi .ne v1309 c0_i32_791
  v1310

def k0_off145 (k0_t1 : Fin k0_t1_loop.trips) : Fin 1 → Nat :=
  let c0_i32_369 : BitVec 32 := 0#32
  let c1_i32_371 : BitVec 32 := 1#32
  let arg28 : BitVec 32 := Scf.iv c0_i32_369 c1_i32_371 k0_t1
  let c21_i32_778 : BitVec 32 := 21#32
  let v1291 : BitVec 32 := Scalar.divsi arg28 c21_i32_778
  let v1334 : Index := Scalar.indexCast v1291
  ![v1334.toNat]
def k0_off146 (k0_t1 : Fin k0_t1_loop.trips) : Fin 1 → Nat :=
  let c0_i32_369 : BitVec 32 := 0#32
  let c1_i32_371 : BitVec 32 := 1#32
  let arg28 : BitVec 32 := Scf.iv c0_i32_369 c1_i32_371 k0_t1
  let c21_i32_778 : BitVec 32 := 21#32
  let v1291 : BitVec 32 := Scalar.divsi arg28 c21_i32_778
  let c1_i32_806 : BitVec 32 := 1#32
  let v1336 : BitVec 32 := Scalar.addi v1291 c1_i32_806
  let v1337 : Index := Scalar.indexCast v1336
  ![v1337.toNat]
def k0_off147 (k0_t1 : Fin k0_t1_loop.trips) : Fin 1 → Nat :=
  let c0_i32_369 : BitVec 32 := 0#32
  let c1_i32_371 : BitVec 32 := 1#32
  let arg28 : BitVec 32 := Scf.iv c0_i32_369 c1_i32_371 k0_t1
  let c21_i32_778 : BitVec 32 := 21#32
  let v1291 : BitVec 32 := Scalar.divsi arg28 c21_i32_778
  let v1422 : Index := Scalar.indexCast v1291
  ![v1422.toNat]
def k0_cond26 (k0_t1 : Fin k0_t1_loop.trips) : BitVec 1 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_781 : BitVec 32 := 6#32
  let v1294 : BitVec 32 := Scalar.divsi v1292 c6_i32_781
  let c0_i32_783 : BitVec 32 := 0#32
  let v1297 : BitVec 1 := Scalar.cmpi .eq v1294 c0_i32_783
  let v1311 : BitVec 32 := Scalar.extui v1297
  let c0_i32_792 : BitVec 32 := 0#32
  let v1312 : BitVec 1 := Scalar.cmpi .ne v1311 c0_i32_792
  v1312

def k0_mult217 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_809 : BitVec 32 := 512#32
  let v1337 : BitVec 32 := Scalar.muli v1336 c512_i32_809
  v1337
def k0_mult218 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_809 : BitVec 32 := 512#32
  let v1337 : BitVec 32 := Scalar.muli v1336 c512_i32_809
  let v1338 : BitVec 32 := v1337
  let c0_i32_810 : BitVec 32 := 0#32
  let v1339 : BitVec 32 := Scalar.addi v1338 c0_i32_810
  v1339
def k0_mult219 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_811 : BitVec 32 := 512#32
  let v1341 : BitVec 32 := Scalar.muli v1336 c512_i32_811
  v1341
def k0_mult220 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_811 : BitVec 32 := 512#32
  let v1341 : BitVec 32 := Scalar.muli v1336 c512_i32_811
  let v1342 : BitVec 32 := v1341
  let c0_i32_812 : BitVec 32 := 0#32
  let v1343 : BitVec 32 := Scalar.addi v1342 c0_i32_812
  v1343
def k0_mult221 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_825 : BitVec 32 := 512#32
  let v1365 : BitVec 32 := Scalar.muli v1336 c512_i32_825
  v1365
def k0_mult222 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_825 : BitVec 32 := 512#32
  let v1365 : BitVec 32 := Scalar.muli v1336 c512_i32_825
  let v1366 : BitVec 32 := v1365
  let c128_i32 : BitVec 32 := 128#32
  let v1367 : BitVec 32 := Scalar.addi v1366 c128_i32
  v1367
def k0_mult223 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_826 : BitVec 32 := 512#32
  let v1369 : BitVec 32 := Scalar.muli v1336 c512_i32_826
  v1369
def k0_mult224 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_826 : BitVec 32 := 512#32
  let v1369 : BitVec 32 := Scalar.muli v1336 c512_i32_826
  let v1370 : BitVec 32 := v1369
  let c128_i32_827 : BitVec 32 := 128#32
  let v1371 : BitVec 32 := Scalar.addi v1370 c128_i32_827
  v1371
def k0_mult225 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_840 : BitVec 32 := 512#32
  let v1393 : BitVec 32 := Scalar.muli v1336 c512_i32_840
  v1393
def k0_mult226 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_840 : BitVec 32 := 512#32
  let v1393 : BitVec 32 := Scalar.muli v1336 c512_i32_840
  let v1394 : BitVec 32 := v1393
  let c256_i32 : BitVec 32 := 256#32
  let v1395 : BitVec 32 := Scalar.addi v1394 c256_i32
  v1395
def k0_mult227 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_841 : BitVec 32 := 512#32
  let v1397 : BitVec 32 := Scalar.muli v1336 c512_i32_841
  v1397
def k0_mult228 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_841 : BitVec 32 := 512#32
  let v1397 : BitVec 32 := Scalar.muli v1336 c512_i32_841
  let v1398 : BitVec 32 := v1397
  let c256_i32_842 : BitVec 32 := 256#32
  let v1399 : BitVec 32 := Scalar.addi v1398 c256_i32_842
  v1399
def k0_mult229 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_855 : BitVec 32 := 512#32
  let v1421 : BitVec 32 := Scalar.muli v1336 c512_i32_855
  v1421
def k0_mult230 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_855 : BitVec 32 := 512#32
  let v1421 : BitVec 32 := Scalar.muli v1336 c512_i32_855
  let v1422 : BitVec 32 := v1421
  let c384_i32 : BitVec 32 := 384#32
  let v1423 : BitVec 32 := Scalar.addi v1422 c384_i32
  v1423
def k0_mult231 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_856 : BitVec 32 := 512#32
  let v1425 : BitVec 32 := Scalar.muli v1336 c512_i32_856
  v1425
def k0_mult232 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_856 : BitVec 32 := 512#32
  let v1425 : BitVec 32 := Scalar.muli v1336 c512_i32_856
  let v1426 : BitVec 32 := v1425
  let c384_i32_857 : BitVec 32 := 384#32
  let v1427 : BitVec 32 := Scalar.addi v1426 c384_i32_857
  v1427
def k0_off148 (k0_t1 : Fin k0_t1_loop.trips) : Fin 1 → Nat :=
  let c0_i32_369 : BitVec 32 := 0#32
  let c1_i32_371 : BitVec 32 := 1#32
  let arg28 : BitVec 32 := Scf.iv c0_i32_369 c1_i32_371 k0_t1
  let c24_i32_819 : BitVec 32 := 24#32
  let c0_i32_820 : BitVec 32 := 0#32
  let v1355 : BitVec 1 := Scalar.cmpi .eq c24_i32_819 c0_i32_820
  let c1_i32_821 : BitVec 32 := 1#32
  let v1356 : BitVec 32 := Scalar.select v1355 c1_i32_821 c24_i32_819
  let v1357 : BitVec 32 := Scalar.remsi arg28 v1356
  let c0_i32_823 : BitVec 32 := 0#32
  let v1359 : BitVec 1 := Scalar.cmpi .slt v1357 c0_i32_823
  let c0_i32_824 : BitVec 32 := 0#32
  let v1360 : BitVec 1 := Scalar.cmpi .slt v1356 c0_i32_824
  let v1361 : BitVec 1 := Scalar.xori v1359 v1360
  let c0_i32_822 : BitVec 32 := 0#32
  let v1358 : BitVec 1 := Scalar.cmpi .ne v1357 c0_i32_822
  let v1362 : BitVec 1 := Scalar.andi v1361 v1358
  let v1363 : BitVec 32 := Scalar.addi v1357 v1356
  let v1364 : BitVec 32 := Scalar.select v1362 v1363 v1357
  ![v1364.toNat]
def k0_off149 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c24_i32_813 : BitVec 32 := 24#32
  let c0_i32_814 : BitVec 32 := 0#32
  let v1345 : BitVec 1 := Scalar.cmpi .eq c24_i32_813 c0_i32_814
  let c1_i32_815 : BitVec 32 := 1#32
  let v1346 : BitVec 32 := Scalar.select v1345 c1_i32_815 c24_i32_813
  let v1347 : BitVec 32 := Scalar.remsi arg28 v1346
  let c0_i32_817 : BitVec 32 := 0#32
  let v1349 : BitVec 1 := Scalar.cmpi .slt v1347 c0_i32_817
  let c0_i32_818 : BitVec 32 := 0#32
  let v1350 : BitVec 1 := Scalar.cmpi .slt v1346 c0_i32_818
  let v1351 : BitVec 1 := Scalar.xori v1349 v1350
  let c0_i32_816 : BitVec 32 := 0#32
  let v1348 : BitVec 1 := Scalar.cmpi .ne v1347 c0_i32_816
  let v1352 : BitVec 1 := Scalar.andi v1351 v1348
  let v1353 : BitVec 32 := Scalar.addi v1347 v1346
  let v1354 : BitVec 32 := Scalar.select v1352 v1353 v1347
  let c0_i32_870 : BitVec 32 := 0#32
  let c0_i32_871 : BitVec 32 := 0#32
  ![v1354.toNat, 0, 0]
def k0_off150 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c21_i32_806 : BitVec 32 := 21#32
  let v1334 : BitVec 32 := Scalar.divsi arg28 c21_i32_806
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_809 : BitVec 32 := 512#32
  let v1337 : BitVec 32 := Scalar.muli v1336 c512_i32_809
  let v1338 : BitVec 32 := v1337
  let c0_i32_810 : BitVec 32 := 0#32
  let v1339 : BitVec 32 := Scalar.addi v1338 c0_i32_810
  let v1340 : BitVec 32 := v1339
  let c512_i32_811 : BitVec 32 := 512#32
  let v1341 : BitVec 32 := Scalar.muli v1336 c512_i32_811
  let v1342 : BitVec 32 := v1341
  let c0_i32_812 : BitVec 32 := 0#32
  let v1343 : BitVec 32 := Scalar.addi v1342 c0_i32_812
  let v1344 : BitVec 32 := v1343
  ![v1334.toNat, v1340.toNat, v1344.toNat]
def k0_off151 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c24_i32_828 : BitVec 32 := 24#32
  let c0_i32_829 : BitVec 32 := 0#32
  let v1373 : BitVec 1 := Scalar.cmpi .eq c24_i32_828 c0_i32_829
  let c1_i32_830 : BitVec 32 := 1#32
  let v1374 : BitVec 32 := Scalar.select v1373 c1_i32_830 c24_i32_828
  let v1375 : BitVec 32 := Scalar.remsi arg28 v1374
  let c0_i32_832 : BitVec 32 := 0#32
  let v1377 : BitVec 1 := Scalar.cmpi .slt v1375 c0_i32_832
  let c0_i32_833 : BitVec 32 := 0#32
  let v1378 : BitVec 1 := Scalar.cmpi .slt v1374 c0_i32_833
  let v1379 : BitVec 1 := Scalar.xori v1377 v1378
  let c0_i32_831 : BitVec 32 := 0#32
  let v1376 : BitVec 1 := Scalar.cmpi .ne v1375 c0_i32_831
  let v1380 : BitVec 1 := Scalar.andi v1379 v1376
  let v1381 : BitVec 32 := Scalar.addi v1375 v1374
  let v1382 : BitVec 32 := Scalar.select v1380 v1381 v1375
  let c128_i32_872 : BitVec 32 := 128#32
  let c128_i32_873 : BitVec 32 := 128#32
  ![v1382.toNat, 128, 128]
def k0_off152 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c21_i32_806 : BitVec 32 := 21#32
  let v1334 : BitVec 32 := Scalar.divsi arg28 c21_i32_806
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_825 : BitVec 32 := 512#32
  let v1365 : BitVec 32 := Scalar.muli v1336 c512_i32_825
  let v1366 : BitVec 32 := v1365
  let c128_i32 : BitVec 32 := 128#32
  let v1367 : BitVec 32 := Scalar.addi v1366 c128_i32
  let v1368 : BitVec 32 := v1367
  let c512_i32_826 : BitVec 32 := 512#32
  let v1369 : BitVec 32 := Scalar.muli v1336 c512_i32_826
  let v1370 : BitVec 32 := v1369
  let c128_i32_827 : BitVec 32 := 128#32
  let v1371 : BitVec 32 := Scalar.addi v1370 c128_i32_827
  let v1372 : BitVec 32 := v1371
  ![v1334.toNat, v1368.toNat, v1372.toNat]
def k0_off153 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c24_i32_843 : BitVec 32 := 24#32
  let c0_i32_844 : BitVec 32 := 0#32
  let v1401 : BitVec 1 := Scalar.cmpi .eq c24_i32_843 c0_i32_844
  let c1_i32_845 : BitVec 32 := 1#32
  let v1402 : BitVec 32 := Scalar.select v1401 c1_i32_845 c24_i32_843
  let v1403 : BitVec 32 := Scalar.remsi arg28 v1402
  let c0_i32_847 : BitVec 32 := 0#32
  let v1405 : BitVec 1 := Scalar.cmpi .slt v1403 c0_i32_847
  let c0_i32_848 : BitVec 32 := 0#32
  let v1406 : BitVec 1 := Scalar.cmpi .slt v1402 c0_i32_848
  let v1407 : BitVec 1 := Scalar.xori v1405 v1406
  let c0_i32_846 : BitVec 32 := 0#32
  let v1404 : BitVec 1 := Scalar.cmpi .ne v1403 c0_i32_846
  let v1408 : BitVec 1 := Scalar.andi v1407 v1404
  let v1409 : BitVec 32 := Scalar.addi v1403 v1402
  let v1410 : BitVec 32 := Scalar.select v1408 v1409 v1403
  let c256_i32_874 : BitVec 32 := 256#32
  let c256_i32_875 : BitVec 32 := 256#32
  ![v1410.toNat, 256, 256]
def k0_off154 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c21_i32_806 : BitVec 32 := 21#32
  let v1334 : BitVec 32 := Scalar.divsi arg28 c21_i32_806
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_840 : BitVec 32 := 512#32
  let v1393 : BitVec 32 := Scalar.muli v1336 c512_i32_840
  let v1394 : BitVec 32 := v1393
  let c256_i32 : BitVec 32 := 256#32
  let v1395 : BitVec 32 := Scalar.addi v1394 c256_i32
  let v1396 : BitVec 32 := v1395
  let c512_i32_841 : BitVec 32 := 512#32
  let v1397 : BitVec 32 := Scalar.muli v1336 c512_i32_841
  let v1398 : BitVec 32 := v1397
  let c256_i32_842 : BitVec 32 := 256#32
  let v1399 : BitVec 32 := Scalar.addi v1398 c256_i32_842
  let v1400 : BitVec 32 := v1399
  ![v1334.toNat, v1396.toNat, v1400.toNat]
def k0_off155 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c24_i32_858 : BitVec 32 := 24#32
  let c0_i32_859 : BitVec 32 := 0#32
  let v1429 : BitVec 1 := Scalar.cmpi .eq c24_i32_858 c0_i32_859
  let c1_i32_860 : BitVec 32 := 1#32
  let v1430 : BitVec 32 := Scalar.select v1429 c1_i32_860 c24_i32_858
  let v1431 : BitVec 32 := Scalar.remsi arg28 v1430
  let c0_i32_862 : BitVec 32 := 0#32
  let v1433 : BitVec 1 := Scalar.cmpi .slt v1431 c0_i32_862
  let c0_i32_863 : BitVec 32 := 0#32
  let v1434 : BitVec 1 := Scalar.cmpi .slt v1430 c0_i32_863
  let v1435 : BitVec 1 := Scalar.xori v1433 v1434
  let c0_i32_861 : BitVec 32 := 0#32
  let v1432 : BitVec 1 := Scalar.cmpi .ne v1431 c0_i32_861
  let v1436 : BitVec 1 := Scalar.andi v1435 v1432
  let v1437 : BitVec 32 := Scalar.addi v1431 v1430
  let v1438 : BitVec 32 := Scalar.select v1436 v1437 v1431
  let c384_i32_876 : BitVec 32 := 384#32
  let c384_i32_877 : BitVec 32 := 384#32
  ![v1438.toNat, 384, 384]
def k0_off156 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c21_i32_806 : BitVec 32 := 21#32
  let v1334 : BitVec 32 := Scalar.divsi arg28 c21_i32_806
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_855 : BitVec 32 := 512#32
  let v1421 : BitVec 32 := Scalar.muli v1336 c512_i32_855
  let v1422 : BitVec 32 := v1421
  let c384_i32 : BitVec 32 := 384#32
  let v1423 : BitVec 32 := Scalar.addi v1422 c384_i32
  let v1424 : BitVec 32 := v1423
  let c512_i32_856 : BitVec 32 := 512#32
  let v1425 : BitVec 32 := Scalar.muli v1336 c512_i32_856
  let v1426 : BitVec 32 := v1425
  let c384_i32_857 : BitVec 32 := 384#32
  let v1427 : BitVec 32 := Scalar.addi v1426 c384_i32_857
  let v1428 : BitVec 32 := v1427
  ![v1334.toNat, v1424.toNat, v1428.toNat]
def k0_cond27 (k0_t1 : Fin k0_t1_loop.trips) : BitVec 1 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_781 : BitVec 32 := 6#32
  let v1294 : BitVec 32 := Scalar.divsi v1292 c6_i32_781
  let c0_i32_783 : BitVec 32 := 0#32
  let v1297 : BitVec 1 := Scalar.cmpi .eq v1294 c0_i32_783
  let true_793 : BitVec 1 := 1#1
  let v1313 : BitVec 1 := Scalar.xori v1297 true_793
  let v1314 : BitVec 32 := Scalar.extui v1313
  let c0_i32_794 : BitVec 32 := 0#32
  let v1315 : BitVec 1 := Scalar.cmpi .ne v1314 c0_i32_794
  v1315

def k0_mult233 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_811 : BitVec 32 := 512#32
  let v1340 : BitVec 32 := Scalar.muli v1336 c512_i32_811
  v1340
def k0_mult234 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_807 : BitVec 32 := 21#32
  let v1335 : BitVec 32 := Scalar.remsi arg28 c21_i32_807
  let c6_i32_808 : BitVec 32 := 6#32
  let v1336 : BitVec 32 := Scalar.remsi v1335 c6_i32_808
  let c6_i32_809 : BitVec 32 := 6#32
  let v1337 : BitVec 32 := Scalar.divsi v1335 c6_i32_809
  let v1338 : BitVec 32 := Scalar.addi v1336 v1337
  let c6_i32_810 : BitVec 32 := 6#32
  let v1339 : BitVec 32 := Scalar.remsi v1338 c6_i32_810
  let c512_i32_812 : BitVec 32 := 512#32
  let v1342 : BitVec 32 := Scalar.muli v1339 c512_i32_812
  v1342
def k0_off157 (k0_t1 : Fin k0_t1_loop.trips) : Fin 1 → Nat :=
  let c0_i32_369 : BitVec 32 := 0#32
  let c1_i32_371 : BitVec 32 := 1#32
  let arg28 : BitVec 32 := Scf.iv c0_i32_369 c1_i32_371 k0_t1
  let c24_i32_819 : BitVec 32 := 24#32
  let c0_i32_820 : BitVec 32 := 0#32
  let v1354 : BitVec 1 := Scalar.cmpi .eq c24_i32_819 c0_i32_820
  let c1_i32_821 : BitVec 32 := 1#32
  let v1355 : BitVec 32 := Scalar.select v1354 c1_i32_821 c24_i32_819
  let v1356 : BitVec 32 := Scalar.remsi arg28 v1355
  let c0_i32_823 : BitVec 32 := 0#32
  let v1358 : BitVec 1 := Scalar.cmpi .slt v1356 c0_i32_823
  let c0_i32_824 : BitVec 32 := 0#32
  let v1359 : BitVec 1 := Scalar.cmpi .slt v1355 c0_i32_824
  let v1360 : BitVec 1 := Scalar.xori v1358 v1359
  let c0_i32_822 : BitVec 32 := 0#32
  let v1357 : BitVec 1 := Scalar.cmpi .ne v1356 c0_i32_822
  let v1361 : BitVec 1 := Scalar.andi v1360 v1357
  let v1362 : BitVec 32 := Scalar.addi v1356 v1355
  let v1363 : BitVec 32 := Scalar.select v1361 v1362 v1356
  ![v1363.toNat]
def k0_off158 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c24_i32_813 : BitVec 32 := 24#32
  let c0_i32_814 : BitVec 32 := 0#32
  let v1344 : BitVec 1 := Scalar.cmpi .eq c24_i32_813 c0_i32_814
  let c1_i32_815 : BitVec 32 := 1#32
  let v1345 : BitVec 32 := Scalar.select v1344 c1_i32_815 c24_i32_813
  let v1346 : BitVec 32 := Scalar.remsi arg28 v1345
  let c0_i32_817 : BitVec 32 := 0#32
  let v1348 : BitVec 1 := Scalar.cmpi .slt v1346 c0_i32_817
  let c0_i32_818 : BitVec 32 := 0#32
  let v1349 : BitVec 1 := Scalar.cmpi .slt v1345 c0_i32_818
  let v1350 : BitVec 1 := Scalar.xori v1348 v1349
  let c0_i32_816 : BitVec 32 := 0#32
  let v1347 : BitVec 1 := Scalar.cmpi .ne v1346 c0_i32_816
  let v1351 : BitVec 1 := Scalar.andi v1350 v1347
  let v1352 : BitVec 32 := Scalar.addi v1346 v1345
  let v1353 : BitVec 32 := Scalar.select v1351 v1352 v1346
  let c0_i32_825 : BitVec 32 := 0#32
  let c0_i32_826 : BitVec 32 := 0#32
  ![v1353.toNat, 0, 0]
def k0_off159 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c21_i32_806 : BitVec 32 := 21#32
  let v1334 : BitVec 32 := Scalar.divsi arg28 c21_i32_806
  let c21_i32_807 : BitVec 32 := 21#32
  let v1335 : BitVec 32 := Scalar.remsi arg28 c21_i32_807
  let c6_i32_808 : BitVec 32 := 6#32
  let v1336 : BitVec 32 := Scalar.remsi v1335 c6_i32_808
  let c512_i32_811 : BitVec 32 := 512#32
  let v1340 : BitVec 32 := Scalar.muli v1336 c512_i32_811
  let v1341 : BitVec 32 := v1340
  let c6_i32_809 : BitVec 32 := 6#32
  let v1337 : BitVec 32 := Scalar.divsi v1335 c6_i32_809
  let v1338 : BitVec 32 := Scalar.addi v1336 v1337
  let c6_i32_810 : BitVec 32 := 6#32
  let v1339 : BitVec 32 := Scalar.remsi v1338 c6_i32_810
  let c512_i32_812 : BitVec 32 := 512#32
  let v1342 : BitVec 32 := Scalar.muli v1339 c512_i32_812
  let v1343 : BitVec 32 := v1342
  ![v1334.toNat, v1341.toNat, v1343.toNat]
def k0_cond28 (k0_t1 : Fin k0_t1_loop.trips) : BitVec 1 :=
  let c0_i32_369 : BitVec 32 := 0#32
  let c1_i32_371 : BitVec 32 := 1#32
  let arg28 : BitVec 32 := Scf.iv c0_i32_369 c1_i32_371 k0_t1
  let c1_i32_795 : BitVec 32 := 1#32
  let v1316 : BitVec 1 := Scalar.cmpi .sge arg28 c1_i32_795
  let v1317 : BitVec 32 := Scalar.extui v1316
  let c0_i32_796 : BitVec 32 := 0#32
  let v1318 : BitVec 1 := Scalar.cmpi .ne v1317 c0_i32_796
  v1318

def k0_mult235 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c1_i32_806 : BitVec 32 := 1#32
  let v1334 : BitVec 32 := Scalar.subi arg28 c1_i32_806
  let c21_i32_808 : BitVec 32 := 21#32
  let v1336 : BitVec 32 := Scalar.remsi v1334 c21_i32_808
  let c6_i32_809 : BitVec 32 := 6#32
  let v1337 : BitVec 32 := Scalar.remsi v1336 c6_i32_809
  let c512_i32_818 : BitVec 32 := 512#32
  let v1351 : BitVec 32 := Scalar.muli v1337 c512_i32_818
  v1351
def k0_mult236 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c1_i32_806 : BitVec 32 := 1#32
  let v1334 : BitVec 32 := Scalar.subi arg28 c1_i32_806
  let c21_i32_808 : BitVec 32 := 21#32
  let v1336 : BitVec 32 := Scalar.remsi v1334 c21_i32_808
  let c6_i32_809 : BitVec 32 := 6#32
  let v1337 : BitVec 32 := Scalar.remsi v1336 c6_i32_809
  let c6_i32_810 : BitVec 32 := 6#32
  let v1338 : BitVec 32 := Scalar.divsi v1336 c6_i32_810
  let v1339 : BitVec 32 := Scalar.addi v1337 v1338
  let c6_i32_811 : BitVec 32 := 6#32
  let v1340 : BitVec 32 := Scalar.remsi v1339 c6_i32_811
  let c512_i32_819 : BitVec 32 := 512#32
  let v1353 : BitVec 32 := Scalar.muli v1340 c512_i32_819
  v1353
def k0_off160 (k0_t1 : Fin k0_t1_loop.trips) : Fin 1 → Nat :=
  let c0_i32_369 : BitVec 32 := 0#32
  let c1_i32_371 : BitVec 32 := 1#32
  let arg28 : BitVec 32 := Scf.iv c0_i32_369 c1_i32_371 k0_t1
  let c1_i32_806 : BitVec 32 := 1#32
  let v1334 : BitVec 32 := Scalar.subi arg28 c1_i32_806
  let c24_i32_820 : BitVec 32 := 24#32
  let c0_i32_821 : BitVec 32 := 0#32
  let v1355 : BitVec 1 := Scalar.cmpi .eq c24_i32_820 c0_i32_821
  let c1_i32_822 : BitVec 32 := 1#32
  let v1356 : BitVec 32 := Scalar.select v1355 c1_i32_822 c24_i32_820
  let v1357 : BitVec 32 := Scalar.remsi v1334 v1356
  let c0_i32_824 : BitVec 32 := 0#32
  let v1359 : BitVec 1 := Scalar.cmpi .slt v1357 c0_i32_824
  let c0_i32_825 : BitVec 32 := 0#32
  let v1360 : BitVec 1 := Scalar.cmpi .slt v1356 c0_i32_825
  let v1361 : BitVec 1 := Scalar.xori v1359 v1360
  let c0_i32_823 : BitVec 32 := 0#32
  let v1358 : BitVec 1 := Scalar.cmpi .ne v1357 c0_i32_823
  let v1362 : BitVec 1 := Scalar.andi v1361 v1358
  let v1363 : BitVec 32 := Scalar.addi v1357 v1356
  let v1364 : BitVec 32 := Scalar.select v1362 v1363 v1357
  ![v1364.toNat]
def k0_off161 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c1_i32_806 : BitVec 32 := 1#32
  let v1334 : BitVec 32 := Scalar.subi arg28 c1_i32_806
  let c21_i32_807 : BitVec 32 := 21#32
  let v1335 : BitVec 32 := Scalar.divsi v1334 c21_i32_807
  let c21_i32_808 : BitVec 32 := 21#32
  let v1336 : BitVec 32 := Scalar.remsi v1334 c21_i32_808
  let c6_i32_809 : BitVec 32 := 6#32
  let v1337 : BitVec 32 := Scalar.remsi v1336 c6_i32_809
  let c512_i32_818 : BitVec 32 := 512#32
  let v1351 : BitVec 32 := Scalar.muli v1337 c512_i32_818
  let v1352 : BitVec 32 := v1351
  let c6_i32_810 : BitVec 32 := 6#32
  let v1338 : BitVec 32 := Scalar.divsi v1336 c6_i32_810
  let v1339 : BitVec 32 := Scalar.addi v1337 v1338
  let c6_i32_811 : BitVec 32 := 6#32
  let v1340 : BitVec 32 := Scalar.remsi v1339 c6_i32_811
  let c512_i32_819 : BitVec 32 := 512#32
  let v1353 : BitVec 32 := Scalar.muli v1340 c512_i32_819
  let v1354 : BitVec 32 := v1353
  ![v1335.toNat, v1352.toNat, v1354.toNat]
def k0_off162 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c1_i32_806 : BitVec 32 := 1#32
  let v1334 : BitVec 32 := Scalar.subi arg28 c1_i32_806
  let c24_i32_812 : BitVec 32 := 24#32
  let c0_i32_813 : BitVec 32 := 0#32
  let v1341 : BitVec 1 := Scalar.cmpi .eq c24_i32_812 c0_i32_813
  let c1_i32_814 : BitVec 32 := 1#32
  let v1342 : BitVec 32 := Scalar.select v1341 c1_i32_814 c24_i32_812
  let v1343 : BitVec 32 := Scalar.remsi v1334 v1342
  let c0_i32_816 : BitVec 32 := 0#32
  let v1345 : BitVec 1 := Scalar.cmpi .slt v1343 c0_i32_816
  let c0_i32_817 : BitVec 32 := 0#32
  let v1346 : BitVec 1 := Scalar.cmpi .slt v1342 c0_i32_817
  let v1347 : BitVec 1 := Scalar.xori v1345 v1346
  let c0_i32_815 : BitVec 32 := 0#32
  let v1344 : BitVec 1 := Scalar.cmpi .ne v1343 c0_i32_815
  let v1348 : BitVec 1 := Scalar.andi v1347 v1344
  let v1349 : BitVec 32 := Scalar.addi v1343 v1342
  let v1350 : BitVec 32 := Scalar.select v1348 v1349 v1343
  let c0_i32_826 : BitVec 32 := 0#32
  let c0_i32_827 : BitVec 32 := 0#32
  ![v1350.toNat, 0, 0]
def k0_cond29 (k0_t1 : Fin k0_t1_loop.trips) : BitVec 1 :=
  let c0_i32_369 : BitVec 32 := 0#32
  let c1_i32_371 : BitVec 32 := 1#32
  let arg28 : BitVec 32 := Scf.iv c0_i32_369 c1_i32_371 k0_t1
  let c1_i32_806 : BitVec 32 := 1#32
  let v1334 : BitVec 32 := Scalar.subi arg28 c1_i32_806
  let c21_i32_828 : BitVec 32 := 21#32
  let v1371 : BitVec 32 := Scalar.remsi v1334 c21_i32_828
  let c6_i32_829 : BitVec 32 := 6#32
  let v1372 : BitVec 32 := Scalar.divsi v1371 c6_i32_829
  let c0_i32_830 : BitVec 32 := 0#32
  let v1373 : BitVec 1 := Scalar.cmpi .eq v1372 c0_i32_830
  let true_831 : BitVec 1 := 1#1
  let v1374 : BitVec 1 := Scalar.xori v1373 true_831
  let v1375 : BitVec 32 := Scalar.extui v1374
  let c0_i32_832 : BitVec 32 := 0#32
  let v1376 : BitVec 1 := Scalar.cmpi .ne v1375 c0_i32_832
  v1376

def k0_mult237 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c1_i32_806 : BitVec 32 := 1#32
  let v1334 : BitVec 32 := Scalar.subi arg28 c1_i32_806
  let c21_i32_834 : BitVec 32 := 21#32
  let v1378 : BitVec 32 := Scalar.remsi v1334 c21_i32_834
  let c6_i32_835 : BitVec 32 := 6#32
  let v1379 : BitVec 32 := Scalar.remsi v1378 c6_i32_835
  let c6_i32_836 : BitVec 32 := 6#32
  let v1380 : BitVec 32 := Scalar.divsi v1378 c6_i32_836
  let v1381 : BitVec 32 := Scalar.addi v1379 v1380
  let c6_i32_837 : BitVec 32 := 6#32
  let v1382 : BitVec 32 := Scalar.remsi v1381 c6_i32_837
  let c512_i32_844 : BitVec 32 := 512#32
  let v1393 : BitVec 32 := Scalar.muli v1382 c512_i32_844
  v1393
def k0_mult238 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c1_i32_806 : BitVec 32 := 1#32
  let v1334 : BitVec 32 := Scalar.subi arg28 c1_i32_806
  let c21_i32_834 : BitVec 32 := 21#32
  let v1378 : BitVec 32 := Scalar.remsi v1334 c21_i32_834
  let c6_i32_835 : BitVec 32 := 6#32
  let v1379 : BitVec 32 := Scalar.remsi v1378 c6_i32_835
  let c512_i32_845 : BitVec 32 := 512#32
  let v1395 : BitVec 32 := Scalar.muli v1379 c512_i32_845
  v1395
def k0_off163 (k0_t1 : Fin k0_t1_loop.trips) : Fin 1 → Nat :=
  let c0_i32_369 : BitVec 32 := 0#32
  let c1_i32_371 : BitVec 32 := 1#32
  let arg28 : BitVec 32 := Scf.iv c0_i32_369 c1_i32_371 k0_t1
  let c1_i32_806 : BitVec 32 := 1#32
  let v1334 : BitVec 32 := Scalar.subi arg28 c1_i32_806
  let c12_i32_846 : BitVec 32 := 12#32
  let c0_i32_847 : BitVec 32 := 0#32
  let v1397 : BitVec 1 := Scalar.cmpi .eq c12_i32_846 c0_i32_847
  let c1_i32_848 : BitVec 32 := 1#32
  let v1398 : BitVec 32 := Scalar.select v1397 c1_i32_848 c12_i32_846
  let v1399 : BitVec 32 := Scalar.remsi v1334 v1398
  let c0_i32_850 : BitVec 32 := 0#32
  let v1401 : BitVec 1 := Scalar.cmpi .slt v1399 c0_i32_850
  let c0_i32_851 : BitVec 32 := 0#32
  let v1402 : BitVec 1 := Scalar.cmpi .slt v1398 c0_i32_851
  let v1403 : BitVec 1 := Scalar.xori v1401 v1402
  let c0_i32_849 : BitVec 32 := 0#32
  let v1400 : BitVec 1 := Scalar.cmpi .ne v1399 c0_i32_849
  let v1404 : BitVec 1 := Scalar.andi v1403 v1400
  let v1405 : BitVec 32 := Scalar.addi v1399 v1398
  let v1406 : BitVec 32 := Scalar.select v1404 v1405 v1399
  ![v1406.toNat]
def k0_off164 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c1_i32_806 : BitVec 32 := 1#32
  let v1334 : BitVec 32 := Scalar.subi arg28 c1_i32_806
  let c21_i32_833 : BitVec 32 := 21#32
  let v1377 : BitVec 32 := Scalar.divsi v1334 c21_i32_833
  let c21_i32_834 : BitVec 32 := 21#32
  let v1378 : BitVec 32 := Scalar.remsi v1334 c21_i32_834
  let c6_i32_835 : BitVec 32 := 6#32
  let v1379 : BitVec 32 := Scalar.remsi v1378 c6_i32_835
  let c6_i32_836 : BitVec 32 := 6#32
  let v1380 : BitVec 32 := Scalar.divsi v1378 c6_i32_836
  let v1381 : BitVec 32 := Scalar.addi v1379 v1380
  let c6_i32_837 : BitVec 32 := 6#32
  let v1382 : BitVec 32 := Scalar.remsi v1381 c6_i32_837
  let c512_i32_844 : BitVec 32 := 512#32
  let v1393 : BitVec 32 := Scalar.muli v1382 c512_i32_844
  let v1394 : BitVec 32 := v1393
  let c512_i32_845 : BitVec 32 := 512#32
  let v1395 : BitVec 32 := Scalar.muli v1379 c512_i32_845
  let v1396 : BitVec 32 := v1395
  ![v1377.toNat, v1394.toNat, v1396.toNat]
def k0_off165 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c1_i32_806 : BitVec 32 := 1#32
  let v1334 : BitVec 32 := Scalar.subi arg28 c1_i32_806
  let c12_i32_838 : BitVec 32 := 12#32
  let c0_i32_839 : BitVec 32 := 0#32
  let v1383 : BitVec 1 := Scalar.cmpi .eq c12_i32_838 c0_i32_839
  let c1_i32_840 : BitVec 32 := 1#32
  let v1384 : BitVec 32 := Scalar.select v1383 c1_i32_840 c12_i32_838
  let v1385 : BitVec 32 := Scalar.remsi v1334 v1384
  let c0_i32_842 : BitVec 32 := 0#32
  let v1387 : BitVec 1 := Scalar.cmpi .slt v1385 c0_i32_842
  let c0_i32_843 : BitVec 32 := 0#32
  let v1388 : BitVec 1 := Scalar.cmpi .slt v1384 c0_i32_843
  let v1389 : BitVec 1 := Scalar.xori v1387 v1388
  let c0_i32_841 : BitVec 32 := 0#32
  let v1386 : BitVec 1 := Scalar.cmpi .ne v1385 c0_i32_841
  let v1390 : BitVec 1 := Scalar.andi v1389 v1386
  let v1391 : BitVec 32 := Scalar.addi v1385 v1384
  let v1392 : BitVec 32 := Scalar.select v1390 v1391 v1385
  let c0_i32_852 : BitVec 32 := 0#32
  let c0_i32_853 : BitVec 32 := 0#32
  ![v1392.toNat, 0, 0]
def k0_cond30 (k0_t1 : Fin k0_t1_loop.trips) : BitVec 1 :=
  let c0_i32_369 : BitVec 32 := 0#32
  let c1_i32_371 : BitVec 32 := 1#32
  let arg28 : BitVec 32 := Scf.iv c0_i32_369 c1_i32_371 k0_t1
  let c12_i32 : BitVec 32 := 12#32
  let v1319 : BitVec 1 := Scalar.cmpi .sge arg28 c12_i32
  let v1320 : BitVec 32 := Scalar.extui v1319
  let c0_i32_797 : BitVec 32 := 0#32
  let v1321 : BitVec 1 := Scalar.cmpi .ne v1320 c0_i32_797
  v1321

def k0_mult239 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.subi arg28 c12_i32_806
  let c21_i32_808 : BitVec 32 := 21#32
  let v1336 : BitVec 32 := Scalar.remsi v1334 c21_i32_808
  let c6_i32_809 : BitVec 32 := 6#32
  let v1337 : BitVec 32 := Scalar.remsi v1336 c6_i32_809
  let c512_i32_818 : BitVec 32 := 512#32
  let v1351 : BitVec 32 := Scalar.muli v1337 c512_i32_818
  v1351
def k0_mult240 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.subi arg28 c12_i32_806
  let c21_i32_808 : BitVec 32 := 21#32
  let v1336 : BitVec 32 := Scalar.remsi v1334 c21_i32_808
  let c6_i32_809 : BitVec 32 := 6#32
  let v1337 : BitVec 32 := Scalar.remsi v1336 c6_i32_809
  let c6_i32_810 : BitVec 32 := 6#32
  let v1338 : BitVec 32 := Scalar.divsi v1336 c6_i32_810
  let v1339 : BitVec 32 := Scalar.addi v1337 v1338
  let c6_i32_811 : BitVec 32 := 6#32
  let v1340 : BitVec 32 := Scalar.remsi v1339 c6_i32_811
  let c512_i32_819 : BitVec 32 := 512#32
  let v1353 : BitVec 32 := Scalar.muli v1340 c512_i32_819
  v1353
def k0_off166 (k0_t1 : Fin k0_t1_loop.trips) : Fin 1 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.subi arg28 c12_i32_806
  let c24_i32_820 : BitVec 32 := 24#32
  let c0_i32_821 : BitVec 32 := 0#32
  let v1355 : BitVec 1 := Scalar.cmpi .eq c24_i32_820 c0_i32_821
  let c1_i32_822 : BitVec 32 := 1#32
  let v1356 : BitVec 32 := Scalar.select v1355 c1_i32_822 c24_i32_820
  let v1357 : BitVec 32 := Scalar.remsi v1334 v1356
  let c0_i32_824 : BitVec 32 := 0#32
  let v1359 : BitVec 1 := Scalar.cmpi .slt v1357 c0_i32_824
  let c0_i32_825 : BitVec 32 := 0#32
  let v1360 : BitVec 1 := Scalar.cmpi .slt v1356 c0_i32_825
  let v1361 : BitVec 1 := Scalar.xori v1359 v1360
  let c0_i32_823 : BitVec 32 := 0#32
  let v1358 : BitVec 1 := Scalar.cmpi .ne v1357 c0_i32_823
  let v1362 : BitVec 1 := Scalar.andi v1361 v1358
  let v1363 : BitVec 32 := Scalar.addi v1357 v1356
  let v1364 : BitVec 32 := Scalar.select v1362 v1363 v1357
  ![v1364.toNat]
def k0_off167 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.subi arg28 c12_i32_806
  let c21_i32_807 : BitVec 32 := 21#32
  let v1335 : BitVec 32 := Scalar.divsi v1334 c21_i32_807
  let c21_i32_808 : BitVec 32 := 21#32
  let v1336 : BitVec 32 := Scalar.remsi v1334 c21_i32_808
  let c6_i32_809 : BitVec 32 := 6#32
  let v1337 : BitVec 32 := Scalar.remsi v1336 c6_i32_809
  let c512_i32_818 : BitVec 32 := 512#32
  let v1351 : BitVec 32 := Scalar.muli v1337 c512_i32_818
  let v1352 : BitVec 32 := v1351
  let c6_i32_810 : BitVec 32 := 6#32
  let v1338 : BitVec 32 := Scalar.divsi v1336 c6_i32_810
  let v1339 : BitVec 32 := Scalar.addi v1337 v1338
  let c6_i32_811 : BitVec 32 := 6#32
  let v1340 : BitVec 32 := Scalar.remsi v1339 c6_i32_811
  let c512_i32_819 : BitVec 32 := 512#32
  let v1353 : BitVec 32 := Scalar.muli v1340 c512_i32_819
  let v1354 : BitVec 32 := v1353
  ![v1335.toNat, v1352.toNat, v1354.toNat]
def k0_off168 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.subi arg28 c12_i32_806
  let c24_i32_812 : BitVec 32 := 24#32
  let c0_i32_813 : BitVec 32 := 0#32
  let v1341 : BitVec 1 := Scalar.cmpi .eq c24_i32_812 c0_i32_813
  let c1_i32_814 : BitVec 32 := 1#32
  let v1342 : BitVec 32 := Scalar.select v1341 c1_i32_814 c24_i32_812
  let v1343 : BitVec 32 := Scalar.remsi v1334 v1342
  let c0_i32_816 : BitVec 32 := 0#32
  let v1345 : BitVec 1 := Scalar.cmpi .slt v1343 c0_i32_816
  let c0_i32_817 : BitVec 32 := 0#32
  let v1346 : BitVec 1 := Scalar.cmpi .slt v1342 c0_i32_817
  let v1347 : BitVec 1 := Scalar.xori v1345 v1346
  let c0_i32_815 : BitVec 32 := 0#32
  let v1344 : BitVec 1 := Scalar.cmpi .ne v1343 c0_i32_815
  let v1348 : BitVec 1 := Scalar.andi v1347 v1344
  let v1349 : BitVec 32 := Scalar.addi v1343 v1342
  let v1350 : BitVec 32 := Scalar.select v1348 v1349 v1343
  let c0_i32_826 : BitVec 32 := 0#32
  let c0_i32_827 : BitVec 32 := 0#32
  ![v1350.toNat, 0, 0]
def k0_cond31 (k0_t1 : Fin k0_t1_loop.trips) : BitVec 1 :=
  let c0_i32_369 : BitVec 32 := 0#32
  let c1_i32_371 : BitVec 32 := 1#32
  let arg28 : BitVec 32 := Scf.iv c0_i32_369 c1_i32_371 k0_t1
  let c12_i32_798 : BitVec 32 := 12#32
  let v1322 : BitVec 32 := Scalar.addi arg28 c12_i32_798
  let c126_i32_799 : BitVec 32 := 126#32
  let v1323 : BitVec 1 := Scalar.cmpi .slt v1322 c126_i32_799
  let v1324 : BitVec 32 := Scalar.extui v1323
  let c0_i32_800 : BitVec 32 := 0#32
  let v1325 : BitVec 1 := Scalar.cmpi .ne v1324 c0_i32_800
  v1325

def k0_cond32 (k0_t1 : Fin k0_t1_loop.trips) : BitVec 1 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_807 : BitVec 32 := 21#32
  let v1335 : BitVec 32 := Scalar.remsi v1334 c21_i32_807
  let c6_i32_808 : BitVec 32 := 6#32
  let v1336 : BitVec 32 := Scalar.divsi v1335 c6_i32_808
  let c0_i32_809 : BitVec 32 := 0#32
  let v1337 : BitVec 1 := Scalar.cmpi .eq v1336 c0_i32_809
  let v1338 : BitVec 32 := Scalar.extui v1337
  let c0_i32_810 : BitVec 32 := 0#32
  let v1339 : BitVec 1 := Scalar.cmpi .ne v1338 c0_i32_810
  v1339

def k0_mult241 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_816 : BitVec 32 := 512#32
  let v1346 : BitVec 32 := Scalar.muli v1345 c512_i32_816
  v1346
def k0_mult242 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_816 : BitVec 32 := 512#32
  let v1346 : BitVec 32 := Scalar.muli v1345 c512_i32_816
  let v1347 : BitVec 32 := v1346
  let c0_i32_817 : BitVec 32 := 0#32
  let v1348 : BitVec 32 := Scalar.addi v1347 c0_i32_817
  v1348
def k0_mult243 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_818 : BitVec 32 := 512#32
  let v1350 : BitVec 32 := Scalar.muli v1345 c512_i32_818
  v1350
def k0_mult244 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_818 : BitVec 32 := 512#32
  let v1350 : BitVec 32 := Scalar.muli v1345 c512_i32_818
  let v1351 : BitVec 32 := v1350
  let c0_i32_819 : BitVec 32 := 0#32
  let v1352 : BitVec 32 := Scalar.addi v1351 c0_i32_819
  v1352
def k0_mult245 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_832 : BitVec 32 := 512#32
  let v1374 : BitVec 32 := Scalar.muli v1345 c512_i32_832
  v1374
def k0_mult246 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_832 : BitVec 32 := 512#32
  let v1374 : BitVec 32 := Scalar.muli v1345 c512_i32_832
  let v1375 : BitVec 32 := v1374
  let c128_i32 : BitVec 32 := 128#32
  let v1376 : BitVec 32 := Scalar.addi v1375 c128_i32
  v1376
def k0_mult247 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_833 : BitVec 32 := 512#32
  let v1378 : BitVec 32 := Scalar.muli v1345 c512_i32_833
  v1378
def k0_mult248 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_833 : BitVec 32 := 512#32
  let v1378 : BitVec 32 := Scalar.muli v1345 c512_i32_833
  let v1379 : BitVec 32 := v1378
  let c128_i32_834 : BitVec 32 := 128#32
  let v1380 : BitVec 32 := Scalar.addi v1379 c128_i32_834
  v1380
def k0_mult249 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_847 : BitVec 32 := 512#32
  let v1402 : BitVec 32 := Scalar.muli v1345 c512_i32_847
  v1402
def k0_mult250 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_847 : BitVec 32 := 512#32
  let v1402 : BitVec 32 := Scalar.muli v1345 c512_i32_847
  let v1403 : BitVec 32 := v1402
  let c256_i32 : BitVec 32 := 256#32
  let v1404 : BitVec 32 := Scalar.addi v1403 c256_i32
  v1404
def k0_mult251 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_848 : BitVec 32 := 512#32
  let v1406 : BitVec 32 := Scalar.muli v1345 c512_i32_848
  v1406
def k0_mult252 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_848 : BitVec 32 := 512#32
  let v1406 : BitVec 32 := Scalar.muli v1345 c512_i32_848
  let v1407 : BitVec 32 := v1406
  let c256_i32_849 : BitVec 32 := 256#32
  let v1408 : BitVec 32 := Scalar.addi v1407 c256_i32_849
  v1408
def k0_mult253 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_862 : BitVec 32 := 512#32
  let v1430 : BitVec 32 := Scalar.muli v1345 c512_i32_862
  v1430
def k0_mult254 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_862 : BitVec 32 := 512#32
  let v1430 : BitVec 32 := Scalar.muli v1345 c512_i32_862
  let v1431 : BitVec 32 := v1430
  let c384_i32 : BitVec 32 := 384#32
  let v1432 : BitVec 32 := Scalar.addi v1431 c384_i32
  v1432
def k0_mult255 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_863 : BitVec 32 := 512#32
  let v1434 : BitVec 32 := Scalar.muli v1345 c512_i32_863
  v1434
def k0_mult256 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_863 : BitVec 32 := 512#32
  let v1434 : BitVec 32 := Scalar.muli v1345 c512_i32_863
  let v1435 : BitVec 32 := v1434
  let c384_i32_864 : BitVec 32 := 384#32
  let v1436 : BitVec 32 := Scalar.addi v1435 c384_i32_864
  v1436
def k0_off169 (k0_t1 : Fin k0_t1_loop.trips) : Fin 1 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c24_i32_826 : BitVec 32 := 24#32
  let c0_i32_827 : BitVec 32 := 0#32
  let v1364 : BitVec 1 := Scalar.cmpi .eq c24_i32_826 c0_i32_827
  let c1_i32_828 : BitVec 32 := 1#32
  let v1365 : BitVec 32 := Scalar.select v1364 c1_i32_828 c24_i32_826
  let v1366 : BitVec 32 := Scalar.remsi v1334 v1365
  let c0_i32_830 : BitVec 32 := 0#32
  let v1368 : BitVec 1 := Scalar.cmpi .slt v1366 c0_i32_830
  let c0_i32_831 : BitVec 32 := 0#32
  let v1369 : BitVec 1 := Scalar.cmpi .slt v1365 c0_i32_831
  let v1370 : BitVec 1 := Scalar.xori v1368 v1369
  let c0_i32_829 : BitVec 32 := 0#32
  let v1367 : BitVec 1 := Scalar.cmpi .ne v1366 c0_i32_829
  let v1371 : BitVec 1 := Scalar.andi v1370 v1367
  let v1372 : BitVec 32 := Scalar.addi v1366 v1365
  let v1373 : BitVec 32 := Scalar.select v1371 v1372 v1366
  ![v1373.toNat]
def k0_off170 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c24_i32_820 : BitVec 32 := 24#32
  let c0_i32_821 : BitVec 32 := 0#32
  let v1354 : BitVec 1 := Scalar.cmpi .eq c24_i32_820 c0_i32_821
  let c1_i32_822 : BitVec 32 := 1#32
  let v1355 : BitVec 32 := Scalar.select v1354 c1_i32_822 c24_i32_820
  let v1356 : BitVec 32 := Scalar.remsi v1334 v1355
  let c0_i32_824 : BitVec 32 := 0#32
  let v1358 : BitVec 1 := Scalar.cmpi .slt v1356 c0_i32_824
  let c0_i32_825 : BitVec 32 := 0#32
  let v1359 : BitVec 1 := Scalar.cmpi .slt v1355 c0_i32_825
  let v1360 : BitVec 1 := Scalar.xori v1358 v1359
  let c0_i32_823 : BitVec 32 := 0#32
  let v1357 : BitVec 1 := Scalar.cmpi .ne v1356 c0_i32_823
  let v1361 : BitVec 1 := Scalar.andi v1360 v1357
  let v1362 : BitVec 32 := Scalar.addi v1356 v1355
  let v1363 : BitVec 32 := Scalar.select v1361 v1362 v1356
  let c0_i32_877 : BitVec 32 := 0#32
  let c0_i32_878 : BitVec 32 := 0#32
  ![v1363.toNat, 0, 0]
def k0_off171 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_813 : BitVec 32 := 21#32
  let v1343 : BitVec 32 := Scalar.divsi v1334 c21_i32_813
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_816 : BitVec 32 := 512#32
  let v1346 : BitVec 32 := Scalar.muli v1345 c512_i32_816
  let v1347 : BitVec 32 := v1346
  let c0_i32_817 : BitVec 32 := 0#32
  let v1348 : BitVec 32 := Scalar.addi v1347 c0_i32_817
  let v1349 : BitVec 32 := v1348
  let c512_i32_818 : BitVec 32 := 512#32
  let v1350 : BitVec 32 := Scalar.muli v1345 c512_i32_818
  let v1351 : BitVec 32 := v1350
  let c0_i32_819 : BitVec 32 := 0#32
  let v1352 : BitVec 32 := Scalar.addi v1351 c0_i32_819
  let v1353 : BitVec 32 := v1352
  ![v1343.toNat, v1349.toNat, v1353.toNat]
def k0_off172 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c24_i32_835 : BitVec 32 := 24#32
  let c0_i32_836 : BitVec 32 := 0#32
  let v1382 : BitVec 1 := Scalar.cmpi .eq c24_i32_835 c0_i32_836
  let c1_i32_837 : BitVec 32 := 1#32
  let v1383 : BitVec 32 := Scalar.select v1382 c1_i32_837 c24_i32_835
  let v1384 : BitVec 32 := Scalar.remsi v1334 v1383
  let c0_i32_839 : BitVec 32 := 0#32
  let v1386 : BitVec 1 := Scalar.cmpi .slt v1384 c0_i32_839
  let c0_i32_840 : BitVec 32 := 0#32
  let v1387 : BitVec 1 := Scalar.cmpi .slt v1383 c0_i32_840
  let v1388 : BitVec 1 := Scalar.xori v1386 v1387
  let c0_i32_838 : BitVec 32 := 0#32
  let v1385 : BitVec 1 := Scalar.cmpi .ne v1384 c0_i32_838
  let v1389 : BitVec 1 := Scalar.andi v1388 v1385
  let v1390 : BitVec 32 := Scalar.addi v1384 v1383
  let v1391 : BitVec 32 := Scalar.select v1389 v1390 v1384
  let c128_i32_879 : BitVec 32 := 128#32
  let c128_i32_880 : BitVec 32 := 128#32
  ![v1391.toNat, 128, 128]
def k0_off173 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_813 : BitVec 32 := 21#32
  let v1343 : BitVec 32 := Scalar.divsi v1334 c21_i32_813
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_832 : BitVec 32 := 512#32
  let v1374 : BitVec 32 := Scalar.muli v1345 c512_i32_832
  let v1375 : BitVec 32 := v1374
  let c128_i32 : BitVec 32 := 128#32
  let v1376 : BitVec 32 := Scalar.addi v1375 c128_i32
  let v1377 : BitVec 32 := v1376
  let c512_i32_833 : BitVec 32 := 512#32
  let v1378 : BitVec 32 := Scalar.muli v1345 c512_i32_833
  let v1379 : BitVec 32 := v1378
  let c128_i32_834 : BitVec 32 := 128#32
  let v1380 : BitVec 32 := Scalar.addi v1379 c128_i32_834
  let v1381 : BitVec 32 := v1380
  ![v1343.toNat, v1377.toNat, v1381.toNat]
def k0_off174 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c24_i32_850 : BitVec 32 := 24#32
  let c0_i32_851 : BitVec 32 := 0#32
  let v1410 : BitVec 1 := Scalar.cmpi .eq c24_i32_850 c0_i32_851
  let c1_i32_852 : BitVec 32 := 1#32
  let v1411 : BitVec 32 := Scalar.select v1410 c1_i32_852 c24_i32_850
  let v1412 : BitVec 32 := Scalar.remsi v1334 v1411
  let c0_i32_854 : BitVec 32 := 0#32
  let v1414 : BitVec 1 := Scalar.cmpi .slt v1412 c0_i32_854
  let c0_i32_855 : BitVec 32 := 0#32
  let v1415 : BitVec 1 := Scalar.cmpi .slt v1411 c0_i32_855
  let v1416 : BitVec 1 := Scalar.xori v1414 v1415
  let c0_i32_853 : BitVec 32 := 0#32
  let v1413 : BitVec 1 := Scalar.cmpi .ne v1412 c0_i32_853
  let v1417 : BitVec 1 := Scalar.andi v1416 v1413
  let v1418 : BitVec 32 := Scalar.addi v1412 v1411
  let v1419 : BitVec 32 := Scalar.select v1417 v1418 v1412
  let c256_i32_881 : BitVec 32 := 256#32
  let c256_i32_882 : BitVec 32 := 256#32
  ![v1419.toNat, 256, 256]
def k0_off175 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_813 : BitVec 32 := 21#32
  let v1343 : BitVec 32 := Scalar.divsi v1334 c21_i32_813
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_847 : BitVec 32 := 512#32
  let v1402 : BitVec 32 := Scalar.muli v1345 c512_i32_847
  let v1403 : BitVec 32 := v1402
  let c256_i32 : BitVec 32 := 256#32
  let v1404 : BitVec 32 := Scalar.addi v1403 c256_i32
  let v1405 : BitVec 32 := v1404
  let c512_i32_848 : BitVec 32 := 512#32
  let v1406 : BitVec 32 := Scalar.muli v1345 c512_i32_848
  let v1407 : BitVec 32 := v1406
  let c256_i32_849 : BitVec 32 := 256#32
  let v1408 : BitVec 32 := Scalar.addi v1407 c256_i32_849
  let v1409 : BitVec 32 := v1408
  ![v1343.toNat, v1405.toNat, v1409.toNat]
def k0_off176 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c24_i32_865 : BitVec 32 := 24#32
  let c0_i32_866 : BitVec 32 := 0#32
  let v1438 : BitVec 1 := Scalar.cmpi .eq c24_i32_865 c0_i32_866
  let c1_i32_867 : BitVec 32 := 1#32
  let v1439 : BitVec 32 := Scalar.select v1438 c1_i32_867 c24_i32_865
  let v1440 : BitVec 32 := Scalar.remsi v1334 v1439
  let c0_i32_869 : BitVec 32 := 0#32
  let v1442 : BitVec 1 := Scalar.cmpi .slt v1440 c0_i32_869
  let c0_i32_870 : BitVec 32 := 0#32
  let v1443 : BitVec 1 := Scalar.cmpi .slt v1439 c0_i32_870
  let v1444 : BitVec 1 := Scalar.xori v1442 v1443
  let c0_i32_868 : BitVec 32 := 0#32
  let v1441 : BitVec 1 := Scalar.cmpi .ne v1440 c0_i32_868
  let v1445 : BitVec 1 := Scalar.andi v1444 v1441
  let v1446 : BitVec 32 := Scalar.addi v1440 v1439
  let v1447 : BitVec 32 := Scalar.select v1445 v1446 v1440
  let c384_i32_883 : BitVec 32 := 384#32
  let c384_i32_884 : BitVec 32 := 384#32
  ![v1447.toNat, 384, 384]
def k0_off177 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_813 : BitVec 32 := 21#32
  let v1343 : BitVec 32 := Scalar.divsi v1334 c21_i32_813
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_862 : BitVec 32 := 512#32
  let v1430 : BitVec 32 := Scalar.muli v1345 c512_i32_862
  let v1431 : BitVec 32 := v1430
  let c384_i32 : BitVec 32 := 384#32
  let v1432 : BitVec 32 := Scalar.addi v1431 c384_i32
  let v1433 : BitVec 32 := v1432
  let c512_i32_863 : BitVec 32 := 512#32
  let v1434 : BitVec 32 := Scalar.muli v1345 c512_i32_863
  let v1435 : BitVec 32 := v1434
  let c384_i32_864 : BitVec 32 := 384#32
  let v1436 : BitVec 32 := Scalar.addi v1435 c384_i32_864
  let v1437 : BitVec 32 := v1436
  ![v1343.toNat, v1433.toNat, v1437.toNat]
def k0_cond33 (k0_t1 : Fin k0_t1_loop.trips) : BitVec 1 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_807 : BitVec 32 := 21#32
  let v1335 : BitVec 32 := Scalar.remsi v1334 c21_i32_807
  let c6_i32_808 : BitVec 32 := 6#32
  let v1336 : BitVec 32 := Scalar.divsi v1335 c6_i32_808
  let c0_i32_809 : BitVec 32 := 0#32
  let v1337 : BitVec 1 := Scalar.cmpi .eq v1336 c0_i32_809
  let true_811 : BitVec 1 := 1#1
  let v1340 : BitVec 1 := Scalar.xori v1337 true_811
  let v1341 : BitVec 32 := Scalar.extui v1340
  let c0_i32_812 : BitVec 32 := 0#32
  let v1342 : BitVec 1 := Scalar.cmpi .ne v1341 c0_i32_812
  v1342

def k0_mult257 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_818 : BitVec 32 := 512#32
  let v1349 : BitVec 32 := Scalar.muli v1345 c512_i32_818
  v1349
def k0_mult258 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_814 : BitVec 32 := 21#32
  let v1344 : BitVec 32 := Scalar.remsi v1334 c21_i32_814
  let c6_i32_815 : BitVec 32 := 6#32
  let v1345 : BitVec 32 := Scalar.remsi v1344 c6_i32_815
  let c6_i32_816 : BitVec 32 := 6#32
  let v1346 : BitVec 32 := Scalar.divsi v1344 c6_i32_816
  let v1347 : BitVec 32 := Scalar.addi v1345 v1346
  let c6_i32_817 : BitVec 32 := 6#32
  let v1348 : BitVec 32 := Scalar.remsi v1347 c6_i32_817
  let c512_i32_819 : BitVec 32 := 512#32
  let v1351 : BitVec 32 := Scalar.muli v1348 c512_i32_819
  v1351
def k0_off178 (k0_t1 : Fin k0_t1_loop.trips) : Fin 1 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c24_i32_826 : BitVec 32 := 24#32
  let c0_i32_827 : BitVec 32 := 0#32
  let v1363 : BitVec 1 := Scalar.cmpi .eq c24_i32_826 c0_i32_827
  let c1_i32_828 : BitVec 32 := 1#32
  let v1364 : BitVec 32 := Scalar.select v1363 c1_i32_828 c24_i32_826
  let v1365 : BitVec 32 := Scalar.remsi v1334 v1364
  let c0_i32_830 : BitVec 32 := 0#32
  let v1367 : BitVec 1 := Scalar.cmpi .slt v1365 c0_i32_830
  let c0_i32_831 : BitVec 32 := 0#32
  let v1368 : BitVec 1 := Scalar.cmpi .slt v1364 c0_i32_831
  let v1369 : BitVec 1 := Scalar.xori v1367 v1368
  let c0_i32_829 : BitVec 32 := 0#32
  let v1366 : BitVec 1 := Scalar.cmpi .ne v1365 c0_i32_829
  let v1370 : BitVec 1 := Scalar.andi v1369 v1366
  let v1371 : BitVec 32 := Scalar.addi v1365 v1364
  let v1372 : BitVec 32 := Scalar.select v1370 v1371 v1365
  ![v1372.toNat]
def k0_off179 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c24_i32_820 : BitVec 32 := 24#32
  let c0_i32_821 : BitVec 32 := 0#32
  let v1353 : BitVec 1 := Scalar.cmpi .eq c24_i32_820 c0_i32_821
  let c1_i32_822 : BitVec 32 := 1#32
  let v1354 : BitVec 32 := Scalar.select v1353 c1_i32_822 c24_i32_820
  let v1355 : BitVec 32 := Scalar.remsi v1334 v1354
  let c0_i32_824 : BitVec 32 := 0#32
  let v1357 : BitVec 1 := Scalar.cmpi .slt v1355 c0_i32_824
  let c0_i32_825 : BitVec 32 := 0#32
  let v1358 : BitVec 1 := Scalar.cmpi .slt v1354 c0_i32_825
  let v1359 : BitVec 1 := Scalar.xori v1357 v1358
  let c0_i32_823 : BitVec 32 := 0#32
  let v1356 : BitVec 1 := Scalar.cmpi .ne v1355 c0_i32_823
  let v1360 : BitVec 1 := Scalar.andi v1359 v1356
  let v1361 : BitVec 32 := Scalar.addi v1355 v1354
  let v1362 : BitVec 32 := Scalar.select v1360 v1361 v1355
  let c0_i32_832 : BitVec 32 := 0#32
  let c0_i32_833 : BitVec 32 := 0#32
  ![v1362.toNat, 0, 0]
def k0_off180 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.addi arg28 c12_i32_806
  let c21_i32_813 : BitVec 32 := 21#32
  let v1343 : BitVec 32 := Scalar.divsi v1334 c21_i32_813
  let c21_i32_814 : BitVec 32 := 21#32
  let v1344 : BitVec 32 := Scalar.remsi v1334 c21_i32_814
  let c6_i32_815 : BitVec 32 := 6#32
  let v1345 : BitVec 32 := Scalar.remsi v1344 c6_i32_815
  let c512_i32_818 : BitVec 32 := 512#32
  let v1349 : BitVec 32 := Scalar.muli v1345 c512_i32_818
  let v1350 : BitVec 32 := v1349
  let c6_i32_816 : BitVec 32 := 6#32
  let v1346 : BitVec 32 := Scalar.divsi v1344 c6_i32_816
  let v1347 : BitVec 32 := Scalar.addi v1345 v1346
  let c6_i32_817 : BitVec 32 := 6#32
  let v1348 : BitVec 32 := Scalar.remsi v1347 c6_i32_817
  let c512_i32_819 : BitVec 32 := 512#32
  let v1351 : BitVec 32 := Scalar.muli v1348 c512_i32_819
  let v1352 : BitVec 32 := v1351
  ![v1343.toNat, v1350.toNat, v1352.toNat]
def k0_cond34 (k0_t1 : Fin k0_t1_loop.trips) : BitVec 1 :=
  let c0_i32_369 : BitVec 32 := 0#32
  let c1_i32_371 : BitVec 32 := 1#32
  let arg28 : BitVec 32 := Scf.iv c0_i32_369 c1_i32_371 k0_t1
  let c12_i32_801 : BitVec 32 := 12#32
  let v1326 : BitVec 1 := Scalar.cmpi .sge arg28 c12_i32_801
  let v1327 : BitVec 32 := Scalar.extui v1326
  let c0_i32_802 : BitVec 32 := 0#32
  let v1328 : BitVec 1 := Scalar.cmpi .ne v1327 c0_i32_802
  v1328

def k0_cond35 (k0_t1 : Fin k0_t1_loop.trips) : BitVec 1 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.subi arg28 c12_i32_806
  let c21_i32_807 : BitVec 32 := 21#32
  let v1335 : BitVec 32 := Scalar.remsi v1334 c21_i32_807
  let c6_i32_808 : BitVec 32 := 6#32
  let v1336 : BitVec 32 := Scalar.divsi v1335 c6_i32_808
  let c0_i32_809 : BitVec 32 := 0#32
  let v1337 : BitVec 1 := Scalar.cmpi .eq v1336 c0_i32_809
  let true_810 : BitVec 1 := 1#1
  let v1338 : BitVec 1 := Scalar.xori v1337 true_810
  let v1339 : BitVec 32 := Scalar.extui v1338
  let c0_i32_811 : BitVec 32 := 0#32
  let v1340 : BitVec 1 := Scalar.cmpi .ne v1339 c0_i32_811
  v1340

def k0_mult259 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.subi arg28 c12_i32_806
  let c21_i32_813 : BitVec 32 := 21#32
  let v1342 : BitVec 32 := Scalar.remsi v1334 c21_i32_813
  let c6_i32_814 : BitVec 32 := 6#32
  let v1343 : BitVec 32 := Scalar.remsi v1342 c6_i32_814
  let c6_i32_815 : BitVec 32 := 6#32
  let v1344 : BitVec 32 := Scalar.divsi v1342 c6_i32_815
  let v1345 : BitVec 32 := Scalar.addi v1343 v1344
  let c6_i32_816 : BitVec 32 := 6#32
  let v1346 : BitVec 32 := Scalar.remsi v1345 c6_i32_816
  let c512_i32_823 : BitVec 32 := 512#32
  let v1357 : BitVec 32 := Scalar.muli v1346 c512_i32_823
  v1357
def k0_mult260 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.subi arg28 c12_i32_806
  let c21_i32_813 : BitVec 32 := 21#32
  let v1342 : BitVec 32 := Scalar.remsi v1334 c21_i32_813
  let c6_i32_814 : BitVec 32 := 6#32
  let v1343 : BitVec 32 := Scalar.remsi v1342 c6_i32_814
  let c512_i32_824 : BitVec 32 := 512#32
  let v1359 : BitVec 32 := Scalar.muli v1343 c512_i32_824
  v1359
def k0_off181 (k0_t1 : Fin k0_t1_loop.trips) : Fin 1 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.subi arg28 c12_i32_806
  let c12_i32_825 : BitVec 32 := 12#32
  let c0_i32_826 : BitVec 32 := 0#32
  let v1361 : BitVec 1 := Scalar.cmpi .eq c12_i32_825 c0_i32_826
  let c1_i32_827 : BitVec 32 := 1#32
  let v1362 : BitVec 32 := Scalar.select v1361 c1_i32_827 c12_i32_825
  let v1363 : BitVec 32 := Scalar.remsi v1334 v1362
  let c0_i32_829 : BitVec 32 := 0#32
  let v1365 : BitVec 1 := Scalar.cmpi .slt v1363 c0_i32_829
  let c0_i32_830 : BitVec 32 := 0#32
  let v1366 : BitVec 1 := Scalar.cmpi .slt v1362 c0_i32_830
  let v1367 : BitVec 1 := Scalar.xori v1365 v1366
  let c0_i32_828 : BitVec 32 := 0#32
  let v1364 : BitVec 1 := Scalar.cmpi .ne v1363 c0_i32_828
  let v1368 : BitVec 1 := Scalar.andi v1367 v1364
  let v1369 : BitVec 32 := Scalar.addi v1363 v1362
  let v1370 : BitVec 32 := Scalar.select v1368 v1369 v1363
  ![v1370.toNat]
def k0_off182 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.subi arg28 c12_i32_806
  let c21_i32_812 : BitVec 32 := 21#32
  let v1341 : BitVec 32 := Scalar.divsi v1334 c21_i32_812
  let c21_i32_813 : BitVec 32 := 21#32
  let v1342 : BitVec 32 := Scalar.remsi v1334 c21_i32_813
  let c6_i32_814 : BitVec 32 := 6#32
  let v1343 : BitVec 32 := Scalar.remsi v1342 c6_i32_814
  let c6_i32_815 : BitVec 32 := 6#32
  let v1344 : BitVec 32 := Scalar.divsi v1342 c6_i32_815
  let v1345 : BitVec 32 := Scalar.addi v1343 v1344
  let c6_i32_816 : BitVec 32 := 6#32
  let v1346 : BitVec 32 := Scalar.remsi v1345 c6_i32_816
  let c512_i32_823 : BitVec 32 := 512#32
  let v1357 : BitVec 32 := Scalar.muli v1346 c512_i32_823
  let v1358 : BitVec 32 := v1357
  let c512_i32_824 : BitVec 32 := 512#32
  let v1359 : BitVec 32 := Scalar.muli v1343 c512_i32_824
  let v1360 : BitVec 32 := v1359
  ![v1341.toNat, v1358.toNat, v1360.toNat]
def k0_off183 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_806 : BitVec 32 := 12#32
  let v1334 : BitVec 32 := Scalar.subi arg28 c12_i32_806
  let c12_i32_817 : BitVec 32 := 12#32
  let c0_i32_818 : BitVec 32 := 0#32
  let v1347 : BitVec 1 := Scalar.cmpi .eq c12_i32_817 c0_i32_818
  let c1_i32_819 : BitVec 32 := 1#32
  let v1348 : BitVec 32 := Scalar.select v1347 c1_i32_819 c12_i32_817
  let v1349 : BitVec 32 := Scalar.remsi v1334 v1348
  let c0_i32_821 : BitVec 32 := 0#32
  let v1351 : BitVec 1 := Scalar.cmpi .slt v1349 c0_i32_821
  let c0_i32_822 : BitVec 32 := 0#32
  let v1352 : BitVec 1 := Scalar.cmpi .slt v1348 c0_i32_822
  let v1353 : BitVec 1 := Scalar.xori v1351 v1352
  let c0_i32_820 : BitVec 32 := 0#32
  let v1350 : BitVec 1 := Scalar.cmpi .ne v1349 c0_i32_820
  let v1354 : BitVec 1 := Scalar.andi v1353 v1350
  let v1355 : BitVec 32 := Scalar.addi v1349 v1348
  let v1356 : BitVec 32 := Scalar.select v1354 v1355 v1349
  let c0_i32_831 : BitVec 32 := 0#32
  let c0_i32_832 : BitVec 32 := 0#32
  ![v1356.toNat, 0, 0]
def k0_cond36 (k0_t1 : Fin k0_t1_loop.trips) : BitVec 1 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_781 : BitVec 32 := 6#32
  let v1294 : BitVec 32 := Scalar.divsi v1292 c6_i32_781
  let c0_i32_783 : BitVec 32 := 0#32
  let v1297 : BitVec 1 := Scalar.cmpi .eq v1294 c0_i32_783
  let v1329 : BitVec 32 := Scalar.extui v1297
  let c0_i32_803 : BitVec 32 := 0#32
  let v1330 : BitVec 1 := Scalar.cmpi .ne v1329 c0_i32_803
  v1330

def k0_mult261 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_806 : BitVec 32 := 512#32
  let v1334 : BitVec 32 := Scalar.muli v1293 c512_i32_806
  v1334
def k0_mult262 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_806 : BitVec 32 := 512#32
  let v1334 : BitVec 32 := Scalar.muli v1293 c512_i32_806
  let v1335 : BitVec 32 := v1334
  let c0_i32_807 : BitVec 32 := 0#32
  let v1336 : BitVec 32 := Scalar.addi v1335 c0_i32_807
  v1336
def k0_off184 (k0_t1 : Fin k0_t1_loop.trips) (c0_i32_807 : BitVec 32) : Fin 2 → Nat :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_806 : BitVec 32 := 512#32
  let v1334 : BitVec 32 := Scalar.muli v1293 c512_i32_806
  let v1335 : BitVec 32 := v1334
  let v1336 : BitVec 32 := Scalar.addi v1335 c0_i32_807
  let v1337 : BitVec 32 := v1336
  let v1338 : Index := Scalar.indexCast v1337
  let c0_808 : Index := 0#32
  ![v1338.toNat, 0]
def k0_mult263 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_809 : BitVec 32 := 512#32
  let v1340 : BitVec 32 := Scalar.muli v1296 c512_i32_809
  v1340
def k0_mult264 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_809 : BitVec 32 := 512#32
  let v1340 : BitVec 32 := Scalar.muli v1296 c512_i32_809
  let v1341 : BitVec 32 := v1340
  let c0_i32_810 : BitVec 32 := 0#32
  let v1342 : BitVec 32 := Scalar.addi v1341 c0_i32_810
  v1342
def k0_off185 (k0_t1 : Fin k0_t1_loop.trips) : Fin 2 → Nat :=
  let c0_811 : Index := 0#32
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_809 : BitVec 32 := 512#32
  let v1340 : BitVec 32 := Scalar.muli v1296 c512_i32_809
  let v1341 : BitVec 32 := v1340
  let c0_i32_810 : BitVec 32 := 0#32
  let v1342 : BitVec 32 := Scalar.addi v1341 c0_i32_810
  let v1343 : BitVec 32 := v1342
  let v1344 : Index := Scalar.indexCast v1343
  ![0, v1344.toNat]
def k0_off186 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c24_i32_813 : BitVec 32 := 24#32
  let c0_i32_814 : BitVec 32 := 0#32
  let v1347 : BitVec 1 := Scalar.cmpi .eq c24_i32_813 c0_i32_814
  let c1_i32_815 : BitVec 32 := 1#32
  let v1348 : BitVec 32 := Scalar.select v1347 c1_i32_815 c24_i32_813
  let v1349 : BitVec 32 := Scalar.remsi arg28 v1348
  let c0_i32_817 : BitVec 32 := 0#32
  let v1351 : BitVec 1 := Scalar.cmpi .slt v1349 c0_i32_817
  let c0_i32_818 : BitVec 32 := 0#32
  let v1352 : BitVec 1 := Scalar.cmpi .slt v1348 c0_i32_818
  let v1353 : BitVec 1 := Scalar.xori v1351 v1352
  let c0_i32_816 : BitVec 32 := 0#32
  let v1350 : BitVec 1 := Scalar.cmpi .ne v1349 c0_i32_816
  let v1354 : BitVec 1 := Scalar.andi v1353 v1350
  let v1355 : BitVec 32 := Scalar.addi v1349 v1348
  let v1356 : BitVec 32 := Scalar.select v1354 v1355 v1349
  let v1357 : Index := Scalar.indexCast v1356
  let c0_819 : Index := 0#32
  let c0_820 : Index := 0#32
  ![v1357.toNat, 0, 0]
def k0_off187 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c24_i32_833 : BitVec 32 := 24#32
  let c0_i32_834 : BitVec 32 := 0#32
  let v1383 : BitVec 1 := Scalar.cmpi .eq c24_i32_833 c0_i32_834
  let c1_i32_835 : BitVec 32 := 1#32
  let v1384 : BitVec 32 := Scalar.select v1383 c1_i32_835 c24_i32_833
  let v1385 : BitVec 32 := Scalar.remsi arg28 v1384
  let c0_i32_837 : BitVec 32 := 0#32
  let v1387 : BitVec 1 := Scalar.cmpi .slt v1385 c0_i32_837
  let c0_i32_838 : BitVec 32 := 0#32
  let v1388 : BitVec 1 := Scalar.cmpi .slt v1384 c0_i32_838
  let v1389 : BitVec 1 := Scalar.xori v1387 v1388
  let c0_i32_836 : BitVec 32 := 0#32
  let v1386 : BitVec 1 := Scalar.cmpi .ne v1385 c0_i32_836
  let v1390 : BitVec 1 := Scalar.andi v1389 v1386
  let v1391 : BitVec 32 := Scalar.addi v1385 v1384
  let v1392 : BitVec 32 := Scalar.select v1390 v1391 v1385
  let v1393 : Index := Scalar.indexCast v1392
  let c128_839 : Index := 128#32
  let c0_840 : Index := 0#32
  ![v1393.toNat, 128, 0]
def k0_mult265 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_841 : BitVec 32 := 512#32
  let v1397 : BitVec 32 := Scalar.muli v1293 c512_i32_841
  v1397
def k0_mult266 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_841 : BitVec 32 := 512#32
  let v1397 : BitVec 32 := Scalar.muli v1293 c512_i32_841
  let v1398 : BitVec 32 := v1397
  let c128_i32 : BitVec 32 := 128#32
  let v1399 : BitVec 32 := Scalar.addi v1398 c128_i32
  v1399
def k0_mult267 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_843 : BitVec 32 := 512#32
  let v1403 : BitVec 32 := Scalar.muli v1296 c512_i32_843
  v1403
def k0_mult268 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_843 : BitVec 32 := 512#32
  let v1403 : BitVec 32 := Scalar.muli v1296 c512_i32_843
  let v1404 : BitVec 32 := v1403
  let c128_i32_844 : BitVec 32 := 128#32
  let v1405 : BitVec 32 := Scalar.addi v1404 c128_i32_844
  v1405
def k0_off188 (k0_t1 : Fin k0_t1_loop.trips) : Fin 2 → Nat :=
  let c0_845 : Index := 0#32
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_843 : BitVec 32 := 512#32
  let v1403 : BitVec 32 := Scalar.muli v1296 c512_i32_843
  let v1404 : BitVec 32 := v1403
  let c128_i32_844 : BitVec 32 := 128#32
  let v1405 : BitVec 32 := Scalar.addi v1404 c128_i32_844
  let v1406 : BitVec 32 := v1405
  let v1407 : Index := Scalar.indexCast v1406
  ![0, v1407.toNat]
def k0_off189 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c24_i32_847 : BitVec 32 := 24#32
  let c0_i32_848 : BitVec 32 := 0#32
  let v1410 : BitVec 1 := Scalar.cmpi .eq c24_i32_847 c0_i32_848
  let c1_i32_849 : BitVec 32 := 1#32
  let v1411 : BitVec 32 := Scalar.select v1410 c1_i32_849 c24_i32_847
  let v1412 : BitVec 32 := Scalar.remsi arg28 v1411
  let c0_i32_851 : BitVec 32 := 0#32
  let v1414 : BitVec 1 := Scalar.cmpi .slt v1412 c0_i32_851
  let c0_i32_852 : BitVec 32 := 0#32
  let v1415 : BitVec 1 := Scalar.cmpi .slt v1411 c0_i32_852
  let v1416 : BitVec 1 := Scalar.xori v1414 v1415
  let c0_i32_850 : BitVec 32 := 0#32
  let v1413 : BitVec 1 := Scalar.cmpi .ne v1412 c0_i32_850
  let v1417 : BitVec 1 := Scalar.andi v1416 v1413
  let v1418 : BitVec 32 := Scalar.addi v1412 v1411
  let v1419 : BitVec 32 := Scalar.select v1417 v1418 v1412
  let v1420 : Index := Scalar.indexCast v1419
  let c128_853 : Index := 128#32
  let c128_854 : Index := 128#32
  ![v1420.toNat, 128, 128]
def k0_off190 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c24_i32_867 : BitVec 32 := 24#32
  let c0_i32_868 : BitVec 32 := 0#32
  let v1446 : BitVec 1 := Scalar.cmpi .eq c24_i32_867 c0_i32_868
  let c1_i32_869 : BitVec 32 := 1#32
  let v1447 : BitVec 32 := Scalar.select v1446 c1_i32_869 c24_i32_867
  let v1448 : BitVec 32 := Scalar.remsi arg28 v1447
  let c0_i32_871 : BitVec 32 := 0#32
  let v1450 : BitVec 1 := Scalar.cmpi .slt v1448 c0_i32_871
  let c0_i32_872 : BitVec 32 := 0#32
  let v1451 : BitVec 1 := Scalar.cmpi .slt v1447 c0_i32_872
  let v1452 : BitVec 1 := Scalar.xori v1450 v1451
  let c0_i32_870 : BitVec 32 := 0#32
  let v1449 : BitVec 1 := Scalar.cmpi .ne v1448 c0_i32_870
  let v1453 : BitVec 1 := Scalar.andi v1452 v1449
  let v1454 : BitVec 32 := Scalar.addi v1448 v1447
  let v1455 : BitVec 32 := Scalar.select v1453 v1454 v1448
  let v1456 : Index := Scalar.indexCast v1455
  let c256 : Index := 256#32
  let c128_873 : Index := 128#32
  ![v1456.toNat, 256, 128]
def k0_mult269 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_874 : BitVec 32 := 512#32
  let v1460 : BitVec 32 := Scalar.muli v1293 c512_i32_874
  v1460
def k0_mult270 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_874 : BitVec 32 := 512#32
  let v1460 : BitVec 32 := Scalar.muli v1293 c512_i32_874
  let v1461 : BitVec 32 := v1460
  let c256_i32 : BitVec 32 := 256#32
  let v1462 : BitVec 32 := Scalar.addi v1461 c256_i32
  v1462
def k0_mult271 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_876 : BitVec 32 := 512#32
  let v1466 : BitVec 32 := Scalar.muli v1296 c512_i32_876
  v1466
def k0_mult272 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_876 : BitVec 32 := 512#32
  let v1466 : BitVec 32 := Scalar.muli v1296 c512_i32_876
  let v1467 : BitVec 32 := v1466
  let c256_i32_877 : BitVec 32 := 256#32
  let v1468 : BitVec 32 := Scalar.addi v1467 c256_i32_877
  v1468
def k0_off191 (k0_t1 : Fin k0_t1_loop.trips) : Fin 2 → Nat :=
  let c0_878 : Index := 0#32
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_876 : BitVec 32 := 512#32
  let v1466 : BitVec 32 := Scalar.muli v1296 c512_i32_876
  let v1467 : BitVec 32 := v1466
  let c256_i32_877 : BitVec 32 := 256#32
  let v1468 : BitVec 32 := Scalar.addi v1467 c256_i32_877
  let v1469 : BitVec 32 := v1468
  let v1470 : Index := Scalar.indexCast v1469
  ![0, v1470.toNat]
def k0_off192 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c24_i32_880 : BitVec 32 := 24#32
  let c0_i32_881 : BitVec 32 := 0#32
  let v1473 : BitVec 1 := Scalar.cmpi .eq c24_i32_880 c0_i32_881
  let c1_i32_882 : BitVec 32 := 1#32
  let v1474 : BitVec 32 := Scalar.select v1473 c1_i32_882 c24_i32_880
  let v1475 : BitVec 32 := Scalar.remsi arg28 v1474
  let c0_i32_884 : BitVec 32 := 0#32
  let v1477 : BitVec 1 := Scalar.cmpi .slt v1475 c0_i32_884
  let c0_i32_885 : BitVec 32 := 0#32
  let v1478 : BitVec 1 := Scalar.cmpi .slt v1474 c0_i32_885
  let v1479 : BitVec 1 := Scalar.xori v1477 v1478
  let c0_i32_883 : BitVec 32 := 0#32
  let v1476 : BitVec 1 := Scalar.cmpi .ne v1475 c0_i32_883
  let v1480 : BitVec 1 := Scalar.andi v1479 v1476
  let v1481 : BitVec 32 := Scalar.addi v1475 v1474
  let v1482 : BitVec 32 := Scalar.select v1480 v1481 v1475
  let v1483 : Index := Scalar.indexCast v1482
  let c256_886 : Index := 256#32
  let c256_887 : Index := 256#32
  ![v1483.toNat, 256, 256]
def k0_off193 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c24_i32_900 : BitVec 32 := 24#32
  let c0_i32_901 : BitVec 32 := 0#32
  let v1509 : BitVec 1 := Scalar.cmpi .eq c24_i32_900 c0_i32_901
  let c1_i32_902 : BitVec 32 := 1#32
  let v1510 : BitVec 32 := Scalar.select v1509 c1_i32_902 c24_i32_900
  let v1511 : BitVec 32 := Scalar.remsi arg28 v1510
  let c0_i32_904 : BitVec 32 := 0#32
  let v1513 : BitVec 1 := Scalar.cmpi .slt v1511 c0_i32_904
  let c0_i32_905 : BitVec 32 := 0#32
  let v1514 : BitVec 1 := Scalar.cmpi .slt v1510 c0_i32_905
  let v1515 : BitVec 1 := Scalar.xori v1513 v1514
  let c0_i32_903 : BitVec 32 := 0#32
  let v1512 : BitVec 1 := Scalar.cmpi .ne v1511 c0_i32_903
  let v1516 : BitVec 1 := Scalar.andi v1515 v1512
  let v1517 : BitVec 32 := Scalar.addi v1511 v1510
  let v1518 : BitVec 32 := Scalar.select v1516 v1517 v1511
  let v1519 : Index := Scalar.indexCast v1518
  let c384 : Index := 384#32
  let c256_906 : Index := 256#32
  ![v1519.toNat, 384, 256]
def k0_mult273 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_907 : BitVec 32 := 512#32
  let v1523 : BitVec 32 := Scalar.muli v1293 c512_i32_907
  v1523
def k0_mult274 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_907 : BitVec 32 := 512#32
  let v1523 : BitVec 32 := Scalar.muli v1293 c512_i32_907
  let v1524 : BitVec 32 := v1523
  let c384_i32 : BitVec 32 := 384#32
  let v1525 : BitVec 32 := Scalar.addi v1524 c384_i32
  v1525
def k0_mult275 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_909 : BitVec 32 := 512#32
  let v1529 : BitVec 32 := Scalar.muli v1296 c512_i32_909
  v1529
def k0_mult276 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_909 : BitVec 32 := 512#32
  let v1529 : BitVec 32 := Scalar.muli v1296 c512_i32_909
  let v1530 : BitVec 32 := v1529
  let c384_i32_910 : BitVec 32 := 384#32
  let v1531 : BitVec 32 := Scalar.addi v1530 c384_i32_910
  v1531
def k0_off194 (k0_t1 : Fin k0_t1_loop.trips) : Fin 2 → Nat :=
  let c0_911 : Index := 0#32
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_909 : BitVec 32 := 512#32
  let v1529 : BitVec 32 := Scalar.muli v1296 c512_i32_909
  let v1530 : BitVec 32 := v1529
  let c384_i32_910 : BitVec 32 := 384#32
  let v1531 : BitVec 32 := Scalar.addi v1530 c384_i32_910
  let v1532 : BitVec 32 := v1531
  let v1533 : Index := Scalar.indexCast v1532
  ![0, v1533.toNat]
def k0_off195 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c24_i32_913 : BitVec 32 := 24#32
  let c0_i32_914 : BitVec 32 := 0#32
  let v1536 : BitVec 1 := Scalar.cmpi .eq c24_i32_913 c0_i32_914
  let c1_i32_915 : BitVec 32 := 1#32
  let v1537 : BitVec 32 := Scalar.select v1536 c1_i32_915 c24_i32_913
  let v1538 : BitVec 32 := Scalar.remsi arg28 v1537
  let c0_i32_917 : BitVec 32 := 0#32
  let v1540 : BitVec 1 := Scalar.cmpi .slt v1538 c0_i32_917
  let c0_i32_918 : BitVec 32 := 0#32
  let v1541 : BitVec 1 := Scalar.cmpi .slt v1537 c0_i32_918
  let v1542 : BitVec 1 := Scalar.xori v1540 v1541
  let c0_i32_916 : BitVec 32 := 0#32
  let v1539 : BitVec 1 := Scalar.cmpi .ne v1538 c0_i32_916
  let v1543 : BitVec 1 := Scalar.andi v1542 v1539
  let v1544 : BitVec 32 := Scalar.addi v1538 v1537
  let v1545 : BitVec 32 := Scalar.select v1543 v1544 v1538
  let v1546 : Index := Scalar.indexCast v1545
  let c384_919 : Index := 384#32
  let c384_920 : Index := 384#32
  ![v1546.toNat, 384, 384]
def k0_cond37 (k0_t1 : Fin k0_t1_loop.trips) : BitVec 1 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_781 : BitVec 32 := 6#32
  let v1294 : BitVec 32 := Scalar.divsi v1292 c6_i32_781
  let c0_i32_783 : BitVec 32 := 0#32
  let v1297 : BitVec 1 := Scalar.cmpi .eq v1294 c0_i32_783
  let true_804 : BitVec 1 := 1#1
  let v1331 : BitVec 1 := Scalar.xori v1297 true_804
  let v1332 : BitVec 32 := Scalar.extui v1331
  let c0_i32_805 : BitVec 32 := 0#32
  let v1333 : BitVec 1 := Scalar.cmpi .ne v1332 c0_i32_805
  v1333

def k0_mult277 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_806 : BitVec 32 := 512#32
  let v1334 : BitVec 32 := Scalar.muli v1293 c512_i32_806
  v1334
def k0_mult278 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_806 : BitVec 32 := 512#32
  let v1334 : BitVec 32 := Scalar.muli v1293 c512_i32_806
  let v1335 : BitVec 32 := v1334
  let c0_i32_807 : BitVec 32 := 0#32
  let v1336 : BitVec 32 := Scalar.addi v1335 c0_i32_807
  v1336
def k0_off196 (k0_t1 : Fin k0_t1_loop.trips) (c0_i32_807 : BitVec 32) : Fin 2 → Nat :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_806 : BitVec 32 := 512#32
  let v1334 : BitVec 32 := Scalar.muli v1293 c512_i32_806
  let v1335 : BitVec 32 := v1334
  let v1336 : BitVec 32 := Scalar.addi v1335 c0_i32_807
  let v1337 : BitVec 32 := v1336
  let v1338 : Index := Scalar.indexCast v1337
  let c0_808 : Index := 0#32
  ![v1338.toNat, 0]
def k0_mult279 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_809 : BitVec 32 := 512#32
  let v1340 : BitVec 32 := Scalar.muli v1296 c512_i32_809
  v1340
def k0_mult280 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_809 : BitVec 32 := 512#32
  let v1340 : BitVec 32 := Scalar.muli v1296 c512_i32_809
  let v1341 : BitVec 32 := v1340
  let c0_i32_810 : BitVec 32 := 0#32
  let v1342 : BitVec 32 := Scalar.addi v1341 c0_i32_810
  v1342
def k0_off197 (k0_t1 : Fin k0_t1_loop.trips) : Fin 2 → Nat :=
  let c0_811 : Index := 0#32
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_809 : BitVec 32 := 512#32
  let v1340 : BitVec 32 := Scalar.muli v1296 c512_i32_809
  let v1341 : BitVec 32 := v1340
  let c0_i32_810 : BitVec 32 := 0#32
  let v1342 : BitVec 32 := Scalar.addi v1341 c0_i32_810
  let v1343 : BitVec 32 := v1342
  let v1344 : Index := Scalar.indexCast v1343
  ![0, v1344.toNat]
def k0_off198 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c24_i32_813 : BitVec 32 := 24#32
  let c0_i32_814 : BitVec 32 := 0#32
  let v1347 : BitVec 1 := Scalar.cmpi .eq c24_i32_813 c0_i32_814
  let c1_i32_815 : BitVec 32 := 1#32
  let v1348 : BitVec 32 := Scalar.select v1347 c1_i32_815 c24_i32_813
  let v1349 : BitVec 32 := Scalar.remsi arg28 v1348
  let c0_i32_817 : BitVec 32 := 0#32
  let v1351 : BitVec 1 := Scalar.cmpi .slt v1349 c0_i32_817
  let c0_i32_818 : BitVec 32 := 0#32
  let v1352 : BitVec 1 := Scalar.cmpi .slt v1348 c0_i32_818
  let v1353 : BitVec 1 := Scalar.xori v1351 v1352
  let c0_i32_816 : BitVec 32 := 0#32
  let v1350 : BitVec 1 := Scalar.cmpi .ne v1349 c0_i32_816
  let v1354 : BitVec 1 := Scalar.andi v1353 v1350
  let v1355 : BitVec 32 := Scalar.addi v1349 v1348
  let v1356 : BitVec 32 := Scalar.select v1354 v1355 v1349
  let v1357 : Index := Scalar.indexCast v1356
  let c0_819 : Index := 0#32
  let c0_820 : Index := 0#32
  ![v1357.toNat, 0, 0]
def k0_off199 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_833 : BitVec 32 := 12#32
  let c0_i32_834 : BitVec 32 := 0#32
  let v1382 : BitVec 1 := Scalar.cmpi .eq c12_i32_833 c0_i32_834
  let c1_i32_835 : BitVec 32 := 1#32
  let v1383 : BitVec 32 := Scalar.select v1382 c1_i32_835 c12_i32_833
  let v1384 : BitVec 32 := Scalar.remsi arg28 v1383
  let c0_i32_837 : BitVec 32 := 0#32
  let v1386 : BitVec 1 := Scalar.cmpi .slt v1384 c0_i32_837
  let c0_i32_838 : BitVec 32 := 0#32
  let v1387 : BitVec 1 := Scalar.cmpi .slt v1383 c0_i32_838
  let v1388 : BitVec 1 := Scalar.xori v1386 v1387
  let c0_i32_836 : BitVec 32 := 0#32
  let v1385 : BitVec 1 := Scalar.cmpi .ne v1384 c0_i32_836
  let v1389 : BitVec 1 := Scalar.andi v1388 v1385
  let v1390 : BitVec 32 := Scalar.addi v1384 v1383
  let v1391 : BitVec 32 := Scalar.select v1389 v1390 v1384
  let v1392 : Index := Scalar.indexCast v1391
  let c0_839 : Index := 0#32
  let c0_840 : Index := 0#32
  ![v1392.toNat, 0, 0]
def k0_mult281 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_841 : BitVec 32 := 512#32
  let v1396 : BitVec 32 := Scalar.muli v1293 c512_i32_841
  v1396
def k0_mult282 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_841 : BitVec 32 := 512#32
  let v1396 : BitVec 32 := Scalar.muli v1293 c512_i32_841
  let v1397 : BitVec 32 := v1396
  let c128_i32 : BitVec 32 := 128#32
  let v1398 : BitVec 32 := Scalar.addi v1397 c128_i32
  v1398
def k0_mult283 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_843 : BitVec 32 := 512#32
  let v1402 : BitVec 32 := Scalar.muli v1296 c512_i32_843
  v1402
def k0_mult284 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_843 : BitVec 32 := 512#32
  let v1402 : BitVec 32 := Scalar.muli v1296 c512_i32_843
  let v1403 : BitVec 32 := v1402
  let c0_i32_844 : BitVec 32 := 0#32
  let v1404 : BitVec 32 := Scalar.addi v1403 c0_i32_844
  v1404
def k0_off200 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c24_i32_847 : BitVec 32 := 24#32
  let c0_i32_848 : BitVec 32 := 0#32
  let v1409 : BitVec 1 := Scalar.cmpi .eq c24_i32_847 c0_i32_848
  let c1_i32_849 : BitVec 32 := 1#32
  let v1410 : BitVec 32 := Scalar.select v1409 c1_i32_849 c24_i32_847
  let v1411 : BitVec 32 := Scalar.remsi arg28 v1410
  let c0_i32_851 : BitVec 32 := 0#32
  let v1413 : BitVec 1 := Scalar.cmpi .slt v1411 c0_i32_851
  let c0_i32_852 : BitVec 32 := 0#32
  let v1414 : BitVec 1 := Scalar.cmpi .slt v1410 c0_i32_852
  let v1415 : BitVec 1 := Scalar.xori v1413 v1414
  let c0_i32_850 : BitVec 32 := 0#32
  let v1412 : BitVec 1 := Scalar.cmpi .ne v1411 c0_i32_850
  let v1416 : BitVec 1 := Scalar.andi v1415 v1412
  let v1417 : BitVec 32 := Scalar.addi v1411 v1410
  let v1418 : BitVec 32 := Scalar.select v1416 v1417 v1411
  let v1419 : Index := Scalar.indexCast v1418
  let c128_853 : Index := 128#32
  let c0_854 : Index := 0#32
  ![v1419.toNat, 128, 0]
def k0_off201 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_867 : BitVec 32 := 12#32
  let c0_i32_868 : BitVec 32 := 0#32
  let v1444 : BitVec 1 := Scalar.cmpi .eq c12_i32_867 c0_i32_868
  let c1_i32_869 : BitVec 32 := 1#32
  let v1445 : BitVec 32 := Scalar.select v1444 c1_i32_869 c12_i32_867
  let v1446 : BitVec 32 := Scalar.remsi arg28 v1445
  let c0_i32_871 : BitVec 32 := 0#32
  let v1448 : BitVec 1 := Scalar.cmpi .slt v1446 c0_i32_871
  let c0_i32_872 : BitVec 32 := 0#32
  let v1449 : BitVec 1 := Scalar.cmpi .slt v1445 c0_i32_872
  let v1450 : BitVec 1 := Scalar.xori v1448 v1449
  let c0_i32_870 : BitVec 32 := 0#32
  let v1447 : BitVec 1 := Scalar.cmpi .ne v1446 c0_i32_870
  let v1451 : BitVec 1 := Scalar.andi v1450 v1447
  let v1452 : BitVec 32 := Scalar.addi v1446 v1445
  let v1453 : BitVec 32 := Scalar.select v1451 v1452 v1446
  let v1454 : Index := Scalar.indexCast v1453
  let c0_873 : Index := 0#32
  let c128_874 : Index := 128#32
  ![v1454.toNat, 0, 128]
def k0_mult285 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_875 : BitVec 32 := 512#32
  let v1458 : BitVec 32 := Scalar.muli v1293 c512_i32_875
  v1458
def k0_mult286 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_875 : BitVec 32 := 512#32
  let v1458 : BitVec 32 := Scalar.muli v1293 c512_i32_875
  let v1459 : BitVec 32 := v1458
  let c256_i32 : BitVec 32 := 256#32
  let v1460 : BitVec 32 := Scalar.addi v1459 c256_i32
  v1460
def k0_mult287 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_877 : BitVec 32 := 512#32
  let v1464 : BitVec 32 := Scalar.muli v1296 c512_i32_877
  v1464
def k0_mult288 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_877 : BitVec 32 := 512#32
  let v1464 : BitVec 32 := Scalar.muli v1296 c512_i32_877
  let v1465 : BitVec 32 := v1464
  let c0_i32_878 : BitVec 32 := 0#32
  let v1466 : BitVec 32 := Scalar.addi v1465 c0_i32_878
  v1466
def k0_off202 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c24_i32_881 : BitVec 32 := 24#32
  let c0_i32_882 : BitVec 32 := 0#32
  let v1471 : BitVec 1 := Scalar.cmpi .eq c24_i32_881 c0_i32_882
  let c1_i32_883 : BitVec 32 := 1#32
  let v1472 : BitVec 32 := Scalar.select v1471 c1_i32_883 c24_i32_881
  let v1473 : BitVec 32 := Scalar.remsi arg28 v1472
  let c0_i32_885 : BitVec 32 := 0#32
  let v1475 : BitVec 1 := Scalar.cmpi .slt v1473 c0_i32_885
  let c0_i32_886 : BitVec 32 := 0#32
  let v1476 : BitVec 1 := Scalar.cmpi .slt v1472 c0_i32_886
  let v1477 : BitVec 1 := Scalar.xori v1475 v1476
  let c0_i32_884 : BitVec 32 := 0#32
  let v1474 : BitVec 1 := Scalar.cmpi .ne v1473 c0_i32_884
  let v1478 : BitVec 1 := Scalar.andi v1477 v1474
  let v1479 : BitVec 32 := Scalar.addi v1473 v1472
  let v1480 : BitVec 32 := Scalar.select v1478 v1479 v1473
  let v1481 : Index := Scalar.indexCast v1480
  let c256 : Index := 256#32
  let c0_887 : Index := 0#32
  ![v1481.toNat, 256, 0]
def k0_off203 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_900 : BitVec 32 := 12#32
  let c0_i32_901 : BitVec 32 := 0#32
  let v1506 : BitVec 1 := Scalar.cmpi .eq c12_i32_900 c0_i32_901
  let c1_i32_902 : BitVec 32 := 1#32
  let v1507 : BitVec 32 := Scalar.select v1506 c1_i32_902 c12_i32_900
  let v1508 : BitVec 32 := Scalar.remsi arg28 v1507
  let c0_i32_904 : BitVec 32 := 0#32
  let v1510 : BitVec 1 := Scalar.cmpi .slt v1508 c0_i32_904
  let c0_i32_905 : BitVec 32 := 0#32
  let v1511 : BitVec 1 := Scalar.cmpi .slt v1507 c0_i32_905
  let v1512 : BitVec 1 := Scalar.xori v1510 v1511
  let c0_i32_903 : BitVec 32 := 0#32
  let v1509 : BitVec 1 := Scalar.cmpi .ne v1508 c0_i32_903
  let v1513 : BitVec 1 := Scalar.andi v1512 v1509
  let v1514 : BitVec 32 := Scalar.addi v1508 v1507
  let v1515 : BitVec 32 := Scalar.select v1513 v1514 v1508
  let v1516 : Index := Scalar.indexCast v1515
  let c0_906 : Index := 0#32
  let c256_907 : Index := 256#32
  ![v1516.toNat, 0, 256]
def k0_mult289 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_908 : BitVec 32 := 512#32
  let v1520 : BitVec 32 := Scalar.muli v1293 c512_i32_908
  v1520
def k0_mult290 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c512_i32_908 : BitVec 32 := 512#32
  let v1520 : BitVec 32 := Scalar.muli v1293 c512_i32_908
  let v1521 : BitVec 32 := v1520
  let c384_i32 : BitVec 32 := 384#32
  let v1522 : BitVec 32 := Scalar.addi v1521 c384_i32
  v1522
def k0_mult291 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_910 : BitVec 32 := 512#32
  let v1526 : BitVec 32 := Scalar.muli v1296 c512_i32_910
  v1526
def k0_mult292 (k0_t1 : Fin k0_t1_loop.trips) : BitVec 32 :=
  let c0_i32_369 : BitVec 32 := 0#32
  let c1_i32_371 : BitVec 32 := 1#32
  let arg28 : BitVec 32 := Scf.iv c0_i32_369 c1_i32_371 k0_t1
  let c21_i32_779 : BitVec 32 := 21#32
  let v1292 : BitVec 32 := Scalar.remsi arg28 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_910 : BitVec 32 := 512#32
  let v1526 : BitVec 32 := Scalar.muli v1296 c512_i32_910
  let v1527 : BitVec 32 := v1526
  let c0_i32_911 : BitVec 32 := 0#32
  let v1528 : BitVec 32 := Scalar.addi v1527 c0_i32_911
  v1528
def k0_off204 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c24_i32_914 : BitVec 32 := 24#32
  let c0_i32_915 : BitVec 32 := 0#32
  let v1533 : BitVec 1 := Scalar.cmpi .eq c24_i32_914 c0_i32_915
  let c1_i32_916 : BitVec 32 := 1#32
  let v1534 : BitVec 32 := Scalar.select v1533 c1_i32_916 c24_i32_914
  let v1535 : BitVec 32 := Scalar.remsi arg28 v1534
  let c0_i32_918 : BitVec 32 := 0#32
  let v1537 : BitVec 1 := Scalar.cmpi .slt v1535 c0_i32_918
  let c0_i32_919 : BitVec 32 := 0#32
  let v1538 : BitVec 1 := Scalar.cmpi .slt v1534 c0_i32_919
  let v1539 : BitVec 1 := Scalar.xori v1537 v1538
  let c0_i32_917 : BitVec 32 := 0#32
  let v1536 : BitVec 1 := Scalar.cmpi .ne v1535 c0_i32_917
  let v1540 : BitVec 1 := Scalar.andi v1539 v1536
  let v1541 : BitVec 32 := Scalar.addi v1535 v1534
  let v1542 : BitVec 32 := Scalar.select v1540 v1541 v1535
  let v1543 : Index := Scalar.indexCast v1542
  let c384 : Index := 384#32
  let c0_920 : Index := 0#32
  ![v1543.toNat, 384, 0]
def k0_off205 (k0_t1 : Fin k0_t1_loop.trips) : Fin 3 → Nat :=
  let c0_i32_369 : BitVec 32 := 0#32
  let c1_i32_371 : BitVec 32 := 1#32
  let arg28 : BitVec 32 := Scf.iv c0_i32_369 c1_i32_371 k0_t1
  let c12_i32_933 : BitVec 32 := 12#32
  let c0_i32_934 : BitVec 32 := 0#32
  let v1568 : BitVec 1 := Scalar.cmpi .eq c12_i32_933 c0_i32_934
  let c1_i32_935 : BitVec 32 := 1#32
  let v1569 : BitVec 32 := Scalar.select v1568 c1_i32_935 c12_i32_933
  let v1570 : BitVec 32 := Scalar.remsi arg28 v1569
  let c0_i32_937 : BitVec 32 := 0#32
  let v1572 : BitVec 1 := Scalar.cmpi .slt v1570 c0_i32_937
  let c0_i32_938 : BitVec 32 := 0#32
  let v1573 : BitVec 1 := Scalar.cmpi .slt v1569 c0_i32_938
  let v1574 : BitVec 1 := Scalar.xori v1572 v1573
  let c0_i32_936 : BitVec 32 := 0#32
  let v1571 : BitVec 1 := Scalar.cmpi .ne v1570 c0_i32_936
  let v1575 : BitVec 1 := Scalar.andi v1574 v1571
  let v1576 : BitVec 32 := Scalar.addi v1570 v1569
  let v1577 : BitVec 32 := Scalar.select v1575 v1576 v1570
  let v1578 : Index := Scalar.indexCast v1577
  let c0_939 : Index := 0#32
  let c384_940 : Index := 384#32
  ![v1578.toNat, 0, 384]
def k0_mult293 : BitVec 32 :=
  let c125_i32_374 : BitVec 32 := 125#32
  let c21_i32_375 : BitVec 32 := 21#32
  let v740 : BitVec 32 := Scalar.remsi c125_i32_374 c21_i32_375
  let c6_i32_376 : BitVec 32 := 6#32
  let v741 : BitVec 32 := Scalar.remsi v740 c6_i32_376
  let c512_i32 : BitVec 32 := 512#32
  let v755 : BitVec 32 := Scalar.muli v741 c512_i32
  v755
def k0_mult294 : BitVec 32 :=
  let c125_i32_374 : BitVec 32 := 125#32
  let c21_i32_375 : BitVec 32 := 21#32
  let v740 : BitVec 32 := Scalar.remsi c125_i32_374 c21_i32_375
  let c6_i32_376 : BitVec 32 := 6#32
  let v741 : BitVec 32 := Scalar.remsi v740 c6_i32_376
  let c6_i32_377 : BitVec 32 := 6#32
  let v742 : BitVec 32 := Scalar.divsi v740 c6_i32_377
  let v743 : BitVec 32 := Scalar.addi v741 v742
  let c6_i32_378 : BitVec 32 := 6#32
  let v744 : BitVec 32 := Scalar.remsi v743 c6_i32_378
  let c512_i32_385 : BitVec 32 := 512#32
  let v757 : BitVec 32 := Scalar.muli v744 c512_i32_385
  v757
def k0_off206 (c125_i32_386 : BitVec 32) : Fin 1 → Nat :=
  let c24_i32_387 : BitVec 32 := 24#32
  let c0_i32_388 : BitVec 32 := 0#32
  let v759 : BitVec 1 := Scalar.cmpi .eq c24_i32_387 c0_i32_388
  let c1_i32_389 : BitVec 32 := 1#32
  let v760 : BitVec 32 := Scalar.select v759 c1_i32_389 c24_i32_387
  let v761 : BitVec 32 := Scalar.remsi c125_i32_386 v760
  let c0_i32_391 : BitVec 32 := 0#32
  let v763 : BitVec 1 := Scalar.cmpi .slt v761 c0_i32_391
  let c0_i32_392 : BitVec 32 := 0#32
  let v764 : BitVec 1 := Scalar.cmpi .slt v760 c0_i32_392
  let v765 : BitVec 1 := Scalar.xori v763 v764
  let c0_i32_390 : BitVec 32 := 0#32
  let v762 : BitVec 1 := Scalar.cmpi .ne v761 c0_i32_390
  let v766 : BitVec 1 := Scalar.andi v765 v762
  let v767 : BitVec 32 := Scalar.addi v761 v760
  let v768 : BitVec 32 := Scalar.select v766 v767 v761
  ![v768.toNat]
def k0_off207 (c125_i32 : BitVec 32) (c125_i32_374 : BitVec 32) : Fin 3 → Nat :=
  let c21_i32_373 : BitVec 32 := 21#32
  let v739 : BitVec 32 := Scalar.divsi c125_i32 c21_i32_373
  let c21_i32_375 : BitVec 32 := 21#32
  let v740 : BitVec 32 := Scalar.remsi c125_i32_374 c21_i32_375
  let c6_i32_376 : BitVec 32 := 6#32
  let v741 : BitVec 32 := Scalar.remsi v740 c6_i32_376
  let c512_i32 : BitVec 32 := 512#32
  let v755 : BitVec 32 := Scalar.muli v741 c512_i32
  let v756 : BitVec 32 := v755
  let c6_i32_377 : BitVec 32 := 6#32
  let v742 : BitVec 32 := Scalar.divsi v740 c6_i32_377
  let v743 : BitVec 32 := Scalar.addi v741 v742
  let c6_i32_378 : BitVec 32 := 6#32
  let v744 : BitVec 32 := Scalar.remsi v743 c6_i32_378
  let c512_i32_385 : BitVec 32 := 512#32
  let v757 : BitVec 32 := Scalar.muli v744 c512_i32_385
  let v758 : BitVec 32 := v757
  ![v739.toNat, v756.toNat, v758.toNat]
def k0_off207_at (r : Fin 12) : BitVec 32 × BitVec 32 :=
  if r.val < 6 then
    if r.val < 3 then
      if r.val < 1 then
        (125#32, 125#32)
      else
        if r.val < 2 then
          (114#32, 114#32)
        else
          (115#32, 115#32)
    else
      if r.val < 4 then
        (116#32, 116#32)
      else
        if r.val < 5 then
          (117#32, 117#32)
        else
          (118#32, 118#32)
  else
    if r.val < 9 then
      if r.val < 7 then
        (119#32, 119#32)
      else
        if r.val < 8 then
          (120#32, 120#32)
        else
          (121#32, 121#32)
    else
      if r.val < 10 then
        (122#32, 122#32)
      else
        if r.val < 11 then
          (123#32, 123#32)
        else
          (124#32, 124#32)
def k0_off208 (c125_i32_379 : BitVec 32) : Fin 3 → Nat :=
  let c24_i32 : BitVec 32 := 24#32
  let c0_i32_380 : BitVec 32 := 0#32
  let v745 : BitVec 1 := Scalar.cmpi .eq c24_i32 c0_i32_380
  let c1_i32_381 : BitVec 32 := 1#32
  let v746 : BitVec 32 := Scalar.select v745 c1_i32_381 c24_i32
  let v747 : BitVec 32 := Scalar.remsi c125_i32_379 v746
  let c0_i32_383 : BitVec 32 := 0#32
  let v749 : BitVec 1 := Scalar.cmpi .slt v747 c0_i32_383
  let c0_i32_384 : BitVec 32 := 0#32
  let v750 : BitVec 1 := Scalar.cmpi .slt v746 c0_i32_384
  let v751 : BitVec 1 := Scalar.xori v749 v750
  let c0_i32_382 : BitVec 32 := 0#32
  let v748 : BitVec 1 := Scalar.cmpi .ne v747 c0_i32_382
  let v752 : BitVec 1 := Scalar.andi v751 v748
  let v753 : BitVec 32 := Scalar.addi v747 v746
  let v754 : BitVec 32 := Scalar.select v752 v753 v747
  let c0_i32_393 : BitVec 32 := 0#32
  let c0_i32_394 : BitVec 32 := 0#32
  ![v754.toNat, 0, 0]
def k0_cond38 : BitVec 1 :=
  let c125_i32_395 : BitVec 32 := 125#32
  let c21_i32_396 : BitVec 32 := 21#32
  let v775 : BitVec 32 := Scalar.remsi c125_i32_395 c21_i32_396
  let c6_i32_397 : BitVec 32 := 6#32
  let v776 : BitVec 32 := Scalar.divsi v775 c6_i32_397
  let c0_i32_398 : BitVec 32 := 0#32
  let v777 : BitVec 1 := Scalar.cmpi .eq v776 c0_i32_398
  let true_399 : BitVec 1 := 1#1
  let v778 : BitVec 1 := Scalar.xori v777 true_399
  let v779 : BitVec 32 := Scalar.extui v778
  let c0_i32_401 : BitVec 32 := 0#32
  let v780 : BitVec 1 := Scalar.cmpi .ne v779 c0_i32_401
  v780

def k0_mult295 : BitVec 32 :=
  let c125_i32_400 : BitVec 32 := 125#32
  let c21_i32_779 : BitVec 32 := 21#32
  let v1292 : BitVec 32 := Scalar.remsi c125_i32_400 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  v1307
def k0_mult296 : BitVec 32 :=
  let c125_i32_400 : BitVec 32 := 125#32
  let c21_i32_779 : BitVec 32 := 21#32
  let v1292 : BitVec 32 := Scalar.remsi c125_i32_400 c21_i32_779
  let c6_i32_780 : BitVec 32 := 6#32
  let v1293 : BitVec 32 := Scalar.remsi v1292 c6_i32_780
  let c512_i32_789 : BitVec 32 := 512#32
  let v1309 : BitVec 32 := Scalar.muli v1293 c512_i32_789
  v1309
def k0_off209 : Fin 1 → Nat :=
  let c125_i32_400 : BitVec 32 := 125#32
  let c12_i32_790 : BitVec 32 := 12#32
  let c0_i32_791 : BitVec 32 := 0#32
  let v1311 : BitVec 1 := Scalar.cmpi .eq c12_i32_790 c0_i32_791
  let c1_i32_792 : BitVec 32 := 1#32
  let v1312 : BitVec 32 := Scalar.select v1311 c1_i32_792 c12_i32_790
  let v1313 : BitVec 32 := Scalar.remsi c125_i32_400 v1312
  let c0_i32_794 : BitVec 32 := 0#32
  let v1315 : BitVec 1 := Scalar.cmpi .slt v1313 c0_i32_794
  let c0_i32_795 : BitVec 32 := 0#32
  let v1316 : BitVec 1 := Scalar.cmpi .slt v1312 c0_i32_795
  let v1317 : BitVec 1 := Scalar.xori v1315 v1316
  let c0_i32_793 : BitVec 32 := 0#32
  let v1314 : BitVec 1 := Scalar.cmpi .ne v1313 c0_i32_793
  let v1318 : BitVec 1 := Scalar.andi v1317 v1314
  let v1319 : BitVec 32 := Scalar.addi v1313 v1312
  let v1320 : BitVec 32 := Scalar.select v1318 v1319 v1313
  ![v1320.toNat]
def k0_off210 : Fin 3 → Nat :=
  let c125_i32_400 : BitVec 32 := 125#32
  let c21_i32_778 : BitVec 32 := 21#32
  let v1291 : BitVec 32 := Scalar.divsi c125_i32_400 c21_i32_778
  let c21_i32_779 : BitVec 32 := 21#32
  let v1292 : BitVec 32 := Scalar.remsi c125_i32_400 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  let v1308 : BitVec 32 := v1307
  let c512_i32_789 : BitVec 32 := 512#32
  let v1309 : BitVec 32 := Scalar.muli v1293 c512_i32_789
  let v1310 : BitVec 32 := v1309
  ![v1291.toNat, v1308.toNat, v1310.toNat]
def k0_off211 : Fin 3 → Nat :=
  let c125_i32_400 : BitVec 32 := 125#32
  let c12_i32 : BitVec 32 := 12#32
  let c0_i32_783 : BitVec 32 := 0#32
  let v1297 : BitVec 1 := Scalar.cmpi .eq c12_i32 c0_i32_783
  let c1_i32_784 : BitVec 32 := 1#32
  let v1298 : BitVec 32 := Scalar.select v1297 c1_i32_784 c12_i32
  let v1299 : BitVec 32 := Scalar.remsi c125_i32_400 v1298
  let c0_i32_786 : BitVec 32 := 0#32
  let v1301 : BitVec 1 := Scalar.cmpi .slt v1299 c0_i32_786
  let c0_i32_787 : BitVec 32 := 0#32
  let v1302 : BitVec 1 := Scalar.cmpi .slt v1298 c0_i32_787
  let v1303 : BitVec 1 := Scalar.xori v1301 v1302
  let c0_i32_785 : BitVec 32 := 0#32
  let v1300 : BitVec 1 := Scalar.cmpi .ne v1299 c0_i32_785
  let v1304 : BitVec 1 := Scalar.andi v1303 v1300
  let v1305 : BitVec 32 := Scalar.addi v1299 v1298
  let v1306 : BitVec 32 := Scalar.select v1304 v1305 v1299
  let c0_i32_796 : BitVec 32 := 0#32
  let c0_i32_797 : BitVec 32 := 0#32
  ![v1306.toNat, 0, 0]
def k0_mult297 : BitVec 32 :=
  let c114_i32_403 : BitVec 32 := 114#32
  let c21_i32_404 : BitVec 32 := 21#32
  let v782 : BitVec 32 := Scalar.remsi c114_i32_403 c21_i32_404
  let c6_i32_405 : BitVec 32 := 6#32
  let v783 : BitVec 32 := Scalar.remsi v782 c6_i32_405
  let c512_i32_415 : BitVec 32 := 512#32
  let v797 : BitVec 32 := Scalar.muli v783 c512_i32_415
  v797
def k0_mult298 : BitVec 32 :=
  let c114_i32_403 : BitVec 32 := 114#32
  let c21_i32_404 : BitVec 32 := 21#32
  let v782 : BitVec 32 := Scalar.remsi c114_i32_403 c21_i32_404
  let c6_i32_405 : BitVec 32 := 6#32
  let v783 : BitVec 32 := Scalar.remsi v782 c6_i32_405
  let c6_i32_406 : BitVec 32 := 6#32
  let v784 : BitVec 32 := Scalar.divsi v782 c6_i32_406
  let v785 : BitVec 32 := Scalar.addi v783 v784
  let c6_i32_407 : BitVec 32 := 6#32
  let v786 : BitVec 32 := Scalar.remsi v785 c6_i32_407
  let c512_i32_416 : BitVec 32 := 512#32
  let v799 : BitVec 32 := Scalar.muli v786 c512_i32_416
  v799
def k0_mult299 : BitVec 32 :=
  let c115_i32_427 : BitVec 32 := 115#32
  let c21_i32_428 : BitVec 32 := 21#32
  let v818 : BitVec 32 := Scalar.remsi c115_i32_427 c21_i32_428
  let c6_i32_429 : BitVec 32 := 6#32
  let v819 : BitVec 32 := Scalar.remsi v818 c6_i32_429
  let c512_i32_439 : BitVec 32 := 512#32
  let v833 : BitVec 32 := Scalar.muli v819 c512_i32_439
  v833
def k0_mult300 : BitVec 32 :=
  let c115_i32_427 : BitVec 32 := 115#32
  let c21_i32_428 : BitVec 32 := 21#32
  let v818 : BitVec 32 := Scalar.remsi c115_i32_427 c21_i32_428
  let c6_i32_429 : BitVec 32 := 6#32
  let v819 : BitVec 32 := Scalar.remsi v818 c6_i32_429
  let c6_i32_430 : BitVec 32 := 6#32
  let v820 : BitVec 32 := Scalar.divsi v818 c6_i32_430
  let v821 : BitVec 32 := Scalar.addi v819 v820
  let c6_i32_431 : BitVec 32 := 6#32
  let v822 : BitVec 32 := Scalar.remsi v821 c6_i32_431
  let c512_i32_440 : BitVec 32 := 512#32
  let v835 : BitVec 32 := Scalar.muli v822 c512_i32_440
  v835
def k0_mult301 : BitVec 32 :=
  let c116_i32_451 : BitVec 32 := 116#32
  let c21_i32_452 : BitVec 32 := 21#32
  let v854 : BitVec 32 := Scalar.remsi c116_i32_451 c21_i32_452
  let c6_i32_453 : BitVec 32 := 6#32
  let v855 : BitVec 32 := Scalar.remsi v854 c6_i32_453
  let c512_i32_463 : BitVec 32 := 512#32
  let v869 : BitVec 32 := Scalar.muli v855 c512_i32_463
  v869
def k0_mult302 : BitVec 32 :=
  let c116_i32_451 : BitVec 32 := 116#32
  let c21_i32_452 : BitVec 32 := 21#32
  let v854 : BitVec 32 := Scalar.remsi c116_i32_451 c21_i32_452
  let c6_i32_453 : BitVec 32 := 6#32
  let v855 : BitVec 32 := Scalar.remsi v854 c6_i32_453
  let c6_i32_454 : BitVec 32 := 6#32
  let v856 : BitVec 32 := Scalar.divsi v854 c6_i32_454
  let v857 : BitVec 32 := Scalar.addi v855 v856
  let c6_i32_455 : BitVec 32 := 6#32
  let v858 : BitVec 32 := Scalar.remsi v857 c6_i32_455
  let c512_i32_464 : BitVec 32 := 512#32
  let v871 : BitVec 32 := Scalar.muli v858 c512_i32_464
  v871
def k0_mult303 : BitVec 32 :=
  let c117_i32_475 : BitVec 32 := 117#32
  let c21_i32_476 : BitVec 32 := 21#32
  let v890 : BitVec 32 := Scalar.remsi c117_i32_475 c21_i32_476
  let c6_i32_477 : BitVec 32 := 6#32
  let v891 : BitVec 32 := Scalar.remsi v890 c6_i32_477
  let c512_i32_487 : BitVec 32 := 512#32
  let v905 : BitVec 32 := Scalar.muli v891 c512_i32_487
  v905
def k0_mult304 : BitVec 32 :=
  let c117_i32_475 : BitVec 32 := 117#32
  let c21_i32_476 : BitVec 32 := 21#32
  let v890 : BitVec 32 := Scalar.remsi c117_i32_475 c21_i32_476
  let c6_i32_477 : BitVec 32 := 6#32
  let v891 : BitVec 32 := Scalar.remsi v890 c6_i32_477
  let c6_i32_478 : BitVec 32 := 6#32
  let v892 : BitVec 32 := Scalar.divsi v890 c6_i32_478
  let v893 : BitVec 32 := Scalar.addi v891 v892
  let c6_i32_479 : BitVec 32 := 6#32
  let v894 : BitVec 32 := Scalar.remsi v893 c6_i32_479
  let c512_i32_488 : BitVec 32 := 512#32
  let v907 : BitVec 32 := Scalar.muli v894 c512_i32_488
  v907
def k0_mult305 : BitVec 32 :=
  let c118_i32_499 : BitVec 32 := 118#32
  let c21_i32_500 : BitVec 32 := 21#32
  let v926 : BitVec 32 := Scalar.remsi c118_i32_499 c21_i32_500
  let c6_i32_501 : BitVec 32 := 6#32
  let v927 : BitVec 32 := Scalar.remsi v926 c6_i32_501
  let c512_i32_511 : BitVec 32 := 512#32
  let v941 : BitVec 32 := Scalar.muli v927 c512_i32_511
  v941
def k0_mult306 : BitVec 32 :=
  let c118_i32_499 : BitVec 32 := 118#32
  let c21_i32_500 : BitVec 32 := 21#32
  let v926 : BitVec 32 := Scalar.remsi c118_i32_499 c21_i32_500
  let c6_i32_501 : BitVec 32 := 6#32
  let v927 : BitVec 32 := Scalar.remsi v926 c6_i32_501
  let c6_i32_502 : BitVec 32 := 6#32
  let v928 : BitVec 32 := Scalar.divsi v926 c6_i32_502
  let v929 : BitVec 32 := Scalar.addi v927 v928
  let c6_i32_503 : BitVec 32 := 6#32
  let v930 : BitVec 32 := Scalar.remsi v929 c6_i32_503
  let c512_i32_512 : BitVec 32 := 512#32
  let v943 : BitVec 32 := Scalar.muli v930 c512_i32_512
  v943
def k0_mult307 : BitVec 32 :=
  let c119_i32_523 : BitVec 32 := 119#32
  let c21_i32_524 : BitVec 32 := 21#32
  let v962 : BitVec 32 := Scalar.remsi c119_i32_523 c21_i32_524
  let c6_i32_525 : BitVec 32 := 6#32
  let v963 : BitVec 32 := Scalar.remsi v962 c6_i32_525
  let c512_i32_535 : BitVec 32 := 512#32
  let v977 : BitVec 32 := Scalar.muli v963 c512_i32_535
  v977
def k0_mult308 : BitVec 32 :=
  let c119_i32_523 : BitVec 32 := 119#32
  let c21_i32_524 : BitVec 32 := 21#32
  let v962 : BitVec 32 := Scalar.remsi c119_i32_523 c21_i32_524
  let c6_i32_525 : BitVec 32 := 6#32
  let v963 : BitVec 32 := Scalar.remsi v962 c6_i32_525
  let c6_i32_526 : BitVec 32 := 6#32
  let v964 : BitVec 32 := Scalar.divsi v962 c6_i32_526
  let v965 : BitVec 32 := Scalar.addi v963 v964
  let c6_i32_527 : BitVec 32 := 6#32
  let v966 : BitVec 32 := Scalar.remsi v965 c6_i32_527
  let c512_i32_536 : BitVec 32 := 512#32
  let v979 : BitVec 32 := Scalar.muli v966 c512_i32_536
  v979
def k0_mult309 : BitVec 32 :=
  let c120_i32_547 : BitVec 32 := 120#32
  let c21_i32_548 : BitVec 32 := 21#32
  let v998 : BitVec 32 := Scalar.remsi c120_i32_547 c21_i32_548
  let c6_i32_549 : BitVec 32 := 6#32
  let v999 : BitVec 32 := Scalar.remsi v998 c6_i32_549
  let c512_i32_559 : BitVec 32 := 512#32
  let v1013 : BitVec 32 := Scalar.muli v999 c512_i32_559
  v1013
def k0_mult310 : BitVec 32 :=
  let c120_i32_547 : BitVec 32 := 120#32
  let c21_i32_548 : BitVec 32 := 21#32
  let v998 : BitVec 32 := Scalar.remsi c120_i32_547 c21_i32_548
  let c6_i32_549 : BitVec 32 := 6#32
  let v999 : BitVec 32 := Scalar.remsi v998 c6_i32_549
  let c6_i32_550 : BitVec 32 := 6#32
  let v1000 : BitVec 32 := Scalar.divsi v998 c6_i32_550
  let v1001 : BitVec 32 := Scalar.addi v999 v1000
  let c6_i32_551 : BitVec 32 := 6#32
  let v1002 : BitVec 32 := Scalar.remsi v1001 c6_i32_551
  let c512_i32_560 : BitVec 32 := 512#32
  let v1015 : BitVec 32 := Scalar.muli v1002 c512_i32_560
  v1015
def k0_mult311 : BitVec 32 :=
  let c121_i32_571 : BitVec 32 := 121#32
  let c21_i32_572 : BitVec 32 := 21#32
  let v1034 : BitVec 32 := Scalar.remsi c121_i32_571 c21_i32_572
  let c6_i32_573 : BitVec 32 := 6#32
  let v1035 : BitVec 32 := Scalar.remsi v1034 c6_i32_573
  let c512_i32_583 : BitVec 32 := 512#32
  let v1049 : BitVec 32 := Scalar.muli v1035 c512_i32_583
  v1049
def k0_mult312 : BitVec 32 :=
  let c121_i32_571 : BitVec 32 := 121#32
  let c21_i32_572 : BitVec 32 := 21#32
  let v1034 : BitVec 32 := Scalar.remsi c121_i32_571 c21_i32_572
  let c6_i32_573 : BitVec 32 := 6#32
  let v1035 : BitVec 32 := Scalar.remsi v1034 c6_i32_573
  let c6_i32_574 : BitVec 32 := 6#32
  let v1036 : BitVec 32 := Scalar.divsi v1034 c6_i32_574
  let v1037 : BitVec 32 := Scalar.addi v1035 v1036
  let c6_i32_575 : BitVec 32 := 6#32
  let v1038 : BitVec 32 := Scalar.remsi v1037 c6_i32_575
  let c512_i32_584 : BitVec 32 := 512#32
  let v1051 : BitVec 32 := Scalar.muli v1038 c512_i32_584
  v1051
def k0_mult313 : BitVec 32 :=
  let c122_i32_595 : BitVec 32 := 122#32
  let c21_i32_596 : BitVec 32 := 21#32
  let v1070 : BitVec 32 := Scalar.remsi c122_i32_595 c21_i32_596
  let c6_i32_597 : BitVec 32 := 6#32
  let v1071 : BitVec 32 := Scalar.remsi v1070 c6_i32_597
  let c512_i32_607 : BitVec 32 := 512#32
  let v1085 : BitVec 32 := Scalar.muli v1071 c512_i32_607
  v1085
def k0_mult314 : BitVec 32 :=
  let c122_i32_595 : BitVec 32 := 122#32
  let c21_i32_596 : BitVec 32 := 21#32
  let v1070 : BitVec 32 := Scalar.remsi c122_i32_595 c21_i32_596
  let c6_i32_597 : BitVec 32 := 6#32
  let v1071 : BitVec 32 := Scalar.remsi v1070 c6_i32_597
  let c6_i32_598 : BitVec 32 := 6#32
  let v1072 : BitVec 32 := Scalar.divsi v1070 c6_i32_598
  let v1073 : BitVec 32 := Scalar.addi v1071 v1072
  let c6_i32_599 : BitVec 32 := 6#32
  let v1074 : BitVec 32 := Scalar.remsi v1073 c6_i32_599
  let c512_i32_608 : BitVec 32 := 512#32
  let v1087 : BitVec 32 := Scalar.muli v1074 c512_i32_608
  v1087
def k0_mult315 : BitVec 32 :=
  let c123_i32_619 : BitVec 32 := 123#32
  let c21_i32_620 : BitVec 32 := 21#32
  let v1106 : BitVec 32 := Scalar.remsi c123_i32_619 c21_i32_620
  let c6_i32_621 : BitVec 32 := 6#32
  let v1107 : BitVec 32 := Scalar.remsi v1106 c6_i32_621
  let c512_i32_631 : BitVec 32 := 512#32
  let v1121 : BitVec 32 := Scalar.muli v1107 c512_i32_631
  v1121
def k0_mult316 : BitVec 32 :=
  let c123_i32_619 : BitVec 32 := 123#32
  let c21_i32_620 : BitVec 32 := 21#32
  let v1106 : BitVec 32 := Scalar.remsi c123_i32_619 c21_i32_620
  let c6_i32_621 : BitVec 32 := 6#32
  let v1107 : BitVec 32 := Scalar.remsi v1106 c6_i32_621
  let c6_i32_622 : BitVec 32 := 6#32
  let v1108 : BitVec 32 := Scalar.divsi v1106 c6_i32_622
  let v1109 : BitVec 32 := Scalar.addi v1107 v1108
  let c6_i32_623 : BitVec 32 := 6#32
  let v1110 : BitVec 32 := Scalar.remsi v1109 c6_i32_623
  let c512_i32_632 : BitVec 32 := 512#32
  let v1123 : BitVec 32 := Scalar.muli v1110 c512_i32_632
  v1123
def k0_mult317 : BitVec 32 :=
  let c124_i32_643 : BitVec 32 := 124#32
  let c21_i32_644 : BitVec 32 := 21#32
  let v1142 : BitVec 32 := Scalar.remsi c124_i32_643 c21_i32_644
  let c6_i32_645 : BitVec 32 := 6#32
  let v1143 : BitVec 32 := Scalar.remsi v1142 c6_i32_645
  let c512_i32_655 : BitVec 32 := 512#32
  let v1157 : BitVec 32 := Scalar.muli v1143 c512_i32_655
  v1157
def k0_mult318 : BitVec 32 :=
  let c124_i32_643 : BitVec 32 := 124#32
  let c21_i32_644 : BitVec 32 := 21#32
  let v1142 : BitVec 32 := Scalar.remsi c124_i32_643 c21_i32_644
  let c6_i32_645 : BitVec 32 := 6#32
  let v1143 : BitVec 32 := Scalar.remsi v1142 c6_i32_645
  let c6_i32_646 : BitVec 32 := 6#32
  let v1144 : BitVec 32 := Scalar.divsi v1142 c6_i32_646
  let v1145 : BitVec 32 := Scalar.addi v1143 v1144
  let c6_i32_647 : BitVec 32 := 6#32
  let v1146 : BitVec 32 := Scalar.remsi v1145 c6_i32_647
  let c512_i32_656 : BitVec 32 := 512#32
  let v1159 : BitVec 32 := Scalar.muli v1146 c512_i32_656
  v1159
def k0_mult319 : BitVec 32 :=
  let c125_i32_668 : BitVec 32 := 125#32
  let c21_i32_669 : BitVec 32 := 21#32
  let v1178 : BitVec 32 := Scalar.remsi c125_i32_668 c21_i32_669
  let c6_i32_670 : BitVec 32 := 6#32
  let v1179 : BitVec 32 := Scalar.remsi v1178 c6_i32_670
  let c512_i32_680 : BitVec 32 := 512#32
  let v1193 : BitVec 32 := Scalar.muli v1179 c512_i32_680
  v1193
def k0_mult320 : BitVec 32 :=
  let c125_i32_668 : BitVec 32 := 125#32
  let c21_i32_669 : BitVec 32 := 21#32
  let v1178 : BitVec 32 := Scalar.remsi c125_i32_668 c21_i32_669
  let c6_i32_670 : BitVec 32 := 6#32
  let v1179 : BitVec 32 := Scalar.remsi v1178 c6_i32_670
  let c6_i32_671 : BitVec 32 := 6#32
  let v1180 : BitVec 32 := Scalar.divsi v1178 c6_i32_671
  let v1181 : BitVec 32 := Scalar.addi v1179 v1180
  let c6_i32_672 : BitVec 32 := 6#32
  let v1182 : BitVec 32 := Scalar.remsi v1181 c6_i32_672
  let c512_i32_681 : BitVec 32 := 512#32
  let v1195 : BitVec 32 := Scalar.muli v1182 c512_i32_681
  v1195
def k0_cond39 : BitVec 1 :=
  let c114_i32_691 : BitVec 32 := 114#32
  let c21_i32_692 : BitVec 32 := 21#32
  let v1213 : BitVec 32 := Scalar.remsi c114_i32_691 c21_i32_692
  let c6_i32_693 : BitVec 32 := 6#32
  let v1214 : BitVec 32 := Scalar.divsi v1213 c6_i32_693
  let c0_i32_694 : BitVec 32 := 0#32
  let v1215 : BitVec 1 := Scalar.cmpi .eq v1214 c0_i32_694
  let true_695 : BitVec 1 := 1#1
  let v1216 : BitVec 1 := Scalar.xori v1215 true_695
  let v1217 : BitVec 32 := Scalar.extui v1216
  let c0_i32_697 : BitVec 32 := 0#32
  let v1218 : BitVec 1 := Scalar.cmpi .ne v1217 c0_i32_697
  v1218

def k0_mult321 : BitVec 32 :=
  let c114_i32_696 : BitVec 32 := 114#32
  let c21_i32_779 : BitVec 32 := 21#32
  let v1292 : BitVec 32 := Scalar.remsi c114_i32_696 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  v1307
def k0_mult322 : BitVec 32 :=
  let c114_i32_696 : BitVec 32 := 114#32
  let c21_i32_779 : BitVec 32 := 21#32
  let v1292 : BitVec 32 := Scalar.remsi c114_i32_696 c21_i32_779
  let c6_i32_780 : BitVec 32 := 6#32
  let v1293 : BitVec 32 := Scalar.remsi v1292 c6_i32_780
  let c512_i32_789 : BitVec 32 := 512#32
  let v1309 : BitVec 32 := Scalar.muli v1293 c512_i32_789
  v1309
def k0_off212 : Fin 1 → Nat :=
  let c114_i32_696 : BitVec 32 := 114#32
  let c12_i32_790 : BitVec 32 := 12#32
  let c0_i32_791 : BitVec 32 := 0#32
  let v1311 : BitVec 1 := Scalar.cmpi .eq c12_i32_790 c0_i32_791
  let c1_i32_792 : BitVec 32 := 1#32
  let v1312 : BitVec 32 := Scalar.select v1311 c1_i32_792 c12_i32_790
  let v1313 : BitVec 32 := Scalar.remsi c114_i32_696 v1312
  let c0_i32_794 : BitVec 32 := 0#32
  let v1315 : BitVec 1 := Scalar.cmpi .slt v1313 c0_i32_794
  let c0_i32_795 : BitVec 32 := 0#32
  let v1316 : BitVec 1 := Scalar.cmpi .slt v1312 c0_i32_795
  let v1317 : BitVec 1 := Scalar.xori v1315 v1316
  let c0_i32_793 : BitVec 32 := 0#32
  let v1314 : BitVec 1 := Scalar.cmpi .ne v1313 c0_i32_793
  let v1318 : BitVec 1 := Scalar.andi v1317 v1314
  let v1319 : BitVec 32 := Scalar.addi v1313 v1312
  let v1320 : BitVec 32 := Scalar.select v1318 v1319 v1313
  ![v1320.toNat]
def k0_off213 : Fin 3 → Nat :=
  let c114_i32_696 : BitVec 32 := 114#32
  let c21_i32_778 : BitVec 32 := 21#32
  let v1291 : BitVec 32 := Scalar.divsi c114_i32_696 c21_i32_778
  let c21_i32_779 : BitVec 32 := 21#32
  let v1292 : BitVec 32 := Scalar.remsi c114_i32_696 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  let v1308 : BitVec 32 := v1307
  let c512_i32_789 : BitVec 32 := 512#32
  let v1309 : BitVec 32 := Scalar.muli v1293 c512_i32_789
  let v1310 : BitVec 32 := v1309
  ![v1291.toNat, v1308.toNat, v1310.toNat]
def k0_off214 : Fin 3 → Nat :=
  let c114_i32_696 : BitVec 32 := 114#32
  let c12_i32 : BitVec 32 := 12#32
  let c0_i32_783 : BitVec 32 := 0#32
  let v1297 : BitVec 1 := Scalar.cmpi .eq c12_i32 c0_i32_783
  let c1_i32_784 : BitVec 32 := 1#32
  let v1298 : BitVec 32 := Scalar.select v1297 c1_i32_784 c12_i32
  let v1299 : BitVec 32 := Scalar.remsi c114_i32_696 v1298
  let c0_i32_786 : BitVec 32 := 0#32
  let v1301 : BitVec 1 := Scalar.cmpi .slt v1299 c0_i32_786
  let c0_i32_787 : BitVec 32 := 0#32
  let v1302 : BitVec 1 := Scalar.cmpi .slt v1298 c0_i32_787
  let v1303 : BitVec 1 := Scalar.xori v1301 v1302
  let c0_i32_785 : BitVec 32 := 0#32
  let v1300 : BitVec 1 := Scalar.cmpi .ne v1299 c0_i32_785
  let v1304 : BitVec 1 := Scalar.andi v1303 v1300
  let v1305 : BitVec 32 := Scalar.addi v1299 v1298
  let v1306 : BitVec 32 := Scalar.select v1304 v1305 v1299
  let c0_i32_796 : BitVec 32 := 0#32
  let c0_i32_797 : BitVec 32 := 0#32
  ![v1306.toNat, 0, 0]
def k0_cond40 : BitVec 1 :=
  let c115_i32_698 : BitVec 32 := 115#32
  let c21_i32_699 : BitVec 32 := 21#32
  let v1219 : BitVec 32 := Scalar.remsi c115_i32_698 c21_i32_699
  let c6_i32_700 : BitVec 32 := 6#32
  let v1220 : BitVec 32 := Scalar.divsi v1219 c6_i32_700
  let c0_i32_701 : BitVec 32 := 0#32
  let v1221 : BitVec 1 := Scalar.cmpi .eq v1220 c0_i32_701
  let true_702 : BitVec 1 := 1#1
  let v1222 : BitVec 1 := Scalar.xori v1221 true_702
  let v1223 : BitVec 32 := Scalar.extui v1222
  let c0_i32_704 : BitVec 32 := 0#32
  let v1224 : BitVec 1 := Scalar.cmpi .ne v1223 c0_i32_704
  v1224

def k0_mult323 : BitVec 32 :=
  let c115_i32_703 : BitVec 32 := 115#32
  let c21_i32_779 : BitVec 32 := 21#32
  let v1292 : BitVec 32 := Scalar.remsi c115_i32_703 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  v1307
def k0_mult324 : BitVec 32 :=
  let c115_i32_703 : BitVec 32 := 115#32
  let c21_i32_779 : BitVec 32 := 21#32
  let v1292 : BitVec 32 := Scalar.remsi c115_i32_703 c21_i32_779
  let c6_i32_780 : BitVec 32 := 6#32
  let v1293 : BitVec 32 := Scalar.remsi v1292 c6_i32_780
  let c512_i32_789 : BitVec 32 := 512#32
  let v1309 : BitVec 32 := Scalar.muli v1293 c512_i32_789
  v1309
def k0_off215 : Fin 1 → Nat :=
  let c115_i32_703 : BitVec 32 := 115#32
  let c12_i32_790 : BitVec 32 := 12#32
  let c0_i32_791 : BitVec 32 := 0#32
  let v1311 : BitVec 1 := Scalar.cmpi .eq c12_i32_790 c0_i32_791
  let c1_i32_792 : BitVec 32 := 1#32
  let v1312 : BitVec 32 := Scalar.select v1311 c1_i32_792 c12_i32_790
  let v1313 : BitVec 32 := Scalar.remsi c115_i32_703 v1312
  let c0_i32_794 : BitVec 32 := 0#32
  let v1315 : BitVec 1 := Scalar.cmpi .slt v1313 c0_i32_794
  let c0_i32_795 : BitVec 32 := 0#32
  let v1316 : BitVec 1 := Scalar.cmpi .slt v1312 c0_i32_795
  let v1317 : BitVec 1 := Scalar.xori v1315 v1316
  let c0_i32_793 : BitVec 32 := 0#32
  let v1314 : BitVec 1 := Scalar.cmpi .ne v1313 c0_i32_793
  let v1318 : BitVec 1 := Scalar.andi v1317 v1314
  let v1319 : BitVec 32 := Scalar.addi v1313 v1312
  let v1320 : BitVec 32 := Scalar.select v1318 v1319 v1313
  ![v1320.toNat]
def k0_off216 : Fin 3 → Nat :=
  let c115_i32_703 : BitVec 32 := 115#32
  let c21_i32_778 : BitVec 32 := 21#32
  let v1291 : BitVec 32 := Scalar.divsi c115_i32_703 c21_i32_778
  let c21_i32_779 : BitVec 32 := 21#32
  let v1292 : BitVec 32 := Scalar.remsi c115_i32_703 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  let v1308 : BitVec 32 := v1307
  let c512_i32_789 : BitVec 32 := 512#32
  let v1309 : BitVec 32 := Scalar.muli v1293 c512_i32_789
  let v1310 : BitVec 32 := v1309
  ![v1291.toNat, v1308.toNat, v1310.toNat]
def k0_off217 : Fin 3 → Nat :=
  let c115_i32_703 : BitVec 32 := 115#32
  let c12_i32 : BitVec 32 := 12#32
  let c0_i32_783 : BitVec 32 := 0#32
  let v1297 : BitVec 1 := Scalar.cmpi .eq c12_i32 c0_i32_783
  let c1_i32_784 : BitVec 32 := 1#32
  let v1298 : BitVec 32 := Scalar.select v1297 c1_i32_784 c12_i32
  let v1299 : BitVec 32 := Scalar.remsi c115_i32_703 v1298
  let c0_i32_786 : BitVec 32 := 0#32
  let v1301 : BitVec 1 := Scalar.cmpi .slt v1299 c0_i32_786
  let c0_i32_787 : BitVec 32 := 0#32
  let v1302 : BitVec 1 := Scalar.cmpi .slt v1298 c0_i32_787
  let v1303 : BitVec 1 := Scalar.xori v1301 v1302
  let c0_i32_785 : BitVec 32 := 0#32
  let v1300 : BitVec 1 := Scalar.cmpi .ne v1299 c0_i32_785
  let v1304 : BitVec 1 := Scalar.andi v1303 v1300
  let v1305 : BitVec 32 := Scalar.addi v1299 v1298
  let v1306 : BitVec 32 := Scalar.select v1304 v1305 v1299
  let c0_i32_796 : BitVec 32 := 0#32
  let c0_i32_797 : BitVec 32 := 0#32
  ![v1306.toNat, 0, 0]
def k0_cond41 : BitVec 1 :=
  let c116_i32_705 : BitVec 32 := 116#32
  let c21_i32_706 : BitVec 32 := 21#32
  let v1225 : BitVec 32 := Scalar.remsi c116_i32_705 c21_i32_706
  let c6_i32_707 : BitVec 32 := 6#32
  let v1226 : BitVec 32 := Scalar.divsi v1225 c6_i32_707
  let c0_i32_708 : BitVec 32 := 0#32
  let v1227 : BitVec 1 := Scalar.cmpi .eq v1226 c0_i32_708
  let true_709 : BitVec 1 := 1#1
  let v1228 : BitVec 1 := Scalar.xori v1227 true_709
  let v1229 : BitVec 32 := Scalar.extui v1228
  let c0_i32_711 : BitVec 32 := 0#32
  let v1230 : BitVec 1 := Scalar.cmpi .ne v1229 c0_i32_711
  v1230

def k0_mult325 : BitVec 32 :=
  let c116_i32_710 : BitVec 32 := 116#32
  let c21_i32_779 : BitVec 32 := 21#32
  let v1292 : BitVec 32 := Scalar.remsi c116_i32_710 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  v1307
def k0_mult326 : BitVec 32 :=
  let c116_i32_710 : BitVec 32 := 116#32
  let c21_i32_779 : BitVec 32 := 21#32
  let v1292 : BitVec 32 := Scalar.remsi c116_i32_710 c21_i32_779
  let c6_i32_780 : BitVec 32 := 6#32
  let v1293 : BitVec 32 := Scalar.remsi v1292 c6_i32_780
  let c512_i32_789 : BitVec 32 := 512#32
  let v1309 : BitVec 32 := Scalar.muli v1293 c512_i32_789
  v1309
def k0_off218 : Fin 1 → Nat :=
  let c116_i32_710 : BitVec 32 := 116#32
  let c12_i32_790 : BitVec 32 := 12#32
  let c0_i32_791 : BitVec 32 := 0#32
  let v1311 : BitVec 1 := Scalar.cmpi .eq c12_i32_790 c0_i32_791
  let c1_i32_792 : BitVec 32 := 1#32
  let v1312 : BitVec 32 := Scalar.select v1311 c1_i32_792 c12_i32_790
  let v1313 : BitVec 32 := Scalar.remsi c116_i32_710 v1312
  let c0_i32_794 : BitVec 32 := 0#32
  let v1315 : BitVec 1 := Scalar.cmpi .slt v1313 c0_i32_794
  let c0_i32_795 : BitVec 32 := 0#32
  let v1316 : BitVec 1 := Scalar.cmpi .slt v1312 c0_i32_795
  let v1317 : BitVec 1 := Scalar.xori v1315 v1316
  let c0_i32_793 : BitVec 32 := 0#32
  let v1314 : BitVec 1 := Scalar.cmpi .ne v1313 c0_i32_793
  let v1318 : BitVec 1 := Scalar.andi v1317 v1314
  let v1319 : BitVec 32 := Scalar.addi v1313 v1312
  let v1320 : BitVec 32 := Scalar.select v1318 v1319 v1313
  ![v1320.toNat]
def k0_off219 : Fin 3 → Nat :=
  let c116_i32_710 : BitVec 32 := 116#32
  let c21_i32_778 : BitVec 32 := 21#32
  let v1291 : BitVec 32 := Scalar.divsi c116_i32_710 c21_i32_778
  let c21_i32_779 : BitVec 32 := 21#32
  let v1292 : BitVec 32 := Scalar.remsi c116_i32_710 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  let v1308 : BitVec 32 := v1307
  let c512_i32_789 : BitVec 32 := 512#32
  let v1309 : BitVec 32 := Scalar.muli v1293 c512_i32_789
  let v1310 : BitVec 32 := v1309
  ![v1291.toNat, v1308.toNat, v1310.toNat]
def k0_off220 : Fin 3 → Nat :=
  let c116_i32_710 : BitVec 32 := 116#32
  let c12_i32 : BitVec 32 := 12#32
  let c0_i32_783 : BitVec 32 := 0#32
  let v1297 : BitVec 1 := Scalar.cmpi .eq c12_i32 c0_i32_783
  let c1_i32_784 : BitVec 32 := 1#32
  let v1298 : BitVec 32 := Scalar.select v1297 c1_i32_784 c12_i32
  let v1299 : BitVec 32 := Scalar.remsi c116_i32_710 v1298
  let c0_i32_786 : BitVec 32 := 0#32
  let v1301 : BitVec 1 := Scalar.cmpi .slt v1299 c0_i32_786
  let c0_i32_787 : BitVec 32 := 0#32
  let v1302 : BitVec 1 := Scalar.cmpi .slt v1298 c0_i32_787
  let v1303 : BitVec 1 := Scalar.xori v1301 v1302
  let c0_i32_785 : BitVec 32 := 0#32
  let v1300 : BitVec 1 := Scalar.cmpi .ne v1299 c0_i32_785
  let v1304 : BitVec 1 := Scalar.andi v1303 v1300
  let v1305 : BitVec 32 := Scalar.addi v1299 v1298
  let v1306 : BitVec 32 := Scalar.select v1304 v1305 v1299
  let c0_i32_796 : BitVec 32 := 0#32
  let c0_i32_797 : BitVec 32 := 0#32
  ![v1306.toNat, 0, 0]
def k0_cond42 : BitVec 1 :=
  let c117_i32_712 : BitVec 32 := 117#32
  let c21_i32_713 : BitVec 32 := 21#32
  let v1231 : BitVec 32 := Scalar.remsi c117_i32_712 c21_i32_713
  let c6_i32_714 : BitVec 32 := 6#32
  let v1232 : BitVec 32 := Scalar.divsi v1231 c6_i32_714
  let c0_i32_715 : BitVec 32 := 0#32
  let v1233 : BitVec 1 := Scalar.cmpi .eq v1232 c0_i32_715
  let true_716 : BitVec 1 := 1#1
  let v1234 : BitVec 1 := Scalar.xori v1233 true_716
  let v1235 : BitVec 32 := Scalar.extui v1234
  let c0_i32_718 : BitVec 32 := 0#32
  let v1236 : BitVec 1 := Scalar.cmpi .ne v1235 c0_i32_718
  v1236

def k0_mult327 : BitVec 32 :=
  let c117_i32_717 : BitVec 32 := 117#32
  let c21_i32_779 : BitVec 32 := 21#32
  let v1292 : BitVec 32 := Scalar.remsi c117_i32_717 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  v1307
def k0_mult328 : BitVec 32 :=
  let c117_i32_717 : BitVec 32 := 117#32
  let c21_i32_779 : BitVec 32 := 21#32
  let v1292 : BitVec 32 := Scalar.remsi c117_i32_717 c21_i32_779
  let c6_i32_780 : BitVec 32 := 6#32
  let v1293 : BitVec 32 := Scalar.remsi v1292 c6_i32_780
  let c512_i32_789 : BitVec 32 := 512#32
  let v1309 : BitVec 32 := Scalar.muli v1293 c512_i32_789
  v1309
def k0_off221 : Fin 1 → Nat :=
  let c117_i32_717 : BitVec 32 := 117#32
  let c12_i32_790 : BitVec 32 := 12#32
  let c0_i32_791 : BitVec 32 := 0#32
  let v1311 : BitVec 1 := Scalar.cmpi .eq c12_i32_790 c0_i32_791
  let c1_i32_792 : BitVec 32 := 1#32
  let v1312 : BitVec 32 := Scalar.select v1311 c1_i32_792 c12_i32_790
  let v1313 : BitVec 32 := Scalar.remsi c117_i32_717 v1312
  let c0_i32_794 : BitVec 32 := 0#32
  let v1315 : BitVec 1 := Scalar.cmpi .slt v1313 c0_i32_794
  let c0_i32_795 : BitVec 32 := 0#32
  let v1316 : BitVec 1 := Scalar.cmpi .slt v1312 c0_i32_795
  let v1317 : BitVec 1 := Scalar.xori v1315 v1316
  let c0_i32_793 : BitVec 32 := 0#32
  let v1314 : BitVec 1 := Scalar.cmpi .ne v1313 c0_i32_793
  let v1318 : BitVec 1 := Scalar.andi v1317 v1314
  let v1319 : BitVec 32 := Scalar.addi v1313 v1312
  let v1320 : BitVec 32 := Scalar.select v1318 v1319 v1313
  ![v1320.toNat]
def k0_off222 : Fin 3 → Nat :=
  let c117_i32_717 : BitVec 32 := 117#32
  let c21_i32_778 : BitVec 32 := 21#32
  let v1291 : BitVec 32 := Scalar.divsi c117_i32_717 c21_i32_778
  let c21_i32_779 : BitVec 32 := 21#32
  let v1292 : BitVec 32 := Scalar.remsi c117_i32_717 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  let v1308 : BitVec 32 := v1307
  let c512_i32_789 : BitVec 32 := 512#32
  let v1309 : BitVec 32 := Scalar.muli v1293 c512_i32_789
  let v1310 : BitVec 32 := v1309
  ![v1291.toNat, v1308.toNat, v1310.toNat]
def k0_off223 : Fin 3 → Nat :=
  let c117_i32_717 : BitVec 32 := 117#32
  let c12_i32 : BitVec 32 := 12#32
  let c0_i32_783 : BitVec 32 := 0#32
  let v1297 : BitVec 1 := Scalar.cmpi .eq c12_i32 c0_i32_783
  let c1_i32_784 : BitVec 32 := 1#32
  let v1298 : BitVec 32 := Scalar.select v1297 c1_i32_784 c12_i32
  let v1299 : BitVec 32 := Scalar.remsi c117_i32_717 v1298
  let c0_i32_786 : BitVec 32 := 0#32
  let v1301 : BitVec 1 := Scalar.cmpi .slt v1299 c0_i32_786
  let c0_i32_787 : BitVec 32 := 0#32
  let v1302 : BitVec 1 := Scalar.cmpi .slt v1298 c0_i32_787
  let v1303 : BitVec 1 := Scalar.xori v1301 v1302
  let c0_i32_785 : BitVec 32 := 0#32
  let v1300 : BitVec 1 := Scalar.cmpi .ne v1299 c0_i32_785
  let v1304 : BitVec 1 := Scalar.andi v1303 v1300
  let v1305 : BitVec 32 := Scalar.addi v1299 v1298
  let v1306 : BitVec 32 := Scalar.select v1304 v1305 v1299
  let c0_i32_796 : BitVec 32 := 0#32
  let c0_i32_797 : BitVec 32 := 0#32
  ![v1306.toNat, 0, 0]
def k0_cond43 : BitVec 1 :=
  let c118_i32_719 : BitVec 32 := 118#32
  let c21_i32_720 : BitVec 32 := 21#32
  let v1237 : BitVec 32 := Scalar.remsi c118_i32_719 c21_i32_720
  let c6_i32_721 : BitVec 32 := 6#32
  let v1238 : BitVec 32 := Scalar.divsi v1237 c6_i32_721
  let c0_i32_722 : BitVec 32 := 0#32
  let v1239 : BitVec 1 := Scalar.cmpi .eq v1238 c0_i32_722
  let true_723 : BitVec 1 := 1#1
  let v1240 : BitVec 1 := Scalar.xori v1239 true_723
  let v1241 : BitVec 32 := Scalar.extui v1240
  let c0_i32_725 : BitVec 32 := 0#32
  let v1242 : BitVec 1 := Scalar.cmpi .ne v1241 c0_i32_725
  v1242

def k0_mult329 : BitVec 32 :=
  let c118_i32_724 : BitVec 32 := 118#32
  let c21_i32_779 : BitVec 32 := 21#32
  let v1292 : BitVec 32 := Scalar.remsi c118_i32_724 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  v1307
def k0_mult330 : BitVec 32 :=
  let c118_i32_724 : BitVec 32 := 118#32
  let c21_i32_779 : BitVec 32 := 21#32
  let v1292 : BitVec 32 := Scalar.remsi c118_i32_724 c21_i32_779
  let c6_i32_780 : BitVec 32 := 6#32
  let v1293 : BitVec 32 := Scalar.remsi v1292 c6_i32_780
  let c512_i32_789 : BitVec 32 := 512#32
  let v1309 : BitVec 32 := Scalar.muli v1293 c512_i32_789
  v1309
def k0_off224 : Fin 1 → Nat :=
  let c118_i32_724 : BitVec 32 := 118#32
  let c12_i32_790 : BitVec 32 := 12#32
  let c0_i32_791 : BitVec 32 := 0#32
  let v1311 : BitVec 1 := Scalar.cmpi .eq c12_i32_790 c0_i32_791
  let c1_i32_792 : BitVec 32 := 1#32
  let v1312 : BitVec 32 := Scalar.select v1311 c1_i32_792 c12_i32_790
  let v1313 : BitVec 32 := Scalar.remsi c118_i32_724 v1312
  let c0_i32_794 : BitVec 32 := 0#32
  let v1315 : BitVec 1 := Scalar.cmpi .slt v1313 c0_i32_794
  let c0_i32_795 : BitVec 32 := 0#32
  let v1316 : BitVec 1 := Scalar.cmpi .slt v1312 c0_i32_795
  let v1317 : BitVec 1 := Scalar.xori v1315 v1316
  let c0_i32_793 : BitVec 32 := 0#32
  let v1314 : BitVec 1 := Scalar.cmpi .ne v1313 c0_i32_793
  let v1318 : BitVec 1 := Scalar.andi v1317 v1314
  let v1319 : BitVec 32 := Scalar.addi v1313 v1312
  let v1320 : BitVec 32 := Scalar.select v1318 v1319 v1313
  ![v1320.toNat]
def k0_off225 : Fin 3 → Nat :=
  let c118_i32_724 : BitVec 32 := 118#32
  let c21_i32_778 : BitVec 32 := 21#32
  let v1291 : BitVec 32 := Scalar.divsi c118_i32_724 c21_i32_778
  let c21_i32_779 : BitVec 32 := 21#32
  let v1292 : BitVec 32 := Scalar.remsi c118_i32_724 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  let v1308 : BitVec 32 := v1307
  let c512_i32_789 : BitVec 32 := 512#32
  let v1309 : BitVec 32 := Scalar.muli v1293 c512_i32_789
  let v1310 : BitVec 32 := v1309
  ![v1291.toNat, v1308.toNat, v1310.toNat]
def k0_off226 : Fin 3 → Nat :=
  let c118_i32_724 : BitVec 32 := 118#32
  let c12_i32 : BitVec 32 := 12#32
  let c0_i32_783 : BitVec 32 := 0#32
  let v1297 : BitVec 1 := Scalar.cmpi .eq c12_i32 c0_i32_783
  let c1_i32_784 : BitVec 32 := 1#32
  let v1298 : BitVec 32 := Scalar.select v1297 c1_i32_784 c12_i32
  let v1299 : BitVec 32 := Scalar.remsi c118_i32_724 v1298
  let c0_i32_786 : BitVec 32 := 0#32
  let v1301 : BitVec 1 := Scalar.cmpi .slt v1299 c0_i32_786
  let c0_i32_787 : BitVec 32 := 0#32
  let v1302 : BitVec 1 := Scalar.cmpi .slt v1298 c0_i32_787
  let v1303 : BitVec 1 := Scalar.xori v1301 v1302
  let c0_i32_785 : BitVec 32 := 0#32
  let v1300 : BitVec 1 := Scalar.cmpi .ne v1299 c0_i32_785
  let v1304 : BitVec 1 := Scalar.andi v1303 v1300
  let v1305 : BitVec 32 := Scalar.addi v1299 v1298
  let v1306 : BitVec 32 := Scalar.select v1304 v1305 v1299
  let c0_i32_796 : BitVec 32 := 0#32
  let c0_i32_797 : BitVec 32 := 0#32
  ![v1306.toNat, 0, 0]
def k0_cond44 : BitVec 1 :=
  let c119_i32_726 : BitVec 32 := 119#32
  let c21_i32_727 : BitVec 32 := 21#32
  let v1243 : BitVec 32 := Scalar.remsi c119_i32_726 c21_i32_727
  let c6_i32_728 : BitVec 32 := 6#32
  let v1244 : BitVec 32 := Scalar.divsi v1243 c6_i32_728
  let c0_i32_729 : BitVec 32 := 0#32
  let v1245 : BitVec 1 := Scalar.cmpi .eq v1244 c0_i32_729
  let true_730 : BitVec 1 := 1#1
  let v1246 : BitVec 1 := Scalar.xori v1245 true_730
  let v1247 : BitVec 32 := Scalar.extui v1246
  let c0_i32_732 : BitVec 32 := 0#32
  let v1248 : BitVec 1 := Scalar.cmpi .ne v1247 c0_i32_732
  v1248

def k0_mult331 : BitVec 32 :=
  let c119_i32_731 : BitVec 32 := 119#32
  let c21_i32_779 : BitVec 32 := 21#32
  let v1292 : BitVec 32 := Scalar.remsi c119_i32_731 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  v1307
def k0_mult332 : BitVec 32 :=
  let c119_i32_731 : BitVec 32 := 119#32
  let c21_i32_779 : BitVec 32 := 21#32
  let v1292 : BitVec 32 := Scalar.remsi c119_i32_731 c21_i32_779
  let c6_i32_780 : BitVec 32 := 6#32
  let v1293 : BitVec 32 := Scalar.remsi v1292 c6_i32_780
  let c512_i32_789 : BitVec 32 := 512#32
  let v1309 : BitVec 32 := Scalar.muli v1293 c512_i32_789
  v1309
def k0_off227 : Fin 1 → Nat :=
  let c119_i32_731 : BitVec 32 := 119#32
  let c12_i32_790 : BitVec 32 := 12#32
  let c0_i32_791 : BitVec 32 := 0#32
  let v1311 : BitVec 1 := Scalar.cmpi .eq c12_i32_790 c0_i32_791
  let c1_i32_792 : BitVec 32 := 1#32
  let v1312 : BitVec 32 := Scalar.select v1311 c1_i32_792 c12_i32_790
  let v1313 : BitVec 32 := Scalar.remsi c119_i32_731 v1312
  let c0_i32_794 : BitVec 32 := 0#32
  let v1315 : BitVec 1 := Scalar.cmpi .slt v1313 c0_i32_794
  let c0_i32_795 : BitVec 32 := 0#32
  let v1316 : BitVec 1 := Scalar.cmpi .slt v1312 c0_i32_795
  let v1317 : BitVec 1 := Scalar.xori v1315 v1316
  let c0_i32_793 : BitVec 32 := 0#32
  let v1314 : BitVec 1 := Scalar.cmpi .ne v1313 c0_i32_793
  let v1318 : BitVec 1 := Scalar.andi v1317 v1314
  let v1319 : BitVec 32 := Scalar.addi v1313 v1312
  let v1320 : BitVec 32 := Scalar.select v1318 v1319 v1313
  ![v1320.toNat]
def k0_off228 : Fin 3 → Nat :=
  let c119_i32_731 : BitVec 32 := 119#32
  let c21_i32_778 : BitVec 32 := 21#32
  let v1291 : BitVec 32 := Scalar.divsi c119_i32_731 c21_i32_778
  let c21_i32_779 : BitVec 32 := 21#32
  let v1292 : BitVec 32 := Scalar.remsi c119_i32_731 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  let v1308 : BitVec 32 := v1307
  let c512_i32_789 : BitVec 32 := 512#32
  let v1309 : BitVec 32 := Scalar.muli v1293 c512_i32_789
  let v1310 : BitVec 32 := v1309
  ![v1291.toNat, v1308.toNat, v1310.toNat]
def k0_off229 : Fin 3 → Nat :=
  let c119_i32_731 : BitVec 32 := 119#32
  let c12_i32 : BitVec 32 := 12#32
  let c0_i32_783 : BitVec 32 := 0#32
  let v1297 : BitVec 1 := Scalar.cmpi .eq c12_i32 c0_i32_783
  let c1_i32_784 : BitVec 32 := 1#32
  let v1298 : BitVec 32 := Scalar.select v1297 c1_i32_784 c12_i32
  let v1299 : BitVec 32 := Scalar.remsi c119_i32_731 v1298
  let c0_i32_786 : BitVec 32 := 0#32
  let v1301 : BitVec 1 := Scalar.cmpi .slt v1299 c0_i32_786
  let c0_i32_787 : BitVec 32 := 0#32
  let v1302 : BitVec 1 := Scalar.cmpi .slt v1298 c0_i32_787
  let v1303 : BitVec 1 := Scalar.xori v1301 v1302
  let c0_i32_785 : BitVec 32 := 0#32
  let v1300 : BitVec 1 := Scalar.cmpi .ne v1299 c0_i32_785
  let v1304 : BitVec 1 := Scalar.andi v1303 v1300
  let v1305 : BitVec 32 := Scalar.addi v1299 v1298
  let v1306 : BitVec 32 := Scalar.select v1304 v1305 v1299
  let c0_i32_796 : BitVec 32 := 0#32
  let c0_i32_797 : BitVec 32 := 0#32
  ![v1306.toNat, 0, 0]
def k0_cond45 : BitVec 1 :=
  let c120_i32_733 : BitVec 32 := 120#32
  let c21_i32_734 : BitVec 32 := 21#32
  let v1249 : BitVec 32 := Scalar.remsi c120_i32_733 c21_i32_734
  let c6_i32_735 : BitVec 32 := 6#32
  let v1250 : BitVec 32 := Scalar.divsi v1249 c6_i32_735
  let c0_i32_736 : BitVec 32 := 0#32
  let v1251 : BitVec 1 := Scalar.cmpi .eq v1250 c0_i32_736
  let true_737 : BitVec 1 := 1#1
  let v1252 : BitVec 1 := Scalar.xori v1251 true_737
  let v1253 : BitVec 32 := Scalar.extui v1252
  let c0_i32_739 : BitVec 32 := 0#32
  let v1254 : BitVec 1 := Scalar.cmpi .ne v1253 c0_i32_739
  v1254

def k0_mult333 : BitVec 32 :=
  let c120_i32_738 : BitVec 32 := 120#32
  let c21_i32_779 : BitVec 32 := 21#32
  let v1292 : BitVec 32 := Scalar.remsi c120_i32_738 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  v1307
def k0_mult334 : BitVec 32 :=
  let c120_i32_738 : BitVec 32 := 120#32
  let c21_i32_779 : BitVec 32 := 21#32
  let v1292 : BitVec 32 := Scalar.remsi c120_i32_738 c21_i32_779
  let c6_i32_780 : BitVec 32 := 6#32
  let v1293 : BitVec 32 := Scalar.remsi v1292 c6_i32_780
  let c512_i32_789 : BitVec 32 := 512#32
  let v1309 : BitVec 32 := Scalar.muli v1293 c512_i32_789
  v1309
def k0_off230 : Fin 1 → Nat :=
  let c120_i32_738 : BitVec 32 := 120#32
  let c12_i32_790 : BitVec 32 := 12#32
  let c0_i32_791 : BitVec 32 := 0#32
  let v1311 : BitVec 1 := Scalar.cmpi .eq c12_i32_790 c0_i32_791
  let c1_i32_792 : BitVec 32 := 1#32
  let v1312 : BitVec 32 := Scalar.select v1311 c1_i32_792 c12_i32_790
  let v1313 : BitVec 32 := Scalar.remsi c120_i32_738 v1312
  let c0_i32_794 : BitVec 32 := 0#32
  let v1315 : BitVec 1 := Scalar.cmpi .slt v1313 c0_i32_794
  let c0_i32_795 : BitVec 32 := 0#32
  let v1316 : BitVec 1 := Scalar.cmpi .slt v1312 c0_i32_795
  let v1317 : BitVec 1 := Scalar.xori v1315 v1316
  let c0_i32_793 : BitVec 32 := 0#32
  let v1314 : BitVec 1 := Scalar.cmpi .ne v1313 c0_i32_793
  let v1318 : BitVec 1 := Scalar.andi v1317 v1314
  let v1319 : BitVec 32 := Scalar.addi v1313 v1312
  let v1320 : BitVec 32 := Scalar.select v1318 v1319 v1313
  ![v1320.toNat]
def k0_off231 : Fin 3 → Nat :=
  let c120_i32_738 : BitVec 32 := 120#32
  let c21_i32_778 : BitVec 32 := 21#32
  let v1291 : BitVec 32 := Scalar.divsi c120_i32_738 c21_i32_778
  let c21_i32_779 : BitVec 32 := 21#32
  let v1292 : BitVec 32 := Scalar.remsi c120_i32_738 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  let v1308 : BitVec 32 := v1307
  let c512_i32_789 : BitVec 32 := 512#32
  let v1309 : BitVec 32 := Scalar.muli v1293 c512_i32_789
  let v1310 : BitVec 32 := v1309
  ![v1291.toNat, v1308.toNat, v1310.toNat]
def k0_off232 : Fin 3 → Nat :=
  let c120_i32_738 : BitVec 32 := 120#32
  let c12_i32 : BitVec 32 := 12#32
  let c0_i32_783 : BitVec 32 := 0#32
  let v1297 : BitVec 1 := Scalar.cmpi .eq c12_i32 c0_i32_783
  let c1_i32_784 : BitVec 32 := 1#32
  let v1298 : BitVec 32 := Scalar.select v1297 c1_i32_784 c12_i32
  let v1299 : BitVec 32 := Scalar.remsi c120_i32_738 v1298
  let c0_i32_786 : BitVec 32 := 0#32
  let v1301 : BitVec 1 := Scalar.cmpi .slt v1299 c0_i32_786
  let c0_i32_787 : BitVec 32 := 0#32
  let v1302 : BitVec 1 := Scalar.cmpi .slt v1298 c0_i32_787
  let v1303 : BitVec 1 := Scalar.xori v1301 v1302
  let c0_i32_785 : BitVec 32 := 0#32
  let v1300 : BitVec 1 := Scalar.cmpi .ne v1299 c0_i32_785
  let v1304 : BitVec 1 := Scalar.andi v1303 v1300
  let v1305 : BitVec 32 := Scalar.addi v1299 v1298
  let v1306 : BitVec 32 := Scalar.select v1304 v1305 v1299
  let c0_i32_796 : BitVec 32 := 0#32
  let c0_i32_797 : BitVec 32 := 0#32
  ![v1306.toNat, 0, 0]
def k0_cond46 : BitVec 1 :=
  let c121_i32_740 : BitVec 32 := 121#32
  let c21_i32_741 : BitVec 32 := 21#32
  let v1255 : BitVec 32 := Scalar.remsi c121_i32_740 c21_i32_741
  let c6_i32_742 : BitVec 32 := 6#32
  let v1256 : BitVec 32 := Scalar.divsi v1255 c6_i32_742
  let c0_i32_743 : BitVec 32 := 0#32
  let v1257 : BitVec 1 := Scalar.cmpi .eq v1256 c0_i32_743
  let true_744 : BitVec 1 := 1#1
  let v1258 : BitVec 1 := Scalar.xori v1257 true_744
  let v1259 : BitVec 32 := Scalar.extui v1258
  let c0_i32_746 : BitVec 32 := 0#32
  let v1260 : BitVec 1 := Scalar.cmpi .ne v1259 c0_i32_746
  v1260

def k0_mult335 : BitVec 32 :=
  let c121_i32_745 : BitVec 32 := 121#32
  let c21_i32_779 : BitVec 32 := 21#32
  let v1292 : BitVec 32 := Scalar.remsi c121_i32_745 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  v1307
def k0_mult336 : BitVec 32 :=
  let c121_i32_745 : BitVec 32 := 121#32
  let c21_i32_779 : BitVec 32 := 21#32
  let v1292 : BitVec 32 := Scalar.remsi c121_i32_745 c21_i32_779
  let c6_i32_780 : BitVec 32 := 6#32
  let v1293 : BitVec 32 := Scalar.remsi v1292 c6_i32_780
  let c512_i32_789 : BitVec 32 := 512#32
  let v1309 : BitVec 32 := Scalar.muli v1293 c512_i32_789
  v1309
def k0_off233 : Fin 1 → Nat :=
  let c121_i32_745 : BitVec 32 := 121#32
  let c12_i32_790 : BitVec 32 := 12#32
  let c0_i32_791 : BitVec 32 := 0#32
  let v1311 : BitVec 1 := Scalar.cmpi .eq c12_i32_790 c0_i32_791
  let c1_i32_792 : BitVec 32 := 1#32
  let v1312 : BitVec 32 := Scalar.select v1311 c1_i32_792 c12_i32_790
  let v1313 : BitVec 32 := Scalar.remsi c121_i32_745 v1312
  let c0_i32_794 : BitVec 32 := 0#32
  let v1315 : BitVec 1 := Scalar.cmpi .slt v1313 c0_i32_794
  let c0_i32_795 : BitVec 32 := 0#32
  let v1316 : BitVec 1 := Scalar.cmpi .slt v1312 c0_i32_795
  let v1317 : BitVec 1 := Scalar.xori v1315 v1316
  let c0_i32_793 : BitVec 32 := 0#32
  let v1314 : BitVec 1 := Scalar.cmpi .ne v1313 c0_i32_793
  let v1318 : BitVec 1 := Scalar.andi v1317 v1314
  let v1319 : BitVec 32 := Scalar.addi v1313 v1312
  let v1320 : BitVec 32 := Scalar.select v1318 v1319 v1313
  ![v1320.toNat]
def k0_off234 : Fin 3 → Nat :=
  let c121_i32_745 : BitVec 32 := 121#32
  let c21_i32_778 : BitVec 32 := 21#32
  let v1291 : BitVec 32 := Scalar.divsi c121_i32_745 c21_i32_778
  let c21_i32_779 : BitVec 32 := 21#32
  let v1292 : BitVec 32 := Scalar.remsi c121_i32_745 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  let v1308 : BitVec 32 := v1307
  let c512_i32_789 : BitVec 32 := 512#32
  let v1309 : BitVec 32 := Scalar.muli v1293 c512_i32_789
  let v1310 : BitVec 32 := v1309
  ![v1291.toNat, v1308.toNat, v1310.toNat]
def k0_off235 : Fin 3 → Nat :=
  let c121_i32_745 : BitVec 32 := 121#32
  let c12_i32 : BitVec 32 := 12#32
  let c0_i32_783 : BitVec 32 := 0#32
  let v1297 : BitVec 1 := Scalar.cmpi .eq c12_i32 c0_i32_783
  let c1_i32_784 : BitVec 32 := 1#32
  let v1298 : BitVec 32 := Scalar.select v1297 c1_i32_784 c12_i32
  let v1299 : BitVec 32 := Scalar.remsi c121_i32_745 v1298
  let c0_i32_786 : BitVec 32 := 0#32
  let v1301 : BitVec 1 := Scalar.cmpi .slt v1299 c0_i32_786
  let c0_i32_787 : BitVec 32 := 0#32
  let v1302 : BitVec 1 := Scalar.cmpi .slt v1298 c0_i32_787
  let v1303 : BitVec 1 := Scalar.xori v1301 v1302
  let c0_i32_785 : BitVec 32 := 0#32
  let v1300 : BitVec 1 := Scalar.cmpi .ne v1299 c0_i32_785
  let v1304 : BitVec 1 := Scalar.andi v1303 v1300
  let v1305 : BitVec 32 := Scalar.addi v1299 v1298
  let v1306 : BitVec 32 := Scalar.select v1304 v1305 v1299
  let c0_i32_796 : BitVec 32 := 0#32
  let c0_i32_797 : BitVec 32 := 0#32
  ![v1306.toNat, 0, 0]
def k0_cond47 : BitVec 1 :=
  let c122_i32_747 : BitVec 32 := 122#32
  let c21_i32_748 : BitVec 32 := 21#32
  let v1261 : BitVec 32 := Scalar.remsi c122_i32_747 c21_i32_748
  let c6_i32_749 : BitVec 32 := 6#32
  let v1262 : BitVec 32 := Scalar.divsi v1261 c6_i32_749
  let c0_i32_750 : BitVec 32 := 0#32
  let v1263 : BitVec 1 := Scalar.cmpi .eq v1262 c0_i32_750
  let true_751 : BitVec 1 := 1#1
  let v1264 : BitVec 1 := Scalar.xori v1263 true_751
  let v1265 : BitVec 32 := Scalar.extui v1264
  let c0_i32_753 : BitVec 32 := 0#32
  let v1266 : BitVec 1 := Scalar.cmpi .ne v1265 c0_i32_753
  v1266

def k0_mult337 : BitVec 32 :=
  let c122_i32_752 : BitVec 32 := 122#32
  let c21_i32_779 : BitVec 32 := 21#32
  let v1292 : BitVec 32 := Scalar.remsi c122_i32_752 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  v1307
def k0_mult338 : BitVec 32 :=
  let c122_i32_752 : BitVec 32 := 122#32
  let c21_i32_779 : BitVec 32 := 21#32
  let v1292 : BitVec 32 := Scalar.remsi c122_i32_752 c21_i32_779
  let c6_i32_780 : BitVec 32 := 6#32
  let v1293 : BitVec 32 := Scalar.remsi v1292 c6_i32_780
  let c512_i32_789 : BitVec 32 := 512#32
  let v1309 : BitVec 32 := Scalar.muli v1293 c512_i32_789
  v1309
def k0_off236 : Fin 1 → Nat :=
  let c122_i32_752 : BitVec 32 := 122#32
  let c12_i32_790 : BitVec 32 := 12#32
  let c0_i32_791 : BitVec 32 := 0#32
  let v1311 : BitVec 1 := Scalar.cmpi .eq c12_i32_790 c0_i32_791
  let c1_i32_792 : BitVec 32 := 1#32
  let v1312 : BitVec 32 := Scalar.select v1311 c1_i32_792 c12_i32_790
  let v1313 : BitVec 32 := Scalar.remsi c122_i32_752 v1312
  let c0_i32_794 : BitVec 32 := 0#32
  let v1315 : BitVec 1 := Scalar.cmpi .slt v1313 c0_i32_794
  let c0_i32_795 : BitVec 32 := 0#32
  let v1316 : BitVec 1 := Scalar.cmpi .slt v1312 c0_i32_795
  let v1317 : BitVec 1 := Scalar.xori v1315 v1316
  let c0_i32_793 : BitVec 32 := 0#32
  let v1314 : BitVec 1 := Scalar.cmpi .ne v1313 c0_i32_793
  let v1318 : BitVec 1 := Scalar.andi v1317 v1314
  let v1319 : BitVec 32 := Scalar.addi v1313 v1312
  let v1320 : BitVec 32 := Scalar.select v1318 v1319 v1313
  ![v1320.toNat]
def k0_off237 : Fin 3 → Nat :=
  let c122_i32_752 : BitVec 32 := 122#32
  let c21_i32_778 : BitVec 32 := 21#32
  let v1291 : BitVec 32 := Scalar.divsi c122_i32_752 c21_i32_778
  let c21_i32_779 : BitVec 32 := 21#32
  let v1292 : BitVec 32 := Scalar.remsi c122_i32_752 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  let v1308 : BitVec 32 := v1307
  let c512_i32_789 : BitVec 32 := 512#32
  let v1309 : BitVec 32 := Scalar.muli v1293 c512_i32_789
  let v1310 : BitVec 32 := v1309
  ![v1291.toNat, v1308.toNat, v1310.toNat]
def k0_off238 : Fin 3 → Nat :=
  let c122_i32_752 : BitVec 32 := 122#32
  let c12_i32 : BitVec 32 := 12#32
  let c0_i32_783 : BitVec 32 := 0#32
  let v1297 : BitVec 1 := Scalar.cmpi .eq c12_i32 c0_i32_783
  let c1_i32_784 : BitVec 32 := 1#32
  let v1298 : BitVec 32 := Scalar.select v1297 c1_i32_784 c12_i32
  let v1299 : BitVec 32 := Scalar.remsi c122_i32_752 v1298
  let c0_i32_786 : BitVec 32 := 0#32
  let v1301 : BitVec 1 := Scalar.cmpi .slt v1299 c0_i32_786
  let c0_i32_787 : BitVec 32 := 0#32
  let v1302 : BitVec 1 := Scalar.cmpi .slt v1298 c0_i32_787
  let v1303 : BitVec 1 := Scalar.xori v1301 v1302
  let c0_i32_785 : BitVec 32 := 0#32
  let v1300 : BitVec 1 := Scalar.cmpi .ne v1299 c0_i32_785
  let v1304 : BitVec 1 := Scalar.andi v1303 v1300
  let v1305 : BitVec 32 := Scalar.addi v1299 v1298
  let v1306 : BitVec 32 := Scalar.select v1304 v1305 v1299
  let c0_i32_796 : BitVec 32 := 0#32
  let c0_i32_797 : BitVec 32 := 0#32
  ![v1306.toNat, 0, 0]
def k0_cond48 : BitVec 1 :=
  let c123_i32_754 : BitVec 32 := 123#32
  let c21_i32_755 : BitVec 32 := 21#32
  let v1267 : BitVec 32 := Scalar.remsi c123_i32_754 c21_i32_755
  let c6_i32_756 : BitVec 32 := 6#32
  let v1268 : BitVec 32 := Scalar.divsi v1267 c6_i32_756
  let c0_i32_757 : BitVec 32 := 0#32
  let v1269 : BitVec 1 := Scalar.cmpi .eq v1268 c0_i32_757
  let true_758 : BitVec 1 := 1#1
  let v1270 : BitVec 1 := Scalar.xori v1269 true_758
  let v1271 : BitVec 32 := Scalar.extui v1270
  let c0_i32_760 : BitVec 32 := 0#32
  let v1272 : BitVec 1 := Scalar.cmpi .ne v1271 c0_i32_760
  v1272

def k0_mult339 : BitVec 32 :=
  let c123_i32_759 : BitVec 32 := 123#32
  let c21_i32_779 : BitVec 32 := 21#32
  let v1292 : BitVec 32 := Scalar.remsi c123_i32_759 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  v1307
def k0_mult340 : BitVec 32 :=
  let c123_i32_759 : BitVec 32 := 123#32
  let c21_i32_779 : BitVec 32 := 21#32
  let v1292 : BitVec 32 := Scalar.remsi c123_i32_759 c21_i32_779
  let c6_i32_780 : BitVec 32 := 6#32
  let v1293 : BitVec 32 := Scalar.remsi v1292 c6_i32_780
  let c512_i32_789 : BitVec 32 := 512#32
  let v1309 : BitVec 32 := Scalar.muli v1293 c512_i32_789
  v1309
def k0_off239 : Fin 1 → Nat :=
  let c123_i32_759 : BitVec 32 := 123#32
  let c12_i32_790 : BitVec 32 := 12#32
  let c0_i32_791 : BitVec 32 := 0#32
  let v1311 : BitVec 1 := Scalar.cmpi .eq c12_i32_790 c0_i32_791
  let c1_i32_792 : BitVec 32 := 1#32
  let v1312 : BitVec 32 := Scalar.select v1311 c1_i32_792 c12_i32_790
  let v1313 : BitVec 32 := Scalar.remsi c123_i32_759 v1312
  let c0_i32_794 : BitVec 32 := 0#32
  let v1315 : BitVec 1 := Scalar.cmpi .slt v1313 c0_i32_794
  let c0_i32_795 : BitVec 32 := 0#32
  let v1316 : BitVec 1 := Scalar.cmpi .slt v1312 c0_i32_795
  let v1317 : BitVec 1 := Scalar.xori v1315 v1316
  let c0_i32_793 : BitVec 32 := 0#32
  let v1314 : BitVec 1 := Scalar.cmpi .ne v1313 c0_i32_793
  let v1318 : BitVec 1 := Scalar.andi v1317 v1314
  let v1319 : BitVec 32 := Scalar.addi v1313 v1312
  let v1320 : BitVec 32 := Scalar.select v1318 v1319 v1313
  ![v1320.toNat]
def k0_off240 : Fin 3 → Nat :=
  let c123_i32_759 : BitVec 32 := 123#32
  let c21_i32_778 : BitVec 32 := 21#32
  let v1291 : BitVec 32 := Scalar.divsi c123_i32_759 c21_i32_778
  let c21_i32_779 : BitVec 32 := 21#32
  let v1292 : BitVec 32 := Scalar.remsi c123_i32_759 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  let v1308 : BitVec 32 := v1307
  let c512_i32_789 : BitVec 32 := 512#32
  let v1309 : BitVec 32 := Scalar.muli v1293 c512_i32_789
  let v1310 : BitVec 32 := v1309
  ![v1291.toNat, v1308.toNat, v1310.toNat]
def k0_off241 : Fin 3 → Nat :=
  let c123_i32_759 : BitVec 32 := 123#32
  let c12_i32 : BitVec 32 := 12#32
  let c0_i32_783 : BitVec 32 := 0#32
  let v1297 : BitVec 1 := Scalar.cmpi .eq c12_i32 c0_i32_783
  let c1_i32_784 : BitVec 32 := 1#32
  let v1298 : BitVec 32 := Scalar.select v1297 c1_i32_784 c12_i32
  let v1299 : BitVec 32 := Scalar.remsi c123_i32_759 v1298
  let c0_i32_786 : BitVec 32 := 0#32
  let v1301 : BitVec 1 := Scalar.cmpi .slt v1299 c0_i32_786
  let c0_i32_787 : BitVec 32 := 0#32
  let v1302 : BitVec 1 := Scalar.cmpi .slt v1298 c0_i32_787
  let v1303 : BitVec 1 := Scalar.xori v1301 v1302
  let c0_i32_785 : BitVec 32 := 0#32
  let v1300 : BitVec 1 := Scalar.cmpi .ne v1299 c0_i32_785
  let v1304 : BitVec 1 := Scalar.andi v1303 v1300
  let v1305 : BitVec 32 := Scalar.addi v1299 v1298
  let v1306 : BitVec 32 := Scalar.select v1304 v1305 v1299
  let c0_i32_796 : BitVec 32 := 0#32
  let c0_i32_797 : BitVec 32 := 0#32
  ![v1306.toNat, 0, 0]
def k0_cond49 : BitVec 1 :=
  let c124_i32_761 : BitVec 32 := 124#32
  let c21_i32_762 : BitVec 32 := 21#32
  let v1273 : BitVec 32 := Scalar.remsi c124_i32_761 c21_i32_762
  let c6_i32_763 : BitVec 32 := 6#32
  let v1274 : BitVec 32 := Scalar.divsi v1273 c6_i32_763
  let c0_i32_764 : BitVec 32 := 0#32
  let v1275 : BitVec 1 := Scalar.cmpi .eq v1274 c0_i32_764
  let true_765 : BitVec 1 := 1#1
  let v1276 : BitVec 1 := Scalar.xori v1275 true_765
  let v1277 : BitVec 32 := Scalar.extui v1276
  let c0_i32_767 : BitVec 32 := 0#32
  let v1278 : BitVec 1 := Scalar.cmpi .ne v1277 c0_i32_767
  v1278

def k0_mult341 : BitVec 32 :=
  let c124_i32_766 : BitVec 32 := 124#32
  let c21_i32_779 : BitVec 32 := 21#32
  let v1292 : BitVec 32 := Scalar.remsi c124_i32_766 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  v1307
def k0_mult342 : BitVec 32 :=
  let c124_i32_766 : BitVec 32 := 124#32
  let c21_i32_779 : BitVec 32 := 21#32
  let v1292 : BitVec 32 := Scalar.remsi c124_i32_766 c21_i32_779
  let c6_i32_780 : BitVec 32 := 6#32
  let v1293 : BitVec 32 := Scalar.remsi v1292 c6_i32_780
  let c512_i32_789 : BitVec 32 := 512#32
  let v1309 : BitVec 32 := Scalar.muli v1293 c512_i32_789
  v1309
def k0_off242 : Fin 1 → Nat :=
  let c124_i32_766 : BitVec 32 := 124#32
  let c12_i32_790 : BitVec 32 := 12#32
  let c0_i32_791 : BitVec 32 := 0#32
  let v1311 : BitVec 1 := Scalar.cmpi .eq c12_i32_790 c0_i32_791
  let c1_i32_792 : BitVec 32 := 1#32
  let v1312 : BitVec 32 := Scalar.select v1311 c1_i32_792 c12_i32_790
  let v1313 : BitVec 32 := Scalar.remsi c124_i32_766 v1312
  let c0_i32_794 : BitVec 32 := 0#32
  let v1315 : BitVec 1 := Scalar.cmpi .slt v1313 c0_i32_794
  let c0_i32_795 : BitVec 32 := 0#32
  let v1316 : BitVec 1 := Scalar.cmpi .slt v1312 c0_i32_795
  let v1317 : BitVec 1 := Scalar.xori v1315 v1316
  let c0_i32_793 : BitVec 32 := 0#32
  let v1314 : BitVec 1 := Scalar.cmpi .ne v1313 c0_i32_793
  let v1318 : BitVec 1 := Scalar.andi v1317 v1314
  let v1319 : BitVec 32 := Scalar.addi v1313 v1312
  let v1320 : BitVec 32 := Scalar.select v1318 v1319 v1313
  ![v1320.toNat]
def k0_off243 : Fin 3 → Nat :=
  let c124_i32_766 : BitVec 32 := 124#32
  let c21_i32_778 : BitVec 32 := 21#32
  let v1291 : BitVec 32 := Scalar.divsi c124_i32_766 c21_i32_778
  let c21_i32_779 : BitVec 32 := 21#32
  let v1292 : BitVec 32 := Scalar.remsi c124_i32_766 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  let v1308 : BitVec 32 := v1307
  let c512_i32_789 : BitVec 32 := 512#32
  let v1309 : BitVec 32 := Scalar.muli v1293 c512_i32_789
  let v1310 : BitVec 32 := v1309
  ![v1291.toNat, v1308.toNat, v1310.toNat]
def k0_off244 : Fin 3 → Nat :=
  let c124_i32_766 : BitVec 32 := 124#32
  let c12_i32 : BitVec 32 := 12#32
  let c0_i32_783 : BitVec 32 := 0#32
  let v1297 : BitVec 1 := Scalar.cmpi .eq c12_i32 c0_i32_783
  let c1_i32_784 : BitVec 32 := 1#32
  let v1298 : BitVec 32 := Scalar.select v1297 c1_i32_784 c12_i32
  let v1299 : BitVec 32 := Scalar.remsi c124_i32_766 v1298
  let c0_i32_786 : BitVec 32 := 0#32
  let v1301 : BitVec 1 := Scalar.cmpi .slt v1299 c0_i32_786
  let c0_i32_787 : BitVec 32 := 0#32
  let v1302 : BitVec 1 := Scalar.cmpi .slt v1298 c0_i32_787
  let v1303 : BitVec 1 := Scalar.xori v1301 v1302
  let c0_i32_785 : BitVec 32 := 0#32
  let v1300 : BitVec 1 := Scalar.cmpi .ne v1299 c0_i32_785
  let v1304 : BitVec 1 := Scalar.andi v1303 v1300
  let v1305 : BitVec 32 := Scalar.addi v1299 v1298
  let v1306 : BitVec 32 := Scalar.select v1304 v1305 v1299
  let c0_i32_796 : BitVec 32 := 0#32
  let c0_i32_797 : BitVec 32 := 0#32
  ![v1306.toNat, 0, 0]
def k0_cond50 : BitVec 1 :=
  let c125_i32_768 : BitVec 32 := 125#32
  let c21_i32_769 : BitVec 32 := 21#32
  let v1279 : BitVec 32 := Scalar.remsi c125_i32_768 c21_i32_769
  let c6_i32_770 : BitVec 32 := 6#32
  let v1280 : BitVec 32 := Scalar.divsi v1279 c6_i32_770
  let c0_i32_771 : BitVec 32 := 0#32
  let v1281 : BitVec 1 := Scalar.cmpi .eq v1280 c0_i32_771
  let true_772 : BitVec 1 := 1#1
  let v1282 : BitVec 1 := Scalar.xori v1281 true_772
  let v1283 : BitVec 32 := Scalar.extui v1282
  let c0_i32_774 : BitVec 32 := 0#32
  let v1284 : BitVec 1 := Scalar.cmpi .ne v1283 c0_i32_774
  v1284

def k0_mult343 : BitVec 32 :=
  let c125_i32_773 : BitVec 32 := 125#32
  let c21_i32_779 : BitVec 32 := 21#32
  let v1292 : BitVec 32 := Scalar.remsi c125_i32_773 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  v1307
def k0_mult344 : BitVec 32 :=
  let c125_i32_773 : BitVec 32 := 125#32
  let c21_i32_779 : BitVec 32 := 21#32
  let v1292 : BitVec 32 := Scalar.remsi c125_i32_773 c21_i32_779
  let c6_i32_780 : BitVec 32 := 6#32
  let v1293 : BitVec 32 := Scalar.remsi v1292 c6_i32_780
  let c512_i32_789 : BitVec 32 := 512#32
  let v1309 : BitVec 32 := Scalar.muli v1293 c512_i32_789
  v1309
def k0_off245 : Fin 1 → Nat :=
  let c125_i32_773 : BitVec 32 := 125#32
  let c12_i32_790 : BitVec 32 := 12#32
  let c0_i32_791 : BitVec 32 := 0#32
  let v1311 : BitVec 1 := Scalar.cmpi .eq c12_i32_790 c0_i32_791
  let c1_i32_792 : BitVec 32 := 1#32
  let v1312 : BitVec 32 := Scalar.select v1311 c1_i32_792 c12_i32_790
  let v1313 : BitVec 32 := Scalar.remsi c125_i32_773 v1312
  let c0_i32_794 : BitVec 32 := 0#32
  let v1315 : BitVec 1 := Scalar.cmpi .slt v1313 c0_i32_794
  let c0_i32_795 : BitVec 32 := 0#32
  let v1316 : BitVec 1 := Scalar.cmpi .slt v1312 c0_i32_795
  let v1317 : BitVec 1 := Scalar.xori v1315 v1316
  let c0_i32_793 : BitVec 32 := 0#32
  let v1314 : BitVec 1 := Scalar.cmpi .ne v1313 c0_i32_793
  let v1318 : BitVec 1 := Scalar.andi v1317 v1314
  let v1319 : BitVec 32 := Scalar.addi v1313 v1312
  let v1320 : BitVec 32 := Scalar.select v1318 v1319 v1313
  ![v1320.toNat]
def k0_off246 : Fin 3 → Nat :=
  let c125_i32_773 : BitVec 32 := 125#32
  let c21_i32_778 : BitVec 32 := 21#32
  let v1291 : BitVec 32 := Scalar.divsi c125_i32_773 c21_i32_778
  let c21_i32_779 : BitVec 32 := 21#32
  let v1292 : BitVec 32 := Scalar.remsi c125_i32_773 c21_i32_779
  let c6_i32_780 : BitVec 32 := 6#32
  let v1293 : BitVec 32 := Scalar.remsi v1292 c6_i32_780
  let c6_i32_781 : BitVec 32 := 6#32
  let v1294 : BitVec 32 := Scalar.divsi v1292 c6_i32_781
  let v1295 : BitVec 32 := Scalar.addi v1293 v1294
  let c6_i32_782 : BitVec 32 := 6#32
  let v1296 : BitVec 32 := Scalar.remsi v1295 c6_i32_782
  let c512_i32_788 : BitVec 32 := 512#32
  let v1307 : BitVec 32 := Scalar.muli v1296 c512_i32_788
  let v1308 : BitVec 32 := v1307
  let c512_i32_789 : BitVec 32 := 512#32
  let v1309 : BitVec 32 := Scalar.muli v1293 c512_i32_789
  let v1310 : BitVec 32 := v1309
  ![v1291.toNat, v1308.toNat, v1310.toNat]
def k0_off247 : Fin 3 → Nat :=
  let c125_i32_773 : BitVec 32 := 125#32
  let c12_i32 : BitVec 32 := 12#32
  let c0_i32_783 : BitVec 32 := 0#32
  let v1297 : BitVec 1 := Scalar.cmpi .eq c12_i32 c0_i32_783
  let c1_i32_784 : BitVec 32 := 1#32
  let v1298 : BitVec 32 := Scalar.select v1297 c1_i32_784 c12_i32
  let v1299 : BitVec 32 := Scalar.remsi c125_i32_773 v1298
  let c0_i32_786 : BitVec 32 := 0#32
  let v1301 : BitVec 1 := Scalar.cmpi .slt v1299 c0_i32_786
  let c0_i32_787 : BitVec 32 := 0#32
  let v1302 : BitVec 1 := Scalar.cmpi .slt v1298 c0_i32_787
  let v1303 : BitVec 1 := Scalar.xori v1301 v1302
  let c0_i32_785 : BitVec 32 := 0#32
  let v1300 : BitVec 1 := Scalar.cmpi .ne v1299 c0_i32_785
  let v1304 : BitVec 1 := Scalar.andi v1303 v1300
  let v1305 : BitVec 32 := Scalar.addi v1299 v1298
  let v1306 : BitVec 32 := Scalar.select v1304 v1305 v1299
  let c0_i32_796 : BitVec 32 := 0#32
  let c0_i32_797 : BitVec 32 := 0#32
  ![v1306.toNat, 0, 0]
-- ==== ReferenceIdeal.lean ====
abbrev S256x3072 : Shape := ⟨2, ![256, 3072]⟩
abbrev S1024 : Shape := ⟨1, ![1024]⟩
abbrev S7 : Shape := ⟨1, ![7]⟩
abbrev S6x3072x3072 : Shape := ⟨3, ![6, 3072, 3072]⟩
abbrev S6 : Shape := ⟨1, ![6]⟩
abbrev S1024x1 : Shape := ⟨2, ![1024, 1]⟩
abbrev S1x256 : Shape := ⟨2, ![1, 256]⟩
abbrev S256 : Shape := ⟨1, ![256]⟩
abbrev S256x1 : Shape := ⟨2, ![256, 1]⟩
abbrev S256x256 : Shape := ⟨2, ![256, 256]⟩
abbrev S1024x256 : Shape := ⟨2, ![1024, 256]⟩
abbrev S1024x3072 : Shape := ⟨2, ![1024, 3072]⟩
abbrev S1 : Shape := ⟨1, ![1]⟩
abbrev S3072x3072 : Shape := ⟨2, ![3072, 3072]⟩
abbrev S1x3072x3072 : Shape := ⟨3, ![1, 3072, 3072]⟩

abbrev nBuf : Space → Nat
  | .hbm => 10
  | .vmem => 6
  | .smem => 3
  | _ => 0

abbrev bufTy : (tb : Table) → Fin (tcTables nBuf tb) → BufTy
  | .hbm, ⟨0, _⟩ => ⟨S256x3072, .bf16⟩
  | .hbm, ⟨1, _⟩ => ⟨S1024, .i32⟩
  | .hbm, ⟨2, _⟩ => ⟨S7, .i32⟩
  | .hbm, ⟨3, _⟩ => ⟨S6x3072x3072, .f32⟩
  | .hbm, ⟨4, _⟩ => ⟨S6, .i32⟩
  | .hbm, ⟨5, _⟩ => ⟨S1024x1, .i32⟩
  | .hbm, ⟨6, _⟩ => ⟨S6x3072x3072, .f32⟩
  | .hbm, ⟨7, _⟩ => ⟨S6, .i32⟩
  | .hbm, ⟨8, _⟩ => ⟨S256x3072, .fp8e4m3⟩
  | .hbm, ⟨9, _⟩ => ⟨S1x256, .f32⟩
  | .local _ .vmem, ⟨0, _⟩ => ⟨S256x3072, .bf16⟩
  | .local _ .vmem, ⟨1, _⟩ => ⟨S1024x1, .i32⟩
  | .local _ .vmem, ⟨2, _⟩ => ⟨S6x3072x3072, .f32⟩
  | .local _ .vmem, ⟨3, _⟩ => ⟨S6x3072x3072, .f32⟩
  | .local _ .vmem, ⟨4, _⟩ => ⟨S256x3072, .fp8e4m3⟩
  | .local _ .vmem, ⟨5, _⟩ => ⟨S1x256, .f32⟩
  | .local _ .smem, ⟨0, _⟩ => ⟨S7, .i32⟩
  | .local _ .smem, ⟨1, _⟩ => ⟨S6, .i32⟩
  | .local _ .smem, ⟨2, _⟩ => ⟨S6, .i32⟩
  | _, _ => ⟨S256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg5_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg2_0 : Ref sig .tc := ⟨.smem, 0, rfl⟩
abbrev cc0_stg4_0 : Ref sig .tc := ⟨.smem, 1, rfl⟩
abbrev cc0_stg6_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S7 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x3072x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S6 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x3072x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S6 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x3072 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelIdeal.Num.lean ====
module

public import proofs.«01_k».proof.Proof.Gen.KernelIdeal

/-! The kernel's trip numbers: which block of which expert a trip handles, and what the printed offsets and
conditions are in those numbers. -/

@[expose] public section

namespace Cert.KernelIdeal.Hand

open Cert.KernelIdeal Cert.KernelIdeal.Gen Idealize.ShloMosaic

/-- The expert of block number `t`. -/
def eOf (t : ℕ) : ℕ := t / 21
/-- The block row of block number `t`. -/
def iOf (t : ℕ) : ℕ := (t % 21) % 6
/-- The block column of block number `t`. -/
def jOf (t : ℕ) : ℕ := ((t % 21) % 6 + (t % 21) / 6) % 6
/-- Block number `t` lies on the diagonal. -/
def dg (t : ℕ) : Prop := (t % 21) / 6 = 0
instance (t : ℕ) : Decidable (dg t) := inferInstanceAs (Decidable ((t % 21) / 6 = 0))

theorem trips_eq : k0_t1_loop.trips = 126 := by decide +kernel

theorem cond25_iff : ∀ s : Fin k0_t1_loop.trips, k0_cond25 s = 1#1 ↔ s.val % 21 = 0 := by decide +kernel
theorem cond26_iff : ∀ s : Fin k0_t1_loop.trips, k0_cond26 s = 1#1 ↔ dg s.val := by decide +kernel
theorem cond27_iff : ∀ s : Fin k0_t1_loop.trips, k0_cond27 s = 1#1 ↔ ¬ dg s.val := by decide +kernel
theorem cond28_iff : ∀ s : Fin k0_t1_loop.trips, k0_cond28 s = 1#1 ↔ 1 ≤ s.val := by decide +kernel
theorem cond29_iff : ∀ s : Fin k0_t1_loop.trips, 1 ≤ s.val → (k0_cond29 s = 1#1 ↔ ¬ dg (s.val - 1)) := by decide +kernel
theorem cond30_iff : ∀ s : Fin k0_t1_loop.trips, k0_cond30 s = 1#1 ↔ 12 ≤ s.val := by decide +kernel
theorem cond31_iff : ∀ s : Fin k0_t1_loop.trips, k0_cond31 s = 1#1 ↔ s.val + 12 < 126 := by decide +kernel
theorem cond32_iff : ∀ s : Fin k0_t1_loop.trips, k0_cond32 s = 1#1 ↔ dg (s.val + 12) := by decide +kernel
theorem cond33_iff : ∀ s : Fin k0_t1_loop.trips, k0_cond33 s = 1#1 ↔ ¬ dg (s.val + 12) := by decide +kernel
theorem cond34_iff : ∀ s : Fin k0_t1_loop.trips, k0_cond34 s = 1#1 ↔ 12 ≤ s.val := by decide +kernel
theorem cond35_iff : ∀ s : Fin k0_t1_loop.trips, 12 ≤ s.val → (k0_cond35 s = 1#1 ↔ ¬ dg (s.val - 12)) := by decide +kernel
theorem cond36_iff : ∀ s : Fin k0_t1_loop.trips, k0_cond36 s = 1#1 ↔ dg s.val := by decide +kernel
theorem cond37_iff : ∀ s : Fin k0_t1_loop.trips, k0_cond37 s = 1#1 ↔ ¬ dg s.val := by decide +kernel
theorem off145_eq : ∀ s : Fin k0_t1_loop.trips, k0_off145 s = ![eOf s.val] := by decide +kernel
theorem off146_eq : ∀ s : Fin k0_t1_loop.trips, k0_off146 s = ![eOf s.val + 1] := by decide +kernel
theorem off147_eq : ∀ s : Fin k0_t1_loop.trips, k0_off147 s = ![eOf s.val] := by decide +kernel
theorem off148_eq : ∀ s : Fin k0_t1_loop.trips, k0_off148 s = ![s.val % 24] := by decide +kernel
theorem off149_eq : ∀ s : Fin k0_t1_loop.trips, k0_off149 s = ![s.val % 24, 0, 0] := by decide +kernel
theorem off150_eq : ∀ s : Fin k0_t1_loop.trips, k0_off150 s = ![eOf s.val, 512 * iOf s.val + 0, 512 * iOf s.val + 0] := by decide +kernel
theorem off151_eq : ∀ s : Fin k0_t1_loop.trips, k0_off151 s = ![s.val % 24, 128, 128] := by decide +kernel
theorem off152_eq : ∀ s : Fin k0_t1_loop.trips, k0_off152 s = ![eOf s.val, 512 * iOf s.val + 128, 512 * iOf s.val + 128] := by decide +kernel
theorem off153_eq : ∀ s : Fin k0_t1_loop.trips, k0_off153 s = ![s.val % 24, 256, 256] := by decide +kernel
theorem off154_eq : ∀ s : Fin k0_t1_loop.trips, k0_off154 s = ![eOf s.val, 512 * iOf s.val + 256, 512 * iOf s.val + 256] := by decide +kernel
theorem off155_eq : ∀ s : Fin k0_t1_loop.trips, k0_off155 s = ![s.val % 24, 384, 384] := by decide +kernel
theorem off156_eq : ∀ s : Fin k0_t1_loop.trips, k0_off156 s = ![eOf s.val, 512 * iOf s.val + 384, 512 * iOf s.val + 384] := by decide +kernel
theorem off157_eq : ∀ s : Fin k0_t1_loop.trips, k0_off157 s = ![s.val % 24] := by decide +kernel
theorem off158_eq : ∀ s : Fin k0_t1_loop.trips, k0_off158 s = ![s.val % 24, 0, 0] := by decide +kernel
theorem off159_eq : ∀ s : Fin k0_t1_loop.trips, k0_off159 s = ![eOf s.val, 512 * iOf s.val, 512 * jOf s.val] := by decide +kernel
theorem off160_eq : ∀ s : Fin k0_t1_loop.trips, 1 ≤ s.val → k0_off160 s = ![(s.val - 1) % 24] := by decide +kernel
theorem off161_eq : ∀ s : Fin k0_t1_loop.trips, 1 ≤ s.val → k0_off161 s = ![eOf (s.val - 1), 512 * iOf (s.val - 1), 512 * jOf (s.val - 1)] := by decide +kernel
theorem off162_eq : ∀ s : Fin k0_t1_loop.trips, 1 ≤ s.val → k0_off162 s = ![(s.val - 1) % 24, 0, 0] := by decide +kernel
theorem off163_eq : ∀ s : Fin k0_t1_loop.trips, 1 ≤ s.val → k0_off163 s = ![(s.val - 1) % 12] := by decide +kernel
theorem off164_eq : ∀ s : Fin k0_t1_loop.trips, 1 ≤ s.val → k0_off164 s = ![eOf (s.val - 1), 512 * jOf (s.val - 1), 512 * iOf (s.val - 1)] := by decide +kernel
theorem off165_eq : ∀ s : Fin k0_t1_loop.trips, 1 ≤ s.val → k0_off165 s = ![(s.val - 1) % 12, 0, 0] := by decide +kernel
theorem off166_eq : ∀ s : Fin k0_t1_loop.trips, 12 ≤ s.val → k0_off166 s = ![(s.val - 12) % 24] := by decide +kernel
theorem off167_eq : ∀ s : Fin k0_t1_loop.trips, 12 ≤ s.val → k0_off167 s = ![eOf (s.val - 12), 512 * iOf (s.val - 12), 512 * jOf (s.val - 12)] := by decide +kernel
theorem off168_eq : ∀ s : Fin k0_t1_loop.trips, 12 ≤ s.val → k0_off168 s = ![(s.val - 12) % 24, 0, 0] := by decide +kernel
theorem off169_eq : ∀ s : Fin k0_t1_loop.trips, k0_off169 s = ![(s.val + 12) % 24] := by decide +kernel
theorem off170_eq : ∀ s : Fin k0_t1_loop.trips, k0_off170 s = ![(s.val + 12) % 24, 0, 0] := by decide +kernel
theorem off171_eq : ∀ s : Fin k0_t1_loop.trips, s.val + 12 < 126 → k0_off171 s = ![eOf (s.val + 12), 512 * iOf (s.val + 12) + 0, 512 * iOf (s.val + 12) + 0] := by decide +kernel
theorem off172_eq : ∀ s : Fin k0_t1_loop.trips, k0_off172 s = ![(s.val + 12) % 24, 128, 128] := by decide +kernel
theorem off173_eq : ∀ s : Fin k0_t1_loop.trips, s.val + 12 < 126 → k0_off173 s = ![eOf (s.val + 12), 512 * iOf (s.val + 12) + 128, 512 * iOf (s.val + 12) + 128] := by decide +kernel
theorem off174_eq : ∀ s : Fin k0_t1_loop.trips, k0_off174 s = ![(s.val + 12) % 24, 256, 256] := by decide +kernel
theorem off175_eq : ∀ s : Fin k0_t1_loop.trips, s.val + 12 < 126 → k0_off175 s = ![eOf (s.val + 12), 512 * iOf (s.val + 12) + 256, 512 * iOf (s.val + 12) + 256] := by decide +kernel
theorem off176_eq : ∀ s : Fin k0_t1_loop.trips, k0_off176 s = ![(s.val + 12) % 24, 384, 384] := by decide +kernel
theorem off177_eq : ∀ s : Fin k0_t1_loop.trips, s.val + 12 < 126 → k0_off177 s = ![eOf (s.val + 12), 512 * iOf (s.val + 12) + 384, 512 * iOf (s.val + 12) + 384] := by decide +kernel
theorem off178_eq : ∀ s : Fin k0_t1_loop.trips, k0_off178 s = ![(s.val + 12) % 24] := by decide +kernel
theorem off179_eq : ∀ s : Fin k0_t1_loop.trips, k0_off179 s = ![(s.val + 12) % 24, 0, 0] := by decide +kernel
theorem off180_eq : ∀ s : Fin k0_t1_loop.trips, s.val + 12 < 126 → k0_off180 s = ![eOf (s.val + 12), 512 * iOf (s.val + 12), 512 * jOf (s.val + 12)] := by decide +kernel
theorem off181_eq : ∀ s : Fin k0_t1_loop.trips, 12 ≤ s.val → k0_off181 s = ![(s.val - 12) % 12] := by decide +kernel
theorem off182_eq : ∀ s : Fin k0_t1_loop.trips, 12 ≤ s.val → k0_off182 s = ![eOf (s.val - 12), 512 * jOf (s.val - 12), 512 * iOf (s.val - 12)] := by decide +kernel
theorem off183_eq : ∀ s : Fin k0_t1_loop.trips, 12 ≤ s.val → k0_off183 s = ![(s.val - 12) % 12, 0, 0] := by decide +kernel
theorem off184_eq0 : ∀ s : Fin k0_t1_loop.trips, k0_off184 s 0#32 = ![512 * iOf s.val + 0, 0] := by decide +kernel
theorem off184_eq1 : ∀ s : Fin k0_t1_loop.trips, k0_off184 s 128#32 = ![512 * iOf s.val + 128, 0] := by decide +kernel
theorem off184_eq2 : ∀ s : Fin k0_t1_loop.trips, k0_off184 s 256#32 = ![512 * iOf s.val + 256, 0] := by decide +kernel
theorem off184_eq3 : ∀ s : Fin k0_t1_loop.trips, k0_off184 s 384#32 = ![512 * iOf s.val + 384, 0] := by decide +kernel
theorem off196_eq0 : ∀ s : Fin k0_t1_loop.trips, k0_off196 s 0#32 = ![512 * iOf s.val + 0, 0] := by decide +kernel
theorem off196_eq1 : ∀ s : Fin k0_t1_loop.trips, k0_off196 s 128#32 = ![512 * iOf s.val + 128, 0] := by decide +kernel
theorem off196_eq2 : ∀ s : Fin k0_t1_loop.trips, k0_off196 s 256#32 = ![512 * iOf s.val + 256, 0] := by decide +kernel
theorem off196_eq3 : ∀ s : Fin k0_t1_loop.trips, k0_off196 s 384#32 = ![512 * iOf s.val + 384, 0] := by decide +kernel
theorem off185_eq : ∀ s : Fin k0_t1_loop.trips, k0_off185 s = ![0, 512 * jOf s.val] := by decide +kernel
theorem off197_eq : ∀ s : Fin k0_t1_loop.trips, k0_off197 s = ![0, 512 * jOf s.val] := by decide +kernel
theorem off188_eq : ∀ s : Fin k0_t1_loop.trips, k0_off188 s = ![0, 512 * jOf s.val + 128] := by decide +kernel
theorem off191_eq : ∀ s : Fin k0_t1_loop.trips, k0_off191 s = ![0, 512 * jOf s.val + 256] := by decide +kernel
theorem off194_eq : ∀ s : Fin k0_t1_loop.trips, k0_off194 s = ![0, 512 * jOf s.val + 384] := by decide +kernel
theorem off186_eq : ∀ s : Fin k0_t1_loop.trips, k0_off186 s = ![s.val % 24, 0, 0] := by decide +kernel
theorem off189_eq : ∀ s : Fin k0_t1_loop.trips, k0_off189 s = ![s.val % 24, 128, 128] := by decide +kernel
theorem off192_eq : ∀ s : Fin k0_t1_loop.trips, k0_off192 s = ![s.val % 24, 256, 256] := by decide +kernel
theorem off195_eq : ∀ s : Fin k0_t1_loop.trips, k0_off195 s = ![s.val % 24, 384, 384] := by decide +kernel
theorem off187_eq : ∀ s : Fin k0_t1_loop.trips, k0_off187 s = ![s.val % 24, 128, 0] := by decide +kernel
theorem off190_eq : ∀ s : Fin k0_t1_loop.trips, k0_off190 s = ![s.val % 24, 256, 128] := by decide +kernel
theorem off193_eq : ∀ s : Fin k0_t1_loop.trips, k0_off193 s = ![s.val % 24, 384, 256] := by decide +kernel
theorem off198_eq : ∀ s : Fin k0_t1_loop.trips, k0_off198 s = ![s.val % 24, 0, 0] := by decide +kernel
theorem off200_eq : ∀ s : Fin k0_t1_loop.trips, k0_off200 s = ![s.val % 24, 128, 0] := by decide +kernel
theorem off202_eq : ∀ s : Fin k0_t1_loop.trips, k0_off202 s = ![s.val % 24, 256, 0] := by decide +kernel
theorem off204_eq : ∀ s : Fin k0_t1_loop.trips, k0_off204 s = ![s.val % 24, 384, 0] := by decide +kernel
theorem off199_eq : ∀ s : Fin k0_t1_loop.trips, k0_off199 s = ![s.val % 12, 0, 0] := by decide +kernel
theorem off201_eq : ∀ s : Fin k0_t1_loop.trips, k0_off201 s = ![s.val % 12, 0, 128] := by decide +kernel
theorem off203_eq : ∀ s : Fin k0_t1_loop.trips, k0_off203 s = ![s.val % 12, 0, 256] := by decide +kernel
theorem off205_eq : ∀ s : Fin k0_t1_loop.trips, k0_off205 s = ![s.val % 12, 0, 384] := by decide +kernel

end Cert.KernelIdeal.Hand
-- ==== Proof.KernelIdeal.Base.lean ====
module

public import proofs.«01_k».proof.Proof.KernelIdeal.Num
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameValue
public import Idealize.ShloMosaic.Lib.MixedBatch
public import Idealize.ShloMosaic.Lib.Tactic
public import Idealize.ShloMosaic.Lib.ValueLayout
public import Idealize.ShloMosaic.Lib.ValueIdxCore

/-! The kernel's buffers and the blocks of them its copies move: the elements of a block, and what a block reads and
writes there. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline library's beside the transfers' counters. -/
abbrev MM (F : FTy → Type) : Type := MT nD τ sig Unit (Elt F) ℕ (Pipeline.UD sig nD τ) ℕ

/-- The transfers' counters in it. -/
abbrev EC : UEmb Counters (MM F) := countersEmb (U := Pipeline.UD sig nD τ)

/-! ## Buffers -/

abbrev mX : Memref sig .tc .hbm S256x3072 .bf16 := Memref.whole main_arg0
abbrev mRt : Memref sig .tc .hbm S8x128 .i32 := Memref.whole main_v0
abbrev mOff : Memref sig .tc .hbm S7 .i32 := Memref.whole main_arg2
abbrev mIn : Memref sig .tc .hbm S6x3072x3072 .f32 := Memref.whole main_arg3
abbrev mCnt : Memref sig .tc .hbm S6 .i32 := Memref.whole main_arg4
abbrev mHo : Memref sig .tc .hbm S6x3072x3072 .f32 := Memref.whole main_v1_0
abbrev mCo : Memref sig .tc .hbm S6 .i32 := Memref.whole main_v1_1
abbrev mCodes : Memref sig .tc .hbm S256x3072 .fp8e4m3 := Memref.whole main_v1_2
abbrev mSc : Memref sig .tc .hbm S1x256 .f32 := Memref.whole main_v1_3
abbrev mXv : Memref sig .tc .vmem S256x3072 .bf16 := Memref.whole cc0_scratch0
abbrev mRtv : Memref sig .tc .vmem S8x128 .i32 := Memref.whole cc0_scratch1
abbrev mOffs : Memref sig .tc .smem S7 .i32 := Memref.whole cc0_scratch2
abbrev mCnts : Memref sig .tc .smem S6 .i32 := Memref.whole cc0_scratch3
abbrev mCos : Memref sig .tc .smem S6 .i32 := Memref.whole cc0_scratch4
abbrev mCodesv : Memref sig .tc .vmem S256x3072 .fp8e4m3 := Memref.whole cc0_scratch5
abbrev mScb : Memref sig .tc .vmem S256x128 .f32 := Memref.whole cc0_scratch6
abbrev mScv : Memref sig .tc .vmem S1x256 .f32 := Memref.whole cc0_scratch7
abbrev mXd : Memref sig .tc .vmem S256x3072 .bf16 := Memref.whole cc0_scratch8
abbrev mXdt : Memref sig .tc .vmem S3072x256 .bf16 := Memref.whole cc0_scratch9
abbrev mCxd : Memref sig .tc .vmem S256x3072 .bf16 := Memref.whole cc0_scratch10
abbrev mMul : Memref sig .tc .vmem S2x512 .f32 := Memref.whole cc0_scratch11
abbrev mBuf : Memref sig .tc .vmem S24x512x512 .f32 := Memref.whole cc0_scratch12
abbrev mMir : Memref sig .tc .vmem S12x512x512 .f32 := Memref.whole cc0_scratch13

/-! ## A block of a three-axis buffer -/

section Blk

variable {Val : EltTy → Type} {d : Fin 3 → ℕ} {sp : Space} {e : EltTy} {n m : ℕ}

/-- The place of a block's element `x` in the buffer, the block at offset `o`. -/
def place (o : Fin 3 → ℕ) (h : ∀ a, o a + (![1, n, m] : Fin 3 → ℕ) a ≤ (⟨3, d⟩ : Shape).size a) (x : (⟨2, ![n, m]⟩ : Shape).Idx) :
    (⟨3, d⟩ : Shape).Idx :=
  (Rect.unit (s := ⟨3, d⟩) o ![1, n, m] h).idx (Fin.cons (⟨0, Nat.one_pos⟩ : Fin 1) x)

theorem place0 (o : Fin 3 → ℕ) (h) (x : (⟨2, ![n, m]⟩ : Shape).Idx) : (place (d := d) o h x 0).val = o 0 := rfl
theorem place1 (o : Fin 3 → ℕ) (h) (x : (⟨2, ![n, m]⟩ : Shape).Idx) : (place (d := d) o h x 1).val = o 1 + (x 0).val := by
  show o 1 + 1 * (x 0).val = _; rw [Nat.one_mul]
theorem place2 (o : Fin 3 → ℕ) (h) (x : (⟨2, ![n, m]⟩ : Shape).Idx) : (place (d := d) o h x 2).val = o 2 + (x 1).val := by
  show o 2 + 1 * (x 1).val = _; rw [Nat.one_mul]

variable (M : Memref sig .tc sp ⟨3, d⟩ e) (o : Fin 3 → ℕ)
  (h : ∀ a, o a + (![1, n, m] : Fin 3 → ℕ) a ≤ (⟨3, d⟩ : Shape).size a)
  (hr : ∀ a, (Rect.unit (s := ⟨3, d⟩) o ![1, n, m] h).stride a = 1)
  (hq : (⟨3, ![1, n, m]⟩ : Shape).Squeezes ⟨2, ![n, m]⟩)

theorem blk_emb (x : (⟨2, ![n, m]⟩ : Shape).Idx) :
    ((M.slice (Rect.unit (s := ⟨3, d⟩) o ![1, n, m] h) hr).squeeze ⟨2, ![n, m]⟩ hq).view.emb x = M.view.emb (place o h x) := by
  show M.view.emb ((Rect.unit (s := ⟨3, d⟩) o ![1, n, m] h).emb (Shape.reshapeEquiv hq.numel_eq x)) = _
  exact congrArg (fun z => M.view.emb ((Rect.unit (s := ⟨3, d⟩) o ![1, n, m] h).idx z)) (Shape.reshapeEquiv_cons_one (d := ![n, m]) hq.numel_eq x)

theorem blk_read (f : M.view.ty.Contents Val) (x : (⟨2, ![n, m]⟩ : Shape).Idx) :
    ((M.slice (Rect.unit (s := ⟨3, d⟩) o ![1, n, m] h) hr).squeeze ⟨2, ![n, m]⟩ hq).view.read Val f x = M.view.read Val f (place o h x) := by
  rw [View.read_apply, View.read_apply, blk_emb]

end Blk

end Cert.KernelIdeal.Hand

end
-- ==== Proof.KernelIdeal.Rules.lean ====
module

public import proofs.«01_k».proof.Proof.KernelIdeal.Base

/-! Steps of the body as rules: what holds before a step gives what holds after it. Copies between blocks of three-axis buffers, and their waits. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Triples -/

/-- `P` lets the program run on core `c` and end in `Q`. -/
abbrev Tri (c : Dev nD) {α : Type} (P : sProp (MM F)) (p : Prog (TpuEff nD τ sig (Elt F) Λ₀ .tc) α) (Q : α → sProp (MM F)) : Prop :=
  P ⊢ wp frame (wpE (defs₀ (F := F)) Variants.none (c : Thread nD τ) none) Set.univ p Q

variable {c : Dev nD} {α β : Type}

theorem tri_conseq {P P' : sProp (MM F)} {p : Prog (TpuEff nD τ sig (Elt F) Λ₀ .tc) α} {Q Q' : α → sProp (MM F)}
    (h : Tri c P p Q) (hP : P' ⊢ P) (hQ : ∀ a, Q a ⊢ Q' a) : Tri c P' p Q' :=
  hP.trans (h.trans (wp_mono _ _ _ hQ))

theorem tri_frame {P R : sProp (MM F)} {p : Prog (TpuEff nD τ sig (Elt F) Λ₀ .tc) α} {Q : α → sProp (MM F)}
    (h : Tri c P p Q) : Tri c iprop(P ∗ R) p (fun a => iprop(Q a ∗ R)) := by
  unfold Tri at *
  iintro ⟨HP, HR⟩
  iapply wp_frame_r
  isplitl [HP]
  · iapply h $$ HP
  · iexact HR

/-- A step, then the rest: the step takes `P` to `B`, the rest goes on from `B` and the frame. -/
theorem tri_seq {P R : sProp (MM F)} {p : Prog (TpuEff nD τ sig (Elt F) Λ₀ .tc) α} {k : α → Prog (TpuEff nD τ sig (Elt F) Λ₀ .tc) β}
    {B : α → sProp (MM F)} {Q : β → sProp (MM F)}
    (h : Tri c P p B) (hk : ∀ a, Tri c iprop(B a ∗ R) (k a) Q) : Tri c iprop(P ∗ R) (p >>= k) Q := by
  unfold Tri at *
  rw [wp_bind]
  exact (tri_frame (R := R) h).trans (wp_mono _ _ _ hk)

theorem tri_seq0 {P : sProp (MM F)} {p : Prog (TpuEff nD τ sig (Elt F) Λ₀ .tc) α} {k : α → Prog (TpuEff nD τ sig (Elt F) Λ₀ .tc) β}
    {B : α → sProp (MM F)} {Q : β → sProp (MM F)}
    (h : Tri c P p B) (hk : ∀ a, Tri c (B a) (k a) Q) : Tri c P (p >>= k) Q := by
  unfold Tri at *
  rw [wp_bind]
  exact h.trans (wp_mono _ _ _ hk)

theorem tri_pure {P : sProp (MM F)} {a : α} {Q : α → sProp (MM F)} (h : P ⊢ Q a) : Tri c P (pure a) Q := by
  unfold Tri; exact h.trans (le_wp_ret _ _ _ _ _)

theorem tri_lift {P : sProp (MM F)} {op : TpuEff nD τ sig (Elt F) Λ₀ .tc α} {Q : α → sProp (MM F)}
    (h : P ⊢ wp frame (wpE (defs₀ (F := F)) Variants.none (c : Thread nD τ) none) Set.univ (.op op .ret) Q) :
    Tri c P (Prog.lift op) Q := h

theorem tri_ex {ι : Type} {P : ι → sProp (MM F)} {p : Prog (TpuEff nD τ sig (Elt F) Λ₀ .tc) α} {Q : α → sProp (MM F)}
    (h : ∀ i, Tri c (P i) p Q) : Tri c iprop(∃ i, P i) p Q := by
  unfold Tri at *
  iintro ⟨%i, H⟩
  iapply (h i) $$ H

theorem tri_fupd {P P' : sProp (MM F)} {p : Prog (TpuEff nD τ sig (Elt F) Λ₀ .tc) α} {Q : α → sProp (MM F)}
    (h : P ⊢ |={Set.univ}=> P') (h' : Tri c P' p Q) : Tri c P p Q := by
  unfold Tri at *
  iintro HP
  imod h $$ HP with HP
  iapply h' $$ HP

theorem tri_ite {φ : Prop} [Decidable φ] {P : sProp (MM F)} {a : φ → Prog (TpuEff nD τ sig (Elt F) Λ₀ .tc) α}
    {b : ¬ φ → Prog (TpuEff nD τ sig (Elt F) Λ₀ .tc) α} {Q : α → sProp (MM F)}
    (h : ∀ h, Tri c P (a h) Q) (h' : ∀ h, Tri c P (b h) Q) : Tri c P (if h : φ then a h else b h) Q := by
  by_cases hφ : φ
  · rw [dif_pos hφ]; exact h hφ
  · rw [dif_neg hφ]; exact h' hφ

/-- The waits the core has recorded, whatever they are. -/
def OW (c : Dev nD) : sProp (MM F) := iprop(∃ W, owes (c : Thread nD τ) 0 W)

/-- Elements `S` of a buffer at the contents `f`. -/
abbrev Pt (c : Dev nD) {sp : Space} {s : Shape} {e : EltTy} (M : Memref sig .tc sp s e)
    (S : Finset (Idx (M.view.loc (c : Thread nD τ)))) (f : Buf (Elt F) (M.view.loc (c : Thread nD τ))) : sProp (MM F) :=
  (M.view.loc (c : Thread nD τ) ↦[S]{fullShare} f)

/-- DMA semaphore `k`'s counter at zero. -/
abbrev Sem0 (c : Dev nD) (k : DmaSem sig) : sProp (MM F) := semVal ((c : Thread nD τ), SemLoc.dma k) 0

/-- A copy on semaphore `k`, not yet waited for, of credit `N`, delivering `D`. -/
abbrev Fly (c : Dev nD) (k : DmaSem sig) (N : ℕ) (D : sProp (MM F)) : sProp (MM F) :=
  Transfers.Flight EC (c : Thread nD τ) (.dma k) () N D

/-! ## Copies -/

section Copy

variable {sp sp' : Space} {s : Shape} {e : EltTy} {src : Memref sig .tc sp s e} {dst : Memref sig .tc sp' s e} {k : DmaSem sig}
  {hsrc : src.view.WordExact} {hdst : (DmaTarget.here (nD := nD) (τ := τ) (p := .tc) dst).view.WordExact}
  {hsem : DmaTarget.Typed (nD := nD) (τ := τ) (p := .tc) sp (.dma k) (.here dst)}

/-- What a copy writes agrees on the destination with any contents that hold the source's values there. -/
theorem write_agree {fs : src.view.ty.Contents (Elt F)} {fd f' : dst.view.ty.Contents (Elt F)}
    (hf : ∀ x, dst.view.read (Elt F) f' x = src.view.read (Elt F) fs x) :
    ∀ y ∈ dst.view.set, dst.view.write (Elt F) fd (ReadAs.same.apply (src.view.read (Elt F) fs)) Finset.univ y = f' y := by
  intro y hy
  obtain ⟨x, -, rfl⟩ := Finset.mem_map.1 hy
  rw [View.write_emb_of_mem _ _ (Finset.mem_univ x)]
  have h := hf x
  rw [View.read_apply] at h
  show _root_.cast _ (src.view.read (Elt F) fs x) = _
  rw [← h]
  exact cast_cast _ _ _ |>.trans (cast_eq _ _)

/-- Starting a copy: the destination's block will hold the source's values, and the source's block comes back. -/
theorem tri_copy (fs : Buf (Elt F) (src.view.loc (c : Thread nD τ))) (fd f' : Buf (Elt F) (dst.view.loc (c : Thread nD τ))) (h0 : 0 < s.numel)
    (hf : ∀ x, dst.view.read (Elt F) f' x = src.view.read (Elt F) fs x) :
    Tri c iprop(Pt c src src.view.set fs ∗ Pt c dst dst.view.set fd ∗ Sem0 c k)
      (Prog.lift (.enqueueDma src (.here dst) (.dma k) hsrc hdst hsem))
      (fun _ => Fly c k dst.view.dmaCredit iprop(Pt c dst dst.view.set f' ∗ Pt c src src.view.set fs)) := by
  apply tri_lift
  iintro H
  iapply (Transfers.wp_dmaLocal EC Variants.none (c : Thread nD τ) none () dst.view.dmaCredit rfl (View.dmaCredit_pos _ h0) (Finset.Subset.refl _)) $$ H
  iintro HF
  iapply (le_wp_ret _ _ _ _ _)
  ihave HF := Transfers.Flight_mono EC (c := (c : Thread nD τ))
    (Entails.of_eq (congrArg (fun z => iprop(z ∗ Pt c src src.view.set fs)) (pointsTo_congr (write_agree hf)))) $$ HF
  iexact HF

/-- Waiting for it. -/
theorem tri_wait {srcw : Memref sig .tc sp s e} {dstw : Memref sig .tc sp' s e} {hsrc : srcw.view.WordExact} {hdst : dstw.view.WordExact}
    {N : ℕ} (hN : dstw.view.dmaCredit = N) {D : sProp (MM F)} :
    Tri c iprop(Fly c k N D ∗ OW c) (Prog.lift (.waitDma2 k srcw dstw hsrc hdst)) (fun _ => iprop(D ∗ Sem0 c k ∗ OW c)) := by
  apply tri_lift
  unfold OW
  iintro ⟨HF, ⟨%W, HO⟩⟩
  iapply (Transfers.wp_waitLocal EC Variants.none (c : Thread nD τ) none () hN) $$ [HF HO]
  · isplitl [HF]; · iexact HF
    iexact HO
  iintro ⟨HD, HS, HO⟩
  iapply (le_wp_ret _ _ _ _ _)
  isplitl [HD]; · iexact HD
  isplitl [HS]; · iexact HS
  iexists _
  iexact HO

end Copy

end Cert.KernelIdeal.Hand

end
-- ==== Proof.KernelIdeal.Blocks.lean ====
module

public import proofs.«01_k».proof.Proof.KernelIdeal.Rules

/-! Blocks of the kernel's three-axis buffers: their element sets, their values, and the copies between them. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Boxes -/

/-- The elements of a three-axis buffer in a box: at offset `o`, of extents `n`. -/
def bx {d : Fin 3 → ℕ} (o n : Fin 3 → ℕ) : Finset (⟨3, d⟩ : Shape).Idx :=
  Finset.univ.filter fun y => (o 0 ≤ (y 0).val ∧ (y 0).val < o 0 + n 0) ∧ (o 1 ≤ (y 1).val ∧ (y 1).val < o 1 + n 1) ∧ (o 2 ≤ (y 2).val ∧ (y 2).val < o 2 + n 2)

theorem mem_bx {d : Fin 3 → ℕ} {o n : Fin 3 → ℕ} {y : (⟨3, d⟩ : Shape).Idx} :
    y ∈ bx o n ↔ (o 0 ≤ (y 0).val ∧ (y 0).val < o 0 + n 0) ∧ (o 1 ≤ (y 1).val ∧ (y 1).val < o 1 + n 1) ∧ (o 2 ≤ (y 2).val ∧ (y 2).val < o 2 + n 2) := by
  simp [bx]

theorem set_unit3 {d o n : Fin 3 → ℕ} (h : ∀ a, o a + n a ≤ (⟨3, d⟩ : Shape).size a) :
    (Rect.unit (s := ⟨3, d⟩) o n h).set = bx o n := by
  ext y
  rw [Rect.mem_set_unit, mem_bx]
  exact ⟨fun h => ⟨h 0, h 1, h 2⟩, fun h a => by
    match a with
    | ⟨0, _⟩ => exact h.1
    | ⟨1, _⟩ => exact h.2.1
    | ⟨2, _⟩ => exact h.2.2⟩

/-- A block of a buffer as a two-axis memref: the slice at `o`, its leading axis dropped. -/
abbrev blkM {sp : Space} {d : Fin 3 → ℕ} {e : EltTy} {n m : ℕ} (M : Memref sig .tc sp ⟨3, d⟩ e) (o : Fin 3 → ℕ)
    (h : ∀ a, o a + (![1, n, m] : Fin 3 → ℕ) a ≤ (⟨3, d⟩ : Shape).size a)
    (hq : (⟨3, ![1, n, m]⟩ : Shape).Squeezes ⟨2, ![n, m]⟩) : Memref sig .tc sp ⟨2, ![n, m]⟩ e :=
  (M.slice (Rect.unit (s := ⟨3, d⟩) o ![1, n, m] h) (fun _ => rfl)).squeeze ⟨2, ![n, m]⟩ hq

section Sets
variable {n m : ℕ} (o : Fin 3 → ℕ) (hq : (⟨3, ![1, n, m]⟩ : Shape).Squeezes ⟨2, ![n, m]⟩)

theorem set_in (h) : (blkM mIn o h hq).view.set = bx o ![1, n, m] :=
  (View.set_reshape _ _).trans ((View.set_slice_whole _ _).trans (set_unit3 h))
theorem set_ho (h) : (blkM mHo o h hq).view.set = bx o ![1, n, m] :=
  (View.set_reshape _ _).trans ((View.set_slice_whole _ _).trans (set_unit3 h))
theorem set_buf (h) : (blkM mBuf o h hq).view.set = bx o ![1, n, m] :=
  (View.set_reshape _ _).trans ((View.set_slice_whole _ _).trans (set_unit3 h))
theorem set_mir (h) : (blkM mMir o h hq).view.set = bx o ![1, n, m] :=
  (View.set_reshape _ _).trans ((View.set_slice_whole _ _).trans (set_unit3 h))
end Sets

/-! ## Semaphores -/

def rdS (k : ℕ) : DmaSem sig := Fin.ofNat 67 (4 + k)
def wrS (k : ℕ) : DmaSem sig := Fin.ofNat 67 (28 + k)
def mrS (k : ℕ) : DmaSem sig := Fin.ofNat 67 (52 + k)

theorem sem_rd {o : Fin 1 → ℕ} {h} {hq} {k : ℕ} (ho : o = ![k]) :
    ((cc0_scratch15.slice (Rect.unit (s := S24) o S1.size h)).squeeze S_ hq).sem = rdS k := by
  subst ho
  have hk : k < 24 := h 0
  apply Fin.ext
  have key : ∀ j : (Rect.unit (s := S24) ![k] S1.size h).shape.Idx,
      (S24.rowMajor ((Rect.unit (s := S24) ![k] S1.size h).emb j)).val = k := fun j => by
    refine (Shape.rowMajor_val_one (d := ![24]) _).trans ?_
    show k + 1 * (j 0).val = k
    have : (j 0).val < 1 := (j 0).isLt
    omega
  show 4 + (S24.rowMajor _).val = (4 + k) % 67
  rw [Nat.mod_eq_of_lt (by omega)]
  exact congrArg _ (key _)
theorem sem_wr {o : Fin 1 → ℕ} {h} {hq} {k : ℕ} (ho : o = ![k]) :
    ((cc0_scratch16.slice (Rect.unit (s := S24) o S1.size h)).squeeze S_ hq).sem = wrS k := by
  subst ho
  have hk : k < 24 := h 0
  apply Fin.ext
  have key : ∀ j : (Rect.unit (s := S24) ![k] S1.size h).shape.Idx,
      (S24.rowMajor ((Rect.unit (s := S24) ![k] S1.size h).emb j)).val = k := fun j => by
    refine (Shape.rowMajor_val_one (d := ![24]) _).trans ?_
    show k + 1 * (j 0).val = k
    have : (j 0).val < 1 := (j 0).isLt
    omega
  show 28 + (S24.rowMajor _).val = (28 + k) % 67
  rw [Nat.mod_eq_of_lt (by omega)]
  exact congrArg _ (key _)
theorem sem_mr {o : Fin 1 → ℕ} {h} {hq} {k : ℕ} (ho : o = ![k]) :
    ((cc0_scratch17.slice (Rect.unit (s := S12) o S1.size h)).squeeze S_ hq).sem = mrS k := by
  subst ho
  have hk : k < 12 := h 0
  apply Fin.ext
  have key : ∀ j : (Rect.unit (s := S12) ![k] S1.size h).shape.Idx,
      (S12.rowMajor ((Rect.unit (s := S12) ![k] S1.size h).emb j)).val = k := fun j => by
    refine (Shape.rowMajor_val_one (d := ![12]) _).trans ?_
    show k + 1 * (j 0).val = k
    have : (j 0).val < 1 := (j 0).isLt
    omega
  show 52 + (S12.rowMajor _).val = (52 + k) % 67
  rw [Nat.mod_eq_of_lt (by omega)]
  exact congrArg _ (key _)

/-! ## Credits -/

abbrev crB (n m : ℕ) : ℕ := Ref.dmaCredit (sig := sig) (κ := .tc) cc0_scratch12 ⟨2, ![n, m]⟩ .f32
abbrev crH (n m : ℕ) : ℕ := Ref.dmaCredit (sig := sig) (κ := .tc) main_v1_0 ⟨2, ![n, m]⟩ .f32

/-! ## Copies between blocks -/

section Copies

variable {c : Dev nD} {n m : ℕ} {hq hq' : (⟨3, ![1, n, m]⟩ : Shape).Squeezes ⟨2, ![n, m]⟩} {o o' os od : Fin 3 → ℕ} {k sm : DmaSem sig}

/-- A block of the input matrices into a block of the ring. -/
theorem tri_in_buf {h h'} {e1 e2 e3} (fs : S6x3072x3072.Idx → Elt F .f32) (fd f' : S24x512x512.Idx → Elt F .f32)
    (ho : o = os) (ho' : o' = od) (hk : sm = k) (h0 : 0 < n * m)
    (hf : ∀ x h h', f' (place (d := ![24, 512, 512]) (n := n) (m := m) od h' x) = fs (place (d := ![6, 3072, 3072]) os h x)) :
    Tri c iprop(Pt c mIn (bx os ![1, n, m]) fs ∗ Pt c mBuf (bx od ![1, n, m]) fd ∗ Sem0 c k)
      (Prog.lift (.enqueueDma (blkM mIn o h hq) (.here (blkM mBuf o' h' hq')) (.dma sm) e1 e2 e3))
      (fun _ => Fly c k (crB n m) iprop(Pt c mBuf (bx od ![1, n, m]) f' ∗ Pt c mIn (bx os ![1, n, m]) fs)) := by
  subst ho ho' hk
  have := tri_copy (c := c) (k := sm) (hsrc := e1) (hdst := e2) (hsem := e3) (src := blkM mIn o h hq) (dst := blkM mBuf o' h' hq') fs fd f'
    (by rw [show (⟨2, ![n, m]⟩ : Shape).numel = n * m from by simp [Shape.numel, Fin.prod_univ_two]]; exact h0)
    (fun x => by rw [blk_read, blk_read]; exact hf x h h')
  rw [set_in, set_buf] at this
  exact this
/-- A block of the ring out into a block of the result. -/
theorem tri_buf_ho {h h'} {e1 e2 e3} (fs : S24x512x512.Idx → Elt F .f32) (fd f' : S6x3072x3072.Idx → Elt F .f32)
    (ho : o = os) (ho' : o' = od) (hk : sm = k) (h0 : 0 < n * m)
    (hf : ∀ x h h', f' (place (d := ![6, 3072, 3072]) (n := n) (m := m) od h' x) = fs (place (d := ![24, 512, 512]) os h x)) :
    Tri c iprop(Pt c mBuf (bx os ![1, n, m]) fs ∗ Pt c mHo (bx od ![1, n, m]) fd ∗ Sem0 c k)
      (Prog.lift (.enqueueDma (blkM mBuf o h hq) (.here (blkM mHo o' h' hq')) (.dma sm) e1 e2 e3))
      (fun _ => Fly c k (crH n m) iprop(Pt c mHo (bx od ![1, n, m]) f' ∗ Pt c mBuf (bx os ![1, n, m]) fs)) := by
  subst ho ho' hk
  have := tri_copy (c := c) (k := sm) (hsrc := e1) (hdst := e2) (hsem := e3) (src := blkM mBuf o h hq) (dst := blkM mHo o' h' hq') fs fd f'
    (by rw [show (⟨2, ![n, m]⟩ : Shape).numel = n * m from by simp [Shape.numel, Fin.prod_univ_two]]; exact h0)
    (fun x => by rw [blk_read, blk_read]; exact hf x h h')
  rw [set_buf, set_ho] at this
  exact this
/-- A block of the mirror ring out into a block of the result. -/
theorem tri_mir_ho {h h'} {e1 e2 e3} (fs : S12x512x512.Idx → Elt F .f32) (fd f' : S6x3072x3072.Idx → Elt F .f32)
    (ho : o = os) (ho' : o' = od) (hk : sm = k) (h0 : 0 < n * m)
    (hf : ∀ x h h', f' (place (d := ![6, 3072, 3072]) (n := n) (m := m) od h' x) = fs (place (d := ![12, 512, 512]) os h x)) :
    Tri c iprop(Pt c mMir (bx os ![1, n, m]) fs ∗ Pt c mHo (bx od ![1, n, m]) fd ∗ Sem0 c k)
      (Prog.lift (.enqueueDma (blkM mMir o h hq) (.here (blkM mHo o' h' hq')) (.dma sm) e1 e2 e3))
      (fun _ => Fly c k (crH n m) iprop(Pt c mHo (bx od ![1, n, m]) f' ∗ Pt c mMir (bx os ![1, n, m]) fs)) := by
  subst ho ho' hk
  have := tri_copy (c := c) (k := sm) (hsrc := e1) (hdst := e2) (hsem := e3) (src := blkM mMir o h hq) (dst := blkM mHo o' h' hq') fs fd f'
    (by rw [show (⟨2, ![n, m]⟩ : Shape).numel = n * m from by simp [Shape.numel, Fin.prod_univ_two]]; exact h0)
    (fun x => by rw [blk_read, blk_read]; exact hf x h h')
  rw [set_mir, set_ho] at this
  exact this
end Copies

/-! ## The four copies of a diagonal block on one semaphore -/

section Diag

variable {c : Dev nD}

/-- The credits of the four copies of a diagonal block's upper rows. -/
def A4 : Fin 4 → ℕ := ![crB 128 512, crB 128 384, crB 128 256, crB 128 128]

theorem A4_pos : ∀ t, 0 < A4 t := by
  intro t
  have h : ∀ n m, 0 < n * m → 0 < crB n m := fun n m h0 => sig.dmaCredit_pos _ _ _ _ _
    (by rw [show (⟨2, ![n, m]⟩ : Shape).numel = n * m from by simp [Shape.numel, Fin.prod_univ_two]]; exact h0)
  fin_cases t
  · exact h 128 512 (by norm_num)
  · exact h 128 384 (by norm_num)
  · exact h 128 256 (by norm_num)
  · exact h 128 128 (by norm_num)

/-- What the `r`-th of them delivers: its rows of the ring's block at `f'`, and its rows of the input back. -/
def D4 (c : Dev nD) (e base k : ℕ) (fs : S6x3072x3072.Idx → Elt F .f32) (f' : S24x512x512.Idx → Elt F .f32) : Fin 4 → sProp (MM F)
  | 0 => iprop(Pt c mBuf (bx ![k, 0, 0] ![1, 128, 512]) f' ∗ Pt c mIn (bx ![e, base, base] ![1, 128, 512]) fs)
  | 1 => iprop(Pt c mBuf (bx ![k, 128, 128] ![1, 128, 384]) f' ∗ Pt c mIn (bx ![e, base + 128, base + 128] ![1, 128, 384]) fs)
  | 2 => iprop(Pt c mBuf (bx ![k, 256, 256] ![1, 128, 256]) f' ∗ Pt c mIn (bx ![e, base + 256, base + 256] ![1, 128, 256]) fs)
  | 3 => iprop(Pt c mBuf (bx ![k, 384, 384] ![1, 128, 128]) f' ∗ Pt c mIn (bx ![e, base + 384, base + 384] ![1, 128, 128]) fs)

instance D4_storable (e base k : ℕ) (fs : S6x3072x3072.Idx → Elt F .f32) (f' : S24x512x512.Idx → Elt F .f32) (t : Fin 4) :
    Storable (upEmb : UEmb _ (MM F)) (D4 c e base k fs f' t) := by
  fin_cases t <;> simp only [D4] <;> infer_instance

/-- `j` of the four copies started and `u` of their credit waited for. -/
abbrev Bat (c : Dev nD) (k : DmaSem sig) (D : Fin 4 → sProp (MM F)) (j u : ℕ) : sProp (MM F) :=
  Transfers.MixedBatch EC (c : Thread nD τ) (.dma k) () A4 D j u

theorem tri_bat_copy {n m : ℕ} {hq hq' : (⟨3, ![1, n, m]⟩ : Shape).Squeezes ⟨2, ![n, m]⟩} {o o' os od : Fin 3 → ℕ} {k sm : DmaSem sig}
    {h h'} {e1 e2 e3} (fs : S6x3072x3072.Idx → Elt F .f32) (fd f' : S24x512x512.Idx → Elt F .f32) {D : Fin 4 → sProp (MM F)} (j : ℕ) (hj : j < 4)
    (ho : o = os) (ho' : o' = od) (hk : sm = k) (hA : crB n m = A4 ⟨j, hj⟩)
    (hf : ∀ x h h', f' (place (d := ![24, 512, 512]) (n := n) (m := m) od h' x) = fs (place (d := ![6, 3072, 3072]) os h x))
    (hD : iprop(Pt c mBuf (bx od ![1, n, m]) f' ∗ Pt c mIn (bx os ![1, n, m]) fs) ⊢ D ⟨j, hj⟩) :
    Tri c iprop(Pt c mIn (bx os ![1, n, m]) fs ∗ Pt c mBuf (bx od ![1, n, m]) fd ∗ Bat c k D j 0)
      (Prog.lift (.enqueueDma (blkM mIn o h hq) (.here (blkM mBuf o' h' hq')) (.dma sm) e1 e2 e3))
      (fun _ => Bat c k D (j + 1) 0) := by
  subst ho ho' hk
  apply tri_lift
  have hag := write_agree (src := blkM mIn o h hq) (dst := blkM mBuf o' h' hq') (fs := fs) (fd := fd) (f' := f')
    (fun x => by rw [blk_read, blk_read]; exact hf x h h')
  have hw := Transfers.wp_dmaMixedBatch EC Variants.none (c : Thread nD τ) none () A4 (defs := defs₀ (F := F)) (D := D) (j := j) (u := 0) (hsrc := e1) (hdst := e2) (hsem := e3)
    (src := blkM mIn o h hq) (dst := blkM mBuf o' h' hq') (via := ReadAs.same) (fs := fs) (fd := fd) (q := fullShare) (k := .ret)
    (Q := fun _ => Bat c sm D (j + 1) 0) (Finset.Subset.refl _) hj hA (Nat.zero_le _)
    (by
      refine BIBase.Entails.trans (Entails.of_eq (congrArg (fun z => iprop(z ∗ Pt c (blkM mIn o h hq) (blkM mIn o h hq).view.set fs)) (pointsTo_congr hag))) ?_
      have := hD
      rw [← set_in o hq h, ← set_buf o' hq' h'] at this
      exact this)
  rw [set_in, set_buf] at hw
  iintro H
  iapply hw $$ H
  iintro HB
  iapply (le_wp_ret _ _ _ _ _)
  iexact HB

theorem tri_bat_wait {sp sp' : Space} {s : Shape} {e : EltTy} {D : Fin 4 → sProp (MM F)} {k : DmaSem sig} {srcw : Memref sig .tc sp s e}
    {dstw : Memref sig .tc sp' s e} {hsrc : srcw.view.WordExact} {hdst : dstw.view.WordExact} {u J : ℕ} (hJ : dstw.view.dmaCredit = J)
    (hu : u + J ≤ Transfers.sumTo A4 4) :
    Tri c iprop(Bat c k D 4 u ∗ OW c) (Prog.lift (.waitDma2 k srcw dstw hsrc hdst)) (fun _ => iprop(Bat c k D 4 (u + J) ∗ OW c)) := by
  apply tri_lift
  unfold OW
  iintro ⟨HF, ⟨%W, HO⟩⟩
  iapply (Transfers.wp_waitMixedBatch EC Variants.none (c : Thread nD τ) none () hJ hu) $$ [HF HO]
  · isplitl [HF]; · iexact HF
    iexact HO
  iintro ⟨HD, HO⟩
  iapply (le_wp_ret _ _ _ _ _)
  isplitl [HD]; · iexact HD
  iexists _
  iexact HO

theorem tri_bat_waitAll {sp sp' : Space} {s : Shape} {e : EltTy} {D : Fin 4 → sProp (MM F)} {k : DmaSem sig} {srcw : Memref sig .tc sp s e}
    {dstw : Memref sig .tc sp' s e} {hsrc : srcw.view.WordExact} {hdst : dstw.view.WordExact} {u J : ℕ} (hJ : dstw.view.dmaCredit = J)
    (hu : u + J = Transfers.sumTo A4 4) :
    Tri c iprop(Bat c k D 4 u ∗ OW c) (Prog.lift (.waitDma2 k srcw dstw hsrc hdst))
      (fun _ => iprop(bigSep Finset.univ D ∗ Sem0 c k ∗ OW c)) := by
  apply tri_lift
  unfold OW
  iintro ⟨HF, ⟨%W, HO⟩⟩
  iapply (Transfers.wp_waitMixedBatchAll EC Variants.none (c : Thread nD τ) none () hJ A4_pos hu) $$ [HF HO]
  · isplitl [HF]; · iexact HF
    iexact HO
  iintro ⟨HD, HS, HO⟩
  iapply (le_wp_ret _ _ _ _ _)
  isplitl [HD]; · iexact HD
  isplitl [HS]; · iexact HS
  iexists _
  iexact HO

end Diag

end Cert.KernelIdeal.Hand

end
-- ==== Proof.KernelIdeal.Items.lean ====
module

public import proofs.«01_k».proof.Proof.KernelIdeal.Blocks

/-! What the ring's slots and the blocks of the input and result hold between steps, and each copy and wait of a step on them. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! ## Indices -/

/-- The element of a `6 × 3072 × 3072` buffer at `x` of block `(I, J)` of matrix `e`. -/
def gI (e I J : ℕ) (x : S512x512.Idx) : S6x3072x3072.Idx :=
  ix3 (⟨e % 6, Nat.mod_lt _ (by norm_num)⟩ : Fin 6) (⟨(512 * I + (x 0).val) % 3072, Nat.mod_lt _ (by norm_num)⟩ : Fin 3072)
    (⟨(512 * J + (x 1).val) % 3072, Nat.mod_lt _ (by norm_num)⟩ : Fin 3072)

/-- The block step `t` reads. -/
def HB (h0 : S6x3072x3072.Idx → Elt F .f32) (t : ℕ) (x : S512x512.Idx) : Elt F .f32 := h0 (gI (eOf t) (iOf t) (jOf t) x)

def liftS (w : S512x512.Idx → Elt F .f32) (y : S24x512x512.Idx) : Elt F .f32 :=
  w (ix2 (n0 := 512) (n1 := 512) (y 1) (y 2))
def liftM (w : S512x512.Idx → Elt F .f32) (y : S12x512x512.Idx) : Elt F .f32 :=
  w (ix2 (n0 := 512) (n1 := 512) (y 2) (y 1))

theorem eOf_lt {t : ℕ} (h : t < 126) : eOf t < 6 := by unfold eOf; omega
theorem iOf_lt (t : ℕ) : iOf t < 6 := by unfold iOf; omega
theorem jOf_lt (t : ℕ) : jOf t < 6 := by unfold jOf; omega
theorem jOf_dg {t : ℕ} (h : dg t) : jOf t = iOf t := by unfold dg at h; unfold jOf iOf; omega

variable (c : Dev nD)

abbrev SB (k : ℕ) : Finset S24x512x512.Idx := bx ![k, 0, 0] ![1, 512, 512]
abbrev SM (k : ℕ) : Finset S12x512x512.Idx := bx ![k, 0, 0] ![1, 512, 512]
abbrev SH (e I J : ℕ) : Finset S6x3072x3072.Idx := bx ![e, 512 * I, 512 * J] ![1, 512, 512]

/-- Slot `k` of the ring holding `w`. -/
abbrev Slot (k : ℕ) (w : S512x512.Idx → Elt F .f32) : sProp (MM F) := Pt c mBuf (SB k) (liftS w)
abbrev SlotAny (k : ℕ) : sProp (MM F) := iprop(∃ f, Pt c mBuf (SB k) f)
/-- Slot `k` of the mirror ring holding `w` transposed. -/
abbrev MSlot (k : ℕ) (w : S512x512.Idx → Elt F .f32) : sProp (MM F) := Pt c mMir (SM k) (liftM w)
abbrev MSlotAny (k : ℕ) : sProp (MM F) := iprop(∃ f, Pt c mMir (SM k) f)

/-- The block of the input step `t` reads. -/
abbrev hinB (h0 : S6x3072x3072.Idx → Elt F .f32) (t : ℕ) : sProp (MM F) := Pt c mIn (SH (eOf t) (iOf t) (jOf t)) h0
/-- The block of the result step `t` writes, and its mirror. -/
abbrev hoB (f : S6x3072x3072.Idx → Elt F .f32) (t : ℕ) : sProp (MM F) := Pt c mHo (SH (eOf t) (iOf t) (jOf t)) f
abbrev hoM (f : S6x3072x3072.Idx → Elt F .f32) (t : ℕ) : sProp (MM F) := Pt c mHo (SH (eOf t) (jOf t) (iOf t)) f

/-! ## A diagonal block in pieces -/

/-- The rows of piece `r` of a ring slot from the diagonal tile on. -/
abbrev pcB (k : ℕ) : Fin 4 → Finset S24x512x512.Idx
  | 0 => bx ![k, 0, 0] ![1, 128, 512]
  | 1 => bx ![k, 128, 128] ![1, 128, 384]
  | 2 => bx ![k, 256, 256] ![1, 128, 256]
  | 3 => bx ![k, 384, 384] ![1, 128, 128]
abbrev pcH (e b : ℕ) : Fin 4 → Finset S6x3072x3072.Idx
  | 0 => bx ![e, b, b] ![1, 128, 512]
  | 1 => bx ![e, b + 128, b + 128] ![1, 128, 384]
  | 2 => bx ![e, b + 256, b + 256] ![1, 128, 256]
  | 3 => bx ![e, b + 384, b + 384] ![1, 128, 128]
abbrev upB (k : ℕ) : Finset S24x512x512.Idx := Finset.univ.biUnion (pcB k)
abbrev upH (e b : ℕ) : Finset S6x3072x3072.Idx := Finset.univ.biUnion (pcH e b)

theorem pcB_disj (k : ℕ) : ∀ t ∈ (Finset.univ : Finset (Fin 4)), ∀ t' ∈ (Finset.univ : Finset (Fin 4)), t ≠ t' → Disjoint (pcB k t) (pcB k t') := by
  intro t _ t' _ hne
  rw [Finset.disjoint_left]
  intro y h h'
  fin_cases t <;> fin_cases t' <;> first | exact hne rfl | (simp [mem_bx] at h h'; omega)
theorem pcH_disj (e b : ℕ) : ∀ t ∈ (Finset.univ : Finset (Fin 4)), ∀ t' ∈ (Finset.univ : Finset (Fin 4)), t ≠ t' → Disjoint (pcH e b t) (pcH e b t') := by
  intro t _ t' _ hne
  rw [Finset.disjoint_left]
  intro y h h'
  fin_cases t <;> fin_cases t' <;> first | exact hne rfl | (simp [mem_bx] at h h'; omega)
theorem upB_sub (k : ℕ) : upB k ⊆ SB k := by
  intro y h
  obtain ⟨t, -, h⟩ := Finset.mem_biUnion.1 h
  fin_cases t <;> (simp [mem_bx] at h ⊢; omega)
theorem upH_sub (e I : ℕ) : upH e (512 * I) ⊆ SH e I I := by
  intro y h
  obtain ⟨t, -, h⟩ := Finset.mem_biUnion.1 h
  fin_cases t <;> (simp [mem_bx] at h ⊢; omega)
theorem mem_upB {k : ℕ} {y : S24x512x512.Idx} (h : y ∈ SB k) (hu : 128 * ((y 1).val / 128) ≤ (y 2).val) : y ∈ upB k := by
  have h1 : (y 1).val < 512 := (y 1).isLt
  have h2 : (y 2).val < 512 := (y 2).isLt
  rw [Finset.mem_biUnion]
  simp [mem_bx] at h
  rcases (by omega : (y 1).val / 128 = 0 ∨ (y 1).val / 128 = 1 ∨ (y 1).val / 128 = 2 ∨ (y 1).val / 128 = 3) with hq | hq | hq | hq
  · exact ⟨0, Finset.mem_univ _, by simp [mem_bx]; omega⟩
  · exact ⟨1, Finset.mem_univ _, by simp [mem_bx]; omega⟩
  · exact ⟨2, Finset.mem_univ _, by simp [mem_bx]; omega⟩
  · exact ⟨3, Finset.mem_univ _, by simp [mem_bx]; omega⟩

/-- What is read of a diagonal block in flight. -/
def DFly (h0 : S6x3072x3072.Idx → Elt F .f32) (t : ℕ) : sProp (MM F) :=
  iprop(Bat c (rdS (t % 24)) (D4 c (eOf t) (512 * iOf t) (t % 24) h0 (liftS (HB h0 t))) 4 0
    ∗ (∃ f, Pt c mBuf (SB (t % 24) \ upB (t % 24)) f) ∗ Pt c mIn (SH (eOf t) (iOf t) (iOf t) \ upH (eOf t) (512 * iOf t)) h0)

/-- Step `t`'s block on its way into the ring. -/
def RdF (h0 : S6x3072x3072.Idx → Elt F .f32) (t : ℕ) : sProp (MM F) :=
  if dg t then DFly c h0 t else Fly c (rdS (t % 24)) (crB 512 512) iprop(Slot c (t % 24) (HB h0 t) ∗ hinB c h0 t)

variable {c}

theorem bigSep4 (Φ : Fin 4 → sProp (MM F)) : bigSep Finset.univ Φ = iprop(Φ 0 ∗ Φ 1 ∗ Φ 2 ∗ Φ 3) := by
  rw [show (Finset.univ : Finset (Fin 4)) = insert 0 (insert 1 (insert 2 {3})) from rfl, BI.bigSep_insert (by decide), BI.bigSep_insert (by decide),
    BI.bigSep_insert (by decide), BI.bigSep_singleton]
  rfl

/-- The values: a block of the input of step `t`, as the ring holds it. -/
theorem lift_HB {h0 : S6x3072x3072.Idx → Elt F .f32} {t n m r r' : ℕ} (ht : t < 126) {k : ℕ} {h h'} (x : (⟨2, ![n, m]⟩ : Shape).Idx)
    (hr : r + n ≤ 512) (hr' : r' + m ≤ 512) :
    liftS (HB h0 t) (place (d := ![24, 512, 512]) (n := n) (m := m) ![k, r, r'] h' x)
      = h0 (place (d := ![6, 3072, 3072]) ![eOf t, 512 * iOf t + r, 512 * jOf t + r'] h x) := by
  unfold liftS HB
  congr 1
  have h1 := place1 (d := ![24, 512, 512]) (n := n) (m := m) ![k, r, r'] h' x
  have h2 := place2 (d := ![24, 512, 512]) (n := n) (m := m) ![k, r, r'] h' x
  have h1' := place1 (d := ![6, 3072, 3072]) ![eOf t, 512 * iOf t + r, 512 * jOf t + r'] h x
  have h2' := place2 (d := ![6, 3072, 3072]) ![eOf t, 512 * iOf t + r, 512 * jOf t + r'] h x
  have h0' := place0 (d := ![6, 3072, 3072]) ![eOf t, 512 * iOf t + r, 512 * jOf t + r'] h x
  have hx0 : (x 0).val < n := (x 0).isLt
  have hx1 : (x 1).val < m := (x 1).isLt
  have := eOf_lt ht
  have := iOf_lt t
  have := jOf_lt t
  simp only [Matrix.cons_val_zero, Matrix.cons_val_one, Matrix.cons_val] at h1 h2 h1' h2' h0'
  funext a
  apply Fin.ext
  match a with
  | ⟨0, _⟩ => exact (Nat.mod_eq_of_lt (by omega)).trans h0'.symm
  | ⟨1, _⟩ =>
    refine Eq.trans ?_ h1'.symm
    show (512 * iOf t + (place (d := ![24, 512, 512]) (n := n) (m := m) ![k, r, r'] h' x 1).val) % 3072 = _
    rw [h1, Nat.mod_eq_of_lt (by omega)]; omega
  | ⟨2, _⟩ =>
    refine Eq.trans ?_ h2'.symm
    show (512 * jOf t + (place (d := ![24, 512, 512]) (n := n) (m := m) ![k, r, r'] h' x 2).val) % 3072 = _
    rw [h2, Nat.mod_eq_of_lt (by omega)]; omega

/-- Starting the read of an off-diagonal block. -/
theorem tri_rd_off {h0 : S6x3072x3072.Idx → Elt F .f32} {t : ℕ} (ht : t < 126) (hd : ¬ dg t) {osem : Fin 1 → ℕ} {os od : Fin 3 → ℕ}
    {q1 q2 q3 q4 q5 q6 e1 e2 e3} (h1 : osem = ![t % 24]) (h2 : od = ![t % 24, 0, 0]) (h3 : os = ![eOf t, 512 * iOf t, 512 * jOf t]) :
    Tri c iprop(hinB c h0 t ∗ SlotAny c (t % 24) ∗ Sem0 c (rdS (t % 24)))
      (Prog.lift (.enqueueDma (blkM (n := 512) (m := 512) mIn os q1 q2) (.here (blkM mBuf od q3 q4))
        (.dma ((cc0_scratch15.slice (Rect.unit (s := S24) osem S1.size q5)).squeeze S_ q6).sem) e1 e2 e3))
      (fun _ => RdF c h0 t) := by
  unfold RdF
  rw [if_neg hd]
  have key : ∀ fd : S24x512x512.Idx → Elt F .f32, _ := fun fd => tri_in_buf (c := c) (n := 512) (m := 512) (hq := q2) (hq' := q4) (h := q1) (h' := q3) (e1 := e1) (e2 := e2) (e3 := e3)
    h0 fd (liftS (HB h0 t)) (os := ![eOf t, 512 * iOf t, 512 * jOf t]) (od := ![t % 24, 0, 0]) h3 h2 (sem_rd h1) (by norm_num) (fun x h h' => lift_HB (r := 0) (r' := 0) ht x (by norm_num) (by norm_num))
  refine tri_conseq (tri_ex key) ?_ (fun _ => .rfl)
  iintro ⟨H, ⟨%fd, H'⟩, H''⟩
  iexists fd
  isplitl [H]; · iexact H
  isplitl [H']; · iexact H'
  iexact H''

/-- Waiting for it. -/
theorem tri_rdw_off {h0 : S6x3072x3072.Idx → Elt F .f32} {t : ℕ} (hd : ¬ dg t) {osem : Fin 1 → ℕ} {os od : Fin 3 → ℕ}
    {q1 q2 q3 q4 q5 q6 e1 e2} (h1 : osem = ![t % 24]) :
    Tri c iprop(RdF c h0 t ∗ OW c)
      (Prog.lift (.waitDma2 ((cc0_scratch15.slice (Rect.unit (s := S24) osem S1.size q5)).squeeze S_ q6).sem
        (blkM (n := 512) (m := 512) mIn os q1 q2) (blkM (n := 512) (m := 512) mBuf od q3 q4) e1 e2))
      (fun _ => iprop((Slot c (t % 24) (HB h0 t) ∗ hinB c h0 t) ∗ Sem0 c (rdS (t % 24)) ∗ OW c)) := by
  unfold RdF
  rw [if_neg hd, sem_rd h1]
  exact tri_wait rfl

/-- Rejoining buffer elements held in two parts, the second of a set and the rest. -/
theorem slot_rejoin {k : ℕ} {f' f : S24x512x512.Idx → Elt F .f32} :
    iprop(Pt c mBuf (upB k) f' ∗ Pt c mBuf (SB k \ upB k) f) ⊢ Pt c mBuf (SB k) ((upB k).piecewise f' f) :=
  pointsTo_join_subset (upB_sub k)

/-- A slot's contents read as a block's. -/
theorem slot_of {k : ℕ} (f : S24x512x512.Idx → Elt F .f32) (hk : k < 24) :
    Pt c mBuf (SB k) f ⊢ Slot c k (fun x => f (ix3 (n0 := 24) (n1 := 512) (n2 := 512) ⟨k, hk⟩ (x 0) (x 1))) := by
  refine Entails.of_eq (pointsTo_congr fun y hy => ?_)
  show f y = f _
  congr 1
  rw [mem_bx] at hy
  simp at hy
  funext a
  match a with
  | ⟨0, _⟩ => apply Fin.ext; show (y 0).val = k; omega
  | ⟨1, _⟩ => rfl
  | ⟨2, _⟩ => rfl

theorem hinB_dg {h0 : S6x3072x3072.Idx → Elt F .f32} {t : ℕ} (hd : dg t) :
    hinB c h0 t = Pt c mIn (SH (eOf t) (iOf t) (iOf t)) h0 := by
  show Pt c mIn (SH (eOf t) (iOf t) (jOf t)) h0 = _
  rw [jOf_dg hd]

/-- Starting the four reads of a diagonal block. -/
theorem tri_rd_dg {h0 : S6x3072x3072.Idx → Elt F .f32} {t : ℕ} (ht : t < 126) (hd : dg t) {o1 o2 o3 o4 : Fin 1 → ℕ}
    {a1 a2 a3 a4 b1 b2 b3 b4 : Fin 3 → ℕ} {p1 p2 p3 p4 q1 q2 q3 q4 r1 r2 r3 r4 s1 s2 s3 s4 u1 u2 u3 u4 v1 v2 v3 v4} {w1 w2 w3 w4 x1 x2 x3 x4 y1 y2 y3 y4}
    (h1 : o1 = ![t % 24]) (h2 : o2 = ![t % 24]) (h3 : o3 = ![t % 24]) (h4 : o4 = ![t % 24])
    (hb1 : b1 = ![t % 24, 0, 0]) (hb2 : b2 = ![t % 24, 128, 128]) (hb3 : b3 = ![t % 24, 256, 256]) (hb4 : b4 = ![t % 24, 384, 384])
    (ha1 : a1 = ![eOf t, 512 * iOf t, 512 * iOf t]) (ha2 : a2 = ![eOf t, 512 * iOf t + 128, 512 * iOf t + 128])
    (ha3 : a3 = ![eOf t, 512 * iOf t + 256, 512 * iOf t + 256]) (ha4 : a4 = ![eOf t, 512 * iOf t + 384, 512 * iOf t + 384])
    {α : Type} {rest : Prog (TpuEff nD τ sig (Elt F) Λ₀ .tc) α} {Q : α → sProp (MM F)} (hrest : Tri c (RdF c h0 t) rest Q) :
    Tri c iprop(hinB c h0 t ∗ SlotAny c (t % 24) ∗ Sem0 c (rdS (t % 24)))
      (Prog.lift (.enqueueDma (blkM (n := 128) (m := 512) mIn a1 p1 q1) (.here (blkM (n := 128) (m := 512) mBuf b1 r1 s1))
          (.dma ((cc0_scratch15.slice (Rect.unit (s := S24) o1 S1.size u1)).squeeze S_ v1).sem) w1 x1 y1) >>= fun _ =>
        Prog.lift (.enqueueDma (blkM (n := 128) (m := 384) mIn a2 p2 q2) (.here (blkM (n := 128) (m := 384) mBuf b2 r2 s2))
          (.dma ((cc0_scratch15.slice (Rect.unit (s := S24) o2 S1.size u2)).squeeze S_ v2).sem) w2 x2 y2) >>= fun _ =>
        Prog.lift (.enqueueDma (blkM (n := 128) (m := 256) mIn a3 p3 q3) (.here (blkM (n := 128) (m := 256) mBuf b3 r3 s3))
          (.dma ((cc0_scratch15.slice (Rect.unit (s := S24) o3 S1.size u3)).squeeze S_ v3).sem) w3 x3 y3) >>= fun _ =>
        Prog.lift (.enqueueDma (blkM (n := 128) (m := 128) mIn a4 p4 q4) (.here (blkM (n := 128) (m := 128) mBuf b4 r4 s4))
          (.dma ((cc0_scratch15.slice (Rect.unit (s := S24) o4 S1.size u4)).squeeze S_ v4).sem) w4 x4 y4) >>= fun _ => rest) Q := by
  have hj := jOf_dg hd
  unfold RdF at hrest
  rw [if_pos hd] at hrest
  unfold DFly at hrest
  have hsplit : iprop(hinB c h0 t ∗ SlotAny c (t % 24) ∗ Sem0 c (rdS (t % 24)))
      ⊢ |={Set.univ}=> iprop(∃ fd : S24x512x512.Idx → Elt F .f32, (Pt c mIn (pcH (eOf t) (512 * iOf t) 0) h0 ∗ Pt c mBuf (pcB (t % 24) 0) fd
            ∗ Bat c (rdS (t % 24)) (D4 c (eOf t) (512 * iOf t) (t % 24) h0 (liftS (HB h0 t))) 0 0)
        ∗ (Pt c mIn (pcH (eOf t) (512 * iOf t) 1) h0 ∗ Pt c mBuf (pcB (t % 24) 1) fd)
        ∗ (Pt c mIn (pcH (eOf t) (512 * iOf t) 2) h0 ∗ Pt c mBuf (pcB (t % 24) 2) fd)
        ∗ (Pt c mIn (pcH (eOf t) (512 * iOf t) 3) h0 ∗ Pt c mBuf (pcB (t % 24) 3) fd)
        ∗ (∃ f, Pt c mBuf (SB (t % 24) \ upB (t % 24)) f) ∗ Pt c mIn (SH (eOf t) (iOf t) (iOf t) \ upH (eOf t) (512 * iOf t)) h0) := by
    rw [hinB_dg hd]
    iintro ⟨H, ⟨%fd, HS⟩, HV⟩
    ihave H := (pointsTo_split_subset (upH_sub (eOf t) (iOf t))).1 $$ H
    icases H with ⟨H, HL⟩
    ihave HS := (pointsTo_split_subset (upB_sub (t % 24))).1 $$ HS
    icases HS with ⟨HS, HSL⟩
    ihave H := (Entails.of_eq ((pointsTo_biUnion _ _ (pcH_disj (eOf t) (512 * iOf t))).trans (bigSep4 _))) $$ H
    icases H with ⟨H0, H1, H2, H3⟩
    ihave HS := (Entails.of_eq ((pointsTo_biUnion _ _ (pcB_disj (t % 24))).trans (bigSep4 _))) $$ HS
    icases HS with ⟨S0, S1, S2, S3⟩
    imod (Transfers.mixedBatch_alloc' EC (c : Thread nD τ) () A4 (D4 c (eOf t) (512 * iOf t) (t % 24) h0 (liftS (HB h0 t)))) $$ HV with HV
    imodintro
    iexists fd
    isplitl [H0 S0 HV]
    · isplitl [H0]; · iexact H0
      isplitl [S0]; · iexact S0
      iexact HV
    isplitl [H1 S1]
    · isplitl [H1]; · iexact H1
      iexact S1
    isplitl [H2 S2]
    · isplitl [H2]; · iexact H2
      iexact S2
    isplitl [H3 S3]
    · isplitl [H3]; · iexact H3
      iexact S3
    isplitl [HSL]
    · iexists fd; iexact HSL
    iexact HL
  refine tri_fupd hsplit (tri_ex fun fd => ?_)
  have hl : ∀ {n m r : ℕ} {h h'} (hr : r + n ≤ 512) (hr' : r + m ≤ 512) (x : (⟨2, ![n, m]⟩ : Shape).Idx), _ := fun {n m r} {h h'} hr hr' x =>
    lift_HB (F := F) (h0 := h0) (t := t) (n := n) (m := m) (r := r) (r' := r) ht (k := t % 24) (h := h) (h' := h') x hr hr'
  rw [hj] at hl
  refine tri_seq (tri_bat_copy (os := ![eOf t, 512 * iOf t, 512 * iOf t]) (od := ![t % 24, 0, 0]) h0 fd (liftS (HB h0 t)) 0 (by norm_num) ha1 hb1 (sem_rd h1) rfl
    (fun x h h' => hl (r := 0) (by norm_num) (by norm_num) x) .rfl) fun _ => ?_
  refine tri_conseq (P := iprop((Pt c mIn (pcH (eOf t) (512 * iOf t) 1) h0 ∗ Pt c mBuf (pcB (t % 24) 1) fd ∗ Bat c (rdS (t % 24)) (D4 c (eOf t) (512 * iOf t) (t % 24) h0 (liftS (HB h0 t))) 1 0)
        ∗ (Pt c mIn (pcH (eOf t) (512 * iOf t) 2) h0 ∗ Pt c mBuf (pcB (t % 24) 2) fd)
        ∗ (Pt c mIn (pcH (eOf t) (512 * iOf t) 3) h0 ∗ Pt c mBuf (pcB (t % 24) 3) fd)
        ∗ (∃ f, Pt c mBuf (SB (t % 24) \ upB (t % 24)) f) ∗ Pt c mIn (SH (eOf t) (iOf t) (iOf t) \ upH (eOf t) (512 * iOf t)) h0))
    (tri_seq (tri_bat_copy (os := ![eOf t, 512 * iOf t + 128, 512 * iOf t + 128]) (od := ![t % 24, 128, 128]) h0 fd (liftS (HB h0 t)) 1 (by norm_num) ha2 hb2 (sem_rd h2) rfl
      (fun x h h' => hl (r := 128) (by norm_num) (by norm_num) x) .rfl) fun _ => ?_) ?_ (fun _ => .rfl)
  rotate_left
  · iintro ⟨B, ⟨H1, H2⟩, H⟩
    isplitr [H]
    · isplitl [H1]; · iexact H1
      isplitl [H2]; · iexact H2
      iexact B
    iexact H
  refine tri_conseq (P := iprop((Pt c mIn (pcH (eOf t) (512 * iOf t) 2) h0 ∗ Pt c mBuf (pcB (t % 24) 2) fd ∗ Bat c (rdS (t % 24)) (D4 c (eOf t) (512 * iOf t) (t % 24) h0 (liftS (HB h0 t))) 2 0)
        ∗ (Pt c mIn (pcH (eOf t) (512 * iOf t) 3) h0 ∗ Pt c mBuf (pcB (t % 24) 3) fd)
        ∗ (∃ f, Pt c mBuf (SB (t % 24) \ upB (t % 24)) f) ∗ Pt c mIn (SH (eOf t) (iOf t) (iOf t) \ upH (eOf t) (512 * iOf t)) h0))
    (tri_seq (tri_bat_copy (os := ![eOf t, 512 * iOf t + 256, 512 * iOf t + 256]) (od := ![t % 24, 256, 256]) h0 fd (liftS (HB h0 t)) 2 (by norm_num) ha3 hb3 (sem_rd h3) rfl
      (fun x h h' => hl (r := 256) (by norm_num) (by norm_num) x) .rfl) fun _ => ?_) ?_ (fun _ => .rfl)
  rotate_left
  · iintro ⟨B, ⟨H1, H2⟩, H⟩
    isplitr [H]
    · isplitl [H1]; · iexact H1
      isplitl [H2]; · iexact H2
      iexact B
    iexact H
  refine tri_conseq (P := iprop((Pt c mIn (pcH (eOf t) (512 * iOf t) 3) h0 ∗ Pt c mBuf (pcB (t % 24) 3) fd ∗ Bat c (rdS (t % 24)) (D4 c (eOf t) (512 * iOf t) (t % 24) h0 (liftS (HB h0 t))) 3 0)
        ∗ (∃ f, Pt c mBuf (SB (t % 24) \ upB (t % 24)) f) ∗ Pt c mIn (SH (eOf t) (iOf t) (iOf t) \ upH (eOf t) (512 * iOf t)) h0))
    (tri_seq (tri_bat_copy (os := ![eOf t, 512 * iOf t + 384, 512 * iOf t + 384]) (od := ![t % 24, 384, 384]) h0 fd (liftS (HB h0 t)) 3 (by norm_num) ha4 hb4 (sem_rd h4) rfl
      (fun x h h' => hl (r := 384) (by norm_num) (by norm_num) x) .rfl) fun _ => hrest) ?_ (fun _ => .rfl)
  iintro ⟨B, ⟨H1, H2⟩, H⟩
  isplitr [H]
  · isplitl [H1]; · iexact H1
    isplitl [H2]; · iexact H2
    iexact B
  iexact H

/-- Waiting for them: the upper rows of the slot hold the block, the rest is anything. -/
theorem tri_rdw_dg {h0 : S6x3072x3072.Idx → Elt F .f32} {t : ℕ} (hd : dg t) {o1 o2 o3 o4 : Fin 1 → ℕ}
    {a1 a2 a3 a4 b1 b2 b3 b4 : Fin 3 → ℕ} {p1 p2 p3 p4 q1 q2 q3 q4 r1 r2 r3 r4 s1 s2 s3 s4 u1 u2 u3 u4 v1 v2 v3 v4} {w1 w2 w3 w4 x1 x2 x3 x4}
    (h1 : o1 = ![t % 24]) (h2 : o2 = ![t % 24]) (h3 : o3 = ![t % 24]) (h4 : o4 = ![t % 24])
    {α : Type} {rest : Prog (TpuEff nD τ sig (Elt F) Λ₀ .tc) α} {Q : α → sProp (MM F)}
    (hrest : Tri c iprop((∃ w, ⌜∀ x : S512x512.Idx, 128 * ((x 0).val / 128) ≤ (x 1).val → w x = HB h0 t x⌝ ∗ Slot c (t % 24) w) ∗ hinB c h0 t ∗ Sem0 c (rdS (t % 24)) ∗ OW c) rest Q) :
    Tri c iprop(RdF c h0 t ∗ OW c)
      (Prog.lift (.waitDma2 ((cc0_scratch15.slice (Rect.unit (s := S24) o1 S1.size u1)).squeeze S_ v1).sem
          (blkM (n := 128) (m := 512) mIn a1 p1 q1) (blkM (n := 128) (m := 512) mBuf b1 r1 s1) w1 x1) >>= fun _ =>
        Prog.lift (.waitDma2 ((cc0_scratch15.slice (Rect.unit (s := S24) o2 S1.size u2)).squeeze S_ v2).sem
          (blkM (n := 128) (m := 384) mIn a2 p2 q2) (blkM (n := 128) (m := 384) mBuf b2 r2 s2) w2 x2) >>= fun _ =>
        Prog.lift (.waitDma2 ((cc0_scratch15.slice (Rect.unit (s := S24) o3 S1.size u3)).squeeze S_ v3).sem
          (blkM (n := 128) (m := 256) mIn a3 p3 q3) (blkM (n := 128) (m := 256) mBuf b3 r3 s3) w3 x3) >>= fun _ =>
        Prog.lift (.waitDma2 ((cc0_scratch15.slice (Rect.unit (s := S24) o4 S1.size u4)).squeeze S_ v4).sem
          (blkM (n := 128) (m := 128) mIn a4 p4 q4) (blkM (n := 128) (m := 128) mBuf b4 r4 s4) w4 x4) >>= fun _ => rest) Q := by
  unfold RdF
  rw [if_pos hd]
  unfold DFly
  rw [sem_rd h1, sem_rd h2, sem_rd h3, sem_rd h4]
  have hs : Transfers.sumTo A4 4 = crB 128 512 + crB 128 384 + crB 128 256 + crB 128 128 := by
    unfold A4
    simp [Transfers.sumTo_succ, Transfers.sumTo_zero]
  refine tri_conseq (P := iprop((Bat c (rdS (t % 24)) (D4 c (eOf t) (512 * iOf t) (t % 24) h0 (liftS (HB h0 t))) 4 0 ∗ OW c)
      ∗ (∃ f, Pt c mBuf (SB (t % 24) \ upB (t % 24)) f) ∗ Pt c mIn (SH (eOf t) (iOf t) (iOf t) \ upH (eOf t) (512 * iOf t)) h0)) ?_ ?_ (fun _ => .rfl)
  · refine tri_seq (tri_bat_wait (J := crB 128 512) rfl (by rw [hs]; omega)) fun _ => ?_
    refine tri_seq (tri_bat_wait (J := crB 128 384) rfl (by rw [hs]; omega)) fun _ => ?_
    refine tri_seq (tri_bat_wait (J := crB 128 256) rfl (by rw [hs]; omega)) fun _ => ?_
    refine tri_seq (tri_bat_waitAll (J := crB 128 128) rfl (by rw [hs]; omega)) fun _ => ?_
    refine tri_conseq hrest ?_ (fun _ => .rfl)
    rw [hinB_dg hd, bigSep4]
    unfold D4
    iintro ⟨⟨⟨⟨S0, H0⟩, ⟨S1, H1⟩, ⟨S2, H2⟩, ⟨S3, H3⟩⟩, HV, HO⟩, ⟨%f, HL⟩, HH⟩
    have e1 := (Entails.of_eq ((pointsTo_biUnion (Ix := Unit) (Val := Elt F) (Name := ℕ) (U := Pipeline.UD sig nD τ) (Lvl := ℕ) (ℓ := mBuf.view.loc (c : Thread nD τ)) (q := fullShare) (f := liftS (HB h0 t)) _ _ (pcB_disj (t % 24))).trans (bigSep4 _)).symm)
    have e2 := (Entails.of_eq ((pointsTo_biUnion (Ix := Unit) (Val := Elt F) (Name := ℕ) (U := Pipeline.UD sig nD τ) (Lvl := ℕ) (ℓ := mIn.view.loc (c : Thread nD τ)) (q := fullShare) (f := h0) _ _ (pcH_disj (eOf t) (512 * iOf t))).trans (bigSep4 _)).symm)
    ihave HS := e1 $$ [S0 S1 S2 S3]
    · isplitl [S0]; · iexact S0
      isplitl [S1]; · iexact S1
      isplitl [S2]; · iexact S2
      iexact S3
    ihave HI := e2 $$ [H0 H1 H2 H3]
    · isplitl [H0]; · iexact H0
      isplitl [H1]; · iexact H1
      isplitl [H2]; · iexact H2
      iexact H3
    ihave HS := slot_rejoin $$ [HS HL]
    · isplitl [HS]; · iexact HS
      iexact HL
    ihave HS := (slot_of _ (Nat.mod_lt t (by norm_num))) $$ HS
    have e3 := (pointsTo_split_subset (Ix := Unit) (Val := Elt F) (Name := ℕ) (U := Pipeline.UD sig nD τ) (Lvl := ℕ) (ℓ := mIn.view.loc (c : Thread nD τ)) (q := fullShare) (f := h0) (upH_sub (eOf t) (iOf t))).2
    ihave HI := e3 $$ [HI HH]
    · isplitl [HI]; · iexact HI
      iexact HH
    isplitl [HS]
    · iexists _
      isplitr [HS]
      rotate_left
      · iexact HS
      ipureintro
      intro x hx
      have hm : ix3 (n0 := 24) (n1 := 512) (n2 := 512) ⟨t % 24, Nat.mod_lt t (by norm_num)⟩ (x 0) (x 1) ∈ upB (t % 24) := by
        refine mem_upB ?_ hx
        have := (x 0).isLt
        have := (x 1).isLt
        rw [mem_bx]
        simp
        exact ⟨(x 0).isLt, (x 1).isLt⟩
      rw [Finset.piecewise_eq_of_mem _ _ _ hm]
      show HB h0 t _ = HB h0 t x
      exact congrArg _ (eq_ix2 x).symm
    isplitl [HI]; · iexact HI
    isplitl [HV]; · iexact HV
    iexact HO
  · iintro ⟨⟨H, H'⟩, HO⟩
    isplitr [H']
    · isplitl [H]; · iexact H
      iexact HO
    iexact H'

end Cert.KernelIdeal.Hand

end
-- ==== Proof.KernelIdeal.Writes.lean ====
module

public import proofs.«01_k».proof.Proof.KernelIdeal.Items

/-! The copies out of the ring and the mirror ring into the result, and their waits. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable (c : Dev nD)

/-- Step `t`'s block on its way out of the ring. -/
def WrF (G : S6x3072x3072.Idx → Elt F .f32) (t : ℕ) : sProp (MM F) :=
  Fly c (wrS (t % 24)) (crH 512 512) iprop(hoB c G t ∗ SlotAny c (t % 24))
/-- Its mirror on its way out of the mirror ring. -/
def MrF (G : S6x3072x3072.Idx → Elt F .f32) (t : ℕ) : sProp (MM F) :=
  Fly c (mrS (t % 12)) (crH 512 512) iprop(hoM c G t ∗ MSlotAny c (t % 12))

variable {c}

theorem gI_place {e I J : ℕ} (he : e < 6) (hI : I < 6) (hJ : J < 6) {h} (x : S512x512.Idx) :
    place (d := ![6, 3072, 3072]) (n := 512) (m := 512) ![e, 512 * I, 512 * J] h x = gI e I J x := by
  have h0 := place0 (d := ![6, 3072, 3072]) (n := 512) (m := 512) ![e, 512 * I, 512 * J] h x
  have h1 := place1 (d := ![6, 3072, 3072]) (n := 512) (m := 512) ![e, 512 * I, 512 * J] h x
  have h2 := place2 (d := ![6, 3072, 3072]) (n := 512) (m := 512) ![e, 512 * I, 512 * J] h x
  have hx0 : (x 0).val < 512 := (x 0).isLt
  have hx1 : (x 1).val < 512 := (x 1).isLt
  simp only [Matrix.cons_val_zero, Matrix.cons_val_one, Matrix.cons_val] at h0 h1 h2
  funext a
  apply Fin.ext
  match a with
  | ⟨0, _⟩ => exact h0.trans (Nat.mod_eq_of_lt (by omega)).symm
  | ⟨1, _⟩ => exact h1.trans (Nat.mod_eq_of_lt (by omega)).symm
  | ⟨2, _⟩ => exact h2.trans (Nat.mod_eq_of_lt (by omega)).symm

/-- Starting to write step `t`'s block out. -/
theorem tri_wr {G f0 : S6x3072x3072.Idx → Elt F .f32} {w : S512x512.Idx → Elt F .f32} {t : ℕ} (ht : t < 126)
    (hG : ∀ x, G (gI (eOf t) (iOf t) (jOf t) x) = w x) {osem : Fin 1 → ℕ} {os od : Fin 3 → ℕ}
    {q1 q2 q3 q4 q5 q6 e1 e2 e3} (h1 : osem = ![t % 24]) (h2 : os = ![t % 24, 0, 0]) (h3 : od = ![eOf t, 512 * iOf t, 512 * jOf t]) :
    Tri c iprop(Slot c (t % 24) w ∗ hoB c f0 t ∗ Sem0 c (wrS (t % 24)))
      (Prog.lift (.enqueueDma (blkM (n := 512) (m := 512) mBuf os q1 q2) (.here (blkM (n := 512) (m := 512) mHo od q3 q4))
        (.dma ((cc0_scratch16.slice (Rect.unit (s := S24) osem S1.size q5)).squeeze S_ q6).sem) e1 e2 e3))
      (fun _ => WrF c G t) := by
  unfold WrF
  refine tri_conseq (tri_buf_ho (c := c) (n := 512) (m := 512) (hq := q2) (hq' := q4) (h := q1) (h' := q3) (e1 := e1) (e2 := e2) (e3 := e3)
    (liftS w) f0 G (od := ![eOf t, 512 * iOf t, 512 * jOf t]) (os := ![t % 24, 0, 0]) h2 h3 (sem_wr h1) (by norm_num) (fun x h h' => ?_)) .rfl (fun _ => ?_)
  · rw [gI_place (eOf_lt ht) (iOf_lt t) (jOf_lt t), hG]
    have h1 := place1 (d := ![24, 512, 512]) (n := 512) (m := 512) ![t % 24, 0, 0] h x
    have h2 := place2 (d := ![24, 512, 512]) (n := 512) (m := 512) ![t % 24, 0, 0] h x
    simp only [Matrix.cons_val_zero, Matrix.cons_val_one, Matrix.cons_val] at h1 h2
    unfold liftS
    congr 1
    funext a
    apply Fin.ext
    match a with
    | ⟨0, _⟩ => show (x 0).val = (place (d := ![24, 512, 512]) (n := 512) (m := 512) ![t % 24, 0, 0] h x 1).val; omega
    | ⟨1, _⟩ => show (x 1).val = (place (d := ![24, 512, 512]) (n := 512) (m := 512) ![t % 24, 0, 0] h x 2).val; omega
  · refine Transfers.Flight_mono EC (c := (c : Thread nD τ)) ?_
    iintro ⟨H, H'⟩
    isplitl [H]; · iexact H
    iexists _
    iexact H'

/-- Waiting for it. -/
theorem tri_wrw {G : S6x3072x3072.Idx → Elt F .f32} {t : ℕ} {osem : Fin 1 → ℕ} {os od : Fin 3 → ℕ}
    {q1 q2 q3 q4 q5 q6 e1 e2} (h1 : osem = ![t % 24]) :
    Tri c iprop(WrF c G t ∗ OW c)
      (Prog.lift (.waitDma2 ((cc0_scratch16.slice (Rect.unit (s := S24) osem S1.size q5)).squeeze S_ q6).sem
        (blkM (n := 512) (m := 512) mBuf os q1 q2) (blkM (n := 512) (m := 512) mHo od q3 q4) e1 e2))
      (fun _ => iprop((hoB c G t ∗ SlotAny c (t % 24)) ∗ Sem0 c (wrS (t % 24)) ∗ OW c)) := by
  unfold WrF
  rw [sem_wr h1]
  exact tri_wait rfl

/-- Starting to write its mirror out. -/
theorem tri_mr {G f0 : S6x3072x3072.Idx → Elt F .f32} {w : S512x512.Idx → Elt F .f32} {t : ℕ} (ht : t < 126)
    (hG : ∀ x : S512x512.Idx, G (gI (eOf t) (jOf t) (iOf t) x) = w (ix2 (n0 := 512) (n1 := 512) (x 1) (x 0))) {osem : Fin 1 → ℕ} {os od : Fin 3 → ℕ}
    {q1 q2 q3 q4 q5 q6 e1 e2 e3} (h1 : osem = ![t % 12]) (h2 : os = ![t % 12, 0, 0]) (h3 : od = ![eOf t, 512 * jOf t, 512 * iOf t]) :
    Tri c iprop(MSlot c (t % 12) w ∗ hoM c f0 t ∗ Sem0 c (mrS (t % 12)))
      (Prog.lift (.enqueueDma (blkM (n := 512) (m := 512) mMir os q1 q2) (.here (blkM (n := 512) (m := 512) mHo od q3 q4))
        (.dma ((cc0_scratch17.slice (Rect.unit (s := S12) osem S1.size q5)).squeeze S_ q6).sem) e1 e2 e3))
      (fun _ => MrF c G t) := by
  unfold MrF
  refine tri_conseq (tri_mir_ho (c := c) (n := 512) (m := 512) (hq := q2) (hq' := q4) (h := q1) (h' := q3) (e1 := e1) (e2 := e2) (e3 := e3)
    (liftM w) f0 G (od := ![eOf t, 512 * jOf t, 512 * iOf t]) (os := ![t % 12, 0, 0]) h2 h3 (sem_mr h1) (by norm_num) (fun x h h' => ?_)) .rfl (fun _ => ?_)
  · rw [gI_place (eOf_lt ht) (jOf_lt t) (iOf_lt t), hG]
    have h1 := place1 (d := ![12, 512, 512]) (n := 512) (m := 512) ![t % 12, 0, 0] h x
    have h2 := place2 (d := ![12, 512, 512]) (n := 512) (m := 512) ![t % 12, 0, 0] h x
    simp only [Matrix.cons_val_zero, Matrix.cons_val_one, Matrix.cons_val] at h1 h2
    unfold liftM
    congr 1
    funext a
    apply Fin.ext
    match a with
    | ⟨0, _⟩ => show (x 1).val = (place (d := ![12, 512, 512]) (n := 512) (m := 512) ![t % 12, 0, 0] h x 2).val; omega
    | ⟨1, _⟩ => show (x 0).val = (place (d := ![12, 512, 512]) (n := 512) (m := 512) ![t % 12, 0, 0] h x 1).val; omega
  · refine Transfers.Flight_mono EC (c := (c : Thread nD τ)) ?_
    iintro ⟨H, H'⟩
    isplitl [H]; · iexact H
    iexists _
    iexact H'

/-- Waiting for it. -/
theorem tri_mrw {G : S6x3072x3072.Idx → Elt F .f32} {t : ℕ} {osem : Fin 1 → ℕ} {os od : Fin 3 → ℕ}
    {q1 q2 q3 q4 q5 q6 e1 e2} (h1 : osem = ![t % 12]) :
    Tri c iprop(MrF c G t ∗ OW c)
      (Prog.lift (.waitDma2 ((cc0_scratch17.slice (Rect.unit (s := S12) osem S1.size q5)).squeeze S_ q6).sem
        (blkM (n := 512) (m := 512) mMir os q1 q2) (blkM (n := 512) (m := 512) mHo od q3 q4) e1 e2))
      (fun _ => iprop((hoM c G t ∗ MSlotAny c (t % 12)) ∗ Sem0 c (mrS (t % 12)) ∗ OW c)) := by
  unfold MrF
  rw [sem_mr h1]
  exact tri_wait rfl

end Cert.KernelIdeal.Hand

end
-- ==== Proof.KernelIdeal.Loads.lean ====
module

public import proofs.«01_k».proof.Proof.KernelIdeal.Writes

/-! Loads and stores of the buffers a step computes on. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! ## One load, one store -/

variable {c : Dev nD} {α : Type}

theorem tri_load {cs : CoreSpace} {s : Shape} {e : EltTy} {M : Memref sig .tc cs s e} {r : Rect s} {hl} {S : Finset (Idx (M.view.loc (c : Thread nD τ)))} {f : Buf (Elt F) (M.view.loc (c : Thread nD τ))} {P : sProp (MM F)}
    {k : (r.shape.Idx → Elt F e) → Prog (TpuEff nD τ sig (Elt F) Λ₀ .tc) α} {Q : α → sProp (MM F)}
    (hS : (M.access r).set ⊆ S) (hP : P ⊢ iprop(Pt c M S f ∗ (Pt c M S f -∗ P)))
    (hk : Tri c P (k ((M.access r).read (Elt F) f)) Q) : Tri c P (Prog.lift (.load M r.toLoadRect hl) >>= k) Q := by
  show P ⊢ wp frame (wpE (defs₀ (F := F)) Variants.none (c : Thread nD τ) none) Set.univ (.op (.load M r.toLoadRect hl) k) Q
  refine hP.trans ?_
  iintro ⟨H, H'⟩
  iapply (wp_load_rect Variants.none (c : Thread nD τ) none Set.univ (m := M) (r := r) (hl := hl) (k := k) (S := S) (f := f) (q := fullShare) hS) $$ H
  iintro H
  ihave HP := H' $$ H
  iapply hk $$ HP

theorem tri_smem {s : Shape} {e : EltTy} {M : Memref sig .tc .smem s e} {r : Rect s} {h1 : r.shape.numel = 1} {hp : e.packing = 1} {S : Finset (Idx (M.view.loc (c : Thread nD τ)))} {f : Buf (Elt F) (M.view.loc (c : Thread nD τ))} {P : sProp (MM F)}
    {k : Elt F e → Prog (TpuEff nD τ sig (Elt F) Λ₀ .tc) α} {Q : α → sProp (MM F)}
    (hS : (M.access r).set ⊆ S) (hP : P ⊢ iprop(Pt c M S f ∗ (Pt c M S f -∗ P)))
    (hk : Tri c P (k ((M.access r).read (Elt F) f (Shape.Idx.first (h1.symm ▸ Nat.one_pos)))) Q) : Tri c P (smemLoad M r h1 hp >>= k) Q := by
  show P ⊢ wp frame (wpE (defs₀ (F := F)) Variants.none (c : Thread nD τ) none) Set.univ
    (.op (.load M r.toLoadRect _) fun g => k (g (Shape.Idx.first (h1.symm ▸ Nat.one_pos)))) Q
  refine hP.trans ?_
  iintro ⟨H, H'⟩
  iapply (wp_load_rect Variants.none (c : Thread nD τ) none Set.univ (m := M) (r := r)
    (k := fun g => k (g (Shape.Idx.first (h1.symm ▸ Nat.one_pos)))) (S := S) (f := f) (q := fullShare) hS) $$ H
  iintro H
  ihave HP := H' $$ H
  iapply hk $$ HP

theorem tri_store {cs : CoreSpace} {s : Shape} {e : EltTy} {M : Memref sig .tc cs s e} {r : Rect s} {w : r.shape.Idx → Elt F e} {hx hm} {S : Finset (Idx (M.view.loc (c : Thread nD τ)))} {f f' : Buf (Elt F) (M.view.loc (c : Thread nD τ))} {P P' : sProp (MM F)}
    {k : PUnit → Prog (TpuEff nD τ sig (Elt F) Λ₀ .tc) α} {Q : α → sProp (MM F)}
    (hS : (M.access r).setOn Finset.univ ⊆ S) (hf : ∀ y ∈ S, (M.access r).write (Elt F) f w Finset.univ y = f' y)
    (hP : P ⊢ iprop(Pt c M S f ∗ (Pt c M S f' -∗ P')))
    (hk : Tri c P' (k ⟨⟩) Q) : Tri c P (Prog.lift (.store M r w Finset.univ hx hm) >>= k) Q := by
  show P ⊢ wp frame (wpE (defs₀ (F := F)) Variants.none (c : Thread nD τ) none) Set.univ (.op (.store M r w Finset.univ hx hm) k) Q
  refine hP.trans ?_
  iintro ⟨H, H'⟩
  iapply (wp_store Variants.none (c : Thread nD τ) none Set.univ (m := M) (r := r) (w := w) (hx := hx) (hm := hm) (k := k) (S := S) (f := f) hS) $$ H
  iintro H
  ihave H := (Entails.of_eq (pointsTo_congr (Ix := Unit) (Name := ℕ) (U := Pipeline.UD sig nD τ) (Lvl := ℕ) hf)) $$ H
  ihave HP := H' $$ H
  iapply hk $$ HP

/-! ## The values -/

/-- 128 rows of the transposed codes from `b`. -/
def ldT (f : S3072x256.Idx → Elt F .bf16) (b : ℕ) (x : S128x256.Idx) : Elt F .bf16 :=
  f (ix2 (n0 := 3072) (n1 := 256) ⟨(b + (x 0).val) % 3072, Nat.mod_lt _ (by norm_num)⟩ (x 1))
/-- `m` columns of the weighted codes from `b`. -/
def ldC (m : ℕ) (f : S256x3072.Idx → Elt F .bf16) (b : ℕ) (x : (⟨2, ![256, m]⟩ : Shape).Idx) : Elt F .bf16 :=
  f (ix2 (n0 := 256) (n1 := 3072) (x 0) ⟨(b + (x 1).val) % 3072, Nat.mod_lt _ (by norm_num)⟩)
/-- `m` entries of row `r` of the two factors from `b`. -/
def ldM (m : ℕ) (f : S2x512.Idx → Elt F .f32) (r : Fin 2) (b : ℕ) (x : (⟨2, ![1, m]⟩ : Shape).Idx) : Elt F .f32 :=
  f (ix2 (n0 := 2) (n1 := 512) r ⟨(b + (x 1).val) % 512, Nat.mod_lt _ (by norm_num)⟩)
/-- The `n × m` elements of a block from `(a, b)`. -/
def ldW (n m : ℕ) (w : S512x512.Idx → Elt F .f32) (a b : ℕ) (x : (⟨3, ![1, n, m]⟩ : Shape).Idx) : Elt F .f32 :=
  w (ix2 (n0 := 512) (n1 := 512) ⟨(a + (x 1).val) % 512, Nat.mod_lt _ (by norm_num)⟩ ⟨(b + (x 2).val) % 512, Nat.mod_lt _ (by norm_num)⟩)
/-- A block with its `n × m` elements from `(a, b)` replaced. -/
def upW (n m : ℕ) (w : S512x512.Idx → Elt F .f32) (a b : ℕ) (v : (⟨3, ![1, n, m]⟩ : Shape).Idx → Elt F .f32) (x : S512x512.Idx) : Elt F .f32 :=
  if h : (a ≤ (x 0).val ∧ (x 0).val < a + n) ∧ (b ≤ (x 1).val ∧ (x 1).val < b + m) then
    v (ix3 (n0 := 1) (n1 := n) (n2 := m) 0 ⟨(x 0).val - a, by omega⟩ ⟨(x 1).val - b, by omega⟩) else w x
/-- A block with its rows `b` to `b + 127` replaced by a transposed tile's columns. -/
def upM (w : S512x512.Idx → Elt F .f32) (b : ℕ) (v : (⟨3, ![1, 512, 128]⟩ : Shape).Idx → Elt F .f32) (x : S512x512.Idx) : Elt F .f32 :=
  if h : b ≤ (x 0).val ∧ (x 0).val < b + 128 then
    v (ix3 (n0 := 1) (n1 := 512) (n2 := 128) 0 (x 1) ⟨(x 0).val - b, by omega⟩) else w x

theorem read_ldT {f : S3072x256.Idx → Elt F .bf16} {o : Fin 2 → ℕ} {b : ℕ} {h} (ho : o = ![b, 0]) :
    (mXdt.access (Rect.unit (s := S3072x256) o S128x256.size h)).read (Elt F) f = ldT f b := by
  subst ho
  funext x
  show f _ = f _
  congr 1
  have h0 := h 0
  have hx : (x 0).val < 128 := (x 0).isLt
  simp at h0
  funext a
  apply Fin.ext
  match a with
  | ⟨0, _⟩ => show b + 1 * (x 0).val = (b + (x 0).val) % 3072; rw [Nat.mod_eq_of_lt (by have : S128x256.size 0 = 128 := rfl; omega)]; omega
  | ⟨1, _⟩ => show 0 + 1 * (x 1).val = (x 1).val; omega

theorem read_ldC {m : ℕ} {f : S256x3072.Idx → Elt F .bf16} {o : Fin 2 → ℕ} {b : ℕ} {h} (ho : o = ![0, b]) :
    (mCxd.access (Rect.unit (s := S256x3072) o ![256, m] h)).read (Elt F) f = ldC m f b := by
  subst ho
  funext x
  show f _ = f _
  congr 1
  have h0 := h 1
  have hx : (x 1).val < m := (x 1).isLt
  simp at h0
  funext a
  apply Fin.ext
  match a with
  | ⟨0, _⟩ => show 0 + 1 * (x 0).val = (x 0).val; omega
  | ⟨1, _⟩ => show b + 1 * (x 1).val = (b + (x 1).val) % 3072; rw [Nat.mod_eq_of_lt (by omega)]; omega

theorem read_ldM {m : ℕ} {f : S2x512.Idx → Elt F .f32} {r : Fin 2} {b : ℕ} {h} :
    (mMul.access (Rect.unit (s := S2x512) ![r.val, b] ![1, m] h)).read (Elt F) f = ldM m f r b := by
  funext x
  show f _ = f _
  congr 1
  have h0 := h 1
  have hx : (x 1).val < m := (x 1).isLt
  have hx0 : (x 0).val < 1 := (x 0).isLt
  simp at h0
  funext a
  apply Fin.ext
  match a with
  | ⟨0, _⟩ => show r.val + 1 * (x 0).val = r.val; omega
  | ⟨1, _⟩ => show b + 1 * (x 1).val = (b + (x 1).val) % 512; rw [Nat.mod_eq_of_lt (by omega)]; omega

theorem read_ldW {n m : ℕ} {w : S512x512.Idx → Elt F .f32} {o : Fin 3 → ℕ} {k a b : ℕ} {h} (ho : o = ![k, a, b]) :
    (mBuf.access (Rect.unit (s := S24x512x512) o ![1, n, m] h)).read (Elt F) (liftS w) = ldW n m w a b := by
  subst ho
  funext x
  show w _ = w _
  congr 1
  have h0 := h 1
  have h2 := h 2
  have hx : (x 1).val < n := (x 1).isLt
  have hx2 : (x 2).val < m := (x 2).isLt
  simp at h0 h2
  funext i
  apply Fin.ext
  match i with
  | ⟨0, _⟩ => show a + 1 * (x 1).val = (a + (x 1).val) % 512; rw [Nat.mod_eq_of_lt (by omega)]; omega
  | ⟨1, _⟩ => show b + 1 * (x 2).val = (b + (x 2).val) % 512; rw [Nat.mod_eq_of_lt (by omega)]; omega

theorem set_buf3 {n m : ℕ} {o : Fin 3 → ℕ} {h} : (mBuf.access (Rect.unit (s := S24x512x512) o ![1, n, m] h)).set = bx o ![1, n, m] :=
  (View.set_slice_whole _ _).trans (set_unit3 h)
theorem set_mir3 {n m : ℕ} {o : Fin 3 → ℕ} {h} : (mMir.access (Rect.unit (s := S12x512x512) o ![1, n, m] h)).set = bx o ![1, n, m] :=
  (View.set_slice_whole _ _).trans (set_unit3 h)

theorem bx_sub {d : Fin 3 → ℕ} {k a b n m : ℕ} (h : a + n ≤ 512) (h' : b + m ≤ 512) :
    (bx ![k, a, b] ![1, n, m] : Finset (⟨3, d⟩ : Shape).Idx) ⊆ bx ![k, 0, 0] ![1, 512, 512] := by
  intro y hy
  rw [mem_bx] at hy ⊢
  simp at hy ⊢
  omega

theorem write_upW {n m : ℕ} {w : S512x512.Idx → Elt F .f32} {o : Fin 3 → ℕ} {k a b : ℕ} {h} (v : (⟨3, ![1, n, m]⟩ : Shape).Idx → Elt F .f32) (ho : o = ![k, a, b]) :
    ∀ y ∈ SB k, (mBuf.access (Rect.unit (s := S24x512x512) o ![1, n, m] h)).write (Elt F) (liftS w) v Finset.univ y = liftS (upW n m w a b v) y := by
  subst ho
  intro y hy
  rw [mem_bx] at hy
  simp at hy
  unfold liftS upW
  split_ifs with hc
  · have h1 : a ≤ (y 1).val ∧ (y 1).val < a + n := hc.1
    have h2 : b ≤ (y 2).val ∧ (y 2).val < b + m := hc.2
    have e : y = (mBuf.access (Rect.unit (s := S24x512x512) ![k, a, b] ![1, n, m] h)).emb
        (ix3 (n0 := 1) (n1 := n) (n2 := m) 0 ⟨(y 1).val - a, by omega⟩ ⟨(y 2).val - b, by omega⟩) := by
      funext i
      apply Fin.ext
      match i with
      | ⟨0, _⟩ => show (y 0).val = k + 1 * 0; omega
      | ⟨1, _⟩ => show (y 1).val = a + 1 * ((y 1).val - a); omega
      | ⟨2, _⟩ => show (y 2).val = b + 1 * ((y 2).val - b); omega
    conv_lhs => rw [e]
    rw [View.write_emb_of_mem _ _ (Finset.mem_univ _)]
    rfl
  · rw [View.write_of_not_mem]
    rw [View.setOn_univ, set_buf3, mem_bx]
    intro hc'
    apply hc
    simp at hc'
    exact hc'.2

theorem write_upM {w : S512x512.Idx → Elt F .f32} {o : Fin 3 → ℕ} {k b : ℕ} {h} (v : (⟨3, ![1, 512, 128]⟩ : Shape).Idx → Elt F .f32) (ho : o = ![k, 0, b]) :
    ∀ y ∈ SM k, (mMir.access (Rect.unit (s := S12x512x512) o ![1, 512, 128] h)).write (Elt F) (liftM w) v Finset.univ y = liftM (upM w b v) y := by
  subst ho
  intro y hy
  rw [mem_bx] at hy
  simp at hy
  unfold liftM upM
  have h1 : (y 1).val < 512 := (y 1).isLt
  split_ifs with hc
  · have hc' : b ≤ (y 2).val ∧ (y 2).val < b + 128 := hc
    have e : y = (mMir.access (Rect.unit (s := S12x512x512) ![k, 0, b] ![1, 512, 128] h)).emb
        (ix3 (n0 := 1) (n1 := 512) (n2 := 128) 0 ⟨(y 1).val, h1⟩ ⟨(y 2).val - b, by omega⟩) := by
      funext i
      apply Fin.ext
      match i with
      | ⟨0, _⟩ => show (y 0).val = k + 1 * 0; omega
      | ⟨1, _⟩ => show (y 1).val = 0 + 1 * (y 1).val; omega
      | ⟨2, _⟩ => show (y 2).val = b + 1 * ((y 2).val - b); omega
    conv_lhs => rw [e]
    rw [View.write_emb_of_mem _ _ (Finset.mem_univ _)]
    rfl
  · rw [View.write_of_not_mem]
    rw [View.setOn_univ, set_mir3, mem_bx]
    intro hc'
    apply hc
    simp at hc'
    exact hc'.2.2

/-- A mirror slot's contents read as a block's. -/
theorem mslot_of {k : ℕ} (f : S12x512x512.Idx → Elt F .f32) (hk : k < 12) :
    Pt c mMir (SM k) f ⊢ MSlot c k (fun x => f (ix3 (n0 := 12) (n1 := 512) (n2 := 512) ⟨k, hk⟩ (x 1) (x 0))) := by
  refine Entails.of_eq (pointsTo_congr fun y hy => ?_)
  show f y = f _
  congr 1
  rw [mem_bx] at hy
  simp at hy
  funext a
  match a with
  | ⟨0, _⟩ => apply Fin.ext; show (y 0).val = k; omega
  | ⟨1, _⟩ => rfl
  | ⟨2, _⟩ => rfl

/-! ## What a step computes on -/

/-- The codes, the weighted codes, the two factors, a ring slot and a mirror slot. -/
def CS (c : Dev nD) (xt : S3072x256.Idx → Elt F .bf16) (cx : S256x3072.Idx → Elt F .bf16) (mu : S2x512.Idx → Elt F .f32) (k : ℕ) (w : S512x512.Idx → Elt F .f32)
    (k' : ℕ) (w' : S512x512.Idx → Elt F .f32) : sProp (MM F) :=
  iprop(Pt c mXdt Finset.univ xt ∗ Pt c mCxd Finset.univ cx ∗ Pt c mMul Finset.univ mu ∗ Slot c k w ∗ MSlot c k' w')

variable {xt : S3072x256.Idx → Elt F .bf16} {cx : S256x3072.Idx → Elt F .bf16} {mu : S2x512.Idx → Elt F .f32} {k k' : ℕ} {w w' : S512x512.Idx → Elt F .f32}
  {Q : α → sProp (MM F)} {o : Fin 2 → ℕ} {o3 : Fin 3 → ℕ} {a b n m : ℕ}

theorem cs_xt {h hl} {p : Vec F S128x256 .bf16 → Prog (TpuEff nD τ sig (Elt F) Λ₀ .tc) α} (b : ℕ) (ho : o = ![b, 0])
    (hk : Tri c (CS c xt cx mu k w k' w') (p (ldT xt b)) Q) :
    Tri c (CS c xt cx mu k w k' w') (Prog.lift (.load mXdt (Rect.unit (s := S3072x256) o S128x256.size h).toLoadRect hl) >>= p) Q := by
  refine tri_load (M := mXdt) (Finset.subset_univ _) (f := xt) ?_ (by rw [read_ldT ho]; exact hk)
  unfold CS
  iintro ⟨H1, H⟩
  isplitl [H1]; · iexact H1
  iintro H1
  isplitl [H1]; · iexact H1
  iexact H

theorem cs_cx {h hl} {p : Vec F (⟨2, ![256, m]⟩) .bf16 → Prog (TpuEff nD τ sig (Elt F) Λ₀ .tc) α} (b : ℕ) (ho : o = ![0, b])
    (hk : Tri c (CS c xt cx mu k w k' w') (p (ldC m cx b)) Q) :
    Tri c (CS c xt cx mu k w k' w') (Prog.lift (.load mCxd (Rect.unit (s := S256x3072) o ![256, m] h).toLoadRect hl) >>= p) Q := by
  refine tri_load (M := mCxd) (Finset.subset_univ _) (f := cx) ?_ (by rw [read_ldC ho]; exact hk)
  unfold CS
  iintro ⟨H0, H1, H⟩
  isplitl [H1]; · iexact H1
  iintro H1
  isplitl [H0]; · iexact H0
  isplitl [H1]; · iexact H1
  iexact H

theorem cs_mu {h hl} {p : Vec F (⟨2, ![1, m]⟩) .f32 → Prog (TpuEff nD τ sig (Elt F) Λ₀ .tc) α} (r : Fin 2) (b : ℕ) (ho : o = ![r.val, b])
    (hk : Tri c (CS c xt cx mu k w k' w') (p (ldM m mu r b)) Q) :
    Tri c (CS c xt cx mu k w k' w') (Prog.lift (.load mMul (Rect.unit (s := S2x512) o ![1, m] h).toLoadRect hl) >>= p) Q := by
  subst ho
  refine tri_load (M := mMul) (Finset.subset_univ _) (f := mu) ?_ (by rw [read_ldM]; exact hk)
  unfold CS
  iintro ⟨H0, H1, H2, H⟩
  isplitl [H2]; · iexact H2
  iintro H2
  isplitl [H0]; · iexact H0
  isplitl [H1]; · iexact H1
  isplitl [H2]; · iexact H2
  iexact H

theorem cs_ld {h hl} {p : Vec F (⟨3, ![1, n, m]⟩) .f32 → Prog (TpuEff nD τ sig (Elt F) Λ₀ .tc) α} (a b : ℕ) (ho : o3 = ![k, a, b]) (ha : a + n ≤ 512) (hb : b + m ≤ 512)
    (hk : Tri c (CS c xt cx mu k w k' w') (p (ldW n m w a b)) Q) :
    Tri c (CS c xt cx mu k w k' w') (Prog.lift (.load mBuf (Rect.unit (s := S24x512x512) o3 ![1, n, m] h).toLoadRect hl) >>= p) Q := by
  subst ho
  refine tri_load (M := mBuf) (S := SB k) (by rw [set_buf3]; exact bx_sub ha hb) (f := liftS w) ?_ (by rw [read_ldW rfl]; exact hk)
  unfold CS
  iintro ⟨H0, H1, H2, H3, H⟩
  isplitl [H3]; · iexact H3
  iintro H3
  isplitl [H0]; · iexact H0
  isplitl [H1]; · iexact H1
  isplitl [H2]; · iexact H2
  isplitl [H3]; · iexact H3
  iexact H

theorem cs_st {h hx hm} {v : Vec F (⟨3, ![1, n, m]⟩) .f32} {p : PUnit → Prog (TpuEff nD τ sig (Elt F) Λ₀ .tc) α} (a b : ℕ) (ho : o3 = ![k, a, b]) (ha : a + n ≤ 512) (hb : b + m ≤ 512)
    (hk : Tri c (CS c xt cx mu k (upW n m w a b v) k' w') (p ⟨⟩) Q) :
    Tri c (CS c xt cx mu k w k' w') (Prog.lift (.store mBuf (Rect.unit (s := S24x512x512) o3 ![1, n, m] h) v Finset.univ hx hm) >>= p) Q := by
  subst ho
  refine tri_store (M := mBuf) (S := SB k) (by rw [View.setOn_univ, set_buf3]; exact bx_sub ha hb) (write_upW (w := w) v rfl) ?_ hk
  unfold CS
  iintro ⟨H0, H1, H2, H3, H⟩
  isplitl [H3]; · iexact H3
  iintro H3
  isplitl [H0]; · iexact H0
  isplitl [H1]; · iexact H1
  isplitl [H2]; · iexact H2
  isplitl [H3]; · iexact H3
  iexact H

theorem cs_mld {h hl} {p : Vec F (⟨3, ![1, 512, 128]⟩) .f32 → Prog (TpuEff nD τ sig (Elt F) Λ₀ .tc) α} (b : ℕ) (ho : o3 = ![k', 0, b]) (hb : b + 128 ≤ 512)
    (hk : ∀ v, Tri c (CS c xt cx mu k w k' w') (p v) Q) :
    Tri c (CS c xt cx mu k w k' w') (Prog.lift (.load mMir (Rect.unit (s := S12x512x512) o3 ![1, 512, 128] h).toLoadRect hl) >>= p) Q := by
  subst ho
  refine tri_load (M := mMir) (S := SM k') (by rw [set_mir3]; exact bx_sub (by norm_num) hb) (f := liftM w') ?_ (hk _)
  unfold CS
  iintro ⟨H0, H1, H2, H3, H⟩
  isplitl [H]; · iexact H
  iintro H
  isplitl [H0]; · iexact H0
  isplitl [H1]; · iexact H1
  isplitl [H2]; · iexact H2
  isplitl [H3]; · iexact H3
  iexact H

theorem cs_mst {h hx hm} {v : Vec F (⟨3, ![1, 512, 128]⟩) .f32} {p : PUnit → Prog (TpuEff nD τ sig (Elt F) Λ₀ .tc) α} (b : ℕ) (ho : o3 = ![k', 0, b]) (hb : b + 128 ≤ 512)
    (hk : Tri c (CS c xt cx mu k w k' (upM w' b v)) (p ⟨⟩) Q) :
    Tri c (CS c xt cx mu k w k' w') (Prog.lift (.store mMir (Rect.unit (s := S12x512x512) o3 ![1, 512, 128] h) v Finset.univ hx hm) >>= p) Q := by
  subst ho
  refine tri_store (M := mMir) (S := SM k') (by rw [View.setOn_univ, set_mir3]; exact bx_sub (by norm_num) hb) (write_upM (w := w') v rfl) ?_ hk
  unfold CS
  iintro ⟨H0, H1, H2, H3, H⟩
  isplitl [H]; · iexact H
  iintro H
  isplitl [H0]; · iexact H0
  isplitl [H1]; · iexact H1
  isplitl [H2]; · iexact H2
  isplitl [H3]; · iexact H3
  iexact H

end Cert.KernelIdeal.Hand

end
-- ==== Proof.KernelIdeal.Parts.lean ====
module

public import proofs.«01_k».proof.Proof.KernelIdeal.Loads

/-! What each part of a step's computation loads, stores and returns. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable {c : Dev nD} {α : Type} {xt : S3072x256.Idx → Elt F .bf16} {cx : S256x3072.Idx → Elt F .bf16} {mu : S2x512.Idx → Elt F .f32} {w w' : S512x512.Idx → Elt F .f32}
  {Q : α → sProp (MM F)} {s : Fin k0_t1_loop.trips}

theorem part47_tri {hc : k0_cond36 s = 1#1} (a28 v1293 v1296 : BitVec 32) {p : _ → Prog (TpuEff nD τ sig (Elt F) Λ₀ .tc) α}
    (hk : ∀ r, r.1 = k0_pay5 (ldT xt (512 * iOf s.val + 0)) (ldC 512 cx (512 * jOf s.val)) (ldW 128 512 w 0 0) (ldM 512 mu 0 0) (ldM 512 mu 1 0) → Tri c (CS c xt cx mu (s.val % 24) w (s.val % 12) w') (p r) Q) :
    Tri c (CS c xt cx mu (s.val % 24) w (s.val % 12) w')
      (k0_part47 (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s a28 v1293 v1296 hc >>= p) Q := by
  rw [k0_part47_eq_skeleton]
  unfold k0_part47_skel
  simp only [bind_assoc, pure_bind]
  refine cs_xt (512 * iOf s.val + 0) (off184_eq0 s) ?_
  refine cs_cx (m := 512) (512 * jOf s.val) (off185_eq s) ?_
  refine cs_ld (n := 128) (m := 512) 0 0 (off186_eq s) (by norm_num) (by norm_num) ?_
  refine cs_mu (m := 512) 0 0 rfl ?_
  refine cs_mu (m := 512) 1 0 rfl ?_
  exact hk _ rfl

theorem part48_tri {hc : k0_cond36 s = 1#1} (a28 v1293 v1296 : BitVec 32) (v : FVec F S128x512 .f32) (v1368 v1369 : BitVec 32) (v1370 : BitVec 1) {p : _ → Prog (TpuEff nD τ sig (Elt F) Λ₀ .tc) α}
    (hk : ∀ r, r = k0_pay8 (ldT xt (512 * iOf s.val + 128)) (ldC 384 cx (512 * jOf s.val + 128)) → Tri c (CS c xt cx mu (s.val % 24) (upW 384 128 (upW 128 512 w 0 0 (k0_pay6 v)) 128 0 (k0_pay7 v)) (s.val % 12) w') (p r) Q) :
    Tri c (CS c xt cx mu (s.val % 24) w (s.val % 12) w')
      (k0_part48 (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s a28 v1293 v1296 hc v v1368 v1369 v1370 >>= p) Q := by
  rw [k0_part48_eq_skeleton]
  unfold k0_part48_skel
  simp only [bind_assoc, pure_bind]
  refine cs_ld (n := 128) (m := 512) 0 0 (off186_eq s) (by norm_num) (by norm_num) ?_
  refine cs_st (n := 128) (m := 512) 0 0 (off186_eq s) (by norm_num) (by norm_num) ?_
  refine cs_ld (n := 384) (m := 128) 128 0 (off187_eq s) (by norm_num) (by norm_num) ?_
  refine cs_st (n := 384) (m := 128) 128 0 (off187_eq s) (by norm_num) (by norm_num) ?_
  refine cs_xt (512 * iOf s.val + 128) (off184_eq1 s) ?_
  refine cs_cx (m := 384) (512 * jOf s.val + 128) (off188_eq s) ?_
  exact hk _ rfl

theorem part49_tri {hc : k0_cond36 s = 1#1} (a28 : BitVec 32) (v : FVec F S128x384 .f32) {p : _ → Prog (TpuEff nD τ sig (Elt F) Λ₀ .tc) α}
    (hk : ∀ r, r.1 = k0_pay11 v (ldW 128 384 w 128 128) (ldM 384 mu 0 128) (ldM 384 mu 1 128) → Tri c (CS c xt cx mu (s.val % 24) (upW 128 384 w 128 128 (k0_pay10 v (ldW 128 384 w 128 128) (ldM 384 mu 0 128) (ldM 384 mu 1 128))) (s.val % 12) w') (p r) Q) :
    Tri c (CS c xt cx mu (s.val % 24) w (s.val % 12) w')
      (k0_part49 (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s a28 hc v >>= p) Q := by
  rw [k0_part49_eq_skeleton]
  unfold k0_part49_skel
  simp only [bind_assoc, pure_bind]
  refine cs_ld (n := 128) (m := 384) 128 128 (off189_eq s) (by norm_num) (by norm_num) ?_
  refine cs_mu (m := 384) 0 128 rfl ?_
  refine cs_mu (m := 384) 1 128 rfl ?_
  refine cs_ld (n := 128) (m := 384) 128 128 (off189_eq s) (by norm_num) (by norm_num) ?_
  refine cs_st (n := 128) (m := 384) 128 128 (off189_eq s) (by norm_num) (by norm_num) ?_
  exact hk _ rfl

theorem part50_tri {hc : k0_cond36 s = 1#1} (a28 v1293 v1296 : BitVec 32) (v : FVec F S256x128 .f32) (c24 : BitVec 32) (v1446 : BitVec 1) {p : _ → Prog (TpuEff nD τ sig (Elt F) Λ₀ .tc) α}
    (hk : ∀ r, r.1 = k0_pay13 (ldT xt (512 * iOf s.val + 256)) (ldC 256 cx (512 * jOf s.val + 256)) → r.2 = ldW 128 256 (upW 256 128 w 256 128 (k0_pay12 v)) 256 256 → Tri c (CS c xt cx mu (s.val % 24) (upW 256 128 w 256 128 (k0_pay12 v)) (s.val % 12) w') (p r) Q) :
    Tri c (CS c xt cx mu (s.val % 24) w (s.val % 12) w')
      (k0_part50 (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s a28 v1293 v1296 hc v c24 v1446 >>= p) Q := by
  rw [k0_part50_eq_skeleton]
  unfold k0_part50_skel
  simp only [bind_assoc, pure_bind]
  refine cs_ld (n := 256) (m := 128) 256 128 (off190_eq s) (by norm_num) (by norm_num) ?_
  refine cs_st (n := 256) (m := 128) 256 128 (off190_eq s) (by norm_num) (by norm_num) ?_
  refine cs_xt (512 * iOf s.val + 256) (off184_eq2 s) ?_
  refine cs_cx (m := 256) (512 * jOf s.val + 256) (off191_eq s) ?_
  refine cs_ld (n := 128) (m := 256) 256 256 (off192_eq s) (by norm_num) (by norm_num) ?_
  exact hk _ rfl rfl

theorem part51_tri {hc : k0_cond36 s = 1#1} (a28 : BitVec 32) (v : FVec F S128x256 .f32) (u : Vec F S1x128x256 .f32) {p : _ → Prog (TpuEff nD τ sig (Elt F) Λ₀ .tc) α}
    (hk : ∀ r, Tri c (CS c xt cx mu (s.val % 24) (upW 128 128 (upW 128 256 w 256 256 (k0_pay15 v u (ldM 256 mu 0 256) (ldM 256 mu 1 256))) 384 256 (k0_pay16 v u (ldM 256 mu 0 256) (ldM 256 mu 1 256))) (s.val % 12) w') (p r) Q) :
    Tri c (CS c xt cx mu (s.val % 24) w (s.val % 12) w')
      (k0_part51 (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s a28 hc v u >>= p) Q := by
  rw [k0_part51_eq_skeleton]
  unfold k0_part51_skel
  simp only [bind_assoc, pure_bind]
  refine cs_mu (m := 256) 0 256 rfl ?_
  refine cs_mu (m := 256) 1 256 rfl ?_
  refine cs_ld (n := 128) (m := 256) 256 256 (off192_eq s) (by norm_num) (by norm_num) ?_
  refine cs_st (n := 128) (m := 256) 256 256 (off192_eq s) (by norm_num) (by norm_num) ?_
  refine cs_ld (n := 128) (m := 128) 384 256 (off193_eq s) (by norm_num) (by norm_num) ?_
  refine cs_st (n := 128) (m := 128) 384 256 (off193_eq s) (by norm_num) (by norm_num) ?_
  exact hk _

theorem part52_tri {hc : k0_cond36 s = 1#1} (a28 v1293 v1296 : BitVec 32) {p : _ → Prog (TpuEff nD τ sig (Elt F) Λ₀ .tc) α}
    (hk : ∀ r, r.1 = k0_pay17 (ldT xt (512 * iOf s.val + 384)) (ldC 128 cx (512 * jOf s.val + 384)) (ldW 128 128 w 384 384) (ldM 128 mu 0 384) (ldM 128 mu 1 384) → Tri c (CS c xt cx mu (s.val % 24) w (s.val % 12) w') (p r) Q) :
    Tri c (CS c xt cx mu (s.val % 24) w (s.val % 12) w')
      (k0_part52 (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s a28 v1293 v1296 hc >>= p) Q := by
  rw [k0_part52_eq_skeleton]
  unfold k0_part52_skel
  simp only [bind_assoc, pure_bind]
  refine cs_xt (512 * iOf s.val + 384) (off184_eq3 s) ?_
  refine cs_cx (m := 128) (512 * jOf s.val + 384) (off194_eq s) ?_
  refine cs_ld (n := 128) (m := 128) 384 384 (off195_eq s) (by norm_num) (by norm_num) ?_
  refine cs_mu (m := 128) 0 384 rfl ?_
  refine cs_mu (m := 128) 1 384 rfl ?_
  exact hk _ rfl

theorem part53_tri {hc : k0_cond37 s = 1#1} (a28 v1293 v1296 : BitVec 32) {p : _ → Prog (TpuEff nD τ sig (Elt F) Λ₀ .tc) α}
    (hk : ∀ r, r.1 = k0_pay18 (ldT xt (512 * iOf s.val + 0)) (ldC 512 cx (512 * jOf s.val)) (ldW 128 512 w 0 0) (ldM 512 mu 0 0) (ldM 512 mu 1 0) → Tri c (CS c xt cx mu (s.val % 24) w (s.val % 12) w') (p r) Q) :
    Tri c (CS c xt cx mu (s.val % 24) w (s.val % 12) w')
      (k0_part53 (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s a28 v1293 v1296 hc >>= p) Q := by
  rw [k0_part53_eq_skeleton]
  unfold k0_part53_skel
  simp only [bind_assoc, pure_bind]
  refine cs_xt (512 * iOf s.val + 0) (off196_eq0 s) ?_
  refine cs_cx (m := 512) (512 * jOf s.val) (off197_eq s) ?_
  refine cs_ld (n := 128) (m := 512) 0 0 (off198_eq s) (by norm_num) (by norm_num) ?_
  refine cs_mu (m := 512) 0 0 rfl ?_
  refine cs_mu (m := 512) 1 0 rfl ?_
  exact hk _ rfl

theorem part54_tri {hc : k0_cond37 s = 1#1} (a28 v1293 v1296 : BitVec 32) (v : FVec F S128x512 .f32) (v1368 v1369 : BitVec 32) (v1370 : BitVec 1) {p : _ → Prog (TpuEff nD τ sig (Elt F) Λ₀ .tc) α}
    (hk : ∀ r, r.1 = k0_pay21 (ldT xt (512 * iOf s.val + 128)) (ldC 512 cx (512 * jOf s.val)) → Tri c (CS c xt cx mu (s.val % 24) (upW 128 512 w 0 0 (k0_pay19 v)) (s.val % 12) (upM w' 0 (k0_pay20 v))) (p r) Q) :
    Tri c (CS c xt cx mu (s.val % 24) w (s.val % 12) w')
      (k0_part54 (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s a28 v1293 v1296 hc v v1368 v1369 v1370 >>= p) Q := by
  rw [k0_part54_eq_skeleton]
  unfold k0_part54_skel
  simp only [bind_assoc, pure_bind]
  refine cs_ld (n := 128) (m := 512) 0 0 (off198_eq s) (by norm_num) (by norm_num) ?_
  refine cs_st (n := 128) (m := 512) 0 0 (off198_eq s) (by norm_num) (by norm_num) ?_
  refine cs_mld 0 (off199_eq s) (by norm_num) fun _ => ?_
  refine cs_mst 0 (off199_eq s) (by norm_num) ?_
  refine cs_xt (512 * iOf s.val + 128) (off196_eq1 s) ?_
  refine cs_cx (m := 512) (512 * jOf s.val) (off197_eq s) ?_
  exact hk _ rfl

theorem part55_tri {hc : k0_cond37 s = 1#1} (a28 : BitVec 32) (v : FVec F S128x512 .f32) (c24 : BitVec 32) {p : _ → Prog (TpuEff nD τ sig (Elt F) Λ₀ .tc) α}
    (hk : ∀ r, r.1 = k0_pay24 v (ldW 128 512 w 128 0) (ldM 512 mu 0 0) (ldM 512 mu 1 0) → Tri c (CS c xt cx mu (s.val % 24) (upW 128 512 w 128 0 (k0_pay23 v (ldW 128 512 w 128 0) (ldM 512 mu 0 0) (ldM 512 mu 1 0))) (s.val % 12) w') (p r) Q) :
    Tri c (CS c xt cx mu (s.val % 24) w (s.val % 12) w')
      (k0_part55 (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s a28 hc v c24 >>= p) Q := by
  rw [k0_part55_eq_skeleton]
  unfold k0_part55_skel
  simp only [bind_assoc, pure_bind]
  refine cs_ld (n := 128) (m := 512) 128 0 (off200_eq s) (by norm_num) (by norm_num) ?_
  refine cs_mu (m := 512) 0 0 rfl ?_
  refine cs_mu (m := 512) 1 0 rfl ?_
  refine cs_ld (n := 128) (m := 512) 128 0 (off200_eq s) (by norm_num) (by norm_num) ?_
  refine cs_st (n := 128) (m := 512) 128 0 (off200_eq s) (by norm_num) (by norm_num) ?_
  exact hk _ rfl

theorem part56_tri {hc : k0_cond37 s = 1#1} (a28 v1293 v1296 : BitVec 32) (v : FVec F S512x128 .f32) (v1445 : BitVec 32) {p : _ → Prog (TpuEff nD τ sig (Elt F) Λ₀ .tc) α}
    (hk : ∀ r, r.1 = k0_pay26 (ldT xt (512 * iOf s.val + 256)) (ldC 512 cx (512 * jOf s.val)) → r.2 = k0_pay27 (ldW 128 512 w 256 0) → Tri c (CS c xt cx mu (s.val % 24) w (s.val % 12) (upM w' 128 (k0_pay25 v))) (p r) Q) :
    Tri c (CS c xt cx mu (s.val % 24) w (s.val % 12) w')
      (k0_part56 (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s a28 v1293 v1296 hc v v1445 >>= p) Q := by
  rw [k0_part56_eq_skeleton]
  unfold k0_part56_skel
  simp only [bind_assoc, pure_bind]
  refine cs_mld 128 (off201_eq s) (by norm_num) fun _ => ?_
  refine cs_mst 128 (off201_eq s) (by norm_num) ?_
  refine cs_xt (512 * iOf s.val + 256) (off196_eq2 s) ?_
  refine cs_cx (m := 512) (512 * jOf s.val) (off197_eq s) ?_
  refine cs_ld (n := 128) (m := 512) 256 0 (off202_eq s) (by norm_num) (by norm_num) ?_
  exact hk _ rfl rfl

theorem part57_tri {hc : k0_cond37 s = 1#1} (a28 v1293 : BitVec 32) (v u : FVec F S128x512 .f32) {p : _ → Prog (TpuEff nD τ sig (Elt F) Λ₀ .tc) α}
    (hk : ∀ r, Tri c (CS c xt cx mu (s.val % 24) (upW 128 512 w 256 0 (k0_pay29 v u (ldM 512 mu 0 0) (ldM 512 mu 1 0))) (s.val % 12) (upM w' 256 (k0_pay30 v u (ldM 512 mu 0 0) (ldM 512 mu 1 0)))) (p r) Q) :
    Tri c (CS c xt cx mu (s.val % 24) w (s.val % 12) w')
      (k0_part57 (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s a28 v1293 hc v u >>= p) Q := by
  rw [k0_part57_eq_skeleton]
  unfold k0_part57_skel
  simp only [bind_assoc, pure_bind]
  refine cs_mu (m := 512) 0 0 rfl ?_
  refine cs_mu (m := 512) 1 0 rfl ?_
  refine cs_ld (n := 128) (m := 512) 256 0 (off202_eq s) (by norm_num) (by norm_num) ?_
  refine cs_st (n := 128) (m := 512) 256 0 (off202_eq s) (by norm_num) (by norm_num) ?_
  refine cs_mld 256 (off203_eq s) (by norm_num) fun _ => ?_
  refine cs_mst 256 (off203_eq s) (by norm_num) ?_
  exact hk _

theorem part58_tri {hc : k0_cond37 s = 1#1} (a28 v1296 v1521 : BitVec 32) {p : _ → Prog (TpuEff nD τ sig (Elt F) Λ₀ .tc) α}
    (hk : ∀ r, r.1 = k0_pay31 (ldT xt (512 * iOf s.val + 384)) (ldC 512 cx (512 * jOf s.val)) (ldW 128 512 w 384 0) (ldM 512 mu 0 0) (ldM 512 mu 1 0) → Tri c (CS c xt cx mu (s.val % 24) w (s.val % 12) w') (p r) Q) :
    Tri c (CS c xt cx mu (s.val % 24) w (s.val % 12) w')
      (k0_part58 (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s a28 v1296 hc v1521 >>= p) Q := by
  rw [k0_part58_eq_skeleton]
  unfold k0_part58_skel
  simp only [bind_assoc, pure_bind]
  refine cs_xt (512 * iOf s.val + 384) (off196_eq3 s) ?_
  refine cs_cx (m := 512) (512 * jOf s.val) (off197_eq s) ?_
  refine cs_ld (n := 128) (m := 512) 384 0 (off204_eq s) (by norm_num) (by norm_num) ?_
  refine cs_mu (m := 512) 0 0 rfl ?_
  refine cs_mu (m := 512) 1 0 rfl ?_
  exact hk _ rfl

end Cert.KernelIdeal.Hand

end
-- ==== Proof.KernelIdeal.Tiles.lean ====
module

public import proofs.«01_k».proof.Proof.KernelIdeal.Parts

/-! What a step's computation leaves in its ring slot and its mirror slot, tile by tile. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable {c : Dev nD} {α : Type} (xt : S3072x256.Idx → Elt F .bf16) (cx : S256x3072.Idx → Elt F .bf16) (mu : S2x512.Idx → Elt F .f32) (I J : ℕ) (hb : S512x512.Idx → Elt F .f32)

/-! ## Off the diagonal -/

/-- Rows `128 a` to `128 a + 127` of an off-diagonal block. -/
def tO (a : ℕ) : FVec F S128x512 .f32 :=
  k0_pay18 (ldT xt (512 * I + 128 * a)) (ldC 512 cx (512 * J)) (ldW 128 512 hb (128 * a) 0) (ldM 512 mu 0 0) (ldM 512 mu 1 0)

/-- An off-diagonal block. -/
def CTO (x : S512x512.Idx) : Elt F .f32 :=
  tO xt cx mu I J hb ((x 0).val / 128) (ix2 (n0 := 128) (n1 := 512) ⟨(x 0).val % 128, Nat.mod_lt _ (by norm_num)⟩ (x 1))

/-! ## On the diagonal -/

def tD0 : FVec F S128x512 .f32 := k0_pay5 (ldT xt (512 * I + 0)) (ldC 512 cx (512 * J)) (ldW 128 512 hb 0 0) (ldM 512 mu 0 0) (ldM 512 mu 1 0)
def tD1 : FVec F S128x384 .f32 := k0_pay9 (k0_pay8 (ldT xt (512 * I + 128)) (ldC 384 cx (512 * J + 128))) (ldW 128 384 hb 128 128) (ldM 384 mu 0 128) (ldM 384 mu 1 128)
def tD2 : FVec F S128x256 .f32 := k0_pay14 (k0_pay13 (ldT xt (512 * I + 256)) (ldC 256 cx (512 * J + 256))) (ldW 128 256 hb 256 256) (ldM 256 mu 0 256) (ldM 256 mu 1 256)
def tD3 : FVec F S128x128 .f32 := k0_pay17 (ldT xt (512 * I + 384)) (ldC 128 cx (512 * J + 384)) (ldW 128 128 hb 384 384) (ldM 128 mu 0 384) (ldM 128 mu 1 384)

/-- Row `r`, column `q` of a diagonal block, `q` in or right of `r`'s diagonal tile. -/
def upD (r q : ℕ) : Elt F .f32 :=
  if r / 128 = 0 then tD0 xt cx mu I J hb (ix2 (n0 := 128) (n1 := 512) ⟨r % 128, Nat.mod_lt _ (by norm_num)⟩ ⟨q % 512, Nat.mod_lt _ (by norm_num)⟩)
  else if r / 128 = 1 then tD1 xt cx mu I J hb (ix2 (n0 := 128) (n1 := 384) ⟨r % 128, Nat.mod_lt _ (by norm_num)⟩ ⟨(q - 128) % 384, Nat.mod_lt _ (by norm_num)⟩)
  else if r / 128 = 2 then tD2 xt cx mu I J hb (ix2 (n0 := 128) (n1 := 256) ⟨r % 128, Nat.mod_lt _ (by norm_num)⟩ ⟨(q - 256) % 256, Nat.mod_lt _ (by norm_num)⟩)
  else tD3 xt cx mu I J hb (ix2 (n0 := 128) (n1 := 128) ⟨r % 128, Nat.mod_lt _ (by norm_num)⟩ ⟨(q - 384) % 128, Nat.mod_lt _ (by norm_num)⟩)

/-- A diagonal block: below the diagonal tiles, the mirror image of what is above. -/
def CTD (x : S512x512.Idx) : Elt F .f32 :=
  if 128 * ((x 0).val / 128) ≤ (x 1).val then upD xt cx mu I J hb (x 0).val (x 1).val else upD xt cx mu I J hb (x 1).val (x 0).val

variable {xt cx mu I J hb} {w w' : S512x512.Idx → Elt F .f32}

/-! ## Replacing parts of a block -/

theorem upW_agree {n m a b : ℕ} {v : (⟨3, ![1, n, m]⟩ : Shape).Idx → Elt F .f32} (C : S512x512.Idx → Elt F .f32) (ha : a + n ≤ 512) (hb : b + m ≤ 512)
    (hv : ∀ (p : Fin n) (q : Fin m), v (ix3 0 p q) = C (ix2 (n0 := 512) (n1 := 512) ⟨a + p.val, by omega⟩ ⟨b + q.val, by omega⟩)) (x : S512x512.Idx) :
    upW n m w a b v x = if (a ≤ (x 0).val ∧ (x 0).val < a + n) ∧ (b ≤ (x 1).val ∧ (x 1).val < b + m) then C x else w x := by
  unfold upW
  by_cases h : (a ≤ (x 0).val ∧ (x 0).val < a + n) ∧ (b ≤ (x 1).val ∧ (x 1).val < b + m)
  · rw [dif_pos h, if_pos h, hv]
    congr 1
    funext i
    apply Fin.ext
    match i with
    | ⟨0, _⟩ => show a + ((x 0).val - a) = (x 0).val; omega
    | ⟨1, _⟩ => show b + ((x 1).val - b) = (x 1).val; omega
  · rw [dif_neg h, if_neg h]

theorem upM_agree {b : ℕ} {v : (⟨3, ![1, 512, 128]⟩ : Shape).Idx → Elt F .f32} (C : S512x512.Idx → Elt F .f32) (hb : b + 128 ≤ 512)
    (hv : ∀ (p : Fin 512) (q : Fin 128), v (ix3 0 p q) = C (ix2 (n0 := 512) (n1 := 512) ⟨b + q.val, by omega⟩ p)) (x : S512x512.Idx) :
    upM w b v x = if b ≤ (x 0).val ∧ (x 0).val < b + 128 then C x else w x := by
  unfold upM
  by_cases h : b ≤ (x 0).val ∧ (x 0).val < b + 128
  · rw [dif_pos h, if_pos h]
    refine (hv (x 1) _).trans ?_
    congr 1
    funext i
    apply Fin.ext
    match i with
    | ⟨0, _⟩ => show b + ((x 0).val - b) = (x 0).val; omega
    | ⟨1, _⟩ => rfl
  · rw [dif_neg h, if_neg h]

theorem ldW_upW {n m a b n' m' a' b' : ℕ} {v : (⟨3, ![1, n, m]⟩ : Shape).Idx → Elt F .f32} (ha : a' + n' ≤ 512) (hb : b' + m' ≤ 512)
    (h : a + n ≤ a' ∨ a' + n' ≤ a ∨ b + m ≤ b' ∨ b' + m' ≤ b) : ldW n' m' (upW n m w a b v) a' b' = ldW n' m' w a' b' := by
  funext x
  have h1 : (x 1).val < n' := (x 1).isLt
  have h2 : (x 2).val < m' := (x 2).isLt
  unfold ldW upW
  rw [dif_neg]
  rintro ⟨⟨h3, h4⟩, h5, h6⟩
  replace h3 : a ≤ (a' + (x 1).val) % 512 := h3
  replace h4 : (a' + (x 1).val) % 512 < a + n := h4
  replace h5 : b ≤ (b' + (x 2).val) % 512 := h5
  replace h6 : (b' + (x 2).val) % 512 < b + m := h6
  rw [Nat.mod_eq_of_lt (by omega)] at h3 h4 h5 h6
  omega

theorem ldW_upper {m a : ℕ} (hw : ∀ x : S512x512.Idx, 128 * ((x 0).val / 128) ≤ (x 1).val → w x = w' x) (ha : a % 128 = 0) (h : a + m ≤ 512) (h' : a + 128 ≤ 512) :
    ldW 128 m w a a = ldW 128 m w' a a := by
  funext x
  have h1 : (x 1).val < 128 := (x 1).isLt
  have h2 : (x 2).val < m := (x 2).isLt
  refine hw _ ?_
  show 128 * ((a + (x 1).val) % 512 / 128) ≤ (a + (x 2).val) % 512
  rw [Nat.mod_eq_of_lt (by omega), Nat.mod_eq_of_lt (by omega)]
  omega

theorem CTD_upper (hw : ∀ x : S512x512.Idx, 128 * ((x 0).val / 128) ≤ (x 1).val → w x = w' x) : CTD xt cx mu I J w = CTD xt cx mu I J w' := by
  unfold CTD upD tD0 tD1 tD2 tD3
  rw [ldW_upper hw (by norm_num) (by norm_num) (by norm_num), ldW_upper (m := 384) hw (by norm_num) (by norm_num) (by norm_num),
    ldW_upper (m := 256) hw (by norm_num) (by norm_num) (by norm_num), ldW_upper (m := 128) hw (by norm_num) (by norm_num) (by norm_num)]

/-! ## Each tile's place -/

theorem CTO_at (a : ℕ) (p : Fin 128) (q : Fin 512) (h : 128 * a + p.val < 512) :
    CTO xt cx mu I J hb (ix2 (n0 := 512) (n1 := 512) ⟨128 * a + p.val, h⟩ q) = tO xt cx mu I J hb a (ix2 (n0 := 128) (n1 := 512) p q) := by
  unfold CTO
  have e1 : (128 * a + p.val) / 128 = a := by omega
  have e2 : (128 * a + p.val) % 128 = p.val := by omega
  show tO xt cx mu I J hb ((128 * a + p.val) / 128) (ix2 (n0 := 128) (n1 := 512) ⟨(128 * a + p.val) % 128, _⟩ q) = _
  simp only [e1, e2]

theorem pay19_at (v : FVec F S128x512 .f32) (p : Fin 128) (q : Fin 512) : k0_pay19 v (ix3 0 p q) = v (ix2 p q) :=
  shapeCast_ab_1ab_apply _ _ _ _ _
theorem pay20_at (v : FVec F S128x512 .f32) (p : Fin 512) (q : Fin 128) : k0_pay20 v (ix3 0 p q) = v (ix2 q p) := by
  unfold k0_pay20
  refine (shapeCast_ab_1ab_apply (transpose S512x128 [1, 0] v transposes_S128x512_p1_0_S512x128) _ _ _ _).trans ?_
  exact transpose_ix2_apply v _ _ _

theorem off_slot (w : S512x512.Idx → Elt F .f32) :
    upW 128 512 (upW 128 512 (upW 128 512 (upW 128 512 w 0 0 (k0_pay19 (tO xt cx mu I J hb 0))) 128 0 (k0_pay19 (tO xt cx mu I J hb 1)))
      256 0 (k0_pay19 (tO xt cx mu I J hb 2))) 384 0 (k0_pay19 (tO xt cx mu I J hb 3)) = CTO xt cx mu I J hb := by
  funext x
  have h0 : (x 0).val < 512 := (x 0).isLt
  have h1 : (x 1).val < 512 := (x 1).isLt
  have key : ∀ (a : ℕ) (ha : a < 4) (p : Fin 128) (q : Fin 512), k0_pay19 (tO xt cx mu I J hb a) (ix3 0 p q)
      = CTO xt cx mu I J hb (ix2 (n0 := 512) (n1 := 512) ⟨128 * a + p.val, by omega⟩ ⟨0 + q.val, by omega⟩) := fun a ha p q => by
    rw [pay19_at, ← CTO_at a p q (by omega)]
    congr 1
    funext i
    match i with
    | ⟨0, _⟩ => rfl
    | ⟨1, _⟩ => exact Fin.ext (Nat.zero_add _).symm
  rw [upW_agree _ (by norm_num) (by norm_num) (key 3 (by norm_num)), upW_agree _ (by norm_num) (by norm_num) (key 2 (by norm_num)),
    upW_agree _ (by norm_num) (by norm_num) (key 1 (by norm_num)), upW_agree _ (by norm_num) (by norm_num) (key 0 (by norm_num))]
  split_ifs <;> first | rfl | omega

theorem off_mslot (w : S512x512.Idx → Elt F .f32) :
    upM (upM (upM (upM w 0 (k0_pay20 (tO xt cx mu I J hb 0))) 128 (k0_pay20 (tO xt cx mu I J hb 1))) 256 (k0_pay20 (tO xt cx mu I J hb 2)))
      384 (k0_pay20 (tO xt cx mu I J hb 3)) = CTO xt cx mu I J hb := by
  funext x
  have h0 : (x 0).val < 512 := (x 0).isLt
  have key : ∀ (a : ℕ) (ha : a < 4) (p : Fin 512) (q : Fin 128), k0_pay20 (tO xt cx mu I J hb a) (ix3 0 p q)
      = CTO xt cx mu I J hb (ix2 (n0 := 512) (n1 := 512) ⟨128 * a + q.val, by omega⟩ p) := fun a ha p q => by
    rw [pay20_at, ← CTO_at a q p (by omega)]
  rw [upM_agree _ (by norm_num) (key 3 (by norm_num)), upM_agree _ (by norm_num) (key 2 (by norm_num)),
    upM_agree _ (by norm_num) (key 1 (by norm_num)), upM_agree _ (by norm_num) (key 0 (by norm_num))]
  split_ifs <;> first | rfl | omega

/-! ## The diagonal block's pieces -/

theorem pay6_at (v : FVec F S128x512 .f32) (p : Fin 128) (q : Fin 512) : k0_pay6 v (ix3 0 p q) = v (ix2 p q) :=
  shapeCast_ab_1ab_apply _ _ _ _ _
theorem pay7_at (v : FVec F S128x512 .f32) (p : Fin 384) (q : Fin 128) : k0_pay7 v (ix3 0 p q) = v (ix2 (n0 := 128) (n1 := 512) q ⟨128 + p.val, by omega⟩) := by
  unfold k0_pay7
  refine (shapeCast_ab_1ab_apply _ _ _ _ _).trans ((transpose_ix2_apply _ _ _ _).trans (extractStridedSlice_apply _ _ _ _ _ fun i => ?_))
  match i with
  | ⟨0, _⟩ => exact (Nat.zero_add _).symm
  | ⟨1, _⟩ => rfl
theorem pay10_at (v : FVec F S128x384 .f32) (p : Fin 128) (q : Fin 384) : shapeCast S1x128x384 v shapeCasts_S128x384_S1x128x384 (ix3 0 p q) = v (ix2 p q) :=
  shapeCast_ab_1ab_apply _ _ _ _ _
theorem pay10_at' (t : FVec F S128x384 .f32) (u : Vec F S1x128x384 .f32) (a b : Vec F S1x384 .f32) (p : Fin 128) (q : Fin 384) :
    k0_pay10 t u a b (ix3 0 p q) = k0_pay9 t u a b (ix2 p q) := by
  unfold k0_pay10
  exact pay10_at _ p q
theorem pay12_at (t : FVec F S128x384 .f32) (u : Vec F S1x128x384 .f32) (a b : Vec F S1x384 .f32) (p : Fin 256) (q : Fin 128) :
    k0_pay12 (k0_pay11 t u a b) (ix3 0 p q) = k0_pay9 t u a b (ix2 (n0 := 128) (n1 := 384) q ⟨128 + p.val, by omega⟩) := by
  unfold k0_pay12 k0_pay11
  refine (shapeCast_ab_1ab_apply _ _ _ _ _).trans ((transpose_ix2_apply _ _ _ _).trans (extractStridedSlice_apply _ _ _ _ _ fun i => ?_))
  match i with
  | ⟨0, _⟩ => exact (Nat.zero_add _).symm
  | ⟨1, _⟩ => rfl
theorem pay15_at (t : FVec F S128x256 .f32) (u : Vec F S1x128x256 .f32) (a b : Vec F S1x256 .f32) (p : Fin 128) (q : Fin 256) : k0_pay15 t u a b (ix3 0 p q) = k0_pay14 t u a b (ix2 p q) := by
  unfold k0_pay15
  exact shapeCast_ab_1ab_apply _ _ _ _ _
theorem pay16_at (t : FVec F S128x256 .f32) (u : Vec F S1x128x256 .f32) (a b : Vec F S1x256 .f32) (p : Fin 128) (q : Fin 128) :
    k0_pay16 t u a b (ix3 0 p q) = k0_pay14 t u a b (ix2 (n0 := 128) (n1 := 256) q ⟨128 + p.val, by omega⟩) := by
  unfold k0_pay16
  refine (shapeCast_ab_1ab_apply _ _ _ _ _).trans ((transpose_ix2_apply _ _ _ _).trans (extractStridedSlice_apply _ _ _ _ _ fun i => ?_))
  match i with
  | ⟨0, _⟩ => exact (Nat.zero_add _).symm
  | ⟨1, _⟩ => rfl
theorem pay122_at (v : FVec F S128x128 .f32) (p : Fin 128) (q : Fin 128) : k0_pay122 v (ix3 0 p q) = v (ix2 p q) :=
  shapeCast_ab_1ab_apply _ _ _ _ _

theorem CTD_up {r q : ℕ} (hr : r < 512) (hq : q < 512) (h : 128 * (r / 128) ≤ q) :
    CTD xt cx mu I J hb (ix2 (n0 := 512) (n1 := 512) ⟨r, hr⟩ ⟨q, hq⟩) = upD xt cx mu I J hb r q := if_pos h
theorem CTD_low {r q : ℕ} (hr : r < 512) (hq : q < 512) (h : q < 128 * (r / 128)) :
    CTD xt cx mu I J hb (ix2 (n0 := 512) (n1 := 512) ⟨r, hr⟩ ⟨q, hq⟩) = upD xt cx mu I J hb q r := if_neg (not_le.2 h)

theorem upD0 (p : Fin 128) (q : Fin 512) {r s : ℕ} (hr : r = p.val) (hs : s = q.val) : upD xt cx mu I J hb r s = tD0 xt cx mu I J hb (ix2 p q) := by
  subst hr hs
  unfold upD
  rw [if_pos (by omega)]
  congr 1
  congr 1 <;> exact Fin.ext (Nat.mod_eq_of_lt (by omega))
theorem upD1 (p : Fin 128) (q : Fin 384) {r s : ℕ} (hr : r = 128 + p.val) (hs : s = 128 + q.val) : upD xt cx mu I J hb r s = tD1 xt cx mu I J hb (ix2 p q) := by
  subst hr hs
  unfold upD
  rw [if_neg (by omega), if_pos (by omega)]
  congr 1
  congr 1
  · exact Fin.ext (by show (128 + p.val) % 128 = p.val; omega)
  · exact Fin.ext (by show (128 + q.val - 128) % 384 = q.val; omega)
theorem upD2 (p : Fin 128) (q : Fin 256) {r s : ℕ} (hr : r = 256 + p.val) (hs : s = 256 + q.val) : upD xt cx mu I J hb r s = tD2 xt cx mu I J hb (ix2 p q) := by
  subst hr hs
  unfold upD
  rw [if_neg (by omega), if_neg (by omega), if_pos (by omega)]
  congr 1
  congr 1
  · exact Fin.ext (by show (256 + p.val) % 128 = p.val; omega)
  · exact Fin.ext (by show (256 + q.val - 256) % 256 = q.val; omega)
theorem upD3 (p : Fin 128) (q : Fin 128) {r s : ℕ} (hr : r = 384 + p.val) (hs : s = 384 + q.val) : upD xt cx mu I J hb r s = tD3 xt cx mu I J hb (ix2 p q) := by
  subst hr hs
  unfold upD
  rw [if_neg (by omega), if_neg (by omega), if_neg (by omega)]
  congr 1
  congr 1
  · exact Fin.ext (by show (384 + p.val) % 128 = p.val; omega)
  · exact Fin.ext (by show (384 + q.val - 384) % 128 = q.val; omega)

theorem diag_slot (w : S512x512.Idx → Elt F .f32) {v0 : Vec F S1x128x512 .f32} {u0 : Vec F S1x384x128 .f32} {v1 : Vec F S1x128x384 .f32} {u1 : Vec F S1x256x128 .f32}
    {v2 : Vec F S1x128x256 .f32} {u2 : Vec F S1x128x128 .f32} {v3 : Vec F S1x128x128 .f32}
    (hv0 : ∀ p q, v0 (ix3 0 p q) = tD0 xt cx mu I J hb (ix2 p q))
    (hu0 : ∀ p q, u0 (ix3 0 p q) = tD0 xt cx mu I J hb (ix2 (n0 := 128) (n1 := 512) q ⟨128 + p.val, by omega⟩))
    (hv1 : ∀ p q, v1 (ix3 0 p q) = tD1 xt cx mu I J hb (ix2 p q))
    (hu1 : ∀ p q, u1 (ix3 0 p q) = tD1 xt cx mu I J hb (ix2 (n0 := 128) (n1 := 384) q ⟨128 + p.val, by omega⟩))
    (hv2 : ∀ p q, v2 (ix3 0 p q) = tD2 xt cx mu I J hb (ix2 p q))
    (hu2 : ∀ p q, u2 (ix3 0 p q) = tD2 xt cx mu I J hb (ix2 (n0 := 128) (n1 := 256) q ⟨128 + p.val, by omega⟩))
    (hv3 : ∀ p q, v3 (ix3 0 p q) = tD3 xt cx mu I J hb (ix2 p q)) :
    upW 128 128 (upW 128 128 (upW 128 256 (upW 256 128 (upW 128 384 (upW 384 128 (upW 128 512 w 0 0 v0) 128 0 u0) 128 128 v1) 256 128 u1) 256 256 v2) 384 256 u2) 384 384 v3
      = CTD xt cx mu I J hb := by
  funext x
  have h0 : (x 0).val < 512 := (x 0).isLt
  have h1 : (x 1).val < 512 := (x 1).isLt
  rw [upW_agree (CTD xt cx mu I J hb) (by norm_num) (by norm_num) (fun p q => by
      rw [hv3, CTD_up _ _ (by omega), upD3 p q rfl rfl]),
    upW_agree (CTD xt cx mu I J hb) (by norm_num) (by norm_num) (fun p q => by
      rw [hu2, CTD_low _ _ (by omega), upD2 q ⟨128 + p.val, by omega⟩ rfl (by show 384 + p.val = 256 + (128 + p.val); omega)]),
    upW_agree (CTD xt cx mu I J hb) (by norm_num) (by norm_num) (fun p q => by
      rw [hv2, CTD_up _ _ (by omega), upD2 p q rfl rfl]),
    upW_agree (CTD xt cx mu I J hb) (by norm_num) (by norm_num) (fun p q => by
      rw [hu1, CTD_low _ _ (by omega), upD1 q ⟨128 + p.val, by omega⟩ rfl (by show 256 + p.val = 128 + (128 + p.val); omega)]),
    upW_agree (CTD xt cx mu I J hb) (by norm_num) (by norm_num) (fun p q => by
      rw [hv1, CTD_up _ _ (by omega), upD1 p q rfl rfl]),
    upW_agree (CTD xt cx mu I J hb) (by norm_num) (by norm_num) (fun p q => by
      rw [hu0, CTD_low _ _ (by omega), upD0 q ⟨128 + p.val, by omega⟩ (by omega) rfl]),
    upW_agree (CTD xt cx mu I J hb) (by norm_num) (by norm_num) (fun p q => by
      rw [hv0, CTD_up _ _ (by omega), upD0 p q (by omega) (by omega)])]
  split_ifs <;> first | rfl | omega

end Cert.KernelIdeal.Hand

end
-- ==== Proof.KernelIdeal.Compute.lean ====
module

public import proofs.«01_k».proof.Proof.KernelIdeal.Tiles

/-! A step's computation, run: the slot ends at the step's block of the result. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable {c : Dev nD} {xt : S3072x256.Idx → Elt F .bf16} {cx : S256x3072.Idx → Elt F .bf16} {mu : S2x512.Idx → Elt F .f32} {w w' : S512x512.Idx → Elt F .f32}
  {s : Fin k0_t1_loop.trips}

theorem tri_skip {α : Type} {P B : sProp (MM F)} {rest : Prog (TpuEff nD τ sig (Elt F) Λ₀ .tc) α} {Q : α → sProp (MM F)} (hk : Tri c B rest Q) (h : P ⊢ B) : Tri c P rest Q :=
  tri_conseq hk h fun _ => .rfl

variable {rest : Prog (TpuEff nD τ sig (Elt F) Λ₀ .tc) Unit} {Q : Unit → sProp (MM F)}

theorem comp_diag (arg28 v1293 v1296 : BitVec 32) (hd : dg s.val)
    (hk : Tri c (CS c xt cx mu (s.val % 24) (CTD xt cx mu (iOf s.val) (jOf s.val) w) (s.val % 12) w') rest Q) :
    Tri c (CS c xt cx mu (s.val % 24) w (s.val % 12) w')
      (do
        if k0_h36 : k0_cond36 s = 1#1 then do
          let ⟨v1366, v1368, v1369, v1370⟩ : Σ' (v1366 : FVec F S128x512 .f32) (v1368 : BitVec 32) (v1369 : BitVec 32), BitVec 1 ← k0_part47 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1293 v1296 k0_h36
          let v1409 : FVec F S128x384 .f32 ← k0_part48 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1293 v1296 k0_h36 v1366 v1368 v1369 v1370
          let ⟨v1445, c24_i32_867, v1446⟩ : Σ' (v1445 : FVec F S256x128 .f32) (c24_i32_867 : BitVec 32), BitVec 1 ← k0_part49 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 k0_h36 v1409
          let ⟨v1472, v1484⟩ : Σ' (v1472 : FVec F S128x256 .f32), Vec F S1x128x256 .f32 ← k0_part50 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1293 v1296 k0_h36 v1445 c24_i32_867 v1446
          k0_part51 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 k0_h36 v1472 v1484
          let ⟨v1555, v1557, v1558, v1559⟩ : Σ' (v1555 : FVec F S128x128 .f32) (v1557 : BitVec 32) (v1558 : BitVec 32), BitVec 1 ← k0_part52 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1293 v1296 k0_h36
          let v1567 : Vec F S1x128x128 .f32 ← Prog.lift (.load (Memref.whole cc0_scratch12) (Rect.unit (s := S24x512x512) (k0_off195 s) S1x128x128.size (k0_off195_inb s k0_h36)).toLoadRect (View.loadsAt_vmem h_S1x128x128))
          Prog.lift (.store (Memref.whole cc0_scratch12) (Rect.unit (s := S24x512x512) (k0_off195 s) S1x128x128.size (k0_off195_inb s k0_h36)) (k0_pay122 v1555) Finset.univ (View.stores_vmem_bits_univ h_S1x128x128 rfl) (.inl rfl))
          pure ⟨⟩
        else do
          pure ⟨⟩
        rest : Prog (TpuEff nD τ sig (Elt F) Λ₀ .tc) Unit) Q := by
  dsimp only
  rw [dif_pos ((cond36_iff s).2 hd)]
  refine part47_tri _ _ _ ?_
  rintro ⟨v1366, v1368, v1369, v1370⟩ rfl
  refine part48_tri _ _ _ _ _ _ _ ?_
  rintro v1409 rfl
  refine part49_tri _ _ ?_
  rintro ⟨v1445, c24, v1446⟩ rfl
  refine part50_tri _ _ _ _ _ _ ?_
  rintro ⟨v1472, v1484⟩ rfl rfl
  refine part51_tri (F := F) _ _ _ ?_
  intro _
  refine part52_tri _ _ _ ?_
  rintro ⟨v1555, v1557, v1558, v1559⟩ rfl
  refine cs_ld (n := 128) (m := 128) 384 384 (off195_eq s) (by norm_num) (by norm_num) ?_
  refine cs_st (n := 128) (m := 128) 384 384 (off195_eq s) (by norm_num) (by norm_num) ?_
  refine tri_skip hk (Entails.of_eq ?_)
  congr 1
  repeat rw [ldW_upW (by norm_num) (by norm_num) (by norm_num)]
  exact diag_slot (hb := w) w (pay6_at _) (pay7_at _) (fun p q => pay10_at' _ _ _ _ p q) (fun p q => pay12_at _ _ _ _ p q) (fun p q => pay15_at _ _ _ _ p q) (fun p q => pay16_at _ _ _ _ p q) (fun p q => pay122_at _ p q)

theorem comp_diag_no (arg28 v1293 v1296 : BitVec 32) (hd : ¬ dg s.val) {P : sProp (MM F)}
    (hk : Tri c (P) rest Q) :
    Tri c P
      (do
        if k0_h36 : k0_cond36 s = 1#1 then do
          let ⟨v1366, v1368, v1369, v1370⟩ : Σ' (v1366 : FVec F S128x512 .f32) (v1368 : BitVec 32) (v1369 : BitVec 32), BitVec 1 ← k0_part47 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1293 v1296 k0_h36
          let v1409 : FVec F S128x384 .f32 ← k0_part48 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1293 v1296 k0_h36 v1366 v1368 v1369 v1370
          let ⟨v1445, c24_i32_867, v1446⟩ : Σ' (v1445 : FVec F S256x128 .f32) (c24_i32_867 : BitVec 32), BitVec 1 ← k0_part49 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 k0_h36 v1409
          let ⟨v1472, v1484⟩ : Σ' (v1472 : FVec F S128x256 .f32), Vec F S1x128x256 .f32 ← k0_part50 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1293 v1296 k0_h36 v1445 c24_i32_867 v1446
          k0_part51 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 k0_h36 v1472 v1484
          let ⟨v1555, v1557, v1558, v1559⟩ : Σ' (v1555 : FVec F S128x128 .f32) (v1557 : BitVec 32) (v1558 : BitVec 32), BitVec 1 ← k0_part52 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1293 v1296 k0_h36
          let v1567 : Vec F S1x128x128 .f32 ← Prog.lift (.load (Memref.whole cc0_scratch12) (Rect.unit (s := S24x512x512) (k0_off195 s) S1x128x128.size (k0_off195_inb s k0_h36)).toLoadRect (View.loadsAt_vmem h_S1x128x128))
          Prog.lift (.store (Memref.whole cc0_scratch12) (Rect.unit (s := S24x512x512) (k0_off195 s) S1x128x128.size (k0_off195_inb s k0_h36)) (k0_pay122 v1555) Finset.univ (View.stores_vmem_bits_univ h_S1x128x128 rfl) (.inl rfl))
          pure ⟨⟩
        else do
          pure ⟨⟩
        rest : Prog (TpuEff nD τ sig (Elt F) Λ₀ .tc) Unit) Q := by
  dsimp only
  rw [dif_neg fun h => hd ((cond36_iff s).1 h)]
  exact hk

theorem comp_off (arg28 v1293 v1296 : BitVec 32) (hd : ¬ dg s.val)
    (hk : Tri c (CS c xt cx mu (s.val % 24) (CTO xt cx mu (iOf s.val) (jOf s.val) w) (s.val % 12) (CTO xt cx mu (iOf s.val) (jOf s.val) w)) rest Q) :
    Tri c (CS c xt cx mu (s.val % 24) w (s.val % 12) w')
      (do
        if k0_h37 : k0_cond37 s = 1#1 then do
          let ⟨v1366, v1368, v1369, v1370⟩ : Σ' (v1366 : FVec F S128x512 .f32) (v1368 : BitVec 32) (v1369 : BitVec 32), BitVec 1 ← k0_part53 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1293 v1296 k0_h37
          let ⟨v1408, c24_i32_847⟩ : Σ' (v1408 : FVec F S128x512 .f32), BitVec 32 ← k0_part54 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1293 v1296 k0_h37 v1366 v1368 v1369 v1370
          let ⟨v1443, v1445⟩ : Σ' (v1443 : FVec F S512x128 .f32), BitVec 32 ← k0_part55 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 k0_h37 v1408 c24_i32_847
          let ⟨v1470, v1483⟩ : Σ' (v1470 : FVec F S128x512 .f32), FVec F S128x512 .f32 ← k0_part56 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1293 v1296 k0_h37 v1443 v1445
          let v1521 : BitVec 32 ← k0_part57 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1293 k0_h37 v1470 v1483
          let ⟨v1552, v1554, v1555, v1556, v1557, c0_i32_930⟩ : Σ' (v1552 : FVec F S128x512 .f32) (v1554 : BitVec 32) (v1555 : BitVec 32) (v1556 : BitVec 1) (v1557 : BitVec 1), BitVec 32 ← k0_part58 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1296 k0_h37 v1521
          let v1564 : Vec F S1x128x512 .f32 ← Prog.lift (.load (Memref.whole cc0_scratch12) (Rect.unit (s := S24x512x512) (k0_off204 s) S1x128x512.size (k0_off204_inb s k0_h37)).toLoadRect (View.loadsAt_vmem h_S1x128x512))
          Prog.lift (.store (Memref.whole cc0_scratch12) (Rect.unit (s := S24x512x512) (k0_off204 s) S1x128x512.size (k0_off204_inb s k0_h37)) (k0_pay123 v1552) Finset.univ (View.stores_vmem_bits_univ h_S1x128x512 rfl) (.inl rfl))
          let v1579 : Vec F S1x512x128 .f32 ← Prog.lift (.load (Memref.whole cc0_scratch13) (Rect.unit (s := S12x512x512) (k0_off205 s) S1x512x128.size (k0_off205_inb s k0_h37)).toLoadRect (View.loadsAt_vmem h_S1x512x128))
          Prog.lift (.store (Memref.whole cc0_scratch13) (Rect.unit (s := S12x512x512) (k0_off205 s) S1x512x128.size (k0_off205_inb s k0_h37)) (k0_pay124 v1552) Finset.univ (View.stores_vmem_bits_univ h_S1x512x128 rfl) (.inl rfl))
          pure ⟨⟩
        else do
          pure ⟨⟩
        rest : Prog (TpuEff nD τ sig (Elt F) Λ₀ .tc) Unit) Q := by
  dsimp only
  rw [dif_pos ((cond37_iff s).2 hd)]
  refine part53_tri _ _ _ ?_
  rintro ⟨v1366, v1368, v1369, v1370⟩ rfl
  refine part54_tri _ _ _ _ _ _ _ ?_
  rintro ⟨v1408, c24⟩ rfl
  refine part55_tri _ _ _ ?_
  rintro ⟨v1443, v1445⟩ rfl
  refine part56_tri _ _ _ _ _ ?_
  rintro ⟨v1470, v1483⟩ rfl rfl
  refine part57_tri (F := F) _ _ _ _ ?_
  intro _
  refine part58_tri _ _ _ ?_
  rintro ⟨v1552, v1554, v1555, v1556, v1557, c0⟩ rfl
  refine cs_ld (n := 128) (m := 512) 384 0 (off204_eq s) (by norm_num) (by norm_num) ?_
  refine cs_st (n := 128) (m := 512) 384 0 (off204_eq s) (by norm_num) (by norm_num) ?_
  refine cs_mld 384 (off205_eq s) (by norm_num) fun _ => ?_
  refine cs_mst 384 (off205_eq s) (by norm_num) ?_
  refine tri_skip hk (Entails.of_eq ?_)
  repeat rw [ldW_upW (by norm_num) (by norm_num) (by norm_num)]
  have h1 := off_slot (xt := xt) (cx := cx) (mu := mu) (I := iOf s.val) (J := jOf s.val) (hb := w) w
  have h2 := off_mslot (xt := xt) (cx := cx) (mu := mu) (I := iOf s.val) (J := jOf s.val) (hb := w) w'
  refine Eq.trans ?_ (congrArg₂ (fun a b => CS c xt cx mu (s.val % 24) a (s.val % 12) b) h1 h2)
  rfl

theorem comp_off_no (arg28 v1293 v1296 : BitVec 32) (hd : dg s.val) {P : sProp (MM F)}
    (hk : Tri c (P) rest Q) :
    Tri c P
      (do
        if k0_h37 : k0_cond37 s = 1#1 then do
          let ⟨v1366, v1368, v1369, v1370⟩ : Σ' (v1366 : FVec F S128x512 .f32) (v1368 : BitVec 32) (v1369 : BitVec 32), BitVec 1 ← k0_part53 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1293 v1296 k0_h37
          let ⟨v1408, c24_i32_847⟩ : Σ' (v1408 : FVec F S128x512 .f32), BitVec 32 ← k0_part54 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1293 v1296 k0_h37 v1366 v1368 v1369 v1370
          let ⟨v1443, v1445⟩ : Σ' (v1443 : FVec F S512x128 .f32), BitVec 32 ← k0_part55 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 k0_h37 v1408 c24_i32_847
          let ⟨v1470, v1483⟩ : Σ' (v1470 : FVec F S128x512 .f32), FVec F S128x512 .f32 ← k0_part56 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1293 v1296 k0_h37 v1443 v1445
          let v1521 : BitVec 32 ← k0_part57 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1293 k0_h37 v1470 v1483
          let ⟨v1552, v1554, v1555, v1556, v1557, c0_i32_930⟩ : Σ' (v1552 : FVec F S128x512 .f32) (v1554 : BitVec 32) (v1555 : BitVec 32) (v1556 : BitVec 1) (v1557 : BitVec 1), BitVec 32 ← k0_part58 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 v1296 k0_h37 v1521
          let v1564 : Vec F S1x128x512 .f32 ← Prog.lift (.load (Memref.whole cc0_scratch12) (Rect.unit (s := S24x512x512) (k0_off204 s) S1x128x512.size (k0_off204_inb s k0_h37)).toLoadRect (View.loadsAt_vmem h_S1x128x512))
          Prog.lift (.store (Memref.whole cc0_scratch12) (Rect.unit (s := S24x512x512) (k0_off204 s) S1x128x512.size (k0_off204_inb s k0_h37)) (k0_pay123 v1552) Finset.univ (View.stores_vmem_bits_univ h_S1x128x512 rfl) (.inl rfl))
          let v1579 : Vec F S1x512x128 .f32 ← Prog.lift (.load (Memref.whole cc0_scratch13) (Rect.unit (s := S12x512x512) (k0_off205 s) S1x512x128.size (k0_off205_inb s k0_h37)).toLoadRect (View.loadsAt_vmem h_S1x512x128))
          Prog.lift (.store (Memref.whole cc0_scratch13) (Rect.unit (s := S12x512x512) (k0_off205 s) S1x512x128.size (k0_off205_inb s k0_h37)) (k0_pay124 v1552) Finset.univ (View.stores_vmem_bits_univ h_S1x512x128 rfl) (.inl rfl))
          pure ⟨⟩
        else do
          pure ⟨⟩
        rest : Prog (TpuEff nD τ sig (Elt F) Λ₀ .tc) Unit) Q := by
  dsimp only
  rw [dif_neg fun h => (cond37_iff s).1 h hd]
  exact hk

end Cert.KernelIdeal.Hand

end
-- ==== Proof.KernelIdeal.Segs.lean ====
module

public import proofs.«01_k».proof.Proof.KernelIdeal.Compute

/-! The stages of a step: what each takes and leaves. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable {c : Dev nD} (xt : S3072x256.Idx → Elt F .bf16) (cxs : ℕ → S256x3072.Idx → Elt F .bf16) (mus : ℕ → S2x512.Idx → Elt F .f32)
  (h0 f0 G : S6x3072x3072.Idx → Elt F .f32)

/-- The block step `t` computes. -/
def CT (t : ℕ) : S512x512.Idx → Elt F .f32 :=
  if dg t then CTD xt (cxs (eOf t)) (mus (eOf t)) (iOf t) (jOf t) (HB h0 t) else CTO xt (cxs (eOf t)) (mus (eOf t)) (iOf t) (jOf t) (HB h0 t)

/-- A result holds every step's block, and the mirror image of every block off the diagonal. -/
structure Holds : Prop where
  direct : ∀ t, t < 126 → ∀ x, G (gI (eOf t) (iOf t) (jOf t) x) = CT xt cxs mus h0 t x
  mirror : ∀ t, t < 126 → ¬ dg t → ∀ x : S512x512.Idx, G (gI (eOf t) (jOf t) (iOf t) x) = CT xt cxs mus h0 t (ix2 (n0 := 512) (n1 := 512) (x 1) (x 0))

variable (c)
/-- A free ring slot. -/
def Free (k : ℕ) : sProp (MM F) := iprop(SlotAny c k ∗ Sem0 c (rdS k) ∗ Sem0 c (wrS k))
/-- A free mirror slot. -/
def MFree (k : ℕ) : sProp (MM F) := iprop(MSlotAny c k ∗ Sem0 c (mrS k))
/-- The slot of step `T - 12` while its block is being read. -/
def RI (T : ℕ) : sProp (MM F) :=
  if 12 ≤ T ∧ T < 138 then iprop(RdF c h0 (T - 12) ∗ Sem0 c (wrS ((T - 12) % 24))) else Free c ((T + 12) % 24)
/-- The slot of step `T - 12` once its block is there. -/
def Rdy (t : ℕ) : sProp (MM F) :=
  iprop((∃ w, ⌜∀ x : S512x512.Idx, (dg t → 128 * ((x 0).val / 128) ≤ (x 1).val) → w x = HB h0 t x⌝ ∗ Slot c (t % 24) w)
    ∗ Sem0 c (rdS (t % 24)) ∗ Sem0 c (wrS (t % 24)))
/-- The slot of step `T - 12` once its block is computed. -/
def CI (T : ℕ) : sProp (MM F) :=
  if 12 ≤ T then iprop(Slot c ((T - 12) % 24) (CT xt cxs mus h0 (T - 12)) ∗ Sem0 c (rdS ((T - 12) % 24)) ∗ Sem0 c (wrS ((T - 12) % 24))) else Free c ((T + 12) % 24)
/-- The slot of step `T - 12` while its block is being written. -/
def WI (T : ℕ) : sProp (MM F) :=
  if 12 ≤ T then iprop(WrF c G (T - 12) ∗ Sem0 c (rdS ((T - 12) % 24))) else Free c ((T + 12) % 24)
/-- The mirror slot of step `T - 12` once its block is computed. -/
def MCI (T : ℕ) : sProp (MM F) :=
  if 12 ≤ T ∧ ¬ dg (T - 12) then iprop(MSlot c ((T - 12) % 12) (CT xt cxs mus h0 (T - 12)) ∗ Sem0 c (mrS ((T - 12) % 12))) else MFree c (T % 12)
/-- The mirror slot of step `T - 12` while its block is being written. -/
def MWI (T : ℕ) : sProp (MM F) := if 12 ≤ T ∧ ¬ dg (T - 12) then MrF c G (T - 12) else MFree c (T % 12)
/-- The result's blocks of step `T - 12`, at the contents `f`. -/
def HOB (f : S6x3072x3072.Idx → Elt F .f32) (T : ℕ) : sProp (MM F) := if 12 ≤ T then hoB c f (T - 12) else iprop(emp)
def HOM (f : S6x3072x3072.Idx → Elt F .f32) (T : ℕ) : sProp (MM F) := if 12 ≤ T ∧ ¬ dg (T - 12) then hoM c f (T - 12) else iprop(emp)
/-- The input's block of step `t`, if there is such a step. -/
def HIN (t : ℕ) : sProp (MM F) := if t < 126 then hinB c h0 t else iprop(emp)
/-- What an expert's steps share: the activations, the weighted activations, the weights. -/
def Cxm (e : ℕ) : sProp (MM F) := iprop(Pt c mXdt Finset.univ xt ∗ Pt c mCxd Finset.univ (cxs e) ∗ Pt c mMul Finset.univ (mus e))
variable {c} {xt cxs mus h0 f0 G}

/-- The four reads of a diagonal block, with anything else kept. -/
theorem tri_rd_dg_f {h0 : S6x3072x3072.Idx → Elt F .f32} {t : ℕ} (ht : t < 126) (hd : dg t) {o1 o2 o3 o4 : Fin 1 → ℕ}
    {a1 a2 a3 a4 b1 b2 b3 b4 : Fin 3 → ℕ} {p1 p2 p3 p4 q1 q2 q3 q4 r1 r2 r3 r4 s1 s2 s3 s4 u1 u2 u3 u4 v1 v2 v3 v4} {w1 w2 w3 w4 x1 x2 x3 x4 y1 y2 y3 y4}
    (h1 : o1 = ![t % 24]) (h2 : o2 = ![t % 24]) (h3 : o3 = ![t % 24]) (h4 : o4 = ![t % 24])
    (hb1 : b1 = ![t % 24, 0, 0]) (hb2 : b2 = ![t % 24, 128, 128]) (hb3 : b3 = ![t % 24, 256, 256]) (hb4 : b4 = ![t % 24, 384, 384])
    (ha1 : a1 = ![eOf t, 512 * iOf t, 512 * iOf t]) (ha2 : a2 = ![eOf t, 512 * iOf t + 128, 512 * iOf t + 128])
    (ha3 : a3 = ![eOf t, 512 * iOf t + 256, 512 * iOf t + 256]) (ha4 : a4 = ![eOf t, 512 * iOf t + 384, 512 * iOf t + 384])
    {α : Type} {rest : Prog (TpuEff nD τ sig (Elt F) Λ₀ .tc) α} {Q : α → sProp (MM F)} {R : sProp (MM F)} (hrest : Tri c iprop(RdF c h0 t ∗ R) rest Q) :
    Tri c iprop((hinB c h0 t ∗ SlotAny c (t % 24) ∗ Sem0 c (rdS (t % 24))) ∗ R)
      (Prog.lift (.enqueueDma (blkM (n := 128) (m := 512) mIn a1 p1 q1) (.here (blkM (n := 128) (m := 512) mBuf b1 r1 s1))
          (.dma ((cc0_scratch15.slice (Rect.unit (s := S24) o1 S1.size u1)).squeeze S_ v1).sem) w1 x1 y1) >>= fun _ =>
        Prog.lift (.enqueueDma (blkM (n := 128) (m := 384) mIn a2 p2 q2) (.here (blkM (n := 128) (m := 384) mBuf b2 r2 s2))
          (.dma ((cc0_scratch15.slice (Rect.unit (s := S24) o2 S1.size u2)).squeeze S_ v2).sem) w2 x2 y2) >>= fun _ =>
        Prog.lift (.enqueueDma (blkM (n := 128) (m := 256) mIn a3 p3 q3) (.here (blkM (n := 128) (m := 256) mBuf b3 r3 s3))
          (.dma ((cc0_scratch15.slice (Rect.unit (s := S24) o3 S1.size u3)).squeeze S_ v3).sem) w3 x3 y3) >>= fun _ =>
        Prog.lift (.enqueueDma (blkM (n := 128) (m := 128) mIn a4 p4 q4) (.here (blkM (n := 128) (m := 128) mBuf b4 r4 s4))
          (.dma ((cc0_scratch15.slice (Rect.unit (s := S24) o4 S1.size u4)).squeeze S_ v4).sem) w4 x4 y4) >>= fun _ => rest) Q := by
  have e : (Prog.lift (.enqueueDma (blkM (n := 128) (m := 512) mIn a1 p1 q1) (.here (blkM (n := 128) (m := 512) mBuf b1 r1 s1))
          (.dma ((cc0_scratch15.slice (Rect.unit (s := S24) o1 S1.size u1)).squeeze S_ v1).sem) w1 x1 y1) >>= fun _ =>
        Prog.lift (.enqueueDma (blkM (n := 128) (m := 384) mIn a2 p2 q2) (.here (blkM (n := 128) (m := 384) mBuf b2 r2 s2))
          (.dma ((cc0_scratch15.slice (Rect.unit (s := S24) o2 S1.size u2)).squeeze S_ v2).sem) w2 x2 y2) >>= fun _ =>
        Prog.lift (.enqueueDma (blkM (n := 128) (m := 256) mIn a3 p3 q3) (.here (blkM (n := 128) (m := 256) mBuf b3 r3 s3))
          (.dma ((cc0_scratch15.slice (Rect.unit (s := S24) o3 S1.size u3)).squeeze S_ v3).sem) w3 x3 y3) >>= fun _ =>
        Prog.lift (.enqueueDma (blkM (n := 128) (m := 128) mIn a4 p4 q4) (.here (blkM (n := 128) (m := 128) mBuf b4 r4 s4))
          (.dma ((cc0_scratch15.slice (Rect.unit (s := S24) o4 S1.size u4)).squeeze S_ v4).sem) w4 x4 y4) >>= fun _ => rest)
      = ((Prog.lift (.enqueueDma (blkM (n := 128) (m := 512) mIn a1 p1 q1) (.here (blkM (n := 128) (m := 512) mBuf b1 r1 s1))
          (.dma ((cc0_scratch15.slice (Rect.unit (s := S24) o1 S1.size u1)).squeeze S_ v1).sem) w1 x1 y1) >>= fun _ =>
        Prog.lift (.enqueueDma (blkM (n := 128) (m := 384) mIn a2 p2 q2) (.here (blkM (n := 128) (m := 384) mBuf b2 r2 s2))
          (.dma ((cc0_scratch15.slice (Rect.unit (s := S24) o2 S1.size u2)).squeeze S_ v2).sem) w2 x2 y2) >>= fun _ =>
        Prog.lift (.enqueueDma (blkM (n := 128) (m := 256) mIn a3 p3 q3) (.here (blkM (n := 128) (m := 256) mBuf b3 r3 s3))
          (.dma ((cc0_scratch15.slice (Rect.unit (s := S24) o3 S1.size u3)).squeeze S_ v3).sem) w3 x3 y3) >>= fun _ =>
        Prog.lift (.enqueueDma (blkM (n := 128) (m := 128) mIn a4 p4 q4) (.here (blkM (n := 128) (m := 128) mBuf b4 r4 s4))
          (.dma ((cc0_scratch15.slice (Rect.unit (s := S24) o4 S1.size u4)).squeeze S_ v4).sem) w4 x4 y4) >>= fun _ => (pure () : Prog (TpuEff nD τ sig (Elt F) Λ₀ .tc) Unit)) >>= fun _ => rest) := by simp only [bind_assoc, pure_bind]
  rw [e]
  exact tri_seq (tri_rd_dg ht hd h1 h2 h3 h4 hb1 hb2 hb3 hb4 ha1 ha2 ha3 ha4 (tri_pure .rfl)) fun _ => hrest

/-- The four waits of a diagonal block, with anything else kept. -/
theorem tri_rdw_dg_f {h0 : S6x3072x3072.Idx → Elt F .f32} {t : ℕ} (hd : dg t) {o1 o2 o3 o4 : Fin 1 → ℕ}
    {a1 a2 a3 a4 b1 b2 b3 b4 : Fin 3 → ℕ} {p1 p2 p3 p4 q1 q2 q3 q4 r1 r2 r3 r4 s1 s2 s3 s4 u1 u2 u3 u4 v1 v2 v3 v4} {w1 w2 w3 w4 x1 x2 x3 x4}
    (h1 : o1 = ![t % 24]) (h2 : o2 = ![t % 24]) (h3 : o3 = ![t % 24]) (h4 : o4 = ![t % 24])
    {α : Type} {rest : Prog (TpuEff nD τ sig (Elt F) Λ₀ .tc) α} {Q : α → sProp (MM F)}
    {R : sProp (MM F)} (hrest : Tri c iprop(((∃ w, ⌜∀ x : S512x512.Idx, 128 * ((x 0).val / 128) ≤ (x 1).val → w x = HB h0 t x⌝ ∗ Slot c (t % 24) w) ∗ hinB c h0 t ∗ Sem0 c (rdS (t % 24)) ∗ OW c) ∗ R) rest Q) :
    Tri c iprop((RdF c h0 t ∗ OW c) ∗ R)
      (Prog.lift (.waitDma2 ((cc0_scratch15.slice (Rect.unit (s := S24) o1 S1.size u1)).squeeze S_ v1).sem
          (blkM (n := 128) (m := 512) mIn a1 p1 q1) (blkM (n := 128) (m := 512) mBuf b1 r1 s1) w1 x1) >>= fun _ =>
        Prog.lift (.waitDma2 ((cc0_scratch15.slice (Rect.unit (s := S24) o2 S1.size u2)).squeeze S_ v2).sem
          (blkM (n := 128) (m := 384) mIn a2 p2 q2) (blkM (n := 128) (m := 384) mBuf b2 r2 s2) w2 x2) >>= fun _ =>
        Prog.lift (.waitDma2 ((cc0_scratch15.slice (Rect.unit (s := S24) o3 S1.size u3)).squeeze S_ v3).sem
          (blkM (n := 128) (m := 256) mIn a3 p3 q3) (blkM (n := 128) (m := 256) mBuf b3 r3 s3) w3 x3) >>= fun _ =>
        Prog.lift (.waitDma2 ((cc0_scratch15.slice (Rect.unit (s := S24) o4 S1.size u4)).squeeze S_ v4).sem
          (blkM (n := 128) (m := 128) mIn a4 p4 q4) (blkM (n := 128) (m := 128) mBuf b4 r4 s4) w4 x4) >>= fun _ => rest) Q := by
  have e : (Prog.lift (.waitDma2 ((cc0_scratch15.slice (Rect.unit (s := S24) o1 S1.size u1)).squeeze S_ v1).sem
          (blkM (n := 128) (m := 512) mIn a1 p1 q1) (blkM (n := 128) (m := 512) mBuf b1 r1 s1) w1 x1) >>= fun _ =>
        Prog.lift (.waitDma2 ((cc0_scratch15.slice (Rect.unit (s := S24) o2 S1.size u2)).squeeze S_ v2).sem
          (blkM (n := 128) (m := 384) mIn a2 p2 q2) (blkM (n := 128) (m := 384) mBuf b2 r2 s2) w2 x2) >>= fun _ =>
        Prog.lift (.waitDma2 ((cc0_scratch15.slice (Rect.unit (s := S24) o3 S1.size u3)).squeeze S_ v3).sem
          (blkM (n := 128) (m := 256) mIn a3 p3 q3) (blkM (n := 128) (m := 256) mBuf b3 r3 s3) w3 x3) >>= fun _ =>
        Prog.lift (.waitDma2 ((cc0_scratch15.slice (Rect.unit (s := S24) o4 S1.size u4)).squeeze S_ v4).sem
          (blkM (n := 128) (m := 128) mIn a4 p4 q4) (blkM (n := 128) (m := 128) mBuf b4 r4 s4) w4 x4) >>= fun _ => rest)
      = ((Prog.lift (.waitDma2 ((cc0_scratch15.slice (Rect.unit (s := S24) o1 S1.size u1)).squeeze S_ v1).sem
          (blkM (n := 128) (m := 512) mIn a1 p1 q1) (blkM (n := 128) (m := 512) mBuf b1 r1 s1) w1 x1) >>= fun _ =>
        Prog.lift (.waitDma2 ((cc0_scratch15.slice (Rect.unit (s := S24) o2 S1.size u2)).squeeze S_ v2).sem
          (blkM (n := 128) (m := 384) mIn a2 p2 q2) (blkM (n := 128) (m := 384) mBuf b2 r2 s2) w2 x2) >>= fun _ =>
        Prog.lift (.waitDma2 ((cc0_scratch15.slice (Rect.unit (s := S24) o3 S1.size u3)).squeeze S_ v3).sem
          (blkM (n := 128) (m := 256) mIn a3 p3 q3) (blkM (n := 128) (m := 256) mBuf b3 r3 s3) w3 x3) >>= fun _ =>
        Prog.lift (.waitDma2 ((cc0_scratch15.slice (Rect.unit (s := S24) o4 S1.size u4)).squeeze S_ v4).sem
          (blkM (n := 128) (m := 128) mIn a4 p4 q4) (blkM (n := 128) (m := 128) mBuf b4 r4 s4) w4 x4) >>= fun _ => (pure () : Prog (TpuEff nD τ sig (Elt F) Λ₀ .tc) Unit)) >>= fun _ => rest) := by simp only [bind_assoc, pure_bind]
  rw [e]
  exact tri_seq (tri_rdw_dg (Q := fun (_ : Unit) => iprop((∃ w, ⌜∀ x : S512x512.Idx, 128 * ((x 0).val / 128) ≤ (x 1).val → w x = HB h0 t x⌝ ∗ Slot c (t % 24) w) ∗ hinB c h0 t ∗ Sem0 c (rdS (t % 24)) ∗ OW c)) hd h1 h2 h3 h4 (tri_pure .rfl)) fun _ => hrest

/-! ## Waiting for a step's block -/

section
variable {α : Type} {rest : Prog (TpuEff nD τ sig (Elt F) Λ₀ .tc) α} {Q : α → sProp (MM F)} (s : Fin k0_t1_loop.trips) (arg28 : BitVec 32)

def Mid26 (c : Dev nD) (h0 : S6x3072x3072.Idx → Elt F .f32) (s : ℕ) : sProp (MM F) :=
  if dg s then iprop(Rdy c h0 s ∗ hinB c h0 s ∗ OW c) else iprop(RI c h0 (s + 12) ∗ OW c)

theorem s_lt : s.val < 126 := lt_of_lt_of_eq s.isLt trips_eq

theorem RI_at {t : ℕ} (ht : t < 126) : RI c h0 (t + 12) = iprop(RdF c h0 t ∗ Sem0 c (wrS (t % 24))) := by
  unfold RI
  rw [if_pos (by omega), Nat.add_sub_cancel]

theorem seg26
    (hk : Tri c (Mid26 c h0 s.val) rest Q) :
    Tri c iprop(RI c h0 (s.val + 12) ∗ OW c)
      (do
        if k0_h26 : k0_cond26 s = 1#1 then do
          let ⟨v1336, v1370, c128_i32_827⟩ : Σ' (v1336 : BitVec 32) (v1370 : BitVec 32), BitVec 32 ← k0_part39 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 arg28
          let ⟨v1402, v1403, v1408⟩ : Σ' (v1402 : BitVec 32) (v1403 : BitVec 32), BitVec 1 ← k0_part40 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 arg28 v1336 v1370 c128_i32_827
          let ⟨v1440, v1441, v1446⟩ : Σ' (v1440 : BitVec 32) (v1441 : BitVec 32), BitVec 1 ← k0_part41 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 arg28 v1336 v1402 v1403 v1408
          let v1449 : DmaSems sig S1 := cc0_scratch15.slice (Rect.unit (s := S24) (k0_off148 s) S1.size (k0_off148_inb s k0_h26))
          let v1450 : DmaSems sig S_ := v1449.squeeze S_ squeezes_S1_S_
          let v1451 : Memref sig .tc .vmem S1x128x512 .f32 := (Memref.whole cc0_scratch12).slice (Rect.unit (s := S24x512x512) (k0_off149 s) S1x128x512.size (k0_off149_inb s k0_h26)) (fun _ => rfl)
          let v1452 : Memref sig .tc .vmem S128x512 .f32 := v1451.squeeze S128x512 squeezes_S1x128x512_S128x512
          let v1453 : Memref sig .tc .hbm S1x128x512 .f32 := (Memref.whole main_arg3).slice (Rect.unit (s := S6x3072x3072) (k0_off150 s) S1x128x512.size (k0_off150_inb s k0_h26)) (fun _ => rfl)
          let v1454 : Memref sig .tc .hbm S128x512 .f32 := v1453.squeeze S128x512 squeezes_S1x128x512_S128x512
          Prog.lift (.waitDma2 v1450.sem v1454 v1452 ((View.wordExact_bits rfl).reshape _ _) ((View.wordExact_bits rfl).reshape _ _))
          let v1455 : DmaSems sig S1 := cc0_scratch15.slice (Rect.unit (s := S24) (k0_off148 s) S1.size (k0_off148_inb s k0_h26))
          let v1456 : DmaSems sig S_ := v1455.squeeze S_ squeezes_S1_S_
          let v1457 : Memref sig .tc .vmem S1x128x384 .f32 := (Memref.whole cc0_scratch12).slice (Rect.unit (s := S24x512x512) (k0_off151 s) S1x128x384.size (k0_off151_inb s k0_h26)) (fun _ => rfl)
          let v1458 : Memref sig .tc .vmem S128x384 .f32 := v1457.squeeze S128x384 squeezes_S1x128x384_S128x384
          let v1459 : Memref sig .tc .hbm S1x128x384 .f32 := (Memref.whole main_arg3).slice (Rect.unit (s := S6x3072x3072) (k0_off152 s) S1x128x384.size (k0_off152_inb s k0_h26)) (fun _ => rfl)
          let v1460 : Memref sig .tc .hbm S128x384 .f32 := v1459.squeeze S128x384 squeezes_S1x128x384_S128x384
          Prog.lift (.waitDma2 v1456.sem v1460 v1458 ((View.wordExact_bits rfl).reshape _ _) ((View.wordExact_bits rfl).reshape _ _))
          let v1461 : DmaSems sig S1 := cc0_scratch15.slice (Rect.unit (s := S24) (k0_off148 s) S1.size (k0_off148_inb s k0_h26))
          let v1462 : DmaSems sig S_ := v1461.squeeze S_ squeezes_S1_S_
          let v1463 : Memref sig .tc .vmem S1x128x256 .f32 := (Memref.whole cc0_scratch12).slice (Rect.unit (s := S24x512x512) (k0_off153 s) S1x128x256.size (k0_off153_inb s k0_h26)) (fun _ => rfl)
          let v1464 : Memref sig .tc .vmem S128x256 .f32 := v1463.squeeze S128x256 squeezes_S1x128x256_S128x256
          let v1465 : Memref sig .tc .hbm S1x128x256 .f32 := (Memref.whole main_arg3).slice (Rect.unit (s := S6x3072x3072) (k0_off154 s) S1x128x256.size (k0_off154_inb s k0_h26)) (fun _ => rfl)
          let v1466 : Memref sig .tc .hbm S128x256 .f32 := v1465.squeeze S128x256 squeezes_S1x128x256_S128x256
          Prog.lift (.waitDma2 v1462.sem v1466 v1464 ((View.wordExact_bits rfl).reshape _ _) ((View.wordExact_bits rfl).reshape _ _))
          let v1467 : DmaSems sig S1 := cc0_scratch15.slice (Rect.unit (s := S24) (k0_off148 s) S1.size (k0_off148_inb s k0_h26))
          let v1468 : DmaSems sig S_ := v1467.squeeze S_ squeezes_S1_S_
          let v1469 : Memref sig .tc .vmem S1x128x128 .f32 := (Memref.whole cc0_scratch12).slice (Rect.unit (s := S24x512x512) (k0_off155 s) S1x128x128.size (k0_off155_inb s k0_h26)) (fun _ => rfl)
          let v1470 : Memref sig .tc .vmem S128x128 .f32 := v1469.squeeze S128x128 squeezes_S1x128x128_S128x128
          let v1471 : Memref sig .tc .hbm S1x128x128 .f32 := (Memref.whole main_arg3).slice (Rect.unit (s := S6x3072x3072) (k0_off156 s) S1x128x128.size (k0_off156_inb s k0_h26)) (fun _ => rfl)
          let v1472 : Memref sig .tc .hbm S128x128 .f32 := v1471.squeeze S128x128 squeezes_S1x128x128_S128x128
          Prog.lift (.waitDma2 v1468.sem v1472 v1470 ((View.wordExact_bits rfl).reshape _ _) ((View.wordExact_bits rfl).reshape _ _))
          pure ⟨⟩
        else do
          pure ⟨⟩
        rest : Prog (TpuEff nD τ sig (Elt F) Λ₀ .tc) α) Q := by
  dsimp only
  refine tri_ite (fun hc => ?_) (fun hc => ?_)
  · have hd := (cond26_iff s).1 hc
    rw [k0_part39_eq_skeleton, k0_part40_eq_skeleton, k0_part41_eq_skeleton]
    unfold k0_part39_skel k0_part40_skel k0_part41_skel
    simp only [bind_assoc, pure_bind]
    refine tri_skip (B := iprop((RdF c h0 s.val ∗ OW c) ∗ Sem0 c (wrS (s.val % 24)))) (tri_rdw_dg_f hd (off148_eq s) (off148_eq s) (off148_eq s) (off148_eq s) (tri_skip hk ?_)) ?_
    · unfold Mid26 Rdy
      rw [if_pos hd]
      iintro ⟨⟨⟨%w, %hw, H1⟩, H2, H3, H4⟩, H5⟩
      isplitl [H1 H3 H5]
      · isplitl [H1]
        · iexists w
          isplitr
          · ipureintro; exact fun x hx => hw x (hx hd)
          iexact H1
        isplitl [H3]; · iexact H3
        iexact H5
      isplitl [H2]; · iexact H2
      iexact H4
    · rw [RI_at (s_lt s)]
      iintro ⟨⟨H1, H2⟩, H3⟩
      isplitl [H1 H3]
      · isplitl [H1]; · iexact H1
        iexact H3
      iexact H2
  · refine tri_skip hk (Entails.of_eq ?_)
    unfold Mid26
    rw [if_neg fun h => hc ((cond26_iff s).2 h)]

theorem seg27
    (hk : Tri c iprop(Rdy c h0 s.val ∗ hinB c h0 s.val ∗ OW c) rest Q) :
    Tri c (Mid26 c h0 s.val)
      (do
        if k0_h27 : k0_cond27 s = 1#1 then do
          let v1364 : DmaSems sig S1 := cc0_scratch15.slice (Rect.unit (s := S24) (k0_off157 s) S1.size (k0_off157_inb s k0_h27))
          let v1365 : DmaSems sig S_ := v1364.squeeze S_ squeezes_S1_S_
          let v1366 : Memref sig .tc .vmem S1x512x512 .f32 := (Memref.whole cc0_scratch12).slice (Rect.unit (s := S24x512x512) (k0_off158 s) S1x512x512.size (k0_off158_inb s k0_h27)) (fun _ => rfl)
          let v1367 : Memref sig .tc .vmem S512x512 .f32 := v1366.squeeze S512x512 squeezes_S1x512x512_S512x512
          let v1368 : Memref sig .tc .hbm S1x512x512 .f32 := (Memref.whole main_arg3).slice (Rect.unit (s := S6x3072x3072) (k0_off159 s) S1x512x512.size (k0_off159_inb s k0_h27)) (fun _ => rfl)
          let v1369 : Memref sig .tc .hbm S512x512 .f32 := v1368.squeeze S512x512 squeezes_S1x512x512_S512x512
          Prog.lift (.waitDma2 v1365.sem v1369 v1367 ((View.wordExact_bits rfl).reshape _ _) ((View.wordExact_bits rfl).reshape _ _))
          pure ⟨⟩
        else do
          pure ⟨⟩
        rest : Prog (TpuEff nD τ sig (Elt F) Λ₀ .tc) α) Q := by
  dsimp only
  refine tri_ite (fun hc => ?_) (fun hc => ?_)
  · have hd := (cond27_iff s).1 hc
    refine tri_skip (B := iprop((RdF c h0 s.val ∗ OW c) ∗ Sem0 c (wrS (s.val % 24)))) (tri_seq (tri_rdw_off hd (off157_eq s)) fun _ => tri_skip hk ?_) ?_
    · unfold Rdy
      iintro ⟨⟨⟨H1, H2⟩, H3, H4⟩, H5⟩
      isplitl [H1 H3 H5]
      · isplitl [H1]
        · iexists (HB h0 s.val)
          isplitr
          · ipureintro; exact fun x _ => rfl
          iexact H1
        isplitl [H3]; · iexact H3
        iexact H5
      isplitl [H2]; · iexact H2
      iexact H4
    · unfold Mid26
      rw [if_neg hd, RI_at (s_lt s)]
      iintro ⟨⟨H1, H2⟩, H3⟩
      isplitl [H1 H3]
      · isplitl [H1]; · iexact H1
        iexact H3
      iexact H2
  · have hd : dg s.val := by by_contra h; exact hc ((cond27_iff s).2 h)
    refine tri_skip hk (Entails.of_eq ?_)
    unfold Mid26
    rw [if_pos hd]

/-! ## Starting the writes of the step before -/

theorem seg28 (hG : Holds xt cxs mus h0 G)
    (hk : Tri c iprop(WI c G (s.val + 11) ∗ MWI c G (s.val + 11)) rest Q) :
    Tri c iprop((CI c xt cxs mus h0 (s.val + 11) ∗ HOB c f0 (s.val + 11)) ∗ MCI c xt cxs mus h0 (s.val + 11) ∗ HOM c f0 (s.val + 11))
      (do
        if k0_h28 : k0_cond28 s = 1#1 then do
          let v1334 : BitVec 32 ← k0_part42 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 k0_h28
          if k0_h29 : k0_cond29 s = 1#1 then do
            let v1407 : DmaSems sig S1 := cc0_scratch17.slice (Rect.unit (s := S12) (k0_off163 s) S1.size (k0_off163_inb s k0_h28 k0_h29))
            let v1408 : DmaSems sig S_ := v1407.squeeze S_ squeezes_S1_S_
            let v1409 : Memref sig .tc .hbm S1x512x512 .f32 := (Memref.whole main_v1_0).slice (Rect.unit (s := S6x3072x3072) (k0_off164 s) S1x512x512.size (k0_off164_inb s k0_h28 k0_h29)) (fun _ => rfl)
            let v1410 : Memref sig .tc .hbm S512x512 .f32 := v1409.squeeze S512x512 squeezes_S1x512x512_S512x512
            let v1411 : Memref sig .tc .vmem S1x512x512 .f32 := (Memref.whole cc0_scratch13).slice (Rect.unit (s := S12x512x512) (k0_off165 s) S1x512x512.size (k0_off165_inb s k0_h28 k0_h29)) (fun _ => rfl)
            let v1412 : Memref sig .tc .vmem S512x512 .f32 := v1411.squeeze S512x512 squeezes_S1x512x512_S512x512
            Prog.lift (.enqueueDma v1412 (.here v1410) (.dma v1408.sem) ((View.wordExact_bits rfl).reshape _ _) ((View.wordExact_bits rfl).reshape _ _) ⟨Or.inl rfl, trivial⟩)
            pure ⟨⟩
          else do
            pure ⟨⟩
          pure ⟨⟩
        else do
          pure ⟨⟩
        rest : Prog (TpuEff nD τ sig (Elt F) Λ₀ .tc) α) Q := by
  dsimp only
  have hs := s_lt s
  refine tri_ite (fun hc => ?_) (fun hc => ?_)
  · have h1 := (cond28_iff s).1 hc
    have e : s.val + 11 - 12 = s.val - 1 := by omega
    rw [k0_part42_eq_skeleton]
    unfold k0_part42_skel
    simp only [bind_assoc, pure_bind]
    refine tri_skip (B := iprop((Slot c ((s.val - 1) % 24) (CT xt cxs mus h0 (s.val - 1)) ∗ hoB c f0 (s.val - 1) ∗ Sem0 c (wrS ((s.val - 1) % 24))) ∗ Sem0 c (rdS ((s.val - 1) % 24))
        ∗ MCI c xt cxs mus h0 (s.val + 11) ∗ HOM c f0 (s.val + 11)))
      (tri_seq (tri_wr (f0 := f0) (t := s.val - 1) (by omega) (hG.direct _ (by omega)) (off160_eq s h1) (off162_eq s h1) (off161_eq s h1)) fun _ =>
        tri_skip (B := iprop(WI c G (s.val + 11) ∗ MCI c xt cxs mus h0 (s.val + 11) ∗ HOM c f0 (s.val + 11))) ?_ ?_) ?_
    · refine tri_ite (fun hc' => ?_) (fun hc' => ?_)
      · have hd := (cond29_iff s h1).1 hc'
        refine tri_skip (B := iprop((MSlot c ((s.val - 1) % 12) (CT xt cxs mus h0 (s.val - 1)) ∗ hoM c f0 (s.val - 1) ∗ Sem0 c (mrS ((s.val - 1) % 12))) ∗ WI c G (s.val + 11)))
          (tri_seq (tri_mr (f0 := f0) (t := s.val - 1) (by omega) (hG.mirror _ (by omega) hd) (off163_eq s h1) (off165_eq s h1) (off164_eq s h1)) fun _ => tri_skip hk ?_) ?_
        · unfold MWI
          rw [e, if_pos ⟨by omega, hd⟩]
          iintro ⟨H1, H2⟩
          isplitl [H2]; · iexact H2
          iexact H1
        · unfold MCI HOM
          rw [e, if_pos ⟨by omega, hd⟩, if_pos ⟨by omega, hd⟩]
          iintro ⟨H1, ⟨H2, H3⟩, H4⟩
          isplitr [H1]
          · isplitl [H2]; · iexact H2
            isplitl [H4]; · iexact H4
            iexact H3
          iexact H1
      · have hd : dg (s.val - 1) := by by_contra h; exact hc' ((cond29_iff s h1).2 h)
        refine tri_skip hk ?_
        unfold MCI HOM MWI
        rw [e, if_neg fun h => h.2 hd, if_neg fun h => h.2 hd, if_neg fun h => h.2 hd]
        iintro ⟨H1, H2, -⟩
        isplitl [H1]; · iexact H1
        iexact H2
    · unfold WI
      rw [e, if_pos (by omega)]
      iintro ⟨H1, H2, H3⟩
      isplitl [H1 H2]
      · isplitl [H1]; · iexact H1
        iexact H2
      iexact H3
    · unfold CI HOB
      rw [e, if_pos (by omega), if_pos (by omega)]
      iintro ⟨⟨⟨H1, H2, H3⟩, H4⟩, H5⟩
      isplitr [H2 H5]
      · isplitl [H1]; · iexact H1
        isplitl [H4]; · iexact H4
        iexact H3
      isplitl [H2]; · iexact H2
      iexact H5
  · have h1 : ¬ 1 ≤ s.val := fun h => hc ((cond28_iff s).2 h)
    refine tri_skip hk ?_
    unfold CI HOB WI MCI HOM MWI
    rw [if_neg (by omega), if_neg (by omega), if_neg (by omega), if_neg (by omega), if_neg (by omega), if_neg (by omega)]
    iintro ⟨⟨H1, -⟩, H2, -⟩
    isplitl [H1]; · iexact H1
    iexact H2

/-! ## Waiting for the writes of twelve steps before -/

theorem seg30
    (hk : Tri c iprop((Free c ((s.val + 12) % 24) ∗ HOB c G s.val) ∗ OW c) rest Q) :
    Tri c iprop(WI c G s.val ∗ OW c)
      (do
        if k0_h30 : k0_cond30 s = 1#1 then do
          k0_part43 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 s arg28 k0_h30
          pure ⟨⟩
        else do
          pure ⟨⟩
        rest : Prog (TpuEff nD τ sig (Elt F) Λ₀ .tc) α) Q := by
  dsimp only
  refine tri_ite (fun hc => ?_) (fun hc => ?_)
  · have h1 := (cond30_iff s).1 hc
    rw [k0_part43_eq_skeleton]
    unfold k0_part43_skel
    simp only [bind_assoc, pure_bind]
    refine tri_skip (B := iprop((WrF c G (s.val - 12) ∗ OW c) ∗ Sem0 c (rdS ((s.val - 12) % 24)))) (tri_seq (tri_wrw (off166_eq s h1)) fun _ => tri_skip hk ?_) ?_
    · unfold HOB Free
      rw [if_pos h1, show (s.val - 12) % 24 = (s.val + 12) % 24 by omega]
      iintro ⟨⟨⟨H1, H2⟩, H3, H4⟩, H5⟩
      isplitr [H4]
      · isplitr [H1]
        · isplitl [H2]; · iexact H2
          isplitl [H5]; · iexact H5
          iexact H3
        iexact H1
      iexact H4
    · unfold WI
      rw [if_pos h1]
      iintro ⟨⟨H1, H2⟩, H3⟩
      isplitl [H1 H3]
      · isplitl [H1]; · iexact H1
        iexact H3
      iexact H2
  · have h1 : ¬ 12 ≤ s.val := fun h => hc ((cond30_iff s).2 h)
    refine tri_skip hk ?_
    unfold WI HOB
    rw [if_neg h1, if_neg h1]
    iintro ⟨H1, H2⟩
    isplitr [H2]
    · isplitl [H1]; · iexact H1
      iempintro
    iexact H2

theorem seg34
    (hk : Tri c iprop((MFree c (s.val % 12) ∗ HOM c G s.val) ∗ OW c) rest Q) :
    Tri c iprop(MWI c G s.val ∗ OW c)
      (do
        if k0_h34 : k0_cond34 s = 1#1 then do
          if k0_h35 : k0_cond35 s = 1#1 then do
            let v1371 : DmaSems sig S1 := cc0_scratch17.slice (Rect.unit (s := S12) (k0_off181 s) S1.size (k0_off181_inb s k0_h34 k0_h35))
            let v1372 : DmaSems sig S_ := v1371.squeeze S_ squeezes_S1_S_
            let v1373 : Memref sig .tc .hbm S1x512x512 .f32 := (Memref.whole main_v1_0).slice (Rect.unit (s := S6x3072x3072) (k0_off182 s) S1x512x512.size (k0_off182_inb s k0_h34 k0_h35)) (fun _ => rfl)
            let v1374 : Memref sig .tc .hbm S512x512 .f32 := v1373.squeeze S512x512 squeezes_S1x512x512_S512x512
            let v1375 : Memref sig .tc .vmem S1x512x512 .f32 := (Memref.whole cc0_scratch13).slice (Rect.unit (s := S12x512x512) (k0_off183 s) S1x512x512.size (k0_off183_inb s k0_h34 k0_h35)) (fun _ => rfl)
            let v1376 : Memref sig .tc .vmem S512x512 .f32 := v1375.squeeze S512x512 squeezes_S1x512x512_S512x512
            Prog.lift (.waitDma2 v1372.sem v1376 v1374 ((View.wordExact_bits rfl).reshape _ _) ((View.wordExact_bits rfl).reshape _ _))
            pure ⟨⟩
          else do
            pure ⟨⟩
          pure ⟨⟩
        else do
          pure ⟨⟩
        rest : Prog (TpuEff nD τ sig (Elt F) Λ₀ .tc) α) Q := by
  dsimp only
  refine tri_ite (fun hc => ?_) (fun hc => ?_)
  · have h1 := (cond34_iff s).1 hc
    refine tri_ite (fun hc' => ?_) (fun hc' => ?_)
    · have hd := (cond35_iff s h1).1 hc'
      refine tri_skip (B := iprop((MrF c G (s.val - 12) ∗ OW c) ∗ emp)) (tri_seq (tri_mrw (off181_eq s h1)) fun _ => tri_skip hk ?_) ?_
      · unfold HOM MFree
        rw [if_pos ⟨h1, hd⟩, show (s.val - 12) % 12 = s.val % 12 by omega]
        iintro ⟨⟨⟨H1, H2⟩, H3, H4⟩, -⟩
        isplitr [H4]
        · isplitr [H1]
          · isplitl [H2]; · iexact H2
            iexact H3
          iexact H1
        iexact H4
      · unfold MWI
        rw [if_pos ⟨h1, hd⟩]
        iintro ⟨H1, H2⟩
        isplitl [H1 H2]
        · isplitl [H1]; · iexact H1
          iexact H2
        iempintro
    · have hd : dg (s.val - 12) := by by_contra h; exact hc' ((cond35_iff s h1).2 h)
      refine tri_skip hk ?_
      unfold MWI HOM
      rw [if_neg fun h => h.2 hd, if_neg fun h => h.2 hd]
      iintro ⟨H1, H2⟩
      isplitr [H2]
      · isplitl [H1]; · iexact H1
        iempintro
      iexact H2
  · have h1 : ¬ 12 ≤ s.val := fun h => hc ((cond34_iff s).2 h)
    refine tri_skip hk ?_
    unfold MWI HOM
    rw [if_neg fun h => h1 h.1, if_neg fun h => h1 h.1]
    iintro ⟨H1, H2⟩
    isplitr [H2]
    · isplitl [H1]; · iexact H1
      iempintro
    iexact H2

/-! ## Starting a read twelve steps ahead -/

set_option maxHeartbeats 2000000 in
theorem seg31
    (hk : Tri c (RI c h0 (s.val + 24)) rest Q) :
    Tri c iprop(Free c ((s.val + 12) % 24) ∗ HIN c h0 (s.val + 12))
      (do
        if k0_h31 : k0_cond31 s = 1#1 then do
          let v1334 : BitVec 32 := Scalar.addi arg28 12#32
          if k0_h32 : k0_cond32 s = 1#1 then do
            let ⟨v1345, v1379, c128_i32_834⟩ : Σ' (v1345 : BitVec 32) (v1379 : BitVec 32), BitVec 32 ← k0_part44 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 v1334
            let ⟨v1411, v1412, v1417⟩ : Σ' (v1411 : BitVec 32) (v1412 : BitVec 32), BitVec 1 ← k0_part45 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 v1334 v1345 v1379 c128_i32_834
            let ⟨v1449, v1450, v1455⟩ : Σ' (v1449 : BitVec 32) (v1450 : BitVec 32), BitVec 1 ← k0_part46 (F := F) (Memref.whole main_arg0) (Memref.isWhole_whole _) (Memref.whole main_v0) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15 cc0_scratch16 cc0_scratch17 cc0_scratch18 v1334 v1345 v1411 v1412 v1417
            let v1458 : DmaSems sig S1 := cc0_scratch15.slice (Rect.unit (s := S24) (k0_off169 s) S1.size (k0_off169_inb s k0_h31 k0_h32))
            let v1459 : DmaSems sig S_ := v1458.squeeze S_ squeezes_S1_S_
            let v1460 : Memref sig .tc .vmem S1x128x512 .f32 := (Memref.whole cc0_scratch12).slice (Rect.unit (s := S24x512x512) (k0_off170 s) S1x128x512.size (k0_off170_inb s k0_h31 k0_h32)) (fun _ => rfl)
            let v1461 : Memref sig .tc .vmem S128x512 .f32 := v1460.squeeze S128x512 squeezes_S1x128x512_S128x512
            let v1462 : Memref sig .tc .hbm S1x128x512 .f32 := (Memref.whole main_arg3).slice (Rect.unit (s := S6x3072x3072) (k0_off171 s) S1x128x512.size (k0_off171_inb s k0_h31 k0_h32)) (fun _ => rfl)
            let v1463 : Memref sig .tc .hbm S128x512 .f32 := v1462.squeeze S128x512 squeezes_S1x128x512_S128x512
            Prog.lift (.enqueueDma v1463 (.here v1461) (.dma v1459.sem) ((View.wordExact_bits rfl).reshape _ _) ((View.wordExact_bits rfl).reshape _ _) ⟨Or.inl rfl, trivial⟩)
            let v1464 : DmaSems sig S1 := cc0_scratch15.slice (Rect.unit (s := S24) (k0_off169 s) S1.size (k0_off169_inb s k0_h31 k0_h32))
            let v1465 : DmaSems sig S_ := v1464.squeeze S_ squeezes_S1_S_
            let v1466 : Memref sig .tc .vmem S1x128x384 .f32 := (Memref.whole cc0_scratch12).slice (Rect.unit (s := S24x512x512) (k0_off172 s) S1x128x384.size (k0_off172_inb s k0_h31 k0_h32)) (fun _ => rfl)
            let v1467 : Memref sig .tc .vmem S128x384 .f32 := v1466.squeeze S128x384 squeezes_S1x128x384_S128x384
            let v1468 : Memref sig .tc .hbm S1x128x384 .f32 := (Memref.whole main_arg3).slice (Rect.unit (s := S6x3072x3072) (k0_off173 s) S1x128x384.size (k0_off173_inb s k0_h31 k0_h32)) (fun _ => rfl)
            let v1469 : Memref sig .tc .hbm S128x384 .f32 := v1468.squeeze S128x384 squeezes_S1x128x384_S128x384
            Prog.lift (.enqueueDma v1469 (.here v1467) (.dma v1465.sem) ((View.wordExact_bits rfl).reshape _ _) ((View.wordExact_bits rfl).reshape _ _) ⟨Or.inl rfl, trivial⟩)
            let v1470 : DmaSems sig S1 := cc0_scratch15.slice (Rect.unit (s := S24) (k0_off169 s) S1.size (k0_off169_inb s k0_h31 k0_h32))
            let v1471 : DmaSems sig S_ := v1470.squeeze S_ squeezes_S1_S_
            let v1472 : Memref sig .tc .vmem S1x128x256 .f32 := (Memref.whole cc0_scratch12).slice (Rect.unit (s := S24x512x512) (k0_off174 s) S1x128x256.size (k0_off174_inb s k0_h31 k0_h32)) (fun _ => rfl)
            let v1473 : Memref sig .tc .vmem S128x256 .f32 := v1472.squeeze S128x256 squeezes_S1x128x256_S128x256
            let v1474 : Memref sig .tc .hbm S1x128x256 .f32 := (Memref.whole main_arg3).slice (Rect.unit (s := S6x3072x3072) (k0_off175 s) S1x128x256.size (k0_off175_inb s k0_h31 k0_h32)) (fun _ => rfl)
            let v1475 : Memref sig .tc .hbm S128x256 .f32 := v1474.squeeze S128x256 squeezes_S1x128x256_S128x256
            Prog.lift (.enqueueDma v1475 (.here v1473) (.dma v1471.sem) ((View.wordExact_bits rfl).reshape _ _) ((View.wordExact_bits rfl).reshape _ _) ⟨Or.inl rfl, trivial⟩)
            let v1476 : DmaSems sig S1 := cc0_scratch15.slice (Rect.unit (s := S24) (k0_off169 s) S1.size (k0_off169_inb s k0_h31 k0_h32))
            let v1477 : DmaSems sig S_ := v1476.squeeze S_ squeezes_S1_S_
            let v1478 : Memref sig .tc .vmem S1x128x128 .f32 := (Memref.whole cc0_scratch12).slice (Rect.unit (s := S24x512x512) (k0_off176 s) S1x128x128.size (k0_off176_inb s k0_h31 k0_h32)) (fun _ => rfl)
            let v1479 : Memref sig .tc .vmem S128x128 .f32 := v1478.squeeze S128x128 squeezes_S1x128x128_S128x128
            let v1480 : Memref sig .tc .hbm S1x128x128 .f32 := (Memref.whole main_arg3).slice (Rect.unit (s := S6x3072x3072) (k0_off177 s) S1x128x128.size (k0_off177_inb s k0_h31 k0_h32)) (fun _ => rfl)
            let v1481 : Memref sig .tc .hbm S128x128 .f32 := v1480.squeeze S128x128 squeezes_S1x128x128_S128x128
            Prog.lift (.enqueueDma v1481 (.here v1479) (.dma v1477.sem) ((View.wordExact_bits rfl).reshape _ _) ((View.wordExact_bits rfl).reshape _ _) ⟨Or.inl rfl, trivial⟩)
            pure ⟨⟩
          else do
            pure ⟨⟩
          if k0_h33 : k0_cond33 s = 1#1 then do
            let v1373 : DmaSems sig S1 := cc0_scratch15.slice (Rect.unit (s := S24) (k0_off178 s) S1.size (k0_off178_inb s k0_h31 k0_h33))
            let v1374 : DmaSems sig S_ := v1373.squeeze S_ squeezes_S1_S_
            let v1375 : Memref sig .tc .vmem S1x512x512 .f32 := (Memref.whole cc0_scratch12).slice (Rect.unit (s := S24x512x512) (k0_off179 s) S1x512x512.size (k0_off179_inb s k0_h31 k0_h33)) (fun _ => rfl)
            let v1376 : Memref sig .tc .vmem S512x512 .f32 := v1375.squeeze S512x512 squeezes_S1x512x512_S512x512
            let v1377 : Memref sig .tc .hbm S1x512x512 .f32 := (Memref.whole main_arg3).slice (Rect.unit (s := S6x3072x3072) (k0_off180 s) S1x512x512.size (k0_off180_inb s k0_h31 k0_h33)) (fun _ => rfl)
            let v1378 : Memref sig .tc .hbm S512x512 .f32 := v1377.squeeze S512x512 squeezes_S1x512x512_S512x512
            Prog.lift (.enqueueDma v1378 (.here v1376) (.dma v1374.sem) ((View.wordExact_bits rfl).reshape _ _) ((View.wordExact_bits rfl).reshape _ _) ⟨Or.inl rfl, trivial⟩)
            pure ⟨⟩
          else do
            pure ⟨⟩
          pure ⟨⟩
        else do
          pure ⟨⟩
        rest : Prog (TpuEff nD τ sig (Elt F) Λ₀ .tc) α) Q := by
  dsimp only
  refine tri_ite (fun hc => ?_) (fun hc => ?_)
  · have h1 := (cond31_iff s).1 hc
    have hk' : Tri c iprop(RdF c h0 (s.val + 12) ∗ Sem0 c (wrS ((s.val + 12) % 24))) rest Q := by
      rw [show s.val + 24 = s.val + 12 + 12 from rfl, RI_at h1] at hk
      exact hk
    rcases Classical.em (dg (s.val + 12)) with hd | hd
    · have h33 : ¬ k0_cond33 s = 1#1 := fun h => (cond33_iff s).1 h hd
      rw [dif_pos ((cond32_iff s).2 hd)]
      simp only [dif_neg h33, k0_part44_eq_skeleton, k0_part45_eq_skeleton, k0_part46_eq_skeleton]
      unfold k0_part44_skel k0_part45_skel k0_part46_skel
      simp only [bind_assoc, pure_bind]
      refine tri_skip (B := iprop((hinB c h0 (s.val + 12) ∗ SlotAny c ((s.val + 12) % 24) ∗ Sem0 c (rdS ((s.val + 12) % 24))) ∗ Sem0 c (wrS ((s.val + 12) % 24)))) ?_ ?_
      · exact tri_rd_dg_f (h0 := h0) h1 hd (off169_eq s) (off169_eq s) (off169_eq s) (off169_eq s) (off170_eq s) (off172_eq s) (off174_eq s) (off176_eq s)
          (off171_eq s h1) (off173_eq s h1) (off175_eq s h1) (off177_eq s h1) hk'
      · unfold HIN Free
        rw [if_pos h1]
        iintro ⟨⟨H1, H2, H3⟩, H4⟩
        isplitr [H3]
        · isplitl [H4]; · iexact H4
          isplitl [H1]; · iexact H1
          iexact H2
        iexact H3
    · rw [dif_neg fun h => hd ((cond32_iff s).1 h), dif_pos ((cond33_iff s).2 hd)]
      refine tri_skip (B := iprop((hinB c h0 (s.val + 12) ∗ SlotAny c ((s.val + 12) % 24) ∗ Sem0 c (rdS ((s.val + 12) % 24))) ∗ Sem0 c (wrS ((s.val + 12) % 24)))) ?_ ?_
      · exact tri_seq (tri_rd_off (h0 := h0) h1 hd (off178_eq s) (off179_eq s) (off180_eq s h1)) fun _ => hk'
      · unfold HIN Free
        rw [if_pos h1]
        iintro ⟨⟨H1, H2, H3⟩, H4⟩
        isplitr [H3]
        · isplitl [H4]; · iexact H4
          isplitl [H1]; · iexact H1
          iexact H2
        iexact H3
  · have h1 : ¬ s.val + 12 < 126 := fun h => hc ((cond31_iff s).2 h)
    refine tri_skip hk ?_
    unfold HIN RI
    rw [if_neg h1, if_neg (by omega), show (s.val + 24 + 12) % 24 = (s.val + 12) % 24 by omega]
    iintro ⟨H1, -⟩
    iexact H1
end

end Cert.KernelIdeal.Hand

end
-- ==== Proof.KernelIdeal.Setup.lean ====
module

public import proofs.«01_k».proof.Proof.KernelIdeal.Segs

/-! An expert's set-up: the window's rows of the activations, and the two factors. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- A buffer is the whole of itself. -/
theorem iw {κ} (b : Ref sig κ) : (Memref.whole b).IsWhole := Memref.isWhole_whole b

variable {c : Dev nD}

/-- Half a share of elements `S` of a buffer at the contents `f`. -/
abbrev PtH (c : Dev nD) {sp : Space} {s : Shape} {e : EltTy} (M : Memref sig .tc sp s e)
    (S : Finset (Idx (M.view.loc (c : Thread nD τ)))) (f : Buf (Elt F) (M.view.loc (c : Thread nD τ))) : sProp (MM F) :=
  (M.view.loc (c : Thread nD τ) ↦[S]{fullShare.left} f)

theorem tri_smemH {α : Type} {s : Shape} {e : EltTy} {M : Memref sig .tc .smem s e} {r : Rect s} {h1 : r.shape.numel = 1} {hp : e.packing = 1} {S : Finset (Idx (M.view.loc (c : Thread nD τ)))} {f : Buf (Elt F) (M.view.loc (c : Thread nD τ))} {P : sProp (MM F)}
    {k : Elt F e → Prog (TpuEff nD τ sig (Elt F) Λ₀ .tc) α} {Q : α → sProp (MM F)}
    (hS : (M.access r).set ⊆ S) (hP : P ⊢ iprop(PtH c M S f ∗ (PtH c M S f -∗ P)))
    (hk : Tri c P (k ((M.access r).read (Elt F) f (Shape.Idx.first (h1.symm ▸ Nat.one_pos)))) Q) : Tri c P (smemLoad M r h1 hp >>= k) Q := by
  show P ⊢ wp frame (wpE (defs₀ (F := F)) Variants.none (c : Thread nD τ) none) Set.univ
    (.op (.load M r.toLoadRect _) fun g => k (g (Shape.Idx.first (h1.symm ▸ Nat.one_pos)))) Q
  refine hP.trans ?_
  iintro ⟨H, H'⟩
  iapply (wp_load_rect Variants.none (c : Thread nD τ) none Set.univ (m := M) (r := r)
    (k := fun g => k (g (Shape.Idx.first (h1.symm ▸ Nat.one_pos)))) (S := S) (f := f) (q := fullShare.left) hS) $$ H
  iintro H
  ihave HP := H' $$ H
  iapply hk $$ HP

/-- An entry of a list of numbers. -/
def at1 {n : ℕ} (hn : 0 < n) (f : (⟨1, ![n]⟩ : Shape).Idx → Elt F .i32) (e : ℕ) : Elt F .i32 := f (ix1 (n := n) ⟨e % n, Nat.mod_lt _ hn⟩)

/-- The weighted activations of expert `e`. -/
def cxOf (rt : S8x128.Idx → Elt F .i32) (off : S7.Idx → Elt F .i32) (xd : S256x3072.Idx → Elt F .bf16) (e : ℕ) : S256x3072.Idx → Elt F .bf16 :=
  k0_pay4 (k0_pay1 (at1 (n := 7) (by norm_num) off e) (at1 (n := 7) (by norm_num) off (e + 1)) rt) (iota .tc S256x128 32 [0] iota_S256x128_d0_w32)
    (k0_pay2 (at1 (n := 7) (by norm_num) off e) (at1 (n := 7) (by norm_num) off (e + 1)) rt)
    (k0_pay3 (at1 (n := 7) (by norm_num) off e) (at1 (n := 7) (by norm_num) off (e + 1)) rt) xd

/-- Row `r` of the factors replaced. -/
def upR (r : ℕ) (f : S2x512.Idx → Elt F .f32) (v : S1x512.Idx → Elt F .f32) (x : S2x512.Idx) : Elt F .f32 :=
  if (x 0).val = r then v (ix2 (n0 := 1) (n1 := 512) 0 (x 1)) else f x

/-- The two factors of expert `e`: how much of the sum so far, and how much of the new products. -/
def muOf (cn co : S6.Idx → Elt F .i32) (e : ℕ) (x : S2x512.Idx) : Elt F .f32 :=
  if (x 0).val = 1 then k0_pay34 (at1 (n := 6) (by norm_num) co e) (ix2 (n0 := 1) (n1 := 512) 0 (x 1))
  else k0_pay33 (at1 (n := 6) (by norm_num) co e) (at1 (n := 6) (by norm_num) cn e) (ix2 (n0 := 1) (n1 := 512) 0 (x 1))

theorem read_smem7 {f : S7.Idx → Elt F .i32} {o : Fin 1 → ℕ} {e : ℕ} {h} (ho : o = ![e]) (i : (Rect.unit (s := S7) o S1.size h).shape.Idx) :
    (mOffs.access (Rect.unit (s := S7) o S1.size h)).read (Elt F) f i = at1 (n := 7) (by norm_num) f e := by
  subst ho
  show f _ = f _
  congr 1
  funext a
  apply Fin.ext
  have h0 := h 0
  have hx : (i 0).val < 1 := (i 0).isLt
  simp at h0
  match a with
  | ⟨0, _⟩ => show e + 1 * (i 0).val = e % 7; omega

theorem read_cnts {f : S6.Idx → Elt F .i32} {o : Fin 1 → ℕ} {e : ℕ} {h} (ho : o = ![e]) (i : (Rect.unit (s := S6) o S1.size h).shape.Idx) :
    (mCnts.access (Rect.unit (s := S6) o S1.size h)).read (Elt F) f i = at1 (n := 6) (by norm_num) f e := by
  subst ho
  show f _ = f _
  congr 1
  funext a
  apply Fin.ext
  have h0 := h 0
  have hx : (i 0).val < 1 := (i 0).isLt
  simp at h0
  match a with
  | ⟨0, _⟩ => show e + 1 * (i 0).val = e % 6; omega

theorem read_cos {f : S6.Idx → Elt F .i32} {o : Fin 1 → ℕ} {e : ℕ} {h} (ho : o = ![e]) (i : (Rect.unit (s := S6) o S1.size h).shape.Idx) :
    (mCos.access (Rect.unit (s := S6) o S1.size h)).read (Elt F) f i = at1 (n := 6) (by norm_num) f e := read_cnts (f := f) ho i

theorem read_rtv {f : S8x128.Idx → Elt F .i32} {h} : (mRtv.access (Rect.unit (s := S8x128) ![0, 0] S8x128.size h)).read (Elt F) f = f := by
  funext x
  show f _ = f _
  congr 1
  funext a
  apply Fin.ext
  match a with
  | ⟨0, _⟩ => show 0 + 1 * (x 0).val = (x 0).val; omega
  | ⟨1, _⟩ => show 0 + 1 * (x 1).val = (x 1).val; omega

theorem read_xd {f : S256x3072.Idx → Elt F .bf16} {h} : (mXd.access (Rect.unit (s := S256x3072) ![0, 0] S256x3072.size h)).read (Elt F) f = f := by
  funext x
  show f _ = f _
  congr 1
  funext a
  apply Fin.ext
  match a with
  | ⟨0, _⟩ => show 0 + 1 * (x 0).val = (x 0).val; omega
  | ⟨1, _⟩ => show 0 + 1 * (x 1).val = (x 1).val; omega

theorem write_cxd {f v : S256x3072.Idx → Elt F .bf16} {h} (y : S256x3072.Idx) :
    (mCxd.access (Rect.unit (s := S256x3072) ![0, 0] S256x3072.size h)).write (Elt F) f v Finset.univ y = v y := by
  have e : y = (mCxd.access (Rect.unit (s := S256x3072) ![0, 0] S256x3072.size h)).emb y := by
    funext a
    apply Fin.ext
    match a with
    | ⟨0, _⟩ => show (y 0).val = 0 + 1 * (y 0).val; omega
    | ⟨1, _⟩ => show (y 1).val = 0 + 1 * (y 1).val; omega
  conv_lhs => rw [e]
  rw [View.write_emb_of_mem _ _ (Finset.mem_univ _)]
  rfl

theorem write_mul {f : S2x512.Idx → Elt F .f32} {v : S1x512.Idx → Elt F .f32} (r : ℕ) {h} (y : S2x512.Idx) :
    (mMul.access (Rect.unit (s := S2x512) ![r, 0] S1x512.size h)).write (Elt F) f v Finset.univ y = upR r f v y := by
  unfold upR
  split_ifs with hc
  · have e : y = (mMul.access (Rect.unit (s := S2x512) ![r, 0] S1x512.size h)).emb (ix2 (n0 := 1) (n1 := 512) 0 (y 1)) := by
      funext a
      apply Fin.ext
      match a with
      | ⟨0, _⟩ => show (y 0).val = r + 1 * 0; omega
      | ⟨1, _⟩ => show (y 1).val = 0 + 1 * (y 1).val; omega
    conv_lhs => rw [e]
    rw [View.write_emb_of_mem _ _ (Finset.mem_univ _)]
    rfl
  · rw [View.write_of_not_mem]
    rw [View.setOn_univ]
    intro hm
    obtain ⟨x, -, hx⟩ := Finset.mem_map.1 hm
    apply hc
    rw [← hx]
    show r + 1 * (x 0).val = r
    have : (x 0).val < 1 := (x 0).isLt
    omega

/-- The scratch a step only reads. -/
def FX (c : Dev nD) (rt : S8x128.Idx → Elt F .i32) (off : S7.Idx → Elt F .i32) (cn co : S6.Idx → Elt F .i32) (xd : S256x3072.Idx → Elt F .bf16) : sProp (MM F) :=
  iprop(Pt c mRtv Finset.univ rt ∗ Pt c mOffs Finset.univ off ∗ Pt c mCnts Finset.univ cn ∗ PtH c mCos Finset.univ co ∗ Pt c mXd Finset.univ xd)

variable {xt : S3072x256.Idx → Elt F .bf16} {rt : S8x128.Idx → Elt F .i32} {off : S7.Idx → Elt F .i32} {cn co : S6.Idx → Elt F .i32} {xd : S256x3072.Idx → Elt F .bf16}

/-- An expert's contents before step `s`: the expert's own, or nothing yet where `s` is its first. -/
def CxP (c : Dev nD) (xt : S3072x256.Idx → Elt F .bf16) (cxs : ℕ → S256x3072.Idx → Elt F .bf16) (mus : ℕ → S2x512.Idx → Elt F .f32) (s : ℕ) : sProp (MM F) :=
  if s % 21 = 0 then iprop(∃ (cx : S256x3072.Idx → Elt F .bf16) (mu : S2x512.Idx → Elt F .f32), Pt c mXdt Finset.univ xt ∗ Pt c mCxd Finset.univ cx ∗ Pt c mMul Finset.univ mu)
  else Cxm c xt cxs mus (s / 21)

section
variable {α : Type} {rest : Prog (TpuEff nD τ sig (Elt F) Λ₀ .tc) α} {Q : α → sProp (MM F)} (s : Fin k0_t1_loop.trips) (v1291 : BitVec 32)

set_option maxHeartbeats 1000000 in
theorem seg25
    (hk : Tri c iprop(FX c rt off cn co xd ∗ Cxm c xt (cxOf rt off xd) (muOf cn co) (s.val / 21)) rest Q) :
    Tri c iprop(FX c rt off cn co xd ∗ CxP c xt (cxOf rt off xd) (muOf cn co) s.val)
      (do
        if k0_h25 : k0_cond25 s = 1#1 then do
          let ⟨v1354, v1355, v1377, v1379⟩ : Σ' (v1354 : Vec F S8x128 .i32) (v1355 : IVec S256x128 32) (v1377 : FVec F S256x128 .f32), IVec S256x128 32 ← k0_part37 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s v1291 k0_h25
          let v1423 : Elt F .i32 ← k0_part38 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s v1291 k0_h25 v1354 v1355 v1377 v1379
          let v1427 : Elt F .i32 ← smemLoad (Memref.whole cc0_scratch3) (Rect.unit (s := S6) (k0_off147 s) S1.size (k0_off147_inb s k0_h25)) numel1_S1 rfl
          let v1431 : Vec F S1x512 .f32 ← Prog.lift (.load (Memref.whole cc0_scratch11) (Rect.unit (s := S2x512) ![0, 0] S1x512.size inb_S2x512_S1x512_0_0).toLoadRect (View.loadsAt_vmem h_S1x512))
          Prog.lift (.store (Memref.whole cc0_scratch11) (Rect.unit (s := S2x512) ![0, 0] S1x512.size inb_S2x512_S1x512_0_0) (k0_pay33 v1423 v1427) Finset.univ (View.stores_vmem_bits_univ h_S1x512 rfl) (.inl rfl))
          let v1436 : Vec F S1x512 .f32 ← Prog.lift (.load (Memref.whole cc0_scratch11) (Rect.unit (s := S2x512) ![1, 0] S1x512.size inb_S2x512_S1x512_1_0).toLoadRect (View.loadsAt_vmem h_S1x512))
          Prog.lift (.store (Memref.whole cc0_scratch11) (Rect.unit (s := S2x512) ![1, 0] S1x512.size inb_S2x512_S1x512_1_0) (k0_pay34 v1423) Finset.univ (View.stores_vmem_bits_univ h_S1x512 rfl) (.inl rfl))
          pure ⟨⟩
        else do
          pure ⟨⟩
        rest : Prog (TpuEff nD τ sig (Elt F) Λ₀ .tc) α) Q := by
  dsimp only
  refine tri_ite (fun hc => ?_) (fun hc => ?_)
  · have h0 := (cond25_iff s).1 hc
    rw [k0_part37_eq_skeleton, k0_part38_eq_skeleton]
    unfold k0_part37_skel k0_part38_skel
    simp only [bind_assoc, pure_bind]
    unfold CxP
    rw [if_pos h0]
    refine tri_skip (B := iprop(∃ cx : S256x3072.Idx → Elt F .bf16, ∃ mu : S2x512.Idx → Elt F .f32, FX c rt off cn co xd ∗ Pt c mXdt Finset.univ xt ∗ Pt c mCxd Finset.univ cx ∗ Pt c mMul Finset.univ mu)) ?_ ?_
    swap
    · iintro ⟨H, %cx, %mu, H'⟩
      iexists cx, mu
      isplitl [H]; · iexact H
      iexact H'
    refine tri_ex fun cx => tri_ex fun mu => ?_
    unfold FX
    refine tri_smem (M := mOffs) (Finset.subset_univ _) (f := off) (by
      iintro ⟨⟨Ha, Hb, Hc, Hd, He⟩, Hf, Hg, Hh⟩
      isplitl [Hb]; · iexact Hb
      iintro Hb
      isplitl [Ha Hb Hc Hd He]
      · isplitl [Ha]; · iexact Ha
        isplitl [Hb]; · iexact Hb
        isplitl [Hc]; · iexact Hc
        isplitl [Hd]; · iexact Hd
        iexact He
      isplitl [Hf]; · iexact Hf
      isplitl [Hg]; · iexact Hg
      iexact Hh) ?_
    rw [read_smem7 (off145_eq s)]
    refine tri_smem (M := mOffs) (Finset.subset_univ _) (f := off) (by
      iintro ⟨⟨Ha, Hb, Hc, Hd, He⟩, Hf, Hg, Hh⟩
      isplitl [Hb]; · iexact Hb
      iintro Hb
      isplitl [Ha Hb Hc Hd He]
      · isplitl [Ha]; · iexact Ha
        isplitl [Hb]; · iexact Hb
        isplitl [Hc]; · iexact Hc
        isplitl [Hd]; · iexact Hd
        iexact He
      isplitl [Hf]; · iexact Hf
      isplitl [Hg]; · iexact Hg
      iexact Hh) ?_
    rw [read_smem7 (off146_eq s)]
    refine tri_load (M := mRtv) (Finset.subset_univ _) (f := rt) (by
      iintro ⟨⟨Ha, Hb, Hc, Hd, He⟩, Hf, Hg, Hh⟩
      isplitl [Ha]; · iexact Ha
      iintro Ha
      isplitl [Ha Hb Hc Hd He]
      · isplitl [Ha]; · iexact Ha
        isplitl [Hb]; · iexact Hb
        isplitl [Hc]; · iexact Hc
        isplitl [Hd]; · iexact Hd
        iexact He
      isplitl [Hf]; · iexact Hf
      isplitl [Hg]; · iexact Hg
      iexact Hh) ?_
    rw [read_rtv]
    refine tri_load (M := mXd) (Finset.subset_univ _) (f := xd) (by
      iintro ⟨⟨Ha, Hb, Hc, Hd, He⟩, Hf, Hg, Hh⟩
      isplitl [He]; · iexact He
      iintro He
      isplitl [Ha Hb Hc Hd He]
      · isplitl [Ha]; · iexact Ha
        isplitl [Hb]; · iexact Hb
        isplitl [Hc]; · iexact Hc
        isplitl [Hd]; · iexact Hd
        iexact He
      isplitl [Hf]; · iexact Hf
      isplitl [Hg]; · iexact Hg
      iexact Hh) ?_
    rw [read_xd]
    refine tri_load (M := mCxd) (Finset.subset_univ _) (f := cx) (by
      iintro ⟨⟨Ha, Hb, Hc, Hd, He⟩, Hf, Hg, Hh⟩
      isplitl [Hg]; · iexact Hg
      iintro Hg
      isplitl [Ha Hb Hc Hd He]
      · isplitl [Ha]; · iexact Ha
        isplitl [Hb]; · iexact Hb
        isplitl [Hc]; · iexact Hc
        isplitl [Hd]; · iexact Hd
        iexact He
      isplitl [Hf]; · iexact Hf
      isplitl [Hg]; · iexact Hg
      iexact Hh) ?_
    refine tri_store (M := mCxd) (Finset.subset_univ _) (f := cx) (f' := cxOf rt off xd (s.val / 21)) (P' := iprop((Pt c mRtv Finset.univ rt ∗ Pt c mOffs Finset.univ off ∗ Pt c mCnts Finset.univ cn ∗ PtH c mCos Finset.univ co ∗ Pt c mXd Finset.univ xd) ∗ Pt c mXdt Finset.univ xt ∗ Pt c mCxd Finset.univ (cxOf rt off xd (s.val / 21)) ∗ Pt c mMul Finset.univ mu)) (fun y _ => write_cxd y) (by
      iintro ⟨⟨Ha, Hb, Hc, Hd, He⟩, Hf, Hg, Hh⟩
      isplitl [Hg]; · iexact Hg
      iintro Hg
      isplitl [Ha Hb Hc Hd He]
      · isplitl [Ha]; · iexact Ha
        isplitl [Hb]; · iexact Hb
        isplitl [Hc]; · iexact Hc
        isplitl [Hd]; · iexact Hd
        iexact He
      isplitl [Hf]; · iexact Hf
      isplitl [Hg]; · iexact Hg
      iexact Hh) ?_
    refine tri_smemH (M := mCos) (Finset.subset_univ _) (f := co) (by
      iintro ⟨⟨Ha, Hb, Hc, Hd, He⟩, Hf, Hg, Hh⟩
      isplitl [Hd]; · iexact Hd
      iintro Hd
      isplitl [Ha Hb Hc Hd He]
      · isplitl [Ha]; · iexact Ha
        isplitl [Hb]; · iexact Hb
        isplitl [Hc]; · iexact Hc
        isplitl [Hd]; · iexact Hd
        iexact He
      isplitl [Hf]; · iexact Hf
      isplitl [Hg]; · iexact Hg
      iexact Hh) ?_
    rw [read_cos (off147_eq s)]
    refine tri_smem (M := mCnts) (Finset.subset_univ _) (f := cn) (by
      iintro ⟨⟨Ha, Hb, Hc, Hd, He⟩, Hf, Hg, Hh⟩
      isplitl [Hc]; · iexact Hc
      iintro Hc
      isplitl [Ha Hb Hc Hd He]
      · isplitl [Ha]; · iexact Ha
        isplitl [Hb]; · iexact Hb
        isplitl [Hc]; · iexact Hc
        isplitl [Hd]; · iexact Hd
        iexact He
      isplitl [Hf]; · iexact Hf
      isplitl [Hg]; · iexact Hg
      iexact Hh) ?_
    rw [read_cnts (off147_eq s)]
    refine tri_load (M := mMul) (Finset.subset_univ _) (f := mu) (by
      iintro ⟨⟨Ha, Hb, Hc, Hd, He⟩, Hf, Hg, Hh⟩
      isplitl [Hh]; · iexact Hh
      iintro Hh
      isplitl [Ha Hb Hc Hd He]
      · isplitl [Ha]; · iexact Ha
        isplitl [Hb]; · iexact Hb
        isplitl [Hc]; · iexact Hc
        isplitl [Hd]; · iexact Hd
        iexact He
      isplitl [Hf]; · iexact Hf
      isplitl [Hg]; · iexact Hg
      iexact Hh) ?_
    refine tri_store (M := mMul) (Finset.subset_univ _) (f := mu) (f' := upR 0 mu (k0_pay33 (at1 (n := 6) (by norm_num) co (eOf s.val)) (at1 (n := 6) (by norm_num) cn (eOf s.val)))) (P' := iprop((Pt c mRtv Finset.univ rt ∗ Pt c mOffs Finset.univ off ∗ Pt c mCnts Finset.univ cn ∗ PtH c mCos Finset.univ co ∗ Pt c mXd Finset.univ xd) ∗ Pt c mXdt Finset.univ xt ∗ Pt c mCxd Finset.univ (cxOf rt off xd (s.val / 21)) ∗ Pt c mMul Finset.univ (upR 0 mu (k0_pay33 (at1 (n := 6) (by norm_num) co (eOf s.val)) (at1 (n := 6) (by norm_num) cn (eOf s.val)))))) (fun y _ => write_mul 0 y) (by
      iintro ⟨⟨Ha, Hb, Hc, Hd, He⟩, Hf, Hg, Hh⟩
      isplitl [Hh]; · iexact Hh
      iintro Hh
      isplitl [Ha Hb Hc Hd He]
      · isplitl [Ha]; · iexact Ha
        isplitl [Hb]; · iexact Hb
        isplitl [Hc]; · iexact Hc
        isplitl [Hd]; · iexact Hd
        iexact He
      isplitl [Hf]; · iexact Hf
      isplitl [Hg]; · iexact Hg
      iexact Hh) ?_
    refine tri_load (M := mMul) (Finset.subset_univ _) (f := upR 0 mu (k0_pay33 (at1 (n := 6) (by norm_num) co (eOf s.val)) (at1 (n := 6) (by norm_num) cn (eOf s.val)))) (by
      iintro ⟨⟨Ha, Hb, Hc, Hd, He⟩, Hf, Hg, Hh⟩
      isplitl [Hh]; · iexact Hh
      iintro Hh
      isplitl [Ha Hb Hc Hd He]
      · isplitl [Ha]; · iexact Ha
        isplitl [Hb]; · iexact Hb
        isplitl [Hc]; · iexact Hc
        isplitl [Hd]; · iexact Hd
        iexact He
      isplitl [Hf]; · iexact Hf
      isplitl [Hg]; · iexact Hg
      iexact Hh) ?_
    refine tri_store (M := mMul) (Finset.subset_univ _) (f := upR 0 mu (k0_pay33 (at1 (n := 6) (by norm_num) co (eOf s.val)) (at1 (n := 6) (by norm_num) cn (eOf s.val)))) (f' := muOf cn co (s.val / 21)) (P' := iprop((Pt c mRtv Finset.univ rt ∗ Pt c mOffs Finset.univ off ∗ Pt c mCnts Finset.univ cn ∗ PtH c mCos Finset.univ co ∗ Pt c mXd Finset.univ xd) ∗ Pt c mXdt Finset.univ xt ∗ Pt c mCxd Finset.univ (cxOf rt off xd (s.val / 21)) ∗ Pt c mMul Finset.univ (muOf cn co (s.val / 21)))) (fun y _ => ?_) (by
      iintro ⟨⟨Ha, Hb, Hc, Hd, He⟩, Hf, Hg, Hh⟩
      isplitl [Hh]; · iexact Hh
      iintro Hh
      isplitl [Ha Hb Hc Hd He]
      · isplitl [Ha]; · iexact Ha
        isplitl [Hb]; · iexact Hb
        isplitl [Hc]; · iexact Hc
        isplitl [Hd]; · iexact Hd
        iexact He
      isplitl [Hf]; · iexact Hf
      isplitl [Hg]; · iexact Hg
      iexact Hh) ?_
    · rw [write_mul 1 y]
      unfold upR muOf
      have hy : (y 0).val < 2 := (y 0).isLt
      by_cases h1 : (y 0).val = 1
      · rw [if_pos h1, if_pos h1]; rfl
      · rw [if_neg h1, if_neg h1, if_pos (by omega)]; rfl
    unfold FX Cxm at hk
    exact hk
  · have h0 : ¬ s.val % 21 = 0 := fun h => hc ((cond25_iff s).2 h)
    refine tri_skip hk ?_
    unfold CxP
    rw [if_neg h0]
end

end Cert.KernelIdeal.Hand

end
-- ==== Proof.KernelIdeal.Trip.lean ====
module

public import proofs.«01_k».proof.Proof.KernelIdeal.Setup

/-! A step: its stages in order. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable {c : Dev nD} {xt : S3072x256.Idx → Elt F .bf16} {cxs : ℕ → S256x3072.Idx → Elt F .bf16} {mus : ℕ → S2x512.Idx → Elt F .f32}
  {h0 f0 G : S6x3072x3072.Idx → Elt F .f32} {rt : S8x128.Idx → Elt F .i32} {off : S7.Idx → Elt F .i32} {cn co : S6.Idx → Elt F .i32} {xd : S256x3072.Idx → Elt F .bf16}

/-- A stage that goes on to any rest keeps what it does not touch. -/
theorem tri_cps {α : Type} {pr : Prog (TpuEff nD τ sig (Elt F) Λ₀ .tc) Unit → Prog (TpuEff nD τ sig (Elt F) Λ₀ .tc) Unit} {B P R : sProp (MM F)}
    {p rest : Prog (TpuEff nD τ sig (Elt F) Λ₀ .tc) α} {Q : α → sProp (MM F)}
    (h : ∀ (rest : Prog (TpuEff nD τ sig (Elt F) Λ₀ .tc) Unit) (Q : Unit → sProp (MM F)), Tri c B rest Q → Tri c P (pr rest) Q)
    (he : p = (pr (pure ⟨⟩) >>= fun _ => rest)) (hk : Tri c iprop(B ∗ R) rest Q) : Tri c iprop(P ∗ R) p Q := by
  rw [he]
  exact tri_seq (h _ (fun _ => B) (tri_pure .rfl)) fun _ => hk

section
variable {α : Type} {rest : Prog (TpuEff nD τ sig (Elt F) Λ₀ .tc) α} {Q : α → sProp (MM F)} (s : Fin k0_t1_loop.trips)

/-- Stage 25 of a step, with anything else kept. -/
theorem seg25_f (v1291 : BitVec 32) {R : sProp (MM F)} (hk : Tri c iprop(iprop(FX c rt off cn co xd ∗ Cxm c xt (cxOf rt off xd) (muOf cn co) (s.val / 21)) ∗ R) rest Q) :
    Tri c iprop(iprop(FX c rt off cn co xd ∗ CxP c xt (cxOf rt off xd) (muOf cn co) s.val) ∗ R)
      (do
        if k0_h25 : k0_cond25 s = 1#1 then do
          let ⟨v1354, v1355, v1377, v1379⟩ : Σ' (v1354 : Vec F S8x128 .i32) (v1355 : IVec S256x128 32) (v1377 : FVec F S256x128 .f32), IVec S256x128 32 ← k0_part37 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s v1291 k0_h25
          let v1423 : Elt F .i32 ← k0_part38 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s v1291 k0_h25 v1354 v1355 v1377 v1379
          let v1427 : Elt F .i32 ← smemLoad (Memref.whole cc0_scratch3) (Rect.unit (s := S6) (k0_off147 s) S1.size (k0_off147_inb s k0_h25)) numel1_S1 rfl
          let v1431 : Vec F S1x512 .f32 ← Prog.lift (.load (Memref.whole cc0_scratch11) (Rect.unit (s := S2x512) ![0, 0] S1x512.size inb_S2x512_S1x512_0_0).toLoadRect (View.loadsAt_vmem h_S1x512))
          Prog.lift (.store (Memref.whole cc0_scratch11) (Rect.unit (s := S2x512) ![0, 0] S1x512.size inb_S2x512_S1x512_0_0) (k0_pay33 v1423 v1427) Finset.univ (View.stores_vmem_bits_univ h_S1x512 rfl) (.inl rfl))
          let v1436 : Vec F S1x512 .f32 ← Prog.lift (.load (Memref.whole cc0_scratch11) (Rect.unit (s := S2x512) ![1, 0] S1x512.size inb_S2x512_S1x512_1_0).toLoadRect (View.loadsAt_vmem h_S1x512))
          Prog.lift (.store (Memref.whole cc0_scratch11) (Rect.unit (s := S2x512) ![1, 0] S1x512.size inb_S2x512_S1x512_1_0) (k0_pay34 v1423) Finset.univ (View.stores_vmem_bits_univ h_S1x512 rfl) (.inl rfl))
          pure ⟨⟩
        else do
          pure ⟨⟩
        rest : Prog (TpuEff nD τ sig (Elt F) Λ₀ .tc) α) Q :=
  tri_cps (fun rest Q hk => seg25 s v1291  hk) (by dsimp only; split_ifs <;> simp only [bind_assoc, pure_bind]) hk

/-- Stage 26 of a step, with anything else kept. -/
theorem seg26_f (arg28 : BitVec 32) {R : sProp (MM F)} (hk : Tri c iprop((Mid26 c h0 s.val) ∗ R) rest Q) :
    Tri c iprop(iprop(RI c h0 (s.val + 12) ∗ OW c) ∗ R)
      (do
        if k0_h26 : k0_cond26 s = 1#1 then do
          let ⟨v1336, v1370, c128_i32_827⟩ : Σ' (v1336 : BitVec 32) (v1370 : BitVec 32), BitVec 32 ← k0_part39 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 arg28
          let ⟨v1402, v1403, v1408⟩ : Σ' (v1402 : BitVec 32) (v1403 : BitVec 32), BitVec 1 ← k0_part40 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 arg28 v1336 v1370 c128_i32_827
          let ⟨v1440, v1441, v1446⟩ : Σ' (v1440 : BitVec 32) (v1441 : BitVec 32), BitVec 1 ← k0_part41 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 arg28 v1336 v1402 v1403 v1408
          let v1449 : DmaSems sig S1 := cc0_scratch15.slice (Rect.unit (s := S24) (k0_off148 s) S1.size (k0_off148_inb s k0_h26))
          let v1450 : DmaSems sig S_ := v1449.squeeze S_ squeezes_S1_S_
          let v1451 : Memref sig .tc .vmem S1x128x512 .f32 := (Memref.whole cc0_scratch12).slice (Rect.unit (s := S24x512x512) (k0_off149 s) S1x128x512.size (k0_off149_inb s k0_h26)) (fun _ => rfl)
          let v1452 : Memref sig .tc .vmem S128x512 .f32 := v1451.squeeze S128x512 squeezes_S1x128x512_S128x512
          let v1453 : Memref sig .tc .hbm S1x128x512 .f32 := (Memref.whole main_arg3).slice (Rect.unit (s := S6x3072x3072) (k0_off150 s) S1x128x512.size (k0_off150_inb s k0_h26)) (fun _ => rfl)
          let v1454 : Memref sig .tc .hbm S128x512 .f32 := v1453.squeeze S128x512 squeezes_S1x128x512_S128x512
          Prog.lift (.waitDma2 v1450.sem v1454 v1452 ((View.wordExact_bits rfl).reshape _ _) ((View.wordExact_bits rfl).reshape _ _))
          let v1455 : DmaSems sig S1 := cc0_scratch15.slice (Rect.unit (s := S24) (k0_off148 s) S1.size (k0_off148_inb s k0_h26))
          let v1456 : DmaSems sig S_ := v1455.squeeze S_ squeezes_S1_S_
          let v1457 : Memref sig .tc .vmem S1x128x384 .f32 := (Memref.whole cc0_scratch12).slice (Rect.unit (s := S24x512x512) (k0_off151 s) S1x128x384.size (k0_off151_inb s k0_h26)) (fun _ => rfl)
          let v1458 : Memref sig .tc .vmem S128x384 .f32 := v1457.squeeze S128x384 squeezes_S1x128x384_S128x384
          let v1459 : Memref sig .tc .hbm S1x128x384 .f32 := (Memref.whole main_arg3).slice (Rect.unit (s := S6x3072x3072) (k0_off152 s) S1x128x384.size (k0_off152_inb s k0_h26)) (fun _ => rfl)
          let v1460 : Memref sig .tc .hbm S128x384 .f32 := v1459.squeeze S128x384 squeezes_S1x128x384_S128x384
          Prog.lift (.waitDma2 v1456.sem v1460 v1458 ((View.wordExact_bits rfl).reshape _ _) ((View.wordExact_bits rfl).reshape _ _))
          let v1461 : DmaSems sig S1 := cc0_scratch15.slice (Rect.unit (s := S24) (k0_off148 s) S1.size (k0_off148_inb s k0_h26))
          let v1462 : DmaSems sig S_ := v1461.squeeze S_ squeezes_S1_S_
          let v1463 : Memref sig .tc .vmem S1x128x256 .f32 := (Memref.whole cc0_scratch12).slice (Rect.unit (s := S24x512x512) (k0_off153 s) S1x128x256.size (k0_off153_inb s k0_h26)) (fun _ => rfl)
          let v1464 : Memref sig .tc .vmem S128x256 .f32 := v1463.squeeze S128x256 squeezes_S1x128x256_S128x256
          let v1465 : Memref sig .tc .hbm S1x128x256 .f32 := (Memref.whole main_arg3).slice (Rect.unit (s := S6x3072x3072) (k0_off154 s) S1x128x256.size (k0_off154_inb s k0_h26)) (fun _ => rfl)
          let v1466 : Memref sig .tc .hbm S128x256 .f32 := v1465.squeeze S128x256 squeezes_S1x128x256_S128x256
          Prog.lift (.waitDma2 v1462.sem v1466 v1464 ((View.wordExact_bits rfl).reshape _ _) ((View.wordExact_bits rfl).reshape _ _))
          let v1467 : DmaSems sig S1 := cc0_scratch15.slice (Rect.unit (s := S24) (k0_off148 s) S1.size (k0_off148_inb s k0_h26))
          let v1468 : DmaSems sig S_ := v1467.squeeze S_ squeezes_S1_S_
          let v1469 : Memref sig .tc .vmem S1x128x128 .f32 := (Memref.whole cc0_scratch12).slice (Rect.unit (s := S24x512x512) (k0_off155 s) S1x128x128.size (k0_off155_inb s k0_h26)) (fun _ => rfl)
          let v1470 : Memref sig .tc .vmem S128x128 .f32 := v1469.squeeze S128x128 squeezes_S1x128x128_S128x128
          let v1471 : Memref sig .tc .hbm S1x128x128 .f32 := (Memref.whole main_arg3).slice (Rect.unit (s := S6x3072x3072) (k0_off156 s) S1x128x128.size (k0_off156_inb s k0_h26)) (fun _ => rfl)
          let v1472 : Memref sig .tc .hbm S128x128 .f32 := v1471.squeeze S128x128 squeezes_S1x128x128_S128x128
          Prog.lift (.waitDma2 v1468.sem v1472 v1470 ((View.wordExact_bits rfl).reshape _ _) ((View.wordExact_bits rfl).reshape _ _))
          pure ⟨⟩
        else do
          pure ⟨⟩
        rest : Prog (TpuEff nD τ sig (Elt F) Λ₀ .tc) α) Q :=
  tri_cps (fun rest Q hk => seg26 s arg28  hk) (by dsimp only; split_ifs <;> simp only [bind_assoc, pure_bind]) hk

/-- Stage 27 of a step, with anything else kept. -/
theorem seg27_f  {R : sProp (MM F)} (hk : Tri c iprop(iprop(Rdy c h0 s.val ∗ hinB c h0 s.val ∗ OW c) ∗ R) rest Q) :
    Tri c iprop((Mid26 c h0 s.val) ∗ R)
      (do
        if k0_h27 : k0_cond27 s = 1#1 then do
          let v1364 : DmaSems sig S1 := cc0_scratch15.slice (Rect.unit (s := S24) (k0_off157 s) S1.size (k0_off157_inb s k0_h27))
          let v1365 : DmaSems sig S_ := v1364.squeeze S_ squeezes_S1_S_
          let v1366 : Memref sig .tc .vmem S1x512x512 .f32 := (Memref.whole cc0_scratch12).slice (Rect.unit (s := S24x512x512) (k0_off158 s) S1x512x512.size (k0_off158_inb s k0_h27)) (fun _ => rfl)
          let v1367 : Memref sig .tc .vmem S512x512 .f32 := v1366.squeeze S512x512 squeezes_S1x512x512_S512x512
          let v1368 : Memref sig .tc .hbm S1x512x512 .f32 := (Memref.whole main_arg3).slice (Rect.unit (s := S6x3072x3072) (k0_off159 s) S1x512x512.size (k0_off159_inb s k0_h27)) (fun _ => rfl)
          let v1369 : Memref sig .tc .hbm S512x512 .f32 := v1368.squeeze S512x512 squeezes_S1x512x512_S512x512
          Prog.lift (.waitDma2 v1365.sem v1369 v1367 ((View.wordExact_bits rfl).reshape _ _) ((View.wordExact_bits rfl).reshape _ _))
          pure ⟨⟩
        else do
          pure ⟨⟩
        rest : Prog (TpuEff nD τ sig (Elt F) Λ₀ .tc) α) Q :=
  tri_cps (fun rest Q hk => seg27 s  hk) (by dsimp only; split_ifs <;> simp only [bind_assoc, pure_bind]) hk

/-- Stage 28 of a step, with anything else kept. -/
theorem seg28_f (arg28 : BitVec 32) (hG : Holds xt cxs mus h0 G) {R : sProp (MM F)} (hk : Tri c iprop(iprop(WI c G (s.val + 11) ∗ MWI c G (s.val + 11)) ∗ R) rest Q) :
    Tri c iprop(iprop((CI c xt cxs mus h0 (s.val + 11) ∗ HOB c f0 (s.val + 11)) ∗ MCI c xt cxs mus h0 (s.val + 11) ∗ HOM c f0 (s.val + 11)) ∗ R)
      (do
        if k0_h28 : k0_cond28 s = 1#1 then do
          let v1334 : BitVec 32 ← k0_part42 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 k0_h28
          if k0_h29 : k0_cond29 s = 1#1 then do
            let v1407 : DmaSems sig S1 := cc0_scratch17.slice (Rect.unit (s := S12) (k0_off163 s) S1.size (k0_off163_inb s k0_h28 k0_h29))
            let v1408 : DmaSems sig S_ := v1407.squeeze S_ squeezes_S1_S_
            let v1409 : Memref sig .tc .hbm S1x512x512 .f32 := (Memref.whole main_v1_0).slice (Rect.unit (s := S6x3072x3072) (k0_off164 s) S1x512x512.size (k0_off164_inb s k0_h28 k0_h29)) (fun _ => rfl)
            let v1410 : Memref sig .tc .hbm S512x512 .f32 := v1409.squeeze S512x512 squeezes_S1x512x512_S512x512
            let v1411 : Memref sig .tc .vmem S1x512x512 .f32 := (Memref.whole cc0_scratch13).slice (Rect.unit (s := S12x512x512) (k0_off165 s) S1x512x512.size (k0_off165_inb s k0_h28 k0_h29)) (fun _ => rfl)
            let v1412 : Memref sig .tc .vmem S512x512 .f32 := v1411.squeeze S512x512 squeezes_S1x512x512_S512x512
            Prog.lift (.enqueueDma v1412 (.here v1410) (.dma v1408.sem) ((View.wordExact_bits rfl).reshape _ _) ((View.wordExact_bits rfl).reshape _ _) ⟨Or.inl rfl, trivial⟩)
            pure ⟨⟩
          else do
            pure ⟨⟩
          pure ⟨⟩
        else do
          pure ⟨⟩
        rest : Prog (TpuEff nD τ sig (Elt F) Λ₀ .tc) α) Q :=
  tri_cps (fun rest Q hk => seg28 s arg28 hG hk) (by dsimp only; split_ifs <;> simp only [bind_assoc, pure_bind]) hk

/-- Stage 30 of a step, with anything else kept. -/
theorem seg30_f (arg28 : BitVec 32) {R : sProp (MM F)} (hk : Tri c iprop(iprop((Free c ((s.val + 12) % 24) ∗ HOB c G s.val) ∗ OW c) ∗ R) rest Q) :
    Tri c iprop(iprop(WI c G s.val ∗ OW c) ∗ R)
      (do
        if k0_h30 : k0_cond30 s = 1#1 then do
          k0_part43 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 k0_h30
          pure ⟨⟩
        else do
          pure ⟨⟩
        rest : Prog (TpuEff nD τ sig (Elt F) Λ₀ .tc) α) Q :=
  tri_cps (fun rest Q hk => seg30 s arg28  hk) (by dsimp only; split_ifs <;> simp only [bind_assoc, pure_bind]) hk

/-- Stage 31 of a step, with anything else kept. -/
theorem seg31_f (arg28 : BitVec 32) {R : sProp (MM F)} (hk : Tri c iprop((RI c h0 (s.val + 24)) ∗ R) rest Q) :
    Tri c iprop(iprop(Free c ((s.val + 12) % 24) ∗ HIN c h0 (s.val + 12)) ∗ R)
      (do
        if k0_h31 : k0_cond31 s = 1#1 then do
          let v1334 : BitVec 32 := Scalar.addi arg28 12#32
          if k0_h32 : k0_cond32 s = 1#1 then do
            let ⟨v1345, v1379, c128_i32_834⟩ : Σ' (v1345 : BitVec 32) (v1379 : BitVec 32), BitVec 32 ← k0_part44 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 v1334
            let ⟨v1411, v1412, v1417⟩ : Σ' (v1411 : BitVec 32) (v1412 : BitVec 32), BitVec 1 ← k0_part45 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 v1334 v1345 v1379 c128_i32_834
            let ⟨v1449, v1450, v1455⟩ : Σ' (v1449 : BitVec 32) (v1450 : BitVec 32), BitVec 1 ← k0_part46 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 v1334 v1345 v1411 v1412 v1417
            let v1458 : DmaSems sig S1 := cc0_scratch15.slice (Rect.unit (s := S24) (k0_off169 s) S1.size (k0_off169_inb s k0_h31 k0_h32))
            let v1459 : DmaSems sig S_ := v1458.squeeze S_ squeezes_S1_S_
            let v1460 : Memref sig .tc .vmem S1x128x512 .f32 := (Memref.whole cc0_scratch12).slice (Rect.unit (s := S24x512x512) (k0_off170 s) S1x128x512.size (k0_off170_inb s k0_h31 k0_h32)) (fun _ => rfl)
            let v1461 : Memref sig .tc .vmem S128x512 .f32 := v1460.squeeze S128x512 squeezes_S1x128x512_S128x512
            let v1462 : Memref sig .tc .hbm S1x128x512 .f32 := (Memref.whole main_arg3).slice (Rect.unit (s := S6x3072x3072) (k0_off171 s) S1x128x512.size (k0_off171_inb s k0_h31 k0_h32)) (fun _ => rfl)
            let v1463 : Memref sig .tc .hbm S128x512 .f32 := v1462.squeeze S128x512 squeezes_S1x128x512_S128x512
            Prog.lift (.enqueueDma v1463 (.here v1461) (.dma v1459.sem) ((View.wordExact_bits rfl).reshape _ _) ((View.wordExact_bits rfl).reshape _ _) ⟨Or.inl rfl, trivial⟩)
            let v1464 : DmaSems sig S1 := cc0_scratch15.slice (Rect.unit (s := S24) (k0_off169 s) S1.size (k0_off169_inb s k0_h31 k0_h32))
            let v1465 : DmaSems sig S_ := v1464.squeeze S_ squeezes_S1_S_
            let v1466 : Memref sig .tc .vmem S1x128x384 .f32 := (Memref.whole cc0_scratch12).slice (Rect.unit (s := S24x512x512) (k0_off172 s) S1x128x384.size (k0_off172_inb s k0_h31 k0_h32)) (fun _ => rfl)
            let v1467 : Memref sig .tc .vmem S128x384 .f32 := v1466.squeeze S128x384 squeezes_S1x128x384_S128x384
            let v1468 : Memref sig .tc .hbm S1x128x384 .f32 := (Memref.whole main_arg3).slice (Rect.unit (s := S6x3072x3072) (k0_off173 s) S1x128x384.size (k0_off173_inb s k0_h31 k0_h32)) (fun _ => rfl)
            let v1469 : Memref sig .tc .hbm S128x384 .f32 := v1468.squeeze S128x384 squeezes_S1x128x384_S128x384
            Prog.lift (.enqueueDma v1469 (.here v1467) (.dma v1465.sem) ((View.wordExact_bits rfl).reshape _ _) ((View.wordExact_bits rfl).reshape _ _) ⟨Or.inl rfl, trivial⟩)
            let v1470 : DmaSems sig S1 := cc0_scratch15.slice (Rect.unit (s := S24) (k0_off169 s) S1.size (k0_off169_inb s k0_h31 k0_h32))
            let v1471 : DmaSems sig S_ := v1470.squeeze S_ squeezes_S1_S_
            let v1472 : Memref sig .tc .vmem S1x128x256 .f32 := (Memref.whole cc0_scratch12).slice (Rect.unit (s := S24x512x512) (k0_off174 s) S1x128x256.size (k0_off174_inb s k0_h31 k0_h32)) (fun _ => rfl)
            let v1473 : Memref sig .tc .vmem S128x256 .f32 := v1472.squeeze S128x256 squeezes_S1x128x256_S128x256
            let v1474 : Memref sig .tc .hbm S1x128x256 .f32 := (Memref.whole main_arg3).slice (Rect.unit (s := S6x3072x3072) (k0_off175 s) S1x128x256.size (k0_off175_inb s k0_h31 k0_h32)) (fun _ => rfl)
            let v1475 : Memref sig .tc .hbm S128x256 .f32 := v1474.squeeze S128x256 squeezes_S1x128x256_S128x256
            Prog.lift (.enqueueDma v1475 (.here v1473) (.dma v1471.sem) ((View.wordExact_bits rfl).reshape _ _) ((View.wordExact_bits rfl).reshape _ _) ⟨Or.inl rfl, trivial⟩)
            let v1476 : DmaSems sig S1 := cc0_scratch15.slice (Rect.unit (s := S24) (k0_off169 s) S1.size (k0_off169_inb s k0_h31 k0_h32))
            let v1477 : DmaSems sig S_ := v1476.squeeze S_ squeezes_S1_S_
            let v1478 : Memref sig .tc .vmem S1x128x128 .f32 := (Memref.whole cc0_scratch12).slice (Rect.unit (s := S24x512x512) (k0_off176 s) S1x128x128.size (k0_off176_inb s k0_h31 k0_h32)) (fun _ => rfl)
            let v1479 : Memref sig .tc .vmem S128x128 .f32 := v1478.squeeze S128x128 squeezes_S1x128x128_S128x128
            let v1480 : Memref sig .tc .hbm S1x128x128 .f32 := (Memref.whole main_arg3).slice (Rect.unit (s := S6x3072x3072) (k0_off177 s) S1x128x128.size (k0_off177_inb s k0_h31 k0_h32)) (fun _ => rfl)
            let v1481 : Memref sig .tc .hbm S128x128 .f32 := v1480.squeeze S128x128 squeezes_S1x128x128_S128x128
            Prog.lift (.enqueueDma v1481 (.here v1479) (.dma v1477.sem) ((View.wordExact_bits rfl).reshape _ _) ((View.wordExact_bits rfl).reshape _ _) ⟨Or.inl rfl, trivial⟩)
            pure ⟨⟩
          else do
            pure ⟨⟩
          if k0_h33 : k0_cond33 s = 1#1 then do
            let v1373 : DmaSems sig S1 := cc0_scratch15.slice (Rect.unit (s := S24) (k0_off178 s) S1.size (k0_off178_inb s k0_h31 k0_h33))
            let v1374 : DmaSems sig S_ := v1373.squeeze S_ squeezes_S1_S_
            let v1375 : Memref sig .tc .vmem S1x512x512 .f32 := (Memref.whole cc0_scratch12).slice (Rect.unit (s := S24x512x512) (k0_off179 s) S1x512x512.size (k0_off179_inb s k0_h31 k0_h33)) (fun _ => rfl)
            let v1376 : Memref sig .tc .vmem S512x512 .f32 := v1375.squeeze S512x512 squeezes_S1x512x512_S512x512
            let v1377 : Memref sig .tc .hbm S1x512x512 .f32 := (Memref.whole main_arg3).slice (Rect.unit (s := S6x3072x3072) (k0_off180 s) S1x512x512.size (k0_off180_inb s k0_h31 k0_h33)) (fun _ => rfl)
            let v1378 : Memref sig .tc .hbm S512x512 .f32 := v1377.squeeze S512x512 squeezes_S1x512x512_S512x512
            Prog.lift (.enqueueDma v1378 (.here v1376) (.dma v1374.sem) ((View.wordExact_bits rfl).reshape _ _) ((View.wordExact_bits rfl).reshape _ _) ⟨Or.inl rfl, trivial⟩)
            pure ⟨⟩
          else do
            pure ⟨⟩
          pure ⟨⟩
        else do
          pure ⟨⟩
        rest : Prog (TpuEff nD τ sig (Elt F) Λ₀ .tc) α) Q :=
  tri_cps (fun rest Q hk => seg31 s arg28  hk) (by dsimp only; split_ifs <;> simp only [bind_assoc, pure_bind]) hk

/-- Stage 34 of a step, with anything else kept. -/
theorem seg34_f  {R : sProp (MM F)} (hk : Tri c iprop(iprop((MFree c (s.val % 12) ∗ HOM c G s.val) ∗ OW c) ∗ R) rest Q) :
    Tri c iprop(iprop(MWI c G s.val ∗ OW c) ∗ R)
      (do
        if k0_h34 : k0_cond34 s = 1#1 then do
          if k0_h35 : k0_cond35 s = 1#1 then do
            let v1371 : DmaSems sig S1 := cc0_scratch17.slice (Rect.unit (s := S12) (k0_off181 s) S1.size (k0_off181_inb s k0_h34 k0_h35))
            let v1372 : DmaSems sig S_ := v1371.squeeze S_ squeezes_S1_S_
            let v1373 : Memref sig .tc .hbm S1x512x512 .f32 := (Memref.whole main_v1_0).slice (Rect.unit (s := S6x3072x3072) (k0_off182 s) S1x512x512.size (k0_off182_inb s k0_h34 k0_h35)) (fun _ => rfl)
            let v1374 : Memref sig .tc .hbm S512x512 .f32 := v1373.squeeze S512x512 squeezes_S1x512x512_S512x512
            let v1375 : Memref sig .tc .vmem S1x512x512 .f32 := (Memref.whole cc0_scratch13).slice (Rect.unit (s := S12x512x512) (k0_off183 s) S1x512x512.size (k0_off183_inb s k0_h34 k0_h35)) (fun _ => rfl)
            let v1376 : Memref sig .tc .vmem S512x512 .f32 := v1375.squeeze S512x512 squeezes_S1x512x512_S512x512
            Prog.lift (.waitDma2 v1372.sem v1376 v1374 ((View.wordExact_bits rfl).reshape _ _) ((View.wordExact_bits rfl).reshape _ _))
            pure ⟨⟩
          else do
            pure ⟨⟩
          pure ⟨⟩
        else do
          pure ⟨⟩
        rest : Prog (TpuEff nD τ sig (Elt F) Λ₀ .tc) α) Q :=
  tri_cps (fun rest Q hk => seg34 s  hk) (by dsimp only; split_ifs <;> simp only [bind_assoc, pure_bind]) hk
end

end Cert.KernelIdeal.Hand

end
-- ==== Proof.KernelIdeal.Step.lean ====
module

public import proofs.«01_k».proof.Proof.KernelIdeal.Trip

/-! A whole step: what it takes and leaves. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable {c : Dev nD} {xt : S3072x256.Idx → Elt F .bf16} {cxs : ℕ → S256x3072.Idx → Elt F .bf16} {mus : ℕ → S2x512.Idx → Elt F .f32}
  {h0 f0 G : S6x3072x3072.Idx → Elt F .f32} {rt : S8x128.Idx → Elt F .i32} {off : S7.Idx → Elt F .i32} {cn co : S6.Idx → Elt F .i32} {xd : S256x3072.Idx → Elt F .bf16}
  (s : Fin k0_t1_loop.trips)

section
abbrev α : Type := Unit
variable {rest : Prog (TpuEff nD τ sig (Elt F) Λ₀ .tc) Unit} {Q : Unit → sProp (MM F)}
  {cx : S256x3072.Idx → Elt F .bf16} {mu : S2x512.Idx → Elt F .f32} {w w' : S512x512.Idx → Elt F .f32} (arg28 v1293 v1296 : BitVec 32)

theorem tri_fact {α : Type} {φ : Prop} {P : sProp (MM F)} {p : Prog (TpuEff nD τ sig (Elt F) Λ₀ .tc) α} {Q : α → sProp (MM F)}
    (h : φ → Tri c P p Q) : Tri c iprop(⌜φ⌝ ∗ P) p Q := by
  unfold Tri at *
  iintro ⟨%hφ, H⟩
  iapply (h hφ) $$ H

theorem comp_diag_f (hd : dg s.val) {R : sProp (MM F)}
    (hk : Tri c iprop(CS c xt cx mu (s.val % 24) (CTD xt cx mu (iOf s.val) (jOf s.val) w) (s.val % 12) w' ∗ R) rest Q) :
    Tri c iprop(CS c xt cx mu (s.val % 24) w (s.val % 12) w' ∗ R)
      (do
        if k0_h36 : k0_cond36 s = 1#1 then do
          let ⟨v1366, v1368, v1369, v1370⟩ : Σ' (v1366 : FVec F S128x512 .f32) (v1368 : BitVec 32) (v1369 : BitVec 32), BitVec 1 ← k0_part47 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1293 v1296 k0_h36
          let v1409 : FVec F S128x384 .f32 ← k0_part48 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1293 v1296 k0_h36 v1366 v1368 v1369 v1370
          let ⟨v1445, c24_i32_867, v1446⟩ : Σ' (v1445 : FVec F S256x128 .f32) (c24_i32_867 : BitVec 32), BitVec 1 ← k0_part49 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 k0_h36 v1409
          let ⟨v1472, v1484⟩ : Σ' (v1472 : FVec F S128x256 .f32), Vec F S1x128x256 .f32 ← k0_part50 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1293 v1296 k0_h36 v1445 c24_i32_867 v1446
          k0_part51 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 k0_h36 v1472 v1484
          let ⟨v1555, v1557, v1558, v1559⟩ : Σ' (v1555 : FVec F S128x128 .f32) (v1557 : BitVec 32) (v1558 : BitVec 32), BitVec 1 ← k0_part52 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1293 v1296 k0_h36
          let v1567 : Vec F S1x128x128 .f32 ← Prog.lift (.load (Memref.whole cc0_scratch12) (Rect.unit (s := S24x512x512) (k0_off195 s) S1x128x128.size (k0_off195_inb s k0_h36)).toLoadRect (View.loadsAt_vmem h_S1x128x128))
          Prog.lift (.store (Memref.whole cc0_scratch12) (Rect.unit (s := S24x512x512) (k0_off195 s) S1x128x128.size (k0_off195_inb s k0_h36)) (k0_pay122 v1555) Finset.univ (View.stores_vmem_bits_univ h_S1x128x128 rfl) (.inl rfl))
          pure ⟨⟩
        else do
          pure ⟨⟩
        rest : Prog (TpuEff nD τ sig (Elt F) Λ₀ .tc) α) Q :=
  tri_cps (fun rest Q hk => comp_diag arg28 v1293 v1296 hd hk) (by dsimp only; split_ifs <;> simp only [bind_assoc, pure_bind]) hk

theorem comp_off_f (hd : ¬ dg s.val) {R : sProp (MM F)}
    (hk : Tri c iprop(CS c xt cx mu (s.val % 24) (CTO xt cx mu (iOf s.val) (jOf s.val) w) (s.val % 12) (CTO xt cx mu (iOf s.val) (jOf s.val) w) ∗ R) rest Q) :
    Tri c iprop(CS c xt cx mu (s.val % 24) w (s.val % 12) w' ∗ R)
      (do
        if k0_h37 : k0_cond37 s = 1#1 then do
          let ⟨v1366, v1368, v1369, v1370⟩ : Σ' (v1366 : FVec F S128x512 .f32) (v1368 : BitVec 32) (v1369 : BitVec 32), BitVec 1 ← k0_part53 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1293 v1296 k0_h37
          let ⟨v1408, c24_i32_847⟩ : Σ' (v1408 : FVec F S128x512 .f32), BitVec 32 ← k0_part54 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1293 v1296 k0_h37 v1366 v1368 v1369 v1370
          let ⟨v1443, v1445⟩ : Σ' (v1443 : FVec F S512x128 .f32), BitVec 32 ← k0_part55 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 k0_h37 v1408 c24_i32_847
          let ⟨v1470, v1483⟩ : Σ' (v1470 : FVec F S128x512 .f32), FVec F S128x512 .f32 ← k0_part56 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1293 v1296 k0_h37 v1443 v1445
          let v1521 : BitVec 32 ← k0_part57 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1293 k0_h37 v1470 v1483
          let ⟨v1552, v1554, v1555, v1556, v1557, c0_i32_930⟩ : Σ' (v1552 : FVec F S128x512 .f32) (v1554 : BitVec 32) (v1555 : BitVec 32) (v1556 : BitVec 1) (v1557 : BitVec 1), BitVec 32 ← k0_part58 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1296 k0_h37 v1521
          let v1564 : Vec F S1x128x512 .f32 ← Prog.lift (.load (Memref.whole cc0_scratch12) (Rect.unit (s := S24x512x512) (k0_off204 s) S1x128x512.size (k0_off204_inb s k0_h37)).toLoadRect (View.loadsAt_vmem h_S1x128x512))
          Prog.lift (.store (Memref.whole cc0_scratch12) (Rect.unit (s := S24x512x512) (k0_off204 s) S1x128x512.size (k0_off204_inb s k0_h37)) (k0_pay123 v1552) Finset.univ (View.stores_vmem_bits_univ h_S1x128x512 rfl) (.inl rfl))
          let v1579 : Vec F S1x512x128 .f32 ← Prog.lift (.load (Memref.whole cc0_scratch13) (Rect.unit (s := S12x512x512) (k0_off205 s) S1x512x128.size (k0_off205_inb s k0_h37)).toLoadRect (View.loadsAt_vmem h_S1x512x128))
          Prog.lift (.store (Memref.whole cc0_scratch13) (Rect.unit (s := S12x512x512) (k0_off205 s) S1x512x128.size (k0_off205_inb s k0_h37)) (k0_pay124 v1552) Finset.univ (View.stores_vmem_bits_univ h_S1x512x128 rfl) (.inl rfl))
          pure ⟨⟩
        else do
          pure ⟨⟩
        rest : Prog (TpuEff nD τ sig (Elt F) Λ₀ .tc) α) Q :=
  tri_cps (fun rest Q hk => comp_off arg28 v1293 v1296 hd hk) (by dsimp only; split_ifs <;> simp only [bind_assoc, pure_bind]) hk

set_option maxHeartbeats 2000000 in
/-- A step's products. -/
theorem comp_f {R : sProp (MM F)}
    (hk : Tri c iprop((Cxm c xt cxs mus (s.val / 21) ∗ CI c xt cxs mus h0 (s.val + 12) ∗ MCI c xt cxs mus h0 (s.val + 12)) ∗ R) rest Q) :
    Tri c iprop((Cxm c xt cxs mus (s.val / 21) ∗ Rdy c h0 s.val ∗ MFree c (s.val % 12)) ∗ R)
      (do
        if k0_h36 : k0_cond36 s = 1#1 then do
          let ⟨v1366, v1368, v1369, v1370⟩ : Σ' (v1366 : FVec F S128x512 .f32) (v1368 : BitVec 32) (v1369 : BitVec 32), BitVec 1 ← k0_part47 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1293 v1296 k0_h36
          let v1409 : FVec F S128x384 .f32 ← k0_part48 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1293 v1296 k0_h36 v1366 v1368 v1369 v1370
          let ⟨v1445, c24_i32_867, v1446⟩ : Σ' (v1445 : FVec F S256x128 .f32) (c24_i32_867 : BitVec 32), BitVec 1 ← k0_part49 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 k0_h36 v1409
          let ⟨v1472, v1484⟩ : Σ' (v1472 : FVec F S128x256 .f32), Vec F S1x128x256 .f32 ← k0_part50 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1293 v1296 k0_h36 v1445 c24_i32_867 v1446
          k0_part51 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 k0_h36 v1472 v1484
          let ⟨v1555, v1557, v1558, v1559⟩ : Σ' (v1555 : FVec F S128x128 .f32) (v1557 : BitVec 32) (v1558 : BitVec 32), BitVec 1 ← k0_part52 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1293 v1296 k0_h36
          let v1567 : Vec F S1x128x128 .f32 ← Prog.lift (.load (Memref.whole cc0_scratch12) (Rect.unit (s := S24x512x512) (k0_off195 s) S1x128x128.size (k0_off195_inb s k0_h36)).toLoadRect (View.loadsAt_vmem h_S1x128x128))
          Prog.lift (.store (Memref.whole cc0_scratch12) (Rect.unit (s := S24x512x512) (k0_off195 s) S1x128x128.size (k0_off195_inb s k0_h36)) (k0_pay122 v1555) Finset.univ (View.stores_vmem_bits_univ h_S1x128x128 rfl) (.inl rfl))
          pure ⟨⟩
        else do
          pure ⟨⟩
        if k0_h37 : k0_cond37 s = 1#1 then do
          let ⟨v1366, v1368, v1369, v1370⟩ : Σ' (v1366 : FVec F S128x512 .f32) (v1368 : BitVec 32) (v1369 : BitVec 32), BitVec 1 ← k0_part53 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1293 v1296 k0_h37
          let ⟨v1408, c24_i32_847⟩ : Σ' (v1408 : FVec F S128x512 .f32), BitVec 32 ← k0_part54 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1293 v1296 k0_h37 v1366 v1368 v1369 v1370
          let ⟨v1443, v1445⟩ : Σ' (v1443 : FVec F S512x128 .f32), BitVec 32 ← k0_part55 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 k0_h37 v1408 c24_i32_847
          let ⟨v1470, v1483⟩ : Σ' (v1470 : FVec F S128x512 .f32), FVec F S128x512 .f32 ← k0_part56 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1293 v1296 k0_h37 v1443 v1445
          let v1521 : BitVec 32 ← k0_part57 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1293 k0_h37 v1470 v1483
          let ⟨v1552, v1554, v1555, v1556, v1557, c0_i32_930⟩ : Σ' (v1552 : FVec F S128x512 .f32) (v1554 : BitVec 32) (v1555 : BitVec 32) (v1556 : BitVec 1) (v1557 : BitVec 1), BitVec 32 ← k0_part58 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 s arg28 v1296 k0_h37 v1521
          let v1564 : Vec F S1x128x512 .f32 ← Prog.lift (.load (Memref.whole cc0_scratch12) (Rect.unit (s := S24x512x512) (k0_off204 s) S1x128x512.size (k0_off204_inb s k0_h37)).toLoadRect (View.loadsAt_vmem h_S1x128x512))
          Prog.lift (.store (Memref.whole cc0_scratch12) (Rect.unit (s := S24x512x512) (k0_off204 s) S1x128x512.size (k0_off204_inb s k0_h37)) (k0_pay123 v1552) Finset.univ (View.stores_vmem_bits_univ h_S1x128x512 rfl) (.inl rfl))
          let v1579 : Vec F S1x512x128 .f32 ← Prog.lift (.load (Memref.whole cc0_scratch13) (Rect.unit (s := S12x512x512) (k0_off205 s) S1x512x128.size (k0_off205_inb s k0_h37)).toLoadRect (View.loadsAt_vmem h_S1x512x128))
          Prog.lift (.store (Memref.whole cc0_scratch13) (Rect.unit (s := S12x512x512) (k0_off205 s) S1x512x128.size (k0_off205_inb s k0_h37)) (k0_pay124 v1552) Finset.univ (View.stores_vmem_bits_univ h_S1x512x128 rfl) (.inl rfl))
          pure ⟨⟩
        else do
          pure ⟨⟩
        rest : Prog (TpuEff nD τ sig (Elt F) Λ₀ .tc) α) Q := by
  have hP : iprop((Cxm c xt cxs mus (s.val / 21) ∗ Rdy c h0 s.val ∗ MFree c (s.val % 12)) ∗ R) ⊢ iprop(∃ w, ∃ w', ⌜∀ x : S512x512.Idx, (dg s.val → 128 * ((x 0).val / 128) ≤ (x 1).val) → w x = HB h0 s.val x⌝ ∗
      CS c xt (cxs (s.val / 21)) (mus (s.val / 21)) (s.val % 24) w (s.val % 12) w' ∗ (Sem0 c (rdS (s.val % 24)) ∗ Sem0 c (wrS (s.val % 24)) ∗ Sem0 c (mrS (s.val % 12))) ∗ R) := by
    unfold Cxm Rdy MFree CS
    iintro ⟨⟨⟨H1, H2, H3⟩, ⟨⟨%w, %hw, H4⟩, H5, H6⟩, ⟨%f, H7⟩, H8⟩, H9⟩
    ihave H7 := (mslot_of f (Nat.mod_lt s.val (by norm_num))) $$ H7
    iexists w, _
    isplitr
    · ipureintro; exact hw
    isplitl [H1 H2 H3 H4 H7]
    · isplitl [H1]; · iexact H1
      isplitl [H2]; · iexact H2
      isplitl [H3]; · iexact H3
      isplitl [H4]; · iexact H4
      iexact H7
    isplitl [H5 H6 H8]
    · isplitl [H5]; · iexact H5
      isplitl [H6]; · iexact H6
      iexact H8
    iexact H9
  refine tri_skip ?_ hP
  refine tri_ex fun w => tri_ex fun w' => tri_fact fun hw => ?_
  rcases Classical.em (dg s.val) with hd | hd
  · refine comp_diag_f s arg28 v1293 v1296 hd (comp_off_no arg28 v1293 v1296 hd (tri_skip hk ?_))
    unfold CI MCI CS Cxm
    rw [if_pos (by omega), if_neg (by rw [Nat.add_sub_cancel]; exact fun h => h.2 hd), Nat.add_sub_cancel, CTD_upper (w' := HB h0 s.val) fun x hx => hw x fun _ => hx]
    unfold CT MFree
    rw [if_pos hd, show (s.val + 12) % 12 = s.val % 12 by omega]
    iintro ⟨⟨H1, H2, H3, H4, H5⟩, ⟨H6, H7, H8⟩, H9⟩
    isplitr [H9]
    · isplitl [H1 H2 H3]
      · isplitl [H1]; · iexact H1
        isplitl [H2]; · iexact H2
        iexact H3
      isplitl [H4 H6 H7]
      · isplitl [H4]; · iexact H4
        isplitl [H6]; · iexact H6
        iexact H7
      isplitl [H5]
      · iexists _; iexact H5
      iexact H8
    iexact H9
  · refine comp_diag_no arg28 v1293 v1296 hd (comp_off_f s arg28 v1293 v1296 hd (tri_skip hk ?_))
    unfold CI MCI CS Cxm
    rw [if_pos (by omega), if_pos ⟨by omega, by rw [Nat.add_sub_cancel]; exact hd⟩, Nat.add_sub_cancel, (funext fun x => hw x fun h => absurd h hd : w = HB h0 s.val)]
    unfold CT
    rw [if_neg hd]
    iintro ⟨⟨H1, H2, H3, H4, H5⟩, ⟨H6, H7, H8⟩, H9⟩
    isplitl [H1 H2 H3 H4 H6 H7 H5 H8]
    · isplitl [H1 H2 H3]
      · isplitl [H1]; · iexact H1
        isplitl [H2]; · iexact H2
        iexact H3
      isplitl [H4 H6 H7]
      · isplitl [H4]; · iexact H4
        isplitl [H6]; · iexact H6
        iexact H7
      isplitl [H5]; · iexact H5
      iexact H8
    iexact H9
end

/-- What a step takes, and what it leaves. -/
def TPre (c : Dev nD) (rt : S8x128.Idx → Elt F .i32) (off : S7.Idx → Elt F .i32) (cn co : S6.Idx → Elt F .i32) (xd : S256x3072.Idx → Elt F .bf16)
    (xt : S3072x256.Idx → Elt F .bf16) (h0 f0 G : S6x3072x3072.Idx → Elt F .f32) (s : ℕ) : sProp (MM F) :=
  iprop(FX c rt off cn co xd ∗ CxP c xt (cxOf rt off xd) (muOf cn co) s ∗ RI c h0 (s + 12) ∗ CI c xt (cxOf rt off xd) (muOf cn co) h0 (s + 11) ∗ HOB c f0 (s + 11)
    ∗ MCI c xt (cxOf rt off xd) (muOf cn co) h0 (s + 11) ∗ HOM c f0 (s + 11) ∗ WI c G s ∗ HIN c h0 (s + 12) ∗ MWI c G s ∗ OW c)
def TPost (c : Dev nD) (rt : S8x128.Idx → Elt F .i32) (off : S7.Idx → Elt F .i32) (cn co : S6.Idx → Elt F .i32) (xd : S256x3072.Idx → Elt F .bf16)
    (xt : S3072x256.Idx → Elt F .bf16) (h0 G : S6x3072x3072.Idx → Elt F .f32) (s : ℕ) : sProp (MM F) :=
  iprop(FX c rt off cn co xd ∗ CxP c xt (cxOf rt off xd) (muOf cn co) (s + 1) ∗ CI c xt (cxOf rt off xd) (muOf cn co) h0 (s + 12) ∗ MCI c xt (cxOf rt off xd) (muOf cn co) h0 (s + 12)
    ∗ RI c h0 (s + 24) ∗ hinB c h0 s ∗ HOB c G s ∗ HOM c G s ∗ WI c G (s + 11) ∗ MWI c G (s + 11) ∗ OW c)

theorem CxP_next (s : ℕ) : Cxm c xt cxs mus (s / 21) ⊢ CxP c xt cxs mus (s + 1) := by
  unfold CxP
  split_ifs with h
  · unfold Cxm
    iintro H
    iexists _, _
    iexact H
  · rw [show (s + 1) / 21 = s / 21 by omega]

variable (hG : Holds xt (cxOf rt off xd) (muOf cn co) h0 G)
include hG

set_option maxHeartbeats 4000000 in
theorem part59_tri : Tri c iprop(FX c rt off cn co xd ∗ CxP c xt (cxOf rt off xd) (muOf cn co) s.val ∗ RI c h0 (s.val + 12) ∗ CI c xt (cxOf rt off xd) (muOf cn co) h0 (s.val + 11) ∗ HOB c f0 (s.val + 11)
    ∗ MCI c xt (cxOf rt off xd) (muOf cn co) h0 (s.val + 11) ∗ HOM c f0 (s.val + 11) ∗ WI c G s.val ∗ OW c)
    (k0_part59 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 0#32 1#32 s)
    fun _ => iprop(FX c rt off cn co xd ∗ Cxm c xt (cxOf rt off xd) (muOf cn co) (s.val / 21) ∗ Rdy c h0 s.val ∗ hinB c h0 s.val ∗ WI c G (s.val + 11) ∗ MWI c G (s.val + 11) ∗ Free c ((s.val + 12) % 24)
      ∗ HOB c G s.val ∗ OW c) := by
  rw [k0_part59_eq_skeleton]
  unfold k0_part59_skel
  refine tri_skip (seg25_f s _ (R := iprop(RI c h0 (s.val + 12) ∗ CI c xt (cxOf rt off xd) (muOf cn co) h0 (s.val + 11) ∗ HOB c f0 (s.val + 11)
    ∗ MCI c xt (cxOf rt off xd) (muOf cn co) h0 (s.val + 11) ∗ HOM c f0 (s.val + 11) ∗ WI c G s.val ∗ OW c)) ?_) (by
    iintro ⟨HX, HC, HR, Hc, Hh, Hm, Hn, Hw, Ho⟩
    isplitl [HX HC]
    · isplitl [HX]; · iexact HX
      iexact HC
    isplitl [HR]; · iexact HR
    isplitl [Hc]; · iexact Hc
    isplitl [Hh]; · iexact Hh
    isplitl [Hm]; · iexact Hm
    isplitl [Hn]; · iexact Hn
    isplitl [Hw]; · iexact Hw
    iexact Ho)
  refine tri_skip (seg26_f s _ (R := iprop(FX c rt off cn co xd ∗ Cxm c xt (cxOf rt off xd) (muOf cn co) (s.val / 21) ∗ CI c xt (cxOf rt off xd) (muOf cn co) h0 (s.val + 11) ∗ HOB c f0 (s.val + 11)
    ∗ MCI c xt (cxOf rt off xd) (muOf cn co) h0 (s.val + 11) ∗ HOM c f0 (s.val + 11) ∗ WI c G s.val)) ?_) (by
    iintro ⟨⟨HX, HC⟩, HR, Hc, Hh, Hm, Hn, Hw, Ho⟩
    isplitl [HR Ho]
    · isplitl [HR]; · iexact HR
      iexact Ho
    isplitl [HX]; · iexact HX
    isplitl [HC]; · iexact HC
    isplitl [Hc]; · iexact Hc
    isplitl [Hh]; · iexact Hh
    isplitl [Hm]; · iexact Hm
    isplitl [Hn]; · iexact Hn
    iexact Hw)
  refine seg27_f s ?_
  refine tri_skip (seg28_f s _ hG (R := iprop(FX c rt off cn co xd ∗ Cxm c xt (cxOf rt off xd) (muOf cn co) (s.val / 21) ∗ Rdy c h0 s.val ∗ hinB c h0 s.val ∗ OW c ∗ WI c G s.val)) ?_) (by
    iintro ⟨⟨HR, Hi, Ho⟩, HX, HC, Hc, Hh, Hm, Hn, Hw⟩
    isplitl [Hc Hh Hm Hn]
    · isplitl [Hc Hh]
      · isplitl [Hc]; · iexact Hc
        iexact Hh
      isplitl [Hm]; · iexact Hm
      iexact Hn
    isplitl [HX]; · iexact HX
    isplitl [HC]; · iexact HC
    isplitl [HR]; · iexact HR
    isplitl [Hi]; · iexact Hi
    isplitl [Ho]; · iexact Ho
    iexact Hw)
  refine tri_skip (seg30_f s _ (R := iprop(FX c rt off cn co xd ∗ Cxm c xt (cxOf rt off xd) (muOf cn co) (s.val / 21) ∗ Rdy c h0 s.val ∗ hinB c h0 s.val ∗ WI c G (s.val + 11) ∗ MWI c G (s.val + 11))) ?_) (by
    iintro ⟨⟨Hv, Hm⟩, HX, HC, HR, Hi, Ho, Hw⟩
    isplitl [Hw Ho]
    · isplitl [Hw]; · iexact Hw
      iexact Ho
    isplitl [HX]; · iexact HX
    isplitl [HC]; · iexact HC
    isplitl [HR]; · iexact HR
    isplitl [Hi]; · iexact Hi
    isplitl [Hv]; · iexact Hv
    iexact Hm)
  refine tri_pure ?_
  iintro ⟨⟨⟨Hf, Hh⟩, Ho⟩, HX, HC, HR, Hi, Hv, Hm⟩
  isplitl [HX]; · iexact HX
  isplitl [HC]; · iexact HC
  isplitl [HR]; · iexact HR
  isplitl [Hi]; · iexact Hi
  isplitl [Hv]; · iexact Hv
  isplitl [Hm]; · iexact Hm
  isplitl [Hf]; · iexact Hf
  isplitl [Hh]; · iexact Hh
  iexact Ho

set_option maxHeartbeats 4000000 in
theorem trip_tri (v724 : BitVec 32) : Tri c (TPre c rt off cn co xd xt h0 f0 G s.val)
    (k0_t1_body (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 v724 s ())
    fun _ => TPost c rt off cn co xd xt h0 G s.val := by
  unfold k0_t1_body
  refine tri_skip (tri_seq (part59_tri (f0 := f0) s hG) (R := iprop(HIN c h0 (s.val + 12) ∗ MWI c G s.val)) ?_) (by
    unfold TPre
    iintro ⟨HX, HC, HR, Hc, Hh, Hm, Hn, Hw, HH, Hv, Ho⟩
    isplitl [HX HC HR Hc Hh Hm Hn Hw Ho]
    · isplitl [HX]; · iexact HX
      isplitl [HC]; · iexact HC
      isplitl [HR]; · iexact HR
      isplitl [Hc]; · iexact Hc
      isplitl [Hh]; · iexact Hh
      isplitl [Hm]; · iexact Hm
      isplitl [Hn]; · iexact Hn
      isplitl [Hw]; · iexact Hw
      iexact Ho
    isplitl [HH]; · iexact HH
    iexact Hv)
  rintro ⟨arg28, v1293, v1296, v1297, v1322⟩
  refine tri_skip (seg31_f s _ (h0 := h0) (R := iprop(FX c rt off cn co xd ∗ Cxm c xt (cxOf rt off xd) (muOf cn co) (s.val / 21) ∗ Rdy c h0 s.val ∗ hinB c h0 s.val ∗ WI c G (s.val + 11) ∗ MWI c G (s.val + 11)
      ∗ HOB c G s.val ∗ OW c ∗ MWI c G s.val)) ?_) (by
    iintro ⟨⟨HX, HC, HR, Hi, Hw, Hm, Hf, Hh, Ho⟩, HH, Hv⟩
    isplitl [Hf HH]
    · isplitl [Hf]; · iexact Hf
      iexact HH
    isplitl [HX]; · iexact HX
    isplitl [HC]; · iexact HC
    isplitl [HR]; · iexact HR
    isplitl [Hi]; · iexact Hi
    isplitl [Hw]; · iexact Hw
    isplitl [Hm]; · iexact Hm
    isplitl [Hh]; · iexact Hh
    isplitl [Ho]; · iexact Ho
    iexact Hv)
  refine tri_skip (seg34_f s (R := iprop(FX c rt off cn co xd ∗ Cxm c xt (cxOf rt off xd) (muOf cn co) (s.val / 21) ∗ Rdy c h0 s.val ∗ hinB c h0 s.val ∗ WI c G (s.val + 11) ∗ MWI c G (s.val + 11)
      ∗ HOB c G s.val ∗ RI c h0 (s.val + 24))) ?_) (by
    iintro ⟨Hr, HX, HC, HR, Hi, Hw, Hm, Hh, Ho, Hv⟩
    isplitl [Hv Ho]
    · isplitl [Hv]; · iexact Hv
      iexact Ho
    isplitl [HX]; · iexact HX
    isplitl [HC]; · iexact HC
    isplitl [HR]; · iexact HR
    isplitl [Hi]; · iexact Hi
    isplitl [Hw]; · iexact Hw
    isplitl [Hm]; · iexact Hm
    isplitl [Hh]; · iexact Hh
    iexact Hr)
  refine tri_skip (comp_f s _ _ _ (xt := xt) (cxs := cxOf rt off xd) (mus := muOf cn co) (h0 := h0) (R := iprop(FX c rt off cn co xd ∗ hinB c h0 s.val ∗ WI c G (s.val + 11) ∗ MWI c G (s.val + 11)
      ∗ HOB c G s.val ∗ RI c h0 (s.val + 24) ∗ HOM c G s.val ∗ OW c)) ?_) (by
    iintro ⟨⟨⟨Hf, Hu⟩, Ho⟩, HX, HC, HR, Hi, Hw, Hm, Hh, Hr⟩
    isplitl [HC HR Hf]
    · isplitl [HC]; · iexact HC
      isplitl [HR]; · iexact HR
      iexact Hf
    isplitl [HX]; · iexact HX
    isplitl [Hi]; · iexact Hi
    isplitl [Hw]; · iexact Hw
    isplitl [Hm]; · iexact Hm
    isplitl [Hh]; · iexact Hh
    isplitl [Hr]; · iexact Hr
    isplitl [Hu]; · iexact Hu
    iexact Ho)
  refine tri_pure ?_
  unfold TPost
  iintro ⟨⟨HC, Hc, Hm⟩, HX, Hi, Hw, Hv, Hh, Hr, Hu, Ho⟩
  ihave HC := (CxP_next s.val) $$ HC
  isplitl [HX]; · iexact HX
  isplitl [HC]; · iexact HC
  isplitl [Hc]; · iexact Hc
  isplitl [Hm]; · iexact Hm
  isplitl [Hr]; · iexact Hr
  isplitl [Hi]; · iexact Hi
  isplitl [Hh]; · iexact Hh
  isplitl [Hu]; · iexact Hu
  isplitl [Hw]; · iexact Hw
  isplitl [Hv]; · iexact Hv
  iexact Ho

end Cert.KernelIdeal.Hand

end
-- ==== Proof.KernelIdeal.Inv.lean ====
module

public import proofs.«01_k».proof.Proof.KernelIdeal.Step
public import Idealize.SL.BI.BigOpNat

/-! The loop: what holds before each step. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable {c : Dev nD} {xt : S3072x256.Idx → Elt F .bf16}
  {h0 f0 G : S6x3072x3072.Idx → Elt F .f32} {rt : S8x128.Idx → Elt F .i32} {off : S7.Idx → Elt F .i32} {cn co : S6.Idx → Elt F .i32} {xd : S256x3072.Idx → Elt F .bf16}

/-- What holds before step `s` besides what the step touches. -/
def Rst (c : Dev nD) (h0 f0 G : S6x3072x3072.Idx → Elt F .f32) (s : ℕ) : sProp (MM F) :=
  iprop(bigSep (Finset.Ico (s + 1) (s + 11)) (WI c G) ∗ bigSep (Finset.Ico (s + 13) (s + 24)) (RI c h0) ∗ bigSep (Finset.Ico (s + 1) (s + 11)) (MWI c G)
    ∗ bigSep (Finset.Ico (s + 13) 138) (HIN c h0) ∗ bigSep (Finset.Ico 0 s) (hinB c h0) ∗ bigSep (Finset.Ico (s + 12) 138) (HOB c f0) ∗ bigSep (Finset.Ico (s + 12) 138) (HOM c f0)
    ∗ bigSep (Finset.Ico 0 s) (HOB c G) ∗ bigSep (Finset.Ico 0 s) (HOM c G))

/-- What holds before step `s`. -/
def Inv (c : Dev nD) (rt : S8x128.Idx → Elt F .i32) (off : S7.Idx → Elt F .i32) (cn co : S6.Idx → Elt F .i32) (xd : S256x3072.Idx → Elt F .bf16)
    (xt : S3072x256.Idx → Elt F .bf16) (h0 f0 G : S6x3072x3072.Idx → Elt F .f32) (s : ℕ) : sProp (MM F) :=
  iprop(FX c rt off cn co xd ∗ CxP c xt (cxOf rt off xd) (muOf cn co) s ∗ CI c xt (cxOf rt off xd) (muOf cn co) h0 (s + 11) ∗ MCI c xt (cxOf rt off xd) (muOf cn co) h0 (s + 11) ∗ OW c
    ∗ bigSep (Finset.Ico s (s + 11)) (WI c G) ∗ bigSep (Finset.Ico (s + 12) (s + 24)) (RI c h0) ∗ bigSep (Finset.Ico s (s + 11)) (MWI c G)
    ∗ bigSep (Finset.Ico (s + 12) 138) (HIN c h0) ∗ bigSep (Finset.Ico 0 s) (hinB c h0) ∗ bigSep (Finset.Ico (s + 11) 138) (HOB c f0) ∗ bigSep (Finset.Ico (s + 11) 138) (HOM c f0)
    ∗ bigSep (Finset.Ico 0 s) (HOB c G) ∗ bigSep (Finset.Ico 0 s) (HOM c G))

theorem inv_out {s : ℕ} (hs : s < 126) : Inv c rt off cn co xd xt h0 f0 G s ⊢ iprop(TPre c rt off cn co xd xt h0 f0 G s ∗ Rst c h0 f0 G s) := by
  unfold Inv TPre Rst
  rw [bigSep_Ico_succ_bot (a := s) (b := s + 11) (by omega), bigSep_Ico_succ_bot (a := s) (b := s + 11) (by omega), bigSep_Ico_succ_bot (a := s + 12) (b := s + 24) (by omega),
    bigSep_Ico_succ_bot (a := s + 12) (b := 138) (by omega), bigSep_Ico_succ_bot (a := s + 11) (b := 138) (by omega), bigSep_Ico_succ_bot (a := s + 11) (b := 138) (by omega)]
  iintro ⟨HX, HC, Hc, Hm, Ho, ⟨Hw, HW⟩, ⟨Hr, HR⟩, ⟨Hv, HV⟩, ⟨Hh, HH⟩, Hi, ⟨Ha, HA⟩, ⟨Hb, HB⟩, Hj, Hk⟩
  isplitl [HX HC Hr Hc Ha Hm Hb Hw Hh Hv Ho]
  · isplitl [HX]; · iexact HX
    isplitl [HC]; · iexact HC
    isplitl [Hr]; · iexact Hr
    isplitl [Hc]; · iexact Hc
    isplitl [Ha]; · iexact Ha
    isplitl [Hm]; · iexact Hm
    isplitl [Hb]; · iexact Hb
    isplitl [Hw]; · iexact Hw
    isplitl [Hh]; · iexact Hh
    isplitl [Hv]; · iexact Hv
    iexact Ho
  isplitl [HW]; · iexact HW
  isplitl [HR]; · iexact HR
  isplitl [HV]; · iexact HV
  isplitl [HH]; · iexact HH
  isplitl [Hi]; · iexact Hi
  isplitl [HA]; · iexact HA
  isplitl [HB]; · iexact HB
  isplitl [Hj]; · iexact Hj
  iexact Hk

theorem inv_in {s : ℕ} (hs : s < 126) : iprop(TPost c rt off cn co xd xt h0 G s ∗ Rst c h0 f0 G s) ⊢ Inv c rt off cn co xd xt h0 f0 G (s + 1) := by
  unfold Inv TPost Rst
  rw [show s + 1 + 11 = s + 11 + 1 from by omega, show s + 1 + 12 = s + 13 from by omega, show s + 1 + 24 = s + 24 + 1 by omega,
    bigSep_Ico_succ_top (a := s + 1) (b := s + 11) (by omega), bigSep_Ico_succ_top (a := s + 1) (b := s + 11) (by omega), bigSep_Ico_succ_top (a := s + 13) (b := s + 24) (by omega),
    bigSep_Ico_succ_top (a := 0) (b := s) (by omega), bigSep_Ico_succ_top (a := 0) (b := s) (by omega), bigSep_Ico_succ_top (a := 0) (b := s) (by omega)]
  iintro ⟨⟨HX, HC, Hc, Hm, Hr, Hi, Ha, Hb, Hw, Hv, Ho⟩, HW, HR, HV, HH, HI, HA, HB, Hj, Hk⟩
  isplitl [HX]; · iexact HX
  isplitl [HC]; · iexact HC
  isplitl [Hc]; · iexact Hc
  isplitl [Hm]; · iexact Hm
  isplitl [Ho]; · iexact Ho
  isplitl [Hw HW]
  · isplitl [Hw]; · iexact Hw
    iexact HW
  isplitl [Hr HR]
  · isplitl [Hr]; · iexact Hr
    iexact HR
  isplitl [Hv HV]
  · isplitl [Hv]; · iexact Hv
    iexact HV
  isplitl [HH]; · iexact HH
  isplitl [Hi HI]
  · isplitl [Hi]; · iexact Hi
    iexact HI
  isplitl [HA]; · iexact HA
  isplitl [HB]; · iexact HB
  isplitl [Ha Hj]
  · isplitl [Ha]; · iexact Ha
    iexact Hj
  isplitl [Hb]; · iexact Hb
  iexact Hk

/-- The loop, from before its first step to after its last. -/
theorem loop_tri (hG : Holds xt (cxOf rt off xd) (muOf cn co) h0 G) (v724 : BitVec 32) :
    Tri c (Inv c rt off cn co xd xt h0 f0 G 0)
      (Scf.Loop.for k0_t1_loop k0_t1_ok ⟨⟩ (k0_t1_body (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 v724))
      fun _ => Inv c rt off cn co xd xt h0 f0 G 126 := by
  unfold Tri
  have h := Scf.wp_for frame (wpE (defs₀ (F := F)) Variants.none (c : Thread nD τ) none) Set.univ k0_t1_loop.lb k0_t1_loop.ub k0_t1_loop.st k0_t1_ok ()
    (k0_t1_body (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 v724) (fun k _ => Inv c rt off cn co xd xt h0 f0 G k)
    (fun s acc => (inv_out (s_lt s)).trans ((tri_frame (trip_tri (f0 := f0) s hG v724)).trans (wp_mono _ _ _ fun _ => inv_in (s_lt s))))
    (Q := fun _ => Inv c rt off cn co xd xt h0 f0 G 126)
  refine BIBase.Entails.trans ?_ h
  iintro H
  isplitl [H]; · iexact H
  iintro %a H
  iexact H

end Cert.KernelIdeal.Hand

end
-- ==== Proof.KernelIdeal.Epi.lean ====
module

public import proofs.«01_k».proof.Proof.KernelIdeal.Inv
public import Idealize.SL.BI.BigOpNat

/-! The last writes of the blocks, and the waits for the writes still under way. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable {c : Dev nD} {xt : S3072x256.Idx → Elt F .bf16} {cxs : ℕ → S256x3072.Idx → Elt F .bf16} {mus : ℕ → S2x512.Idx → Elt F .f32}
  {h0 f0 G : S6x3072x3072.Idx → Elt F .f32}

/-- The waits reached: the direct writes before `d` and the mirrored writes before `e` have been waited for. -/
def ES (c : Dev nD) (G : S6x3072x3072.Idx → Elt F .f32) (d e : ℕ) : sProp (MM F) :=
  iprop(OW c ∗ bigSep (Finset.Ico d 138) (WI c G) ∗ bigSep (Finset.Ico 126 d) (HOB c G) ∗ bigSep (Finset.Ico 126 d) (fun T => Free c ((T + 12) % 24))
    ∗ bigSep (Finset.Ico e 138) (MWI c G) ∗ bigSep (Finset.Ico 126 e) (HOM c G) ∗ bigSep (Finset.Ico 126 e) (fun T => MFree c (T % 12)))

theorem es_w {d e : ℕ} (hd : 126 ≤ d ∧ d < 138) {osem : Fin 1 → ℕ} {os od : Fin 3 → ℕ} {q1 q2 q3 q4 q5 q6 e1 e2} (h1 : osem = ![(d - 12) % 24])
    {α : Type} {rest : Prog (TpuEff nD τ sig (Elt F) Λ₀ .tc) α} {Q : α → sProp (MM F)} (hk : Tri c (ES c G (d + 1) e) rest Q) :
    Tri c (ES c G d e)
      (Prog.lift (.waitDma2 ((cc0_scratch16.slice (Rect.unit (s := S24) osem S1.size q5)).squeeze S_ q6).sem
        (blkM (n := 512) (m := 512) mBuf os q1 q2) (blkM (n := 512) (m := 512) mHo od q3 q4) e1 e2) >>= fun _ => rest) Q := by
  refine tri_skip (tri_seq (tri_wrw (G := G) (t := d - 12) h1) (R := iprop(Sem0 c (rdS ((d - 12) % 24)) ∗ bigSep (Finset.Ico (d + 1) 138) (WI c G) ∗ bigSep (Finset.Ico 126 d) (HOB c G) ∗ bigSep (Finset.Ico 126 d) (fun T => Free c ((T + 12) % 24))
    ∗ bigSep (Finset.Ico e 138) (MWI c G) ∗ bigSep (Finset.Ico 126 e) (HOM c G) ∗ bigSep (Finset.Ico 126 e) (fun T => MFree c (T % 12)))) fun _ => tri_skip hk ?_) ?_
  · unfold ES
    rw [bigSep_Ico_succ_top (a := 126) (b := d) (by omega), bigSep_Ico_succ_top (a := 126) (b := d) (by omega), show HOB c G d = hoB c G (d - 12) from if_pos (by omega)]
    unfold Free
    rw [show (d + 12) % 24 = (d - 12) % 24 from by omega]
    iintro ⟨⟨⟨Hh, Hs⟩, Hw, Ho⟩, Hr, HW, HH, HK, HM, HN, HL⟩
    isplitl [Ho]; · iexact Ho
    isplitl [HW]; · iexact HW
    isplitl [Hh HH]
    · isplitl [Hh]; · iexact Hh
      iexact HH
    isplitl [Hs Hr Hw HK]
    · isplitl [Hs Hr Hw]
      · isplitl [Hs]; · iexact Hs
        isplitl [Hr]; · iexact Hr
        iexact Hw
      iexact HK
    isplitl [HM]; · iexact HM
    isplitl [HN]; · iexact HN
    iexact HL
  · unfold ES
    rw [bigSep_Ico_succ_bot (a := d) (b := 138) (by omega), show WI c G d = _ from if_pos (by omega)]
    iintro ⟨Ho, ⟨⟨Hw, Hr⟩, HW⟩, HH, HK, HM, HN, HL⟩
    isplitl [Hw Ho]
    · isplitl [Hw]; · iexact Hw
      iexact Ho
    isplitl [Hr]; · iexact Hr
    isplitl [HW]; · iexact HW
    isplitl [HH]; · iexact HH
    isplitl [HK]; · iexact HK
    isplitl [HM]; · iexact HM
    isplitl [HN]; · iexact HN
    iexact HL

theorem es_m {d e : ℕ} (he : 126 ≤ e ∧ e < 138) {osem : Fin 1 → ℕ} {os od : Fin 3 → ℕ} {q1 q2 q3 q4 q5 q6 e1 e2} (h1 : osem = ![(e - 12) % 12])
    {α : Type} {rest : Prog (TpuEff nD τ sig (Elt F) Λ₀ .tc) α} {Q : α → sProp (MM F)} (hk : Tri c (ES c G d (e + 1)) rest Q) :
    Tri c (ES c G d e)
      (Prog.lift (.waitDma2 ((cc0_scratch17.slice (Rect.unit (s := S12) osem S1.size q5)).squeeze S_ q6).sem
        (blkM (n := 512) (m := 512) mMir os q1 q2) (blkM (n := 512) (m := 512) mHo od q3 q4) e1 e2) >>= fun _ => rest) Q := by
  have hdg : ¬ dg (e - 12) := by unfold dg; omega
  refine tri_skip (tri_seq (tri_mrw (G := G) (t := e - 12) h1) (R := iprop(bigSep (Finset.Ico d 138) (WI c G) ∗ bigSep (Finset.Ico 126 d) (HOB c G) ∗ bigSep (Finset.Ico 126 d) (fun T => Free c ((T + 12) % 24))
    ∗ bigSep (Finset.Ico (e + 1) 138) (MWI c G) ∗ bigSep (Finset.Ico 126 e) (HOM c G) ∗ bigSep (Finset.Ico 126 e) (fun T => MFree c (T % 12)))) fun _ => tri_skip hk ?_) ?_
  · unfold ES
    rw [bigSep_Ico_succ_top (a := 126) (b := e) (by omega), bigSep_Ico_succ_top (a := 126) (b := e) (by omega), show HOM c G e = hoM c G (e - 12) from if_pos ⟨by omega, hdg⟩]
    unfold MFree
    rw [show e % 12 = (e - 12) % 12 from by omega]
    iintro ⟨⟨⟨Hh, Hs⟩, Hw, Ho⟩, HW, HH, HK, HM, HN, HL⟩
    isplitl [Ho]; · iexact Ho
    isplitl [HW]; · iexact HW
    isplitl [HH]; · iexact HH
    isplitl [HK]; · iexact HK
    isplitl [HM]; · iexact HM
    isplitl [Hh HN]
    · isplitl [Hh]; · iexact Hh
      iexact HN
    isplitl [Hs Hw]
    · isplitl [Hs]; · iexact Hs
      iexact Hw
    iexact HL
  · unfold ES
    rw [bigSep_Ico_succ_bot (a := e) (b := 138) (by omega), show MWI c G e = _ from if_pos ⟨by omega, hdg⟩]
    iintro ⟨Ho, HW, HH, HK, ⟨Hm, HM⟩, HN, HL⟩
    isplitl [Hm Ho]
    · isplitl [Hm]; · iexact Hm
      iexact Ho
    isplitl [HW]; · iexact HW
    isplitl [HH]; · iexact HH
    isplitl [HK]; · iexact HK
    isplitl [HM]; · iexact HM
    isplitl [HN]; · iexact HN
    iexact HL

theorem part81_tri (hG : Holds xt cxs mus h0 G) (v741 v744 : BitVec 32) :
    Tri c iprop(CI c xt cxs mus h0 137 ∗ HOB c f0 137 ∗ MCI c xt cxs mus h0 137 ∗ HOM c f0 137) (k0_part81 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 v741 v744) fun _ => iprop(WI c G 137 ∗ MWI c G 137) := by
  have hdg : ¬ dg 125 := by unfold dg; omega
  rw [k0_part81_eq_skeleton]
  unfold k0_part81_skel
  simp only [dif_pos (show k0_cond38 = 1#1 by decide)]
  rw [show CI c xt cxs mus h0 137 = _ from if_pos (by omega), show HOB c f0 137 = _ from if_pos (by omega), show MCI c xt cxs mus h0 137 = _ from if_pos ⟨by omega, hdg⟩,
    show HOM c f0 137 = _ from if_pos ⟨by omega, hdg⟩, show WI c G 137 = _ from if_pos (by omega), show MWI c G 137 = _ from if_pos ⟨by omega, hdg⟩]
  refine tri_skip (tri_seq (tri_wr (G := G) (f0 := f0) (t := 125) (by omega) (hG.direct 125 (by omega)) (by decide) (by decide) (by decide))
    (R := iprop(Sem0 c (rdS (125 % 24)) ∗ (MSlot c (125 % 12) (CT xt cxs mus h0 125) ∗ Sem0 c (mrS (125 % 12))) ∗ hoM c f0 125)) fun _ => ?_) (by
      iintro ⟨⟨HS, Hr, Hw⟩, Hh, ⟨HM, Hm⟩, Hk⟩
      isplitl [HS Hh Hw]
      · isplitl [HS]; · iexact HS
        isplitl [Hh]; · iexact Hh
        iexact Hw
      isplitl [Hr]; · iexact Hr
      isplitl [HM Hm]
      · isplitl [HM]; · iexact HM
        iexact Hm
      iexact Hk)
  refine tri_skip (tri_seq (tri_mr (G := G) (f0 := f0) (t := 125) (by omega) (hG.mirror 125 (by omega) hdg) (by decide) (by decide) (by decide))
    (R := iprop(WrF c G 125 ∗ Sem0 c (rdS (125 % 24)))) fun _ => ?_) (by
      iintro ⟨HW, Hr, ⟨HM, Hm⟩, Hk⟩
      isplitl [HM Hk Hm]
      · isplitl [HM]; · iexact HM
        isplitl [Hk]; · iexact Hk
        iexact Hm
      isplitl [HW]; · iexact HW
      iexact Hr)
  refine tri_pure ?_
  iintro ⟨HM, HW, Hr⟩
  isplitl [HW Hr]
  · isplitl [HW]; · iexact HW
    iexact Hr
  iexact HM

theorem part82_tri (a0 : BitVec 32) (a1 : BitVec 32) (a2 : BitVec 32) : Tri c (ES c G 126 126) (k0_part82 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 a0 a1 a2) fun _ => ES c G 127 126 := by
  rw [k0_part82_eq_skeleton]
  unfold k0_part82_skel
  refine es_w (by omega) (by decide) ?_
  exact tri_pure .rfl

theorem part83_tri (a0 : BitVec 32) (a1 : BitVec 32) (a2 : BitVec 32) : Tri c (ES c G 127 126) (k0_part83 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 a0 a1 a2) fun _ => ES c G 128 126 := by
  rw [k0_part83_eq_skeleton]
  unfold k0_part83_skel
  refine es_w (by omega) (by decide) ?_
  exact tri_pure .rfl

theorem part84_tri (a0 : BitVec 32) (a1 : BitVec 32) : Tri c (ES c G 128 126) (k0_part84 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 a0 a1) fun _ => ES c G 129 126 := by
  rw [k0_part84_eq_skeleton]
  unfold k0_part84_skel
  refine es_w (by omega) (by decide) ?_
  exact tri_pure .rfl

theorem part85_tri (a0 : BitVec 32) (a1 : BitVec 32) : Tri c (ES c G 129 126) (k0_part85 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 a0 a1) fun _ => ES c G 130 126 := by
  rw [k0_part85_eq_skeleton]
  unfold k0_part85_skel
  refine es_w (by omega) (by decide) ?_
  exact tri_pure .rfl

theorem part86_tri (a0 : BitVec 32) : Tri c (ES c G 130 126) (k0_part86 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 a0) fun _ => ES c G 131 126 := by
  rw [k0_part86_eq_skeleton]
  unfold k0_part86_skel
  refine es_w (by omega) (by decide) ?_
  exact tri_pure .rfl

theorem part87_tri (a0 : BitVec 32) : Tri c (ES c G 131 126) (k0_part87 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 a0) fun _ => ES c G 132 126 := by
  rw [k0_part87_eq_skeleton]
  unfold k0_part87_skel
  refine es_w (by omega) (by decide) ?_
  exact tri_pure .rfl

theorem part88_tri (a0 : BitVec 32) (a1 : BitVec 32) : Tri c (ES c G 132 126) (k0_part88 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 a0 a1) fun _ => ES c G 133 126 := by
  rw [k0_part88_eq_skeleton]
  unfold k0_part88_skel
  refine es_w (by omega) (by decide) ?_
  exact tri_pure .rfl

theorem part90_tri : Tri c (ES c G 133 126) (k0_part90 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18) fun _ => ES c G 134 126 := by
  rw [k0_part90_eq_skeleton]
  unfold k0_part90_skel
  refine es_w (by omega) (by decide) ?_
  exact tri_pure .rfl

theorem part91_tri : Tri c (ES c G 134 126) (k0_part91 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18) fun _ => ES c G 135 126 := by
  rw [k0_part91_eq_skeleton]
  unfold k0_part91_skel
  refine es_w (by omega) (by decide) ?_
  exact tri_pure .rfl

theorem part92_tri : Tri c (ES c G 135 126) (k0_part92 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18) fun _ => ES c G 136 126 := by
  rw [k0_part92_eq_skeleton]
  unfold k0_part92_skel
  refine es_w (by omega) (by decide) ?_
  exact tri_pure .rfl

theorem part93_tri : Tri c (ES c G 136 126) (k0_part93 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18) fun _ => ES c G 137 126 := by
  rw [k0_part93_eq_skeleton]
  unfold k0_part93_skel
  refine es_w (by omega) (by decide) ?_
  exact tri_pure .rfl

theorem part94_tri (a0 : BitVec 32) (a1 : BitVec 1) (a2 : BitVec 32) : Tri c (ES c G 137 126) (k0_part94 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 a0 a1 a2) fun _ => ES c G 138 129 := by
  rw [k0_part94_eq_skeleton]
  unfold k0_part94_skel
  simp only [dif_pos (show k0_cond39 = 1#1 by decide), dif_pos (show k0_cond40 = 1#1 by decide), dif_pos (show k0_cond41 = 1#1 by decide)]
  refine es_w (by omega) (by decide) ?_
  refine es_m (by omega) (by decide) ?_
  refine es_m (by omega) (by decide) ?_
  refine es_m (by omega) (by decide) ?_
  exact tri_pure .rfl

theorem part95_tri (a0 : BitVec 1) (a1 : BitVec 1) : Tri c (ES c G 138 129) (k0_part95 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 a0 a1) fun _ => ES c G 138 133 := by
  rw [k0_part95_eq_skeleton]
  unfold k0_part95_skel
  simp only [dif_pos (show k0_cond42 = 1#1 by decide), dif_pos (show k0_cond43 = 1#1 by decide), dif_pos (show k0_cond44 = 1#1 by decide), dif_pos (show k0_cond45 = 1#1 by decide)]
  refine es_m (by omega) (by decide) ?_
  refine es_m (by omega) (by decide) ?_
  refine es_m (by omega) (by decide) ?_
  refine es_m (by omega) (by decide) ?_
  exact tri_pure .rfl

theorem part96_tri (a0 : BitVec 32) (a1 : BitVec 32) (a2 : BitVec 32) : Tri c (ES c G 138 133) (k0_part96 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 a0 a1 a2) fun _ => ES c G 138 138 := by
  rw [k0_part96_eq_skeleton]
  unfold k0_part96_skel
  simp only [dif_pos (show k0_cond46 = 1#1 by decide), dif_pos (show k0_cond47 = 1#1 by decide), dif_pos (show k0_cond48 = 1#1 by decide), dif_pos (show k0_cond49 = 1#1 by decide), dif_pos (show k0_cond50 = 1#1 by decide)]
  refine es_m (by omega) (by decide) ?_
  refine es_m (by omega) (by decide) ?_
  refine es_m (by omega) (by decide) ?_
  refine es_m (by omega) (by decide) ?_
  refine es_m (by omega) (by decide) ?_
  exact tri_pure .rfl

theorem part89_tri : Tri c (ES c G 133 126) (k0_part89 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18) fun _ => ES c G 133 126 := by
  rw [k0_part89_eq_skeleton]
  unfold k0_part89_skel
  exact tri_pure .rfl

end Cert.KernelIdeal.Hand

end
-- ==== Proof.KernelIdeal.Pro.lean ====
module

public import proofs.«01_k».proof.Proof.KernelIdeal.Epi
public import Idealize.SL.BI.BigOpNat

/-! The first copies: the four inputs kept whole, and the first twelve blocks of the sums. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable {c : Dev nD} {h0 : S6x3072x3072.Idx → Elt F .f32} {x : S256x3072.Idx → Elt F .bf16} {rt : S8x128.Idx → Elt F .i32} {off : S7.Idx → Elt F .i32} {cn : S6.Idx → Elt F .i32}

def inS (k : ℕ) : DmaSem sig := Fin.ofNat 67 k
def outS (k : ℕ) : DmaSem sig := Fin.ofNat 67 (64 + k)

theorem sem_in {o : Fin 1 → ℕ} {h} {hq} {k : ℕ} (ho : o = ![k]) :
    ((cc0_scratch14.slice (Rect.unit (s := S4) o S1.size h)).squeeze S_ hq).sem = inS k := by
  subst ho
  have hk : k < 4 := h 0
  apply Fin.ext
  have key : ∀ j : (Rect.unit (s := S4) ![k] S1.size h).shape.Idx,
      (S4.rowMajor ((Rect.unit (s := S4) ![k] S1.size h).emb j)).val = k := fun j => by
    refine (Shape.rowMajor_val_one (d := ![4]) _).trans ?_
    show k + 1 * (j 0).val = k
    have : (j 0).val < 1 := (j 0).isLt
    omega
  show 0 + (S4.rowMajor _).val = k % 67
  rw [Nat.mod_eq_of_lt (by omega), zero_add]
  exact key _
theorem sem_out {o : Fin 1 → ℕ} {h} {hq} {k : ℕ} (ho : o = ![k]) :
    ((cc0_scratch18.slice (Rect.unit (s := S3) o S1.size h)).squeeze S_ hq).sem = outS k := by
  subst ho
  have hk : k < 3 := h 0
  apply Fin.ext
  have key : ∀ j : (Rect.unit (s := S3) ![k] S1.size h).shape.Idx,
      (S3.rowMajor ((Rect.unit (s := S3) ![k] S1.size h).emb j)).val = k := fun j => by
    refine (Shape.rowMajor_val_one (d := ![3]) _).trans ?_
    show k + 1 * (j 0).val = k
    have : (j 0).val < 1 := (j 0).isLt
    omega
  show 64 + (S3.rowMajor _).val = (64 + k) % 67
  rw [Nat.mod_eq_of_lt (by omega)]
  exact congrArg _ (key _)

/-- A share `q` of elements `S` of a buffer at the contents `f`. -/
abbrev PtQ (c : Dev nD) (q : PosShare TreeShare) {sp : Space} {s : Shape} {e : EltTy} (M : Memref sig .tc sp s e)
    (S : Finset (Idx (M.view.loc (c : Thread nD τ)))) (f : Buf (Elt F) (M.view.loc (c : Thread nD τ))) : sProp (MM F) :=
  (M.view.loc (c : Thread nD τ) ↦[S]{q} f)

section Copy
variable {sp sp' : Space} {s : Shape} {e : EltTy} {src : Memref sig .tc sp s e} {dst : Memref sig .tc sp' s e} {k : DmaSem sig}
  {hsrc : src.view.WordExact} {hdst : (DmaTarget.here (nD := nD) (τ := τ) (p := .tc) dst).view.WordExact}
  {hsem : DmaTarget.Typed (nD := nD) (τ := τ) (p := .tc) sp (.dma k) (.here dst)}

/-- Starting a copy of a source held at any share. -/
theorem tri_copyS {q : PosShare TreeShare} {Ss : Finset (Idx (src.view.loc (c : Thread nD τ)))} {Sd : Finset (Idx (dst.view.loc (c : Thread nD τ)))} {k' : DmaSem sig} (hk : k = k')
    (fs : Buf (Elt F) (src.view.loc (c : Thread nD τ))) (fd f' : Buf (Elt F) (dst.view.loc (c : Thread nD τ))) (h0 : 0 < s.numel) (hs : src.view.set = Ss) (hd : dst.view.set = Sd)
    (hf : ∀ x, dst.view.read (Elt F) f' x = src.view.read (Elt F) fs x) :
    Tri c iprop(PtQ c q src Ss fs ∗ Pt c dst Sd fd ∗ Sem0 c k')
      (Prog.lift (.enqueueDma src (.here dst) (.dma k) hsrc hdst hsem))
      (fun _ => Fly c k' dst.view.dmaCredit iprop(Pt c dst Sd f' ∗ PtQ c q src Ss fs)) := by
  subst hk hs hd
  apply tri_lift
  iintro H
  iapply (Transfers.wp_dmaLocal EC Variants.none (c : Thread nD τ) none () dst.view.dmaCredit rfl (View.dmaCredit_pos _ h0) (Finset.Subset.refl _)) $$ H
  iintro HF
  iapply (le_wp_ret _ _ _ _ _)
  ihave HF := Transfers.Flight_mono EC (c := (c : Thread nD τ))
    (Entails.of_eq (congrArg (fun z => iprop(z ∗ PtQ c q src src.view.set fs)) (pointsTo_congr (write_agree hf)))) $$ HF
  iexact HF

theorem tri_waitS {srcw : Memref sig .tc sp s e} {dstw : Memref sig .tc sp' s e} {hsrc : srcw.view.WordExact} {hdst : dstw.view.WordExact} {k' : DmaSem sig} (hk : k = k')
    {N : ℕ} (hN : dstw.view.dmaCredit = N) {D : sProp (MM F)} :
    Tri c iprop(Fly c k' N D ∗ OW c) (Prog.lift (.waitDma2 k srcw dstw hsrc hdst)) (fun _ => iprop(D ∗ Sem0 c k' ∗ OW c)) := by
  subst hk
  exact tri_wait hN
end Copy

/-- The reads of the blocks before step `k` under way, those of the steps from `k` on not yet started. -/
def PS (c : Dev nD) (h0 : S6x3072x3072.Idx → Elt F .f32) (k : ℕ) : sProp (MM F) :=
  iprop(bigSep (Finset.Ico 12 (12 + k)) (RI c h0) ∗ bigSep (Finset.Ico k 12) (hinB c h0) ∗ bigSep (Finset.Ico k 12) (Free c))

theorem ps_out {k : ℕ} (hk : k < 12) : PS c h0 k ⊢ iprop((hinB c h0 k ∗ SlotAny c (k % 24) ∗ Sem0 c (rdS (k % 24))) ∗ Sem0 c (wrS (k % 24))
    ∗ bigSep (Finset.Ico 12 (12 + k)) (RI c h0) ∗ bigSep (Finset.Ico (k + 1) 12) (hinB c h0) ∗ bigSep (Finset.Ico (k + 1) 12) (Free c)) := by
  unfold PS
  rw [bigSep_Ico_succ_bot hk, bigSep_Ico_succ_bot hk, Nat.mod_eq_of_lt (show k < 24 by omega)]
  show iprop(_ ∗ _ ∗ iprop(SlotAny c k ∗ Sem0 c (rdS k) ∗ Sem0 c (wrS k)) ∗ _) ⊢ _
  iintro ⟨HA, ⟨Hh, HB⟩, ⟨Hs, Hr, Hw⟩, HC⟩
  isplitl [Hh Hs Hr]
  · isplitl [Hh]; · iexact Hh
    isplitl [Hs]; · iexact Hs
    iexact Hr
  isplitl [Hw]; · iexact Hw
  isplitl [HA]; · iexact HA
  isplitl [HB]; · iexact HB
  iexact HC

theorem ps_in {k : ℕ} (hk : k < 12) : iprop(RdF c h0 k ∗ Sem0 c (wrS (k % 24))
    ∗ bigSep (Finset.Ico 12 (12 + k)) (RI c h0) ∗ bigSep (Finset.Ico (k + 1) 12) (hinB c h0) ∗ bigSep (Finset.Ico (k + 1) 12) (Free c)) ⊢ PS c h0 (k + 1) := by
  unfold PS
  rw [← add_assoc, bigSep_Ico_succ_top (a := 12) (b := 12 + k) (by omega), show RI c h0 (12 + k) = iprop(RdF c h0 k ∗ Sem0 c (wrS (k % 24))) by
    unfold RI; rw [if_pos (by omega), show 12 + k - 12 = k by omega]]
  iintro ⟨Hr, Hw, HA, HB, HC⟩
  isplitl [Hr Hw HA]
  · isplitl [Hr Hw]
    · isplitl [Hr]; · iexact Hr
      iexact Hw
    iexact HA
  isplitl [HB]; · iexact HB
  iexact HC

theorem rd_d {k : ℕ} (hk : k < 12) (hd : dg k) {o1 o2 o3 o4 : Fin 1 → ℕ}
    {a1 a2 a3 a4 b1 b2 b3 b4 : Fin 3 → ℕ} {p1 p2 p3 p4 q1 q2 q3 q4 r1 r2 r3 r4 s1 s2 s3 s4 u1 u2 u3 u4 v1 v2 v3 v4} {w1 w2 w3 w4 x1 x2 x3 x4 y1 y2 y3 y4}
    (h1 : o1 = ![k % 24]) (h2 : o2 = ![k % 24]) (h3 : o3 = ![k % 24]) (h4 : o4 = ![k % 24])
    (hb1 : b1 = ![k % 24, 0, 0]) (hb2 : b2 = ![k % 24, 128, 128]) (hb3 : b3 = ![k % 24, 256, 256]) (hb4 : b4 = ![k % 24, 384, 384])
    (ha1 : a1 = ![eOf k, 512 * iOf k, 512 * iOf k]) (ha2 : a2 = ![eOf k, 512 * iOf k + 128, 512 * iOf k + 128])
    (ha3 : a3 = ![eOf k, 512 * iOf k + 256, 512 * iOf k + 256]) (ha4 : a4 = ![eOf k, 512 * iOf k + 384, 512 * iOf k + 384])
    {α : Type} {rest : Prog (TpuEff nD τ sig (Elt F) Λ₀ .tc) α} {Q : α → sProp (MM F)} {R : sProp (MM F)} (hrest : Tri c iprop(PS c h0 (k + 1) ∗ R) rest Q) :
    Tri c iprop(PS c h0 k ∗ R)
      (Prog.lift (.enqueueDma (blkM (n := 128) (m := 512) mIn a1 p1 q1) (.here (blkM (n := 128) (m := 512) mBuf b1 r1 s1))
          (.dma ((cc0_scratch15.slice (Rect.unit (s := S24) o1 S1.size u1)).squeeze S_ v1).sem) w1 x1 y1) >>= fun _ =>
        Prog.lift (.enqueueDma (blkM (n := 128) (m := 384) mIn a2 p2 q2) (.here (blkM (n := 128) (m := 384) mBuf b2 r2 s2))
          (.dma ((cc0_scratch15.slice (Rect.unit (s := S24) o2 S1.size u2)).squeeze S_ v2).sem) w2 x2 y2) >>= fun _ =>
        Prog.lift (.enqueueDma (blkM (n := 128) (m := 256) mIn a3 p3 q3) (.here (blkM (n := 128) (m := 256) mBuf b3 r3 s3))
          (.dma ((cc0_scratch15.slice (Rect.unit (s := S24) o3 S1.size u3)).squeeze S_ v3).sem) w3 x3 y3) >>= fun _ =>
        Prog.lift (.enqueueDma (blkM (n := 128) (m := 128) mIn a4 p4 q4) (.here (blkM (n := 128) (m := 128) mBuf b4 r4 s4))
          (.dma ((cc0_scratch15.slice (Rect.unit (s := S24) o4 S1.size u4)).squeeze S_ v4).sem) w4 x4 y4) >>= fun _ => rest) Q := by
  refine tri_skip (tri_rd_dg_f (h0 := h0) (t := k) (by omega) hd h1 h2 h3 h4 hb1 hb2 hb3 hb4 ha1 ha2 ha3 ha4 (R := iprop((Sem0 c (wrS (k % 24))
    ∗ bigSep (Finset.Ico 12 (12 + k)) (RI c h0) ∗ bigSep (Finset.Ico (k + 1) 12) (hinB c h0) ∗ bigSep (Finset.Ico (k + 1) 12) (Free c)) ∗ R)) (tri_skip hrest ?_)) ?_
  · refine BIBase.Entails.trans ?_ (sep_mono (ps_in hk) .rfl)
    iintro ⟨Hr, HA, HR⟩
    isplitl [Hr HA]
    · isplitl [Hr]; · iexact Hr
      iexact HA
    iexact HR
  · refine (sep_mono (ps_out hk) .rfl).trans ?_
    iintro ⟨⟨Hh, HA⟩, HR⟩
    isplitl [Hh]; · iexact Hh
    isplitl [HA]; · iexact HA
    iexact HR

theorem rd_o {k : ℕ} (hk : k < 12) (hd : ¬ dg k) {osem : Fin 1 → ℕ} {os od : Fin 3 → ℕ}
    {q1 q2 q3 q4 q5 q6 e1 e2 e3} (h1 : osem = ![k % 24]) (h2 : od = ![k % 24, 0, 0]) (h3 : os = ![eOf k, 512 * iOf k, 512 * jOf k])
    {α : Type} {rest : Prog (TpuEff nD τ sig (Elt F) Λ₀ .tc) α} {Q : α → sProp (MM F)} {R : sProp (MM F)} (hrest : Tri c iprop(PS c h0 (k + 1) ∗ R) rest Q) :
    Tri c iprop(PS c h0 k ∗ R)
      (Prog.lift (.enqueueDma (blkM (n := 512) (m := 512) mIn os q1 q2) (.here (blkM mBuf od q3 q4))
        (.dma ((cc0_scratch15.slice (Rect.unit (s := S24) osem S1.size q5)).squeeze S_ q6).sem) e1 e2 e3) >>= fun _ => rest) Q := by
  refine tri_skip (tri_seq (tri_rd_off (h0 := h0) (t := k) (by omega) hd h1 h2 h3) (R := iprop((Sem0 c (wrS (k % 24))
    ∗ bigSep (Finset.Ico 12 (12 + k)) (RI c h0) ∗ bigSep (Finset.Ico (k + 1) 12) (hinB c h0) ∗ bigSep (Finset.Ico (k + 1) 12) (Free c)) ∗ R)) fun _ => tri_skip hrest ?_) ?_
  · refine BIBase.Entails.trans ?_ (sep_mono (ps_in hk) .rfl)
    iintro ⟨Hr, HA, HR⟩
    isplitl [Hr HA]
    · isplitl [Hr]; · iexact Hr
      iexact HA
    iexact HR
  · refine (sep_mono (ps_out hk) .rfl).trans ?_
    iintro ⟨⟨Hh, HA⟩, HR⟩
    isplitl [Hh]; · iexact Hh
    isplitl [HA]; · iexact HA
    iexact HR

/-- An input at rest: its contents in main memory, any contents in its buffer, its semaphore at zero. -/
abbrev At0 (c : Dev nD) {sp sp' : Space} {s s' : Shape} {e e' : EltTy} (src : Memref sig .tc sp s e) (dst : Memref sig .tc sp' s' e') (f : Buf (Elt F) (src.view.loc (c : Thread nD τ))) (k : ℕ) : sProp (MM F) :=
  iprop(Pt c src Finset.univ f ∗ (∃ g, Pt c dst Finset.univ g) ∗ Sem0 c (inS k))
/-- An input on its way into its buffer. -/
abbrev InF (c : Dev nD) {sp sp' : Space} {s s' : Shape} {e e' : EltTy} (src : Memref sig .tc sp s e) (dst : Memref sig .tc sp' s' e') (f : Buf (Elt F) (src.view.loc (c : Thread nD τ)))
    (f' : Buf (Elt F) (dst.view.loc (c : Thread nD τ))) (k : ℕ) : sProp (MM F) :=
  Fly c (inS k) dst.view.dmaCredit iprop(Pt c dst Finset.univ f' ∗ Pt c src Finset.univ f)

set_option maxHeartbeats 4000000 in
theorem part60_tri : Tri c iprop(At0 c mX mXv x 0 ∗ At0 c mOff mOffs off 2 ∗ At0 c mCnt mCnts cn 3 ∗ At0 c mRt mRtv rt 1 ∗ PS c h0 0) (k0_part60 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18) fun _ => iprop(PS c h0 2 ∗ InF c mX mXv x x 0 ∗ InF c mOff mOffs off off 2 ∗ InF c mCnt mCnts cn cn 3 ∗ InF c mRt mRtv rt rt 1) := by
  rw [k0_part60_eq_skeleton]
  unfold k0_part60_skel
  simp only [dif_pos (show k0_cond1 = 1#1 by decide), dif_neg (show ¬ k0_cond2 = 1#1 by decide), dif_pos (show k0_cond3 = 1#1 by decide), dif_neg (show ¬ k0_cond4 = 1#1 by decide), k0_part1_eq_skeleton, k0_part2_eq_skeleton, k0_part3_eq_skeleton, k0_part4_eq_skeleton, k0_part5_eq_skeleton, k0_part6_eq_skeleton, k0_part1_skel, k0_part2_skel, k0_part3_skel, k0_part4_skel, k0_part5_skel, k0_part6_skel, bind_assoc, pure_bind]
  refine tri_skip (tri_ex (P := fun fx => iprop(∃ fo fc fr, iprop((Pt c mX Finset.univ x ∗ Pt c mXv Finset.univ fx ∗ Sem0 c (inS 0)) ∗ (Pt c mOff Finset.univ off ∗ Pt c mOffs Finset.univ fo ∗ Sem0 c (inS 2)) ∗ (Pt c mCnt Finset.univ cn ∗ Pt c mCnts Finset.univ fc ∗ Sem0 c (inS 3)) ∗ (Pt c mRt Finset.univ rt ∗ Pt c mRtv Finset.univ fr ∗ Sem0 c (inS 1)) ∗ PS c h0 0))) fun fx => tri_ex (P := fun fo => iprop(∃ fc fr, iprop((Pt c mX Finset.univ x ∗ Pt c mXv Finset.univ fx ∗ Sem0 c (inS 0)) ∗ (Pt c mOff Finset.univ off ∗ Pt c mOffs Finset.univ fo ∗ Sem0 c (inS 2)) ∗ (Pt c mCnt Finset.univ cn ∗ Pt c mCnts Finset.univ fc ∗ Sem0 c (inS 3)) ∗ (Pt c mRt Finset.univ rt ∗ Pt c mRtv Finset.univ fr ∗ Sem0 c (inS 1)) ∗ PS c h0 0))) fun fo => tri_ex (P := fun fc => iprop(∃ fr, iprop((Pt c mX Finset.univ x ∗ Pt c mXv Finset.univ fx ∗ Sem0 c (inS 0)) ∗ (Pt c mOff Finset.univ off ∗ Pt c mOffs Finset.univ fo ∗ Sem0 c (inS 2)) ∗ (Pt c mCnt Finset.univ cn ∗ Pt c mCnts Finset.univ fc ∗ Sem0 c (inS 3)) ∗ (Pt c mRt Finset.univ rt ∗ Pt c mRtv Finset.univ fr ∗ Sem0 c (inS 1)) ∗ PS c h0 0))) fun fc => tri_ex (P := fun fr => iprop((Pt c mX Finset.univ x ∗ Pt c mXv Finset.univ fx ∗ Sem0 c (inS 0)) ∗ (Pt c mOff Finset.univ off ∗ Pt c mOffs Finset.univ fo ∗ Sem0 c (inS 2)) ∗ (Pt c mCnt Finset.univ cn ∗ Pt c mCnts Finset.univ fc ∗ Sem0 c (inS 3)) ∗ (Pt c mRt Finset.univ rt ∗ Pt c mRtv Finset.univ fr ∗ Sem0 c (inS 1)) ∗ PS c h0 0)) fun fr => ?_) (by
      iintro ⟨⟨Hx, ⟨%fx, Hxv⟩, Hxs⟩, ⟨Ho, ⟨%fo, Hov⟩, Hos⟩, ⟨Hc, ⟨%fc, Hcv⟩, Hcs⟩, ⟨Hr, ⟨%fr, Hrv⟩, Hrs⟩, HP⟩
      iexists fx, fo, fc, fr
      isplitl [Hx Hxv Hxs]
      · isplitl [Hx]; · iexact Hx
        isplitl [Hxv]; · iexact Hxv
        iexact Hxs
      isplitl [Ho Hov Hos]
      · isplitl [Ho]; · iexact Ho
        isplitl [Hov]; · iexact Hov
        iexact Hos
      isplitl [Hc Hcv Hcs]
      · isplitl [Hc]; · iexact Hc
        isplitl [Hcv]; · iexact Hcv
        iexact Hcs
      isplitl [Hr Hrv Hrs]
      · isplitl [Hr]; · iexact Hr
        isplitl [Hrv]; · iexact Hrv
        iexact Hrs
      iexact HP)
  refine tri_seq (tri_copyS (src := mX) (dst := mXv) (sem_in (k := 0) rfl) x fx x (by decide) (View.set_whole _) (View.set_whole _) (fun _ => rfl)) (R := iprop((Pt c mOff Finset.univ off ∗ Pt c mOffs Finset.univ fo ∗ Sem0 c (inS 2)) ∗ (Pt c mCnt Finset.univ cn ∗ Pt c mCnts Finset.univ fc ∗ Sem0 c (inS 3)) ∗ (Pt c mRt Finset.univ rt ∗ Pt c mRtv Finset.univ fr ∗ Sem0 c (inS 1)) ∗ PS c h0 0)) fun _ => ?_
  refine tri_skip (tri_seq (tri_copyS (src := mOff) (dst := mOffs) (sem_in (k := 2) rfl) off fo off (by decide) (View.set_whole _) (View.set_whole _) (fun _ => rfl)) (R := iprop((Pt c mCnt Finset.univ cn ∗ Pt c mCnts Finset.univ fc ∗ Sem0 c (inS 3)) ∗ (Pt c mRt Finset.univ rt ∗ Pt c mRtv Finset.univ fr ∗ Sem0 c (inS 1)) ∗ PS c h0 0 ∗ InF c mX mXv x x 0)) fun _ => ?_) (by
      iintro ⟨Hn, Hq1, Hq2, Hq3, HP⟩
      isplitl [Hq1]; · iexact Hq1
      isplitl [Hq2]; · iexact Hq2
      isplitl [Hq3]; · iexact Hq3
      isplitl [HP]; · iexact HP
      iexact Hn)
  refine tri_skip (tri_seq (tri_copyS (src := mCnt) (dst := mCnts) (sem_in (k := 3) rfl) cn fc cn (by decide) (View.set_whole _) (View.set_whole _) (fun _ => rfl)) (R := iprop((Pt c mRt Finset.univ rt ∗ Pt c mRtv Finset.univ fr ∗ Sem0 c (inS 1)) ∗ PS c h0 0 ∗ InF c mX mXv x x 0 ∗ InF c mOff mOffs off off 2)) fun _ => ?_) (by
      iintro ⟨Hn, Hq2, Hq3, HP, Hd0⟩
      isplitl [Hq2]; · iexact Hq2
      isplitl [Hq3]; · iexact Hq3
      isplitl [HP]; · iexact HP
      isplitl [Hd0]; · iexact Hd0
      iexact Hn)
  refine tri_skip (tri_seq (tri_copyS (src := mRt) (dst := mRtv) (sem_in (k := 1) rfl) rt fr rt (by decide) (View.set_whole _) (View.set_whole _) (fun _ => rfl)) (R := iprop(PS c h0 0 ∗ InF c mX mXv x x 0 ∗ InF c mOff mOffs off off 2 ∗ InF c mCnt mCnts cn cn 3)) fun _ => ?_) (by
      iintro ⟨Hn, Hq3, HP, Hd0, Hd1⟩
      isplitl [Hq3]; · iexact Hq3
      isplitl [HP]; · iexact HP
      isplitl [Hd0]; · iexact Hd0
      isplitl [Hd1]; · iexact Hd1
      iexact Hn)
  refine tri_skip (B := iprop(PS c h0 0 ∗ InF c mX mXv x x 0 ∗ InF c mOff mOffs off off 2 ∗ InF c mCnt mCnts cn cn 3 ∗ InF c mRt mRtv rt rt 1)) ?_ (by
      iintro ⟨Hn, HP, Ha, Hb, Hc⟩
      isplitl [HP]; · iexact HP
      isplitl [Ha]; · iexact Ha
      isplitl [Hb]; · iexact Hb
      isplitl [Hc]; · iexact Hc
      iexact Hn)
  refine rd_d (k := 0) (by omega) (by unfold dg; omega) (by decide) (by decide) (by decide) (by decide) (by decide) (by decide) (by decide) (by decide) (by decide) (by decide) (by decide) (by decide) ?_
  refine rd_d (k := 1) (by omega) (by unfold dg; omega) (by decide) (by decide) (by decide) (by decide) (by decide) (by decide) (by decide) (by decide) (by decide) (by decide) (by decide) (by decide) ?_
  exact tri_pure .rfl

set_option maxHeartbeats 4000000 in
theorem part61_tri (a0 : BitVec 32) (a1 : BitVec 32) : Tri c iprop(PS c h0 2 ∗ emp) (k0_part61 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 a0 a1) fun _ => iprop(PS c h0 5 ∗ emp) := by
  rw [k0_part61_eq_skeleton]
  unfold k0_part61_skel
  simp only [dif_pos (show k0_cond5 = 1#1 by decide), dif_neg (show ¬ k0_cond6 = 1#1 by decide), dif_pos (show k0_cond7 = 1#1 by decide), dif_neg (show ¬ k0_cond8 = 1#1 by decide), dif_pos (show k0_cond9 = 1#1 by decide), dif_neg (show ¬ k0_cond10 = 1#1 by decide), k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part7_skel, k0_part8_skel, k0_part9_skel, k0_part10_skel, k0_part11_skel, k0_part12_skel, k0_part13_skel, k0_part14_skel, k0_part15_skel, bind_assoc, pure_bind]
  refine rd_d (k := 2) (by omega) (by unfold dg; omega) (by decide) (by decide) (by decide) (by decide) (by decide) (by decide) (by decide) (by decide) (by decide) (by decide) (by decide) (by decide) ?_
  refine rd_d (k := 3) (by omega) (by unfold dg; omega) (by decide) (by decide) (by decide) (by decide) (by decide) (by decide) (by decide) (by decide) (by decide) (by decide) (by decide) (by decide) ?_
  refine rd_d (k := 4) (by omega) (by unfold dg; omega) (by decide) (by decide) (by decide) (by decide) (by decide) (by decide) (by decide) (by decide) (by decide) (by decide) (by decide) (by decide) ?_
  exact tri_pure .rfl

set_option maxHeartbeats 4000000 in
theorem part62_tri (a0 : BitVec 1) (a1 : BitVec 32) (a2 : BitVec 32) : Tri c iprop(PS c h0 5 ∗ emp) (k0_part62 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 a0 a1 a2) fun _ => iprop(PS c h0 8 ∗ emp) := by
  rw [k0_part62_eq_skeleton]
  unfold k0_part62_skel
  simp only [dif_pos (show k0_cond11 = 1#1 by decide), dif_neg (show ¬ k0_cond12 = 1#1 by decide), dif_neg (show ¬ k0_cond13 = 1#1 by decide), dif_pos (show k0_cond14 = 1#1 by decide), dif_neg (show ¬ k0_cond15 = 1#1 by decide), dif_pos (show k0_cond16 = 1#1 by decide), dif_neg (show ¬ k0_cond17 = 1#1 by decide), k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part16_skel, k0_part17_skel, k0_part18_skel, k0_part19_skel, k0_part20_skel, k0_part21_skel, k0_part22_skel, k0_part23_skel, k0_part24_skel, k0_part25_skel, k0_part26_skel, k0_part27_skel, bind_assoc, pure_bind]
  refine rd_d (k := 5) (by omega) (by unfold dg; omega) (by decide) (by decide) (by decide) (by decide) (by decide) (by decide) (by decide) (by decide) (by decide) (by decide) (by decide) (by decide) ?_
  refine rd_o (k := 6) (by omega) (by unfold dg; omega) (by decide) (by decide) (by decide) ?_
  refine rd_o (k := 7) (by omega) (by unfold dg; omega) (by decide) (by decide) (by decide) ?_
  exact tri_pure .rfl

set_option maxHeartbeats 4000000 in
theorem part63_tri (a0 : BitVec 1) : Tri c iprop(PS c h0 8 ∗ emp) (k0_part63 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 a0) fun _ => iprop(PS c h0 11 ∗ emp) := by
  rw [k0_part63_eq_skeleton]
  unfold k0_part63_skel
  simp only [dif_pos (show k0_cond18 = 1#1 by decide), dif_neg (show ¬ k0_cond19 = 1#1 by decide), dif_pos (show k0_cond20 = 1#1 by decide), dif_neg (show ¬ k0_cond21 = 1#1 by decide), dif_pos (show k0_cond22 = 1#1 by decide), dif_neg (show ¬ k0_cond23 = 1#1 by decide), k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part28_skel, k0_part29_skel, k0_part30_skel, k0_part31_skel, k0_part32_skel, k0_part33_skel, k0_part34_skel, k0_part35_skel, k0_part36_skel, bind_assoc, pure_bind]
  refine rd_o (k := 8) (by omega) (by unfold dg; omega) (by decide) (by decide) (by decide) ?_
  refine rd_o (k := 9) (by omega) (by unfold dg; omega) (by decide) (by decide) (by decide) ?_
  refine rd_o (k := 10) (by omega) (by unfold dg; omega) (by decide) (by decide) (by decide) ?_
  exact tri_pure .rfl

end Cert.KernelIdeal.Hand

end
-- ==== Proof.KernelIdeal.Quant.lean ====
module

public import proofs.«01_k».proof.Proof.KernelIdeal.Pro
public import Idealize.SL.BI.BigOpNat

/-! The quantiser: what the codes, the scales, the activations given back and their transpose hold. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable {c : Dev nD} {x : S256x3072.Idx → Elt F .bf16}

/-- Thirty-two rows from row `n`. -/
def rowsAt (x : S256x3072.Idx → Elt F .bf16) (n : ℕ) (i : S32x3072.Idx) : Elt F .bf16 :=
  x (ix2 (n0 := 256) (n1 := 3072) ⟨(n + (i 0).val) % 256, Nat.mod_lt _ (by norm_num)⟩ (i 1))
/-- The codes of thirty-two rows. -/
def qC (v : S32x3072.Idx → Elt F .bf16) : S32x3072.Idx → Elt F .fp8e4m3 := k0_pay40 (k0_pay35 v) (k0_pay36 v) k0_pay38
/-- The activations thirty-two rows' codes stand for. -/
def qD (v : S32x3072.Idx → Elt F .bf16) : S32x3072.Idx → Elt F .bf16 := k0_pay41 (k0_pay35 v) (k0_pay36 v) (k0_pay37 v) k0_pay38
/-- The scales of thirty-two rows, one per row, repeated along the row. -/
def qS (v : S32x3072.Idx → Elt F .bf16) : S32x128.Idx → Elt F .f32 := k0_pay42 (k0_pay37 v)

/-- A row's place among thirty-two. -/
def inRow {m : ℕ} (y : (⟨2, ![256, m]⟩ : Shape).Idx) : (⟨2, ![32, m]⟩ : Shape).Idx :=
  ix2 (n0 := 32) (n1 := m) ⟨(y 0).val % 32, Nat.mod_lt _ (by norm_num)⟩ (y 1)
/-- All the codes. -/
def codesOf (x : S256x3072.Idx → Elt F .bf16) (y : S256x3072.Idx) : Elt F .fp8e4m3 := qC (rowsAt x (32 * ((y 0).val / 32))) (inRow (m := 3072) y)
/-- All the activations the codes stand for. -/
def xdOf (x : S256x3072.Idx → Elt F .bf16) (y : S256x3072.Idx) : Elt F .bf16 := qD (rowsAt x (32 * ((y 0).val / 32))) (inRow (m := 3072) y)
/-- All the scales, repeated along each row. -/
def scbOf (x : S256x3072.Idx → Elt F .bf16) (y : S256x128.Idx) : Elt F .f32 := qS (rowsAt x (32 * ((y 0).val / 32))) (inRow (m := 128) y)
/-- All the scales, as one row. -/
def scOf (x : S256x3072.Idx → Elt F .bf16) (y : S1x256.Idx) : Elt F .f32 := scbOf x (ix2 (n0 := 256) (n1 := 128) (y 1) 0)
/-- The activations given back, transposed. -/
def xdtOf (xd : S256x3072.Idx → Elt F .bf16) (y : S3072x256.Idx) : Elt F .bf16 := xd (ix2 (n0 := 256) (n1 := 3072) (y 1) (y 0))

section Pay
variable (v : S32x3072.Idx → Elt F .bf16)
theorem qC1 : k0_pay48 (k0_pay43 v) (iota .tc S32x256 32 [1] iota_S32x256_d1_w32) (k0_pay44 v) 0#32 = qC v := rfl
theorem qD1 : k0_pay50 (k0_pay49 (k0_pay43 v) (iota .tc S32x256 32 [1] iota_S32x256_d1_w32) (k0_pay44 v) 0#32) = qD v := rfl
theorem qS1 : k0_pay51 (k0_pay46 (F := F) (iota .tc S32x256 32 [1] iota_S32x256_d1_w32) (k0_pay44 v) 0#32) = qS v := rfl
theorem qC2 : k0_pay57 (k0_pay52 v) (k0_pay53 v) = qC v := rfl
theorem qD2 : k0_pay58 (k0_pay52 v) (k0_pay53 v) (k0_pay54 v) = qD v := rfl
theorem qS2 : k0_pay59 (F := F) (k0_pay54 v) = qS v := rfl
theorem qC3 : k0_pay66 (k0_pay65 (k0_pay60 v) (k0_pay61 v) (iota .tc S32x256 32 [1] iota_S32x256_d1_w32) (k0_pay62 (F := F))) = qC v := rfl
theorem qD3 : k0_pay67 (k0_pay64 (k0_pay61 v) (iota .tc S32x256 32 [1] iota_S32x256_d1_w32) (k0_pay62 (F := F))) (k0_pay65 (k0_pay60 v) (k0_pay61 v) (iota .tc S32x256 32 [1] iota_S32x256_d1_w32) (k0_pay62 (F := F))) = qD v := rfl
theorem qS3 : k0_pay68 (k0_pay64 (k0_pay61 v) (iota .tc S32x256 32 [1] iota_S32x256_d1_w32) (k0_pay62 (F := F))) = qS v := rfl
theorem qC4 : k0_pay76 (k0_pay69 v) (k0_pay71 v) (k0_pay72 v) = qC v := rfl
theorem qD4 : k0_pay77 (k0_pay69 v) (k0_pay71 v) (k0_pay72 v) = qD v := rfl
theorem qS4 : k0_pay78 (F := F) (k0_pay71 v) (k0_pay72 v) = qS v := rfl
theorem qC5 : k0_pay86 (k0_pay83 (k0_pay79 v) (k0_pay80 v)) (k0_pay84 (F := F)) = qC v := rfl
theorem qD5 : k0_pay87 (k0_pay82 (k0_pay80 v)) (k0_pay83 (k0_pay79 v) (k0_pay80 v)) (k0_pay84 (F := F)) = qD v := rfl
theorem qS5 : k0_pay88 (k0_pay82 (k0_pay80 v)) = qS v := rfl
theorem qC6 : k0_pay95 (k0_pay89 v) (k0_pay90 v) (k0_pay91 v) 255#32 = qC v := rfl
theorem qD6 : k0_pay96 (k0_pay89 v) (k0_pay90 v) (k0_pay91 v) 255#32 = qD v := rfl
theorem qS6 : k0_pay97 (F := F) (k0_pay90 v) (k0_pay91 v) 255#32 = qS v := rfl
theorem qC7 : k0_pay103 (k0_pay98 v) (k0_pay101 v) = qC v := rfl
theorem qD7 : k0_pay104 (k0_pay98 v) (k0_pay100 v) (k0_pay101 v) = qD v := rfl
theorem qS7 : k0_pay105 (k0_pay100 v) = qS v := rfl

end Pay

/-- A buffer holding `g` where `φ`. -/
def SoF (c : Dev nD) {sp : Space} {s : Shape} {e : EltTy} (M : Memref sig .tc sp s e) (φ : Idx (M.view.loc (c : Thread nD τ)) → Prop) (g : Buf (Elt F) (M.view.loc (c : Thread nD τ))) : sProp (MM F) :=
  iprop(∃ f, ⌜∀ y, φ y → f y = g y⌝ ∗ Pt c M Finset.univ f)

theorem so_store {cs : CoreSpace} {s : Shape} {e : EltTy} {M : Memref sig .tc cs s e} {r : Rect s} {w : r.shape.Idx → Elt F e} {hx hm}
    {φ φ' : Idx (M.view.loc (c : Thread nD τ)) → Prop} {g : Buf (Elt F) (M.view.loc (c : Thread nD τ))} {P P' : sProp (MM F)} {α : Type}
    {k : PUnit → Prog (TpuEff nD τ sig (Elt F) Λ₀ .tc) α} {Q : α → sProp (MM F)}
    (hw : ∀ f : Buf (Elt F) (M.view.loc (c : Thread nD τ)), (∀ y, φ y → f y = g y) → ∀ y, φ' y → (M.access r).write (Elt F) f w Finset.univ y = g y)
    (hP : P ⊢ iprop(SoF c M φ g ∗ (SoF c M φ' g -∗ P')))
    (hk : Tri c P' (k ⟨⟩) Q) : Tri c P (Prog.lift (.store M r w Finset.univ hx hm) >>= k) Q := by
  refine tri_skip (tri_ex (P := fun f => iprop(⌜∀ y, φ y → f y = g y⌝ ∗ Pt c M Finset.univ f ∗ (SoF c M φ' g -∗ P'))) fun f => tri_fact fun hf => ?_) ?_
  · refine tri_store (M := M) (Finset.subset_univ _) (f := f) (f' := (M.access r).write (Elt F) f w Finset.univ) (P' := P') (fun _ _ => rfl) ?_ hk
    iintro ⟨H, H'⟩
    isplitl [H]; · iexact H
    iintro H
    iapply H'
    unfold SoF
    iexists _
    isplitr; · ipureintro; exact hw f hf
    iexact H
  · refine hP.trans ?_
    unfold SoF
    iintro ⟨⟨%f, %hf, H⟩, H'⟩
    iexists f
    isplitr; · ipureintro; exact hf
    isplitl [H]; · iexact H
    iexact H'

theorem so_load {cs : CoreSpace} {s : Shape} {e : EltTy} {M : Memref sig .tc cs s e} {r : Rect s} {hl}
    {φ : Idx (M.view.loc (c : Thread nD τ)) → Prop} {g : Buf (Elt F) (M.view.loc (c : Thread nD τ))} {P : sProp (MM F)} {α : Type}
    {k : (r.shape.Idx → Elt F e) → Prog (TpuEff nD τ sig (Elt F) Λ₀ .tc) α} {Q : α → sProp (MM F)}
    (hP : P ⊢ iprop(SoF c M φ g ∗ (SoF c M φ g -∗ P)))
    (hk : ∀ v, Tri c P (k v) Q) : Tri c P (Prog.lift (.load M r.toLoadRect hl) >>= k) Q := by
  refine tri_skip (tri_ex (P := fun f => iprop(⌜∀ y, φ y → f y = g y⌝ ∗ Pt c M Finset.univ f ∗ (SoF c M φ g -∗ P))) fun f => tri_fact fun hf => ?_) ?_
  · refine tri_load (M := M) (Finset.subset_univ _) (f := f) ?_ (tri_skip (hk _) ?_)
    · iintro ⟨H, H'⟩
      isplitl [H]; · iexact H
      iintro H
      isplitl [H]; · iexact H
      iexact H'
    · iintro ⟨H, H'⟩
      iapply H'
      unfold SoF
      iexists _
      isplitr; · ipureintro; exact hf
      iexact H
  · refine hP.trans ?_
    unfold SoF
    iintro ⟨⟨%f, %hf, H⟩, H'⟩
    iexists f
    isplitr; · ipureintro; exact hf
    isplitl [H]; · iexact H
    iexact H'

/-- A buffer that holds `g` everywhere. -/
theorem so_all {sp : Space} {s : Shape} {e : EltTy} {M : Memref sig .tc sp s e} {φ : Idx (M.view.loc (c : Thread nD τ)) → Prop} {g : Buf (Elt F) (M.view.loc (c : Thread nD τ))}
    (h : ∀ y, φ y) : SoF c M φ g ⊢ Pt c M Finset.univ g := by
  unfold SoF
  iintro ⟨%f, %hf, H⟩
  have e : f = g := funext fun y => hf y (h y)
  subst e
  iexact H

theorem so_none {sp : Space} {s : Shape} {e : EltTy} {M : Memref sig .tc sp s e} {φ : Idx (M.view.loc (c : Thread nD τ)) → Prop} {g : Buf (Elt F) (M.view.loc (c : Thread nD τ))}
    (h : ∀ y, ¬ φ y) : iprop(∃ f, Pt c M Finset.univ f) ⊢ SoF c M φ g := by
  unfold SoF
  iintro ⟨%f, H⟩
  iexists f
  isplitr; · ipureintro; exact fun y hy => absurd hy (h y)
  iexact H

theorem pay106_at (v : S128x128.Idx → Elt F .f32) (i : S1x128.Idx) : k0_pay106 v i = v (ix2 (n0 := 128) (n1 := 128) (i 1) 0) := by
  unfold k0_pay106
  refine (congrFun (shapeCast_self _ _) i).trans ?_
  refine (extractStridedSlice_apply _ _ _ i (ix2 (n0 := 128) (n1 := 128) 0 (i 1)) fun a => ?_).trans (transpose_ix2_apply (a := 128) (b := 128) v _ _ _)
  match a with
  | ⟨0, _⟩ => show 0 = 0 + (i 0).val; have h9 : (i 0).val < 1 := (i 0).isLt; omega
  | ⟨1, _⟩ => show (i 1).val = 0 + (i 1).val; omega
theorem pay107_at (v : S128x512.Idx → Elt F .bf16) (i : S512x128.Idx) : k0_pay107 v i = v (ix2 (n0 := 128) (n1 := 512) (i 1) (i 0)) := by
  unfold k0_pay107
  refine (congrFun (shapeCast_self _ _) i).trans ?_
  refine (congrArg _ (?_ : i = ix2 (n0 := 512) (n1 := 128) (i 0) (i 1))).trans (transpose_ix2_apply (a := 128) (b := 512) v _ _ _)
  funext a
  match a with
  | ⟨0, _⟩ => rfl
  | ⟨1, _⟩ => rfl
/-- A block of the activations. -/
def blkT (x : S256x3072.Idx → Elt F .bf16) (n k : ℕ) (i : S128x512.Idx) : Elt F .bf16 :=
  xdOf x (ix2 (n0 := 256) (n1 := 3072) ⟨(128 * n + (i 0).val) % 256, Nat.mod_lt _ (by norm_num)⟩ ⟨(512 * k + (i 1).val) % 3072, Nat.mod_lt _ (by norm_num)⟩)
/-- Half the scales. -/
def blkS (x : S256x3072.Idx → Elt F .bf16) (n : ℕ) (i : S128x128.Idx) : Elt F .f32 :=
  scbOf x (ix2 (n0 := 256) (n1 := 128) ⟨(128 * n + (i 0).val) % 256, Nat.mod_lt _ (by norm_num)⟩ (i 1))

theorem wr_cod {f g : S256x3072.Idx → Elt F .fp8e4m3} {w : S32x3072.Idx → Elt F .fp8e4m3} {n : ℕ} (hn : n + 32 ≤ 256) {h} (hw : ∀ i : S32x3072.Idx, w i = g (ix2 (n0 := 256) (n1 := 3072) ⟨(n + (i 0).val) % 256, Nat.mod_lt _ (by norm_num)⟩ (i 1))) (hf : ∀ y : S256x3072.Idx, (y 0).val < n → f y = g y) :
    ∀ y : S256x3072.Idx, (y 0).val < n + 32 → (mCodesv.access (Rect.unit (s := S256x3072) ![n, 0] S32x3072.size h)).write (Elt F) f w Finset.univ y = g y := by
  intro y hy
  have hy0 : (y 0).val < _ := (y 0).isLt
  have hy1 : (y 1).val < _ := (y 1).isLt
  by_cases hc : n ≤ (y 0).val
  · have e : y = (mCodesv.access (Rect.unit (s := S256x3072) ![n, 0] S32x3072.size h)).emb (ix2 (n0 := 32) (n1 := 3072) ⟨((y 0).val - n) % 32, Nat.mod_lt _ (by norm_num)⟩ (y 1)) := by
      funext a
      apply Fin.ext
      match a with
      | ⟨0, _⟩ => show (y 0).val = n + 1 * (((y 0).val - n) % 32); first | omega | (have h9 : (y 0).val < 1 := hy0; omega)
      | ⟨1, _⟩ => show (y 1).val = 0 + 1 * (y 1).val; omega
    conv_lhs => rw [e]
    rw [View.write_emb_of_mem _ _ (Finset.mem_univ _)]
    refine Eq.trans (show _ = w (ix2 (n0 := 32) (n1 := 3072) ⟨((y 0).val - n) % 32, Nat.mod_lt _ (by norm_num)⟩ (y 1)) from rfl) ((hw _).trans (congrArg g ?_))
    funext a
    apply Fin.ext
    match a with
    | ⟨0, _⟩ => show (n + ((y 0).val - n) % 32) % 256 = (y 0).val; omega
    | ⟨1, _⟩ => rfl
  · rw [View.write_of_not_mem]
    · exact hf y (by omega)
    rw [View.setOn_univ]
    intro hm
    obtain ⟨i, -, hi⟩ := Finset.mem_map.1 hm
    apply hc
    rw [← hi]
    have hi0 : (i 0).val < 32 := (i 0).isLt
    have hi1 : (i 1).val < 3072 := (i 1).isLt
    show n ≤ n + 1 * (i 0).val; omega

theorem wr_xd {f g : S256x3072.Idx → Elt F .bf16} {w : S32x3072.Idx → Elt F .bf16} {n : ℕ} (hn : n + 32 ≤ 256) {h} (hw : ∀ i : S32x3072.Idx, w i = g (ix2 (n0 := 256) (n1 := 3072) ⟨(n + (i 0).val) % 256, Nat.mod_lt _ (by norm_num)⟩ (i 1))) (hf : ∀ y : S256x3072.Idx, (y 0).val < n → f y = g y) :
    ∀ y : S256x3072.Idx, (y 0).val < n + 32 → (mXd.access (Rect.unit (s := S256x3072) ![n, 0] S32x3072.size h)).write (Elt F) f w Finset.univ y = g y := by
  intro y hy
  have hy0 : (y 0).val < _ := (y 0).isLt
  have hy1 : (y 1).val < _ := (y 1).isLt
  by_cases hc : n ≤ (y 0).val
  · have e : y = (mXd.access (Rect.unit (s := S256x3072) ![n, 0] S32x3072.size h)).emb (ix2 (n0 := 32) (n1 := 3072) ⟨((y 0).val - n) % 32, Nat.mod_lt _ (by norm_num)⟩ (y 1)) := by
      funext a
      apply Fin.ext
      match a with
      | ⟨0, _⟩ => show (y 0).val = n + 1 * (((y 0).val - n) % 32); first | omega | (have h9 : (y 0).val < 1 := hy0; omega)
      | ⟨1, _⟩ => show (y 1).val = 0 + 1 * (y 1).val; omega
    conv_lhs => rw [e]
    rw [View.write_emb_of_mem _ _ (Finset.mem_univ _)]
    refine Eq.trans (show _ = w (ix2 (n0 := 32) (n1 := 3072) ⟨((y 0).val - n) % 32, Nat.mod_lt _ (by norm_num)⟩ (y 1)) from rfl) ((hw _).trans (congrArg g ?_))
    funext a
    apply Fin.ext
    match a with
    | ⟨0, _⟩ => show (n + ((y 0).val - n) % 32) % 256 = (y 0).val; omega
    | ⟨1, _⟩ => rfl
  · rw [View.write_of_not_mem]
    · exact hf y (by omega)
    rw [View.setOn_univ]
    intro hm
    obtain ⟨i, -, hi⟩ := Finset.mem_map.1 hm
    apply hc
    rw [← hi]
    have hi0 : (i 0).val < 32 := (i 0).isLt
    have hi1 : (i 1).val < 3072 := (i 1).isLt
    show n ≤ n + 1 * (i 0).val; omega

theorem wr_scb {f g : S256x128.Idx → Elt F .f32} {w : S32x128.Idx → Elt F .f32} {n : ℕ} (hn : n + 32 ≤ 256) {h} (hw : ∀ i : S32x128.Idx, w i = g (ix2 (n0 := 256) (n1 := 128) ⟨(n + (i 0).val) % 256, Nat.mod_lt _ (by norm_num)⟩ (i 1))) (hf : ∀ y : S256x128.Idx, (y 0).val < n → f y = g y) :
    ∀ y : S256x128.Idx, (y 0).val < n + 32 → (mScb.access (Rect.unit (s := S256x128) ![n, 0] S32x128.size h)).write (Elt F) f w Finset.univ y = g y := by
  intro y hy
  have hy0 : (y 0).val < _ := (y 0).isLt
  have hy1 : (y 1).val < _ := (y 1).isLt
  by_cases hc : n ≤ (y 0).val
  · have e : y = (mScb.access (Rect.unit (s := S256x128) ![n, 0] S32x128.size h)).emb (ix2 (n0 := 32) (n1 := 128) ⟨((y 0).val - n) % 32, Nat.mod_lt _ (by norm_num)⟩ (y 1)) := by
      funext a
      apply Fin.ext
      match a with
      | ⟨0, _⟩ => show (y 0).val = n + 1 * (((y 0).val - n) % 32); first | omega | (have h9 : (y 0).val < 1 := hy0; omega)
      | ⟨1, _⟩ => show (y 1).val = 0 + 1 * (y 1).val; omega
    conv_lhs => rw [e]
    rw [View.write_emb_of_mem _ _ (Finset.mem_univ _)]
    refine Eq.trans (show _ = w (ix2 (n0 := 32) (n1 := 128) ⟨((y 0).val - n) % 32, Nat.mod_lt _ (by norm_num)⟩ (y 1)) from rfl) ((hw _).trans (congrArg g ?_))
    funext a
    apply Fin.ext
    match a with
    | ⟨0, _⟩ => show (n + ((y 0).val - n) % 32) % 256 = (y 0).val; omega
    | ⟨1, _⟩ => rfl
  · rw [View.write_of_not_mem]
    · exact hf y (by omega)
    rw [View.setOn_univ]
    intro hm
    obtain ⟨i, -, hi⟩ := Finset.mem_map.1 hm
    apply hc
    rw [← hi]
    have hi0 : (i 0).val < 32 := (i 0).isLt
    have hi1 : (i 1).val < 128 := (i 1).isLt
    show n ≤ n + 1 * (i 0).val; omega

theorem wr_sc {f g : S1x256.Idx → Elt F .f32} {w : S1x128.Idx → Elt F .f32} {n : ℕ} {q : ℕ} (hq : q = 128 * n) (hn : n < 2) {h} (hw : ∀ i : S1x128.Idx, w i = g (ix2 (n0 := 1) (n1 := 256) 0 ⟨(128 * n + (i 1).val) % 256, Nat.mod_lt _ (by norm_num)⟩)) (hf : ∀ y : S1x256.Idx, (y 1).val < 128 * n → f y = g y) :
    ∀ y : S1x256.Idx, (y 1).val < 128 * (n + 1) → (mScv.access (Rect.unit (s := S1x256) ![0, q] S1x128.size h)).write (Elt F) f w Finset.univ y = g y := by
  intro y hy
  have hy0 : (y 0).val < _ := (y 0).isLt
  have hy1 : (y 1).val < _ := (y 1).isLt
  by_cases hc : 128 * n ≤ (y 1).val
  · have e : y = (mScv.access (Rect.unit (s := S1x256) ![0, q] S1x128.size h)).emb (ix2 (n0 := 1) (n1 := 128) 0 ⟨((y 1).val - 128 * n) % 128, Nat.mod_lt _ (by norm_num)⟩) := by
      funext a
      apply Fin.ext
      match a with
      | ⟨0, _⟩ => show (y 0).val = 0 + 1 * 0; first | omega | (have h9 : (y 0).val < 1 := hy0; omega)
      | ⟨1, _⟩ => show (y 1).val = q + 1 * (((y 1).val - 128 * n) % 128); omega
    conv_lhs => rw [e]
    rw [View.write_emb_of_mem _ _ (Finset.mem_univ _)]
    refine Eq.trans (show _ = w (ix2 (n0 := 1) (n1 := 128) 0 ⟨((y 1).val - 128 * n) % 128, Nat.mod_lt _ (by norm_num)⟩) from rfl) ((hw _).trans (congrArg g ?_))
    funext a
    apply Fin.ext
    match a with
    | ⟨0, _⟩ => show 0 = (y 0).val; have h9 : (y 0).val < 1 := hy0; omega
    | ⟨1, _⟩ => show (128 * n + ((y 1).val - 128 * n) % 128) % 256 = (y 1).val; have h9 : (y 1).val < 256 := hy1; omega
  · rw [View.write_of_not_mem]
    · exact hf y (by omega)
    rw [View.setOn_univ]
    intro hm
    obtain ⟨i, -, hi⟩ := Finset.mem_map.1 hm
    apply hc
    rw [← hi]
    have hi0 : (i 0).val < 1 := (i 0).isLt
    have hi1 : (i 1).val < 128 := (i 1).isLt
    show 128 * n ≤ q + 1 * (i 1).val; omega

theorem wr_xdt {f g : S3072x256.Idx → Elt F .bf16} {w : S512x128.Idx → Elt F .bf16} {n k : ℕ} {p q : ℕ} (hp : p = 512 * k) (hq : q = 128 * n) (hn : n < 2) (hk : k < 6) {h} (hw : ∀ i : S512x128.Idx, w i = g (ix2 (n0 := 3072) (n1 := 256) ⟨(512 * k + (i 0).val) % 3072, Nat.mod_lt _ (by norm_num)⟩ ⟨(128 * n + (i 1).val) % 256, Nat.mod_lt _ (by norm_num)⟩)) (hf : ∀ y : S3072x256.Idx, 6 * ((y 1).val / 128) + (y 0).val / 512 < 6 * n + k → f y = g y) :
    ∀ y : S3072x256.Idx, 6 * ((y 1).val / 128) + (y 0).val / 512 < 6 * n + k + 1 → (mXdt.access (Rect.unit (s := S3072x256) ![p, q] S512x128.size h)).write (Elt F) f w Finset.univ y = g y := by
  intro y hy
  have hy0 : (y 0).val < _ := (y 0).isLt
  have hy1 : (y 1).val < _ := (y 1).isLt
  by_cases hc : (y 0).val / 512 = k ∧ (y 1).val / 128 = n
  · have e : y = (mXdt.access (Rect.unit (s := S3072x256) ![p, q] S512x128.size h)).emb (ix2 (n0 := 512) (n1 := 128) ⟨(y 0).val % 512, Nat.mod_lt _ (by norm_num)⟩ ⟨(y 1).val % 128, Nat.mod_lt _ (by norm_num)⟩) := by
      funext a
      apply Fin.ext
      match a with
      | ⟨0, _⟩ => show (y 0).val = p + 1 * ((y 0).val % 512); first | omega | (have h9 : (y 0).val < 1 := hy0; omega)
      | ⟨1, _⟩ => show (y 1).val = q + 1 * ((y 1).val % 128); omega
    conv_lhs => rw [e]
    rw [View.write_emb_of_mem _ _ (Finset.mem_univ _)]
    refine Eq.trans (show _ = w (ix2 (n0 := 512) (n1 := 128) ⟨(y 0).val % 512, Nat.mod_lt _ (by norm_num)⟩ ⟨(y 1).val % 128, Nat.mod_lt _ (by norm_num)⟩) from rfl) ((hw _).trans (congrArg g ?_))
    funext a
    apply Fin.ext
    match a with
    | ⟨0, _⟩ => show (512 * k + (y 0).val % 512) % 3072 = (y 0).val; have h9 : (y 0).val < 3072 := hy0; omega
    | ⟨1, _⟩ => show (128 * n + (y 1).val % 128) % 256 = (y 1).val; have h9 : (y 1).val < 256 := hy1; omega
  · rw [View.write_of_not_mem]
    · have h9 : (y 0).val < 3072 := hy0
      exact hf y (by omega)
    rw [View.setOn_univ]
    intro hm
    obtain ⟨i, -, hi⟩ := Finset.mem_map.1 hm
    apply hc
    rw [← hi]
    have hi0 : (i 0).val < 512 := (i 0).isLt
    have hi1 : (i 1).val < 128 := (i 1).isLt
    show (p + 1 * (i 0).val) / 512 = k ∧ (q + 1 * (i 1).val) / 128 = n; omega

/-- The transposer's scratch before it begins. -/
def TR (c : Dev nD) (x : S256x3072.Idx → Elt F .bf16) : sProp (MM F) :=
  iprop(SoF c mScv (fun y : S1x256.Idx => (y 1).val < 128 * 0) (scOf x) ∗ SoF c mXdt (fun y : S3072x256.Idx => 6 * ((y 1).val / 128) + (y 0).val / 512 < 0) (xdtOf (xdOf x)))

/-- The quantiser's scratch once the codes, activations and scales of the rows before `na`, `nb`, `nc` are there, beside `R`. -/
def QS (c : Dev nD) (x : S256x3072.Idx → Elt F .bf16) (na nb nc : ℕ) (R : sProp (MM F)) : sProp (MM F) :=
  iprop(Pt c mXv Finset.univ x ∗ SoF c mCodesv (fun y : S256x3072.Idx => (y 0).val < na) (codesOf x) ∗ SoF c mXd (fun y : S256x3072.Idx => (y 0).val < nb) (xdOf x)
    ∗ SoF c mScb (fun y : S256x128.Idx => (y 0).val < nc) (scbOf x) ∗ TR c x ∗ R)

/-- The transposer's scratch once the scales before `n` and `m` blocks of the transpose are there, beside `R`. -/
def TS (c : Dev nD) (x : S256x3072.Idx → Elt F .bf16) (n m : ℕ) (R : sProp (MM F)) : sProp (MM F) :=
  iprop(Pt c mXd Finset.univ (xdOf x) ∗ Pt c mScb Finset.univ (scbOf x) ∗ SoF c mScv (fun y : S1x256.Idx => (y 1).val < n) (scOf x)
    ∗ SoF c mXdt (fun y : S3072x256.Idx => 6 * ((y 1).val / 128) + (y 0).val / 512 < m) (xdtOf (xdOf x)) ∗ Pt c mXv Finset.univ x ∗ Pt c mCodesv Finset.univ (codesOf x) ∗ R)

theorem qs_ts {na nb nc : ℕ} (ha : 256 ≤ na) (hb : 256 ≤ nb) (hc : 256 ≤ nc) {R : sProp (MM F)} : QS c x na nb nc R ⊢ TS c x (128 * 0) 0 R := by
  unfold QS TS TR
  iintro ⟨Ha, Hb, Hc, Hd, ⟨He, Hf⟩, HR⟩
  isplitl [Hc]; · iapply (so_all (c := c) (M := mXd) (g := xdOf x) fun y => lt_of_lt_of_le (y 0).isLt hb); iexact Hc
  isplitl [Hd]; · iapply (so_all (c := c) (M := mScb) (g := scbOf x) fun y => lt_of_lt_of_le (y 0).isLt hc); iexact Hd
  isplitl [He]; · iexact He
  isplitl [Hf]; · iexact Hf
  isplitl [Ha]; · iexact Ha
  isplitl [Hb]; · iapply (so_all (c := c) (M := mCodesv) (g := codesOf x) fun y => lt_of_lt_of_le (y 0).isLt ha); iexact Hb
  iexact HR

section Rules
variable {R : sProp (MM F)} {α : Type} {Q : α → sProp (MM F)}

theorem q_x {o : Fin 2 → ℕ} {h hl} {n na nb nc : ℕ} (ho : o = ![n, 0]) (hn : n + 32 ≤ 256) {k : (S32x3072.Idx → Elt F .bf16) → Prog (TpuEff nD τ sig (Elt F) Λ₀ .tc) α}
    (hk : Tri c (QS c x na nb nc R) (k (rowsAt x n)) Q) :
    Tri c (QS c x na nb nc R) (Prog.lift (.load mXv (Rect.unit (s := S256x3072) o S32x3072.size h).toLoadRect hl) >>= k) Q := by
  subst ho
  have e : (mXv.access (Rect.unit (s := S256x3072) ![n, 0] S32x3072.size h)).read (Elt F) x = rowsAt x n := funext fun i => by
    rw [View.read_apply]
    show x _ = x _
    congr 1
    funext a
    apply Fin.ext
    have hi : (i 0).val < 32 := (i 0).isLt
    match a with
    | ⟨0, _⟩ => show n + 1 * (i 0).val = (n + (i 0).val) % 256; omega
    | ⟨1, _⟩ => show 0 + 1 * (i 1).val = (i 1).val; omega
  refine tri_load (M := mXv) (Finset.subset_univ _) (f := x) (by
    unfold QS
    iintro ⟨Ha, Hb, Hc, Hd, He⟩
    isplitl [Ha]; · iexact Ha
    iintro Ha
    isplitl [Ha]; · iexact Ha
    isplitl [Hb]; · iexact Hb
    isplitl [Hc]; · iexact Hc
    isplitl [Hd]; · iexact Hd
    iexact He) ?_
  rw [e]
  exact hk

theorem q_lcod {r : Rect S256x3072} {hl} {na nb nc : ℕ} {k : (r.shape.Idx → Elt F .fp8e4m3) → Prog (TpuEff nD τ sig (Elt F) Λ₀ .tc) α} (hk : ∀ v, Tri c (QS c x na nb nc R) (k v) Q) :
    Tri c (QS c x na nb nc R) (Prog.lift (.load mCodesv r.toLoadRect hl) >>= k) Q := by
  refine so_load (M := mCodesv) (by
    unfold QS
    iintro ⟨Ha, Hb, Hc, Hd, He⟩
    isplitl [Hb]; · iexact Hb
    iintro Hb
    isplitl [Ha]; · iexact Ha
    isplitl [Hb]; · iexact Hb
    isplitl [Hc]; · iexact Hc
    isplitl [Hd]; · iexact Hd
    iexact He) hk
theorem q_cod {o : Fin 2 → ℕ} {h hx hm} {n nb nc : ℕ} {w : S32x3072.Idx → Elt F .fp8e4m3} (ho : o = ![n, 0]) (hn : n % 32 = 0 ∧ n + 32 ≤ 256) (hw : w = qC (rowsAt x n)) {k : PUnit → Prog (TpuEff nD τ sig (Elt F) Λ₀ .tc) α}
    (hk : Tri c (QS c x (n + 32) nb nc R) (k ⟨⟩) Q) :
    Tri c (QS c x n nb nc R) (Prog.lift (.store mCodesv (Rect.unit (s := S256x3072) o S32x3072.size h) w Finset.univ hx hm) >>= k) Q := by
  subst ho hw
  refine so_store (M := mCodesv) (φ' := fun y : S256x3072.Idx => (y 0).val < n + 32) (P' := QS c x (n + 32) nb nc R) (g := codesOf x) (fun f hf => ?_) (by
    unfold QS
    iintro ⟨Ha, Hb, Hc, Hd, He⟩
    isplitl [Hb]; · iexact Hb
    iintro Hb
    isplitl [Ha]; · iexact Ha
    isplitl [Hb]; · iexact Hb
    isplitl [Hc]; · iexact Hc
    isplitl [Hd]; · iexact Hd
    iexact He) hk
  refine wr_cod hn.2 (fun i => ?_) hf
  have hi : (i 0).val < 32 := (i 0).isLt
  have e1 : 32 * (((n + (i 0).val) % 256) / 32) = n := by omega
  have e2 : i = inRow (m := 3072) (ix2 (n0 := 256) (n1 := 3072) ⟨(n + (i 0).val) % 256, Nat.mod_lt _ (by norm_num)⟩ (i 1)) := by
    funext a
    apply Fin.ext
    match a with
    | ⟨0, _⟩ => show (i 0).val = ((n + (i 0).val) % 256) % 32; omega
    | ⟨1, _⟩ => rfl
  show qC (rowsAt x n) i = qC (rowsAt x (32 * (((n + (i 0).val) % 256) / 32))) _
  rw [e1]
  exact congrArg _ e2

theorem q_lxd {r : Rect S256x3072} {hl} {na nb nc : ℕ} {k : (r.shape.Idx → Elt F .bf16) → Prog (TpuEff nD τ sig (Elt F) Λ₀ .tc) α} (hk : ∀ v, Tri c (QS c x na nb nc R) (k v) Q) :
    Tri c (QS c x na nb nc R) (Prog.lift (.load mXd r.toLoadRect hl) >>= k) Q := by
  refine so_load (M := mXd) (by
    unfold QS
    iintro ⟨Ha, Hb, Hc, Hd, He⟩
    isplitl [Hc]; · iexact Hc
    iintro Hc
    isplitl [Ha]; · iexact Ha
    isplitl [Hb]; · iexact Hb
    isplitl [Hc]; · iexact Hc
    isplitl [Hd]; · iexact Hd
    iexact He) hk
theorem q_xd {o : Fin 2 → ℕ} {h hx hm} {n na nc : ℕ} {w : S32x3072.Idx → Elt F .bf16} (ho : o = ![n, 0]) (hn : n % 32 = 0 ∧ n + 32 ≤ 256) (hw : w = qD (rowsAt x n)) {k : PUnit → Prog (TpuEff nD τ sig (Elt F) Λ₀ .tc) α}
    (hk : Tri c (QS c x na (n + 32) nc R) (k ⟨⟩) Q) :
    Tri c (QS c x na n nc R) (Prog.lift (.store mXd (Rect.unit (s := S256x3072) o S32x3072.size h) w Finset.univ hx hm) >>= k) Q := by
  subst ho hw
  refine so_store (M := mXd) (φ' := fun y : S256x3072.Idx => (y 0).val < n + 32) (P' := QS c x na (n + 32) nc R) (g := xdOf x) (fun f hf => ?_) (by
    unfold QS
    iintro ⟨Ha, Hb, Hc, Hd, He⟩
    isplitl [Hc]; · iexact Hc
    iintro Hc
    isplitl [Ha]; · iexact Ha
    isplitl [Hb]; · iexact Hb
    isplitl [Hc]; · iexact Hc
    isplitl [Hd]; · iexact Hd
    iexact He) hk
  refine wr_xd hn.2 (fun i => ?_) hf
  have hi : (i 0).val < 32 := (i 0).isLt
  have e1 : 32 * (((n + (i 0).val) % 256) / 32) = n := by omega
  have e2 : i = inRow (m := 3072) (ix2 (n0 := 256) (n1 := 3072) ⟨(n + (i 0).val) % 256, Nat.mod_lt _ (by norm_num)⟩ (i 1)) := by
    funext a
    apply Fin.ext
    match a with
    | ⟨0, _⟩ => show (i 0).val = ((n + (i 0).val) % 256) % 32; omega
    | ⟨1, _⟩ => rfl
  show qD (rowsAt x n) i = qD (rowsAt x (32 * (((n + (i 0).val) % 256) / 32))) _
  rw [e1]
  exact congrArg _ e2

theorem q_lscb {r : Rect S256x128} {hl} {na nb nc : ℕ} {k : (r.shape.Idx → Elt F .f32) → Prog (TpuEff nD τ sig (Elt F) Λ₀ .tc) α} (hk : ∀ v, Tri c (QS c x na nb nc R) (k v) Q) :
    Tri c (QS c x na nb nc R) (Prog.lift (.load mScb r.toLoadRect hl) >>= k) Q := by
  refine so_load (M := mScb) (by
    unfold QS
    iintro ⟨Ha, Hb, Hc, Hd, He⟩
    isplitl [Hd]; · iexact Hd
    iintro Hd
    isplitl [Ha]; · iexact Ha
    isplitl [Hb]; · iexact Hb
    isplitl [Hc]; · iexact Hc
    isplitl [Hd]; · iexact Hd
    iexact He) hk
theorem q_scb {o : Fin 2 → ℕ} {h hx hm} {n na nb : ℕ} {w : S32x128.Idx → Elt F .f32} (ho : o = ![n, 0]) (hn : n % 32 = 0 ∧ n + 32 ≤ 256) (hw : w = qS (rowsAt x n)) {k : PUnit → Prog (TpuEff nD τ sig (Elt F) Λ₀ .tc) α}
    (hk : Tri c (QS c x na nb (n + 32) R) (k ⟨⟩) Q) :
    Tri c (QS c x na nb n R) (Prog.lift (.store mScb (Rect.unit (s := S256x128) o S32x128.size h) w Finset.univ hx hm) >>= k) Q := by
  subst ho hw
  refine so_store (M := mScb) (φ' := fun y : S256x128.Idx => (y 0).val < n + 32) (P' := QS c x na nb (n + 32) R) (g := scbOf x) (fun f hf => ?_) (by
    unfold QS
    iintro ⟨Ha, Hb, Hc, Hd, He⟩
    isplitl [Hd]; · iexact Hd
    iintro Hd
    isplitl [Ha]; · iexact Ha
    isplitl [Hb]; · iexact Hb
    isplitl [Hc]; · iexact Hc
    isplitl [Hd]; · iexact Hd
    iexact He) hk
  refine wr_scb hn.2 (fun i => ?_) hf
  have hi : (i 0).val < 32 := (i 0).isLt
  have e1 : 32 * (((n + (i 0).val) % 256) / 32) = n := by omega
  have e2 : i = inRow (m := 128) (ix2 (n0 := 256) (n1 := 128) ⟨(n + (i 0).val) % 256, Nat.mod_lt _ (by norm_num)⟩ (i 1)) := by
    funext a
    apply Fin.ext
    match a with
    | ⟨0, _⟩ => show (i 0).val = ((n + (i 0).val) % 256) % 32; omega
    | ⟨1, _⟩ => rfl
  show qS (rowsAt x n) i = qS (rowsAt x (32 * (((n + (i 0).val) % 256) / 32))) _
  rw [e1]
  exact congrArg _ e2

theorem t_xd {o : Fin 2 → ℕ} {h hl} {n k n' m : ℕ} (ho : o = ![128 * n, 512 * k]) (hn : n < 2) (hk' : k < 6) {kk : (S128x512.Idx → Elt F .bf16) → Prog (TpuEff nD τ sig (Elt F) Λ₀ .tc) α}
    (hk : Tri c (TS c x n' m R) (kk (blkT x n k)) Q) :
    Tri c (TS c x n' m R) (Prog.lift (.load mXd (Rect.unit (s := S256x3072) o S128x512.size h).toLoadRect hl) >>= kk) Q := by
  subst ho
  have e : (mXd.access (Rect.unit (s := S256x3072) ![128 * n, 512 * k] S128x512.size h)).read (Elt F) (xdOf x) = blkT x n k := funext fun i => by
    rw [View.read_apply]
    show xdOf x _ = xdOf x _
    congr 1
    funext a
    apply Fin.ext
    have hi : (i 0).val < 128 := (i 0).isLt
    have hi' : (i 1).val < 512 := (i 1).isLt
    match a with
    | ⟨0, _⟩ => show 128 * n + 1 * (i 0).val = (128 * n + (i 0).val) % 256; omega
    | ⟨1, _⟩ => show 512 * k + 1 * (i 1).val = (512 * k + (i 1).val) % 3072; omega
  refine tri_load (M := mXd) (Finset.subset_univ _) (f := xdOf x) (by
    unfold TS
    iintro ⟨Ha, Hb, Hc, Hd, He⟩
    isplitl [Ha]; · iexact Ha
    iintro Ha
    isplitl [Ha]; · iexact Ha
    isplitl [Hb]; · iexact Hb
    isplitl [Hc]; · iexact Hc
    isplitl [Hd]; · iexact Hd
    iexact He) ?_
  rw [e]
  exact hk

theorem t_scb {o : Fin 2 → ℕ} {h hl} {n n' m : ℕ} (ho : o = ![128 * n, 0]) (hn : n < 2) {kk : (S128x128.Idx → Elt F .f32) → Prog (TpuEff nD τ sig (Elt F) Λ₀ .tc) α}
    (hk : Tri c (TS c x n' m R) (kk (blkS x n)) Q) :
    Tri c (TS c x n' m R) (Prog.lift (.load mScb (Rect.unit (s := S256x128) o S128x128.size h).toLoadRect hl) >>= kk) Q := by
  subst ho
  have e : (mScb.access (Rect.unit (s := S256x128) ![128 * n, 0] S128x128.size h)).read (Elt F) (scbOf x) = blkS x n := funext fun i => by
    rw [View.read_apply]
    show scbOf x _ = scbOf x _
    congr 1
    funext a
    apply Fin.ext
    have hi : (i 0).val < 128 := (i 0).isLt
    match a with
    | ⟨0, _⟩ => show 128 * n + 1 * (i 0).val = (128 * n + (i 0).val) % 256; omega
    | ⟨1, _⟩ => show 0 + 1 * (i 1).val = (i 1).val; omega
  refine tri_load (M := mScb) (Finset.subset_univ _) (f := scbOf x) (by
    unfold TS
    iintro ⟨Ha, Hb, Hc, Hd, He⟩
    isplitl [Hb]; · iexact Hb
    iintro Hb
    isplitl [Ha]; · iexact Ha
    isplitl [Hb]; · iexact Hb
    isplitl [Hc]; · iexact Hc
    isplitl [Hd]; · iexact Hd
    iexact He) ?_
  rw [e]
  exact hk

theorem t_lsc {r : Rect S1x256} {hl} {n m : ℕ} {k : (r.shape.Idx → Elt F .f32) → Prog (TpuEff nD τ sig (Elt F) Λ₀ .tc) α} (hk : ∀ v, Tri c (TS c x n m R) (k v) Q) :
    Tri c (TS c x n m R) (Prog.lift (.load mScv r.toLoadRect hl) >>= k) Q := by
  refine so_load (M := mScv) (by
    unfold TS
    iintro ⟨Ha, Hb, Hc, Hd, He⟩
    isplitl [Hc]; · iexact Hc
    iintro Hc
    isplitl [Ha]; · iexact Ha
    isplitl [Hb]; · iexact Hb
    isplitl [Hc]; · iexact Hc
    isplitl [Hd]; · iexact Hd
    iexact He) hk
theorem t_lxdt {r : Rect S3072x256} {hl} {n m : ℕ} {k : (r.shape.Idx → Elt F .bf16) → Prog (TpuEff nD τ sig (Elt F) Λ₀ .tc) α} (hk : ∀ v, Tri c (TS c x n m R) (k v) Q) :
    Tri c (TS c x n m R) (Prog.lift (.load mXdt r.toLoadRect hl) >>= k) Q := by
  refine so_load (M := mXdt) (by
    unfold TS
    iintro ⟨Ha, Hb, Hc, Hd, He⟩
    isplitl [Hd]; · iexact Hd
    iintro Hd
    isplitl [Ha]; · iexact Ha
    isplitl [Hb]; · iexact Hb
    isplitl [Hc]; · iexact Hc
    isplitl [Hd]; · iexact Hd
    iexact He) hk
theorem t_sc {o : Fin 2 → ℕ} {h hx hm} {n m : ℕ} {w : S1x128.Idx → Elt F .f32} (ho : o = ![0, 128 * n]) (hn : n < 2) (hw : w = k0_pay106 (blkS x n)) {k : PUnit → Prog (TpuEff nD τ sig (Elt F) Λ₀ .tc) α}
    (hk : Tri c (TS c x (128 * (n + 1)) m R) (k ⟨⟩) Q) :
    Tri c (TS c x (128 * n) m R) (Prog.lift (.store mScv (Rect.unit (s := S1x256) o S1x128.size h) w Finset.univ hx hm) >>= k) Q := by
  subst ho hw
  refine so_store (M := mScv) (φ' := fun y : S1x256.Idx => (y 1).val < 128 * (n + 1)) (P' := TS c x (128 * (n + 1)) m R) (g := scOf x) (fun f hf => ?_) (by
    unfold TS
    iintro ⟨Ha, Hb, Hc, Hd, He⟩
    isplitl [Hc]; · iexact Hc
    iintro Hc
    isplitl [Ha]; · iexact Ha
    isplitl [Hb]; · iexact Hb
    isplitl [Hc]; · iexact Hc
    isplitl [Hd]; · iexact Hd
    iexact He) hk
  exact wr_sc (n := n) rfl hn (fun i => (pay106_at _ i).trans (congrArg (scbOf x) (by
    funext a
    match a with
    | ⟨0, _⟩ => rfl
    | ⟨1, _⟩ => rfl))) hf
theorem t_xdt {o : Fin 2 → ℕ} {h hx hm} {n k m N : ℕ} {w : S512x128.Idx → Elt F .bf16} (ho : o = ![512 * k, 128 * n]) (hn : n < 2) (hk' : k < 6) (hN : m = 6 * n + k) (hw : w = k0_pay107 (blkT x n k)) {kk : PUnit → Prog (TpuEff nD τ sig (Elt F) Λ₀ .tc) α}
    (hk : Tri c (TS c x N (m + 1) R) (kk ⟨⟩) Q) :
    Tri c (TS c x N m R) (Prog.lift (.store mXdt (Rect.unit (s := S3072x256) o S512x128.size h) w Finset.univ hx hm) >>= kk) Q := by
  subst ho hw hN
  refine so_store (M := mXdt) (φ' := fun y : S3072x256.Idx => 6 * ((y 1).val / 128) + (y 0).val / 512 < 6 * n + k + 1) (P' := TS c x N (6 * n + k + 1) R) (g := xdtOf (xdOf x)) (fun f hf => ?_) (by
    unfold TS
    iintro ⟨Ha, Hb, Hc, Hd, He⟩
    isplitl [Hd]; · iexact Hd
    iintro Hd
    isplitl [Ha]; · iexact Ha
    isplitl [Hb]; · iexact Hb
    isplitl [Hc]; · iexact Hc
    isplitl [Hd]; · iexact Hd
    iexact He) hk
  exact wr_xdt (n := n) (k := k) rfl rfl hn hk' (fun i => (pay107_at _ i).trans rfl) hf
end Rules

end Cert.KernelIdeal.Hand

end
-- ==== Proof.KernelIdeal.Mid.lean ====
module

public import proofs.«01_k».proof.Proof.KernelIdeal.Quant
public import Idealize.SL.BI.BigOpNat

/-! The first step's quantiser and transposer, run; the counts, and the loop of blocks. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable {c : Dev nD} {x : S256x3072.Idx → Elt F .bf16} {off : S7.Idx → Elt F .i32} {cn : S6.Idx → Elt F .i32} {rt : S8x128.Idx → Elt F .i32}
  {h0 : S6x3072x3072.Idx → Elt F .f32}

/-- The quantiser's outputs before it begins. -/
abbrev QR (c : Dev nD) (x : S256x3072.Idx → Elt F .bf16) : sProp (MM F) :=
  iprop(SoF c mCodesv (fun y : S256x3072.Idx => (y 0).val < 0) (codesOf x) ∗ SoF c mXd (fun y : S256x3072.Idx => (y 0).val < 0) (xdOf x)
    ∗ SoF c mScb (fun y : S256x128.Idx => (y 0).val < 0) (scbOf x) ∗ TR c x)

set_option maxHeartbeats 4000000 in
theorem part64_tri (a0 : BitVec 32) {R : sProp (MM F)} : Tri c iprop(PS c h0 11 ∗ (InF c mX mXv x x 0 ∗ OW c ∗ QR c x ∗ R)) (k0_part64 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 a0)
    fun r => iprop(⌜r = ⟨k0_pay35 (rowsAt x 0), k0_pay36 (rowsAt x 0), k0_pay37 (rowsAt x 0), k0_pay38⟩⌝ ∗ QS c x 0 0 0 iprop(PS c h0 12 ∗ Pt c mX Finset.univ x ∗ Sem0 c (inS 0) ∗ OW c ∗ R)) := by
  rw [k0_part64_eq_skeleton]
  unfold k0_part64_skel
  simp only [dif_pos (show k0_cond24 = 1#1 by decide), bind_assoc, pure_bind]
  refine rd_o (k := 11) (by omega) (by unfold dg; omega) (by decide) (by decide) (by decide) ?_
  refine tri_skip (tri_seq (tri_waitS (sem_in (k := 0) rfl) rfl (D := iprop(Pt c mXv Finset.univ x ∗ Pt c mX Finset.univ x))) (R := iprop(QR c x ∗ R ∗ PS c h0 12)) fun _ => ?_) (by
    iintro ⟨HP, Hi, Ho, Hq, Hr⟩
    isplitl [Hi Ho]
    · isplitl [Hi]; · iexact Hi
      iexact Ho
    isplitl [Hq]; · iexact Hq
    isplitl [Hr]; · iexact Hr
    iexact HP)
  refine tri_skip (B := QS c x 0 0 0 iprop(PS c h0 12 ∗ Pt c mX Finset.univ x ∗ Sem0 c (inS 0) ∗ OW c ∗ R)) ?_ (by
    unfold QS
    iintro ⟨⟨⟨Hv, Hx⟩, Hs, Ho⟩, ⟨Ha, Hb, Hd, Ht⟩, Hr, HP⟩
    isplitl [Hv]; · iexact Hv
    isplitl [Ha]; · iexact Ha
    isplitl [Hb]; · iexact Hb
    isplitl [Hd]; · iexact Hd
    isplitl [Ht]; · iexact Ht
    isplitl [HP]; · iexact HP
    isplitl [Hx]; · iexact Hx
    isplitl [Hs]; · iexact Hs
    isplitl [Ho]; · iexact Ho
    iexact Hr)
  refine q_x (n := 0) rfl (by omega) ?_
  exact tri_pure (by
    iintro H
    isplitr; · ipureintro; rfl
    iexact H)

set_option maxHeartbeats 4000000 in
theorem part65_tri {R : sProp (MM F)} : Tri c (QS c x 0 0 0 R) (k0_part65 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 (k0_pay35 (rowsAt x 0)) (k0_pay36 (rowsAt x 0)) (k0_pay37 (rowsAt x 0)) k0_pay38)
    fun r => iprop(⌜r = ⟨(k0_pay43 (rowsAt x 32)), ((iota .tc S32x256 32 [1] iota_S32x256_d1_w32)), (k0_pay44 (rowsAt x 32)), 0#32⟩⌝ ∗ QS c x 32 32 32 R) := by
  rw [k0_part65_eq_skeleton]
  unfold k0_part65_skel
  refine q_lcod fun _ => ?_
  refine q_cod (n := 0) rfl ⟨by omega, by omega⟩ rfl ?_
  refine q_lxd fun _ => ?_
  refine q_xd (n := 0) rfl ⟨by omega, by omega⟩ rfl ?_
  refine q_lscb fun _ => ?_
  refine q_scb (n := 0) rfl ⟨by omega, by omega⟩ rfl ?_
  refine q_x (n := 32) rfl (by omega) ?_
  exact tri_pure (by
    iintro H
    isplitr; · ipureintro; rfl
    iexact H)

set_option maxHeartbeats 4000000 in
theorem part66_tri {R : sProp (MM F)} : Tri c (QS c x 32 32 32 R) (k0_part66 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 (k0_pay43 (rowsAt x 32)) ((iota .tc S32x256 32 [1] iota_S32x256_d1_w32)) (k0_pay44 (rowsAt x 32)) 0#32)
    fun r => iprop(⌜r = ⟨(k0_pay46 (F := F) ((iota .tc S32x256 32 [1] iota_S32x256_d1_w32)) (k0_pay44 (rowsAt x 32)) 0#32), (k0_pay49 (k0_pay43 (rowsAt x 32)) ((iota .tc S32x256 32 [1] iota_S32x256_d1_w32)) (k0_pay44 (rowsAt x 32)) 0#32)⟩⌝ ∗ QS c x 64 32 32 R) := by
  rw [k0_part66_eq_skeleton]
  unfold k0_part66_skel
  refine q_lcod fun _ => ?_
  refine q_cod (n := 32) rfl ⟨by omega, by omega⟩ (qC1 _) ?_
  exact tri_pure (by
    iintro H
    isplitr; · ipureintro; rfl
    iexact H)

set_option maxHeartbeats 4000000 in
theorem part67_tri {R : sProp (MM F)} : Tri c (QS c x 64 32 32 R) (k0_part67 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 (k0_pay46 (F := F) ((iota .tc S32x256 32 [1] iota_S32x256_d1_w32)) (k0_pay44 (rowsAt x 32)) 0#32) (k0_pay49 (k0_pay43 (rowsAt x 32)) ((iota .tc S32x256 32 [1] iota_S32x256_d1_w32)) (k0_pay44 (rowsAt x 32)) 0#32))
    fun r => iprop(⌜r = ⟨(k0_pay52 (rowsAt x 64)), (k0_pay53 (rowsAt x 64)), (k0_pay54 (rowsAt x 64))⟩⌝ ∗ QS c x 64 64 64 R) := by
  rw [k0_part67_eq_skeleton]
  unfold k0_part67_skel
  refine q_lxd fun _ => ?_
  refine q_xd (n := 32) rfl ⟨by omega, by omega⟩ (qD1 _) ?_
  refine q_lscb fun _ => ?_
  refine q_scb (n := 32) rfl ⟨by omega, by omega⟩ (qS1 _) ?_
  refine q_x (n := 64) rfl (by omega) ?_
  exact tri_pure (by
    iintro H
    isplitr; · ipureintro; rfl
    iexact H)

set_option maxHeartbeats 4000000 in
theorem part68_tri {R : sProp (MM F)} : Tri c (QS c x 64 64 64 R) (k0_part68 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 (k0_pay52 (rowsAt x 64)) (k0_pay53 (rowsAt x 64)) (k0_pay54 (rowsAt x 64)))
    fun r => iprop(⌜r = ⟨(k0_pay60 (rowsAt x 96)), (k0_pay61 (rowsAt x 96)), ((iota .tc S32x256 32 [1] iota_S32x256_d1_w32)), (k0_pay62 (F := F))⟩⌝ ∗ QS c x 96 96 96 R) := by
  rw [k0_part68_eq_skeleton]
  unfold k0_part68_skel
  refine q_lcod fun _ => ?_
  refine q_cod (n := 64) rfl ⟨by omega, by omega⟩ (qC2 _) ?_
  refine q_lxd fun _ => ?_
  refine q_xd (n := 64) rfl ⟨by omega, by omega⟩ (qD2 _) ?_
  refine q_lscb fun _ => ?_
  refine q_scb (n := 64) rfl ⟨by omega, by omega⟩ (qS2 _) ?_
  refine q_x (n := 96) rfl (by omega) ?_
  exact tri_pure (by
    iintro H
    isplitr; · ipureintro; rfl
    iexact H)

set_option maxHeartbeats 4000000 in
theorem part69_tri {R : sProp (MM F)} : Tri c (QS c x 96 96 96 R) (k0_part69 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 (k0_pay60 (rowsAt x 96)) (k0_pay61 (rowsAt x 96)) ((iota .tc S32x256 32 [1] iota_S32x256_d1_w32)) (k0_pay62 (F := F)))
    fun r => iprop(⌜r = ⟨(k0_pay64 (k0_pay61 (rowsAt x 96)) ((iota .tc S32x256 32 [1] iota_S32x256_d1_w32)) (k0_pay62 (F := F))), (k0_pay65 (k0_pay60 (rowsAt x 96)) (k0_pay61 (rowsAt x 96)) ((iota .tc S32x256 32 [1] iota_S32x256_d1_w32)) (k0_pay62 (F := F)))⟩⌝ ∗ QS c x 96 96 96 R) := by
  rw [k0_part69_eq_skeleton]
  unfold k0_part69_skel
  refine q_lcod fun _ => ?_
  exact tri_pure (by
    iintro H
    isplitr; · ipureintro; rfl
    iexact H)

set_option maxHeartbeats 4000000 in
theorem part70_tri {R : sProp (MM F)} : Tri c (QS c x 96 96 96 R) (k0_part70 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 (k0_pay64 (k0_pay61 (rowsAt x 96)) ((iota .tc S32x256 32 [1] iota_S32x256_d1_w32)) (k0_pay62 (F := F))) (k0_pay65 (k0_pay60 (rowsAt x 96)) (k0_pay61 (rowsAt x 96)) ((iota .tc S32x256 32 [1] iota_S32x256_d1_w32)) (k0_pay62 (F := F))))
    fun r => iprop(⌜r = ⟨(k0_pay69 (rowsAt x 128)), (k0_pay71 (rowsAt x 128)), (k0_pay72 (rowsAt x 128))⟩⌝ ∗ QS c x 128 128 128 R) := by
  rw [k0_part70_eq_skeleton]
  unfold k0_part70_skel
  refine q_cod (n := 96) rfl ⟨by omega, by omega⟩ (qC3 _) ?_
  refine q_lxd fun _ => ?_
  refine q_xd (n := 96) rfl ⟨by omega, by omega⟩ (qD3 _) ?_
  refine q_lscb fun _ => ?_
  refine q_scb (n := 96) rfl ⟨by omega, by omega⟩ (qS3 _) ?_
  refine q_x (n := 128) rfl (by omega) ?_
  exact tri_pure (by
    iintro H
    isplitr; · ipureintro; rfl
    iexact H)

set_option maxHeartbeats 4000000 in
theorem part71_tri {R : sProp (MM F)} : Tri c (QS c x 128 128 128 R) (k0_part71 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 (k0_pay69 (rowsAt x 128)) (k0_pay71 (rowsAt x 128)) (k0_pay72 (rowsAt x 128)))
    fun r => iprop(⌜r = ⟨(k0_pay79 (rowsAt x 160)), (k0_pay80 (rowsAt x 160))⟩⌝ ∗ QS c x 160 160 160 R) := by
  rw [k0_part71_eq_skeleton]
  unfold k0_part71_skel
  refine q_lcod fun _ => ?_
  refine q_cod (n := 128) rfl ⟨by omega, by omega⟩ (qC4 _) ?_
  refine q_lxd fun _ => ?_
  refine q_xd (n := 128) rfl ⟨by omega, by omega⟩ (qD4 _) ?_
  refine q_lscb fun _ => ?_
  refine q_scb (n := 128) rfl ⟨by omega, by omega⟩ (qS4 _) ?_
  refine q_x (n := 160) rfl (by omega) ?_
  exact tri_pure (by
    iintro H
    isplitr; · ipureintro; rfl
    iexact H)

set_option maxHeartbeats 4000000 in
theorem part72_tri {R : sProp (MM F)} : Tri c (QS c x 160 160 160 R) (k0_part72 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 (k0_pay79 (rowsAt x 160)) (k0_pay80 (rowsAt x 160)))
    fun r => iprop(⌜r = ⟨(k0_pay82 (k0_pay80 (rowsAt x 160))), (k0_pay83 (k0_pay79 (rowsAt x 160)) (k0_pay80 (rowsAt x 160))), (k0_pay84 (F := F))⟩⌝ ∗ QS c x 160 160 160 R) := by
  rw [k0_part72_eq_skeleton]
  unfold k0_part72_skel
  exact tri_pure (by
    iintro H
    isplitr; · ipureintro; rfl
    iexact H)

set_option maxHeartbeats 4000000 in
theorem part73_tri {R : sProp (MM F)} : Tri c (QS c x 160 160 160 R) (k0_part73 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 (k0_pay82 (k0_pay80 (rowsAt x 160))) (k0_pay83 (k0_pay79 (rowsAt x 160)) (k0_pay80 (rowsAt x 160))) (k0_pay84 (F := F)))
    fun r => iprop(⌜r = ⟨(k0_pay89 (rowsAt x 192)), (k0_pay90 (rowsAt x 192)), (k0_pay91 (rowsAt x 192)), 255#32⟩⌝ ∗ QS c x 192 192 192 R) := by
  rw [k0_part73_eq_skeleton]
  unfold k0_part73_skel
  refine q_lcod fun _ => ?_
  refine q_cod (n := 160) rfl ⟨by omega, by omega⟩ (qC5 _) ?_
  refine q_lxd fun _ => ?_
  refine q_xd (n := 160) rfl ⟨by omega, by omega⟩ (qD5 _) ?_
  refine q_lscb fun _ => ?_
  refine q_scb (n := 160) rfl ⟨by omega, by omega⟩ (qS5 _) ?_
  refine q_x (n := 192) rfl (by omega) ?_
  exact tri_pure (by
    iintro H
    isplitr; · ipureintro; rfl
    iexact H)

set_option maxHeartbeats 4000000 in
theorem part74_tri {R : sProp (MM F)} : Tri c (QS c x 192 192 192 R) (k0_part74 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 (k0_pay89 (rowsAt x 192)) (k0_pay90 (rowsAt x 192)) (k0_pay91 (rowsAt x 192)) 255#32)
    fun _ => QS c x 224 224 224 R := by
  rw [k0_part74_eq_skeleton]
  unfold k0_part74_skel
  refine q_lcod fun _ => ?_
  refine q_cod (n := 192) rfl ⟨by omega, by omega⟩ (qC6 _) ?_
  refine q_lxd fun _ => ?_
  refine q_xd (n := 192) rfl ⟨by omega, by omega⟩ (qD6 _) ?_
  refine q_lscb fun _ => ?_
  refine q_scb (n := 192) rfl ⟨by omega, by omega⟩ (qS6 _) ?_
  exact tri_pure .rfl

set_option maxHeartbeats 4000000 in
theorem part75_tri {R : sProp (MM F)} : Tri c (QS c x 224 224 224 R) (k0_part75 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18)
    fun r => iprop(⌜r = ⟨(k0_pay98 (rowsAt x 224)), (k0_pay100 (rowsAt x 224)), (k0_pay101 (rowsAt x 224))⟩⌝ ∗ QS c x 224 224 224 R) := by
  rw [k0_part75_eq_skeleton]
  unfold k0_part75_skel
  refine q_x (n := 224) rfl (by omega) ?_
  exact tri_pure (by
    iintro H
    isplitr; · ipureintro; rfl
    iexact H)

set_option maxHeartbeats 4000000 in
theorem part76_tri {R : sProp (MM F)} : Tri c (QS c x 224 224 224 R) (k0_part76 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 (k0_pay98 (rowsAt x 224)) (k0_pay100 (rowsAt x 224)) (k0_pay101 (rowsAt x 224)))
    fun r => iprop(⌜∃ w, r = ⟨(k0_pay108 (blkT x 0 1)), w⟩⌝ ∗ TS c x (128 * 1) 1 R) := by
  rw [k0_part76_eq_skeleton]
  unfold k0_part76_skel
  refine q_lcod fun _ => ?_
  refine q_cod (n := 224) rfl ⟨by omega, by omega⟩ (qC7 _) ?_
  refine q_lxd fun _ => ?_
  refine q_xd (n := 224) rfl ⟨by omega, by omega⟩ (qD7 _) ?_
  refine q_lscb fun _ => ?_
  refine q_scb (n := 224) rfl ⟨by omega, by omega⟩ (qS7 _) ?_
  refine tri_skip (B := TS c x (128 * 0) 0 R) ?_ (qs_ts (by omega) (by omega) (by omega))
  refine t_scb (n := 0) rfl (by omega) ?_
  refine t_lsc fun _ => ?_
  refine t_sc (n := 0) rfl (by omega) rfl ?_
  refine t_xd (n := 0) (k := 0) rfl (by omega) (by omega) ?_
  refine t_lxdt fun ld11 => ?_
  refine t_xdt (n := 0) (k := 0) rfl (by omega) (by omega) rfl rfl ?_
  refine t_xd (n := 0) (k := 1) rfl (by omega) (by omega) ?_
  refine t_lxdt fun ld14 => ?_
  exact tri_pure (by
    iintro H
    isplitr; · ipureintro; exact ⟨_, rfl⟩
    iexact H)

set_option maxHeartbeats 4000000 in
theorem part77_tri (ld : Vec F S512x128 .bf16) {R : sProp (MM F)} : Tri c (TS c x (128 * 1) 1 R) (k0_part77 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 (k0_pay108 (blkT x 0 1)) ld)
    fun r => iprop(⌜r = (k0_pay115 (blkT x 1 0))⌝ ∗ TS c x (128 * 2) 6 R) := by
  rw [k0_part77_eq_skeleton]
  unfold k0_part77_skel
  refine t_xdt (n := 0) (k := 1) rfl (by omega) (by omega) rfl rfl ?_
  refine t_xd (n := 0) (k := 2) rfl (by omega) (by omega) ?_
  refine t_lxdt fun ld2 => ?_
  refine t_xdt (n := 0) (k := 2) rfl (by omega) (by omega) rfl rfl ?_
  refine t_xd (n := 0) (k := 3) rfl (by omega) (by omega) ?_
  refine t_lxdt fun ld5 => ?_
  refine t_xdt (n := 0) (k := 3) rfl (by omega) (by omega) rfl rfl ?_
  refine t_xd (n := 0) (k := 4) rfl (by omega) (by omega) ?_
  refine t_lxdt fun ld8 => ?_
  refine t_xdt (n := 0) (k := 4) rfl (by omega) (by omega) rfl rfl ?_
  refine t_xd (n := 0) (k := 5) rfl (by omega) (by omega) ?_
  refine t_lxdt fun ld11 => ?_
  refine t_xdt (n := 0) (k := 5) rfl (by omega) (by omega) rfl rfl ?_
  refine t_scb (n := 1) rfl (by omega) ?_
  refine t_lsc fun _ => ?_
  refine t_sc (n := 1) rfl (by omega) rfl ?_
  refine t_xd (n := 1) (k := 0) rfl (by omega) (by omega) ?_
  exact tri_pure (by
    iintro H
    isplitr; · ipureintro; rfl
    iexact H)

set_option maxHeartbeats 4000000 in
theorem part78_tri {R : sProp (MM F)} : Tri c (TS c x (128 * 2) 6 iprop(InF c mOff mOffs off off 2 ∗ OW c ∗ R)) (k0_part78 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 (k0_pay115 (blkT x 1 0)))
    fun _ => TS c x (128 * 2) 12 iprop(Pt c mOffs Finset.univ off ∗ Pt c mOff Finset.univ off ∗ Sem0 c (inS 2) ∗ OW c ∗ R) := by
  rw [k0_part78_eq_skeleton]
  unfold k0_part78_skel
  refine t_lxdt fun ld0 => ?_
  refine t_xdt (n := 1) (k := 0) rfl (by omega) (by omega) rfl rfl ?_
  refine t_xd (n := 1) (k := 1) rfl (by omega) (by omega) ?_
  refine t_lxdt fun ld3 => ?_
  refine t_xdt (n := 1) (k := 1) rfl (by omega) (by omega) rfl rfl ?_
  refine t_xd (n := 1) (k := 2) rfl (by omega) (by omega) ?_
  refine t_lxdt fun ld6 => ?_
  refine t_xdt (n := 1) (k := 2) rfl (by omega) (by omega) rfl rfl ?_
  refine t_xd (n := 1) (k := 3) rfl (by omega) (by omega) ?_
  refine t_lxdt fun ld9 => ?_
  refine t_xdt (n := 1) (k := 3) rfl (by omega) (by omega) rfl rfl ?_
  refine t_xd (n := 1) (k := 4) rfl (by omega) (by omega) ?_
  refine t_lxdt fun ld12 => ?_
  refine t_xdt (n := 1) (k := 4) rfl (by omega) (by omega) rfl rfl ?_
  refine t_xd (n := 1) (k := 5) rfl (by omega) (by omega) ?_
  refine t_lxdt fun ld15 => ?_
  refine t_xdt (n := 1) (k := 5) rfl (by omega) (by omega) rfl rfl ?_
  refine tri_skip (tri_seq (tri_waitS (sem_in (k := 2) rfl) rfl (D := iprop(Pt c mOffs Finset.univ off ∗ Pt c mOff Finset.univ off))) (R := iprop(Pt c mXd Finset.univ (xdOf x) ∗ Pt c mScb Finset.univ (scbOf x) ∗ SoF c mScv (fun y : S1x256.Idx => (y 1).val < 128 * 2) (scOf x)
    ∗ SoF c mXdt (fun y : S3072x256.Idx => 6 * ((y 1).val / 128) + (y 0).val / 512 < 12) (xdtOf (xdOf x)) ∗ Pt c mXv Finset.univ x ∗ Pt c mCodesv Finset.univ (codesOf x) ∗ R)) fun _ => tri_pure ?_) ?_
  · unfold TS
    iintro ⟨⟨⟨Hv, Hf⟩, Hs, Ho⟩, Ha, Hb, Hd, He, Hg, Hh, Hr⟩
    isplitl [Ha]; · iexact Ha
    isplitl [Hb]; · iexact Hb
    isplitl [Hd]; · iexact Hd
    isplitl [He]; · iexact He
    isplitl [Hg]; · iexact Hg
    isplitl [Hh]; · iexact Hh
    isplitl [Hv]; · iexact Hv
    isplitl [Hf]; · iexact Hf
    isplitl [Hs]; · iexact Hs
    isplitl [Ho]; · iexact Ho
    iexact Hr
  · unfold TS
    iintro ⟨Ha, Hb, Hd, He, Hg, Hh, Hi, Ho, Hr⟩
    isplitl [Hi Ho]
    · isplitl [Hi]; · iexact Hi
      iexact Ho
    isplitl [Ha]; · iexact Ha
    isplitl [Hb]; · iexact Hb
    isplitl [Hd]; · iexact Hd
    isplitl [He]; · iexact He
    isplitl [Hg]; · iexact Hg
    isplitl [Hh]; · iexact Hh
    iexact Hr

/-- The count of expert `y` afterwards: the count before and the rows routed to it. -/
def coOf (cn : S6.Idx → Elt F .i32) (off : S7.Idx → Elt F .i32) (y : S6.Idx) : Elt F .i32 :=
  (Scalar.subi (Scalar.addi (at1 (n := 6) (by norm_num) cn (y 0).val : BitVec 32) (at1 (n := 7) (by norm_num) off ((y 0).val + 1) : BitVec 32)) (at1 (n := 7) (by norm_num) off (y 0).val : BitVec 32) : BitVec 32)
/-- The count of expert `e` afterwards. -/
def coAt (cn : S6.Idx → Elt F .i32) (off : S7.Idx → Elt F .i32) (e : ℕ) : Elt F .i32 :=
  (Scalar.subi (Scalar.addi (at1 (n := 6) (by norm_num) cn e : BitVec 32) (at1 (n := 7) (by norm_num) off (e + 1) : BitVec 32)) (at1 (n := 7) (by norm_num) off e : BitVec 32) : BitVec 32)

/-- The counts once those before `n` are there, beside `R`. -/
def CoS (c : Dev nD) (cn : S6.Idx → Elt F .i32) (off : S7.Idx → Elt F .i32) (n : ℕ) (R : sProp (MM F)) : sProp (MM F) :=
  iprop(Pt c mCnts Finset.univ cn ∗ Pt c mOffs Finset.univ off ∗ SoF c mCos (fun y : S6.Idx => (y 0).val < n) (coOf cn off) ∗ R)

theorem so_smem {M : Memref sig .tc .smem S6 .i32} {r : Rect S6} {h1 : r.shape.numel = 1} {hp : EltTy.i32.packing = 1}
    {φ : Idx (M.view.loc (c : Thread nD τ)) → Prop} {g : Buf (Elt F) (M.view.loc (c : Thread nD τ))} {P : sProp (MM F)} {α : Type}
    {k : Elt F .i32 → Prog (TpuEff nD τ sig (Elt F) Λ₀ .tc) α} {Q : α → sProp (MM F)}
    (hP : P ⊢ iprop(SoF c M φ g ∗ (SoF c M φ g -∗ P)))
    (hk : ∀ v, Tri c P (k v) Q) : Tri c P (smemLoad M r h1 hp >>= k) Q := by
  refine tri_skip (tri_ex (P := fun f => iprop(⌜∀ y, φ y → f y = g y⌝ ∗ Pt c M Finset.univ f ∗ (SoF c M φ g -∗ P))) fun f => tri_fact fun hf => ?_) ?_
  · refine tri_smem (M := M) (Finset.subset_univ _) (f := f) ?_ (tri_skip (hk _) ?_)
    · iintro ⟨H, H'⟩
      isplitl [H]; · iexact H
      iintro H
      isplitl [H]; · iexact H
      iexact H'
    · iintro ⟨H, H'⟩
      iapply H'
      unfold SoF
      iexists _
      isplitr; · ipureintro; exact hf
      iexact H
  · refine hP.trans ?_
    unfold SoF
    iintro ⟨⟨%f, %hf, H⟩, H'⟩
    iexists f
    isplitr; · ipureintro; exact hf
    isplitl [H]; · iexact H
    iexact H'

section Rules
variable {R : sProp (MM F)} {α : Type} {Q : α → sProp (MM F)}
theorem c_cn {o : Fin 1 → ℕ} {h h1 hp} {e n : ℕ} (ho : o = ![e]) {k : Elt F .i32 → Prog (TpuEff nD τ sig (Elt F) Λ₀ .tc) α}
    (hk : Tri c (CoS c cn off n R) (k (at1 (n := 6) (by norm_num) cn e)) Q) :
    Tri c (CoS c cn off n R) (smemLoad mCnts (Rect.unit (s := S6) o S1.size h) h1 hp >>= k) Q := by
  refine tri_smem (M := mCnts) (Finset.subset_univ _) (f := cn) (by
    unfold CoS
    iintro ⟨Ha, Hb, Hc, Hd⟩
    isplitl [Ha]; · iexact Ha
    iintro Ha
    isplitl [Ha]; · iexact Ha
    isplitl [Hb]; · iexact Hb
    isplitl [Hc]; · iexact Hc
    iexact Hd) ?_
  rw [read_cnts ho]
  exact hk
theorem c_off {o : Fin 1 → ℕ} {h h1 hp} {e n : ℕ} (ho : o = ![e]) {k : Elt F .i32 → Prog (TpuEff nD τ sig (Elt F) Λ₀ .tc) α}
    (hk : Tri c (CoS c cn off n R) (k (at1 (n := 7) (by norm_num) off e)) Q) :
    Tri c (CoS c cn off n R) (smemLoad mOffs (Rect.unit (s := S7) o S1.size h) h1 hp >>= k) Q := by
  refine tri_smem (M := mOffs) (Finset.subset_univ _) (f := off) (by
    unfold CoS
    iintro ⟨Ha, Hb, Hc, Hd⟩
    isplitl [Hb]; · iexact Hb
    iintro Hb
    isplitl [Ha]; · iexact Ha
    isplitl [Hb]; · iexact Hb
    isplitl [Hc]; · iexact Hc
    iexact Hd) ?_
  rw [read_smem7 ho]
  exact hk
theorem c_lco {r : Rect S6} {h1 hp} {n : ℕ} {k : Elt F .i32 → Prog (TpuEff nD τ sig (Elt F) Λ₀ .tc) α}
    (hk : ∀ v, Tri c (CoS c cn off n R) (k v) Q) : Tri c (CoS c cn off n R) (smemLoad mCos r h1 hp >>= k) Q := by
  refine so_smem (M := mCos) (by
    unfold CoS
    iintro ⟨Ha, Hb, Hc, Hd⟩
    isplitl [Hc]; · iexact Hc
    iintro Hc
    isplitl [Ha]; · iexact Ha
    isplitl [Hb]; · iexact Hb
    isplitl [Hc]; · iexact Hc
    iexact Hd) hk
theorem c_co {o : Fin 1 → ℕ} {h hx hm} {n : ℕ} {w : Elt F .i32} (ho : o = ![n]) (hn : n < 6) (hw : w = coAt cn off n) {k : PUnit → Prog (TpuEff nD τ sig (Elt F) Λ₀ .tc) α}
    (hk : Tri c (CoS c cn off (n + 1) R) (k ⟨⟩) Q) :
    Tri c (CoS c cn off n R) (Prog.lift (.store mCos (Rect.unit (s := S6) o S1.size h) (fun _ => w) Finset.univ hx hm) >>= k) Q := by
  subst ho hw
  refine so_store (M := mCos) (φ' := fun y : S6.Idx => (y 0).val < n + 1) (P' := CoS c cn off (n + 1) R) (g := coOf cn off) (fun f hf => ?_) (by
    unfold CoS
    iintro ⟨Ha, Hb, Hc, Hd⟩
    isplitl [Hc]; · iexact Hc
    iintro Hc
    isplitl [Ha]; · iexact Ha
    isplitl [Hb]; · iexact Hb
    isplitl [Hc]; · iexact Hc
    iexact Hd) hk
  intro y hy
  by_cases hc : (y 0).val = n
  · have e : y = (mCos.access (Rect.unit (s := S6) ![n] S1.size h)).emb (ix1 (n := 1) 0) := by
      funext a
      apply Fin.ext
      match a with
      | ⟨0, _⟩ => show (y 0).val = n + 1 * 0; omega
    conv_lhs => rw [e]
    rw [View.write_emb_of_mem _ _ (Finset.mem_univ _)]
    show coAt cn off n = coAt cn off (y 0).val
    rw [hc]
  · rw [View.write_of_not_mem]
    · refine hf y (show (y 0).val < n from ?_)
      have h9 : (y 0).val < n + 1 := hy
      omega
    rw [View.setOn_univ]
    intro hm
    obtain ⟨i, -, hi⟩ := Finset.mem_map.1 hm
    apply hc
    rw [← hi]
    have hi0 : (i 0).val < 1 := (i 0).isLt
    show n + 1 * (i 0).val = n
    omega
end Rules

set_option maxHeartbeats 4000000 in
theorem part79_tri {R : sProp (MM F)} : Tri c iprop(InF c mCnt mCnts cn cn 3 ∗ OW c ∗ InF c mRt mRtv rt rt 1 ∗ Pt c mOffs Finset.univ off ∗ (∃ g, Pt c mCos Finset.univ g) ∗ R) (k0_part79 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18)
    fun r => iprop(⌜r = coAt cn off 4⌝ ∗ CoS c cn off 4 iprop(Pt c mRtv Finset.univ rt ∗ Pt c mCnt Finset.univ cn ∗ Pt c mRt Finset.univ rt ∗ Sem0 c (inS 3) ∗ Sem0 c (inS 1) ∗ OW c ∗ R)) := by
  rw [k0_part79_eq_skeleton]
  unfold k0_part79_skel
  refine tri_skip (tri_seq (tri_waitS (sem_in (k := 3) rfl) rfl (D := iprop(Pt c mCnts Finset.univ cn ∗ Pt c mCnt Finset.univ cn))) (R := iprop(InF c mRt mRtv rt rt 1 ∗ Pt c mOffs Finset.univ off ∗ (∃ g, Pt c mCos Finset.univ g) ∗ R)) fun _ => ?_) (by
    iintro ⟨Ha, Hw, Hb, Hd, He, Hr⟩
    isplitl [Ha Hw]
    · isplitl [Ha]; · iexact Ha
      iexact Hw
    isplitl [Hb]; · iexact Hb
    isplitl [Hd]; · iexact Hd
    isplitl [He]; · iexact He
    iexact Hr)
  refine tri_skip (tri_seq (tri_waitS (sem_in (k := 1) rfl) rfl (D := iprop(Pt c mRtv Finset.univ rt ∗ Pt c mRt Finset.univ rt))) (R := iprop((Pt c mCnts Finset.univ cn ∗ Pt c mCnt Finset.univ cn) ∗ Sem0 c (inS 3) ∗ Pt c mOffs Finset.univ off ∗ (∃ g, Pt c mCos Finset.univ g) ∗ R)) fun _ => ?_) (by
    iintro ⟨⟨Ha, Hs, Hw⟩, Hb, Hd, He, Hr⟩
    isplitl [Hb Hw]
    · isplitl [Hb]; · iexact Hb
      iexact Hw
    isplitl [Ha]; · iexact Ha
    isplitl [Hs]; · iexact Hs
    isplitl [Hd]; · iexact Hd
    isplitl [He]; · iexact He
    iexact Hr)
  refine tri_skip (B := CoS c cn off 0 iprop(Pt c mRtv Finset.univ rt ∗ Pt c mCnt Finset.univ cn ∗ Pt c mRt Finset.univ rt ∗ Sem0 c (inS 3) ∗ Sem0 c (inS 1) ∗ OW c ∗ R)) ?_ (by
    unfold CoS
    iintro ⟨⟨⟨Ha, Hb⟩, Hs, Ho⟩, ⟨Hc, Hd⟩, Hs3, Hof, He, Hr⟩
    ihave He := (so_none (c := c) (M := mCos) (φ := fun y : S6.Idx => (y 0).val < 0) (g := coOf cn off) fun y => Nat.not_lt_zero _) $$ He
    isplitl [Hc]; · iexact Hc
    isplitl [Hof]; · iexact Hof
    isplitl [He]; · iexact He
    isplitl [Ha]; · iexact Ha
    isplitl [Hd]; · iexact Hd
    isplitl [Hb]; · iexact Hb
    isplitl [Hs3]; · iexact Hs3
    isplitl [Hs]; · iexact Hs
    isplitl [Ho]; · iexact Ho
    iexact Hr)
  refine c_cn (e := 0) rfl ?_
  refine c_off (e := 1) rfl ?_
  refine c_off (e := 0) rfl ?_
  refine c_lco fun _ => ?_
  refine c_co (n := 0) rfl (by omega) rfl ?_
  refine c_cn (e := 1) rfl ?_
  refine c_off (e := 2) rfl ?_
  refine c_off (e := 1) rfl ?_
  refine c_lco fun _ => ?_
  refine c_co (n := 1) rfl (by omega) rfl ?_
  refine c_cn (e := 2) rfl ?_
  refine c_off (e := 3) rfl ?_
  refine c_off (e := 2) rfl ?_
  refine c_lco fun _ => ?_
  refine c_co (n := 2) rfl (by omega) rfl ?_
  refine c_cn (e := 3) rfl ?_
  refine c_off (e := 4) rfl ?_
  refine c_off (e := 3) rfl ?_
  refine c_lco fun _ => ?_
  refine c_co (n := 3) rfl (by omega) rfl ?_
  refine c_cn (e := 4) rfl ?_
  refine c_off (e := 5) rfl ?_
  refine c_off (e := 4) rfl ?_
  refine c_lco fun _ => ?_
  exact tri_pure (by
    iintro H
    isplitr; · ipureintro; rfl
    iexact H)

/-- What the loop needs beside the inputs of its setup. -/
def LR (c : Dev nD) (rt : S8x128.Idx → Elt F .i32) (off : S7.Idx → Elt F .i32) (cn co : S6.Idx → Elt F .i32) (xd : S256x3072.Idx → Elt F .bf16) (xt : S3072x256.Idx → Elt F .bf16) (h0 f0 G : S6x3072x3072.Idx → Elt F .f32) : sProp (MM F) :=
  iprop((Pt c mRtv Finset.univ rt ∗ Pt c mOffs Finset.univ off ∗ Pt c mCnts Finset.univ cn ∗ PtH c mCos Finset.univ co ∗ Pt c mXd Finset.univ xd) -∗ Inv c rt off cn co xd xt h0 f0 G 0)

/-- The three small results before they are copied out. -/
def ON (c : Dev nD) (cod d7 : S256x3072.Idx → Elt F .fp8e4m3) (sc d8 : S1x256.Idx → Elt F .f32) (d6 : S6.Idx → Elt F .i32) : sProp (MM F) :=
  iprop((Pt c mCodesv Finset.univ cod ∗ Pt c mCodes Finset.univ d7 ∗ Sem0 c (outS 0)) ∗ (Pt c mScv Finset.univ sc ∗ Pt c mSc Finset.univ d8 ∗ Sem0 c (outS 1)) ∗ (Pt c mCo Finset.univ d6 ∗ Sem0 c (outS 2)))
/-- The three small results on their way out. -/
def OF (c : Dev nD) (cod : S256x3072.Idx → Elt F .fp8e4m3) (sc : S1x256.Idx → Elt F .f32) (co : S6.Idx → Elt F .i32) : sProp (MM F) :=
  iprop(Fly c (outS 0) mCodes.view.dmaCredit iprop(Pt c mCodes Finset.univ cod ∗ Pt c mCodesv Finset.univ cod) ∗ Fly c (outS 1) mSc.view.dmaCredit iprop(Pt c mSc Finset.univ sc ∗ Pt c mScv Finset.univ sc)
    ∗ Fly c (outS 2) mCo.view.dmaCredit iprop(Pt c mCo Finset.univ co ∗ PtQ c fullShare.right mCos Finset.univ co))

set_option maxHeartbeats 8000000 in
theorem part80_tri {R : sProp (MM F)} {xd : S256x3072.Idx → Elt F .bf16} {xt : S3072x256.Idx → Elt F .bf16} {f0 G : S6x3072x3072.Idx → Elt F .f32} {cod d7 : S256x3072.Idx → Elt F .fp8e4m3} {sc d8 : S1x256.Idx → Elt F .f32} {d6 : S6.Idx → Elt F .i32}
    (hG : Holds xt (cxOf rt off xd) (muOf cn (coOf cn off)) h0 G) :
    Tri c (CoS c cn off 4 iprop(Pt c mRtv Finset.univ rt ∗ Pt c mXd Finset.univ xd ∗ ON c cod d7 sc d8 d6 ∗ LR c rt off cn (coOf cn off) xd xt h0 f0 G ∗ R)) (k0_part80 (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18 (coAt cn off 4))
    fun _ => iprop(Inv c rt off cn (coOf cn off) xd xt h0 f0 G 126 ∗ OF c cod sc (coOf cn off) ∗ R) := by
  rw [k0_part80_eq_skeleton]
  unfold k0_part80_skel
  refine c_co (n := 4) rfl (by omega) rfl ?_
  refine c_cn (e := 5) rfl ?_
  refine c_off (e := 6) rfl ?_
  refine c_off (e := 5) rfl ?_
  refine c_lco fun _ => ?_
  refine c_co (n := 5) rfl (by omega) rfl ?_
  refine tri_skip (B := iprop((Pt c mCodesv Finset.univ cod ∗ Pt c mCodes Finset.univ d7 ∗ Sem0 c (outS 0)) ∗ (Pt c mScv Finset.univ sc ∗ Pt c mSc Finset.univ d8 ∗ Sem0 c (outS 1)) ∗ (PtQ c fullShare.right mCos Finset.univ (coOf cn off) ∗ Pt c mCo Finset.univ d6 ∗ Sem0 c (outS 2)) ∗ Inv c rt off cn (coOf cn off) xd xt h0 f0 G 0 ∗ R)) ?_ (by
    unfold CoS ON LR
    iintro ⟨Ha, Hb, Hc, Hd, He, ⟨Hx, Hy, ⟨Hp, Hq⟩⟩, HL, HR⟩
    ihave Hc := (so_all (c := c) (M := mCos) (φ := fun y : S6.Idx => (y 0).val < 5 + 1) (g := coOf cn off) fun y => (y 0).isLt) $$ Hc
    ihave Hc := (pointsTo_share (PosShare.mem_left_op_right fullShare)).1 $$ Hc
    icases Hc with ⟨Hl, Hr⟩
    isplitl [Hx]; · iexact Hx
    isplitl [Hy]; · iexact Hy
    isplitl [Hr Hp Hq]
    · isplitl [Hr]; · iexact Hr
      isplitl [Hp]; · iexact Hp
      iexact Hq
    isplitr [HR]
    · iapply HL
      isplitl [Hd]; · iexact Hd
      isplitl [Hb]; · iexact Hb
      isplitl [Ha]; · iexact Ha
      isplitl [Hl]; · iexact Hl
      iexact He
    iexact HR)
  refine tri_seq (tri_copyS (src := mCodesv) (dst := mCodes) (sem_out (k := 0) rfl) cod d7 cod (by decide) (View.set_whole _) (View.set_whole _) (fun _ => rfl)) fun _ => ?_
  refine tri_skip (tri_seq (tri_copyS (src := mScv) (dst := mSc) (sem_out (k := 1) rfl) sc d8 sc (by decide) (View.set_whole _) (View.set_whole _) (fun _ => rfl)) (R := iprop((PtQ c fullShare.right mCos Finset.univ (coOf cn off) ∗ Pt c mCo Finset.univ d6 ∗ Sem0 c (outS 2)) ∗ Inv c rt off cn (coOf cn off) xd xt h0 f0 G 0 ∗ R ∗ Fly c (outS 0) mCodes.view.dmaCredit iprop(Pt c mCodes Finset.univ cod ∗ Pt c mCodesv Finset.univ cod))) fun _ => ?_) (by
    iintro ⟨Hf, Ha, Hb, Hi, Hr⟩
    isplitl [Ha]; · iexact Ha
    isplitl [Hb]; · iexact Hb
    isplitl [Hi]; · iexact Hi
    isplitl [Hr]; · iexact Hr
    iexact Hf)
  refine tri_skip (tri_seq (tri_copyS (src := mCos) (dst := mCo) (sem_out (k := 2) rfl) (coOf cn off) d6 (coOf cn off) (by decide) (View.set_whole _) (View.set_whole _) (fun _ => rfl)) (R := iprop(Inv c rt off cn (coOf cn off) xd xt h0 f0 G 0 ∗ R ∗ Fly c (outS 0) mCodes.view.dmaCredit iprop(Pt c mCodes Finset.univ cod ∗ Pt c mCodesv Finset.univ cod) ∗ Fly c (outS 1) mSc.view.dmaCredit iprop(Pt c mSc Finset.univ sc ∗ Pt c mScv Finset.univ sc))) fun _ => ?_) (by
    iintro ⟨Hg, Hb, Hi, Hr, Hf⟩
    isplitl [Hb]; · iexact Hb
    isplitl [Hi]; · iexact Hi
    isplitl [Hr]; · iexact Hr
    isplitl [Hf]; · iexact Hf
    iexact Hg)
  refine tri_skip (tri_seq (loop_tri hG _) (R := iprop(OF c cod sc (coOf cn off) ∗ R)) fun _ => tri_pure .rfl) ?_
  unfold OF
  iintro ⟨Hh, Hi, Hr, Hf, Hg⟩
  isplitl [Hi]; · iexact Hi
  isplitl [Hf Hg Hh]
  · isplitl [Hf]; · iexact Hf
    isplitl [Hg]; · iexact Hg
    iexact Hh
  iexact Hr

end Cert.KernelIdeal.Hand

end
-- ==== Proof.KernelIdeal.Split.lean ====
module

public import proofs.«01_k».proof.Proof.KernelIdeal.Mid
public import Idealize.SL.BI.BigOpNat

/-! The arrays cut into the blocks the steps use and put together again; the result's contents, block by block -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-! ## Products over intervals -/

theorem bs_emp {s : Finset ℕ} {Φ : ℕ → sProp (MM F)} (h : ∀ i ∈ s, Φ i = iprop(emp)) : bigSep s Φ = iprop(emp) := by
  rw [bigSep_congr h]
  clear h
  induction s using Finset.induction_on with
  | empty => rfl
  | insert a s ha ih => rw [bigSep_insert ha, ih]; exact BI.equiv_iff.mp BI.emp_sep

/-- A product over an interval, cut in two. -/
theorem bs_cut {a b d : ℕ} (hab : a ≤ b) (hbc : b ≤ d) (A : ℕ → sProp (MM F)) :
    bigSep (Finset.Ico a d) A = iprop(bigSep (Finset.Ico a b) A ∗ bigSep (Finset.Ico b d) A) := by
  rw [← Finset.Ico_union_Ico_eq_Ico hab hbc, bigSep_union (Finset.Ico_disjoint_Ico_consecutive a b d)]
  rfl

/-- A product over an interval, its numbers moved down. -/
theorem bs_shift (Φ : ℕ → sProp (MM F)) (d a n : ℕ) :
    bigSep (Finset.Ico (a + d) (a + n + d)) Φ = bigSep (Finset.Ico a (a + n)) (fun t => Φ (t + d)) := by
  induction n with
  | zero => rw [Nat.add_zero, Finset.Ico_self, Finset.Ico_self]; rfl
  | succ n ih =>
    rw [show a + (n + 1) + d = (a + n + d) + 1 by omega, bigSep_Ico_succ_top (by omega), show a + (n + 1) = (a + n) + 1 by omega, bigSep_Ico_succ_top (by omega), ih]

/-- The same, where the family's members are named anew. -/
theorem bs_shift' (Φ Ψ : ℕ → sProp (MM F)) (d a b : ℕ) (hab : a ≤ b) (h : ∀ t ∈ Finset.Ico a b, Φ (t + d) = Ψ t) :
    bigSep (Finset.Ico (a + d) (b + d)) Φ = bigSep (Finset.Ico a b) Ψ := by
  obtain ⟨n, rfl⟩ := Nat.exists_eq_add_of_le hab
  rw [bs_shift, bigSep_congr h]

/-! ## Which step holds a block -/

/-- Block `(I, J)` is one a step computes (the others are the mirror images). -/
def dirp (I J : ℕ) : Prop := (J + 6 - I) % 6 ≤ 2 ∨ ((J + 6 - I) % 6 = 3 ∧ I < 3)
instance (I J : ℕ) : Decidable (dirp I J) := inferInstanceAs (Decidable (_ ∨ _))
/-- The step that computes it. -/
def td (e I J : ℕ) : ℕ := e * 21 + ((J + 6 - I) % 6) * 6 + I

theorem st1 : ∀ t : Fin 126, (eOf t.val < 6 ∧ iOf t.val < 6 ∧ jOf t.val < 6) ∧ dirp (iOf t.val) (jOf t.val) ∧ td (eOf t.val) (iOf t.val) (jOf t.val) = t.val
    ∧ (¬ dg t.val → ¬ dirp (jOf t.val) (iOf t.val)) := by decide +kernel
theorem st2 : ∀ e I J : Fin 6, dirp I.val J.val → td e.val I.val J.val < 126 ∧ eOf (td e.val I.val J.val) = e.val ∧ iOf (td e.val I.val J.val) = I.val ∧ jOf (td e.val I.val J.val) = J.val := by
  decide +kernel
theorem st3 : ∀ e I J : Fin 6, ¬ dirp I.val J.val → dirp J.val I.val ∧ ¬ dg (td e.val J.val I.val) := by decide +kernel

theorem mem_SH {e I J : ℕ} {y : S6x3072x3072.Idx} : y ∈ SH e I J ↔ (y 0).val = e ∧ (y 1).val / 512 = I ∧ (y 2).val / 512 = J := by
  rw [mem_bx]
  show (e ≤ (y 0).val ∧ (y 0).val < e + 1) ∧ (512 * I ≤ (y 1).val ∧ (y 1).val < 512 * I + 512) ∧ (512 * J ≤ (y 2).val ∧ (y 2).val < 512 * J + 512) ↔ _
  omega

/-! ## The result's contents -/

section Contents
variable (xt : S3072x256.Idx → Elt F .bf16) (cxs : ℕ → S256x3072.Idx → Elt F .bf16) (mus : ℕ → S2x512.Idx → Elt F .f32) (h0 : S6x3072x3072.Idx → Elt F .f32)

/-- A place within its block. -/
def inb (a b : Fin 3072) : S512x512.Idx := ix2 (⟨a.val % 512, Nat.mod_lt _ (by norm_num)⟩ : Fin 512) (⟨b.val % 512, Nat.mod_lt _ (by norm_num)⟩ : Fin 512)

/-- What the whole result holds: a block's own step's tile, or the transposed tile of its mirror image. -/
def gOf (y : S6x3072x3072.Idx) : Elt F .f32 :=
  if dirp ((y 1).val / 512) ((y 2).val / 512) then CT xt cxs mus h0 (td (y 0).val ((y 1).val / 512) ((y 2).val / 512)) (inb (y 1) (y 2))
  else CT xt cxs mus h0 (td (y 0).val ((y 2).val / 512) ((y 1).val / 512)) (inb (y 2) (y 1))

theorem gI_0 {e I J : ℕ} {x : S512x512.Idx} (he : e < 6) : (gI e I J x 0).val = e := by
  show e % 6 = e; omega
theorem gI_1 {e I J : ℕ} {x : S512x512.Idx} (hI : I < 6) : (gI e I J x 1).val / 512 = I ∧ (gI e I J x 1).val % 512 = (x 0).val := by
  have h := (x 0).isLt
  have h' : (x 0).val < 512 := h
  show ((512 * I + (x 0).val) % 3072) / 512 = I ∧ ((512 * I + (x 0).val) % 3072) % 512 = (x 0).val; omega
theorem gI_2 {e I J : ℕ} {x : S512x512.Idx} (hJ : J < 6) : (gI e I J x 2).val / 512 = J ∧ (gI e I J x 2).val % 512 = (x 1).val := by
  have h := (x 1).isLt
  have h' : (x 1).val < 512 := h
  show ((512 * J + (x 1).val) % 3072) / 512 = J ∧ ((512 * J + (x 1).val) % 3072) % 512 = (x 1).val; omega

theorem inb_eq {a b : Fin 3072} {u v : Fin 512} (h1 : a.val % 512 = u.val) (h2 : b.val % 512 = v.val) : inb a b = ix2 u v := by
  unfold inb
  exact congrArg₂ (fun p q => ix2 (n0 := 512) (n1 := 512) p q) (Fin.ext h1) (Fin.ext h2)

theorem eta2 (x : S512x512.Idx) : (ix2 (n0 := 512) (n1 := 512) (x 0) (x 1) : S512x512.Idx) = x := by
  funext a
  match a with
  | ⟨0, _⟩ => rfl
  | ⟨1, _⟩ => rfl

theorem holds_gOf : Holds xt cxs mus h0 (gOf xt cxs mus h0) where
  direct t ht x := by
    obtain ⟨⟨h1, h2, h3⟩, hd, htd, -⟩ := st1 ⟨t, ht⟩
    dsimp only at h1 h2 h3 hd htd
    obtain ⟨a1, b1⟩ := gI_1 (e := eOf t) (J := jOf t) (x := x) h2
    obtain ⟨a2, b2⟩ := gI_2 (e := eOf t) (I := iOf t) (x := x) h3
    unfold gOf
    rw [a1, a2, gI_0 h1, if_pos hd, htd, inb_eq b1 b2, eta2]
  mirror t ht hn x := by
    obtain ⟨⟨h1, h2, h3⟩, hd, htd, hm⟩ := st1 ⟨t, ht⟩
    dsimp only at h1 h2 h3 hd htd hm
    obtain ⟨a1, b1⟩ := gI_1 (e := eOf t) (J := iOf t) (x := x) h3
    obtain ⟨a2, b2⟩ := gI_2 (e := eOf t) (I := jOf t) (x := x) h2
    unfold gOf
    rw [a1, a2, gI_0 h1, if_neg (hm hn), htd, inb_eq b2 b1]

end Contents

/-! ## The arrays in shared memory -/

variable {c : Dev nD}

theorem sh_disj {e I J e' I' J' : ℕ} (h : ¬ (e = e' ∧ I = I' ∧ J = J')) : Disjoint (SH e I J) (SH e' I' J') := by
  rw [Finset.disjoint_left]
  intro y h1 h2
  rw [mem_SH] at h1 h2
  omega

theorem step_inj {t t' : ℕ} (ht : t < 126) (ht' : t' < 126) (h : eOf t = eOf t' ∧ iOf t = iOf t' ∧ jOf t = jOf t') : t = t' := by
  have h1 := (st1 ⟨t, ht⟩).2.2.1
  have h2 := (st1 ⟨t', ht'⟩).2.2.1
  dsimp only at h1 h2
  rw [← h1, ← h2, h.1, h.2.1, h.2.2]

/-- The input's blocks the steps read. -/
def AIn : Finset S6x3072x3072.Idx := (Finset.Ico 0 126).biUnion fun t => SH (eOf t) (iOf t) (jOf t)

/-- The input as the blocks the steps read and the rest. -/
theorem in_split {h0 : S6x3072x3072.Idx → Elt F .f32} :
    (Pt c mIn Finset.univ h0) ⊣⊢ iprop(bigSep (Finset.Ico 0 126) (hinB c h0) ∗ Pt c mIn (Finset.univ \ AIn) h0) := by
  have e : Pt c mIn AIn h0 = bigSep (Finset.Ico 0 126) (hinB c h0) :=
    pointsTo_biUnion _ _ fun t ht t' ht' hne => sh_disj fun h => hne (step_inj (Finset.mem_Ico.mp ht).2 (Finset.mem_Ico.mp ht').2 h)
  rw [← e]
  exact pointsTo_split_subset (Finset.subset_univ AIn)

/-- The result's blocks by step, their own and the mirror images. -/
def KD (T : ℕ) : Finset S6x3072x3072.Idx := SH (eOf (T - 12)) (iOf (T - 12)) (jOf (T - 12))
def KM (T : ℕ) : Finset S6x3072x3072.Idx := if dg (T - 12) then ∅ else SH (eOf (T - 12)) (jOf (T - 12)) (iOf (T - 12))

theorem mem_KD {T : ℕ} (hT : T ∈ Finset.Ico 12 138) {y : S6x3072x3072.Idx} (h : y ∈ KD T) :
    dirp ((y 1).val / 512) ((y 2).val / 512) ∧ td (y 0).val ((y 1).val / 512) ((y 2).val / 512) = T - 12 := by
  rw [Finset.mem_Ico] at hT
  obtain ⟨⟨h1, h2, h3⟩, hd, htd, hm⟩ := st1 ⟨T - 12, by omega⟩
  dsimp only at h1 h2 h3 hd htd hm
  obtain ⟨a, b, d⟩ := mem_SH.mp h
  rw [a, b, d]
  exact ⟨hd, htd⟩

theorem mem_KM {T : ℕ} (hT : T ∈ Finset.Ico 12 138) {y : S6x3072x3072.Idx} (h : y ∈ KM T) :
    ¬ dirp ((y 1).val / 512) ((y 2).val / 512) ∧ td (y 0).val ((y 2).val / 512) ((y 1).val / 512) = T - 12 := by
  rw [Finset.mem_Ico] at hT
  unfold KM at h
  split at h
  · exact absurd h (Finset.notMem_empty _)
  · rename_i hn
    obtain ⟨⟨h1, h2, h3⟩, hd, htd, hm⟩ := st1 ⟨T - 12, by omega⟩
    dsimp only at h1 h2 h3 hd htd hm
    obtain ⟨a, b, d⟩ := mem_SH.mp h
    rw [a, b, d]
    exact ⟨hm hn, htd⟩

theorem cover_out : (Finset.univ : Finset S6x3072x3072.Idx) = (Finset.Ico 12 138).biUnion KD ∪ (Finset.Ico 12 138).biUnion KM := by
  refine (Finset.eq_univ_iff_forall.mpr fun y => ?_).symm
  have h0 : (y 0).val < 6 := (y 0).isLt
  have h1 : (y 1).val < 3072 := (y 1).isLt
  have h2 : (y 2).val < 3072 := (y 2).isLt
  rw [Finset.mem_union, Finset.mem_biUnion, Finset.mem_biUnion]
  rcases Classical.em (dirp ((y 1).val / 512) ((y 2).val / 512)) with hd | hd
  · obtain ⟨a, b, d, e⟩ := st2 ⟨(y 0).val, h0⟩ ⟨(y 1).val / 512, by omega⟩ ⟨(y 2).val / 512, by omega⟩ hd
    dsimp only at a b d e
    refine Or.inl ⟨td (y 0).val ((y 1).val / 512) ((y 2).val / 512) + 12, Finset.mem_Ico.mpr ⟨by omega, by omega⟩, ?_⟩
    unfold KD
    rw [Nat.add_sub_cancel]
    exact mem_SH.mpr ⟨b.symm, d.symm, e.symm⟩
  · obtain ⟨hd', hn⟩ := st3 ⟨(y 0).val, h0⟩ ⟨(y 1).val / 512, by omega⟩ ⟨(y 2).val / 512, by omega⟩ hd
    obtain ⟨a, b, d, e⟩ := st2 ⟨(y 0).val, h0⟩ ⟨(y 2).val / 512, by omega⟩ ⟨(y 1).val / 512, by omega⟩ hd'
    dsimp only at a b d e hn
    refine Or.inr ⟨td (y 0).val ((y 2).val / 512) ((y 1).val / 512) + 12, Finset.mem_Ico.mpr ⟨by omega, by omega⟩, ?_⟩
    unfold KM
    rw [Nat.add_sub_cancel, if_neg hn]
    exact mem_SH.mpr ⟨b.symm, e.symm, d.symm⟩

/-- The result as its blocks. -/
theorem out_split {f : S6x3072x3072.Idx → Elt F .f32} :
    (Pt c mHo Finset.univ f) ⊣⊢ iprop(bigSep (Finset.Ico 11 138) (HOB c f) ∗ bigSep (Finset.Ico 11 138) (HOM c f)) := by
  have eD : Pt c mHo ((Finset.Ico 12 138).biUnion KD) f = bigSep (Finset.Ico 12 138) (HOB c f) :=
    (pointsTo_biUnion (q := fullShare) (f := f) (ℓ := mHo.view.loc (c : Thread nD τ)) _ KD fun t ht t' ht' hne => Finset.disjoint_left.mpr fun y h1 h2 => hne (by
      have := (mem_KD ht h1).2; have := (mem_KD ht' h2).2; rw [Finset.mem_Ico] at ht ht'; omega)).trans
      (bigSep_congr fun T hT => (if_pos (Finset.mem_Ico.mp hT).1).symm)
  have eM : Pt c mHo ((Finset.Ico 12 138).biUnion KM) f = bigSep (Finset.Ico 12 138) (HOM c f) :=
    (pointsTo_biUnion (q := fullShare) (f := f) (ℓ := mHo.view.loc (c : Thread nD τ)) _ KM fun t ht t' ht' hne => Finset.disjoint_left.mpr fun y h1 h2 => hne (by
      have := (mem_KM ht h1).2; have := (mem_KM ht' h2).2; rw [Finset.mem_Ico] at ht ht'; omega)).trans
      (bigSep_congr fun T hT => by
        have hT' := (Finset.mem_Ico.mp hT).1
        unfold HOM KM
        by_cases hd : dg (T - 12)
        · rw [if_pos hd, if_neg (fun h => h.2 hd)]; exact pointsTo_empty
        · rw [if_neg hd, if_pos ⟨hT', hd⟩])
  have e11 : ∀ Φ : ℕ → sProp (MM F), Φ 11 = iprop(emp) → bigSep (Finset.Ico 11 138) Φ = bigSep (Finset.Ico 12 138) Φ := fun Φ h => by
    rw [bigSep_Ico_succ_bot (by norm_num), h]; exact BI.equiv_iff.mp BI.emp_sep
  rw [e11 (HOB c f) (if_neg (by omega)), e11 (HOM c f) (if_neg (by omega)), ← eD, ← eM]
  have hd : Disjoint ((Finset.Ico 12 138).biUnion KD) ((Finset.Ico 12 138).biUnion KM) := Finset.disjoint_left.mpr fun y h1 h2 => by
    obtain ⟨t, ht, h1⟩ := Finset.mem_biUnion.mp h1
    obtain ⟨t', ht', h2⟩ := Finset.mem_biUnion.mp h2
    exact (mem_KM ht' h2).1 (mem_KD ht h1).1
  have hu := pointsTo_union (q := fullShare) (f := f) (ℓ := mHo.view.loc (c : Thread nD τ)) (Ix := Unit) (Name := ℕ) (U := Pipeline.UD sig nD τ) (Lvl := ℕ) hd
  have hc : Pt c mHo Finset.univ f = Pt c mHo ((Finset.Ico 12 138).biUnion KD ∪ (Finset.Ico 12 138).biUnion KM) f := congrArg (fun S => Pt c mHo S f) cover_out
  rw [hc]
  exact hu

/-! ## The slots -/

section Slots
variable {sp : Space} {n : ℕ} (M : Memref sig .tc sp ⟨3, ![n, 512, 512]⟩ .f32)

theorem slot_disj {a b : ℕ} (h : a ≠ b) : Disjoint (bx (d := ![n, 512, 512]) ![a, 0, 0] ![1, 512, 512]) (bx ![b, 0, 0] ![1, 512, 512]) := by
  rw [Finset.disjoint_left]
  intro y h1 h2
  rw [mem_bx] at h1 h2
  have a1 : a ≤ (y 0).val ∧ (y 0).val < a + 1 := h1.1
  have a2 : b ≤ (y 0).val ∧ (y 0).val < b + 1 := h2.1
  omega

theorem slot_cover : (Finset.univ : Finset (⟨3, ![n, 512, 512]⟩ : Shape).Idx) = (Finset.Ico 0 n).biUnion fun k => bx ![k, 0, 0] ![1, 512, 512] := by
  refine (Finset.eq_univ_iff_forall.mpr fun y => ?_).symm
  have h0 : (y 0).val < n := (y 0).isLt
  have h1 : (y 1).val < 512 := (y 1).isLt
  have h2 : (y 2).val < 512 := (y 2).isLt
  rw [Finset.mem_biUnion]
  refine ⟨(y 0).val, Finset.mem_Ico.mpr ⟨Nat.zero_le _, h0⟩, mem_bx.mpr ?_⟩
  show ((y 0).val ≤ (y 0).val ∧ (y 0).val < (y 0).val + 1) ∧ (0 ≤ (y 1).val ∧ (y 1).val < 0 + 512) ∧ (0 ≤ (y 2).val ∧ (y 2).val < 0 + 512)
  omega

end Slots

theorem SlotAny_of {k : ℕ} {f : S24x512x512.Idx → Elt F .f32} : Pt c mBuf (SB k) f ⊢ SlotAny c k := by
  iintro H; iexists f; iexact H

theorem buf_cut {f : S24x512x512.Idx → Elt F .f32} : Pt c mBuf Finset.univ f ⊢ bigSep (Finset.Ico 0 24) (fun k => SlotAny c k) := by
  have e : Pt c mBuf ((Finset.Ico 0 24).biUnion SB) f = bigSep (Finset.Ico 0 24) (fun k => Pt c mBuf (SB k) f) :=
    pointsTo_biUnion (q := fullShare) (f := f) (ℓ := mBuf.view.loc (c : Thread nD τ)) (Finset.Ico 0 24) SB fun a _ b _ h => slot_disj (n := 24) h
  have hc : Pt c mBuf Finset.univ f = Pt c mBuf ((Finset.Ico 0 24).biUnion SB) f := congrArg (fun S => Pt c mBuf S f) slot_cover
  rw [hc, e]
  exact bigSep_mono fun k _ => SlotAny_of

theorem MSlotAny_of {k : ℕ} {f : S12x512x512.Idx → Elt F .f32} : Pt c mMir (SM k) f ⊢ MSlotAny c k := by
  iintro H; iexists f; iexact H

theorem mir_cut {f : S12x512x512.Idx → Elt F .f32} : Pt c mMir Finset.univ f ⊢ bigSep (Finset.Ico 0 12) (fun k => MSlotAny c k) := by
  have e : Pt c mMir ((Finset.Ico 0 12).biUnion SM) f = bigSep (Finset.Ico 0 12) (fun k => Pt c mMir (SM k) f) :=
    pointsTo_biUnion (q := fullShare) (f := f) (ℓ := mMir.view.loc (c : Thread nD τ)) (Finset.Ico 0 12) SM fun a _ b _ h => slot_disj (n := 12) h
  have hc : Pt c mMir Finset.univ f = Pt c mMir ((Finset.Ico 0 12).biUnion SM) f := congrArg (fun S => Pt c mMir S f) slot_cover
  rw [hc, e]
  exact bigSep_mono fun k _ => MSlotAny_of

theorem any_join {sp : Space} {n : ℕ} {M : Memref sig .tc sp ⟨3, ![n, 512, 512]⟩ .f32} (K : ℕ → Finset (Idx (M.view.loc (c : Thread nD τ))))
    (hK : ∀ a b, a ≠ b → Disjoint (K a) (K b)) (m : ℕ) :
    bigSep (Finset.Ico 0 (m + 1)) (fun k => iprop(∃ f, Pt (F := F) c M (K k) f)) ⊢ (iprop(∃ f, Pt c M ((Finset.Ico 0 (m + 1)).biUnion K) f)) := by
  induction m with
  | zero =>
    rw [bigSep_Ico_one, show (Finset.Ico 0 (0 + 1)).biUnion K = K 0 by rw [Nat.Ico_succ_singleton, Finset.singleton_biUnion]]
  | succ m ih =>
    rw [bigSep_Ico_succ_top (by omega), show (Finset.Ico 0 (m + 1 + 1)).biUnion K = (Finset.Ico 0 (m + 1)).biUnion K ∪ K (m + 1) by
      rw [Nat.Ico_succ_right_eq_insert_Ico (by omega), Finset.biUnion_insert, Finset.union_comm]]
    have hd : Disjoint ((Finset.Ico 0 (m + 1)).biUnion K) (K (m + 1)) := (Finset.disjoint_biUnion_left _ _ _).mpr fun a ha => hK _ _ (by rw [Finset.mem_Ico] at ha; omega)
    iintro ⟨⟨%g, Hg⟩, H⟩
    ihave H' := ih $$ H
    icases H' with ⟨%f, Hf⟩
    iexists (K (m + 1)).piecewise g f
    iapply (pointsTo_join hd)
    isplitl [Hf]; · iexact Hf
    iexact Hg

theorem buf_join : bigSep (Finset.Ico 0 24) (fun k => SlotAny c k) ⊢ (iprop(∃ f, Pt (F := F) c mBuf Finset.univ f)) := by
  refine (any_join (M := mBuf) SB (fun a b h => slot_disj h) 23).trans ?_
  rw [show (Finset.Ico 0 (23 + 1)).biUnion SB = Finset.univ from slot_cover.symm]

theorem mir_join : bigSep (Finset.Ico 0 12) (fun k => MSlotAny c k) ⊢ (iprop(∃ f, Pt (F := F) c mMir Finset.univ f)) := by
  refine (any_join (M := mMir) SM (fun a b h => slot_disj h) 11).trans ?_
  rw [show (Finset.Ico 0 (11 + 1)).biUnion SM = Finset.univ from slot_cover.symm]

/-! ## The semaphores -/

/-- Every counter at zero. -/
def Sems (c : Dev nD) : sProp (MM F) := bigSep (Finset.Ico 0 67) fun k => Sem0 c (Fin.ofNat 67 k)

theorem sems_split : Sems (F := F) c = iprop((Sem0 c (inS 0) ∗ Sem0 c (inS 1) ∗ Sem0 c (inS 2) ∗ Sem0 c (inS 3)) ∗ bigSep (Finset.Ico 0 24) (fun k => Sem0 c (rdS k))
    ∗ bigSep (Finset.Ico 0 24) (fun k => Sem0 c (wrS k)) ∗ bigSep (Finset.Ico 0 12) (fun k => Sem0 c (mrS k)) ∗ Sem0 c (outS 0) ∗ Sem0 c (outS 1) ∗ Sem0 c (outS 2)) := by
  unfold Sems
  rw [bs_cut (show 0 ≤ 4 by omega) (show 4 ≤ 67 by omega), bs_cut (show 4 ≤ 28 by omega) (show 28 ≤ 67 by omega),
    bs_cut (show 28 ≤ 52 by omega) (show 52 ≤ 67 by omega), bs_cut (show 52 ≤ 64 by omega) (show 64 ≤ 67 by omega)]
  have e1 : bigSep (Finset.Ico 0 4) (fun k => Sem0 (F := F) c (Fin.ofNat 67 k)) = iprop(Sem0 c (inS 0) ∗ Sem0 c (inS 1) ∗ Sem0 c (inS 2) ∗ Sem0 c (inS 3)) := by
    rw [bigSep_Ico_succ_bot (by omega), bigSep_Ico_succ_bot (by omega), bigSep_Ico_succ_bot (by omega), bigSep_Ico_one]; rfl
  have e5 : bigSep (Finset.Ico 64 67) (fun k => Sem0 (F := F) c (Fin.ofNat 67 k)) = iprop(Sem0 c (outS 0) ∗ Sem0 c (outS 1) ∗ Sem0 c (outS 2)) := by
    rw [bigSep_Ico_succ_bot (by omega), bigSep_Ico_succ_bot (by omega), bigSep_Ico_one]; rfl
  have e2 : bigSep (Finset.Ico 4 28) (fun k => Sem0 (F := F) c (Fin.ofNat 67 k)) = bigSep (Finset.Ico 0 24) (fun k => Sem0 c (rdS k)) :=
    bs_shift' _ _ 4 0 24 (by omega) fun t _ => by show Sem0 c (Fin.ofNat 67 (t + 4)) = Sem0 c (Fin.ofNat 67 (4 + t)); rw [Nat.add_comm]
  have e3 : bigSep (Finset.Ico 28 52) (fun k => Sem0 (F := F) c (Fin.ofNat 67 k)) = bigSep (Finset.Ico 0 24) (fun k => Sem0 c (wrS k)) :=
    bs_shift' _ _ 28 0 24 (by omega) fun t _ => by show Sem0 c (Fin.ofNat 67 (t + 28)) = Sem0 c (Fin.ofNat 67 (28 + t)); rw [Nat.add_comm]
  have e4 : bigSep (Finset.Ico 52 64) (fun k => Sem0 (F := F) c (Fin.ofNat 67 k)) = bigSep (Finset.Ico 0 12) (fun k => Sem0 c (mrS k)) :=
    bs_shift' _ _ 52 0 12 (by omega) fun t _ => by show Sem0 c (Fin.ofNat 67 (t + 52)) = Sem0 c (Fin.ofNat 67 (52 + t)); rw [Nat.add_comm]
  rw [e1, e2, e3, e4, e5]

/-! ## Free slots -/

theorem free_eq (s : Finset ℕ) : bigSep s (fun k => Free (F := F) c k) = iprop(bigSep s (fun k => SlotAny c k) ∗ bigSep s (fun k => Sem0 c (rdS k)) ∗ bigSep s (fun k => Sem0 c (wrS k))) := by
  exact (bigSep_sep s (fun k => SlotAny (F := F) c k) (fun k => iprop(Sem0 c (rdS k) ∗ Sem0 c (wrS k)))).trans
    (congrArg (fun X => iprop(bigSep s (fun k => SlotAny (F := F) c k) ∗ X)) (bigSep_sep s (fun k => Sem0 (F := F) c (rdS k)) (fun k => Sem0 c (wrS k))))
theorem mfree_eq (s : Finset ℕ) : bigSep s (fun k => MFree (F := F) c k) = iprop(bigSep s (fun k => MSlotAny c k) ∗ bigSep s (fun k => Sem0 c (mrS k))) := by
  exact bigSep_sep s (fun k => MSlotAny (F := F) c k) (fun k => Sem0 c (mrS k))

section Start
variable {xt : S3072x256.Idx → Elt F .bf16} {cxs : ℕ → S256x3072.Idx → Elt F .bf16} {mus : ℕ → S2x512.Idx → Elt F .f32} {h0 G : S6x3072x3072.Idx → Elt F .f32}

/-- Before the first read. -/
theorem ps_start : iprop(bigSep (Finset.Ico 0 12) (hinB c h0) ∗ bigSep (Finset.Ico 0 12) (Free c)) ⊢ PS c h0 0 := by
  unfold PS
  rw [show bigSep (Finset.Ico 12 (12 + 0)) (RI c h0) = iprop(emp) from bs_emp fun i hi => absurd (Finset.mem_Ico.mp hi) (by omega)]
  iintro H
  isplitr
  · iempintro
  iexact H

/-- With twelve reads started. -/
theorem ps_end : PS c h0 12 ⊢ bigSep (Finset.Ico 12 24) (RI c h0) := by
  unfold PS
  rw [show bigSep (Finset.Ico 12 12) (hinB c h0) = iprop(emp) from bs_emp fun i hi => absurd (Finset.mem_Ico.mp hi) (by omega),
    show bigSep (Finset.Ico 12 12) (Free (F := F) c) = iprop(emp) from bs_emp fun i hi => absurd (Finset.mem_Ico.mp hi) (by omega)]
  iintro ⟨H, -, -⟩
  iexact H

/-- The twelve slots not yet in use. -/
theorem w_start : bigSep (Finset.Ico 12 24) (Free (F := F) c) = iprop(CI c xt cxs mus h0 11 ∗ bigSep (Finset.Ico 0 11) (WI c G)) := by
  rw [show bigSep (Finset.Ico 12 24) (Free (F := F) c) = bigSep (Finset.Ico 0 12) (WI c G) from
    bs_shift' _ _ 12 0 12 (by omega) fun t ht => by
      rw [Finset.mem_Ico] at ht
      unfold WI
      rw [if_neg (by omega), Nat.mod_eq_of_lt (show t + 12 < 24 by omega)], bigSep_Ico_succ_top (show 0 ≤ 11 by omega)]
  rfl

theorem m_start : bigSep (Finset.Ico 0 12) (MFree (F := F) c) = iprop(MCI c xt cxs mus h0 11 ∗ bigSep (Finset.Ico 0 11) (MWI c G)) := by
  rw [show bigSep (Finset.Ico 0 12) (MFree (F := F) c) = bigSep (Finset.Ico 0 12) (MWI c G) from bigSep_congr fun t ht => by
      rw [Finset.mem_Ico] at ht
      unfold MWI
      rw [if_neg (by omega), Nat.mod_eq_of_lt (show t < 12 by omega)], bigSep_Ico_succ_top (show 0 ≤ 11 by omega)]
  rfl

/-- The blocks still to be read. -/
theorem hin_start : bigSep (Finset.Ico 12 126) (hinB c h0) = bigSep (Finset.Ico 12 138) (HIN c h0) := by
  rw [bs_cut (show 12 ≤ 126 by omega) (show 126 ≤ 138 by omega),
    show bigSep (Finset.Ico 126 138) (HIN c h0) = iprop(emp) from bs_emp fun i hi => if_neg (by have := (Finset.mem_Ico.mp hi).1; omega),
    bigSep_congr (Φ := HIN c h0) (Ψ := hinB c h0) fun t ht => if_pos (Finset.mem_Ico.mp ht).2]
  exact (BI.equiv_iff.mp BI.sep_emp).symm

/-- The blocks written. -/
theorem hob_end : iprop(bigSep (Finset.Ico 0 126) (HOB c G) ∗ bigSep (Finset.Ico 126 138) (HOB c G)) = bigSep (Finset.Ico 11 138) (HOB c G) := by
  rw [← bs_cut (show 0 ≤ 126 by omega) (show 126 ≤ 138 by omega), bs_cut (show 0 ≤ 11 by omega) (show 11 ≤ 138 by omega),
    show bigSep (Finset.Ico 0 11) (HOB c G) = iprop(emp) from bs_emp fun i hi => if_neg (by have := (Finset.mem_Ico.mp hi).2; omega)]
  exact BI.equiv_iff.mp BI.emp_sep
theorem hom_end : iprop(bigSep (Finset.Ico 0 126) (HOM c G) ∗ bigSep (Finset.Ico 126 138) (HOM c G)) = bigSep (Finset.Ico 11 138) (HOM c G) := by
  rw [← bs_cut (show 0 ≤ 126 by omega) (show 126 ≤ 138 by omega), bs_cut (show 0 ≤ 11 by omega) (show 11 ≤ 138 by omega),
    show bigSep (Finset.Ico 0 11) (HOM c G) = iprop(emp) from bs_emp fun i hi => if_neg (by have := (Finset.mem_Ico.mp hi).2; omega)]
  exact BI.equiv_iff.mp BI.emp_sep

/-- Every slot free again. -/
theorem free_end : iprop(bigSep (Finset.Ico 126 138) (fun T => Free (F := F) c ((T + 12) % 24)) ∗ bigSep (Finset.Ico 138 150) (RI c h0)) = bigSep (Finset.Ico 0 24) (Free c) := by
  rw [show bigSep (Finset.Ico 138 150) (RI c h0) = bigSep (Finset.Ico 138 150) (fun T => Free c ((T + 12) % 24)) from
      bigSep_congr fun T hT => if_neg (by have := (Finset.mem_Ico.mp hT).1; omega),
    ← bs_cut (show 126 ≤ 138 by omega) (show 138 ≤ 150 by omega), bs_cut (show 126 ≤ 132 by omega) (show 132 ≤ 150 by omega),
    show bigSep (Finset.Ico 126 132) (fun T => Free (F := F) c ((T + 12) % 24)) = bigSep (Finset.Ico 18 24) (Free c) from bs_shift' _ _ 108 18 24 (by omega) fun t ht => by
      rw [Finset.mem_Ico] at ht; exact congrArg (Free c) (by omega),
    show bigSep (Finset.Ico 132 150) (fun T => Free (F := F) c ((T + 12) % 24)) = bigSep (Finset.Ico 0 18) (Free c) from bs_shift' _ _ 132 0 18 (by omega) fun t ht => by
      rw [Finset.mem_Ico] at ht; exact congrArg (Free c) (by omega),
    bs_cut (show 0 ≤ 18 by omega) (show 18 ≤ 24 by omega)]
  exact BI.equiv_iff.mp ⟨BI.sep_comm, BI.sep_comm⟩

theorem mfree_end : bigSep (Finset.Ico 126 138) (fun T => MFree (F := F) c (T % 12)) = bigSep (Finset.Ico 0 12) (MFree c) := by
  rw [bs_cut (show 126 ≤ 132 by omega) (show 132 ≤ 138 by omega),
    show bigSep (Finset.Ico 126 132) (fun T => MFree (F := F) c (T % 12)) = bigSep (Finset.Ico 6 12) (MFree c) from bs_shift' _ _ 120 6 12 (by omega) fun t ht => by
      rw [Finset.mem_Ico] at ht; exact congrArg (MFree c) (by omega),
    show bigSep (Finset.Ico 132 138) (fun T => MFree (F := F) c (T % 12)) = bigSep (Finset.Ico 0 6) (MFree c) from bs_shift' _ _ 132 0 6 (by omega) fun t ht => by
      rw [Finset.mem_Ico] at ht; exact congrArg (MFree c) (by omega),
    bs_cut (show 0 ≤ 6 by omega) (show 6 ≤ 12 by omega)]
  exact BI.equiv_iff.mp ⟨BI.sep_comm, BI.sep_comm⟩

end Start

end Cert.KernelIdeal.Hand

end
-- ==== Proof.KernelIdeal.Whole.lean ====
module

public import proofs.«01_k».proof.Proof.KernelIdeal.Split
public import Idealize.SL.BI.BigOpNat

/-! The whole body, from its inputs to its four results -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

variable {c : Dev nD} (x : S256x3072.Idx → Elt F .bf16) (rt : S8x128.Idx → Elt F .i32) (off : S7.Idx → Elt F .i32) (cn : S6.Idx → Elt F .i32) (h0 f0 : S6x3072x3072.Idx → Elt F .f32)
  (d6 : S6.Idx → Elt F .i32) (d7 : S256x3072.Idx → Elt F .fp8e4m3) (d8 : S1x256.Idx → Elt F .f32)

/-- What the running sums hold at the end. -/
abbrev hOut : S6x3072x3072.Idx → Elt F .f32 := gOf (xdtOf (xdOf x)) (cxOf rt off (xdOf x)) (muOf cn (coOf cn off)) h0

/-- A buffer at some contents. -/
abbrev Any (c : Dev nD) {sp : Space} {s : Shape} {e : EltTy} (M : Memref sig .tc sp s e) : sProp (MM F) := iprop(∃ f, Pt c M Finset.univ f)

/-- The core's own buffers, in the order the launch gives them. -/
def Scr (c : Dev nD) : sProp (MM F) := iprop(Any c mXv ∗ Any c mRtv ∗ Any c mCodesv ∗ Any c mScb ∗ Any c mScv ∗ Any c mXd ∗ Any c mXdt ∗ Any c mCxd ∗ Any c mMul ∗ Any c mBuf ∗ Any c mMir ∗ Any c mOffs ∗ Any c mCnts ∗ Any c mCos)

/-- The five inputs and the four results. -/
def Arr (c : Dev nD) (x : S256x3072.Idx → Elt F .bf16) (rt : S8x128.Idx → Elt F .i32) (off : S7.Idx → Elt F .i32) (cn : S6.Idx → Elt F .i32) (h0 f : S6x3072x3072.Idx → Elt F .f32)
    (d6 : S6.Idx → Elt F .i32) (d7 : S256x3072.Idx → Elt F .fp8e4m3) (d8 : S1x256.Idx → Elt F .f32) : sProp (MM F) :=
  iprop(Pt c mX Finset.univ x ∗ Pt c mRt Finset.univ rt ∗ Pt c mOff Finset.univ off ∗ Pt c mIn Finset.univ h0 ∗ Pt c mCnt Finset.univ cn
    ∗ Pt c mHo Finset.univ f ∗ Pt c mCo Finset.univ d6 ∗ Pt c mCodes Finset.univ d7 ∗ Pt c mSc Finset.univ d8)

/-- The three small results' places and counters. -/
def OD (c : Dev nD) (d6 : S6.Idx → Elt F .i32) (d7 : S256x3072.Idx → Elt F .fp8e4m3) (d8 : S1x256.Idx → Elt F .f32) : sProp (MM F) :=
  iprop((Pt c mCodes Finset.univ d7 ∗ Sem0 c (outS 0)) ∗ (Pt c mSc Finset.univ d8 ∗ Sem0 c (outS 1)) ∗ (Pt c mCo Finset.univ d6 ∗ Sem0 c (outS 2)))

/-- What the loop takes that nothing before it touches. -/
def LD (c : Dev nD) (x : S256x3072.Idx → Elt F .bf16) (rt : S8x128.Idx → Elt F .i32) (off : S7.Idx → Elt F .i32) (cn : S6.Idx → Elt F .i32) (h0 f0 : S6x3072x3072.Idx → Elt F .f32) : sProp (MM F) :=
  iprop(Any c mCxd ∗ Any c mMul ∗ CI c (xdtOf (xdOf x)) (cxOf rt off (xdOf x)) (muOf cn (coOf cn off)) h0 11 ∗ MCI c (xdtOf (xdOf x)) (cxOf rt off (xdOf x)) (muOf cn (coOf cn off)) h0 11
    ∗ bigSep (Finset.Ico 0 11) (WI c (hOut x rt off cn h0)) ∗ bigSep (Finset.Ico 0 11) (MWI c (hOut x rt off cn h0)) ∗ bigSep (Finset.Ico 12 138) (HIN c h0)
    ∗ bigSep (Finset.Ico 11 138) (HOB c f0) ∗ bigSep (Finset.Ico 11 138) (HOM c f0))

variable {x rt off cn h0 f0 d6 d7 d8}

theorem add_emp {P E : sProp (MM F)} (h : E = iprop(emp)) : P ⊢ iprop(E ∗ P) := by
  rw [h]; exact BI.emp_sep.2

/-- What is there at the start, apportioned. -/
theorem start_ent : iprop(Arr c x rt off cn h0 f0 d6 d7 d8 ∗ Scr c ∗ Sems c ∗ OW c)
    ⊢ iprop((At0 c mX mXv x 0 ∗ At0 c mOff mOffs off 2 ∗ At0 c mCnt mCnts cn 3 ∗ At0 c mRt mRtv rt 1 ∗ PS c h0 0)
      ∗ OW c ∗ QR c x ∗ Any c mCos ∗ OD c d6 d7 d8 ∗ LD c x rt off cn h0 f0 ∗ Pt c mIn (Finset.univ \ AIn) h0) := by
  unfold Arr Scr OD LD QR TR
  rw [sems_split]
  iintro ⟨⟨Hx, Hrt, Hoff, Hin, Hcn, Hho, Hco, Hcd, Hsc⟩, ⟨Hxv, Hrtv, Hcdv, Hscb, Hscv, Hxd, Hxdt, Hcxd, Hmul, ⟨%fb, Hbuf⟩, ⟨%fm, Hmir⟩, Hoffs, Hcnts, Hcos⟩, ⟨⟨Hi0, Hi1, Hi2, Hi3⟩, Hrd, Hwr, Hmr, Ho0, Ho1, Ho2⟩, Hw⟩
  ihave Hs := buf_cut $$ Hbuf
  ihave Hm := mir_cut $$ Hmir
  ihave Hf := (Entails.of_eq (free_eq (Finset.Ico 0 24)).symm) $$ [Hs Hrd Hwr]
  · isplitl [Hs]; · iexact Hs
    isplitl [Hrd]; · iexact Hrd
    iexact Hwr
  ihave Hmf := (Entails.of_eq (mfree_eq (Finset.Ico 0 12)).symm) $$ [Hm Hmr]
  · isplitl [Hm]; · iexact Hm
    iexact Hmr
  ihave Hf2 := (Entails.of_eq (bs_cut (show 0 ≤ 12 by omega) (show 12 ≤ 24 by omega) (Free c))) $$ Hf
  icases Hf2 with ⟨Hfa, Hfb⟩
  ihave Hci := (Entails.of_eq (w_start (xt := xdtOf (xdOf x)) (cxs := cxOf rt off (xdOf x)) (mus := muOf cn (coOf cn off)) (h0 := h0) (G := hOut x rt off cn h0))) $$ Hfb
  icases Hci with ⟨Hc, Hwi⟩
  ihave Hmi := (Entails.of_eq (m_start (xt := xdtOf (xdOf x)) (cxs := cxOf rt off (xdOf x)) (mus := muOf cn (coOf cn off)) (h0 := h0) (G := hOut x rt off cn h0))) $$ Hmf
  icases Hmi with ⟨Hmc, Hmwi⟩
  ihave Hin2 := in_split.1 $$ Hin
  icases Hin2 with ⟨Hia, Hir⟩
  ihave Hia2 := (Entails.of_eq (bs_cut (show 0 ≤ 12 by omega) (show 12 ≤ 126 by omega) (hinB c h0))) $$ Hia
  icases Hia2 with ⟨Hib, Hic⟩
  ihave Hhin := (Entails.of_eq hin_start) $$ Hic
  ihave Hps := ps_start $$ [Hib Hfa]
  · isplitl [Hib]; · iexact Hib
    iexact Hfa
  ihave Hout := out_split.1 $$ Hho
  icases Hout with ⟨Hob, Hom⟩
  ihave Hq1 := (so_none (c := c) (M := mCodesv) (φ := fun y : S256x3072.Idx => (y 0).val < 0) (g := codesOf x) fun y => Nat.not_lt_zero _) $$ Hcdv
  ihave Hq2 := (so_none (c := c) (M := mXd) (φ := fun y : S256x3072.Idx => (y 0).val < 0) (g := xdOf x) fun y => Nat.not_lt_zero _) $$ Hxd
  ihave Hq3 := (so_none (c := c) (M := mScb) (φ := fun y : S256x128.Idx => (y 0).val < 0) (g := scbOf x) fun y => Nat.not_lt_zero _) $$ Hscb
  ihave Hq4 := (so_none (c := c) (M := mScv) (φ := fun y : S1x256.Idx => (y 1).val < 128 * 0) (g := scOf x) fun y => Nat.not_lt_zero _) $$ Hscv
  ihave Hq5 := (so_none (c := c) (M := mXdt) (φ := fun y : S3072x256.Idx => 6 * ((y 1).val / 128) + (y 0).val / 512 < 0) (g := xdtOf (xdOf x)) fun y => Nat.not_lt_zero _) $$ Hxdt
  isplitl [Hx Hxv Hi0 Hoff Hoffs Hi2 Hcn Hcnts Hi3 Hrt Hrtv Hi1 Hps]
  · isplitl [Hx Hxv Hi0]
    · isplitl [Hx]; · iexact Hx
      isplitl [Hxv]; · iexact Hxv
      iexact Hi0
    isplitl [Hoff Hoffs Hi2]
    · isplitl [Hoff]; · iexact Hoff
      isplitl [Hoffs]; · iexact Hoffs
      iexact Hi2
    isplitl [Hcn Hcnts Hi3]
    · isplitl [Hcn]; · iexact Hcn
      isplitl [Hcnts]; · iexact Hcnts
      iexact Hi3
    isplitl [Hrt Hrtv Hi1]
    · isplitl [Hrt]; · iexact Hrt
      isplitl [Hrtv]; · iexact Hrtv
      iexact Hi1
    iexact Hps
  isplitl [Hw]; · iexact Hw
  isplitl [Hq1 Hq2 Hq3 Hq4 Hq5]
  · isplitl [Hq1]; · iexact Hq1
    isplitl [Hq2]; · iexact Hq2
    isplitl [Hq3]; · iexact Hq3
    isplitl [Hq4]; · iexact Hq4
    iexact Hq5
  isplitl [Hcos]; · iexact Hcos
  isplitl [Hcd Ho0 Hsc Ho1 Hco Ho2]
  · isplitl [Hcd Ho0]
    · isplitl [Hcd]; · iexact Hcd
      iexact Ho0
    isplitl [Hsc Ho1]
    · isplitl [Hsc]; · iexact Hsc
      iexact Ho1
    isplitl [Hco]; · iexact Hco
    iexact Ho2
  isplitl [Hcxd Hmul Hc Hmc Hwi Hmwi Hhin Hob Hom]
  · isplitl [Hcxd]; · iexact Hcxd
    isplitl [Hmul]; · iexact Hmul
    isplitl [Hc]; · iexact Hc
    isplitl [Hmc]; · iexact Hmc
    isplitl [Hwi]; · iexact Hwi
    isplitl [Hmwi]; · iexact Hmwi
    isplitl [Hhin]; · iexact Hhin
    isplitl [Hob]; · iexact Hob
    iexact Hom
  iexact Hir

/-- The transposer's scratch beside less. -/
theorem TS_mono {n m : ℕ} {R R' : sProp (MM F)} (h : R ⊢ R') : TS c x n m R ⊢ TS c x n m R' := by
  unfold TS
  iintro ⟨Ha, Hb, Hd, He, Hf, Hg, HR⟩
  ihave HS := h $$ HR
  isplitl [Ha]; · iexact Ha
  isplitl [Hb]; · iexact Hb
  isplitl [Hd]; · iexact Hd
  isplitl [He]; · iexact He
  isplitl [Hf]; · iexact Hf
  isplitl [Hg]; · iexact Hg
  iexact HS

/-- The loop's start. -/
theorem lr_ent : iprop(OW c ∗ PS c h0 12 ∗ Pt c mXdt Finset.univ (xdtOf (xdOf x)) ∗ LD c x rt off cn h0 f0)
    ⊢ LR c rt off cn (coOf cn off) (xdOf x) (xdtOf (xdOf x)) h0 f0 (hOut x rt off cn h0) := by
  unfold LR LD Inv FX CxP
  rw [if_pos (show 0 % 21 = 0 from rfl)]
  iintro ⟨Hw, Hps, Hxt, ⟨%fc, Hcx⟩, ⟨%fm, Hmu⟩, Hc, Hmc, Hwi, Hmwi, Hin, Hob, Hom⟩ ⟨Ha, Hb, Hd, He, Hf⟩
  ihave Hri := ps_end $$ Hps
  ihave Hcxp : iprop(∃ (cx : S256x3072.Idx → Elt F .bf16) (mu : S2x512.Idx → Elt F .f32), Pt c mXdt Finset.univ (xdtOf (xdOf x)) ∗ Pt c mCxd Finset.univ cx ∗ Pt c mMul Finset.univ mu) $$ [Hxt Hcx Hmu]
  · iexists fc, fm
    isplitl [Hxt]; · iexact Hxt
    isplitl [Hcx]; · iexact Hcx
    iexact Hmu
  ihave H1 := (add_emp (show bigSep (Finset.Ico 0 0) (hinB c h0) = iprop(emp) from rfl)) $$ Hw
  icases H1 with ⟨He1, Hw⟩
  ihave H2 := (add_emp (show bigSep (Finset.Ico 0 0) (HOB c (hOut x rt off cn h0)) = iprop(emp) from rfl)) $$ Hw
  icases H2 with ⟨He2, Hw⟩
  ihave H3 := (add_emp (show bigSep (Finset.Ico 0 0) (HOM c (hOut x rt off cn h0)) = iprop(emp) from rfl)) $$ Hw
  icases H3 with ⟨He3, Hw⟩
  isplitl [Ha Hb Hd He Hf]
  · isplitl [Ha]; · iexact Ha
    isplitl [Hb]; · iexact Hb
    isplitl [Hd]; · iexact Hd
    isplitl [He]; · iexact He
    iexact Hf
  isplitl [Hcxp]; · iexact Hcxp
  isplitl [Hc]; · iexact Hc
  isplitl [Hmc]; · iexact Hmc
  isplitl [Hw]; · iexact Hw
  isplitl [Hwi]; · iexact Hwi
  isplitl [Hri]; · iexact Hri
  isplitl [Hmwi]; · iexact Hmwi
  isplitl [Hin]; · iexact Hin
  isplitl [He1]; · iexact He1
  isplitl [Hob]; · iexact Hob
  isplitl [Hom]; · iexact Hom
  isplitl [He2]; · iexact He2
  iexact He3

/-- The inputs' counters and what nobody touches any more, kept to the end. -/
def R4 (c : Dev nD) (x : S256x3072.Idx → Elt F .bf16) (rt : S8x128.Idx → Elt F .i32) (off : S7.Idx → Elt F .i32) (cn : S6.Idx → Elt F .i32) (h0 : S6x3072x3072.Idx → Elt F .f32) : sProp (MM F) :=
  iprop(Pt c mCnt Finset.univ cn ∗ Pt c mRt Finset.univ rt ∗ Pt c mX Finset.univ x ∗ Pt c mOff Finset.univ off ∗ Any c mScb ∗ Any c mXv
    ∗ Sem0 c (inS 0) ∗ Sem0 c (inS 1) ∗ Sem0 c (inS 2) ∗ Sem0 c (inS 3) ∗ Pt c mIn (Finset.univ \ AIn) h0)

/-- What the loop leaves that the epilogue does not touch. -/
def R5 (c : Dev nD) (x : S256x3072.Idx → Elt F .bf16) (rt : S8x128.Idx → Elt F .i32) (off : S7.Idx → Elt F .i32) (cn : S6.Idx → Elt F .i32) (h0 : S6x3072x3072.Idx → Elt F .f32) : sProp (MM F) :=
  iprop(Any c mRtv ∗ Any c mOffs ∗ Any c mCnts ∗ PtH c mCos Finset.univ (coOf cn off) ∗ Any c mXd ∗ Any c mXdt ∗ Any c mCxd ∗ Any c mMul
    ∗ bigSep (Finset.Ico 138 150) (RI c h0) ∗ bigSep (Finset.Ico 0 126) (hinB c h0) ∗ bigSep (Finset.Ico 0 126) (HOB c (hOut x rt off cn h0)) ∗ bigSep (Finset.Ico 0 126) (HOM c (hOut x rt off cn h0)))

theorem any_of {sp : Space} {s : Shape} {e : EltTy} {M : Memref sig .tc sp s e} {f : Buf (Elt F) (M.view.loc (c : Thread nD τ))} : Pt c M Finset.univ f ⊢ Any c M := by
  iintro H; iexists f; iexact H

theorem cxp_any : CxP c (xdtOf (xdOf x)) (cxOf rt off (xdOf x)) (muOf cn (coOf cn off)) 126 ⊢ iprop(Any c mXdt ∗ Any c mCxd ∗ Any c mMul) := by
  unfold CxP
  rw [if_pos (show 126 % 21 = 0 from rfl)]
  iintro ⟨%cx, %mu, Ha, Hb, Hd⟩
  ihave Ha := any_of $$ Ha
  ihave Hb := any_of $$ Hb
  ihave Hd := any_of $$ Hd
  isplitl [Ha]; · iexact Ha
  isplitl [Hb]; · iexact Hb
  iexact Hd

/-- The loop's end. -/
theorem inv_end : Inv c rt off cn (coOf cn off) (xdOf x) (xdtOf (xdOf x)) h0 f0 (hOut x rt off cn h0) 126
    ⊢ iprop((CI c (xdtOf (xdOf x)) (cxOf rt off (xdOf x)) (muOf cn (coOf cn off)) h0 137 ∗ HOB c f0 137 ∗ MCI c (xdtOf (xdOf x)) (cxOf rt off (xdOf x)) (muOf cn (coOf cn off)) h0 137 ∗ HOM c f0 137)
      ∗ (OW c ∗ bigSep (Finset.Ico 126 137) (WI c (hOut x rt off cn h0)) ∗ bigSep (Finset.Ico 126 137) (MWI c (hOut x rt off cn h0))) ∗ R5 c x rt off cn h0) := by
  unfold Inv FX R5
  rw [show bigSep (Finset.Ico (126 + 11) 138) (HOB c f0) = HOB c f0 137 from bigSep_Ico_one 137 _, show bigSep (Finset.Ico (126 + 11) 138) (HOM c f0) = HOM c f0 137 from bigSep_Ico_one 137 _]
  iintro ⟨⟨Ha, Hb, Hd, He, Hf⟩, Hcxp, Hc, Hmc, Hw, Hwi, Hri, Hmwi, -, Hin, Hob, Hom, Hgb, Hgm⟩
  ihave Hcxp := cxp_any $$ Hcxp
  icases Hcxp with ⟨Hg, Hh, Hi⟩
  ihave Ha := any_of $$ Ha
  ihave Hb := any_of $$ Hb
  ihave Hd := any_of $$ Hd
  ihave Hf := any_of $$ Hf
  isplitl [Hc Hob Hmc Hom]
  · isplitl [Hc]; · iexact Hc
    isplitl [Hob]; · iexact Hob
    isplitl [Hmc]; · iexact Hmc
    iexact Hom
  isplitl [Hw Hwi Hmwi]
  · isplitl [Hw]; · iexact Hw
    isplitl [Hwi]; · iexact Hwi
    iexact Hmwi
  isplitl [Ha]; · iexact Ha
  isplitl [Hb]; · iexact Hb
  isplitl [Hd]; · iexact Hd
  isplitl [He]; · iexact He
  isplitl [Hf]; · iexact Hf
  isplitl [Hg]; · iexact Hg
  isplitl [Hh]; · iexact Hh
  isplitl [Hi]; · iexact Hi
  isplitl [Hri]; · iexact Hri
  isplitl [Hin]; · iexact Hin
  isplitl [Hgb]; · iexact Hgb
  iexact Hgm

/-- The epilogue's start. -/
theorem es_start {G : S6x3072x3072.Idx → Elt F .f32} : iprop((WI c G 137 ∗ MWI c G 137) ∗ OW c ∗ bigSep (Finset.Ico 126 137) (WI c G) ∗ bigSep (Finset.Ico 126 137) (MWI c G)) ⊢ ES c G 126 126 := by
  unfold ES
  rw [show bigSep (Finset.Ico 126 138) (WI c G) = _ from bigSep_Ico_succ_top (show 126 ≤ 137 by omega) _, show bigSep (Finset.Ico 126 138) (MWI c G) = _ from bigSep_Ico_succ_top (show 126 ≤ 137 by omega) _]
  iintro ⟨⟨Ha, Hb⟩, Hw, Hd, He⟩
  ihave H1 := (add_emp (show bigSep (Finset.Ico 126 126) (HOB c G) = iprop(emp) from bs_emp fun i hi => absurd (Finset.mem_Ico.mp hi) (by omega))) $$ Hw
  icases H1 with ⟨He1, Hw⟩
  ihave H2 := (add_emp (show bigSep (Finset.Ico 126 126) (fun T => Free (F := F) c ((T + 12) % 24)) = iprop(emp) from bs_emp fun i hi => absurd (Finset.mem_Ico.mp hi) (by omega))) $$ Hw
  icases H2 with ⟨He2, Hw⟩
  ihave H3 := (add_emp (show bigSep (Finset.Ico 126 126) (HOM c G) = iprop(emp) from bs_emp fun i hi => absurd (Finset.mem_Ico.mp hi) (by omega))) $$ Hw
  icases H3 with ⟨He3, Hw⟩
  ihave H4 := (add_emp (show bigSep (Finset.Ico 126 126) (fun T => MFree (F := F) c (T % 12)) = iprop(emp) from bs_emp fun i hi => absurd (Finset.mem_Ico.mp hi) (by omega))) $$ Hw
  icases H4 with ⟨He4, Hw⟩
  isplitl [Hw]; · iexact Hw
  isplitl [Ha Hd]
  · isplitl [Ha]; · iexact Ha
    iexact Hd
  isplitl [He1]; · iexact He1
  isplitl [He2]; · iexact He2
  isplitl [Hb He]
  · isplitl [Hb]; · iexact Hb
    iexact He
  isplitl [He3]; · iexact He3
  iexact He4

/-- What is there at the end, gathered. -/
theorem end_ent : iprop(ES c (hOut x rt off cn h0) 138 138 ∗ R5 c x rt off cn h0 ∗ R4 c x rt off cn h0
      ∗ ((Pt c mCodes Finset.univ (codesOf x) ∗ Pt c mCodesv Finset.univ (codesOf x)) ∗ Sem0 c (outS 0)) ∗ ((Pt c mSc Finset.univ (scOf x) ∗ Pt c mScv Finset.univ (scOf x)) ∗ Sem0 c (outS 1))
      ∗ ((Pt c mCo Finset.univ (coOf cn off) ∗ PtQ c fullShare.right mCos Finset.univ (coOf cn off)) ∗ Sem0 c (outS 2)))
    ⊢ iprop(Arr c x rt off cn h0 (hOut x rt off cn h0) (coOf cn off) (codesOf x) (scOf x) ∗ Scr c ∗ Sems c ∗ OW c) := by
  unfold ES R5 R4 Arr Scr
  rw [sems_split]
  iintro ⟨⟨Hw, -, Hob, Hfr, -, Hom, Hmf⟩, ⟨Hrtv, Hoffs, Hcnts, Hcoh, Hxd, Hxdt, Hcxd, Hmul, Hri, Hia, Hgb, Hgm⟩, ⟨Hcnt, Hrt, Hx, Hoff, Hscb, Hxv, Hi0, Hi1, Hi2, Hi3, Hir⟩, ⟨⟨Hcd, Hcdv⟩, Ho0⟩, ⟨⟨Hsc, Hscv⟩, Ho1⟩, ⟨⟨Hco, Hcor⟩, Ho2⟩⟩
  ihave Hf := (Entails.of_eq free_end) $$ [Hfr Hri]
  · isplitl [Hfr]; · iexact Hfr
    iexact Hri
  ihave Hf := (Entails.of_eq (free_eq (Finset.Ico 0 24))) $$ Hf
  icases Hf with ⟨Hs, Hrd, Hwr⟩
  ihave Hm := (Entails.of_eq mfree_end) $$ Hmf
  ihave Hm := (Entails.of_eq (mfree_eq (Finset.Ico 0 12))) $$ Hm
  icases Hm with ⟨Hm, Hmr⟩
  ihave Hbuf := buf_join $$ Hs
  ihave Hmir := mir_join $$ Hm
  ihave Hin := in_split.2 $$ [Hia Hir]
  · isplitl [Hia]; · iexact Hia
    iexact Hir
  ihave Hhb := (Entails.of_eq hob_end) $$ [Hgb Hob]
  · isplitl [Hgb]; · iexact Hgb
    iexact Hob
  ihave Hhm := (Entails.of_eq hom_end) $$ [Hgm Hom]
  · isplitl [Hgm]; · iexact Hgm
    iexact Hom
  ihave Hho := out_split.2 $$ [Hhb Hhm]
  · isplitl [Hhb]; · iexact Hhb
    iexact Hhm
  ihave Hcos := (pointsTo_share (PosShare.mem_left_op_right fullShare)).2 $$ [Hcoh Hcor]
  · isplitl [Hcoh]; · iexact Hcoh
    iexact Hcor
  ihave Hcos := any_of $$ Hcos
  ihave Hcdv := any_of $$ Hcdv
  ihave Hscv := any_of $$ Hscv
  isplitl [Hx Hrt Hoff Hin Hcnt Hho Hco Hcd Hsc]
  · isplitl [Hx]; · iexact Hx
    isplitl [Hrt]; · iexact Hrt
    isplitl [Hoff]; · iexact Hoff
    isplitl [Hin]; · iexact Hin
    isplitl [Hcnt]; · iexact Hcnt
    isplitl [Hho]; · iexact Hho
    isplitl [Hco]; · iexact Hco
    isplitl [Hcd]; · iexact Hcd
    iexact Hsc
  isplitl [Hxv Hrtv Hcdv Hscb Hscv Hxd Hxdt Hcxd Hmul Hbuf Hmir Hoffs Hcnts Hcos]
  · isplitl [Hxv]; · iexact Hxv
    isplitl [Hrtv]; · iexact Hrtv
    isplitl [Hcdv]; · iexact Hcdv
    isplitl [Hscb]; · iexact Hscb
    isplitl [Hscv]; · iexact Hscv
    isplitl [Hxd]; · iexact Hxd
    isplitl [Hxdt]; · iexact Hxdt
    isplitl [Hcxd]; · iexact Hcxd
    isplitl [Hmul]; · iexact Hmul
    isplitl [Hbuf]; · iexact Hbuf
    isplitl [Hmir]; · iexact Hmir
    isplitl [Hoffs]; · iexact Hoffs
    isplitl [Hcnts]; · iexact Hcnts
    iexact Hcos
  isplitl [Hi0 Hi1 Hi2 Hi3 Hrd Hwr Hmr Ho0 Ho1 Ho2]
  · isplitl [Hi0 Hi1 Hi2 Hi3]
    · isplitl [Hi0]; · iexact Hi0
      isplitl [Hi1]; · iexact Hi1
      isplitl [Hi2]; · iexact Hi2
      iexact Hi3
    isplitl [Hrd]; · iexact Hrd
    isplitl [Hwr]; · iexact Hwr
    isplitl [Hmr]; · iexact Hmr
    isplitl [Ho0]; · iexact Ho0
    isplitl [Ho1]; · iexact Ho1
    iexact Ho2
  iexact Hw

theorem noemp {α : Type} {P Q : sProp (MM F)} {p : Prog (TpuEff nD τ sig (Elt F) Λ₀ .tc) α} (h : Tri c iprop(P ∗ emp) p fun _ => iprop(Q ∗ emp)) : Tri c P p fun _ => Q :=
  tri_conseq h BI.sep_emp.2 fun _ => BI.sep_emp.1

set_option maxHeartbeats 16000000 in
set_option pp.maxSteps 300 in
/-- THE BODY: from the inputs, to the inputs and the four results. -/
theorem body_tri : Tri c iprop(Arr c x rt off cn h0 f0 d6 d7 d8 ∗ Scr c ∗ Sems c ∗ OW c) (cc0_gptq_hessian_update (F := F) (Memref.whole main_arg0) (iw _) (Memref.whole main_v0) (iw _) (Memref.whole main_arg2) (iw _) (Memref.whole main_arg3) (iw _) (Memref.whole main_arg4) (iw _) (Memref.whole main_v1_0) (iw _) (Memref.whole main_v1_1) (iw _) (Memref.whole main_v1_2) (iw _) (Memref.whole main_v1_3) (iw _) (Memref.whole cc0_scratch0) (iw _) (Memref.whole cc0_scratch1) (iw _) (Memref.whole cc0_scratch2) (iw _) (Memref.whole cc0_scratch3) (iw _) (Memref.whole cc0_scratch4) (iw _) (Memref.whole cc0_scratch5) (iw _) (Memref.whole cc0_scratch6) (iw _) (Memref.whole cc0_scratch7) (iw _) (Memref.whole cc0_scratch8) (iw _) (Memref.whole cc0_scratch9) (iw _) (Memref.whole cc0_scratch10) (iw _) (Memref.whole cc0_scratch11) (iw _) (Memref.whole cc0_scratch12) (iw _) (Memref.whole cc0_scratch13) (iw _) cc0_scratch14 cc0_scratch15 cc0_scratch16 cc0_scratch17 cc0_scratch18)
    fun _ => iprop(Arr c x rt off cn h0 (hOut x rt off cn h0) (coOf cn off) (codesOf x) (scOf x) ∗ Scr c ∗ Sems c ∗ OW c) := by
  rw [cc0_gptq_hessian_update_eq_skeleton]
  unfold cc0_gptq_hessian_update_skel
  refine tri_skip ?_ start_ent
  refine tri_seq part60_tri ?_
  rintro ⟨a0, a1⟩
  refine tri_skip (tri_seq (noemp (part61_tri (h0 := h0) a0 a1)) (R := iprop(InF c mX mXv x x 0 ∗ OW c ∗ QR c x ∗ (InF c mOff mOffs off off 2 ∗ InF c mCnt mCnts cn cn 3 ∗ InF c mRt mRtv rt rt 1 ∗ Any c mCos ∗ OD c d6 d7 d8 ∗ LD c x rt off cn h0 f0 ∗ Pt c mIn (Finset.univ \ AIn) h0))) ?_) (by
    iintro ⟨⟨HP, Ha, Hb, Hd, He⟩, Hw, Hq, Ho, Hp, Hl, Hi⟩
    isplitl [HP]; · iexact HP
    isplitl [Ha]; · iexact Ha
    isplitl [Hw]; · iexact Hw
    isplitl [Hq]; · iexact Hq
    isplitl [Hb]; · iexact Hb
    isplitl [Hd]; · iexact Hd
    isplitl [He]; · iexact He
    isplitl [Ho]; · iexact Ho
    isplitl [Hp]; · iexact Hp
    isplitl [Hl]; · iexact Hl
    iexact Hi)
  rintro ⟨a0, a1, a2⟩
  refine tri_seq (noemp (part62_tri a0 a1 a2)) ?_
  intro a0
  refine tri_seq (noemp (part63_tri a0)) ?_
  intro a0
  refine tri_seq0 (part64_tri a0) fun r => tri_fact fun h => ?_
  subst h
  refine tri_seq0 part65_tri fun r => tri_fact fun h => ?_
  subst h
  refine tri_seq0 part66_tri fun r => tri_fact fun h => ?_
  subst h
  refine tri_seq0 part67_tri fun r => tri_fact fun h => ?_
  subst h
  refine tri_seq0 part68_tri fun r => tri_fact fun h => ?_
  subst h
  refine tri_seq0 part69_tri fun r => tri_fact fun h => ?_
  subst h
  refine tri_seq0 part70_tri fun r => tri_fact fun h => ?_
  subst h
  refine tri_seq0 part71_tri fun r => tri_fact fun h => ?_
  subst h
  refine tri_seq0 part72_tri fun r => tri_fact fun h => ?_
  subst h
  refine tri_seq0 part73_tri fun r => tri_fact fun h => ?_
  subst h
  refine tri_seq0 part74_tri fun _ => ?_
  refine tri_seq0 part75_tri fun r => tri_fact fun h => ?_
  subst h
  refine tri_seq0 part76_tri fun r => tri_fact fun h => ?_
  obtain ⟨w, rfl⟩ := h
  refine tri_seq0 (part77_tri w) fun r => tri_fact fun h => ?_
  subst h
  refine tri_skip (tri_seq0 part78_tri fun _ => ?_) (TS_mono (R' := iprop(InF c mOff mOffs off off 2 ∗ OW c ∗ (PS c h0 12 ∗ Pt c mX Finset.univ x ∗ Sem0 c (inS 0) ∗ InF c mCnt mCnts cn cn 3 ∗ InF c mRt mRtv rt rt 1 ∗ Any c mCos ∗ OD c d6 d7 d8 ∗ LD c x rt off cn h0 f0 ∗ Pt c mIn (Finset.univ \ AIn) h0))) (by
    iintro ⟨HP, Hx, Hs, Hw, Ha, Hb, Hd, Ho, Hp, Hl, Hi⟩
    isplitl [Ha]; · iexact Ha
    isplitl [Hw]; · iexact Hw
    isplitl [HP]; · iexact HP
    isplitl [Hx]; · iexact Hx
    isplitl [Hs]; · iexact Hs
    isplitl [Hb]; · iexact Hb
    isplitl [Hd]; · iexact Hd
    isplitl [Ho]; · iexact Ho
    isplitl [Hp]; · iexact Hp
    isplitl [Hl]; · iexact Hl
    iexact Hi))
  refine tri_skip (tri_seq0 (part79_tri (cn := cn) (off := off) (rt := rt) (R := iprop(PS c h0 12 ∗ Pt c mX Finset.univ x ∗ Sem0 c (inS 0) ∗ OD c d6 d7 d8 ∗ LD c x rt off cn h0 f0 ∗ Pt c mIn (Finset.univ \ AIn) h0 ∗ Pt c mOff Finset.univ off ∗ Sem0 c (inS 2)
      ∗ Pt c mXd Finset.univ (xdOf x) ∗ Pt c mScb Finset.univ (scbOf x) ∗ Pt c mScv Finset.univ (scOf x) ∗ Pt c mXdt Finset.univ (xdtOf (xdOf x)) ∗ Pt c mXv Finset.univ x ∗ Pt c mCodesv Finset.univ (codesOf x)))) fun r => tri_fact fun h => ?_) (by
    unfold TS
    iintro ⟨Hxd, Hscb, Hscv, Hxdt, Hxv, Hcdv, Hoffs, Hoff, Hs2, Hw, HP, Hx, Hs0, Hb, Hd, Ho, Hp, Hl, Hi⟩
    ihave Hscv := (so_all (c := c) fun y => by have h : (y 1).val < 256 := (y 1).isLt; show (y 1).val < 128 * 2; omega) $$ Hscv
    ihave Hxdt := (so_all (c := c) fun y => by have h : (y 1).val < 256 := (y 1).isLt; have h' : (y 0).val < 3072 := (y 0).isLt; show 6 * ((y 1).val / 128) + (y 0).val / 512 < 12; omega) $$ Hxdt
    isplitl [Hb]; · iexact Hb
    isplitl [Hw]; · iexact Hw
    isplitl [Hd]; · iexact Hd
    isplitl [Hoffs]; · iexact Hoffs
    isplitl [Ho]; · iexact Ho
    isplitl [HP]; · iexact HP
    isplitl [Hx]; · iexact Hx
    isplitl [Hs0]; · iexact Hs0
    isplitl [Hp]; · iexact Hp
    isplitl [Hl]; · iexact Hl
    isplitl [Hi]; · iexact Hi
    isplitl [Hoff]; · iexact Hoff
    isplitl [Hs2]; · iexact Hs2
    isplitl [Hxd]; · iexact Hxd
    isplitl [Hscb]; · iexact Hscb
    isplitl [Hscv]; · iexact Hscv
    isplitl [Hxdt]; · iexact Hxdt
    isplitl [Hxv]; · iexact Hxv
    iexact Hcdv)
  subst h
  refine tri_skip (tri_seq0 (part80_tri (holds_gOf _ _ _ h0) (f0 := f0) (d6 := d6) (d7 := d7) (d8 := d8) (cod := codesOf x) (sc := scOf x) (R := R4 c x rt off cn h0)) fun r => ?_) (by
    unfold CoS ON OD R4
    iintro ⟨Ha, Hb, Hd, Hrtv, Hcnt, Hrt, Hs3, Hs1, Hw, HP, Hx, Hs0, ⟨⟨Hd7, Ho0⟩, ⟨Hd8, Ho1⟩, Hd6, Ho2⟩, Hl, Hi, Hoff, Hs2, Hxd, Hscb, Hscv, Hxdt, Hxv, Hcdv⟩
    ihave HL := lr_ent $$ [Hw HP Hxdt Hl]
    · isplitl [Hw]; · iexact Hw
      isplitl [HP]; · iexact HP
      isplitl [Hxdt]; · iexact Hxdt
      iexact Hl
    ihave Hscb := any_of $$ Hscb
    ihave Hxv := any_of $$ Hxv
    isplitl [Ha]; · iexact Ha
    isplitl [Hb]; · iexact Hb
    isplitl [Hd]; · iexact Hd
    isplitl [Hrtv]; · iexact Hrtv
    isplitl [Hxd]; · iexact Hxd
    isplitl [Hcdv Hd7 Ho0 Hscv Hd8 Ho1 Hd6 Ho2]
    · isplitl [Hcdv Hd7 Ho0]
      · isplitl [Hcdv]; · iexact Hcdv
        isplitl [Hd7]; · iexact Hd7
        iexact Ho0
      isplitl [Hscv Hd8 Ho1]
      · isplitl [Hscv]; · iexact Hscv
        isplitl [Hd8]; · iexact Hd8
        iexact Ho1
      isplitl [Hd6]; · iexact Hd6
      iexact Ho2
    isplitl [HL]; · iexact HL
    isplitl [Hcnt]; · iexact Hcnt
    isplitl [Hrt]; · iexact Hrt
    isplitl [Hx]; · iexact Hx
    isplitl [Hoff]; · iexact Hoff
    isplitl [Hscb]; · iexact Hscb
    isplitl [Hxv]; · iexact Hxv
    isplitl [Hs0]; · iexact Hs0
    isplitl [Hs1]; · iexact Hs1
    isplitl [Hs2]; · iexact Hs2
    isplitl [Hs3]; · iexact Hs3
    iexact Hi)
  rcases r with ⟨a0, a1⟩
  refine tri_skip (tri_seq (part81_tri (holds_gOf _ _ _ h0) a0 a1) (R := iprop((OW c ∗ bigSep (Finset.Ico 126 137) (WI c (hOut x rt off cn h0)) ∗ bigSep (Finset.Ico 126 137) (MWI c (hOut x rt off cn h0))) ∗ R5 c x rt off cn h0 ∗ OF c (codesOf x) (scOf x) (coOf cn off) ∗ R4 c x rt off cn h0)) fun r => ?_) (by
    iintro ⟨HI, HO, HR⟩
    ihave HI := inv_end $$ HI
    icases HI with ⟨Ha, Hb, Hd⟩
    isplitl [Ha]; · iexact Ha
    isplitl [Hb]; · iexact Hb
    isplitl [Hd]; · iexact Hd
    isplitl [HO]; · iexact HO
    iexact HR)
  rcases r with ⟨a0, a1, a2⟩
  refine tri_skip (B := iprop(ES c (hOut x rt off cn h0) 126 126 ∗ (R5 c x rt off cn h0 ∗ OF c (codesOf x) (scOf x) (coOf cn off) ∗ R4 c x rt off cn h0))) ?_ (by
    iintro ⟨Ha, Hb, Hd⟩
    ihave He := es_start $$ [Ha Hb]
    · isplitl [Ha]; · iexact Ha
      iexact Hb
    isplitl [He]; · iexact He
    iexact Hd)
  refine tri_seq (part82_tri a0 a1 a2) fun r => ?_
  rcases r with ⟨a0, a1, a2⟩
  refine tri_seq (part83_tri a0 a1 a2) fun r => ?_
  rcases r with ⟨a0, a1⟩
  refine tri_seq (part84_tri a0 a1) fun r => ?_
  rcases r with ⟨a0, a1⟩
  refine tri_seq (part85_tri a0 a1) fun r => ?_
  revert r; intro a0
  refine tri_seq (part86_tri a0) fun r => ?_
  revert r; intro a0
  refine tri_seq (part87_tri a0) fun r => ?_
  rcases r with ⟨a0, a1⟩
  refine tri_seq (part88_tri a0 a1) fun r => ?_
  refine tri_seq (part89_tri) fun r => ?_
  refine tri_seq (part90_tri) fun r => ?_
  refine tri_seq (part91_tri) fun r => ?_
  refine tri_seq (part92_tri) fun r => ?_
  refine tri_seq (part93_tri) fun r => ?_
  rcases r with ⟨a0, a1, a2⟩
  refine tri_seq (part94_tri a0 a1 a2) fun r => ?_
  rcases r with ⟨a0, a1⟩
  refine tri_seq (part95_tri a0 a1) fun r => ?_
  rcases r with ⟨a0, a1, a2⟩
  refine tri_seq (part96_tri a0 a1 a2) fun r => ?_
  unfold OF
  refine tri_skip (tri_seq (tri_waitS (sem_out (k := 0) rfl) rfl (D := iprop(Pt c mCodes Finset.univ (codesOf x) ∗ Pt c mCodesv Finset.univ (codesOf x)))) (R := iprop((bigSep (Finset.Ico 138 138) (WI c (hOut x rt off cn h0)) ∗ bigSep (Finset.Ico 126 138) (HOB c (hOut x rt off cn h0)) ∗ bigSep (Finset.Ico 126 138) (fun T => Free c ((T + 12) % 24))
    ∗ bigSep (Finset.Ico 138 138) (MWI c (hOut x rt off cn h0)) ∗ bigSep (Finset.Ico 126 138) (HOM c (hOut x rt off cn h0)) ∗ bigSep (Finset.Ico 126 138) (fun T => MFree c (T % 12))) ∗ R5 c x rt off cn h0 ∗ R4 c x rt off cn h0
    ∗ Fly c (outS 1) mSc.view.dmaCredit iprop(Pt c mSc Finset.univ (scOf x) ∗ Pt c mScv Finset.univ (scOf x)) ∗ Fly c (outS 2) mCo.view.dmaCredit iprop(Pt c mCo Finset.univ (coOf cn off) ∗ PtQ c fullShare.right mCos Finset.univ (coOf cn off)))) fun _ => ?_) (by
    unfold ES
    iintro ⟨⟨Hw, Ha, Hb, Hd, He, Hf, Hg⟩, Hp, ⟨Hx, Hy, Hz⟩, Hq⟩
    isplitl [Hx Hw]
    · isplitl [Hx]; · iexact Hx
      iexact Hw
    isplitl [Ha Hb Hd He Hf Hg]
    · isplitl [Ha]; · iexact Ha
      isplitl [Hb]; · iexact Hb
      isplitl [Hd]; · iexact Hd
      isplitl [He]; · iexact He
      isplitl [Hf]; · iexact Hf
      iexact Hg
    isplitl [Hp]; · iexact Hp
    isplitl [Hq]; · iexact Hq
    isplitl [Hy]; · iexact Hy
    iexact Hz)
  refine tri_skip (tri_seq (tri_waitS (sem_out (k := 1) rfl) rfl (D := iprop(Pt c mSc Finset.univ (scOf x) ∗ Pt c mScv Finset.univ (scOf x)))) (R := iprop(((Pt c mCodes Finset.univ (codesOf x) ∗ Pt c mCodesv Finset.univ (codesOf x)) ∗ Sem0 c (outS 0)) ∗ (bigSep (Finset.Ico 138 138) (WI c (hOut x rt off cn h0)) ∗ bigSep (Finset.Ico 126 138) (HOB c (hOut x rt off cn h0)) ∗ bigSep (Finset.Ico 126 138) (fun T => Free c ((T + 12) % 24))
    ∗ bigSep (Finset.Ico 138 138) (MWI c (hOut x rt off cn h0)) ∗ bigSep (Finset.Ico 126 138) (HOM c (hOut x rt off cn h0)) ∗ bigSep (Finset.Ico 126 138) (fun T => MFree c (T % 12))) ∗ R5 c x rt off cn h0 ∗ R4 c x rt off cn h0
    ∗ Fly c (outS 2) mCo.view.dmaCredit iprop(Pt c mCo Finset.univ (coOf cn off) ∗ PtQ c fullShare.right mCos Finset.univ (coOf cn off)))) fun _ => ?_) (by
    iintro ⟨⟨Hx, Hs, Hw⟩, Ha, Hp, Hq, Hy, Hz⟩
    isplitl [Hy Hw]
    · isplitl [Hy]; · iexact Hy
      iexact Hw
    isplitl [Hx Hs]
    · isplitl [Hx]; · iexact Hx
      iexact Hs
    isplitl [Ha]; · iexact Ha
    isplitl [Hp]; · iexact Hp
    isplitl [Hq]; · iexact Hq
    iexact Hz)
  refine tri_skip (tri_seq (tri_waitS (sem_out (k := 2) rfl) rfl (D := iprop(Pt c mCo Finset.univ (coOf cn off) ∗ PtQ c fullShare.right mCos Finset.univ (coOf cn off)))) (R := iprop(((Pt c mSc Finset.univ (scOf x) ∗ Pt c mScv Finset.univ (scOf x)) ∗ Sem0 c (outS 1)) ∗ ((Pt c mCodes Finset.univ (codesOf x) ∗ Pt c mCodesv Finset.univ (codesOf x)) ∗ Sem0 c (outS 0)) ∗ (bigSep (Finset.Ico 138 138) (WI c (hOut x rt off cn h0)) ∗ bigSep (Finset.Ico 126 138) (HOB c (hOut x rt off cn h0)) ∗ bigSep (Finset.Ico 126 138) (fun T => Free c ((T + 12) % 24))
    ∗ bigSep (Finset.Ico 138 138) (MWI c (hOut x rt off cn h0)) ∗ bigSep (Finset.Ico 126 138) (HOM c (hOut x rt off cn h0)) ∗ bigSep (Finset.Ico 126 138) (fun T => MFree c (T % 12))) ∗ R5 c x rt off cn h0 ∗ R4 c x rt off cn h0)) fun _ => ?_) (by
    iintro ⟨⟨Hy, Hs, Hw⟩, Hx, Ha, Hp, Hq, Hz⟩
    isplitl [Hz Hw]
    · isplitl [Hz]; · iexact Hz
      iexact Hw
    isplitl [Hy Hs]
    · isplitl [Hy]; · iexact Hy
      iexact Hs
    isplitl [Hx]; · iexact Hx
    isplitl [Ha]; · iexact Ha
    isplitl [Hp]; · iexact Hp
    iexact Hq)
  refine tri_pure (BIBase.Entails.trans ?_ end_ent)
  unfold ES
  iintro ⟨⟨Hz, Hs, Hw⟩, Hy, Hx, ⟨Ha, Hb, Hd, He, Hf, Hg⟩, Hp, Hq⟩
  isplitl [Hw Ha Hb Hd He Hf Hg]
  · isplitl [Hw]; · iexact Hw
    isplitl [Ha]; · iexact Ha
    isplitl [Hb]; · iexact Hb
    isplitl [Hd]; · iexact Hd
    isplitl [He]; · iexact He
    isplitl [Hf]; · iexact Hf
    iexact Hg
  isplitl [Hp]; · iexact Hp
  isplitl [Hq]; · iexact Hq
  isplitl [Hx]; · iexact Hx
  isplitl [Hy]; · iexact Hy
  isplitl [Hz]; · iexact Hz
  iexact Hs

end Cert.KernelIdeal.Hand

end
-- ==== Proof.KernelIdeal.Run.lean ====
module

public import proofs.«01_k».proof.Proof.KernelIdeal.Whole
public import proofs.«01_k».proof.Proof.Gen.KernelIdeal.Frame
public import Idealize.ShloMosaic.Lib.Ring
public import Idealize.SL.BI.BigOpNat

/-! The whole program: from its launch, its inputs unchanged, its four results, every counter at zero -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

open Idealize.ShloMosaic.Pipeline (Dat Cfg Window BodyObligation cellOf)

variable (m : (ℓ : Loc nD τ sig) → Buf (Elt F) ℓ) (ρ : Dev nD → PrngReg)

/-- The buffers the body reads, and those it writes. -/
def H0 : Finset (Ref sig .tc) := {main_arg0, main_v0, main_arg2, main_arg3, main_arg4}
def R0 : Finset (Ref sig .tc) := {main_v1_0, main_v1_1, main_v1_2, main_v1_3}

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own counters. -/
abbrev osem0 : Fin 67 → SemLoc sig := fun j => SemLoc.dma j
theorem ownSemFacts0 : Pipeline.OwnSemFacts (cfg0.spec) osem0 := by decide
theorem H0_sub : H0 ⊆ Pipeline.restRefs sig (cfg0.spec) := by decide
theorem R0_sub : R0 ⊆ Pipeline.restRefs sig (cfg0.spec) \ H0 := by decide

/-- The four results' contents. -/
abbrev outH (c : Dev nD) : S6x3072x3072.Idx → Elt F .f32 := hOut (V m c main_arg0) (V m c main_v0) (V m c main_arg2) (V m c main_arg4) (V m c main_arg3)
abbrev outN (c : Dev nD) : S6.Idx → Elt F .i32 := coOf (V m c main_arg4) (V m c main_arg2)
abbrev outC (c : Dev nD) : S256x3072.Idx → Elt F .fp8e4m3 := codesOf (V m c main_arg0)
abbrev outS' (c : Dev nD) : S1x256.Idx → Elt F .f32 := scOf (V m c main_arg0)

/-- The arrays at the end. -/
def GG (c : Dev nD) : (b : Ref sig .tc) → Buf (Elt F) ((c.tc : Thread nD τ).loc b) :=
  Function.update (β := fun b : Ref sig .tc => Buf (Elt F) ((c.tc : Thread nD τ).loc b)) (Function.update (β := fun b : Ref sig .tc => Buf (Elt F) ((c.tc : Thread nD τ).loc b)) (Function.update (β := fun b : Ref sig .tc => Buf (Elt F) ((c.tc : Thread nD τ).loc b)) (Function.update (β := fun b : Ref sig .tc => Buf (Elt F) ((c.tc : Thread nD τ).loc b)) (V m c) main_v1_0 (outH m c)) main_v1_1 (outN m c)) main_v1_2 (outC m c)) main_v1_3 (outS' m c)

theorem GG_0 (c : Dev nD) : GG m c main_v1_0 = outH m c := by
  unfold GG
  rw [Function.update_of_ne (by decide), Function.update_of_ne (by decide), Function.update_of_ne (by decide), Function.update_self]
theorem GG_1 (c : Dev nD) : GG m c main_v1_1 = outN m c := by
  unfold GG
  rw [Function.update_of_ne (by decide), Function.update_of_ne (by decide), Function.update_self]
theorem GG_2 (c : Dev nD) : GG m c main_v1_2 = outC m c := by
  unfold GG
  rw [Function.update_of_ne (by decide), Function.update_self]
theorem GG_3 (c : Dev nD) : GG m c main_v1_3 = outS' m c := by
  unfold GG
  rw [Function.update_self]

theorem hpts (c : Dev nD) : (bigSep H0 (fun b => ((c : Thread nD τ).loc b) ↦{fullShare} V m c b) : sProp (MM F))
    = iprop(Pt c mX Finset.univ (V m c main_arg0) ∗ Pt c mRt Finset.univ (V m c main_v0) ∗ Pt c mOff Finset.univ (V m c main_arg2) ∗ Pt c mIn Finset.univ (V m c main_arg3) ∗ Pt c mCnt Finset.univ (V m c main_arg4)) := by
  rw [BI.bigSep_eq_bigSepL_of_eq [main_arg0, main_v0, main_arg2, main_arg3, main_arg4] (by decide) (by decide)]; rfl

theorem rpts (c : Dev nD) (W : (b : Ref sig .tc) → Buf (Elt F) ((c.tc : Thread nD τ).loc b)) : (Pipeline.routed R0 c W : sProp (MM F))
    = iprop(Pt c mHo Finset.univ (W main_v1_0) ∗ Pt c mCo Finset.univ (W main_v1_1) ∗ Pt c mCodes Finset.univ (W main_v1_2) ∗ Pt c mSc Finset.univ (W main_v1_3)) := by
  unfold Pipeline.routed
  rw [BI.bigSep_eq_bigSepL_of_eq [main_v1_0, main_v1_1, main_v1_2, main_v1_3] (by decide) (by decide)]; rfl

theorem sems_eq (c : Dev nD) : (Pipeline.ownSems0 (Ix := Unit) (Name := ℕ) (U := Pipeline.UD sig nD τ) (Lvl := ℕ) (Val := Elt F) (τ := τ) osem0 c : sProp (MM F)) = Sems c := by
  unfold Pipeline.ownSems0 Sems
  rw [← Finset.range_eq_Ico]
  exact Idealize.ShloMosaic.Ring.bigSep_fin_eq_range 67 _ _ fun t h => by
    rw [show (Fin.ofNat 67 t) = (⟨t, h⟩ : Fin 67) from Fin.ext (Nat.mod_eq_of_lt h)]

theorem scr_eq (c : Dev nD) : (Pipeline.scopedRest (Ix := Unit) (Name := ℕ) (U := Pipeline.UD sig nD τ) (Lvl := ℕ) (Val := Elt F) (cfg0.spec) c : sProp (MM F)) = Scr c := by
  rw [scopedRest0_eq]; rfl

/-- The region's invariant: the arrays, the scratch, the counters. -/
abbrev Phi (c : Dev nD) (W : (c : Dev nD) → (b : Ref sig .tc) → Buf (Elt F) ((c.tc : Thread nD τ).loc b)) : sProp (MM F) := Pipeline.ΦDRG osem0 (cfg0.spec) H0 R0 (V m) W c

theorem phi_eq (c : Dev nD) (W : (c : Dev nD) → (b : Ref sig .tc) → Buf (Elt F) ((c.tc : Thread nD τ).loc b)) : Phi m c W
    = iprop(Scr c ∗ (∃ r, prngReg c r) ∗ Sems c ∗ (Pt c mX Finset.univ (V m c main_arg0) ∗ Pt c mRt Finset.univ (V m c main_v0) ∗ Pt c mOff Finset.univ (V m c main_arg2) ∗ Pt c mIn Finset.univ (V m c main_arg3) ∗ Pt c mCnt Finset.univ (V m c main_arg4))
      ∗ Pt c mHo Finset.univ (W c main_v1_0) ∗ Pt c mCo Finset.univ (W c main_v1_1) ∗ Pt c mCodes Finset.univ (W c main_v1_2) ∗ Pt c mSc Finset.univ (W c main_v1_3)) := by
  unfold Phi
  rw [Pipeline.ΦDRG_eq, scr_eq, sems_eq, hpts, rpts]

/-- The proof data of the one point. -/
def dats (_ : Fin 1) (c : Dev nD) : Dat τ (Elt F) Unit ℕ (Pipeline.UD sig nD τ) ℕ cfg0 c where
  A w := V m c (Pipeline.arrRef (cfg0.spec) w)
  after w t := w.elim0
  Φ t := if t.val = 0 then Phi m c (V m) else Phi m c (GG m)
  q _ := fullShare
  owed _ := 0

theorem dats_0 (c : Dev nD) (t) (h : t.val = 0) : (dats m 0 c).Φ t = Phi m c (V m) := by
  dsimp only [dats]; rw [if_pos h]
theorem dats_1 (c : Dev nD) (t) (h : t.val ≠ 0) : (dats m 0 c).Φ t = Phi m c (GG m) := by
  dsimp only [dats]; rw [if_neg h]

theorem A_eq (c : Dev nD) (w : Fin cfg0.W) : (dats m 0 c).A w = V m c (Pipeline.arrRef (cfg0.spec) w) := by
  dsimp only [dats]

theorem bigSep_W0 (Φ : Fin cfg0.W → sProp (MM F)) : bigSep Finset.univ Φ = iprop(emp) := rfl

theorem sound_body (c : Dev nD) (t : Fin cfg0.N) :
    iprop((dats m 0 c).Φ t.castSucc ∗ (dats m 0 c).owesAt () t.castSucc ∗ emp) ⊢ wp frame (wpE (defs₀ (F := F)) Variants.none c none) Set.univ (bodyAt0 t) (fun _ => iprop((dats m 0 c).Φ t.succ ∗ (dats m 0 c).owesAt () t.succ ∗ emp)) := by
  have ht : t.val = 0 := by have := t.isLt; have h1 : cfg0.N = 1 := N_0; omega
  rw [dats_0 m c _ ht, dats_1 m c _ (show t.succ.val ≠ 0 by rw [Fin.val_succ]; omega), phi_eq, phi_eq, GG_0, GG_1, GG_2, GG_3]
  unfold Dat.owesAt Pipeline.owesWithin
  rw [show (dats m 0 c).owed t.castSucc = 0 from rfl, show (dats m 0 c).owed t.succ = 0 from rfl]
  refine BIBase.Entails.trans ?_ ((tri_frame (R := iprop(∃ r, prngReg c r)) (body_tri (x := V m c main_arg0) (rt := V m c main_v0) (off := V m c main_arg2) (cn := V m c main_arg4) (h0 := V m c main_arg3) (f0 := V m c main_v1_0) (d6 := V m c main_v1_1) (d7 := V m c main_v1_2) (d8 := V m c main_v1_3))).trans (wp_mono _ _ _ fun _ => ?_))
  · unfold Arr OW
    iintro ⟨⟨Hs, Hg, Hq, ⟨Ha, Hb, Hd, He, Hf⟩, Hh, Hi, Hj, Hk⟩, ⟨%W, -, HW⟩, -⟩
    ihave HW : iprop(∃ W, owes (c : Thread nD τ) 0 W) $$ [HW]
    · iexists W; iexact HW
    isplitl [Ha Hb Hd He Hf Hh Hi Hj Hk Hs Hq HW]
    · isplitl [Ha Hb Hd He Hf Hh Hi Hj Hk]
      · isplitl [Ha]; · iexact Ha
        isplitl [Hb]; · iexact Hb
        isplitl [Hd]; · iexact Hd
        isplitl [He]; · iexact He
        isplitl [Hf]; · iexact Hf
        isplitl [Hh]; · iexact Hh
        isplitl [Hi]; · iexact Hi
        isplitl [Hj]; · iexact Hj
        iexact Hk
      isplitl [Hs]; · iexact Hs
      isplitl [Hq]; · iexact Hq
      iexact HW
    iexact Hg
  · unfold Arr OW
    iintro ⟨⟨⟨Ha, Hb, Hd, He, Hf, Hh, Hi, Hj, Hk⟩, Hs, Hq, ⟨%W, HW⟩⟩, Hg⟩
    isplitl [Ha Hb Hd He Hf Hh Hi Hj Hk Hs Hq Hg]
    · isplitl [Hs]; · iexact Hs
      isplitl [Hg]; · iexact Hg
      isplitl [Hq]; · iexact Hq
      isplitl [Ha Hb Hd He Hf]
      · isplitl [Ha]; · iexact Ha
        isplitl [Hb]; · iexact Hb
        isplitl [Hd]; · iexact Hd
        isplitl [He]; · iexact He
        iexact Hf
      isplitl [Hh]; · iexact Hh
      isplitl [Hi]; · iexact Hi
      isplitl [Hj]; · iexact Hj
      iexact Hk
    isplitl [HW]
    · iexists W; isplitr; · ipureintro; exact fun _ _ => Or.inl trivial
      iexact HW
    iempintro

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePostRG cfgs (dats m) 0 R0 (V m) (GG m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := GG m)
    (hin := fun c => Entails.of_eq (dats_0 m c 0 rfl).symm) (hout := fun c => Entails.of_eq (dats_1 m c (Fin.last _) (by decide)))
    (hQ' := fun _ h => h)

/-- THE RUN: the five inputs as launched, the four results at their contents, every counter at zero. -/
theorem run : θ_run defs (onTc (τ := τ) (main (F := F))) ⟨m, fun _ => 0, ρ⟩ (fun r => (∀ c : Dev nD,
      (r.2.mem ((c.tc : Thread nD τ).loc main_v1_0) = outH m c
      ∧ r.2.mem ((c.tc : Thread nD τ).loc main_v1_1) = outN m c
      ∧ r.2.mem ((c.tc : Thread nD τ).loc main_v1_2) = outC m c
      ∧ r.2.mem ((c.tc : Thread nD τ).loc main_v1_3) = outS' m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨⟨(h.1.2 c main_v1_0 (by decide)).trans (GG_0 m c), (h.1.2 c main_v1_1 (by decide)).trans (GG_1 m c),
        (h.1.2 c main_v1_2 (by decide)).trans (GG_2 m c), (h.1.2 c main_v1_3 (by decide)).trans (GG_3 m c)⟩,
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c)⟩, h.2⟩) (run_main m ρ)

end Cert.KernelIdeal.Hand

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelIdeal.Run

/-! The frames of the kernel, of its idealization and of the reference -/

public section

namespace Cert.Proof

open Idealize.ShloMosaic Idealize.SL.Sem Cert.Kernel

/-- The idealized kernel runs, leaves its inputs alone and every counter at zero. -/
theorem frameI : Cert.quiescent_KernelIdeal (hKernelIdeal := Cert.KernelIdeal.Gen.facts) := fun m g _ =>
  (θ_run _ _ _).mono (fun _ h => ⟨fun c => (h.1 c).2, h.2⟩) (Cert.KernelIdeal.Hand.run (F := Ideal) m g)

/-- The kernel runs, leaves its inputs alone and every counter at zero: its program is the idealized one's, read at the bits. -/
theorem frameK : Cert.quiescent_Kernel (hKernel := Cert.Kernel.Gen.facts) := fun m g _ =>
  (θ_run _ _ _).mono (fun _ h => ⟨fun c => (h.1 c).2, h.2⟩) (Cert.KernelIdeal.Hand.run (F := Bits) m g)

/-- The reference runs, leaves its inputs alone and every counter at zero. -/
theorem frameR : Cert.quiescent_ReferenceIdeal (hReferenceIdeal := Cert.ReferenceIdeal.Gen.facts) :=
  fun m g _ => Cert.ReferenceIdeal.Gen.frame m g

end Cert.Proof

end
-- ==== Proof.ScalePow.lean ====
module

public import Idealize.ShloMosaic.Lib.Pointwise

/-! Counting the powers of two that a number reaches, and taking the least power above it, give one scale. -/

@[expose] public section

noncomputable section

namespace Cert.Val
open Idealize.ShloMosaic

theorem ofb (b : BitVec 32) : Ideal.ofBits .f32 b = Ideal.ieee 8 23 b := rfl

/-- A positive normal pattern by its fields. -/
theorem of_fields {b : BitVec 32} {ex fr : ℕ} (ha : (b.extractLsb' 31 1 == 1#1) = false) (hb : (b.extractLsb' 23 8).toNat = ex) (hd : (b.extractLsb' 0 23).toNat = fr)
    (h0 : ex ≠ 0) (h1 : ex ≠ 255) : Ideal.ofBits .f32 b = (((2 ^ 23 + fr : ℕ) * (2:ℝ) ^ ((ex : ℤ) - 150) : ℝ) : EReal) := by
  rw [ofb]
  unfold Ideal.ieee
  simp only [Nat.reduceAdd, Nat.reducePow, Nat.reduceSub]
  rw [ha, hb, hd, if_neg h1, if_neg h0, if_neg (by decide), one_mul]
  norm_num
  congr 3
  ring

/-- An infinity by its fields. -/
theorem of_inf {b : BitVec 32} {neg : Bool} (ha : (b.extractLsb' 31 1 == 1#1) = neg) (hb : (b.extractLsb' 23 8).toNat = 255) (hd : (b.extractLsb' 0 23).toNat = 0) :
    Ideal.ofBits .f32 b = if neg then ⊥ else ⊤ := by
  rw [ofb]
  unfold Ideal.ieee
  simp only [Nat.reduceAdd, Nat.reducePow, Nat.reduceSub]
  rw [ha, hb, hd, if_pos rfl, if_pos rfl]

/-- The word `k <<< 23`, read as a float, is a power of two. -/
theorem pw {k : ℕ} (h1 : 1 ≤ k) (h2 : k ≤ 254) : Ideal.ofBits .f32 (IntOp.shli ArithUnit.vector (BitVec.ofNat 32 k) 23#32) = (((2:ℝ) ^ ((k : ℤ) - 127) : ℝ) : EReal) := by
  have h : ∀ k : Fin 255, ((IntOp.shli ArithUnit.vector (BitVec.ofNat 32 k.val) 23#32).extractLsb' 31 1 == 1#1) = false
      ∧ ((IntOp.shli ArithUnit.vector (BitVec.ofNat 32 k.val) 23#32).extractLsb' 23 8).toNat = k.val
      ∧ ((IntOp.shli ArithUnit.vector (BitVec.ofNat 32 k.val) 23#32).extractLsb' 0 23).toNat = 0 := by decide +kernel
  obtain ⟨a, b, d⟩ := h ⟨k, by omega⟩
  refine (of_fields (ex := k) (fr := 0) a b d (by omega) (by omega)).trans (EReal.coe_eq_coe_iff.2 ?_)
  rw [Nat.add_zero, show ((2 ^ 23 : ℕ) : ℝ) = (2:ℝ) ^ (23 : ℤ) by norm_num, ← zpow_add₀ (by norm_num)]
  exact congrArg (fun z : ℤ => (2:ℝ) ^ z) (by ring)

theorem pw_top : Ideal.ofBits .f32 (IntOp.shli ArithUnit.vector (BitVec.ofNat 32 255) 23#32) = ⊤ :=
  of_inf (neg := false) (by decide +kernel) (by decide +kernel) (by decide +kernel)

theorem inf_top : Ideal.ofBits .f32 2139095040#32 = ⊤ := by
  rw [← pw_top]; rfl
theorem ninf_bot : Ideal.ofBits .f32 4286578688#32 = ⊥ := of_inf (neg := true) (by decide) (by decide) (by decide)
theorem tiny : Ideal.ofBits .f32 8388608#32 = (((2:ℝ) ^ (-126 : ℤ) : ℝ) : EReal) := (pw (k := 1) (by norm_num) (by norm_num)).trans (by norm_num)

/-- How many of the powers of two a number reaches. -/
def kb (M : EReal) : BitVec 32 :=
  Finset.fold IntOp.addi (0#32) (fun x : Fin 256 => Scalar.select (IntOp.andi (BitVec.ofBool (decide (Ideal.ofBits FTy.f32 (IntOp.shli ArithUnit.vector (BitVec.ofNat 32 x.val) 23#32) ≤ M)))
    (IntOp.cmpi CmpIPredicate.sgt (BitVec.ofNat 32 x.val) 0#32)) 1#32 0#32) Finset.univ
/-- The exponent by counting. -/
def ke (M : EReal) : BitVec 32 :=
  Scalar.select (IntOp.ori (IntOp.cmpi CmpIPredicate.eq (kb M) 0#32) (IntOp.cmpi CmpIPredicate.eq (kb M) 255#32)) (0#32) (IntOp.subi (kb M) 126#32)
/-- The scale as the least power of two above a number. -/
def rs (M : EReal) : EReal :=
  if M < Ideal.ofBits FTy.f32 8388608#32 then 1
  else Finset.fold min (Ideal.ofBits FTy.f32 2139095040#32) (fun x : Fin 256 =>
    if M < FloatOps.exp2 (F := Ideal) (φ := .f32) (FloatOps.sitofp FTy.f32 (IntOp.subi (BitVec.ofNat 32 x.val) 126#32)) then FloatOps.exp2 (F := Ideal) (φ := .f32) (FloatOps.sitofp FTy.f32 (IntOp.subi (BitVec.ofNat 32 x.val) 126#32))
    else Ideal.ofBits FTy.f32 2139095040#32) Finset.univ

theorem kb_of {M : EReal} {n : ℕ} (hn : n ≤ 254) (h : ∀ x : Fin 256, 0 < x.val → (Ideal.ofBits FTy.f32 (IntOp.shli ArithUnit.vector (BitVec.ofNat 32 x.val) 23#32) ≤ M ↔ x.val ≤ n)) : kb M = BitVec.ofNat 32 n := by
  have c : ∀ n : Fin 255, Finset.fold IntOp.addi (0#32) (fun x : Fin 256 => if 0 < x.val ∧ x.val ≤ n.val then 1#32 else 0#32) Finset.univ = BitVec.ofNat 32 n.val := by decide +kernel
  have hs : ∀ x : Fin 256, IntOp.cmpi CmpIPredicate.sgt (BitVec.ofNat 32 x.val) 0#32 = if 0 < x.val then 1#1 else 0#1 := by decide +kernel
  refine Eq.trans ?_ (c ⟨n, by omega⟩)
  unfold kb
  refine congrArg (fun f => Finset.fold IntOp.addi (0#32) f Finset.univ) (funext fun x => ?_)
  dsimp only
  rw [hs]
  by_cases h0 : 0 < x.val
  · rw [if_pos h0]
    by_cases h1 : x.val ≤ n
    · rw [decide_eq_true ((h x h0).2 h1), if_pos ⟨h0, h1⟩]; rfl
    · rw [decide_eq_false (fun h2 => h1 ((h x h0).1 h2)), if_neg (fun h2 => h1 h2.2)]; rfl
  · rw [if_neg h0, if_neg (fun h2 => h0 h2.1)]
    generalize BitVec.ofBool _ = b
    revert b; decide

theorem ex2 (x : Fin 256) : FloatOps.exp2 (F := Ideal) (φ := .f32) (FloatOps.sitofp FTy.f32 (IntOp.subi (BitVec.ofNat 32 x.val) 126#32)) = (((2:ℝ) ^ ((x.val : ℤ) - 126) : ℝ) : EReal) := by
  have h : ∀ x : Fin 256, (IntOp.subi (BitVec.ofNat 32 x.val) 126#32).toInt = (x.val : ℤ) - 126 := by decide +kernel
  show Ideal.exp2 (((IntOp.subi (BitVec.ofNat 32 x.val) 126#32).toInt : ℝ) : EReal) = _
  rw [h]
  show ((Real.rpow 2 _ : ℝ) : EReal) = _
  congr 1
  exact Real.rpow_intCast 2 _

theorem two_lt {a b : ℤ} : (2:ℝ) ^ a < (2:ℝ) ^ b ↔ a < b := zpow_lt_zpow_iff_right₀ (by norm_num)
theorem two_le {a b : ℤ} : (2:ℝ) ^ a ≤ (2:ℝ) ^ b ↔ a ≤ b := zpow_le_zpow_iff_right₀ (by norm_num)

/-- Both ways give one positive real scale, and the counted exponent's negative gives its inverse. -/
theorem scale_eq {M : EReal} (h0 : 0 ≤ M) (h1 : M < (((2:ℝ) ^ (126:ℤ) : ℝ) : EReal)) :
    ∃ s : ℝ, 0 < s ∧ Ideal.ofBits FTy.f32 (IntOp.shli ArithUnit.vector (IntOp.addi (ke M) 127#32) 23#32) = (s : EReal) ∧ rs M = (s : EReal)
      ∧ Ideal.ofBits FTy.f32 (IntOp.shli ArithUnit.vector (IntOp.addi (IntOp.subi 0#32 (ke M)) 127#32) 23#32) = ((1 / s : ℝ) : EReal) := by
  induction M using EReal.rec with
  | bot => exact absurd h0 (by simp)
  | top => exact absurd h1 (by simp)
  | coe m =>
  replace h0 : 0 ≤ m := EReal.coe_nonneg.1 h0
  replace h1 : m < (2:ℝ) ^ (126:ℤ) := EReal.coe_lt_coe_iff.1 h1
  have topn : ¬ (⊤ : EReal) ≤ (m : EReal) := by simp
  have pl : ∀ {n : ℕ} (x : Fin 256), 0 < x.val → n ≤ 254 → (∀ k : ℕ, 1 ≤ k → ((2:ℝ) ^ ((k : ℤ) - 127) ≤ m ↔ k ≤ n)) →
      (Ideal.ofBits FTy.f32 (IntOp.shli ArithUnit.vector (BitVec.ofNat 32 x.val) 23#32) ≤ (m : EReal) ↔ x.val ≤ n) := fun {n} x hx hn h => by
    by_cases hx' : x.val ≤ 254
    · rw [pw hx hx', EReal.coe_le_coe_iff]; exact h _ hx
    · have hx2 : x.val = 255 := by omega
      rw [hx2, pw_top]
      exact ⟨fun h => absurd h topn, fun h => by omega⟩
  by_cases hm : m < (2:ℝ) ^ (-126:ℤ)
  · have hk : kb m = BitVec.ofNat 32 0 := kb_of (by norm_num) fun x hx => pl x hx (by norm_num) fun k hk =>
      ⟨fun h => by have := two_lt.1 (lt_of_le_of_lt h hm); omega, fun h => by omega⟩
    have he : ke m = 0#32 := by unfold ke; rw [hk]; rfl
    refine ⟨1, one_pos, ?_, ?_, ?_⟩
    · rw [he]; exact (pw (k := 127) (by norm_num) (by norm_num)).trans (by norm_num)
    · unfold rs; rw [tiny, if_pos (EReal.coe_lt_coe_iff.2 hm)]; rfl
    · rw [he]; exact (pw (k := 127) (by norm_num) (by norm_num)).trans (by norm_num)
  · have hp : 0 < m := lt_of_lt_of_le (by positivity) (not_lt.1 hm)
    obtain ⟨k, hk1, hk2⟩ := exists_mem_Ico_zpow (x := m) (y := (2:ℝ)) hp (by norm_num)
    have ha : k < 126 := two_lt.1 (lt_of_le_of_lt hk1 h1)
    have hb : -126 < k + 1 := two_lt.1 (lt_of_le_of_lt (not_lt.1 hm) hk2)
    obtain ⟨n, hn⟩ : ∃ n : ℕ, k = (n : ℤ) - 127 := ⟨(k + 127).toNat, by omega⟩
    have hn1 : 1 ≤ n := by omega
    have hn2 : n ≤ 252 := by omega
    have hk : kb m = BitVec.ofNat 32 n := kb_of (by omega) fun x hx => pl x hx (by omega) fun j hj =>
      ⟨fun h => by have := two_lt.1 (lt_of_le_of_lt h hk2); omega, fun h => (two_le.2 (by omega)).trans hk1⟩
    have e1 : ∀ n : Fin 253, 1 ≤ n.val → IntOp.addi (Scalar.select (IntOp.ori (IntOp.cmpi CmpIPredicate.eq (BitVec.ofNat 32 n.val) 0#32) (IntOp.cmpi CmpIPredicate.eq (BitVec.ofNat 32 n.val) 255#32)) (0#32) (IntOp.subi (BitVec.ofNat 32 n.val) 126#32)) 127#32 = BitVec.ofNat 32 (n.val + 1) := by decide +kernel
    have e2 : ∀ n : Fin 253, 1 ≤ n.val → IntOp.addi (IntOp.subi 0#32 (Scalar.select (IntOp.ori (IntOp.cmpi CmpIPredicate.eq (BitVec.ofNat 32 n.val) 0#32) (IntOp.cmpi CmpIPredicate.eq (BitVec.ofNat 32 n.val) 255#32)) (0#32) (IntOp.subi (BitVec.ofNat 32 n.val) 126#32))) 127#32 = BitVec.ofNat 32 (253 - n.val) := by decide +kernel
    refine ⟨(2:ℝ) ^ ((n : ℤ) - 126), by positivity, ?_, ?_, ?_⟩
    · unfold ke; rw [hk]
      refine (congrArg (fun w => Ideal.ofBits FTy.f32 (IntOp.shli ArithUnit.vector w 23#32)) (e1 ⟨n, by omega⟩ hn1)).trans ((pw (by omega) (by dsimp only; omega)).trans ?_)
      congr 2; push_cast; ring
    · unfold rs; rw [tiny, if_neg (fun h => hm (EReal.coe_lt_coe_iff.1 h)), inf_top]
      apply le_antisymm
      · refine (Finset.fold_min_le _).2 (Or.inr ⟨⟨n, by omega⟩, Finset.mem_univ _, ?_⟩)
        rw [ex2]
        dsimp only
        rw [if_pos (EReal.coe_lt_coe_iff.2 (by rw [hn, show (n:ℤ) - 127 + 1 = (n:ℤ) - 126 by ring] at hk2; exact hk2))]
      · refine (Finset.le_fold_min _).2 ⟨le_top, fun x _ => ?_⟩
        rw [ex2]
        split_ifs with h
        · have h' := two_lt.1 (lt_of_le_of_lt hk1 (EReal.coe_lt_coe_iff.1 h))
          exact EReal.coe_le_coe_iff.2 (two_le.2 (by omega))
        · exact le_top
    · unfold ke; rw [hk]
      refine (congrArg (fun w => Ideal.ofBits FTy.f32 (IntOp.shli ArithUnit.vector w 23#32)) (e2 ⟨n, by omega⟩ hn1)).trans ((pw (by dsimp only; omega) (by dsimp only; omega)).trans ?_)
      rw [one_div, ← zpow_neg]
      congr 2; dsimp only; omega

/-- The scale's factor is positive and below one. -/
theorem fac : ∃ r : ℝ, Ideal.ofBits .f32 991054117#32 = (r : EReal) ∧ 0 < r ∧ r < 1 / 4 := by
  refine ⟨(2 ^ 23 + 1198373 : ℕ) * (2:ℝ) ^ ((118 : ℕ) - 150 : ℤ), of_fields (by decide) (by decide) (by decide) (by norm_num) (by norm_num), by positivity, by norm_num⟩

/-- What the scale is taken from: a multiple of the largest magnitude. -/
def mx (f : Fin 3072 → EReal) : EReal :=
  Finset.fold max (Ideal.ofBits FTy.f32 4286578688#32) (fun x => FloatOps.absf (F := Ideal) (φ := .f32) (f x)) Finset.univ * Ideal.ofBits FTy.f32 991054117#32

theorem mx_range {f : Fin 3072 → EReal} (h : ∀ j, max (f j) (-(f j)) < (((2:ℝ) ^ (128:ℤ) : ℝ) : EReal)) : 0 ≤ mx f ∧ mx f < (((2:ℝ) ^ (126:ℤ) : ℝ) : EReal) := by
  obtain ⟨r, hr, hr0, hr1⟩ := fac
  have ha : ∀ x : EReal, 0 ≤ max x (-x) := fun x => by
    rcases le_total 0 x with h | h
    · exact h.trans (le_max_left _ _)
    · exact (EReal.neg_nonneg.2 h).trans (le_max_right _ _)
  have h0 : (0 : EReal) ≤ Finset.fold max (Ideal.ofBits FTy.f32 4286578688#32) (fun x => FloatOps.absf (F := Ideal) (φ := .f32) (f x)) Finset.univ :=
    (Finset.le_fold_max _).2 (Or.inr ⟨⟨0, by norm_num⟩, Finset.mem_univ _, ha _⟩)
  have h1 : Finset.fold max (Ideal.ofBits FTy.f32 4286578688#32) (fun x => FloatOps.absf (F := Ideal) (φ := .f32) (f x)) Finset.univ < (((2:ℝ) ^ (128:ℤ) : ℝ) : EReal) :=
    (Finset.fold_max_lt _).2 ⟨by rw [ninf_bot]; exact EReal.bot_lt_coe _, fun x _ => h x⟩
  unfold mx
  generalize Finset.fold max (Ideal.ofBits FTy.f32 4286578688#32) (fun x => FloatOps.absf (F := Ideal) (φ := .f32) (f x)) Finset.univ = A at h0 h1 ⊢
  induction A using EReal.rec with
  | bot => exact absurd h0 (by simp)
  | top => exact absurd h1 (by simp)
  | coe a =>
  rw [hr, ← EReal.coe_mul]
  replace h0 : 0 ≤ a := EReal.coe_nonneg.1 h0
  replace h1 : a < (2:ℝ) ^ (128:ℤ) := EReal.coe_lt_coe_iff.1 h1
  refine ⟨EReal.coe_nonneg.2 (mul_nonneg h0 hr0.le), EReal.coe_lt_coe_iff.2 ?_⟩
  have : (2:ℝ) ^ (128:ℤ) = 4 * (2:ℝ) ^ (126:ℤ) := by norm_num
  nlinarith

end Cert.Val

end
-- ==== Proof.RefVal.lean ====
module

public import proofs.«01_k».proof.Proof.Gen.ReferenceIdeal.Value
public import Idealize.ShloMosaic.Lib.Pipeline.Value
public import Idealize.ShloMosaic.Lib.Pipeline.ValueKit.Tiles
public import Idealize.ShloMosaic.Lib.Tactic
public import Idealize.ShloMosaic.Lib.ValueIdxCore

/-! The reference's four results -/

@[expose] public section

noncomputable section

namespace Cert.ReferenceIdeal.Val

open Cert.ReferenceIdeal Cert.ReferenceIdeal.Gen Idealize.ShloMosaic Idealize.ShloMosaic.TcCoe Idealize.SL.Sem
open Idealize.ShloMosaic.ValueIdx Idealize.ShloMosaic.Tactic
open Idealize.ShloMosaic.Pipeline (Dat)

variable {F : FTy → Type} [FloatOps F]

variable (c : Dev nD) (arg0 : Memref sig .tc .vmem S256x3072 .bf16) (harg0 : arg0.IsWhole) (arg1 : Memref sig .tc .vmem S1024x1 .i32) (harg1 : arg1.IsWhole) (arg2 : Memref sig .tc .smem S7 .i32) (harg2 : arg2.IsWhole) (arg3 : Memref sig .tc .vmem S6x3072x3072 .f32) (harg3 : arg3.IsWhole) (arg4 : Memref sig .tc .smem S6 .i32) (harg4 : arg4.IsWhole) (arg5 : Memref sig .tc .vmem S6x3072x3072 .f32) (harg5 : arg5.IsWhole) (arg6 : Memref sig .tc .smem S6 .i32) (harg6 : arg6.IsWhole) (arg7 : Memref sig .tc .vmem S256x3072 .fp8e4m3) (harg7 : arg7.IsWhole) (arg8 : Memref sig .tc .vmem S1x256 .f32) (harg8 : arg8.IsWhole)
    (x0 : Vec F S256x3072 .bf16) (x1 : Vec F S1024x1 .i32) (x2 : Vec F S7 .i32) (x3 : Vec F S6x3072x3072 .f32) (x4 : Vec F S6 .i32)

theorem hz : (![0, 0] : Fin 2 → Nat) = fun _ => 0 := funext fun a => by fin_cases a <;> rfl

set_option pp.maxSteps 2000 in
theorem out7 : out0_A_7 c arg0 harg0 arg1 harg1 arg2 harg2 arg3 harg3 arg4 harg4 arg5 harg5 arg6 harg6 arg7 harg7 arg8 harg8 x0 x1 x2 x3 x4 = k0_pay4 x0 := by
  unfold out0_A_7
  rw [View.read_writes_junk_eq_canon]
  unfold kernelRun0_A
  dsimp only
  sl_unfold_words
  rw [View.canon_cons_unit_zero (S := S256x3072) hz]
  simp only [View.readAt_eq_ld, harg0.read_unread, View.ld_unit_zero (S := S256x3072) hz]

set_option pp.maxSteps 2000 in
theorem out8 : out0_A_8 c arg0 harg0 arg1 harg1 arg2 harg2 arg3 harg3 arg4 harg4 arg5 harg5 arg6 harg6 arg7 harg7 arg8 harg8 x0 x1 x2 x3 x4 = k0_pay5 x0 := by
  unfold out0_A_8
  rw [View.read_writes_junk_eq_canon]
  unfold kernelRun0_A
  dsimp only
  sl_unfold_words
  rw [View.canon_cons_unit_zero (S := S1x256) hz]
  simp only [View.readAt_eq_ld, harg0.read_unread, View.ld_unit_zero (S := S256x3072) hz]

/-- A piece whose contents are `G` there. -/
theorem rectAt_of {s : Shape} {e : EltTy} (r : Rect s) (P : r.shape.Idx → Elt F e) (G : s.Idx → Elt F e) (y : s.Idx) (h : ∀ x, P x = G (r.emb x)) :
    View.RectAt y r P (G y) := fun x hx => by rw [h x]; exact congrArg G hx

/-- One expert's new Hessian from the routed rows. -/
abbrev oneH (rows : FVec F S1024x3072 .bf16) (lo hi n : BitVec 32) (h : S1x3072x3072.Idx → Elt F .f32) : FVec F S1x3072x3072 .f32 :=
  k0_pay10 rows (iota .tc S1024x3072 32 [0] iota_S1024x3072_d0_w32) lo hi n h n

/-- The Hessians the reference leaves. -/
def refH (x0 : Vec F S256x3072 .bf16) (x1 : Vec F S1024x1 .i32) (x2 : Vec F S7 .i32) (x3 : Vec F S6x3072x3072 .f32) (x4 : Vec F S6 .i32) (y : S6x3072x3072.Idx) : Elt F .f32 :=
  oneH (k0_pay8 (k0_pay6 x0) (k0_pay7 x1)) (x2 (ix1 ⟨(y 0).val, Nat.lt_trans (y 0).isLt (by decide)⟩)) (x2 (ix1 ⟨(y 0).val + 1, Nat.succ_lt_succ (y 0).isLt⟩)) (x4 (ix1 (y 0)))
    (fun z => x3 (ix3 (y 0) (z 1) (z 2))) (ix3 0 (y 1) (y 2))

/-- The counts the reference leaves. -/
def refN (x2 : Vec F S7 .i32) (x4 : Vec F S6 .i32) (y : S6.Idx) : Elt F .i32 :=
  Scalar.addi (x4 y) (Scalar.subi (x2 (ix1 ⟨(y 0).val + 1, Nat.succ_lt_succ (y 0).isLt⟩)) (x2 (ix1 ⟨(y 0).val, Nat.lt_trans (y 0).isLt (by decide)⟩)))

theorem hz2 : (![0, 0] : Fin 2 → Nat) = fun _ => 0 := hz

theorem ld1 {n k : ℕ} {e : EltTy} (X : (⟨1, ![n]⟩ : Shape).Idx → Elt F e) (inb) (j : Fin n) (hj : j.val = k) (z) :
    View.ld X (Rect.unit (s := ⟨1, ![n]⟩) ![k] S1.size inb) z = X (ix1 j) := by
  refine congrArg X (funext fun a => Fin.ext ?_)
  fin_cases a
  have hz : (z 0).val = 0 := Nat.lt_one_iff.mp (z 0).isLt
  show k + 1 * (z 0).val = j.val
  omega

theorem ld3 {k : ℕ} (X : S6x3072x3072.Idx → Elt F .f32) (inb) (j : Fin 6) (hj : j.val = k) :
    View.ld X (Rect.unit (s := S6x3072x3072) ![k, 0, 0] S1x3072x3072.size inb) = fun z => X (ix3 j (z 1) (z 2)) := by
  refine funext fun z => congrArg X (funext fun a => Fin.ext ?_)
  have hz : (z 0).val = 0 := Nat.lt_one_iff.mp (z 0).isLt
  fin_cases a
  · show k + 1 * (z 0).val = j.val
    omega
  · show 0 + 1 * (z 1).val = (z 1).val
    omega
  · show 0 + 1 * (z 2).val = (z 2).val
    omega

theorem emb3 {k : ℕ} (inb) (j : Fin 6) (hj : j.val = k) (x) :
    (Rect.unit (s := S6x3072x3072) ![k, 0, 0] ![1, 3072, 3072] inb).emb x = ix3 j (x 1) (x 2) := by
  refine funext fun a => Fin.ext ?_
  have hz : (x 0).val = 0 := Nat.lt_one_iff.mp (x 0).isLt
  fin_cases a
  · show k + 1 * (x 0).val = j.val
    omega
  · show 0 + 1 * (x 1).val = (x 1).val
    omega
  · show 0 + 1 * (x 2).val = (x 2).val
    omega

theorem emb1 {k : ℕ} (inb) (j : Fin 6) (hj : j.val = k) (x) :
    (Rect.unit (s := S6) ![k] ![1] inb).emb x = ix1 j := by
  refine funext fun a => Fin.ext ?_
  fin_cases a
  have hz : (x 0).val = 0 := Nat.lt_one_iff.mp (x 0).isLt
  show k + 1 * (x 0).val = j.val
  omega

theorem x3_eta (x : S1x3072x3072.Idx) : (ix3 0 (x 1) (x 2) : S1x3072x3072.Idx) = x := by
  refine funext fun a => Fin.ext ?_
  have hz : (x 0).val = 0 := Nat.lt_one_iff.mp (x 0).isLt
  fin_cases a
  · exact hz.symm
  · rfl
  · rfl

theorem piece5 (k k' : ℕ) (j : Fin 6) (hj : j.val = k) (hk : k' = k + 1) (i0 i1 i2 i3 i4 i5 z) (x) :
    oneH (k0_pay8 (k0_pay6 (View.ld x0 (Rect.unit (s := S256x3072) ![0, 0] ![256, 3072] i0))) (k0_pay7 (View.ld x1 (Rect.unit (s := S1024x1) ![0, 0] ![1024, 1] i1))))
      (View.ld x2 (Rect.unit (s := S7) ![k] ![1] i2) z) (View.ld x2 (Rect.unit (s := S7) ![k'] ![1] i3) z)
      (View.ld x4 (Rect.unit (s := S6) ![k] ![1] i4) z) (View.ld x3 (Rect.unit (s := S6x3072x3072) ![k, 0, 0] ![1, 3072, 3072] i5)) x
    = refH x0 x1 x2 x3 x4 ((Rect.unit (s := S6x3072x3072) ![k, 0, 0] ![1, 3072, 3072] i5).emb x) := by
  have e0 : View.ld x0 (Rect.unit (s := S256x3072) ![0, 0] ![256, 3072] i0) = x0 := View.ld_unit_zero (S := S256x3072) hz i0 x0
  have e1 : View.ld x1 (Rect.unit (s := S1024x1) ![0, 0] ![1024, 1] i1) = x1 := View.ld_unit_zero (S := S1024x1) hz i1 x1
  have e2 := ld1 x2 i2 ⟨j.val, Nat.lt_trans j.isLt (by decide)⟩ hj z
  have e3 := ld1 x2 i3 ⟨j.val + 1, Nat.succ_lt_succ j.isLt⟩ (by show j.val + 1 = k'; omega) z
  have e4 := ld1 x4 i4 j hj z
  have e5 := ld3 x3 i5 j hj
  rw [e0, e1]
  refine (congr (congr (congr (congrArg (fun a b c d => oneH (k0_pay8 (k0_pay6 x0) (k0_pay7 x1)) a b c d x) e2) e3) e4) e5).trans ?_
  rw [emb3 i5 j hj x]
  unfold refH
  exact congrArg _ (x3_eta x).symm

theorem piece6 (k k' : ℕ) (j : Fin 6) (hj : j.val = k) (hk : k' = k + 1) (i2 i3 i4 z) (x) :
    Scalar.addi (View.ld x4 (Rect.unit (s := S6) ![k] ![1] i4) z) (Scalar.subi (View.ld x2 (Rect.unit (s := S7) ![k'] ![1] i3) z) (View.ld x2 (Rect.unit (s := S7) ![k] ![1] i2) z))
    = refN x2 x4 ((Rect.unit (s := S6) ![k] ![1] i4).emb x) := by
  have e2 := ld1 x2 i2 ⟨j.val, Nat.lt_trans j.isLt (by decide)⟩ hj z
  have e3 := ld1 x2 i3 ⟨j.val + 1, Nat.succ_lt_succ j.isLt⟩ (by show j.val + 1 = k'; omega) z
  have e4 := ld1 x4 i4 j hj z
  refine (congr (congr (congrArg (fun a b c => Scalar.addi a (Scalar.subi b c)) e4) e3) e2).trans ?_
  rw [emb1 i4 j hj x]
  rfl

set_option pp.maxSteps 3000 in
theorem out6 : out0_A_6 c arg0 harg0 arg1 harg1 arg2 harg2 arg3 harg3 arg4 harg4 arg5 harg5 arg6 harg6 arg7 harg7 arg8 harg8 x0 x1 x2 x3 x4 = refN x2 x4 := by
  unfold out0_A_6
  rw [View.read_writes_junk_eq_canon]
  funext y
  refine View.canon_eq_of_allAt _ y _ (cover0_A_6 c arg0 harg0 arg1 harg1 arg2 harg2 arg3 harg3 arg4 harg4 arg5 harg5 arg6 harg6 arg7 harg7 arg8 harg8 x0 x1 x2 x3 x4 y) ?_
  unfold kernelRun0_A
  dsimp only
  sl_unfold_words
  simp only [View.readAt_eq_ld, harg0.read_unread, harg1.read_unread, harg2.read_unread, harg3.read_unread, harg4.read_unread]
  refine View.allAt_cons _ _ _ (rectAt_of _ _ _ y fun x => piece6 x2 x4 5 6 5 rfl rfl _ _ _ _ x) ?_
  refine View.allAt_cons _ _ _ (rectAt_of _ _ _ y fun x => piece6 x2 x4 4 5 4 rfl rfl _ _ _ _ x) ?_
  refine View.allAt_cons _ _ _ (rectAt_of _ _ _ y fun x => piece6 x2 x4 3 4 3 rfl rfl _ _ _ _ x) ?_
  refine View.allAt_cons _ _ _ (rectAt_of _ _ _ y fun x => piece6 x2 x4 2 3 2 rfl rfl _ _ _ _ x) ?_
  refine View.allAt_cons _ _ _ (rectAt_of _ _ _ y fun x => piece6 x2 x4 1 2 1 rfl rfl _ _ _ _ x) ?_
  refine View.allAt_cons _ _ _ (rectAt_of _ _ _ y fun x => piece6 x2 x4 0 1 0 rfl rfl _ _ _ _ x) ?_
  exact View.allAt_nil _ _

set_option pp.maxSteps 3000 in
theorem out5 : out0_A_5 c arg0 harg0 arg1 harg1 arg2 harg2 arg3 harg3 arg4 harg4 arg5 harg5 arg6 harg6 arg7 harg7 arg8 harg8 x0 x1 x2 x3 x4 = refH x0 x1 x2 x3 x4 := by
  unfold out0_A_5
  rw [View.read_writes_junk_eq_canon]
  funext y
  refine View.canon_eq_of_allAt _ y _ (cover0_A_5 c arg0 harg0 arg1 harg1 arg2 harg2 arg3 harg3 arg4 harg4 arg5 harg5 arg6 harg6 arg7 harg7 arg8 harg8 x0 x1 x2 x3 x4 y) ?_
  unfold kernelRun0_A
  dsimp only
  sl_unfold_words
  simp only [View.readAt_eq_ld, harg0.read_unread, harg1.read_unread, harg2.read_unread, harg3.read_unread, harg4.read_unread]
  refine View.allAt_cons _ _ _ (rectAt_of _ _ _ y fun x => piece5 x0 x1 x2 x3 x4 5 6 5 rfl rfl _ _ _ _ _ _ _ x) ?_
  refine View.allAt_cons _ _ _ (rectAt_of _ _ _ y fun x => piece5 x0 x1 x2 x3 x4 4 5 4 rfl rfl _ _ _ _ _ _ _ x) ?_
  refine View.allAt_cons _ _ _ (rectAt_of _ _ _ y fun x => piece5 x0 x1 x2 x3 x4 3 4 3 rfl rfl _ _ _ _ _ _ _ x) ?_
  refine View.allAt_cons _ _ _ (rectAt_of _ _ _ y fun x => piece5 x0 x1 x2 x3 x4 2 3 2 rfl rfl _ _ _ _ _ _ _ x) ?_
  refine View.allAt_cons _ _ _ (rectAt_of _ _ _ y fun x => piece5 x0 x1 x2 x3 x4 1 2 1 rfl rfl _ _ _ _ _ _ _ x) ?_
  refine View.allAt_cons _ _ _ (rectAt_of _ _ _ y fun x => piece5 x0 x1 x2 x3 x4 0 1 0 rfl rfl _ _ _ _ _ _ _ x) ?_
  exact View.allAt_nil _ _

end Cert.ReferenceIdeal.Val

end
-- ==== Proof.RefRun.lean ====
module

public import proofs.«01_k».proof.Proof.RefVal

/-! The reference's run, its four results named -/

@[expose] public section

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

theorem rd0 (f : Buf (Elt F) ((c : Thread nD τ).loc main_arg0)) : (win0_0.blk t0_0).view.read (Elt F) f = f :=
  Memref.read_access_unit_zero (Elt F) main_arg0
    (show (fun a => (win0_0.index t0_0) a * main_arg0.ty.shape.size a) = fun _ => 0 from funext fun a => Nat.zero_mul _)
    (fun a => Nat.le_of_eq (by rw [show (win0_0.index t0_0) a = 0 from rfl, Nat.zero_mul, Nat.zero_add])) f
theorem rd1 (f : Buf (Elt F) ((c : Thread nD τ).loc main_v0)) : (win0_1.blk t0_0).view.read (Elt F) f = f :=
  Memref.read_access_unit_zero (Elt F) main_v0
    (show (fun a => (win0_1.index t0_0) a * main_v0.ty.shape.size a) = fun _ => 0 from funext fun a => Nat.zero_mul _)
    (fun a => Nat.le_of_eq (by rw [show (win0_1.index t0_0) a = 0 from rfl, Nat.zero_mul, Nat.zero_add])) f
theorem rd2 (f : Buf (Elt F) ((c : Thread nD τ).loc main_arg2)) : (win0_2.blk t0_0).view.read (Elt F) f = f :=
  Memref.read_access_unit_zero (Elt F) main_arg2
    (show (fun a => (win0_2.index t0_0) a * main_arg2.ty.shape.size a) = fun _ => 0 from funext fun a => Nat.zero_mul _)
    (fun a => Nat.le_of_eq (by rw [show (win0_2.index t0_0) a = 0 from rfl, Nat.zero_mul, Nat.zero_add])) f
theorem rd3 (f : Buf (Elt F) ((c : Thread nD τ).loc main_arg3)) : (win0_3.blk t0_0).view.read (Elt F) f = f :=
  Memref.read_access_unit_zero (Elt F) main_arg3
    (show (fun a => (win0_3.index t0_0) a * main_arg3.ty.shape.size a) = fun _ => 0 from funext fun a => Nat.zero_mul _)
    (fun a => Nat.le_of_eq (by rw [show (win0_3.index t0_0) a = 0 from rfl, Nat.zero_mul, Nat.zero_add])) f
theorem rd4 (f : Buf (Elt F) ((c : Thread nD τ).loc main_arg4)) : (win0_4.blk t0_0).view.read (Elt F) f = f :=
  Memref.read_access_unit_zero (Elt F) main_arg4
    (show (fun a => (win0_4.index t0_0) a * main_arg4.ty.shape.size a) = fun _ => 0 from funext fun a => Nat.zero_mul _)
    (fun a => Nat.le_of_eq (by rw [show (win0_4.index t0_0) a = 0 from rfl, Nat.zero_mul, Nat.zero_add])) f
theorem rd5 (f : Buf (Elt F) ((c : Thread nD τ).loc main_v1_0)) : (win0_5.blk t0_0).view.read (Elt F) f = f :=
  Memref.read_access_unit_zero (Elt F) main_v1_0
    (show (fun a => (win0_5.index t0_0) a * main_v1_0.ty.shape.size a) = fun _ => 0 from funext fun a => Nat.zero_mul _)
    (fun a => Nat.le_of_eq (by rw [show (win0_5.index t0_0) a = 0 from rfl, Nat.zero_mul, Nat.zero_add])) f
theorem rd6 (f : Buf (Elt F) ((c : Thread nD τ).loc main_v1_1)) : (win0_6.blk t0_0).view.read (Elt F) f = f :=
  Memref.read_access_unit_zero (Elt F) main_v1_1
    (show (fun a => (win0_6.index t0_0) a * main_v1_1.ty.shape.size a) = fun _ => 0 from funext fun a => Nat.zero_mul _)
    (fun a => Nat.le_of_eq (by rw [show (win0_6.index t0_0) a = 0 from rfl, Nat.zero_mul, Nat.zero_add])) f
theorem rd7 (f : Buf (Elt F) ((c : Thread nD τ).loc main_v1_2)) : (win0_7.blk t0_0).view.read (Elt F) f = f :=
  Memref.read_access_unit_zero (Elt F) main_v1_2
    (show (fun a => (win0_7.index t0_0) a * main_v1_2.ty.shape.size a) = fun _ => 0 from funext fun a => Nat.zero_mul _)
    (fun a => Nat.le_of_eq (by rw [show (win0_7.index t0_0) a = 0 from rfl, Nat.zero_mul, Nat.zero_add])) f
theorem rd8 (f : Buf (Elt F) ((c : Thread nD τ).loc main_v1_3)) : (win0_8.blk t0_0).view.read (Elt F) f = f :=
  Memref.read_access_unit_zero (Elt F) main_v1_3
    (show (fun a => (win0_8.index t0_0) a * main_v1_3.ty.shape.size a) = fun _ => 0 from funext fun a => Nat.zero_mul _)
    (fun a => Nat.le_of_eq (by rw [show (win0_8.index t0_0) a = 0 from rfl, Nat.zero_mul, Nat.zero_add])) f
theorem ib0 : iblk m c 0 t0_0 = V m c main_arg0 := rd0 c _
theorem ib1 : iblk m c 1 t0_0 = V m c main_v0 := rd1 c _
theorem ib2 : iblk m c 2 t0_0 = V m c main_arg2 := rd2 c _
theorem ib3 : iblk m c 3 t0_0 = V m c main_arg3 := rd3 c _
theorem ib4 : iblk m c 4 t0_0 = V m c main_arg4 := rd4 c _
theorem arr5 : (dats m 0 c).arrAt 5 cfg0.N = refH (V m c main_arg0) (V m c main_v0) (V m c main_arg2) (V m c main_arg3) (V m c main_arg4) := by
  have h := Cert.ReferenceIdeal.Value.blocks5 m c t0_0 (flush0_5 t0_0)
  rw [Cert.ReferenceIdeal.Value.flushed5_A, out5, ib0, ib1, ib2, ib3, ib4] at h
  exact ((rd5 c _).symm.trans h).trans (funext fun _ => rfl)
theorem arr6 : (dats m 0 c).arrAt 6 cfg0.N = refN (V m c main_arg2) (V m c main_arg4) := by
  have h := Cert.ReferenceIdeal.Value.blocks6 m c t0_0 (flush0_6 t0_0)
  rw [Cert.ReferenceIdeal.Value.flushed6_A, out6, ib2, ib4] at h
  exact ((rd6 c _).symm.trans h).trans (funext fun _ => rfl)
theorem arr7 : (dats m 0 c).arrAt 7 cfg0.N = k0_pay4 (V m c main_arg0) := by
  have h := Cert.ReferenceIdeal.Value.blocks7 m c t0_0 (flush0_7 t0_0)
  rw [Cert.ReferenceIdeal.Value.flushed7_A, out7, ib0] at h
  exact ((rd7 c _).symm.trans h).trans (funext fun _ => rfl)
theorem arr8 : (dats m 0 c).arrAt 8 cfg0.N = k0_pay5 (V m c main_arg0) := by
  have h := Cert.ReferenceIdeal.Value.blocks8 m c t0_0 (flush0_8 t0_0)
  rw [Cert.ReferenceIdeal.Value.flushed8_A, out8, ib0] at h
  exact ((rd8 c _).symm.trans h).trans (funext fun _ => rfl)

/-- The run: each result at its function of the arrays as the region finds them, the arguments unchanged. -/
theorem run : θ_run defs (onTc (τ := τ) (main (F := F))) ⟨m, fun _ => 0, ρ⟩ fun r => ∀ c : Dev nD,
      r.2.mem ((c : Thread nD τ).loc main_v1_0) = refH (V m c main_arg0) (V m c main_v0) (V m c main_arg2) (V m c main_arg3) (V m c main_arg4)
      ∧ r.2.mem ((c : Thread nD τ).loc main_v1_1) = refN (V m c main_arg2) (V m c main_arg4)
      ∧ r.2.mem ((c : Thread nD τ).loc main_v1_2) = k0_pay4 (V m c main_arg0)
      ∧ r.2.mem ((c : Thread nD τ).loc main_v1_3) = k0_pay5 (V m c main_arg0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (arr5 m c), (h c).2.1.trans (arr6 m c), (h c).2.2.1.trans (arr7 m c), (h c).2.2.2.1.trans (arr8 m c), (h c).2.2.2.2⟩)
    (Cert.ReferenceIdeal.Value.run_blocks m ρ)

end Cert.ReferenceIdeal.Val

end
-- ==== Proof.QuantAt.lean ====
module

public import proofs.«01_k».proof.Proof.ScalePow
public import proofs.«01_k».proof.Proof.KernelIdeal.Run
public import proofs.«01_k».proof.Proof.RefRun
public import Idealize.ShloMosaic.Lib.Pointwise

/-! The quantiser's values, kernel's and reference's, read at an index. -/

@[expose] public section

noncomputable section

namespace Cert.Val
open Idealize.ShloMosaic Cert.KernelIdeal.Hand

/-- Every magnitude stays below the bound. -/
abbrev Small (x : (⟨2, ![256, 3072]⟩ : Shape).Idx → EReal) : Prop := ∀ y, max (x y) (-(x y)) < (((2:ℝ) ^ (128:ℤ) : ℝ) : EReal)

abbrev row (x : (⟨2, ![256, 3072]⟩ : Shape).Idx → EReal) (i : Fin 256) (j : Fin 3072) : EReal := x (ix2 i j)

section K
open Cert.KernelIdeal Cert.KernelIdeal.Gen
variable (v : Vec Ideal S32x3072 .bf16) (i : Fin 32) (j : Fin 3072)

theorem k36 : k0_pay36 (F := Ideal) v (ix2 i 0) = ke (mx fun j => v (ix2 i j)) := by
  pointwise [k0_pay36, k0_pay35]
  rfl
theorem k37 : k0_pay37 (F := Ideal) v (ix2 i 0) = Ideal.ofBits FTy.f32 (IntOp.shli ArithUnit.vector (IntOp.addi (ke (mx fun j => v (ix2 i j))) 127#32) 23#32) := by
  rw [← k36]
  pointwise [k0_pay37]
theorem k39 : k0_pay39 (F := Ideal) (k0_pay35 v) (k0_pay36 v) k0_pay38 (ix2 i j) = min (Ideal.ofBits FTy.f32 1138753536#32) (max (Ideal.ofBits FTy.f32 3286237184#32)
    (v (ix2 i j) * Ideal.ofBits FTy.f32 (IntOp.shli ArithUnit.vector (IntOp.addi (IntOp.subi 0#32 (ke (mx fun j => v (ix2 i j)))) 127#32) 23#32))) := by
  rw [← k36]
  pointwise [k0_pay39, k0_pay35, k0_pay38]
theorem kC : qC (F := Ideal) v (ix2 i j) = k0_pay39 (F := Ideal) (k0_pay35 v) (k0_pay36 v) k0_pay38 (ix2 i j) := by
  pointwise [qC, k0_pay40]
theorem kD : qD (F := Ideal) v (ix2 i j) = k0_pay39 (F := Ideal) (k0_pay35 v) (k0_pay36 v) k0_pay38 (ix2 i j) * k0_pay37 (F := Ideal) v (ix2 i 0) := by
  pointwise [qD, k0_pay41]
theorem kS (l : Fin 128) : qS (F := Ideal) v (ix2 i l) = k0_pay37 (F := Ideal) v (ix2 i 0) := by
  pointwise [qS, k0_pay42]
end K

section R
open Cert.ReferenceIdeal Cert.ReferenceIdeal.Gen
variable (x : Vec Ideal S256x3072 .bf16) (i : Fin 256) (j : Fin 3072)
theorem r3 : k0_pay3 (F := Ideal) x (ix2 i 0) = rs (mx (row x i)) := by
  pointwise [k0_pay3, k0_pay2]
  rfl
theorem r4 : k0_pay4 (F := Ideal) x (ix2 i j) = min (Ideal.ofBits FTy.f32 1138753536#32) (max (Ideal.ofBits FTy.f32 3286237184#32) (Ideal.div (x (ix2 i j)) (k0_pay3 x (ix2 i 0)))) := by
  pointwise [k0_pay4, k0_pay2]
theorem r6 : k0_pay6 (F := Ideal) x (ix2 i j) = k0_pay4 x (ix2 i j) * k0_pay3 x (ix2 i 0) := by
  pointwise [k0_pay6]
theorem r5 : k0_pay5 (F := Ideal) x (ix2 0 i) = k0_pay3 x (ix2 i 0) := by
  pointwise [k0_pay5]
end R

theorem rows_at (x : (⟨2, ![256, 3072]⟩ : Shape).Idx → EReal) (i : Fin 256) (j : Fin 3072) :
    rowsAt (F := Ideal) x (32 * (i.val / 32)) (ix2 (n0 := 32) (n1 := 3072) ⟨i.val % 32, Nat.mod_lt _ (by norm_num)⟩ j) = row x i j := by
  refine congrArg x ?_
  rw [ix2_eq_valueIdx, ix2_eq_valueIdx]
  refine congrArg (fun r : Fin 256 => ValueIdx.ix2 (n0 := 256) (n1 := 3072) r j) (Fin.ext ?_)
  show (32 * (i.val / 32) + i.val % 32) % 256 = i.val
  omega

end Cert.Val

end
-- ==== Proof.QuantVal.lean ====
module

public import proofs.«01_k».proof.Proof.QuantAt

/-! The kernel's codes, scales and restored activations are the reference's, over the reals. -/

@[expose] public section

noncomputable section

namespace Cert.Val
open Idealize.ShloMosaic Cert.KernelIdeal.Hand
variable {x : (⟨2, ![256, 3072]⟩ : Shape).Idx → EReal} (hx : Small x)
include hx

/-- A row's scale. -/
theorem row_scale (i : Fin 256) : ∃ s : ℝ, 0 < s ∧ Ideal.ofBits FTy.f32 (IntOp.shli ArithUnit.vector (IntOp.addi (ke (mx (row x i))) 127#32) 23#32) = (s : EReal) ∧ rs (mx (row x i)) = (s : EReal)
      ∧ Ideal.ofBits FTy.f32 (IntOp.shli ArithUnit.vector (IntOp.addi (IntOp.subi 0#32 (ke (mx (row x i)))) 127#32) 23#32) = ((1 / s : ℝ) : EReal) :=
  let h := mx_range (f := row x i) (fun j => hx (ix2 i j))
  scale_eq h.1 h.2

theorem code_at (i : Fin 256) (j : Fin 3072) : Cert.KernelIdeal.Gen.k0_pay39 (F := Ideal) (Cert.KernelIdeal.Gen.k0_pay35 (rowsAt (F := Ideal) x (32 * (i.val / 32)))) (Cert.KernelIdeal.Gen.k0_pay36 (rowsAt (F := Ideal) x (32 * (i.val / 32)))) Cert.KernelIdeal.Gen.k0_pay38
    (ix2 (n0 := 32) (n1 := 3072) ⟨i.val % 32, Nat.mod_lt _ (by norm_num)⟩ j) = Cert.ReferenceIdeal.Gen.k0_pay4 (F := Ideal) x (ix2 i j) := by
  obtain ⟨s, h0, h1, h2, h3⟩ := row_scale hx i
  rw [k39, r4, r3, h2, Ideal.div_coe h0.ne', rows_at]
  rw [show (fun j => rowsAt (F := Ideal) x (32 * (i.val / 32)) (ix2 (n0 := 32) (n1 := 3072) ⟨i.val % 32, Nat.mod_lt _ (by norm_num)⟩ j)) = row x i from funext fun j => rows_at x i j, h3]

theorem scale_at (i : Fin 256) : Cert.KernelIdeal.Gen.k0_pay37 (F := Ideal) (rowsAt (F := Ideal) x (32 * (i.val / 32))) (ix2 (n0 := 32) (n1 := 1) ⟨i.val % 32, Nat.mod_lt _ (by norm_num)⟩ 0) = Cert.ReferenceIdeal.Gen.k0_pay3 (F := Ideal) x (ix2 i 0) := by
  obtain ⟨s, h0, h1, h2, h3⟩ := row_scale hx i
  rw [k37, r3, h2]
  rw [show (fun j => rowsAt (F := Ideal) x (32 * (i.val / 32)) (ix2 (n0 := 32) (n1 := 3072) ⟨i.val % 32, Nat.mod_lt _ (by norm_num)⟩ j)) = row x i from funext fun j => rows_at x i j, h1]

/-- The codes agree. -/
theorem codes_eq : codesOf (F := Ideal) x = Cert.ReferenceIdeal.Gen.k0_pay4 (F := Ideal) x := by
  funext y
  obtain ⟨i, j, rfl⟩ : ∃ (i : Fin 256) (j : Fin 3072), y = ix2 i j := ⟨y 0, y 1, eq_ix2 y⟩
  refine Eq.trans ?_ (code_at hx i j)
  refine Eq.trans ?_ (kC (rowsAt (F := Ideal) x (32 * (i.val / 32))) ⟨i.val % 32, Nat.mod_lt _ (by norm_num)⟩ j)
  unfold codesOf inRow
  rw [ix2_eq_valueIdx]
  rfl

/-- The restored activations agree. -/
theorem xd_eq : xdOf (F := Ideal) x = Cert.ReferenceIdeal.Gen.k0_pay6 (F := Ideal) x := by
  funext y
  obtain ⟨i, j, rfl⟩ : ∃ (i : Fin 256) (j : Fin 3072), y = ix2 i j := ⟨y 0, y 1, eq_ix2 y⟩
  rw [r6, ← code_at hx i j, ← scale_at hx i]
  refine Eq.trans ?_ (kD (rowsAt (F := Ideal) x (32 * (i.val / 32))) ⟨i.val % 32, Nat.mod_lt _ (by norm_num)⟩ j)
  unfold xdOf inRow
  rw [ix2_eq_valueIdx]
  rfl

/-- The scales agree. -/
theorem scales_eq : scOf (F := Ideal) x = Cert.ReferenceIdeal.Gen.k0_pay5 (F := Ideal) x := by
  funext y
  obtain ⟨o, i, rfl⟩ : ∃ (o : Fin 1) (i : Fin 256), y = ix2 o i := ⟨y 0, y 1, eq_ix2 y⟩
  obtain rfl : o = 0 := Subsingleton.elim _ _
  rw [r5, ← scale_at hx i]
  refine Eq.trans ?_ (kS (rowsAt (F := Ideal) x (32 * (i.val / 32))) ⟨i.val % 32, Nat.mod_lt _ (by norm_num)⟩ 0)
  unfold scOf scbOf inRow
  rw [ix2_eq_valueIdx]
  rfl

/-- The restored activations are real numbers. -/
theorem xd_real : ∃ d : Fin 256 → Fin 3072 → ℝ, ∀ i j, Cert.ReferenceIdeal.Gen.k0_pay6 (F := Ideal) x (ix2 i j) = (d i j : EReal) := by
  have : ∀ i j, ∃ r : ℝ, Cert.ReferenceIdeal.Gen.k0_pay6 (F := Ideal) x (ix2 i j) = (r : EReal) := fun i j => by
    obtain ⟨s, h0, h1, h2, h3⟩ := row_scale hx i
    rw [r6, r4, r3, h2, Ideal.div_coe h0.ne']
    have hr := hx (ix2 i j)
    generalize x (ix2 i j) = a at hr
    have e1 : Ideal.ofBits FTy.f32 1138753536#32 = (((2 ^ 23 + 6291456 : ℕ) * (2:ℝ) ^ ((135 : ℕ) - 150 : ℤ) : ℝ) : EReal) := of_fields (by decide) (by decide) (by decide) (by norm_num) (by norm_num)
    have e2 : ∃ r : ℝ, Ideal.ofBits FTy.f32 3286237184#32 = (r : EReal) := by
      refine ⟨(((if (((3286237184#32).extractLsb' 31 1 == 1#1) : Bool) = true then (-1 : ℝ) else 1) * (2 ^ 23 + ((3286237184#32).extractLsb' 0 23).toNat : ℕ)) * (2 : ℝ) ^ ((((3286237184#32).extractLsb' 23 8).toNat : ℤ) - (2 ^ 7 - 1) - 23)), ?_⟩
      rw [ofb]
      unfold Ideal.ieee
      simp only [Nat.reduceAdd, Nat.reducePow, Nat.reduceSub]
      rw [if_neg (by decide), if_neg (by decide)]
      norm_num
    obtain ⟨l, hl⟩ := e2
    rw [e1, hl]
    induction a using EReal.rec with
    | bot => exact absurd hr (by simp)
    | top => exact absurd hr (by simp)
    | coe a =>
    rw [← EReal.coe_mul, ← EReal.coe_strictMono.monotone.map_max, ← EReal.coe_strictMono.monotone.map_min, ← EReal.coe_mul]
    exact ⟨_, rfl⟩
  choose d hd using this
  exact ⟨d, hd⟩

omit hx
/-- The counts agree. -/
theorem counts_eq (cn : Cert.KernelIdeal.S6.Idx → BitVec 32) (off : Cert.KernelIdeal.S7.Idx → BitVec 32) : coOf (F := Ideal) cn off = Cert.ReferenceIdeal.Val.refN (F := Ideal) off cn := by
  funext y
  have e0 : (y 0).val < 6 := (y 0).isLt
  have h0 : at1 (F := Ideal) (n := 6) (by norm_num) cn (y 0).val = cn y := by
    refine congrArg cn (funext fun a => ?_)
    match a with
    | ⟨0, _⟩ => exact Fin.ext (Nat.mod_eq_of_lt e0)
  have h1 : at1 (F := Ideal) (n := 7) (by norm_num) off ((y 0).val + 1) = off (ValueIdx.ix1 ⟨(y 0).val + 1, Nat.succ_lt_succ (y 0).isLt⟩) :=
    congrArg (fun r : Fin 7 => off (ValueIdx.ix1 r)) (Fin.ext (Nat.mod_eq_of_lt (by omega)))
  have h2 : at1 (F := Ideal) (n := 7) (by norm_num) off (y 0).val = off (ValueIdx.ix1 ⟨(y 0).val, Nat.lt_trans (y 0).isLt (by decide)⟩) :=
    congrArg (fun r : Fin 7 => off (ValueIdx.ix1 r)) (Fin.ext (Nat.mod_eq_of_lt (by omega)))
  unfold coOf Cert.ReferenceIdeal.Val.refN
  rw [h0, h1, h2]
  show (_ + _ - _ : BitVec 32) = _ + (_ - _)
  rw [BitVec.sub_eq_add_neg, BitVec.sub_eq_add_neg, BitVec.add_assoc]

end Cert.Val

end
-- ==== Proof.Tile.lean ====
module

public import proofs.«01_k».proof.Proof.KernelIdeal.Run
public import Idealize.ShloMosaic.Lib.Pointwise

/-! Each block of the kernel's new Hessian, an element at a time, over the reals. -/

@[expose] public section

noncomputable section

namespace Cert.Val
open Idealize.ShloMosaic Cert.KernelIdeal Cert.KernelIdeal.Gen Cert.KernelIdeal.Hand

section Pay
variable (a : Vec Ideal S128x256 .bf16) (i : Fin 128)
theorem p18 (b w m0 m1) (j : Fin 512) : k0_pay18 (F := Ideal) a b w m0 m1 (ValueIdx.ix2 i j) = w (ValueIdx.ix3 0 i j) * m0 (ValueIdx.ix2 0 j) + m1 (ValueIdx.ix2 0 j) * ∑ k : Fin 256, a (ValueIdx.ix2 i k) * b (ValueIdx.ix2 k j) := by
  simp only [← ix2_eq_valueIdx, ← ix3_eq_valueIdx]
  pointwise [k0_pay18]
theorem p5 (b w m0 m1) (j : Fin 512) : k0_pay5 (F := Ideal) a b w m0 m1 (ValueIdx.ix2 i j) = w (ValueIdx.ix3 0 i j) * m0 (ValueIdx.ix2 0 j) + m1 (ValueIdx.ix2 0 j) * ∑ k : Fin 256, a (ValueIdx.ix2 i k) * b (ValueIdx.ix2 k j) := by
  simp only [← ix2_eq_valueIdx, ← ix3_eq_valueIdx]
  pointwise [k0_pay5]
theorem p9 (b w m0 m1) (j : Fin 384) : k0_pay9 (F := Ideal) (k0_pay8 a b) w m0 m1 (ValueIdx.ix2 i j) = w (ValueIdx.ix3 0 i j) * m0 (ValueIdx.ix2 0 j) + m1 (ValueIdx.ix2 0 j) * ∑ k : Fin 256, a (ValueIdx.ix2 i k) * b (ValueIdx.ix2 k j) := by
  simp only [← ix2_eq_valueIdx, ← ix3_eq_valueIdx]
  pointwise [k0_pay9, k0_pay8]
theorem p14 (b w m0 m1) (j : Fin 256) : k0_pay14 (F := Ideal) (k0_pay13 a b) w m0 m1 (ValueIdx.ix2 i j) = w (ValueIdx.ix3 0 i j) * m0 (ValueIdx.ix2 0 j) + m1 (ValueIdx.ix2 0 j) * ∑ k : Fin 256, a (ValueIdx.ix2 i k) * b (ValueIdx.ix2 k j) := by
  simp only [← ix2_eq_valueIdx, ← ix3_eq_valueIdx]
  pointwise [k0_pay14, k0_pay13]
theorem p17 (b w m0 m1) (j : Fin 128) : k0_pay17 (F := Ideal) a b w m0 m1 (ValueIdx.ix2 i j) = w (ValueIdx.ix3 0 i j) * m0 (ValueIdx.ix2 0 j) + m1 (ValueIdx.ix2 0 j) * ∑ k : Fin 256, a (ValueIdx.ix2 i k) * b (ValueIdx.ix2 k j) := by
  simp only [← ix2_eq_valueIdx, ← ix3_eq_valueIdx]
  pointwise [k0_pay17]
end Pay

abbrev f512 (n : ℕ) : Fin 512 := ⟨n % 512, Nat.mod_lt _ (by norm_num)⟩
abbrev f3072 (n : ℕ) : Fin 3072 := ⟨n % 3072, Nat.mod_lt _ (by norm_num)⟩

section Block
variable (xt : S3072x256.Idx → EReal) (cx : S256x3072.Idx → EReal) (mu : S2x512.Idx → EReal) (I J : ℕ) (hb : S512x512.Idx → EReal)

/-- Row `r`, column `s` of block `(I, J)`: the old element and the new product, weighted. -/
def bl (r s : ℕ) : EReal :=
  hb (ValueIdx.ix2 (f512 r) (f512 s)) * mu (ValueIdx.ix2 (n0 := 2) 0 (f512 s)) + mu (ValueIdx.ix2 (n0 := 2) 1 (f512 s))
    * ∑ k : Fin 256, xt (ValueIdx.ix2 (f3072 (512 * I + r)) k) * cx (ValueIdx.ix2 k (f3072 (512 * J + s)))

theorem tO_bl (a : ℕ) (p : Fin 128) (q : Fin 512) : tO (F := Ideal) xt cx mu I J hb a (ValueIdx.ix2 p q) = bl xt cx mu I J hb (128 * a + p.val) q.val := by
  refine (p18 _ _ _ _ _ _ _).trans ?_
  unfold bl
  show hb (ValueIdx.ix2 (f512 (128 * a + p.val)) (f512 (0 + q.val))) * mu (ValueIdx.ix2 (n0 := 2) 0 (f512 (0 + q.val))) + mu (ValueIdx.ix2 (n0 := 2) 1 (f512 (0 + q.val)))
    * ∑ k : Fin 256, xt (ValueIdx.ix2 (f3072 (512 * I + 128 * a + p.val)) k) * cx (ValueIdx.ix2 k (f3072 (512 * J + q.val))) = _
  simp only [Nat.zero_add, Nat.add_assoc]
theorem tD0_bl (p : Fin 128) (q : Fin 512) : tD0 (F := Ideal) xt cx mu I J hb (ValueIdx.ix2 p q) = bl xt cx mu I J hb p.val q.val := by
  refine (p5 _ _ _ _ _ _ _).trans ?_
  unfold bl
  show hb (ValueIdx.ix2 (f512 (0 + p.val)) (f512 (0 + q.val))) * mu (ValueIdx.ix2 (n0 := 2) 0 (f512 (0 + q.val))) + mu (ValueIdx.ix2 (n0 := 2) 1 (f512 (0 + q.val)))
    * ∑ k : Fin 256, xt (ValueIdx.ix2 (f3072 (512 * I + 0 + p.val)) k) * cx (ValueIdx.ix2 k (f3072 (512 * J + q.val))) = _
  simp only [Nat.zero_add, Nat.add_assoc]
theorem tD1_bl (p : Fin 128) (q : Fin 384) : tD1 (F := Ideal) xt cx mu I J hb (ValueIdx.ix2 p q) = bl xt cx mu I J hb (128 + p.val) (128 + q.val) := by
  refine (p9 _ _ _ _ _ _ _).trans ?_
  unfold bl
  show hb (ValueIdx.ix2 (f512 (128 + p.val)) (f512 (128 + q.val))) * mu (ValueIdx.ix2 (n0 := 2) 0 (f512 (128 + q.val))) + mu (ValueIdx.ix2 (n0 := 2) 1 (f512 (128 + q.val)))
    * ∑ k : Fin 256, xt (ValueIdx.ix2 (f3072 (512 * I + 128 + p.val)) k) * cx (ValueIdx.ix2 k (f3072 (512 * J + 128 + q.val))) = _
  simp only [Nat.add_assoc]
theorem tD2_bl (p : Fin 128) (q : Fin 256) : tD2 (F := Ideal) xt cx mu I J hb (ValueIdx.ix2 p q) = bl xt cx mu I J hb (256 + p.val) (256 + q.val) := by
  refine (p14 _ _ _ _ _ _ _).trans ?_
  unfold bl
  show hb (ValueIdx.ix2 (f512 (256 + p.val)) (f512 (256 + q.val))) * mu (ValueIdx.ix2 (n0 := 2) 0 (f512 (256 + q.val))) + mu (ValueIdx.ix2 (n0 := 2) 1 (f512 (256 + q.val)))
    * ∑ k : Fin 256, xt (ValueIdx.ix2 (f3072 (512 * I + 256 + p.val)) k) * cx (ValueIdx.ix2 k (f3072 (512 * J + 256 + q.val))) = _
  simp only [Nat.add_assoc]
theorem tD3_bl (p : Fin 128) (q : Fin 128) : tD3 (F := Ideal) xt cx mu I J hb (ValueIdx.ix2 p q) = bl xt cx mu I J hb (384 + p.val) (384 + q.val) := by
  refine (p17 _ _ _ _ _ _ _).trans ?_
  unfold bl
  show hb (ValueIdx.ix2 (f512 (384 + p.val)) (f512 (384 + q.val))) * mu (ValueIdx.ix2 (n0 := 2) 0 (f512 (384 + q.val))) + mu (ValueIdx.ix2 (n0 := 2) 1 (f512 (384 + q.val)))
    * ∑ k : Fin 256, xt (ValueIdx.ix2 (f3072 (512 * I + 384 + p.val)) k) * cx (ValueIdx.ix2 k (f3072 (512 * J + 384 + q.val))) = _
  simp only [Nat.add_assoc]

theorem upD_bl {r q : ℕ} (hr : r < 512) (hq : q < 512) (h : 128 * (r / 128) ≤ q) : upD (F := Ideal) xt cx mu I J hb r q = bl xt cx mu I J hb r q := by
  obtain h0 | h0 | h0 | h0 : r / 128 = 0 ∨ r / 128 = 1 ∨ r / 128 = 2 ∨ r / 128 = 3 := by omega
  · rw [upD0 (F := Ideal) (⟨r, by omega⟩ : Fin 128) (⟨q, by omega⟩ : Fin 512) rfl rfl, tD0_bl]
  · rw [upD1 (F := Ideal) (⟨r - 128, by omega⟩ : Fin 128) (⟨q - 128, by omega⟩ : Fin 384) (by dsimp only; omega) (by dsimp only; omega), tD1_bl]
    dsimp only
    rw [show 128 + (r - 128) = r by omega, show 128 + (q - 128) = q by omega]
  · rw [upD2 (F := Ideal) (⟨r - 256, by omega⟩ : Fin 128) (⟨q - 256, by omega⟩ : Fin 256) (by dsimp only; omega) (by dsimp only; omega), tD2_bl]
    dsimp only
    rw [show 256 + (r - 256) = r by omega, show 256 + (q - 256) = q by omega]
  · rw [upD3 (F := Ideal) (⟨r - 384, by omega⟩ : Fin 128) (⟨q - 384, by omega⟩ : Fin 128) (by dsimp only; omega) (by dsimp only; omega), tD3_bl]
    dsimp only
    rw [show 384 + (r - 384) = r by omega, show 384 + (q - 384) = q by omega]

theorem CTD_bl (hs : ∀ r s, r < 512 → s < 512 → bl xt cx mu I J hb r s = bl xt cx mu I J hb s r) (x : S512x512.Idx) : CTD (F := Ideal) xt cx mu I J hb x = bl xt cx mu I J hb (x 0).val (x 1).val := by
  have h0 : (x 0).val < 512 := (x 0).isLt
  have h1 : (x 1).val < 512 := (x 1).isLt
  unfold CTD
  split_ifs with h
  · exact upD_bl _ _ _ _ _ _ h0 h1 h
  · exact (upD_bl _ _ _ _ _ _ h1 h0 (by omega)).trans (hs _ _ h1 h0)

theorem CTO_bl (x : S512x512.Idx) : CTO (F := Ideal) xt cx mu I J hb x = bl xt cx mu I J hb (x 0).val (x 1).val := by
  unfold CTO
  refine (tO_bl xt cx mu I J hb _ _ (x 1)).trans ?_
  dsimp only
  rw [Nat.div_add_mod]

end Block

section All
variable (xd : S256x3072.Idx → EReal) (cxs : ℕ → S256x3072.Idx → EReal) (mus : ℕ → S2x512.Idx → EReal) (h0 : S6x3072x3072.Idx → EReal)

/-- The new element of expert `e` at `(a, b)`. -/
def nw (w0 w1 : ℕ → EReal) (e a b : ℕ) : EReal :=
  h0 (ValueIdx.ix3 (⟨e % 6, Nat.mod_lt _ (by norm_num)⟩ : Fin 6) (f3072 a) (f3072 b)) * w0 e + w1 e * ∑ k : Fin 256, xd (ValueIdx.ix2 k (f3072 a)) * cxs e (ValueIdx.ix2 k (f3072 b))

variable {xd cxs mus h0} {w0 w1 : ℕ → EReal} (hm0 : ∀ e j, mus e (ValueIdx.ix2 (n0 := 2) 0 j) = w0 e) (hm1 : ∀ e j, mus e (ValueIdx.ix2 (n0 := 2) 1 j) = w1 e)
include hm0 hm1

theorem bl_nw (t : ℕ) {r s : ℕ} (hr : r < 512) (hs : s < 512) : bl (xdtOf (F := Ideal) xd) (cxs (eOf t)) (mus (eOf t)) (iOf t) (jOf t) (HB (F := Ideal) h0 t) r s
    = nw xd cxs h0 w0 w1 (eOf t) (512 * iOf t + r) (512 * jOf t + s) := by
  unfold bl nw
  rw [hm0, hm1]
  show h0 (ValueIdx.ix3 (⟨eOf t % 6, Nat.mod_lt _ (by norm_num)⟩ : Fin 6) (f3072 (512 * iOf t + r % 512)) (f3072 (512 * jOf t + s % 512))) * w0 (eOf t) + _ = _
  rw [Nat.mod_eq_of_lt hr, Nat.mod_eq_of_lt hs]
  rfl

variable (hsym : ∀ e a b, nw xd cxs h0 w0 w1 e a b = nw xd cxs h0 w0 w1 e b a)
include hsym

theorem CT_nw (t : ℕ) (x : S512x512.Idx) : CT (F := Ideal) (xdtOf (F := Ideal) xd) cxs mus h0 t x = nw xd cxs h0 w0 w1 (eOf t) (512 * iOf t + (x 0).val) (512 * jOf t + (x 1).val) := by
  have e0 : (x 0).val < 512 := (x 0).isLt
  have e1 : (x 1).val < 512 := (x 1).isLt
  unfold CT
  split_ifs with h
  · have hij : iOf t = jOf t := by
      have h' : (t % 21) / 6 = 0 := h
      unfold iOf jOf
      rw [h', Nat.add_zero, Nat.mod_mod]
    rw [CTD_bl _ _ _ _ _ _ (fun r s hr hs => by rw [bl_nw hm0 hm1 t hr hs, bl_nw hm0 hm1 t hs hr, hij]; exact hsym _ _ _), bl_nw hm0 hm1 t e0 e1]
  · rw [CTO_bl, bl_nw hm0 hm1 t e0 e1]

/-- The kernel's whole new Hessian, an element at a time. -/
theorem gOf_nw (y : S6x3072x3072.Idx) : gOf (F := Ideal) (xdtOf (F := Ideal) xd) cxs mus h0 y = nw xd cxs h0 w0 w1 (y 0).val (y 1).val (y 2).val := by
  have e0 : (y 0).val < 6 := (y 0).isLt
  have e1 : (y 1).val < 3072 := (y 1).isLt
  have e2 : (y 2).val < 3072 := (y 2).isLt
  unfold gOf
  split_ifs with hd
  · obtain ⟨a, b, d, e⟩ := st2 ⟨(y 0).val, e0⟩ ⟨(y 1).val / 512, by omega⟩ ⟨(y 2).val / 512, by omega⟩ hd
    dsimp only at a b d e
    rw [CT_nw hm0 hm1 hsym, b, d, e]
    show nw xd cxs h0 w0 w1 _ (512 * ((y 1).val / 512) + (y 1).val % 512) (512 * ((y 2).val / 512) + (y 2).val % 512) = _
    rw [Nat.div_add_mod, Nat.div_add_mod]
  · obtain ⟨hd', -⟩ := st3 ⟨(y 0).val, e0⟩ ⟨(y 1).val / 512, by omega⟩ ⟨(y 2).val / 512, by omega⟩ hd
    obtain ⟨a, b, d, e⟩ := st2 ⟨(y 0).val, e0⟩ ⟨(y 2).val / 512, by omega⟩ ⟨(y 1).val / 512, by omega⟩ hd'
    dsimp only at a b d e
    rw [CT_nw hm0 hm1 hsym, b, d, e]
    show nw xd cxs h0 w0 w1 _ (512 * ((y 2).val / 512) + (y 2).val % 512) (512 * ((y 1).val / 512) + (y 1).val % 512) = _
    rw [Nat.div_add_mod, Nat.div_add_mod, hsym]

end All

end Cert.Val

end
-- ==== Proof.Gram.lean ====
module

public import proofs.«01_k».proof.Proof.Tile
public import proofs.«01_k».proof.Proof.RefVal
public import Idealize.ShloMosaic.Lib.Pointwise

/-! The kernel's new Hessians are the reference's, over the reals: routed rows counted by token, against routed rows one by one. -/

@[expose] public section

noncomputable section

namespace Cert.Val
open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem andi_iff (a b : BitVec 1) : IntOp.andi a b = 1#1 ↔ a = 1#1 ∧ b = 1#1 := by revert a b; decide
theorem ofBool_iff (b : Bool) : BitVec.ofBool b = 1#1 ↔ b = true := by revert b; decide
theorem sge_iff (x y : BitVec 32) : IntOp.cmpi .sge x y = 1#1 ↔ y.toInt ≤ x.toInt := (ofBool_iff _).trans decide_eq_true_iff
theorem slt_iff (x y : BitVec 32) : IntOp.cmpi .slt x y = 1#1 ↔ x.toInt < y.toInt := (ofBool_iff _).trans decide_eq_true_iff
theorem eq_iff (x y : BitVec 32) : IntOp.cmpi .eq x y = 1#1 ↔ x = y := (ofBool_iff _).trans beq_iff_eq

/-- The rows an expert keeps: its own, cut after a fixed number. -/
def Keep (lo hi : BitVec 32) (r : ℕ) : Prop :=
  lo.toInt ≤ (BitVec.ofNat 32 r).toInt ∧ (BitVec.ofNat 32 r).toInt < hi.toInt ∧ (BitVec.ofNat 32 r).toInt < (Scalar.addi (Scalar.minsi lo 683#32) 341#32).toInt
instance (lo hi : BitVec 32) (r : ℕ) : Decidable (Keep lo hi r) := inferInstanceAs (Decidable (_ ∧ _))

theorem keep_ref (lo hi : BitVec 32) (r : ℕ) :
    IntOp.andi (IntOp.andi (IntOp.cmpi .sge (BitVec.ofNat 32 r) lo) (IntOp.cmpi .slt (BitVec.ofNat 32 r) hi)) (IntOp.cmpi .slt (BitVec.ofNat 32 r) (Scalar.addi (Scalar.minsi lo 683#32) 341#32)) = 1#1
      ↔ Keep lo hi r := by
  rw [andi_iff, andi_iff, sge_iff, slt_iff, slt_iff, and_assoc]; rfl

theorem keep_ker (lo hi : BitVec 32) (r : ℕ) :
    IntOp.andi (IntOp.cmpi .sge (BitVec.ofNat 32 r) lo) (IntOp.cmpi .slt (BitVec.ofNat 32 r) (Scalar.minsi hi (Scalar.addi (Scalar.minsi lo 683#32) 341#32))) = 1#1
      ↔ Keep lo hi r := by
  rw [andi_iff, sge_iff, slt_iff]
  unfold Keep
  generalize Scalar.addi (Scalar.minsi lo 683#32) 341#32 = X
  have h : (Scalar.minsi hi X).toInt = min hi.toInt X.toInt := by
    show (if hi.slt X then hi else X).toInt = _
    by_cases h : hi.toInt < X.toInt
    · rw [if_pos (show hi.slt X = true from decide_eq_true h), min_eq_left h.le]
    · rw [if_neg (fun h' : hi.slt X = true => h (of_decide_eq_true h')), min_eq_right (not_lt.1 h)]
  rw [h, lt_min_iff]

/-- Row `x` of group `i`. -/
def ri (i : Fin 8) (x : Fin 128) : Fin 1024 := ⟨128 * i.val + x.val, by omega⟩

/-- Of a row, one if it is kept and holds the token. -/
def hit (lo hi : BitVec 32) (tok : Fin 1024 → BitVec 32) (r : Fin 1024) (t : Fin 256) : ℝ := if Keep lo hi r.val ∧ tok r = BitVec.ofNat 32 t.val then 1 else 0
/-- How many kept rows hold the token. -/
def mult (lo hi : BitVec 32) (tok : Fin 1024 → BitVec 32) (t : Fin 256) : ℝ := ∑ r, hit lo hi tok r t

/-- A one-hot row picks the product of what it picks. -/
theorem pick {P : Fin 256 → Prop} [DecidablePred P] (hP : ∀ t t', P t → P t' → t = t') (a b : Fin 256 → ℝ) :
    (∑ t, (if P t then (1:ℝ) else 0) * a t) * (∑ t, (if P t then (1:ℝ) else 0) * b t) = ∑ t, (if P t then (1:ℝ) else 0) * (a t * b t) := by
  by_cases h : ∃ t0, P t0
  · obtain ⟨t0, h0⟩ := h
    have e : ∀ f : Fin 256 → ℝ, ∑ t, (if P t then (1:ℝ) else 0) * f t = f t0 := fun f => by
      rw [Finset.sum_eq_single t0 (fun t _ ht => by rw [if_neg (fun h => ht (hP t t0 h h0)), zero_mul]) (fun h => absurd (Finset.mem_univ _) h), if_pos h0, one_mul]
    rw [e, e, e]
  · have e : ∀ f : Fin 256 → ℝ, ∑ t, (if P t then (1:ℝ) else 0) * f t = 0 := fun f =>
      Finset.sum_eq_zero fun t _ => by rw [if_neg (fun h' => h ⟨t, h'⟩), zero_mul]
    rw [e, e, e, zero_mul]

theorem gram (lo hi : BitVec 32) (tok : Fin 1024 → BitVec 32) (a b : Fin 256 → ℝ) :
    ∑ t, a t * (b t * mult lo hi tok t) = ∑ r : Fin 1024, if Keep lo hi r.val then (∑ t : Fin 256, (if tok r = BitVec.ofNat 32 t.val then (1:ℝ) else 0) * a t) * (∑ t : Fin 256, (if tok r = BitVec.ofNat 32 t.val then (1:ℝ) else 0) * b t) else 0 := by
  have h : ∀ r : Fin 1024, (if Keep lo hi r.val then (∑ t : Fin 256, (if tok r = BitVec.ofNat 32 t.val then (1:ℝ) else 0) * a t) * (∑ t : Fin 256, (if tok r = BitVec.ofNat 32 t.val then (1:ℝ) else 0) * b t) else 0)
      = ∑ t, hit lo hi tok r t * (a t * b t) := fun r => by
    unfold hit
    split_ifs with hk
    · rw [pick (P := fun t : Fin 256 => tok r = BitVec.ofNat 32 t.val) (fun t t' h h' => by
        have e := congrArg BitVec.toNat (h.symm.trans h')
        simp only [BitVec.toNat_ofNat] at e
        exact Fin.ext (by omega))]
      exact Finset.sum_congr rfl fun t _ => by simp only [hk, true_and]
    · exact (Finset.sum_eq_zero fun t _ => by rw [if_neg (fun h => hk h.1), zero_mul]).symm
  rw [Finset.sum_congr rfl (fun r _ => h r), Finset.sum_comm]
  refine Finset.sum_congr rfl fun t _ => ?_
  unfold mult
  rw [← Finset.sum_mul]
  ring

/-! ## The kernel's weights -/

section K
open Cert.KernelIdeal Cert.KernelIdeal.Gen Cert.KernelIdeal.Hand
variable {lo hi : BitVec 32} {rt : S8x128.Idx → BitVec 32} {tok : Fin 1024 → BitVec 32} (hrt : ∀ (i : Fin 8) (x : Fin 128), rt (ix2 i x) = tok (ri i x))
include hrt

theorem sel_hit (i : Fin 8) (x : Fin 128) (t : Fin 256) :
    Scalar.select (IntOp.cmpi CmpIPredicate.eq (k0_pay1 (F := Ideal) lo hi rt (ix2 i x)) (BitVec.ofNat 32 t.val)) (1 : EReal) 0 = ((hit lo hi tok (ri i x) t : ℝ) : EReal) := by
  have e : k0_pay1 (F := Ideal) lo hi rt (ix2 i x) = if Keep lo hi (128 * i.val + x.val) then tok (ri i x) else 4294967295#32 := by
    pointwise [k0_pay1]
    rw [hrt]
    have hw : IntOp.addi (IntOp.muli (BitVec.ofNat 32 i.val) 128#32) (BitVec.ofNat 32 x.val) = BitVec.ofNat 32 (128 * i.val + x.val) := by
      show BitVec.ofNat 32 i.val * BitVec.ofNat 32 128 + BitVec.ofNat 32 x.val = _
      rw [← BitVec.ofNat_mul, ← BitVec.ofNat_add, Nat.mul_comm]
    rw [hw]
    exact if_congr (keep_ker _ _ _) rfl rfl
  rw [e]
  unfold hit
  rw [show (ri i x).val = 128 * i.val + x.val from rfl]
  have hne : (4294967295#32 : BitVec 32) ≠ BitVec.ofNat 32 t.val := fun h => by
    have := congrArg BitVec.toNat h
    simp only [BitVec.toNat_ofNat] at this
    omega
  show (if _ = 1#1 then (1 : EReal) else 0) = _
  simp only [eq_iff]
  by_cases hk : Keep lo hi (128 * i.val + x.val)
  · rw [if_pos hk]
    simp only [hk, true_and]
    split_ifs <;> rfl
  · rw [if_neg hk, if_neg hne, if_neg (fun h => hk h.1)]
    rfl

theorem pay4_mult (xd : S256x3072.Idx → EReal) (t : Fin 256) (q : Fin 3072) :
    k0_pay4 (F := Ideal) (k0_pay1 (F := Ideal) lo hi rt) (iota .tc S256x128 32 [0] iota_S256x128_d0_w32) (k0_pay2 (F := Ideal) lo hi rt) (k0_pay3 (F := Ideal) lo hi rt) xd (ix2 t q)
      = xd (ix2 t q) * ((mult lo hi tok t : ℝ) : EReal) := by
  pointwise [k0_pay4, k0_pay2, k0_pay3]
  simp only [sel_hit hrt]
  have e : mult lo hi tok t = ∑ x : Fin 128, (hit lo hi tok (ri 0 x) t + hit lo hi tok (ri 1 x) t + hit lo hi tok (ri 2 x) t
      + hit lo hi tok (ri 3 x) t + hit lo hi tok (ri 4 x) t + hit lo hi tok (ri 5 x) t
      + hit lo hi tok (ri 6 x) t + hit lo hi tok (ri 7 x) t) := by
    unfold mult
    rw [← (finProdFinEquiv (m := 8) (n := 128)).sum_comp (fun r => hit lo hi tok r t), Fintype.sum_prod_type, Finset.sum_comm]
    refine Finset.sum_congr rfl fun x _ => ?_
    rw [Fin.sum_univ_eight]
    have c : ∀ i : Fin 8, finProdFinEquiv (m := 8) (n := 128) (i, x) = (ri i x) := fun i => Fin.ext (Nat.add_comm _ _)
    simp only [c]
  rw [e, coe_sum]
  simp only [EReal.coe_add]
end K

/-! ## The reference's rows -/

section R
open Cert.ReferenceIdeal Cert.ReferenceIdeal.Gen
theorem rows_ref (x : FVec Ideal S256x3072 .bf16) (x1 : S1024x1.Idx → BitVec 32) (d : Fin 256 → Fin 3072 → ℝ) (hd : ∀ i j, x (ix2 i j) = (d i j : EReal)) (r : Fin 1024) (q : Fin 3072) :
    k0_pay8 (F := Ideal) x (k0_pay7 (F := Ideal) x1) (ix2 r q) = ((∑ t : Fin 256, (if x1 (ix2 r 0) = BitVec.ofNat 32 t.val then (1:ℝ) else 0) * d t q : ℝ) : EReal) := by
  have e7 : ∀ t : Fin 256, k0_pay7 (F := Ideal) x1 (ix2 r t) = IntOp.cmpi CmpIPredicate.eq (x1 (ix2 r 0)) (BitVec.ofNat 32 t.val) := fun t => by
    pointwise [k0_pay7]
  pointwise [k0_pay8]
  rw [coe_sum]
  refine Finset.sum_congr rfl fun t _ => ?_
  rw [e7, hd, EReal.coe_mul]
  congr 1
  show (((BitVec.setWidth 32 (IntOp.cmpi CmpIPredicate.eq (x1 (ix2 r 0)) (BitVec.ofNat 32 t.val))).toInt : ℝ) : EReal) = _
  by_cases h : x1 (ix2 r 0) = BitVec.ofNat 32 t.val
  · rw [if_pos h, (eq_iff _ _).2 h]; norm_num
  · have h0 : IntOp.cmpi CmpIPredicate.eq (x1 (ix2 r 0)) (BitVec.ofNat 32 t.val) = 0#1 := by
      have := mt (eq_iff _ _).1 h
      revert this
      generalize IntOp.cmpi CmpIPredicate.eq (x1 (ix2 r 0)) (BitVec.ofNat 32 t.val) = b
      revert b; decide
    rw [if_neg h, h0]; norm_num

theorem one_ref (rows : FVec Ideal S1024x3072 .bf16) (lo hi n : BitVec 32) (h : S1x3072x3072.Idx → EReal) (i j : Fin 3072) :
    Cert.ReferenceIdeal.Val.oneH (F := Ideal) rows lo hi n h (ix3 0 i j) = h (ix3 0 i j) * Ideal.div ((n.toInt : ℝ) : EReal) (((Scalar.addi n (Scalar.subi hi lo)).toInt : ℝ) : EReal) +
      Ideal.div (Ideal.ofBits FTy.f32 1073741824#32) (((Scalar.addi n (Scalar.subi hi lo)).toInt : ℝ) : EReal) * ∑ r : Fin 1024, if Keep lo hi r.val then rows (ix2 r i) * rows (ix2 r j) else 0 := by
  pointwise [Cert.ReferenceIdeal.Val.oneH, k0_pay10]
  congr 2
  refine Finset.sum_congr rfl fun r _ => ?_
  show (if _ = 1#1 then (if _ = 1#1 then _ else _) else _) = _
  simp only [keep_ref]
  split_ifs <;> rfl
end R

end Cert.Val

end
-- ==== Proof.Hout.lean ====
module

public import proofs.«01_k».proof.Proof.QuantVal
public import proofs.«01_k».proof.Proof.Gram

/-! The kernel's new Hessians are the reference's, over the reals. -/

@[expose] public section

noncomputable section

namespace Cert.Val
open Idealize.ShloMosaic Cert.KernelIdeal.Hand

section Mu
open Cert.KernelIdeal Cert.KernelIdeal.Gen
variable (cn co : S6.Idx → BitVec 32) (e : ℕ) (j : Fin 512)
/-- The weight of what was there. -/
def w0 (cn co : S6.Idx → BitVec 32) (e : ℕ) : EReal := Ideal.div (((at1 (F := Ideal) (n := 6) (by norm_num) cn e : BitVec 32).toInt : ℝ) : EReal) (((at1 (F := Ideal) (n := 6) (by norm_num) co e : BitVec 32).toInt : ℝ) : EReal)
/-- The weight of the new product. -/
def w1 (co : S6.Idx → BitVec 32) (e : ℕ) : EReal := Ideal.div (Ideal.ofBits FTy.f32 1073741824#32) (((at1 (F := Ideal) (n := 6) (by norm_num) co e : BitVec 32).toInt : ℝ) : EReal)

theorem mu_0 : muOf (F := Ideal) cn co e (ValueIdx.ix2 (n0 := 2) 0 j) = w0 cn co e := by
  unfold muOf
  rw [if_neg (by show ¬ (0 : ℕ) = 1; omega)]
  show k0_pay33 (F := Ideal) _ _ (ValueIdx.ix2 0 j) = _
  rw [← ix2_eq_valueIdx]
  pointwise [k0_pay33, k0_pay32]
  rfl
theorem mu_1 : muOf (F := Ideal) cn co e (ValueIdx.ix2 (n0 := 2) 1 j) = w1 co e := by
  unfold muOf
  rw [if_pos (by show (1 : ℕ) = 1; rfl)]
  show k0_pay34 (F := Ideal) _ (ValueIdx.ix2 0 j) = _
  rw [← ix2_eq_valueIdx]
  pointwise [k0_pay34, k0_pay32]
  rfl
end Mu

section
variable {rt : Cert.KernelIdeal.S8x128.Idx → BitVec 32} {tok : Fin 1024 → BitVec 32} (hrt : ∀ (i : Fin 8) (x : Fin 128), rt (ix2 i x) = tok (ri i x))
  {xd : Cert.KernelIdeal.S256x3072.Idx → EReal} {d : Fin 256 → Fin 3072 → ℝ} (hd : ∀ i j, xd (ix2 i j) = (d i j : EReal))
  (off : Cert.KernelIdeal.S7.Idx → BitVec 32) (cn : Cert.KernelIdeal.S6.Idx → BitVec 32) (h0 : Cert.KernelIdeal.S6x3072x3072.Idx → EReal)
  (hs : ∀ e a b, h0 (ValueIdx.ix3 e a b) = h0 (ValueIdx.ix3 e b a))
include hrt hd

theorem nw_val (u0 u1 : ℕ → EReal) (e a b : ℕ) : nw xd (cxOf (F := Ideal) rt off xd) h0 u0 u1 e a b
    = h0 (ValueIdx.ix3 ⟨e % 6, Nat.mod_lt _ (by norm_num)⟩ (f3072 a) (f3072 b)) * u0 e
      + u1 e * ((∑ k : Fin 256, d k (f3072 a) * (d k (f3072 b) * mult (at1 (F := Ideal) (n := 7) (by norm_num) off e) (at1 (F := Ideal) (n := 7) (by norm_num) off (e + 1)) tok k) : ℝ) : EReal) := by
  unfold nw
  rw [coe_sum]
  congr 2
  refine Finset.sum_congr rfl fun k _ => ?_
  unfold cxOf
  rw [← ix2_eq_valueIdx, ← ix2_eq_valueIdx, pay4_mult hrt, hd, hd, EReal.coe_mul, EReal.coe_mul]

include hs
theorem g_val (y) : gOf (F := Ideal) (xdtOf (F := Ideal) xd) (cxOf (F := Ideal) rt off xd) (muOf (F := Ideal) cn (coOf (F := Ideal) cn off)) h0 y
    = h0 (ValueIdx.ix3 ⟨(y 0).val % 6, Nat.mod_lt _ (by norm_num)⟩ (f3072 (y 1).val) (f3072 (y 2).val)) * w0 cn (coOf (F := Ideal) cn off) (y 0).val
      + w1 (coOf (F := Ideal) cn off) (y 0).val * ((∑ k : Fin 256, d k (f3072 (y 1).val) * (d k (f3072 (y 2).val) * mult (at1 (F := Ideal) (n := 7) (by norm_num) off (y 0).val) (at1 (F := Ideal) (n := 7) (by norm_num) off ((y 0).val + 1)) tok k) : ℝ) : EReal) := by
  refine (gOf_nw (w0 := w0 cn (coOf (F := Ideal) cn off)) (w1 := w1 (coOf (F := Ideal) cn off)) (fun e j => mu_0 cn _ e j) (fun e j => mu_1 cn _ e j) (fun e a b => ?_) y).trans (nw_val hrt hd off h0 _ _ _ _ _)
  rw [nw_val hrt hd, nw_val hrt hd, hs]
  congr 3
  exact Finset.sum_congr rfl fun k _ => mul_left_comm _ _ _
end

/-- The new Hessians agree. -/
theorem hout_eq {x : Cert.KernelIdeal.S256x3072.Idx → EReal} (hx : Small x) {rt : Cert.KernelIdeal.S8x128.Idx → BitVec 32} {x1 : Cert.ReferenceIdeal.S1024x1.Idx → BitVec 32} {tok : Fin 1024 → BitVec 32}
    (hrt : ∀ (i : Fin 8) (x : Fin 128), rt (ix2 i x) = tok (ri i x)) (hx1 : ∀ r, x1 (ix2 r 0) = tok r)
    (off : Cert.KernelIdeal.S7.Idx → BitVec 32) (cn : Cert.KernelIdeal.S6.Idx → BitVec 32) (h0 : Cert.KernelIdeal.S6x3072x3072.Idx → EReal)
    (hs : ∀ e a b, h0 (ValueIdx.ix3 e a b) = h0 (ValueIdx.ix3 e b a)) : hOut (F := Ideal) x rt off cn h0 = Cert.ReferenceIdeal.Val.refH (F := Ideal) x x1 off h0 cn := by
  obtain ⟨d, hd⟩ := xd_real hx
  funext y
  have e0 : (y 0).val < 6 := (y 0).isLt
  have e1 : (y 1).val < 3072 := (y 1).isLt
  have e2 : (y 2).val < 3072 := (y 2).isLt
  have a0 : (⟨(y 0).val % 6, Nat.mod_lt _ (by norm_num)⟩ : Fin 6) = y 0 := Fin.ext (Nat.mod_eq_of_lt e0)
  have a1 : f3072 (y 1).val = y 1 := Fin.ext (Nat.mod_eq_of_lt e1)
  have a2 : f3072 (y 2).val = y 2 := Fin.ext (Nat.mod_eq_of_lt e2)
  have b0 : at1 (F := Ideal) (n := 7) (by norm_num) off (y 0).val = off (ValueIdx.ix1 ⟨(y 0).val, Nat.lt_trans (y 0).isLt (by decide)⟩) :=
    congrArg (fun r : Fin 7 => off (ValueIdx.ix1 r)) (Fin.ext (Nat.mod_eq_of_lt (by omega)))
  have b1 : at1 (F := Ideal) (n := 7) (by norm_num) off ((y 0).val + 1) = off (ValueIdx.ix1 ⟨(y 0).val + 1, Nat.succ_lt_succ (y 0).isLt⟩) :=
    congrArg (fun r : Fin 7 => off (ValueIdx.ix1 r)) (Fin.ext (Nat.mod_eq_of_lt (by omega)))
  have b2 : at1 (F := Ideal) (n := 6) (by norm_num) cn (y 0).val = cn (ValueIdx.ix1 (y 0)) :=
    congrArg (fun r : Fin 6 => cn (ValueIdx.ix1 r)) a0
  have b3 : at1 (F := Ideal) (n := 6) (by norm_num) (coOf (F := Ideal) cn off) (y 0).val = Cert.ReferenceIdeal.Val.refN (F := Ideal) off cn (ValueIdx.ix1 (y 0)) := by
    rw [counts_eq]
    exact congrArg (fun r : Fin 6 => Cert.ReferenceIdeal.Val.refN (F := Ideal) off cn (ValueIdx.ix1 r)) a0
  unfold hOut
  rw [xd_eq hx]
  refine (g_val hrt hd off cn h0 hs y).trans ?_
  unfold w0 w1
  rw [a0, a1, a2, b0, b1, b2, b3]
  unfold Cert.ReferenceIdeal.Val.refH
  refine Eq.trans ?_ ((congrArg (Cert.ReferenceIdeal.Val.oneH (F := Ideal) _ _ _ _ _) (ix3_eq_valueIdx (0 : Fin 1) (y 1) (y 2)).symm).trans (one_ref _ _ _ _ _ (y 1) (y 2))).symm
  rw [gram _ _ tok, coe_sum]
  refine congr (congrArg HAdd.hAdd rfl) (congr (congrArg HMul.hMul rfl) (Finset.sum_congr rfl fun r _ => ?_))
  have v : ∀ q : Fin 3072, Cert.ReferenceIdeal.Gen.k0_pay8 (F := Ideal) (Cert.ReferenceIdeal.Gen.k0_pay6 (F := Ideal) x) (Cert.ReferenceIdeal.Gen.k0_pay7 (F := Ideal) x1) (ix2 r q)
      = ((∑ t : Fin 256, (if tok r = BitVec.ofNat 32 t.val then (1:ℝ) else 0) * d t q : ℝ) : EReal) := fun q => by
    rw [rows_ref _ _ d hd, hx1]
  exact (apply_ite (fun z : ℝ => (z : EReal)) _ _ _).trans (if_congr Iff.rfl ((EReal.coe_mul _ _).trans (congr (congrArg HMul.hMul (v (y 1)).symm) (v (y 2)).symm)) rfl)

end Cert.Val

end
-- ==== Proof.Alg.lean ====
module

public import proofs.«01_k».proof.Proof.Hout
public import proofs.«01_k».proof.Proof.Frames
public import proofs.«01_k».proof.Defs

/-! The kernel's results are the reference's, over the reals, under the precondition. -/

@[expose] public section

noncomputable section

namespace Cert.Val
open Idealize.ShloMosaic Idealize.ShloMosaic.TcCoe Idealize.SL.Sem

/-- The precondition's side conditions. -/
theorem preFacts : Cert.Pre_tame.Facts := ⟨by decide, by decide⟩

/-- The bound the precondition states lies below the next power of two. -/
theorem bound : Ideal.ofBits .bf16 0x7F7F#16 < (((2:ℝ) ^ (128:ℤ) : ℝ) : EReal) := by
  show Ideal.ieee 8 7 0x7F7F#16 < _
  unfold Ideal.ieee
  simp only [Nat.reduceAdd, Nat.reducePow, Nat.reduceSub]
  rw [show ((0x7F7F#16 : BitVec 16).extractLsb' 15 1 == 1#1) = false by decide, show ((0x7F7F#16 : BitVec 16).extractLsb' 7 8).toNat = 254 by decide,
    show ((0x7F7F#16 : BitVec 16).extractLsb' 0 7).toNat = 127 by decide, if_neg (by decide), if_neg (by decide), if_neg (by decide), one_mul]
  refine EReal.coe_lt_coe_iff.2 ?_
  norm_num

section Pre
variable (x0 : Cert.Pre_tame.S256x3072.Idx → EReal) (x1 : Cert.Pre_tame.S1024.Idx → BitVec 32) (x2 : Cert.Pre_tame.S7.Idx → BitVec 32) (x3 : Cert.Pre_tame.S6x3072x3072.Idx → EReal) (x4 : Cert.Pre_tame.S6.Idx → BitVec 32)

theorem pre_small (h : (@Cert.Pre_tame.fn preFacts Ideal _ x0 x1 x2 x3 x4).1 = fun _ => 1#1) : Small x0 := fun y => by
  have h' : BitVec.ofBool (@decide (max (x0 y) (-(x0 y)) ≤ Ideal.ofBits .bf16 0x7F7F#16) _) = 1#1 := congrFun h y
  exact (of_decide_eq_true ((ofBool_iff _).1 h')).trans_lt bound

theorem pre_sym (h : (@Cert.Pre_tame.fn preFacts Ideal _ x0 x1 x2 x3 x4).2 = fun _ => 1#1) (e : Fin 6) (a b : Fin 3072) : x3 (ValueIdx.ix3 e a b) = x3 (ValueIdx.ix3 e b a) := by
  have ht : (transpose Cert.Pre_tame.S6x3072x3072 [0, 2, 1] x3 preFacts.transposes_S6x3072x3072_S6x3072x3072_0_2_1) (ix3 e a b) = x3 (ix3 e b a) := by
    pointwise
  have h' : BitVec.ofBool (@decide (x3 (ix3 e a b) = (transpose Cert.Pre_tame.S6x3072x3072 [0, 2, 1] x3 preFacts.transposes_S6x3072x3072_S6x3072x3072_0_2_1) (ix3 e a b)) _) = 1#1 := congrFun h (ix3 e a b)
  have h2 := of_decide_eq_true ((ofBool_iff _).1 h')
  rw [ht] at h2
  rw [← ix3_eq_valueIdx, ← ix3_eq_valueIdx]
  exact h2
end Pre

section K
open Cert.KernelIdeal Cert.KernelIdeal.Gen
theorem rt_at (f : S1024.Idx → BitVec 32) (i : Fin 8) (x : Fin 128) : shapeCast S8x128 f shapeCasts_S1024_S8x128 (ix2 i x) = f (ix1 (ri i x)) := by
  pointwise
  exact congrArg (fun r : Fin 1024 => f (ix1 r)) (Fin.ext (by show i.val * 128 + x.val = 128 * i.val + x.val; omega))
theorem kv0 (m : (ℓ : Loc nD τ sig) → Buf (Elt Ideal) ℓ) (c : Dev nD) : V m c main_v0 = shapeCast S8x128 (m ((c : Thread nD τ).loc main_arg1)) shapeCasts_S1024_S8x128 := by
  show StableHlo.after hostOps0 _ (Proc.devRef .tc main_v0) = _
  after_results
  rfl
end K

section R
open Cert.ReferenceIdeal Cert.ReferenceIdeal.Gen
theorem tk_at (f : S1024.Idx → BitVec 32) (r : Fin 1024) : shapeCast S1024x1 f shapeCasts_S1024_S1024x1 (ix2 r 0) = f (ix1 r) := by
  pointwise
theorem rv0 (m : (ℓ : Loc nD τ sig) → Buf (Elt Ideal) ℓ) (c : Dev nD) : V m c main_v0 = shapeCast S1024x1 (m ((c : Thread nD τ).loc main_arg1)) shapeCasts_S1024_S1024x1 := by
  show StableHlo.after hostOps0 _ (Proc.devRef .tc main_v0) = _
  after_results
  rfl
end R

/-- From memories that agree on the arguments, kernel and reference end with the same four results, over the reals. -/
theorem alg : Cert.algebraic_KernelIdeal_ReferenceIdeal_pre_tame (hKernelIdeal := Cert.KernelIdeal.Gen.facts) (hReferenceIdeal := Cert.ReferenceIdeal.Gen.facts) (hPre_tame := preFacts) := by
  intro m g m' g' hp hm
  refine ⟨fun c => Cert.KernelIdeal.Hand.outH m c, fun c => Cert.KernelIdeal.Hand.outN m c, fun c => Cert.KernelIdeal.Hand.outC m c, fun c => Cert.KernelIdeal.Hand.outS' m c,
    (θ_run _ _ _).mono (fun _ h c => ⟨(h.1 c).1.1, (h.1 c).1.2.1, (h.1 c).1.2.2.1, (h.1 c).1.2.2.2, (h.1 c).2⟩) (Cert.KernelIdeal.Hand.run (F := Ideal) m g),
    (θ_run _ _ _).mono (fun _ h c => ?_) (Cert.ReferenceIdeal.Val.run (F := Ideal) m' g')⟩
  obtain ⟨q0, q1, q2, q3, q4⟩ := hm c
  have k0 := (Cert.KernelIdeal.Gen.V_main_arg0 m c).trans q0.symm
  have k2 := (Cert.KernelIdeal.Gen.V_main_arg2 m c).trans q2.symm
  have k3 := (Cert.KernelIdeal.Gen.V_main_arg3 m c).trans q3.symm
  have k4 := (Cert.KernelIdeal.Gen.V_main_arg4 m c).trans q4.symm
  have r0 := Cert.ReferenceIdeal.Gen.V_main_arg0 m' c
  have r2 := Cert.ReferenceIdeal.Gen.V_main_arg2 m' c
  have r3 := Cert.ReferenceIdeal.Gen.V_main_arg3 m' c
  have r4 := Cert.ReferenceIdeal.Gen.V_main_arg4 m' c
  have hx := pre_small _ _ _ _ _ (hp c).1
  have hs := pre_sym _ _ _ _ _ (hp c).2
  rw [← q0] at hx
  rw [← q3] at hs
  obtain ⟨h0, h1, h2, h3, ha⟩ := h c
  refine ⟨h0.trans ?_, h1.trans ?_, h2.trans ?_, h3.trans ?_, ha⟩
  · show Cert.ReferenceIdeal.Val.refH _ _ _ _ _ = Cert.KernelIdeal.Hand.hOut _ _ _ _ _
    rw [k0, k2, k3, k4, r0, r2, r3, r4, kv0, rv0]
    refine (hout_eq hx (tok := fun r => m' ((c.tc : Thread Cert.ReferenceIdeal.nD Cert.ReferenceIdeal.τ).loc Cert.ReferenceIdeal.main_arg1) (ix1 r)) (fun i x => ?_) (fun r => tk_at _ r) _ _ _ hs).symm
    rw [rt_at, q1]
  · show Cert.ReferenceIdeal.Val.refN _ _ = Cert.KernelIdeal.Hand.coOf _ _
    rw [k2, k4, r2, r4]
    exact (counts_eq _ _).symm
  · show Cert.ReferenceIdeal.Gen.k0_pay4 _ = Cert.KernelIdeal.Hand.codesOf _
    rw [k0, r0]
    exact (codes_eq hx).symm
  · show Cert.ReferenceIdeal.Gen.k0_pay5 _ = Cert.KernelIdeal.Hand.scOf _
    rw [k0, r0]
    exact (scales_eq hx).symm

end Cert.Val

end
-- ==== Proof.lean ====
module

public import proofs.«01_k».proof.Defs
public import proofs.«01_k».proof.Proof.Frames
public import proofs.«01_k».proof.Proof.Alg
public import proofs.«01_k».proof.Proof.Gen.ReferenceIdeal.Value

public section

namespace Cert.Proof

open Idealize.ShloMosaic Idealize.SL.Sem Cert.Kernel

/-- The claim. -/
theorem claim : Cert.Claim := ⟨Cert.Kernel.Gen.facts, Cert.KernelIdeal.Gen.facts, Cert.ReferenceIdeal.Gen.facts, Cert.Val.preFacts,
  frameK, frameI, fun m g _ => frameI m g trivial, frameR, fun m g _ => frameR m g trivial, trivial, Cert.Val.alg⟩

end Cert.Proof

end
